-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Dwgate (m : (ℓ : Loc Cert.Dwgate.nD Cert.Dwgate.τ Cert.Dwgate.sig) → Buf (Elt Bits) ℓ) : Prop :=
  True

def Pre_DwgateIdeal (m : (ℓ : Loc Cert.DwgateIdeal.nD Cert.DwgateIdeal.τ Cert.DwgateIdeal.sig) → Buf (Elt Ideal) ℓ) : Prop :=
  True

def Pre_DwgateRefIdeal (m : (ℓ : Loc Cert.DwgateRefIdeal.nD Cert.DwgateRefIdeal.τ Cert.DwgateRefIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupRefIdeal (m : (ℓ : Loc Cert.DwupRefIdeal.nD Cert.DwupRefIdeal.τ Cert.DwupRefIdeal.sig) → Buf (Elt Ideal) ℓ) : Prop :=
  True

def Pre_Dnup (m : (ℓ : Loc Cert.Dnup.nD Cert.Dnup.τ Cert.Dnup.sig) → Buf (Elt Bits) ℓ) : Prop :=
  True

def Pre_DnupIdeal (m : (ℓ : Loc Cert.DnupIdeal.nD Cert.DnupIdeal.τ Cert.DnupIdeal.sig) → Buf (Elt Ideal) ℓ) : Prop :=
  True

def Pre_DnupRefIdeal (m : (ℓ : Loc Cert.DnupRefIdeal.nD Cert.DnupRefIdeal.τ Cert.DnupRefIdeal.sig) → Buf (Elt Ideal) ℓ) : Prop :=
  True

def Pre_Dngate (m : (ℓ : Loc Cert.Dngate.nD Cert.Dngate.τ Cert.Dngate.sig) → Buf (Elt Bits) ℓ) : Prop :=
  True

def Pre_DngateIdeal (m : (ℓ : Loc Cert.DngateIdeal.nD Cert.DngateIdeal.τ Cert.DngateIdeal.sig) → Buf (Elt Ideal) ℓ) : Prop :=
  True

def Pre_DngateRefIdeal (m : (ℓ : Loc Cert.DngateRefIdeal.nD Cert.DngateRefIdeal.τ Cert.DngateRefIdeal.sig) → Buf (Elt Ideal) ℓ) : Prop :=
  True

def Pre_Dscan (m : (ℓ : Loc Cert.Dscan.nD Cert.Dscan.τ Cert.Dscan.sig) → Buf (Elt Bits) ℓ) : Prop :=
  True

def Pre_DscanIdeal (m : (ℓ : Loc Cert.DscanIdeal.nD Cert.DscanIdeal.τ Cert.DscanIdeal.sig) → Buf (Elt Ideal) ℓ) : Prop :=
  True

def Pre_DscanRefIdeal (m : (ℓ : Loc Cert.DscanRefIdeal.nD Cert.DscanRefIdeal.τ Cert.DscanRefIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormRefIdeal (m : (ℓ : Loc Cert.DnormRefIdeal.nD Cert.DnormRefIdeal.τ Cert.DnormRefIdeal.sig) → Buf (Elt Ideal) ℓ) : Prop :=
  True

def Pre_Dshift (m : (ℓ : Loc Cert.Dshift.nD Cert.Dshift.τ Cert.Dshift.sig) → Buf (Elt Bits) ℓ) : Prop :=
  True

def Pre_DshiftIdeal (m : (ℓ : Loc Cert.DshiftIdeal.nD Cert.DshiftIdeal.τ Cert.DshiftIdeal.sig) → Buf (Elt Ideal) ℓ) : Prop :=
  True

def Pre_DshiftRefIdeal (m : (ℓ : Loc Cert.DshiftRefIdeal.nD Cert.DshiftRefIdeal.τ Cert.DshiftRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Dple (m : (ℓ : Loc Cert.Dple.nD Cert.Dple.τ Cert.Dple.sig) → Buf (Elt Bits) ℓ) : Prop :=
  True

def Pre_DpleIdeal (m : (ℓ : Loc Cert.DpleIdeal.nD Cert.DpleIdeal.τ Cert.DpleIdeal.sig) → Buf (Elt Ideal) ℓ) : Prop :=
  True

def Pre_DpleRefIdeal (m : (ℓ : Loc Cert.DpleRefIdeal.nD Cert.DpleRefIdeal.τ Cert.DpleRefIdeal.sig) → Buf (Elt Ideal) ℓ) : Prop :=
  True

def Pre_Dglu (m : (ℓ : Loc Cert.Dglu.nD Cert.Dglu.τ Cert.Dglu.sig) → Buf (Elt Bits) ℓ) : Prop :=
  True

def Pre_DgluIdeal (m : (ℓ : Loc Cert.DgluIdeal.nD Cert.DgluIdeal.τ Cert.DgluIdeal.sig) → Buf (Elt Ideal) ℓ) : Prop :=
  True

def Pre_DgluRefIdeal (m : (ℓ : Loc Cert.DgluRefIdeal.nD Cert.DgluRefIdeal.τ Cert.DgluRefIdeal.sig) → Buf (Elt Ideal) ℓ) : Prop :=
  True

def Pre_Dgelu (m : (ℓ : Loc Cert.Dgelu.nD Cert.Dgelu.τ Cert.Dgelu.sig) → Buf (Elt Bits) ℓ) : Prop :=
  True

def Pre_DgeluIdeal (m : (ℓ : Loc Cert.DgeluIdeal.nD Cert.DgeluIdeal.τ Cert.DgeluIdeal.sig) → Buf (Elt Ideal) ℓ) : Prop :=
  True

def Pre_DgeluRefIdeal (m : (ℓ : Loc Cert.DgeluRefIdeal.nD Cert.DgeluRefIdeal.τ Cert.DgeluRefIdeal.sig) → Buf (Elt Ideal) ℓ) : Prop :=
  True

def Pre_Big (m : (ℓ : Loc Cert.Big.nD Cert.Big.τ Cert.Big.sig) → Buf (Elt Bits) ℓ) : Prop :=
  True

def Pre_BigIdeal (m : (ℓ : Loc Cert.BigIdeal.nD Cert.BigIdeal.τ Cert.BigIdeal.sig) → Buf (Elt Ideal) ℓ) : Prop :=
  True

def Pre_BigRefIdeal (m : (ℓ : Loc Cert.BigRefIdeal.nD Cert.BigRefIdeal.τ Cert.BigRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_Bdown (m : (ℓ : Loc Cert.Bdown.nD Cert.Bdown.τ Cert.Bdown.sig) → Buf (Elt Bits) ℓ) : Prop :=
  True

def Pre_BdownIdeal (m : (ℓ : Loc Cert.BdownIdeal.nD Cert.BdownIdeal.τ Cert.BdownIdeal.sig) → Buf (Elt Ideal) ℓ) : Prop :=
  True

def Pre_BdownRefIdeal (m : (ℓ : Loc Cert.BdownRefIdeal.nD Cert.BdownRefIdeal.τ Cert.BdownRefIdeal.sig) → Buf (Elt Ideal) ℓ) : Prop :=
  True

def Pre_Bpg (m : (ℓ : Loc Cert.Bpg.nD Cert.Bpg.τ Cert.Bpg.sig) → Buf (Elt Bits) ℓ) : Prop :=
  True

def Pre_BpgIdeal (m : (ℓ : Loc Cert.BpgIdeal.nD Cert.BpgIdeal.τ Cert.BpgIdeal.sig) → Buf (Elt Ideal) ℓ) : Prop :=
  True

def Pre_BpgRefIdeal (m : (ℓ : Loc Cert.BpgRefIdeal.nD Cert.BpgRefIdeal.τ Cert.BpgRefIdeal.sig) → Buf (Elt Ideal) ℓ) : Prop :=
  True

def Pre_Bpp (m : (ℓ : Loc Cert.Bpp.nD Cert.Bpp.τ Cert.Bpp.sig) → Buf (Elt Bits) ℓ) : Prop :=
  True

def Pre_BppIdeal (m : (ℓ : Loc Cert.BppIdeal.nD Cert.BppIdeal.τ Cert.BppIdeal.sig) → Buf (Elt Ideal) ℓ) : Prop :=
  True

def Pre_BppRefIdeal (m : (ℓ : Loc Cert.BppRefIdeal.nD Cert.BppRefIdeal.τ Cert.BppRefIdeal.sig) → Buf (Elt Ideal) ℓ) : Prop :=
  True

def Pre_Bab (m : (ℓ : Loc Cert.Bab.nD Cert.Bab.τ Cert.Bab.sig) → Buf (Elt Bits) ℓ) : Prop :=
  True

def Pre_BabIdeal (m : (ℓ : Loc Cert.BabIdeal.nD Cert.BabIdeal.τ Cert.BabIdeal.sig) → Buf (Elt Ideal) ℓ) : Prop :=
  True

def Pre_BabRefIdeal (m : (ℓ : Loc Cert.BabRefIdeal.nD Cert.BabRefIdeal.τ Cert.BabRefIdeal.sig) → Buf (Elt Ideal) ℓ) : Prop :=
  True

def Pre_Babo (m : (ℓ : Loc Cert.Babo.nD Cert.Babo.τ Cert.Babo.sig) → Buf (Elt Bits) ℓ) : Prop :=
  True

def Pre_BaboIdeal (m : (ℓ : Loc Cert.BaboIdeal.nD Cert.BaboIdeal.τ Cert.BaboIdeal.sig) → Buf (Elt Ideal) ℓ) : Prop :=
  True

def Pre_BaboRefIdeal (m : (ℓ : Loc Cert.BaboRefIdeal.nD Cert.BaboRefIdeal.τ Cert.BaboRefIdeal.sig) → Buf (Elt Ideal) ℓ) : Prop :=
  True

def Pre_Bssi (m : (ℓ : Loc Cert.Bssi.nD Cert.Bssi.τ Cert.Bssi.sig) → Buf (Elt Bits) ℓ) : Prop :=
  True

def Pre_BssiIdeal (m : (ℓ : Loc Cert.BssiIdeal.nD Cert.BssiIdeal.τ Cert.BssiIdeal.sig) → Buf (Elt Ideal) ℓ) : Prop :=
  True

def Pre_BssiRefIdeal (m : (ℓ : Loc Cert.BssiRefIdeal.nD Cert.BssiRefIdeal.τ Cert.BssiRefIdeal.sig) → Buf (Elt Ideal) ℓ) : Prop :=
  True

def Pre_Bsso (m : (ℓ : Loc Cert.Bsso.nD Cert.Bsso.τ Cert.Bsso.sig) → Buf (Elt Bits) ℓ) : Prop :=
  True

def Pre_BssoIdeal (m : (ℓ : Loc Cert.BssoIdeal.nD Cert.BssoIdeal.τ Cert.BssoIdeal.sig) → Buf (Elt Ideal) ℓ) : Prop :=
  True

def Pre_BssoRefIdeal (m : (ℓ : Loc Cert.BssoRefIdeal.nD Cert.BssoRefIdeal.τ Cert.BssoRefIdeal.sig) → Buf (Elt Ideal) ℓ) : Prop :=
  True

def Pre_Dplen (m : (ℓ : Loc Cert.Dplen.nD Cert.Dplen.τ Cert.Dplen.sig) → Buf (Elt Bits) ℓ) : Prop :=
  True

def Pre_DplenIdeal (m : (ℓ : Loc Cert.DplenIdeal.nD Cert.DplenIdeal.τ Cert.DplenIdeal.sig) → Buf (Elt Ideal) ℓ) : Prop :=
  True

def Pre_DplenRefIdeal (m : (ℓ : Loc Cert.DplenRefIdeal.nD Cert.DplenRefIdeal.τ Cert.DplenRefIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatRefIdeal (m : (ℓ : Loc Cert.DcatRefIdeal.nD Cert.DcatRefIdeal.τ Cert.DcatRefIdeal.sig) → Buf (Elt Ideal) ℓ) : Prop :=
  True

def Pre_Dssm (m : (ℓ : Loc Cert.Dssm.nD Cert.Dssm.τ Cert.Dssm.sig) → Buf (Elt Bits) ℓ) : Prop :=
  True

def Pre_DssmIdeal (m : (ℓ : Loc Cert.DssmIdeal.nD Cert.DssmIdeal.τ Cert.DssmIdeal.sig) → Buf (Elt Ideal) ℓ) : Prop :=
  True

def Pre_DssmRefIdeal (m : (ℓ : Loc Cert.DssmRefIdeal.nD Cert.DssmRefIdeal.τ Cert.DssmRefIdeal.sig) → Buf (Elt Ideal) ℓ) : Prop :=
  True

def Pre_Pgate (m : (ℓ : Loc Cert.Pgate.nD Cert.Pgate.τ Cert.Pgate.sig) → Buf (Elt Bits) ℓ) : Prop :=
  True

def Pre_PgateIdeal (m : (ℓ : Loc Cert.PgateIdeal.nD Cert.PgateIdeal.τ Cert.PgateIdeal.sig) → Buf (Elt Ideal) ℓ) : Prop :=
  True

def Pre_PgateRefIdeal (m : (ℓ : Loc Cert.PgateRefIdeal.nD Cert.PgateRefIdeal.τ Cert.PgateRefIdeal.sig) → Buf (Elt Ideal) ℓ) : Prop :=
  True

def Pre_Abin (m : (ℓ : Loc Cert.Abin.nD Cert.Abin.τ Cert.Abin.sig) → Buf (Elt Bits) ℓ) : Prop :=
  True

def Pre_AbinIdeal (m : (ℓ : Loc Cert.AbinIdeal.nD Cert.AbinIdeal.τ Cert.AbinIdeal.sig) → Buf (Elt Ideal) ℓ) : Prop :=
  True

def Pre_AbinRefIdeal (m : (ℓ : Loc Cert.AbinRefIdeal.nD Cert.AbinRefIdeal.τ Cert.AbinRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2)
      ∧ r.2.mem ((c.tc : Thread Cert.Du.nD Cert.Du.τ).loc Cert.Du.main_arg3) = m ((c.tc : Thread Cert.Du.nD Cert.Du.τ).loc Cert.Du.main_arg3)
      ∧ r.2.mem ((c.tc : Thread Cert.Du.nD Cert.Du.τ).loc Cert.Du.main_arg4) = m ((c.tc : Thread Cert.Du.nD Cert.Du.τ).loc Cert.Du.main_arg4))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
      ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
      ∧ r.2.mem ((c.tc : Thread Cert.DuIdeal.nD Cert.DuIdeal.τ).loc Cert.DuIdeal.main_arg4) = m ((c.tc : Thread Cert.DuIdeal.nD Cert.DuIdeal.τ).loc Cert.DuIdeal.main_arg4))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2)
      ∧ r.2.mem ((c.tc : Thread Cert.DuRefIdeal.nD Cert.DuRefIdeal.τ).loc Cert.DuRefIdeal.main_arg3) = m ((c.tc : Thread Cert.DuRefIdeal.nD Cert.DuRefIdeal.τ).loc Cert.DuRefIdeal.main_arg3)
      ∧ r.2.mem ((c.tc : Thread Cert.DuRefIdeal.nD Cert.DuRefIdeal.τ).loc Cert.DuRefIdeal.main_arg4) = m ((c.tc : Thread Cert.DuRefIdeal.nD Cert.DuRefIdeal.τ).loc Cert.DuRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1)
      ∧ r.2.mem ((c.tc : Thread Cert.Dwdown.nD Cert.Dwdown.τ).loc Cert.Dwdown.main_arg2) = m ((c.tc : Thread Cert.Dwdown.nD Cert.Dwdown.τ).loc Cert.Dwdown.main_arg2)
      ∧ r.2.mem ((c.tc : Thread Cert.Dwdown.nD Cert.Dwdown.τ).loc Cert.Dwdown.main_arg3) = m ((c.tc : Thread Cert.Dwdown.nD Cert.Dwdown.τ).loc Cert.Dwdown.main_arg3))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1)
      ∧ r.2.mem ((c.tc : Thread Cert.DwdownIdeal.nD Cert.DwdownIdeal.τ).loc Cert.DwdownIdeal.main_arg2) = m ((c.tc : Thread Cert.DwdownIdeal.nD Cert.DwdownIdeal.τ).loc Cert.DwdownIdeal.main_arg2)
      ∧ r.2.mem ((c.tc : Thread Cert.DwdownIdeal.nD Cert.DwdownIdeal.τ).loc Cert.DwdownIdeal.main_arg3) = m ((c.tc : Thread Cert.DwdownIdeal.nD Cert.DwdownIdeal.τ).loc Cert.DwdownIdeal.main_arg3))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1)
      ∧ r.2.mem ((c.tc : Thread Cert.DwdownRefIdeal.nD Cert.DwdownRefIdeal.τ).loc Cert.DwdownRefIdeal.main_arg2) = m ((c.tc : Thread Cert.DwdownRefIdeal.nD Cert.DwdownRefIdeal.τ).loc Cert.DwdownRefIdeal.main_arg2)
      ∧ r.2.mem ((c.tc : Thread Cert.DwdownRefIdeal.nD Cert.DwdownRefIdeal.τ).loc Cert.DwdownRefIdeal.main_arg3) = m ((c.tc : Thread Cert.DwdownRefIdeal.nD Cert.DwdownRefIdeal.τ).loc Cert.DwdownRefIdeal.main_arg3))
      ∧ r.2.sem = fun _ => 0)

def quiescent_Dwgate [hDwgate : Cert.Dwgate.Facts] : Prop :=
  ∀ (m : (ℓ : Loc Cert.Dwgate.nD Cert.Dwgate.τ Cert.Dwgate.sig) → Buf (Elt Bits) ℓ) (g : Dev Cert.Dwgate.nD → PrngReg), Pre_Dwgate m →
    θ_run (Cert.Dwgate.defs (F := Bits)) (onTc (τ := Cert.Dwgate.τ) (Cert.Dwgate.main (F := Bits))) ⟨m, fun _ => 0, g⟩ (fun r => (∀ c : Dev Cert.Dwgate.nD,
      r.2.mem ((c.tc : Thread Cert.Dwgate.nD Cert.Dwgate.τ).loc Cert.Dwgate.main_arg0) = m ((c.tc : Thread Cert.Dwgate.nD Cert.Dwgate.τ).loc Cert.Dwgate.main_arg0)
      ∧ r.2.mem ((c.tc : Thread Cert.Dwgate.nD Cert.Dwgate.τ).loc Cert.Dwgate.main_arg1) = m ((c.tc : Thread Cert.Dwgate.nD Cert.Dwgate.τ).loc Cert.Dwgate.main_arg1)
      ∧ r.2.mem ((c.tc : Thread Cert.Dwgate.nD Cert.Dwgate.τ).loc Cert.Dwgate.main_arg2) = m ((c.tc : Thread Cert.Dwgate.nD Cert.Dwgate.τ).loc Cert.Dwgate.main_arg2)
      ∧ r.2.mem ((c.tc : Thread Cert.Dwgate.nD Cert.Dwgate.τ).loc Cert.Dwgate.main_arg3) = m ((c.tc : Thread Cert.Dwgate.nD Cert.Dwgate.τ).loc Cert.Dwgate.main_arg3)
      ∧ r.2.mem ((c.tc : Thread Cert.Dwgate.nD Cert.Dwgate.τ).loc Cert.Dwgate.main_arg4) = m ((c.tc : Thread Cert.Dwgate.nD Cert.Dwgate.τ).loc Cert.Dwgate.main_arg4))
      ∧ r.2.sem = fun _ => 0)

def quiescent_DwgateIdeal [hDwgateIdeal : Cert.DwgateIdeal.Facts] : Prop :=
  ∀ (m : (ℓ : Loc Cert.DwgateIdeal.nD Cert.DwgateIdeal.τ Cert.DwgateIdeal.sig) → Buf (Elt Ideal) ℓ) (g : Dev Cert.DwgateIdeal.nD → PrngReg), Pre_DwgateIdeal m →
    θ_run (Cert.DwgateIdeal.defs (F := Ideal)) (onTc (τ := Cert.DwgateIdeal.τ) (Cert.DwgateIdeal.main (F := Ideal))) ⟨m, fun _ => 0, g⟩ (fun r => (∀ c : Dev Cert.DwgateIdeal.nD,
      r.2.mem ((c.tc : Thread Cert.DwgateIdeal.nD Cert.DwgateIdeal.τ).loc Cert.DwgateIdeal.main_arg0) = m ((c.tc : Thread Cert.DwgateIdeal.nD Cert.DwgateIdeal.τ).loc Cert.DwgateIdeal.main_arg0)
      ∧ r.2.mem ((c.tc : Thread Cert.DwgateIdeal.nD Cert.DwgateIdeal.τ).loc Cert.DwgateIdeal.main_arg1) = m ((c.tc : Thread Cert.DwgateIdeal.nD Cert.DwgateIdeal.τ).loc Cert.DwgateIdeal.main_arg1)
      ∧ r.2.mem ((c.tc : Thread Cert.DwgateIdeal.nD Cert.DwgateIdeal.τ).loc Cert.DwgateIdeal.main_arg2) = m ((c.tc : Thread Cert.DwgateIdeal.nD Cert.DwgateIdeal.τ).loc Cert.DwgateIdeal.main_arg2)
      ∧ r.2.mem ((c.tc : Thread Cert.DwgateIdeal.nD Cert.DwgateIdeal.τ).loc Cert.DwgateIdeal.main_arg3) = m ((c.tc : Thread Cert.DwgateIdeal.nD Cert.DwgateIdeal.τ).loc Cert.DwgateIdeal.main_arg3)
      ∧ r.2.mem ((c.tc : Thread Cert.DwgateIdeal.nD Cert.DwgateIdeal.τ).loc Cert.DwgateIdeal.main_arg4) = m ((c.tc : Thread Cert.DwgateIdeal.nD Cert.DwgateIdeal.τ).loc Cert.DwgateIdeal.main_arg4))
      ∧ r.2.sem = fun _ => 0)

def quiescent_DwgateRefIdeal [hDwgateRefIdeal : Cert.DwgateRefIdeal.Facts] : Prop :=
  ∀ (m : (ℓ : Loc Cert.DwgateRefIdeal.nD Cert.DwgateRefIdeal.τ Cert.DwgateRefIdeal.sig) → Buf (Elt Ideal) ℓ) (g : Dev Cert.DwgateRefIdeal.nD → PrngReg), Pre_DwgateRefIdeal m →
    θ_run (Cert.DwgateRefIdeal.defs (F := Ideal)) (onTc (τ := Cert.DwgateRefIdeal.τ) (Cert.DwgateRefIdeal.main (F := Ideal))) ⟨m, fun _ => 0, g⟩ (fun r => (∀ c : Dev Cert.DwgateRefIdeal.nD,
      r.2.mem ((c.tc : Thread Cert.DwgateRefIdeal.nD Cert.DwgateRefIdeal.τ).loc Cert.DwgateRefIdeal.main_arg0) = m ((c.tc : Thread Cert.DwgateRefIdeal.nD Cert.DwgateRefIdeal.τ).loc Cert.DwgateRefIdeal.main_arg0)
      ∧ r.2.mem ((c.tc : Thread Cert.DwgateRefIdeal.nD Cert.DwgateRefIdeal.τ).loc Cert.DwgateRefIdeal.main_arg1) = m ((c.tc : Thread Cert.DwgateRefIdeal.nD Cert.DwgateRefIdeal.τ).loc Cert.DwgateRefIdeal.main_arg1)
      ∧ r.2.mem ((c.tc : Thread Cert.DwgateRefIdeal.nD Cert.DwgateRefIdeal.τ).loc Cert.DwgateRefIdeal.main_arg2) = m ((c.tc : Thread Cert.DwgateRefIdeal.nD Cert.DwgateRefIdeal.τ).loc Cert.DwgateRefIdeal.main_arg2)
      ∧ r.2.mem ((c.tc : Thread Cert.DwgateRefIdeal.nD Cert.DwgateRefIdeal.τ).loc Cert.DwgateRefIdeal.main_arg3) = m ((c.tc : Thread Cert.DwgateRefIdeal.nD Cert.DwgateRefIdeal.τ).loc Cert.DwgateRefIdeal.main_arg3)
      ∧ r.2.mem ((c.tc : Thread Cert.DwgateRefIdeal.nD Cert.DwgateRefIdeal.τ).loc Cert.DwgateRefIdeal.main_arg4) = m ((c.tc : Thread Cert.DwgateRefIdeal.nD Cert.DwgateRefIdeal.τ).loc Cert.DwgateRefIdeal.main_arg4))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1)
      ∧ r.2.mem ((c.tc : Thread Cert.Dwup.nD Cert.Dwup.τ).loc Cert.Dwup.main_arg2) = m ((c.tc : Thread Cert.Dwup.nD Cert.Dwup.τ).loc Cert.Dwup.main_arg2)
      ∧ r.2.mem ((c.tc : Thread Cert.Dwup.nD Cert.Dwup.τ).loc Cert.Dwup.main_arg3) = m ((c.tc : Thread Cert.Dwup.nD Cert.Dwup.τ).loc Cert.Dwup.main_arg3)
      ∧ r.2.mem ((c.tc : Thread Cert.Dwup.nD Cert.Dwup.τ).loc Cert.Dwup.main_arg4) = m ((c.tc : Thread Cert.Dwup.nD Cert.Dwup.τ).loc Cert.Dwup.main_arg4))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1)
      ∧ r.2.mem ((c.tc : Thread Cert.DwupIdeal.nD Cert.DwupIdeal.τ).loc Cert.DwupIdeal.main_arg2) = m ((c.tc : Thread Cert.DwupIdeal.nD Cert.DwupIdeal.τ).loc Cert.DwupIdeal.main_arg2)
      ∧ r.2.mem ((c.tc : Thread Cert.DwupIdeal.nD Cert.DwupIdeal.τ).loc Cert.DwupIdeal.main_arg3) = m ((c.tc : Thread Cert.DwupIdeal.nD Cert.DwupIdeal.τ).loc Cert.DwupIdeal.main_arg3)
      ∧ r.2.mem ((c.tc : Thread Cert.DwupIdeal.nD Cert.DwupIdeal.τ).loc Cert.DwupIdeal.main_arg4) = m ((c.tc : Thread Cert.DwupIdeal.nD Cert.DwupIdeal.τ).loc Cert.DwupIdeal.main_arg4))
      ∧ r.2.sem = fun _ => 0)

def quiescent_DwupRefIdeal [hDwupRefIdeal : Cert.DwupRefIdeal.Facts] : Prop :=
  ∀ (m : (ℓ : Loc Cert.DwupRefIdeal.nD Cert.DwupRefIdeal.τ Cert.DwupRefIdeal.sig) → Buf (Elt Ideal) ℓ) (g : Dev Cert.DwupRefIdeal.nD → PrngReg), Pre_DwupRefIdeal m →
    θ_run (Cert.DwupRefIdeal.defs (F := Ideal)) (onTc (τ := Cert.DwupRefIdeal.τ) (Cert.DwupRefIdeal.main (F := Ideal))) ⟨m, fun _ => 0, g⟩ (fun r => (∀ c : Dev Cert.DwupRefIdeal.nD,
      r.2.mem ((c.tc : Thread Cert.DwupRefIdeal.nD Cert.DwupRefIdeal.τ).loc Cert.DwupRefIdeal.main_arg0) = m ((c.tc : Thread Cert.DwupRefIdeal.nD Cert.DwupRefIdeal.τ).loc Cert.DwupRefIdeal.main_arg0)
      ∧ r.2.mem ((c.tc : Thread Cert.DwupRefIdeal.nD Cert.DwupRefIdeal.τ).loc Cert.DwupRefIdeal.main_arg1) = m ((c.tc : Thread Cert.DwupRefIdeal.nD Cert.DwupRefIdeal.τ).loc Cert.DwupRefIdeal.main_arg1)
      ∧ r.2.mem ((c.tc : Thread Cert.DwupRefIdeal.nD Cert.DwupRefIdeal.τ).loc Cert.DwupRefIdeal.main_arg2) = m ((c.tc : Thread Cert.DwupRefIdeal.nD Cert.DwupRefIdeal.τ).loc Cert.DwupRefIdeal.main_arg2)
      ∧ r.2.mem ((c.tc : Thread Cert.DwupRefIdeal.nD Cert.DwupRefIdeal.τ).loc Cert.DwupRefIdeal.main_arg3) = m ((c.tc : Thread Cert.DwupRefIdeal.nD Cert.DwupRefIdeal.τ).loc Cert.DwupRefIdeal.main_arg3)
      ∧ r.2.mem ((c.tc : Thread Cert.DwupRefIdeal.nD Cert.DwupRefIdeal.τ).loc Cert.DwupRefIdeal.main_arg4) = m ((c.tc : Thread Cert.DwupRefIdeal.nD Cert.DwupRefIdeal.τ).loc Cert.DwupRefIdeal.main_arg4))
      ∧ r.2.sem = fun _ => 0)

def quiescent_Dnup [hDnup : Cert.Dnup.Facts] : Prop :=
  ∀ (m : (ℓ : Loc Cert.Dnup.nD Cert.Dnup.τ Cert.Dnup.sig) → Buf (Elt Bits) ℓ) (g : Dev Cert.Dnup.nD → PrngReg), Pre_Dnup m →
    θ_run (Cert.Dnup.defs (F := Bits)) (onTc (τ := Cert.Dnup.τ) (Cert.Dnup.main (F := Bits))) ⟨m, fun _ => 0, g⟩ (fun r => (∀ c : Dev Cert.Dnup.nD,
      r.2.mem ((c.tc : Thread Cert.Dnup.nD Cert.Dnup.τ).loc Cert.Dnup.main_arg0) = m ((c.tc : Thread Cert.Dnup.nD Cert.Dnup.τ).loc Cert.Dnup.main_arg0)
      ∧ r.2.mem ((c.tc : Thread Cert.Dnup.nD Cert.Dnup.τ).loc Cert.Dnup.main_arg1) = m ((c.tc : Thread Cert.Dnup.nD Cert.Dnup.τ).loc Cert.Dnup.main_arg1)
      ∧ r.2.mem ((c.tc : Thread Cert.Dnup.nD Cert.Dnup.τ).loc Cert.Dnup.main_arg2) = m ((c.tc : Thread Cert.Dnup.nD Cert.Dnup.τ).loc Cert.Dnup.main_arg2)
      ∧ r.2.mem ((c.tc : Thread Cert.Dnup.nD Cert.Dnup.τ).loc Cert.Dnup.main_arg3) = m ((c.tc : Thread Cert.Dnup.nD Cert.Dnup.τ).loc Cert.Dnup.main_arg3)
      ∧ r.2.mem ((c.tc : Thread Cert.Dnup.nD Cert.Dnup.τ).loc Cert.Dnup.main_arg4) = m ((c.tc : Thread Cert.Dnup.nD Cert.Dnup.τ).loc Cert.Dnup.main_arg4))
      ∧ r.2.sem = fun _ => 0)

def quiescent_DnupIdeal [hDnupIdeal : Cert.DnupIdeal.Facts] : Prop :=
  ∀ (m : (ℓ : Loc Cert.DnupIdeal.nD Cert.DnupIdeal.τ Cert.DnupIdeal.sig) → Buf (Elt Ideal) ℓ) (g : Dev Cert.DnupIdeal.nD → PrngReg), Pre_DnupIdeal m →
    θ_run (Cert.DnupIdeal.defs (F := Ideal)) (onTc (τ := Cert.DnupIdeal.τ) (Cert.DnupIdeal.main (F := Ideal))) ⟨m, fun _ => 0, g⟩ (fun r => (∀ c : Dev Cert.DnupIdeal.nD,
      r.2.mem ((c.tc : Thread Cert.DnupIdeal.nD Cert.DnupIdeal.τ).loc Cert.DnupIdeal.main_arg0) = m ((c.tc : Thread Cert.DnupIdeal.nD Cert.DnupIdeal.τ).loc Cert.DnupIdeal.main_arg0)
      ∧ r.2.mem ((c.tc : Thread Cert.DnupIdeal.nD Cert.DnupIdeal.τ).loc Cert.DnupIdeal.main_arg1) = m ((c.tc : Thread Cert.DnupIdeal.nD Cert.DnupIdeal.τ).loc Cert.DnupIdeal.main_arg1)
      ∧ r.2.mem ((c.tc : Thread Cert.DnupIdeal.nD Cert.DnupIdeal.τ).loc Cert.DnupIdeal.main_arg2) = m ((c.tc : Thread Cert.DnupIdeal.nD Cert.DnupIdeal.τ).loc Cert.DnupIdeal.main_arg2)
      ∧ r.2.mem ((c.tc : Thread Cert.DnupIdeal.nD Cert.DnupIdeal.τ).loc Cert.DnupIdeal.main_arg3) = m ((c.tc : Thread Cert.DnupIdeal.nD Cert.DnupIdeal.τ).loc Cert.DnupIdeal.main_arg3)
      ∧ r.2.mem ((c.tc : Thread Cert.DnupIdeal.nD Cert.DnupIdeal.τ).loc Cert.DnupIdeal.main_arg4) = m ((c.tc : Thread Cert.DnupIdeal.nD Cert.DnupIdeal.τ).loc Cert.DnupIdeal.main_arg4))
      ∧ r.2.sem = fun _ => 0)

def quiescent_DnupRefIdeal [hDnupRefIdeal : Cert.DnupRefIdeal.Facts] : Prop :=
  ∀ (m : (ℓ : Loc Cert.DnupRefIdeal.nD Cert.DnupRefIdeal.τ Cert.DnupRefIdeal.sig) → Buf (Elt Ideal) ℓ) (g : Dev Cert.DnupRefIdeal.nD → PrngReg), Pre_DnupRefIdeal m →
    θ_run (Cert.DnupRefIdeal.defs (F := Ideal)) (onTc (τ := Cert.DnupRefIdeal.τ) (Cert.DnupRefIdeal.main (F := Ideal))) ⟨m, fun _ => 0, g⟩ (fun r => (∀ c : Dev Cert.DnupRefIdeal.nD,
      r.2.mem ((c.tc : Thread Cert.DnupRefIdeal.nD Cert.DnupRefIdeal.τ).loc Cert.DnupRefIdeal.main_arg0) = m ((c.tc : Thread Cert.DnupRefIdeal.nD Cert.DnupRefIdeal.τ).loc Cert.DnupRefIdeal.main_arg0)
      ∧ r.2.mem ((c.tc : Thread Cert.DnupRefIdeal.nD Cert.DnupRefIdeal.τ).loc Cert.DnupRefIdeal.main_arg1) = m ((c.tc : Thread Cert.DnupRefIdeal.nD Cert.DnupRefIdeal.τ).loc Cert.DnupRefIdeal.main_arg1)
      ∧ r.2.mem ((c.tc : Thread Cert.DnupRefIdeal.nD Cert.DnupRefIdeal.τ).loc Cert.DnupRefIdeal.main_arg2) = m ((c.tc : Thread Cert.DnupRefIdeal.nD Cert.DnupRefIdeal.τ).loc Cert.DnupRefIdeal.main_arg2)
      ∧ r.2.mem ((c.tc : Thread Cert.DnupRefIdeal.nD Cert.DnupRefIdeal.τ).loc Cert.DnupRefIdeal.main_arg3) = m ((c.tc : Thread Cert.DnupRefIdeal.nD Cert.DnupRefIdeal.τ).loc Cert.DnupRefIdeal.main_arg3)
      ∧ r.2.mem ((c.tc : Thread Cert.DnupRefIdeal.nD Cert.DnupRefIdeal.τ).loc Cert.DnupRefIdeal.main_arg4) = m ((c.tc : Thread Cert.DnupRefIdeal.nD Cert.DnupRefIdeal.τ).loc Cert.DnupRefIdeal.main_arg4))
      ∧ r.2.sem = fun _ => 0)

def quiescent_Dngate [hDngate : Cert.Dngate.Facts] : Prop :=
  ∀ (m : (ℓ : Loc Cert.Dngate.nD Cert.Dngate.τ Cert.Dngate.sig) → Buf (Elt Bits) ℓ) (g : Dev Cert.Dngate.nD → PrngReg), Pre_Dngate m →
    θ_run (Cert.Dngate.defs (F := Bits)) (onTc (τ := Cert.Dngate.τ) (Cert.Dngate.main (F := Bits))) ⟨m, fun _ => 0, g⟩ (fun r => (∀ c : Dev Cert.Dngate.nD,
      r.2.mem ((c.tc : Thread Cert.Dngate.nD Cert.Dngate.τ).loc Cert.Dngate.main_arg0) = m ((c.tc : Thread Cert.Dngate.nD Cert.Dngate.τ).loc Cert.Dngate.main_arg0)
      ∧ r.2.mem ((c.tc : Thread Cert.Dngate.nD Cert.Dngate.τ).loc Cert.Dngate.main_arg1) = m ((c.tc : Thread Cert.Dngate.nD Cert.Dngate.τ).loc Cert.Dngate.main_arg1)
      ∧ r.2.mem ((c.tc : Thread Cert.Dngate.nD Cert.Dngate.τ).loc Cert.Dngate.main_arg2) = m ((c.tc : Thread Cert.Dngate.nD Cert.Dngate.τ).loc Cert.Dngate.main_arg2)
      ∧ r.2.mem ((c.tc : Thread Cert.Dngate.nD Cert.Dngate.τ).loc Cert.Dngate.main_arg3) = m ((c.tc : Thread Cert.Dngate.nD Cert.Dngate.τ).loc Cert.Dngate.main_arg3)
      ∧ r.2.mem ((c.tc : Thread Cert.Dngate.nD Cert.Dngate.τ).loc Cert.Dngate.main_arg4) = m ((c.tc : Thread Cert.Dngate.nD Cert.Dngate.τ).loc Cert.Dngate.main_arg4))
      ∧ r.2.sem = fun _ => 0)

def quiescent_DngateIdeal [hDngateIdeal : Cert.DngateIdeal.Facts] : Prop :=
  ∀ (m : (ℓ : Loc Cert.DngateIdeal.nD Cert.DngateIdeal.τ Cert.DngateIdeal.sig) → Buf (Elt Ideal) ℓ) (g : Dev Cert.DngateIdeal.nD → PrngReg), Pre_DngateIdeal m →
    θ_run (Cert.DngateIdeal.defs (F := Ideal)) (onTc (τ := Cert.DngateIdeal.τ) (Cert.DngateIdeal.main (F := Ideal))) ⟨m, fun _ => 0, g⟩ (fun r => (∀ c : Dev Cert.DngateIdeal.nD,
      r.2.mem ((c.tc : Thread Cert.DngateIdeal.nD Cert.DngateIdeal.τ).loc Cert.DngateIdeal.main_arg0) = m ((c.tc : Thread Cert.DngateIdeal.nD Cert.DngateIdeal.τ).loc Cert.DngateIdeal.main_arg0)
      ∧ r.2.mem ((c.tc : Thread Cert.DngateIdeal.nD Cert.DngateIdeal.τ).loc Cert.DngateIdeal.main_arg1) = m ((c.tc : Thread Cert.DngateIdeal.nD Cert.DngateIdeal.τ).loc Cert.DngateIdeal.main_arg1)
      ∧ r.2.mem ((c.tc : Thread Cert.DngateIdeal.nD Cert.DngateIdeal.τ).loc Cert.DngateIdeal.main_arg2) = m ((c.tc : Thread Cert.DngateIdeal.nD Cert.DngateIdeal.τ).loc Cert.DngateIdeal.main_arg2)
      ∧ r.2.mem ((c.tc : Thread Cert.DngateIdeal.nD Cert.DngateIdeal.τ).loc Cert.DngateIdeal.main_arg3) = m ((c.tc : Thread Cert.DngateIdeal.nD Cert.DngateIdeal.τ).loc Cert.DngateIdeal.main_arg3)
      ∧ r.2.mem ((c.tc : Thread Cert.DngateIdeal.nD Cert.DngateIdeal.τ).loc Cert.DngateIdeal.main_arg4) = m ((c.tc : Thread Cert.DngateIdeal.nD Cert.DngateIdeal.τ).loc Cert.DngateIdeal.main_arg4))
      ∧ r.2.sem = fun _ => 0)

def quiescent_DngateRefIdeal [hDngateRefIdeal : Cert.DngateRefIdeal.Facts] : Prop :=
  ∀ (m : (ℓ : Loc Cert.DngateRefIdeal.nD Cert.DngateRefIdeal.τ Cert.DngateRefIdeal.sig) → Buf (Elt Ideal) ℓ) (g : Dev Cert.DngateRefIdeal.nD → PrngReg), Pre_DngateRefIdeal m →
    θ_run (Cert.DngateRefIdeal.defs (F := Ideal)) (onTc (τ := Cert.DngateRefIdeal.τ) (Cert.DngateRefIdeal.main (F := Ideal))) ⟨m, fun _ => 0, g⟩ (fun r => (∀ c : Dev Cert.DngateRefIdeal.nD,
      r.2.mem ((c.tc : Thread Cert.DngateRefIdeal.nD Cert.DngateRefIdeal.τ).loc Cert.DngateRefIdeal.main_arg0) = m ((c.tc : Thread Cert.DngateRefIdeal.nD Cert.DngateRefIdeal.τ).loc Cert.DngateRefIdeal.main_arg0)
      ∧ r.2.mem ((c.tc : Thread Cert.DngateRefIdeal.nD Cert.DngateRefIdeal.τ).loc Cert.DngateRefIdeal.main_arg1) = m ((c.tc : Thread Cert.DngateRefIdeal.nD Cert.DngateRefIdeal.τ).loc Cert.DngateRefIdeal.main_arg1)
      ∧ r.2.mem ((c.tc : Thread Cert.DngateRefIdeal.nD Cert.DngateRefIdeal.τ).loc Cert.DngateRefIdeal.main_arg2) = m ((c.tc : Thread Cert.DngateRefIdeal.nD Cert.DngateRefIdeal.τ).loc Cert.DngateRefIdeal.main_arg2)
      ∧ r.2.mem ((c.tc : Thread Cert.DngateRefIdeal.nD Cert.DngateRefIdeal.τ).loc Cert.DngateRefIdeal.main_arg3) = m ((c.tc : Thread Cert.DngateRefIdeal.nD Cert.DngateRefIdeal.τ).loc Cert.DngateRefIdeal.main_arg3)
      ∧ r.2.mem ((c.tc : Thread Cert.DngateRefIdeal.nD Cert.DngateRefIdeal.τ).loc Cert.DngateRefIdeal.main_arg4) = m ((c.tc : Thread Cert.DngateRefIdeal.nD Cert.DngateRefIdeal.τ).loc Cert.DngateRefIdeal.main_arg4))
      ∧ r.2.sem = fun _ => 0)

def quiescent_Dscan [hDscan : Cert.Dscan.Facts] : Prop :=
  ∀ (m : (ℓ : Loc Cert.Dscan.nD Cert.Dscan.τ Cert.Dscan.sig) → Buf (Elt Bits) ℓ) (g : Dev Cert.Dscan.nD → PrngReg), Pre_Dscan m →
    θ_run (Cert.Dscan.defs (F := Bits)) (onTc (τ := Cert.Dscan.τ) (Cert.Dscan.main (F := Bits))) ⟨m, fun _ => 0, g⟩ (fun r => (∀ c : Dev Cert.Dscan.nD,
      r.2.mem ((c.tc : Thread Cert.Dscan.nD Cert.Dscan.τ).loc Cert.Dscan.main_arg0) = m ((c.tc : Thread Cert.Dscan.nD Cert.Dscan.τ).loc Cert.Dscan.main_arg0)
      ∧ r.2.mem ((c.tc : Thread Cert.Dscan.nD Cert.Dscan.τ).loc Cert.Dscan.main_arg1) = m ((c.tc : Thread Cert.Dscan.nD Cert.Dscan.τ).loc Cert.Dscan.main_arg1)
      ∧ r.2.mem ((c.tc : Thread Cert.Dscan.nD Cert.Dscan.τ).loc Cert.Dscan.main_arg2) = m ((c.tc : Thread Cert.Dscan.nD Cert.Dscan.τ).loc Cert.Dscan.main_arg2)
      ∧ r.2.mem ((c.tc : Thread Cert.Dscan.nD Cert.Dscan.τ).loc Cert.Dscan.main_arg3) = m ((c.tc : Thread Cert.Dscan.nD Cert.Dscan.τ).loc Cert.Dscan.main_arg3)
      ∧ r.2.mem ((c.tc : Thread Cert.Dscan.nD Cert.Dscan.τ).loc Cert.Dscan.main_arg4) = m ((c.tc : Thread Cert.Dscan.nD Cert.Dscan.τ).loc Cert.Dscan.main_arg4)
      ∧ r.2.mem ((c.tc : Thread Cert.Dscan.nD Cert.Dscan.τ).loc Cert.Dscan.main_arg5) = m ((c.tc : Thread Cert.Dscan.nD Cert.Dscan.τ).loc Cert.Dscan.main_arg5))
      ∧ r.2.sem = fun _ => 0)

def quiescent_DscanIdeal [hDscanIdeal : Cert.DscanIdeal.Facts] : Prop :=
  ∀ (m : (ℓ : Loc Cert.DscanIdeal.nD Cert.DscanIdeal.τ Cert.DscanIdeal.sig) → Buf (Elt Ideal) ℓ) (g : Dev Cert.DscanIdeal.nD → PrngReg), Pre_DscanIdeal m →
    θ_run (Cert.DscanIdeal.defs (F := Ideal)) (onTc (τ := Cert.DscanIdeal.τ) (Cert.DscanIdeal.main (F := Ideal))) ⟨m, fun _ => 0, g⟩ (fun r => (∀ c : Dev Cert.DscanIdeal.nD,
      r.2.mem ((c.tc : Thread Cert.DscanIdeal.nD Cert.DscanIdeal.τ).loc Cert.DscanIdeal.main_arg0) = m ((c.tc : Thread Cert.DscanIdeal.nD Cert.DscanIdeal.τ).loc Cert.DscanIdeal.main_arg0)
      ∧ r.2.mem ((c.tc : Thread Cert.DscanIdeal.nD Cert.DscanIdeal.τ).loc Cert.DscanIdeal.main_arg1) = m ((c.tc : Thread Cert.DscanIdeal.nD Cert.DscanIdeal.τ).loc Cert.DscanIdeal.main_arg1)
      ∧ r.2.mem ((c.tc : Thread Cert.DscanIdeal.nD Cert.DscanIdeal.τ).loc Cert.DscanIdeal.main_arg2) = m ((c.tc : Thread Cert.DscanIdeal.nD Cert.DscanIdeal.τ).loc Cert.DscanIdeal.main_arg2)
      ∧ r.2.mem ((c.tc : Thread Cert.DscanIdeal.nD Cert.DscanIdeal.τ).loc Cert.DscanIdeal.main_arg3) = m ((c.tc : Thread Cert.DscanIdeal.nD Cert.DscanIdeal.τ).loc Cert.DscanIdeal.main_arg3)
      ∧ r.2.mem ((c.tc : Thread Cert.DscanIdeal.nD Cert.DscanIdeal.τ).loc Cert.DscanIdeal.main_arg4) = m ((c.tc : Thread Cert.DscanIdeal.nD Cert.DscanIdeal.τ).loc Cert.DscanIdeal.main_arg4)
      ∧ r.2.mem ((c.tc : Thread Cert.DscanIdeal.nD Cert.DscanIdeal.τ).loc Cert.DscanIdeal.main_arg5) = m ((c.tc : Thread Cert.DscanIdeal.nD Cert.DscanIdeal.τ).loc Cert.DscanIdeal.main_arg5))
      ∧ r.2.sem = fun _ => 0)

def quiescent_DscanRefIdeal [hDscanRefIdeal : Cert.DscanRefIdeal.Facts] : Prop :=
  ∀ (m : (ℓ : Loc Cert.DscanRefIdeal.nD Cert.DscanRefIdeal.τ Cert.DscanRefIdeal.sig) → Buf (Elt Ideal) ℓ) (g : Dev Cert.DscanRefIdeal.nD → PrngReg), Pre_DscanRefIdeal m →
    θ_run (Cert.DscanRefIdeal.defs (F := Ideal)) (onTc (τ := Cert.DscanRefIdeal.τ) (Cert.DscanRefIdeal.main (F := Ideal))) ⟨m, fun _ => 0, g⟩ (fun r => (∀ c : Dev Cert.DscanRefIdeal.nD,
      r.2.mem ((c.tc : Thread Cert.DscanRefIdeal.nD Cert.DscanRefIdeal.τ).loc Cert.DscanRefIdeal.main_arg0) = m ((c.tc : Thread Cert.DscanRefIdeal.nD Cert.DscanRefIdeal.τ).loc Cert.DscanRefIdeal.main_arg0)
      ∧ r.2.mem ((c.tc : Thread Cert.DscanRefIdeal.nD Cert.DscanRefIdeal.τ).loc Cert.DscanRefIdeal.main_arg1) = m ((c.tc : Thread Cert.DscanRefIdeal.nD Cert.DscanRefIdeal.τ).loc Cert.DscanRefIdeal.main_arg1)
      ∧ r.2.mem ((c.tc : Thread Cert.DscanRefIdeal.nD Cert.DscanRefIdeal.τ).loc Cert.DscanRefIdeal.main_arg2) = m ((c.tc : Thread Cert.DscanRefIdeal.nD Cert.DscanRefIdeal.τ).loc Cert.DscanRefIdeal.main_arg2)
      ∧ r.2.mem ((c.tc : Thread Cert.DscanRefIdeal.nD Cert.DscanRefIdeal.τ).loc Cert.DscanRefIdeal.main_arg3) = m ((c.tc : Thread Cert.DscanRefIdeal.nD Cert.DscanRefIdeal.τ).loc Cert.DscanRefIdeal.main_arg3)
      ∧ r.2.mem ((c.tc : Thread Cert.DscanRefIdeal.nD Cert.DscanRefIdeal.τ).loc Cert.DscanRefIdeal.main_arg4) = m ((c.tc : Thread Cert.DscanRefIdeal.nD Cert.DscanRefIdeal.τ).loc Cert.DscanRefIdeal.main_arg4)
      ∧ r.2.mem ((c.tc : Thread Cert.DscanRefIdeal.nD Cert.DscanRefIdeal.τ).loc Cert.DscanRefIdeal.main_arg5) = m ((c.tc : Thread Cert.DscanRefIdeal.nD Cert.DscanRefIdeal.τ).loc Cert.DscanRefIdeal.main_arg5))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3))
      ∧ r.2.sem = fun _ => 0)

def quiescent_Dshift [hDshift : Cert.Dshift.Facts] : Prop :=
  ∀ (m : (ℓ : Loc Cert.Dshift.nD Cert.Dshift.τ Cert.Dshift.sig) → Buf (Elt Bits) ℓ) (g : Dev Cert.Dshift.nD → PrngReg), Pre_Dshift m →
    θ_run (Cert.Dshift.defs (F := Bits)) (onTc (τ := Cert.Dshift.τ) (Cert.Dshift.main (F := Bits))) ⟨m, fun _ => 0, g⟩ (fun r => (∀ c : Dev Cert.Dshift.nD,
      r.2.mem ((c.tc : Thread Cert.Dshift.nD Cert.Dshift.τ).loc Cert.Dshift.main_arg0) = m ((c.tc : Thread Cert.Dshift.nD Cert.Dshift.τ).loc Cert.Dshift.main_arg0)
      ∧ r.2.mem ((c.tc : Thread Cert.Dshift.nD Cert.Dshift.τ).loc Cert.Dshift.main_arg1) = m ((c.tc : Thread Cert.Dshift.nD Cert.Dshift.τ).loc Cert.Dshift.main_arg1)
      ∧ r.2.mem ((c.tc : Thread Cert.Dshift.nD Cert.Dshift.τ).loc Cert.Dshift.main_arg2) = m ((c.tc : Thread Cert.Dshift.nD Cert.Dshift.τ).loc Cert.Dshift.main_arg2))
      ∧ r.2.sem = fun _ => 0)

def quiescent_DshiftIdeal [hDshiftIdeal : Cert.DshiftIdeal.Facts] : Prop :=
  ∀ (m : (ℓ : Loc Cert.DshiftIdeal.nD Cert.DshiftIdeal.τ Cert.DshiftIdeal.sig) → Buf (Elt Ideal) ℓ) (g : Dev Cert.DshiftIdeal.nD → PrngReg), Pre_DshiftIdeal m →
    θ_run (Cert.DshiftIdeal.defs (F := Ideal)) (onTc (τ := Cert.DshiftIdeal.τ) (Cert.DshiftIdeal.main (F := Ideal))) ⟨m, fun _ => 0, g⟩ (fun r => (∀ c : Dev Cert.DshiftIdeal.nD,
      r.2.mem ((c.tc : Thread Cert.DshiftIdeal.nD Cert.DshiftIdeal.τ).loc Cert.DshiftIdeal.main_arg0) = m ((c.tc : Thread Cert.DshiftIdeal.nD Cert.DshiftIdeal.τ).loc Cert.DshiftIdeal.main_arg0)
      ∧ r.2.mem ((c.tc : Thread Cert.DshiftIdeal.nD Cert.DshiftIdeal.τ).loc Cert.DshiftIdeal.main_arg1) = m ((c.tc : Thread Cert.DshiftIdeal.nD Cert.DshiftIdeal.τ).loc Cert.DshiftIdeal.main_arg1)
      ∧ r.2.mem ((c.tc : Thread Cert.DshiftIdeal.nD Cert.DshiftIdeal.τ).loc Cert.DshiftIdeal.main_arg2) = m ((c.tc : Thread Cert.DshiftIdeal.nD Cert.DshiftIdeal.τ).loc Cert.DshiftIdeal.main_arg2))
      ∧ r.2.sem = fun _ => 0)

def quiescent_DshiftRefIdeal [hDshiftRefIdeal : Cert.DshiftRefIdeal.Facts] : Prop :=
  ∀ (m : (ℓ : Loc Cert.DshiftRefIdeal.nD Cert.DshiftRefIdeal.τ Cert.DshiftRefIdeal.sig) → Buf (Elt Ideal) ℓ) (g : Dev Cert.DshiftRefIdeal.nD → PrngReg), Pre_DshiftRefIdeal m →
    θ_run (Cert.DshiftRefIdeal.defs (F := Ideal)) (onTc (τ := Cert.DshiftRefIdeal.τ) (Cert.DshiftRefIdeal.main (F := Ideal))) ⟨m, fun _ => 0, g⟩ (fun r => (∀ c : Dev Cert.DshiftRefIdeal.nD,
      r.2.mem ((c.tc : Thread Cert.DshiftRefIdeal.nD Cert.DshiftRefIdeal.τ).loc Cert.DshiftRefIdeal.main_arg0) = m ((c.tc : Thread Cert.DshiftRefIdeal.nD Cert.DshiftRefIdeal.τ).loc Cert.DshiftRefIdeal.main_arg0)
      ∧ r.2.mem ((c.tc : Thread Cert.DshiftRefIdeal.nD Cert.DshiftRefIdeal.τ).loc Cert.DshiftRefIdeal.main_arg1) = m ((c.tc : Thread Cert.DshiftRefIdeal.nD Cert.DshiftRefIdeal.τ).loc Cert.DshiftRefIdeal.main_arg1)
      ∧ r.2.mem ((c.tc : Thread Cert.DshiftRefIdeal.nD Cert.DshiftRefIdeal.τ).loc Cert.DshiftRefIdeal.main_arg2) = m ((c.tc : Thread Cert.DshiftRefIdeal.nD Cert.DshiftRefIdeal.τ).loc Cert.DshiftRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Dple [hDple : Cert.Dple.Facts] : Prop :=
  ∀ (m : (ℓ : Loc Cert.Dple.nD Cert.Dple.τ Cert.Dple.sig) → Buf (Elt Bits) ℓ) (g : Dev Cert.Dple.nD → PrngReg), Pre_Dple m →
    θ_run (Cert.Dple.defs (F := Bits)) (onTc (τ := Cert.Dple.τ) (Cert.Dple.main (F := Bits))) ⟨m, fun _ => 0, g⟩ (fun r => (∀ c : Dev Cert.Dple.nD,
      r.2.mem ((c.tc : Thread Cert.Dple.nD Cert.Dple.τ).loc Cert.Dple.main_arg0) = m ((c.tc : Thread Cert.Dple.nD Cert.Dple.τ).loc Cert.Dple.main_arg0)
      ∧ r.2.mem ((c.tc : Thread Cert.Dple.nD Cert.Dple.τ).loc Cert.Dple.main_arg1) = m ((c.tc : Thread Cert.Dple.nD Cert.Dple.τ).loc Cert.Dple.main_arg1)
      ∧ r.2.mem ((c.tc : Thread Cert.Dple.nD Cert.Dple.τ).loc Cert.Dple.main_arg2) = m ((c.tc : Thread Cert.Dple.nD Cert.Dple.τ).loc Cert.Dple.main_arg2))
      ∧ r.2.sem = fun _ => 0)

def quiescent_DpleIdeal [hDpleIdeal : Cert.DpleIdeal.Facts] : Prop :=
  ∀ (m : (ℓ : Loc Cert.DpleIdeal.nD Cert.DpleIdeal.τ Cert.DpleIdeal.sig) → Buf (Elt Ideal) ℓ) (g : Dev Cert.DpleIdeal.nD → PrngReg), Pre_DpleIdeal m →
    θ_run (Cert.DpleIdeal.defs (F := Ideal)) (onTc (τ := Cert.DpleIdeal.τ) (Cert.DpleIdeal.main (F := Ideal))) ⟨m, fun _ => 0, g⟩ (fun r => (∀ c : Dev Cert.DpleIdeal.nD,
      r.2.mem ((c.tc : Thread Cert.DpleIdeal.nD Cert.DpleIdeal.τ).loc Cert.DpleIdeal.main_arg0) = m ((c.tc : Thread Cert.DpleIdeal.nD Cert.DpleIdeal.τ).loc Cert.DpleIdeal.main_arg0)
      ∧ r.2.mem ((c.tc : Thread Cert.DpleIdeal.nD Cert.DpleIdeal.τ).loc Cert.DpleIdeal.main_arg1) = m ((c.tc : Thread Cert.DpleIdeal.nD Cert.DpleIdeal.τ).loc Cert.DpleIdeal.main_arg1)
      ∧ r.2.mem ((c.tc : Thread Cert.DpleIdeal.nD Cert.DpleIdeal.τ).loc Cert.DpleIdeal.main_arg2) = m ((c.tc : Thread Cert.DpleIdeal.nD Cert.DpleIdeal.τ).loc Cert.DpleIdeal.main_arg2))
      ∧ r.2.sem = fun _ => 0)

def quiescent_DpleRefIdeal [hDpleRefIdeal : Cert.DpleRefIdeal.Facts] : Prop :=
  ∀ (m : (ℓ : Loc Cert.DpleRefIdeal.nD Cert.DpleRefIdeal.τ Cert.DpleRefIdeal.sig) → Buf (Elt Ideal) ℓ) (g : Dev Cert.DpleRefIdeal.nD → PrngReg), Pre_DpleRefIdeal m →
    θ_run (Cert.DpleRefIdeal.defs (F := Ideal)) (onTc (τ := Cert.DpleRefIdeal.τ) (Cert.DpleRefIdeal.main (F := Ideal))) ⟨m, fun _ => 0, g⟩ (fun r => (∀ c : Dev Cert.DpleRefIdeal.nD,
      r.2.mem ((c.tc : Thread Cert.DpleRefIdeal.nD Cert.DpleRefIdeal.τ).loc Cert.DpleRefIdeal.main_arg0) = m ((c.tc : Thread Cert.DpleRefIdeal.nD Cert.DpleRefIdeal.τ).loc Cert.DpleRefIdeal.main_arg0)
      ∧ r.2.mem ((c.tc : Thread Cert.DpleRefIdeal.nD Cert.DpleRefIdeal.τ).loc Cert.DpleRefIdeal.main_arg1) = m ((c.tc : Thread Cert.DpleRefIdeal.nD Cert.DpleRefIdeal.τ).loc Cert.DpleRefIdeal.main_arg1)
      ∧ r.2.mem ((c.tc : Thread Cert.DpleRefIdeal.nD Cert.DpleRefIdeal.τ).loc Cert.DpleRefIdeal.main_arg2) = m ((c.tc : Thread Cert.DpleRefIdeal.nD Cert.DpleRefIdeal.τ).loc Cert.DpleRefIdeal.main_arg2))
      ∧ r.2.sem = fun _ => 0)

def quiescent_Dglu [hDglu : Cert.Dglu.Facts] : Prop :=
  ∀ (m : (ℓ : Loc Cert.Dglu.nD Cert.Dglu.τ Cert.Dglu.sig) → Buf (Elt Bits) ℓ) (g : Dev Cert.Dglu.nD → PrngReg), Pre_Dglu m →
    θ_run (Cert.Dglu.defs (F := Bits)) (onTc (τ := Cert.Dglu.τ) (Cert.Dglu.main (F := Bits))) ⟨m, fun _ => 0, g⟩ (fun r => (∀ c : Dev Cert.Dglu.nD,
      r.2.mem ((c.tc : Thread Cert.Dglu.nD Cert.Dglu.τ).loc Cert.Dglu.main_arg0) = m ((c.tc : Thread Cert.Dglu.nD Cert.Dglu.τ).loc Cert.Dglu.main_arg0)
      ∧ r.2.mem ((c.tc : Thread Cert.Dglu.nD Cert.Dglu.τ).loc Cert.Dglu.main_arg1) = m ((c.tc : Thread Cert.Dglu.nD Cert.Dglu.τ).loc Cert.Dglu.main_arg1))
      ∧ r.2.sem = fun _ => 0)

def quiescent_DgluIdeal [hDgluIdeal : Cert.DgluIdeal.Facts] : Prop :=
  ∀ (m : (ℓ : Loc Cert.DgluIdeal.nD Cert.DgluIdeal.τ Cert.DgluIdeal.sig) → Buf (Elt Ideal) ℓ) (g : Dev Cert.DgluIdeal.nD → PrngReg), Pre_DgluIdeal m →
    θ_run (Cert.DgluIdeal.defs (F := Ideal)) (onTc (τ := Cert.DgluIdeal.τ) (Cert.DgluIdeal.main (F := Ideal))) ⟨m, fun _ => 0, g⟩ (fun r => (∀ c : Dev Cert.DgluIdeal.nD,
      r.2.mem ((c.tc : Thread Cert.DgluIdeal.nD Cert.DgluIdeal.τ).loc Cert.DgluIdeal.main_arg0) = m ((c.tc : Thread Cert.DgluIdeal.nD Cert.DgluIdeal.τ).loc Cert.DgluIdeal.main_arg0)
      ∧ r.2.mem ((c.tc : Thread Cert.DgluIdeal.nD Cert.DgluIdeal.τ).loc Cert.DgluIdeal.main_arg1) = m ((c.tc : Thread Cert.DgluIdeal.nD Cert.DgluIdeal.τ).loc Cert.DgluIdeal.main_arg1))
      ∧ r.2.sem = fun _ => 0)

def quiescent_DgluRefIdeal [hDgluRefIdeal : Cert.DgluRefIdeal.Facts] : Prop :=
  ∀ (m : (ℓ : Loc Cert.DgluRefIdeal.nD Cert.DgluRefIdeal.τ Cert.DgluRefIdeal.sig) → Buf (Elt Ideal) ℓ) (g : Dev Cert.DgluRefIdeal.nD → PrngReg), Pre_DgluRefIdeal m →
    θ_run (Cert.DgluRefIdeal.defs (F := Ideal)) (onTc (τ := Cert.DgluRefIdeal.τ) (Cert.DgluRefIdeal.main (F := Ideal))) ⟨m, fun _ => 0, g⟩ (fun r => (∀ c : Dev Cert.DgluRefIdeal.nD,
      r.2.mem ((c.tc : Thread Cert.DgluRefIdeal.nD Cert.DgluRefIdeal.τ).loc Cert.DgluRefIdeal.main_arg0) = m ((c.tc : Thread Cert.DgluRefIdeal.nD Cert.DgluRefIdeal.τ).loc Cert.DgluRefIdeal.main_arg0)
      ∧ r.2.mem ((c.tc : Thread Cert.DgluRefIdeal.nD Cert.DgluRefIdeal.τ).loc Cert.DgluRefIdeal.main_arg1) = m ((c.tc : Thread Cert.DgluRefIdeal.nD Cert.DgluRefIdeal.τ).loc Cert.DgluRefIdeal.main_arg1))
      ∧ r.2.sem = fun _ => 0)

def quiescent_Dgelu [hDgelu : Cert.Dgelu.Facts] : Prop :=
  ∀ (m : (ℓ : Loc Cert.Dgelu.nD Cert.Dgelu.τ Cert.Dgelu.sig) → Buf (Elt Bits) ℓ) (g : Dev Cert.Dgelu.nD → PrngReg), Pre_Dgelu m →
    θ_run (Cert.Dgelu.defs (F := Bits)) (onTc (τ := Cert.Dgelu.τ) (Cert.Dgelu.main (F := Bits))) ⟨m, fun _ => 0, g⟩ (fun r => (∀ c : Dev Cert.Dgelu.nD,
      r.2.mem ((c.tc : Thread Cert.Dgelu.nD Cert.Dgelu.τ).loc Cert.Dgelu.main_arg0) = m ((c.tc : Thread Cert.Dgelu.nD Cert.Dgelu.τ).loc Cert.Dgelu.main_arg0)
      ∧ r.2.mem ((c.tc : Thread Cert.Dgelu.nD Cert.Dgelu.τ).loc Cert.Dgelu.main_arg1) = m ((c.tc : Thread Cert.Dgelu.nD Cert.Dgelu.τ).loc Cert.Dgelu.main_arg1)
      ∧ r.2.mem ((c.tc : Thread Cert.Dgelu.nD Cert.Dgelu.τ).loc Cert.Dgelu.main_arg2) = m ((c.tc : Thread Cert.Dgelu.nD Cert.Dgelu.τ).loc Cert.Dgelu.main_arg2)
      ∧ r.2.mem ((c.tc : Thread Cert.Dgelu.nD Cert.Dgelu.τ).loc Cert.Dgelu.main_arg3) = m ((c.tc : Thread Cert.Dgelu.nD Cert.Dgelu.τ).loc Cert.Dgelu.main_arg3))
      ∧ r.2.sem = fun _ => 0)

def quiescent_DgeluIdeal [hDgeluIdeal : Cert.DgeluIdeal.Facts] : Prop :=
  ∀ (m : (ℓ : Loc Cert.DgeluIdeal.nD Cert.DgeluIdeal.τ Cert.DgeluIdeal.sig) → Buf (Elt Ideal) ℓ) (g : Dev Cert.DgeluIdeal.nD → PrngReg), Pre_DgeluIdeal m →
    θ_run (Cert.DgeluIdeal.defs (F := Ideal)) (onTc (τ := Cert.DgeluIdeal.τ) (Cert.DgeluIdeal.main (F := Ideal))) ⟨m, fun _ => 0, g⟩ (fun r => (∀ c : Dev Cert.DgeluIdeal.nD,
      r.2.mem ((c.tc : Thread Cert.DgeluIdeal.nD Cert.DgeluIdeal.τ).loc Cert.DgeluIdeal.main_arg0) = m ((c.tc : Thread Cert.DgeluIdeal.nD Cert.DgeluIdeal.τ).loc Cert.DgeluIdeal.main_arg0)
      ∧ r.2.mem ((c.tc : Thread Cert.DgeluIdeal.nD Cert.DgeluIdeal.τ).loc Cert.DgeluIdeal.main_arg1) = m ((c.tc : Thread Cert.DgeluIdeal.nD Cert.DgeluIdeal.τ).loc Cert.DgeluIdeal.main_arg1)
      ∧ r.2.mem ((c.tc : Thread Cert.DgeluIdeal.nD Cert.DgeluIdeal.τ).loc Cert.DgeluIdeal.main_arg2) = m ((c.tc : Thread Cert.DgeluIdeal.nD Cert.DgeluIdeal.τ).loc Cert.DgeluIdeal.main_arg2)
      ∧ r.2.mem ((c.tc : Thread Cert.DgeluIdeal.nD Cert.DgeluIdeal.τ).loc Cert.DgeluIdeal.main_arg3) = m ((c.tc : Thread Cert.DgeluIdeal.nD Cert.DgeluIdeal.τ).loc Cert.DgeluIdeal.main_arg3))
      ∧ r.2.sem = fun _ => 0)

def quiescent_DgeluRefIdeal [hDgeluRefIdeal : Cert.DgeluRefIdeal.Facts] : Prop :=
  ∀ (m : (ℓ : Loc Cert.DgeluRefIdeal.nD Cert.DgeluRefIdeal.τ Cert.DgeluRefIdeal.sig) → Buf (Elt Ideal) ℓ) (g : Dev Cert.DgeluRefIdeal.nD → PrngReg), Pre_DgeluRefIdeal m →
    θ_run (Cert.DgeluRefIdeal.defs (F := Ideal)) (onTc (τ := Cert.DgeluRefIdeal.τ) (Cert.DgeluRefIdeal.main (F := Ideal))) ⟨m, fun _ => 0, g⟩ (fun r => (∀ c : Dev Cert.DgeluRefIdeal.nD,
      r.2.mem ((c.tc : Thread Cert.DgeluRefIdeal.nD Cert.DgeluRefIdeal.τ).loc Cert.DgeluRefIdeal.main_arg0) = m ((c.tc : Thread Cert.DgeluRefIdeal.nD Cert.DgeluRefIdeal.τ).loc Cert.DgeluRefIdeal.main_arg0)
      ∧ r.2.mem ((c.tc : Thread Cert.DgeluRefIdeal.nD Cert.DgeluRefIdeal.τ).loc Cert.DgeluRefIdeal.main_arg1) = m ((c.tc : Thread Cert.DgeluRefIdeal.nD Cert.DgeluRefIdeal.τ).loc Cert.DgeluRefIdeal.main_arg1)
      ∧ r.2.mem ((c.tc : Thread Cert.DgeluRefIdeal.nD Cert.DgeluRefIdeal.τ).loc Cert.DgeluRefIdeal.main_arg2) = m ((c.tc : Thread Cert.DgeluRefIdeal.nD Cert.DgeluRefIdeal.τ).loc Cert.DgeluRefIdeal.main_arg2)
      ∧ r.2.mem ((c.tc : Thread Cert.DgeluRefIdeal.nD Cert.DgeluRefIdeal.τ).loc Cert.DgeluRefIdeal.main_arg3) = m ((c.tc : Thread Cert.DgeluRefIdeal.nD Cert.DgeluRefIdeal.τ).loc Cert.DgeluRefIdeal.main_arg3))
      ∧ r.2.sem = fun _ => 0)

def quiescent_Big [hBig : Cert.Big.Facts] : Prop :=
  ∀ (m : (ℓ : Loc Cert.Big.nD Cert.Big.τ Cert.Big.sig) → Buf (Elt Bits) ℓ) (g : Dev Cert.Big.nD → PrngReg), Pre_Big m →
    θ_run (Cert.Big.defs (F := Bits)) (onTc (τ := Cert.Big.τ) (Cert.Big.main (F := Bits))) ⟨m, fun _ => 0, g⟩ (fun r => (∀ c : Dev Cert.Big.nD,
      r.2.mem ((c.tc : Thread Cert.Big.nD Cert.Big.τ).loc Cert.Big.main_arg0) = m ((c.tc : Thread Cert.Big.nD Cert.Big.τ).loc Cert.Big.main_arg0)
      ∧ r.2.mem ((c.tc : Thread Cert.Big.nD Cert.Big.τ).loc Cert.Big.main_arg1) = m ((c.tc : Thread Cert.Big.nD Cert.Big.τ).loc Cert.Big.main_arg1)
      ∧ r.2.mem ((c.tc : Thread Cert.Big.nD Cert.Big.τ).loc Cert.Big.main_arg2) = m ((c.tc : Thread Cert.Big.nD Cert.Big.τ).loc Cert.Big.main_arg2)
      ∧ r.2.mem ((c.tc : Thread Cert.Big.nD Cert.Big.τ).loc Cert.Big.main_arg3) = m ((c.tc : Thread Cert.Big.nD Cert.Big.τ).loc Cert.Big.main_arg3)
      ∧ r.2.mem ((c.tc : Thread Cert.Big.nD Cert.Big.τ).loc Cert.Big.main_arg4) = m ((c.tc : Thread Cert.Big.nD Cert.Big.τ).loc Cert.Big.main_arg4)
      ∧ r.2.mem ((c.tc : Thread Cert.Big.nD Cert.Big.τ).loc Cert.Big.main_arg5) = m ((c.tc : Thread Cert.Big.nD Cert.Big.τ).loc Cert.Big.main_arg5)
      ∧ r.2.mem ((c.tc : Thread Cert.Big.nD Cert.Big.τ).loc Cert.Big.main_arg6) = m ((c.tc : Thread Cert.Big.nD Cert.Big.τ).loc Cert.Big.main_arg6)
      ∧ r.2.mem ((c.tc : Thread Cert.Big.nD Cert.Big.τ).loc Cert.Big.main_arg7) = m ((c.tc : Thread Cert.Big.nD Cert.Big.τ).loc Cert.Big.main_arg7))
      ∧ r.2.sem = fun _ => 0)

def quiescent_BigIdeal [hBigIdeal : Cert.BigIdeal.Facts] : Prop :=
  ∀ (m : (ℓ : Loc Cert.BigIdeal.nD Cert.BigIdeal.τ Cert.BigIdeal.sig) → Buf (Elt Ideal) ℓ) (g : Dev Cert.BigIdeal.nD → PrngReg), Pre_BigIdeal m →
    θ_run (Cert.BigIdeal.defs (F := Ideal)) (onTc (τ := Cert.BigIdeal.τ) (Cert.BigIdeal.main (F := Ideal))) ⟨m, fun _ => 0, g⟩ (fun r => (∀ c : Dev Cert.BigIdeal.nD,
      r.2.mem ((c.tc : Thread Cert.BigIdeal.nD Cert.BigIdeal.τ).loc Cert.BigIdeal.main_arg0) = m ((c.tc : Thread Cert.BigIdeal.nD Cert.BigIdeal.τ).loc Cert.BigIdeal.main_arg0)
      ∧ r.2.mem ((c.tc : Thread Cert.BigIdeal.nD Cert.BigIdeal.τ).loc Cert.BigIdeal.main_arg1) = m ((c.tc : Thread Cert.BigIdeal.nD Cert.BigIdeal.τ).loc Cert.BigIdeal.main_arg1)
      ∧ r.2.mem ((c.tc : Thread Cert.BigIdeal.nD Cert.BigIdeal.τ).loc Cert.BigIdeal.main_arg2) = m ((c.tc : Thread Cert.BigIdeal.nD Cert.BigIdeal.τ).loc Cert.BigIdeal.main_arg2)
      ∧ r.2.mem ((c.tc : Thread Cert.BigIdeal.nD Cert.BigIdeal.τ).loc Cert.BigIdeal.main_arg3) = m ((c.tc : Thread Cert.BigIdeal.nD Cert.BigIdeal.τ).loc Cert.BigIdeal.main_arg3)
      ∧ r.2.mem ((c.tc : Thread Cert.BigIdeal.nD Cert.BigIdeal.τ).loc Cert.BigIdeal.main_arg4) = m ((c.tc : Thread Cert.BigIdeal.nD Cert.BigIdeal.τ).loc Cert.BigIdeal.main_arg4)
      ∧ r.2.mem ((c.tc : Thread Cert.BigIdeal.nD Cert.BigIdeal.τ).loc Cert.BigIdeal.main_arg5) = m ((c.tc : Thread Cert.BigIdeal.nD Cert.BigIdeal.τ).loc Cert.BigIdeal.main_arg5)
      ∧ r.2.mem ((c.tc : Thread Cert.BigIdeal.nD Cert.BigIdeal.τ).loc Cert.BigIdeal.main_arg6) = m ((c.tc : Thread Cert.BigIdeal.nD Cert.BigIdeal.τ).loc Cert.BigIdeal.main_arg6)
      ∧ r.2.mem ((c.tc : Thread Cert.BigIdeal.nD Cert.BigIdeal.τ).loc Cert.BigIdeal.main_arg7) = m ((c.tc : Thread Cert.BigIdeal.nD Cert.BigIdeal.τ).loc Cert.BigIdeal.main_arg7))
      ∧ r.2.sem = fun _ => 0)

def quiescent_BigRefIdeal [hBigRefIdeal : Cert.BigRefIdeal.Facts] : Prop :=
  ∀ (m : (ℓ : Loc Cert.BigRefIdeal.nD Cert.BigRefIdeal.τ Cert.BigRefIdeal.sig) → Buf (Elt Ideal) ℓ) (g : Dev Cert.BigRefIdeal.nD → PrngReg), Pre_BigRefIdeal m →
    θ_run (Cert.BigRefIdeal.defs (F := Ideal)) (onTc (τ := Cert.BigRefIdeal.τ) (Cert.BigRefIdeal.main (F := Ideal))) ⟨m, fun _ => 0, g⟩ (fun r => (∀ c : Dev Cert.BigRefIdeal.nD,
      r.2.mem ((c.tc : Thread Cert.BigRefIdeal.nD Cert.BigRefIdeal.τ).loc Cert.BigRefIdeal.main_arg0) = m ((c.tc : Thread Cert.BigRefIdeal.nD Cert.BigRefIdeal.τ).loc Cert.BigRefIdeal.main_arg0)
      ∧ r.2.mem ((c.tc : Thread Cert.BigRefIdeal.nD Cert.BigRefIdeal.τ).loc Cert.BigRefIdeal.main_arg1) = m ((c.tc : Thread Cert.BigRefIdeal.nD Cert.BigRefIdeal.τ).loc Cert.BigRefIdeal.main_arg1)
      ∧ r.2.mem ((c.tc : Thread Cert.BigRefIdeal.nD Cert.BigRefIdeal.τ).loc Cert.BigRefIdeal.main_arg2) = m ((c.tc : Thread Cert.BigRefIdeal.nD Cert.BigRefIdeal.τ).loc Cert.BigRefIdeal.main_arg2)
      ∧ r.2.mem ((c.tc : Thread Cert.BigRefIdeal.nD Cert.BigRefIdeal.τ).loc Cert.BigRefIdeal.main_arg3) = m ((c.tc : Thread Cert.BigRefIdeal.nD Cert.BigRefIdeal.τ).loc Cert.BigRefIdeal.main_arg3)
      ∧ r.2.mem ((c.tc : Thread Cert.BigRefIdeal.nD Cert.BigRefIdeal.τ).loc Cert.BigRefIdeal.main_arg4) = m ((c.tc : Thread Cert.BigRefIdeal.nD Cert.BigRefIdeal.τ).loc Cert.BigRefIdeal.main_arg4)
      ∧ r.2.mem ((c.tc : Thread Cert.BigRefIdeal.nD Cert.BigRefIdeal.τ).loc Cert.BigRefIdeal.main_arg5) = m ((c.tc : Thread Cert.BigRefIdeal.nD Cert.BigRefIdeal.τ).loc Cert.BigRefIdeal.main_arg5)
      ∧ r.2.mem ((c.tc : Thread Cert.BigRefIdeal.nD Cert.BigRefIdeal.τ).loc Cert.BigRefIdeal.main_arg6) = m ((c.tc : Thread Cert.BigRefIdeal.nD Cert.BigRefIdeal.τ).loc Cert.BigRefIdeal.main_arg6)
      ∧ r.2.mem ((c.tc : Thread Cert.BigRefIdeal.nD Cert.BigRefIdeal.τ).loc Cert.BigRefIdeal.main_arg7) = m ((c.tc : Thread Cert.BigRefIdeal.nD Cert.BigRefIdeal.τ).loc Cert.BigRefIdeal.main_arg7))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_Bdown [hBdown : Cert.Bdown.Facts] : Prop :=
  ∀ (m : (ℓ : Loc Cert.Bdown.nD Cert.Bdown.τ Cert.Bdown.sig) → Buf (Elt Bits) ℓ) (g : Dev Cert.Bdown.nD → PrngReg), Pre_Bdown m →
    θ_run (Cert.Bdown.defs (F := Bits)) (onTc (τ := Cert.Bdown.τ) (Cert.Bdown.main (F := Bits))) ⟨m, fun _ => 0, g⟩ (fun r => (∀ c : Dev Cert.Bdown.nD,
      r.2.mem ((c.tc : Thread Cert.Bdown.nD Cert.Bdown.τ).loc Cert.Bdown.main_arg0) = m ((c.tc : Thread Cert.Bdown.nD Cert.Bdown.τ).loc Cert.Bdown.main_arg0)
      ∧ r.2.mem ((c.tc : Thread Cert.Bdown.nD Cert.Bdown.τ).loc Cert.Bdown.main_arg1) = m ((c.tc : Thread Cert.Bdown.nD Cert.Bdown.τ).loc Cert.Bdown.main_arg1)
      ∧ r.2.mem ((c.tc : Thread Cert.Bdown.nD Cert.Bdown.τ).loc Cert.Bdown.main_arg2) = m ((c.tc : Thread Cert.Bdown.nD Cert.Bdown.τ).loc Cert.Bdown.main_arg2)
      ∧ r.2.mem ((c.tc : Thread Cert.Bdown.nD Cert.Bdown.τ).loc Cert.Bdown.main_arg3) = m ((c.tc : Thread Cert.Bdown.nD Cert.Bdown.τ).loc Cert.Bdown.main_arg3)
      ∧ r.2.mem ((c.tc : Thread Cert.Bdown.nD Cert.Bdown.τ).loc Cert.Bdown.main_arg4) = m ((c.tc : Thread Cert.Bdown.nD Cert.Bdown.τ).loc Cert.Bdown.main_arg4)
      ∧ r.2.mem ((c.tc : Thread Cert.Bdown.nD Cert.Bdown.τ).loc Cert.Bdown.main_arg5) = m ((c.tc : Thread Cert.Bdown.nD Cert.Bdown.τ).loc Cert.Bdown.main_arg5)
      ∧ r.2.mem ((c.tc : Thread Cert.Bdown.nD Cert.Bdown.τ).loc Cert.Bdown.main_arg6) = m ((c.tc : Thread Cert.Bdown.nD Cert.Bdown.τ).loc Cert.Bdown.main_arg6)
      ∧ r.2.mem ((c.tc : Thread Cert.Bdown.nD Cert.Bdown.τ).loc Cert.Bdown.main_arg7) = m ((c.tc : Thread Cert.Bdown.nD Cert.Bdown.τ).loc Cert.Bdown.main_arg7))
      ∧ r.2.sem = fun _ => 0)

def quiescent_BdownIdeal [hBdownIdeal : Cert.BdownIdeal.Facts] : Prop :=
  ∀ (m : (ℓ : Loc Cert.BdownIdeal.nD Cert.BdownIdeal.τ Cert.BdownIdeal.sig) → Buf (Elt Ideal) ℓ) (g : Dev Cert.BdownIdeal.nD → PrngReg), Pre_BdownIdeal m →
    θ_run (Cert.BdownIdeal.defs (F := Ideal)) (onTc (τ := Cert.BdownIdeal.τ) (Cert.BdownIdeal.main (F := Ideal))) ⟨m, fun _ => 0, g⟩ (fun r => (∀ c : Dev Cert.BdownIdeal.nD,
      r.2.mem ((c.tc : Thread Cert.BdownIdeal.nD Cert.BdownIdeal.τ).loc Cert.BdownIdeal.main_arg0) = m ((c.tc : Thread Cert.BdownIdeal.nD Cert.BdownIdeal.τ).loc Cert.BdownIdeal.main_arg0)
      ∧ r.2.mem ((c.tc : Thread Cert.BdownIdeal.nD Cert.BdownIdeal.τ).loc Cert.BdownIdeal.main_arg1) = m ((c.tc : Thread Cert.BdownIdeal.nD Cert.BdownIdeal.τ).loc Cert.BdownIdeal.main_arg1)
      ∧ r.2.mem ((c.tc : Thread Cert.BdownIdeal.nD Cert.BdownIdeal.τ).loc Cert.BdownIdeal.main_arg2) = m ((c.tc : Thread Cert.BdownIdeal.nD Cert.BdownIdeal.τ).loc Cert.BdownIdeal.main_arg2)
      ∧ r.2.mem ((c.tc : Thread Cert.BdownIdeal.nD Cert.BdownIdeal.τ).loc Cert.BdownIdeal.main_arg3) = m ((c.tc : Thread Cert.BdownIdeal.nD Cert.BdownIdeal.τ).loc Cert.BdownIdeal.main_arg3)
      ∧ r.2.mem ((c.tc : Thread Cert.BdownIdeal.nD Cert.BdownIdeal.τ).loc Cert.BdownIdeal.main_arg4) = m ((c.tc : Thread Cert.BdownIdeal.nD Cert.BdownIdeal.τ).loc Cert.BdownIdeal.main_arg4)
      ∧ r.2.mem ((c.tc : Thread Cert.BdownIdeal.nD Cert.BdownIdeal.τ).loc Cert.BdownIdeal.main_arg5) = m ((c.tc : Thread Cert.BdownIdeal.nD Cert.BdownIdeal.τ).loc Cert.BdownIdeal.main_arg5)
      ∧ r.2.mem ((c.tc : Thread Cert.BdownIdeal.nD Cert.BdownIdeal.τ).loc Cert.BdownIdeal.main_arg6) = m ((c.tc : Thread Cert.BdownIdeal.nD Cert.BdownIdeal.τ).loc Cert.BdownIdeal.main_arg6)
      ∧ r.2.mem ((c.tc : Thread Cert.BdownIdeal.nD Cert.BdownIdeal.τ).loc Cert.BdownIdeal.main_arg7) = m ((c.tc : Thread Cert.BdownIdeal.nD Cert.BdownIdeal.τ).loc Cert.BdownIdeal.main_arg7))
      ∧ r.2.sem = fun _ => 0)

def quiescent_BdownRefIdeal [hBdownRefIdeal : Cert.BdownRefIdeal.Facts] : Prop :=
  ∀ (m : (ℓ : Loc Cert.BdownRefIdeal.nD Cert.BdownRefIdeal.τ Cert.BdownRefIdeal.sig) → Buf (Elt Ideal) ℓ) (g : Dev Cert.BdownRefIdeal.nD → PrngReg), Pre_BdownRefIdeal m →
    θ_run (Cert.BdownRefIdeal.defs (F := Ideal)) (onTc (τ := Cert.BdownRefIdeal.τ) (Cert.BdownRefIdeal.main (F := Ideal))) ⟨m, fun _ => 0, g⟩ (fun r => (∀ c : Dev Cert.BdownRefIdeal.nD,
      r.2.mem ((c.tc : Thread Cert.BdownRefIdeal.nD Cert.BdownRefIdeal.τ).loc Cert.BdownRefIdeal.main_arg0) = m ((c.tc : Thread Cert.BdownRefIdeal.nD Cert.BdownRefIdeal.τ).loc Cert.BdownRefIdeal.main_arg0)
      ∧ r.2.mem ((c.tc : Thread Cert.BdownRefIdeal.nD Cert.BdownRefIdeal.τ).loc Cert.BdownRefIdeal.main_arg1) = m ((c.tc : Thread Cert.BdownRefIdeal.nD Cert.BdownRefIdeal.τ).loc Cert.BdownRefIdeal.main_arg1)
      ∧ r.2.mem ((c.tc : Thread Cert.BdownRefIdeal.nD Cert.BdownRefIdeal.τ).loc Cert.BdownRefIdeal.main_arg2) = m ((c.tc : Thread Cert.BdownRefIdeal.nD Cert.BdownRefIdeal.τ).loc Cert.BdownRefIdeal.main_arg2)
      ∧ r.2.mem ((c.tc : Thread Cert.BdownRefIdeal.nD Cert.BdownRefIdeal.τ).loc Cert.BdownRefIdeal.main_arg3) = m ((c.tc : Thread Cert.BdownRefIdeal.nD Cert.BdownRefIdeal.τ).loc Cert.BdownRefIdeal.main_arg3)
      ∧ r.2.mem ((c.tc : Thread Cert.BdownRefIdeal.nD Cert.BdownRefIdeal.τ).loc Cert.BdownRefIdeal.main_arg4) = m ((c.tc : Thread Cert.BdownRefIdeal.nD Cert.BdownRefIdeal.τ).loc Cert.BdownRefIdeal.main_arg4)
      ∧ r.2.mem ((c.tc : Thread Cert.BdownRefIdeal.nD Cert.BdownRefIdeal.τ).loc Cert.BdownRefIdeal.main_arg5) = m ((c.tc : Thread Cert.BdownRefIdeal.nD Cert.BdownRefIdeal.τ).loc Cert.BdownRefIdeal.main_arg5)
      ∧ r.2.mem ((c.tc : Thread Cert.BdownRefIdeal.nD Cert.BdownRefIdeal.τ).loc Cert.BdownRefIdeal.main_arg6) = m ((c.tc : Thread Cert.BdownRefIdeal.nD Cert.BdownRefIdeal.τ).loc Cert.BdownRefIdeal.main_arg6)
      ∧ r.2.mem ((c.tc : Thread Cert.BdownRefIdeal.nD Cert.BdownRefIdeal.τ).loc Cert.BdownRefIdeal.main_arg7) = m ((c.tc : Thread Cert.BdownRefIdeal.nD Cert.BdownRefIdeal.τ).loc Cert.BdownRefIdeal.main_arg7))
      ∧ r.2.sem = fun _ => 0)

def quiescent_Bpg [hBpg : Cert.Bpg.Facts] : Prop :=
  ∀ (m : (ℓ : Loc Cert.Bpg.nD Cert.Bpg.τ Cert.Bpg.sig) → Buf (Elt Bits) ℓ) (g : Dev Cert.Bpg.nD → PrngReg), Pre_Bpg m →
    θ_run (Cert.Bpg.defs (F := Bits)) (onTc (τ := Cert.Bpg.τ) (Cert.Bpg.main (F := Bits))) ⟨m, fun _ => 0, g⟩ (fun r => (∀ c : Dev Cert.Bpg.nD,
      r.2.mem ((c.tc : Thread Cert.Bpg.nD Cert.Bpg.τ).loc Cert.Bpg.main_arg0) = m ((c.tc : Thread Cert.Bpg.nD Cert.Bpg.τ).loc Cert.Bpg.main_arg0)
      ∧ r.2.mem ((c.tc : Thread Cert.Bpg.nD Cert.Bpg.τ).loc Cert.Bpg.main_arg1) = m ((c.tc : Thread Cert.Bpg.nD Cert.Bpg.τ).loc Cert.Bpg.main_arg1)
      ∧ r.2.mem ((c.tc : Thread Cert.Bpg.nD Cert.Bpg.τ).loc Cert.Bpg.main_arg2) = m ((c.tc : Thread Cert.Bpg.nD Cert.Bpg.τ).loc Cert.Bpg.main_arg2)
      ∧ r.2.mem ((c.tc : Thread Cert.Bpg.nD Cert.Bpg.τ).loc Cert.Bpg.main_arg3) = m ((c.tc : Thread Cert.Bpg.nD Cert.Bpg.τ).loc Cert.Bpg.main_arg3)
      ∧ r.2.mem ((c.tc : Thread Cert.Bpg.nD Cert.Bpg.τ).loc Cert.Bpg.main_arg4) = m ((c.tc : Thread Cert.Bpg.nD Cert.Bpg.τ).loc Cert.Bpg.main_arg4)
      ∧ r.2.mem ((c.tc : Thread Cert.Bpg.nD Cert.Bpg.τ).loc Cert.Bpg.main_arg5) = m ((c.tc : Thread Cert.Bpg.nD Cert.Bpg.τ).loc Cert.Bpg.main_arg5)
      ∧ r.2.mem ((c.tc : Thread Cert.Bpg.nD Cert.Bpg.τ).loc Cert.Bpg.main_arg6) = m ((c.tc : Thread Cert.Bpg.nD Cert.Bpg.τ).loc Cert.Bpg.main_arg6)
      ∧ r.2.mem ((c.tc : Thread Cert.Bpg.nD Cert.Bpg.τ).loc Cert.Bpg.main_arg7) = m ((c.tc : Thread Cert.Bpg.nD Cert.Bpg.τ).loc Cert.Bpg.main_arg7))
      ∧ r.2.sem = fun _ => 0)

def quiescent_BpgIdeal [hBpgIdeal : Cert.BpgIdeal.Facts] : Prop :=
  ∀ (m : (ℓ : Loc Cert.BpgIdeal.nD Cert.BpgIdeal.τ Cert.BpgIdeal.sig) → Buf (Elt Ideal) ℓ) (g : Dev Cert.BpgIdeal.nD → PrngReg), Pre_BpgIdeal m →
    θ_run (Cert.BpgIdeal.defs (F := Ideal)) (onTc (τ := Cert.BpgIdeal.τ) (Cert.BpgIdeal.main (F := Ideal))) ⟨m, fun _ => 0, g⟩ (fun r => (∀ c : Dev Cert.BpgIdeal.nD,
      r.2.mem ((c.tc : Thread Cert.BpgIdeal.nD Cert.BpgIdeal.τ).loc Cert.BpgIdeal.main_arg0) = m ((c.tc : Thread Cert.BpgIdeal.nD Cert.BpgIdeal.τ).loc Cert.BpgIdeal.main_arg0)
      ∧ r.2.mem ((c.tc : Thread Cert.BpgIdeal.nD Cert.BpgIdeal.τ).loc Cert.BpgIdeal.main_arg1) = m ((c.tc : Thread Cert.BpgIdeal.nD Cert.BpgIdeal.τ).loc Cert.BpgIdeal.main_arg1)
      ∧ r.2.mem ((c.tc : Thread Cert.BpgIdeal.nD Cert.BpgIdeal.τ).loc Cert.BpgIdeal.main_arg2) = m ((c.tc : Thread Cert.BpgIdeal.nD Cert.BpgIdeal.τ).loc Cert.BpgIdeal.main_arg2)
      ∧ r.2.mem ((c.tc : Thread Cert.BpgIdeal.nD Cert.BpgIdeal.τ).loc Cert.BpgIdeal.main_arg3) = m ((c.tc : Thread Cert.BpgIdeal.nD Cert.BpgIdeal.τ).loc Cert.BpgIdeal.main_arg3)
      ∧ r.2.mem ((c.tc : Thread Cert.BpgIdeal.nD Cert.BpgIdeal.τ).loc Cert.BpgIdeal.main_arg4) = m ((c.tc : Thread Cert.BpgIdeal.nD Cert.BpgIdeal.τ).loc Cert.BpgIdeal.main_arg4)
      ∧ r.2.mem ((c.tc : Thread Cert.BpgIdeal.nD Cert.BpgIdeal.τ).loc Cert.BpgIdeal.main_arg5) = m ((c.tc : Thread Cert.BpgIdeal.nD Cert.BpgIdeal.τ).loc Cert.BpgIdeal.main_arg5)
      ∧ r.2.mem ((c.tc : Thread Cert.BpgIdeal.nD Cert.BpgIdeal.τ).loc Cert.BpgIdeal.main_arg6) = m ((c.tc : Thread Cert.BpgIdeal.nD Cert.BpgIdeal.τ).loc Cert.BpgIdeal.main_arg6)
      ∧ r.2.mem ((c.tc : Thread Cert.BpgIdeal.nD Cert.BpgIdeal.τ).loc Cert.BpgIdeal.main_arg7) = m ((c.tc : Thread Cert.BpgIdeal.nD Cert.BpgIdeal.τ).loc Cert.BpgIdeal.main_arg7))
      ∧ r.2.sem = fun _ => 0)

def quiescent_BpgRefIdeal [hBpgRefIdeal : Cert.BpgRefIdeal.Facts] : Prop :=
  ∀ (m : (ℓ : Loc Cert.BpgRefIdeal.nD Cert.BpgRefIdeal.τ Cert.BpgRefIdeal.sig) → Buf (Elt Ideal) ℓ) (g : Dev Cert.BpgRefIdeal.nD → PrngReg), Pre_BpgRefIdeal m →
    θ_run (Cert.BpgRefIdeal.defs (F := Ideal)) (onTc (τ := Cert.BpgRefIdeal.τ) (Cert.BpgRefIdeal.main (F := Ideal))) ⟨m, fun _ => 0, g⟩ (fun r => (∀ c : Dev Cert.BpgRefIdeal.nD,
      r.2.mem ((c.tc : Thread Cert.BpgRefIdeal.nD Cert.BpgRefIdeal.τ).loc Cert.BpgRefIdeal.main_arg0) = m ((c.tc : Thread Cert.BpgRefIdeal.nD Cert.BpgRefIdeal.τ).loc Cert.BpgRefIdeal.main_arg0)
      ∧ r.2.mem ((c.tc : Thread Cert.BpgRefIdeal.nD Cert.BpgRefIdeal.τ).loc Cert.BpgRefIdeal.main_arg1) = m ((c.tc : Thread Cert.BpgRefIdeal.nD Cert.BpgRefIdeal.τ).loc Cert.BpgRefIdeal.main_arg1)
      ∧ r.2.mem ((c.tc : Thread Cert.BpgRefIdeal.nD Cert.BpgRefIdeal.τ).loc Cert.BpgRefIdeal.main_arg2) = m ((c.tc : Thread Cert.BpgRefIdeal.nD Cert.BpgRefIdeal.τ).loc Cert.BpgRefIdeal.main_arg2)
      ∧ r.2.mem ((c.tc : Thread Cert.BpgRefIdeal.nD Cert.BpgRefIdeal.τ).loc Cert.BpgRefIdeal.main_arg3) = m ((c.tc : Thread Cert.BpgRefIdeal.nD Cert.BpgRefIdeal.τ).loc Cert.BpgRefIdeal.main_arg3)
      ∧ r.2.mem ((c.tc : Thread Cert.BpgRefIdeal.nD Cert.BpgRefIdeal.τ).loc Cert.BpgRefIdeal.main_arg4) = m ((c.tc : Thread Cert.BpgRefIdeal.nD Cert.BpgRefIdeal.τ).loc Cert.BpgRefIdeal.main_arg4)
      ∧ r.2.mem ((c.tc : Thread Cert.BpgRefIdeal.nD Cert.BpgRefIdeal.τ).loc Cert.BpgRefIdeal.main_arg5) = m ((c.tc : Thread Cert.BpgRefIdeal.nD Cert.BpgRefIdeal.τ).loc Cert.BpgRefIdeal.main_arg5)
      ∧ r.2.mem ((c.tc : Thread Cert.BpgRefIdeal.nD Cert.BpgRefIdeal.τ).loc Cert.BpgRefIdeal.main_arg6) = m ((c.tc : Thread Cert.BpgRefIdeal.nD Cert.BpgRefIdeal.τ).loc Cert.BpgRefIdeal.main_arg6)
      ∧ r.2.mem ((c.tc : Thread Cert.BpgRefIdeal.nD Cert.BpgRefIdeal.τ).loc Cert.BpgRefIdeal.main_arg7) = m ((c.tc : Thread Cert.BpgRefIdeal.nD Cert.BpgRefIdeal.τ).loc Cert.BpgRefIdeal.main_arg7))
      ∧ r.2.sem = fun _ => 0)

def quiescent_Bpp [hBpp : Cert.Bpp.Facts] : Prop :=
  ∀ (m : (ℓ : Loc Cert.Bpp.nD Cert.Bpp.τ Cert.Bpp.sig) → Buf (Elt Bits) ℓ) (g : Dev Cert.Bpp.nD → PrngReg), Pre_Bpp m →
    θ_run (Cert.Bpp.defs (F := Bits)) (onTc (τ := Cert.Bpp.τ) (Cert.Bpp.main (F := Bits))) ⟨m, fun _ => 0, g⟩ (fun r => (∀ c : Dev Cert.Bpp.nD,
      r.2.mem ((c.tc : Thread Cert.Bpp.nD Cert.Bpp.τ).loc Cert.Bpp.main_arg0) = m ((c.tc : Thread Cert.Bpp.nD Cert.Bpp.τ).loc Cert.Bpp.main_arg0)
      ∧ r.2.mem ((c.tc : Thread Cert.Bpp.nD Cert.Bpp.τ).loc Cert.Bpp.main_arg1) = m ((c.tc : Thread Cert.Bpp.nD Cert.Bpp.τ).loc Cert.Bpp.main_arg1)
      ∧ r.2.mem ((c.tc : Thread Cert.Bpp.nD Cert.Bpp.τ).loc Cert.Bpp.main_arg2) = m ((c.tc : Thread Cert.Bpp.nD Cert.Bpp.τ).loc Cert.Bpp.main_arg2)
      ∧ r.2.mem ((c.tc : Thread Cert.Bpp.nD Cert.Bpp.τ).loc Cert.Bpp.main_arg3) = m ((c.tc : Thread Cert.Bpp.nD Cert.Bpp.τ).loc Cert.Bpp.main_arg3)
      ∧ r.2.mem ((c.tc : Thread Cert.Bpp.nD Cert.Bpp.τ).loc Cert.Bpp.main_arg4) = m ((c.tc : Thread Cert.Bpp.nD Cert.Bpp.τ).loc Cert.Bpp.main_arg4)
      ∧ r.2.mem ((c.tc : Thread Cert.Bpp.nD Cert.Bpp.τ).loc Cert.Bpp.main_arg5) = m ((c.tc : Thread Cert.Bpp.nD Cert.Bpp.τ).loc Cert.Bpp.main_arg5)
      ∧ r.2.mem ((c.tc : Thread Cert.Bpp.nD Cert.Bpp.τ).loc Cert.Bpp.main_arg6) = m ((c.tc : Thread Cert.Bpp.nD Cert.Bpp.τ).loc Cert.Bpp.main_arg6)
      ∧ r.2.mem ((c.tc : Thread Cert.Bpp.nD Cert.Bpp.τ).loc Cert.Bpp.main_arg7) = m ((c.tc : Thread Cert.Bpp.nD Cert.Bpp.τ).loc Cert.Bpp.main_arg7))
      ∧ r.2.sem = fun _ => 0)

def quiescent_BppIdeal [hBppIdeal : Cert.BppIdeal.Facts] : Prop :=
  ∀ (m : (ℓ : Loc Cert.BppIdeal.nD Cert.BppIdeal.τ Cert.BppIdeal.sig) → Buf (Elt Ideal) ℓ) (g : Dev Cert.BppIdeal.nD → PrngReg), Pre_BppIdeal m →
    θ_run (Cert.BppIdeal.defs (F := Ideal)) (onTc (τ := Cert.BppIdeal.τ) (Cert.BppIdeal.main (F := Ideal))) ⟨m, fun _ => 0, g⟩ (fun r => (∀ c : Dev Cert.BppIdeal.nD,
      r.2.mem ((c.tc : Thread Cert.BppIdeal.nD Cert.BppIdeal.τ).loc Cert.BppIdeal.main_arg0) = m ((c.tc : Thread Cert.BppIdeal.nD Cert.BppIdeal.τ).loc Cert.BppIdeal.main_arg0)
      ∧ r.2.mem ((c.tc : Thread Cert.BppIdeal.nD Cert.BppIdeal.τ).loc Cert.BppIdeal.main_arg1) = m ((c.tc : Thread Cert.BppIdeal.nD Cert.BppIdeal.τ).loc Cert.BppIdeal.main_arg1)
      ∧ r.2.mem ((c.tc : Thread Cert.BppIdeal.nD Cert.BppIdeal.τ).loc Cert.BppIdeal.main_arg2) = m ((c.tc : Thread Cert.BppIdeal.nD Cert.BppIdeal.τ).loc Cert.BppIdeal.main_arg2)
      ∧ r.2.mem ((c.tc : Thread Cert.BppIdeal.nD Cert.BppIdeal.τ).loc Cert.BppIdeal.main_arg3) = m ((c.tc : Thread Cert.BppIdeal.nD Cert.BppIdeal.τ).loc Cert.BppIdeal.main_arg3)
      ∧ r.2.mem ((c.tc : Thread Cert.BppIdeal.nD Cert.BppIdeal.τ).loc Cert.BppIdeal.main_arg4) = m ((c.tc : Thread Cert.BppIdeal.nD Cert.BppIdeal.τ).loc Cert.BppIdeal.main_arg4)
      ∧ r.2.mem ((c.tc : Thread Cert.BppIdeal.nD Cert.BppIdeal.τ).loc Cert.BppIdeal.main_arg5) = m ((c.tc : Thread Cert.BppIdeal.nD Cert.BppIdeal.τ).loc Cert.BppIdeal.main_arg5)
      ∧ r.2.mem ((c.tc : Thread Cert.BppIdeal.nD Cert.BppIdeal.τ).loc Cert.BppIdeal.main_arg6) = m ((c.tc : Thread Cert.BppIdeal.nD Cert.BppIdeal.τ).loc Cert.BppIdeal.main_arg6)
      ∧ r.2.mem ((c.tc : Thread Cert.BppIdeal.nD Cert.BppIdeal.τ).loc Cert.BppIdeal.main_arg7) = m ((c.tc : Thread Cert.BppIdeal.nD Cert.BppIdeal.τ).loc Cert.BppIdeal.main_arg7))
      ∧ r.2.sem = fun _ => 0)

def quiescent_BppRefIdeal [hBppRefIdeal : Cert.BppRefIdeal.Facts] : Prop :=
  ∀ (m : (ℓ : Loc Cert.BppRefIdeal.nD Cert.BppRefIdeal.τ Cert.BppRefIdeal.sig) → Buf (Elt Ideal) ℓ) (g : Dev Cert.BppRefIdeal.nD → PrngReg), Pre_BppRefIdeal m →
    θ_run (Cert.BppRefIdeal.defs (F := Ideal)) (onTc (τ := Cert.BppRefIdeal.τ) (Cert.BppRefIdeal.main (F := Ideal))) ⟨m, fun _ => 0, g⟩ (fun r => (∀ c : Dev Cert.BppRefIdeal.nD,
      r.2.mem ((c.tc : Thread Cert.BppRefIdeal.nD Cert.BppRefIdeal.τ).loc Cert.BppRefIdeal.main_arg0) = m ((c.tc : Thread Cert.BppRefIdeal.nD Cert.BppRefIdeal.τ).loc Cert.BppRefIdeal.main_arg0)
      ∧ r.2.mem ((c.tc : Thread Cert.BppRefIdeal.nD Cert.BppRefIdeal.τ).loc Cert.BppRefIdeal.main_arg1) = m ((c.tc : Thread Cert.BppRefIdeal.nD Cert.BppRefIdeal.τ).loc Cert.BppRefIdeal.main_arg1)
      ∧ r.2.mem ((c.tc : Thread Cert.BppRefIdeal.nD Cert.BppRefIdeal.τ).loc Cert.BppRefIdeal.main_arg2) = m ((c.tc : Thread Cert.BppRefIdeal.nD Cert.BppRefIdeal.τ).loc Cert.BppRefIdeal.main_arg2)
      ∧ r.2.mem ((c.tc : Thread Cert.BppRefIdeal.nD Cert.BppRefIdeal.τ).loc Cert.BppRefIdeal.main_arg3) = m ((c.tc : Thread Cert.BppRefIdeal.nD Cert.BppRefIdeal.τ).loc Cert.BppRefIdeal.main_arg3)
      ∧ r.2.mem ((c.tc : Thread Cert.BppRefIdeal.nD Cert.BppRefIdeal.τ).loc Cert.BppRefIdeal.main_arg4) = m ((c.tc : Thread Cert.BppRefIdeal.nD Cert.BppRefIdeal.τ).loc Cert.BppRefIdeal.main_arg4)
      ∧ r.2.mem ((c.tc : Thread Cert.BppRefIdeal.nD Cert.BppRefIdeal.τ).loc Cert.BppRefIdeal.main_arg5) = m ((c.tc : Thread Cert.BppRefIdeal.nD Cert.BppRefIdeal.τ).loc Cert.BppRefIdeal.main_arg5)
      ∧ r.2.mem ((c.tc : Thread Cert.BppRefIdeal.nD Cert.BppRefIdeal.τ).loc Cert.BppRefIdeal.main_arg6) = m ((c.tc : Thread Cert.BppRefIdeal.nD Cert.BppRefIdeal.τ).loc Cert.BppRefIdeal.main_arg6)
      ∧ r.2.mem ((c.tc : Thread Cert.BppRefIdeal.nD Cert.BppRefIdeal.τ).loc Cert.BppRefIdeal.main_arg7) = m ((c.tc : Thread Cert.BppRefIdeal.nD Cert.BppRefIdeal.τ).loc Cert.BppRefIdeal.main_arg7))
      ∧ r.2.sem = fun _ => 0)

def quiescent_Bab [hBab : Cert.Bab.Facts] : Prop :=
  ∀ (m : (ℓ : Loc Cert.Bab.nD Cert.Bab.τ Cert.Bab.sig) → Buf (Elt Bits) ℓ) (g : Dev Cert.Bab.nD → PrngReg), Pre_Bab m →
    θ_run (Cert.Bab.defs (F := Bits)) (onTc (τ := Cert.Bab.τ) (Cert.Bab.main (F := Bits))) ⟨m, fun _ => 0, g⟩ (fun r => (∀ c : Dev Cert.Bab.nD,
      r.2.mem ((c.tc : Thread Cert.Bab.nD Cert.Bab.τ).loc Cert.Bab.main_arg0) = m ((c.tc : Thread Cert.Bab.nD Cert.Bab.τ).loc Cert.Bab.main_arg0)
      ∧ r.2.mem ((c.tc : Thread Cert.Bab.nD Cert.Bab.τ).loc Cert.Bab.main_arg1) = m ((c.tc : Thread Cert.Bab.nD Cert.Bab.τ).loc Cert.Bab.main_arg1)
      ∧ r.2.mem ((c.tc : Thread Cert.Bab.nD Cert.Bab.τ).loc Cert.Bab.main_arg2) = m ((c.tc : Thread Cert.Bab.nD Cert.Bab.τ).loc Cert.Bab.main_arg2)
      ∧ r.2.mem ((c.tc : Thread Cert.Bab.nD Cert.Bab.τ).loc Cert.Bab.main_arg3) = m ((c.tc : Thread Cert.Bab.nD Cert.Bab.τ).loc Cert.Bab.main_arg3)
      ∧ r.2.mem ((c.tc : Thread Cert.Bab.nD Cert.Bab.τ).loc Cert.Bab.main_arg4) = m ((c.tc : Thread Cert.Bab.nD Cert.Bab.τ).loc Cert.Bab.main_arg4)
      ∧ r.2.mem ((c.tc : Thread Cert.Bab.nD Cert.Bab.τ).loc Cert.Bab.main_arg5) = m ((c.tc : Thread Cert.Bab.nD Cert.Bab.τ).loc Cert.Bab.main_arg5))
      ∧ r.2.sem = fun _ => 0)

def quiescent_BabIdeal [hBabIdeal : Cert.BabIdeal.Facts] : Prop :=
  ∀ (m : (ℓ : Loc Cert.BabIdeal.nD Cert.BabIdeal.τ Cert.BabIdeal.sig) → Buf (Elt Ideal) ℓ) (g : Dev Cert.BabIdeal.nD → PrngReg), Pre_BabIdeal m →
    θ_run (Cert.BabIdeal.defs (F := Ideal)) (onTc (τ := Cert.BabIdeal.τ) (Cert.BabIdeal.main (F := Ideal))) ⟨m, fun _ => 0, g⟩ (fun r => (∀ c : Dev Cert.BabIdeal.nD,
      r.2.mem ((c.tc : Thread Cert.BabIdeal.nD Cert.BabIdeal.τ).loc Cert.BabIdeal.main_arg0) = m ((c.tc : Thread Cert.BabIdeal.nD Cert.BabIdeal.τ).loc Cert.BabIdeal.main_arg0)
      ∧ r.2.mem ((c.tc : Thread Cert.BabIdeal.nD Cert.BabIdeal.τ).loc Cert.BabIdeal.main_arg1) = m ((c.tc : Thread Cert.BabIdeal.nD Cert.BabIdeal.τ).loc Cert.BabIdeal.main_arg1)
      ∧ r.2.mem ((c.tc : Thread Cert.BabIdeal.nD Cert.BabIdeal.τ).loc Cert.BabIdeal.main_arg2) = m ((c.tc : Thread Cert.BabIdeal.nD Cert.BabIdeal.τ).loc Cert.BabIdeal.main_arg2)
      ∧ r.2.mem ((c.tc : Thread Cert.BabIdeal.nD Cert.BabIdeal.τ).loc Cert.BabIdeal.main_arg3) = m ((c.tc : Thread Cert.BabIdeal.nD Cert.BabIdeal.τ).loc Cert.BabIdeal.main_arg3)
      ∧ r.2.mem ((c.tc : Thread Cert.BabIdeal.nD Cert.BabIdeal.τ).loc Cert.BabIdeal.main_arg4) = m ((c.tc : Thread Cert.BabIdeal.nD Cert.BabIdeal.τ).loc Cert.BabIdeal.main_arg4)
      ∧ r.2.mem ((c.tc : Thread Cert.BabIdeal.nD Cert.BabIdeal.τ).loc Cert.BabIdeal.main_arg5) = m ((c.tc : Thread Cert.BabIdeal.nD Cert.BabIdeal.τ).loc Cert.BabIdeal.main_arg5))
      ∧ r.2.sem = fun _ => 0)

def quiescent_BabRefIdeal [hBabRefIdeal : Cert.BabRefIdeal.Facts] : Prop :=
  ∀ (m : (ℓ : Loc Cert.BabRefIdeal.nD Cert.BabRefIdeal.τ Cert.BabRefIdeal.sig) → Buf (Elt Ideal) ℓ) (g : Dev Cert.BabRefIdeal.nD → PrngReg), Pre_BabRefIdeal m →
    θ_run (Cert.BabRefIdeal.defs (F := Ideal)) (onTc (τ := Cert.BabRefIdeal.τ) (Cert.BabRefIdeal.main (F := Ideal))) ⟨m, fun _ => 0, g⟩ (fun r => (∀ c : Dev Cert.BabRefIdeal.nD,
      r.2.mem ((c.tc : Thread Cert.BabRefIdeal.nD Cert.BabRefIdeal.τ).loc Cert.BabRefIdeal.main_arg0) = m ((c.tc : Thread Cert.BabRefIdeal.nD Cert.BabRefIdeal.τ).loc Cert.BabRefIdeal.main_arg0)
      ∧ r.2.mem ((c.tc : Thread Cert.BabRefIdeal.nD Cert.BabRefIdeal.τ).loc Cert.BabRefIdeal.main_arg1) = m ((c.tc : Thread Cert.BabRefIdeal.nD Cert.BabRefIdeal.τ).loc Cert.BabRefIdeal.main_arg1)
      ∧ r.2.mem ((c.tc : Thread Cert.BabRefIdeal.nD Cert.BabRefIdeal.τ).loc Cert.BabRefIdeal.main_arg2) = m ((c.tc : Thread Cert.BabRefIdeal.nD Cert.BabRefIdeal.τ).loc Cert.BabRefIdeal.main_arg2)
      ∧ r.2.mem ((c.tc : Thread Cert.BabRefIdeal.nD Cert.BabRefIdeal.τ).loc Cert.BabRefIdeal.main_arg3) = m ((c.tc : Thread Cert.BabRefIdeal.nD Cert.BabRefIdeal.τ).loc Cert.BabRefIdeal.main_arg3)
      ∧ r.2.mem ((c.tc : Thread Cert.BabRefIdeal.nD Cert.BabRefIdeal.τ).loc Cert.BabRefIdeal.main_arg4) = m ((c.tc : Thread Cert.BabRefIdeal.nD Cert.BabRefIdeal.τ).loc Cert.BabRefIdeal.main_arg4)
      ∧ r.2.mem ((c.tc : Thread Cert.BabRefIdeal.nD Cert.BabRefIdeal.τ).loc Cert.BabRefIdeal.main_arg5) = m ((c.tc : Thread Cert.BabRefIdeal.nD Cert.BabRefIdeal.τ).loc Cert.BabRefIdeal.main_arg5))
      ∧ r.2.sem = fun _ => 0)

def quiescent_Babo [hBabo : Cert.Babo.Facts] : Prop :=
  ∀ (m : (ℓ : Loc Cert.Babo.nD Cert.Babo.τ Cert.Babo.sig) → Buf (Elt Bits) ℓ) (g : Dev Cert.Babo.nD → PrngReg), Pre_Babo m →
    θ_run (Cert.Babo.defs (F := Bits)) (onTc (τ := Cert.Babo.τ) (Cert.Babo.main (F := Bits))) ⟨m, fun _ => 0, g⟩ (fun r => (∀ c : Dev Cert.Babo.nD,
      r.2.mem ((c.tc : Thread Cert.Babo.nD Cert.Babo.τ).loc Cert.Babo.main_arg0) = m ((c.tc : Thread Cert.Babo.nD Cert.Babo.τ).loc Cert.Babo.main_arg0)
      ∧ r.2.mem ((c.tc : Thread Cert.Babo.nD Cert.Babo.τ).loc Cert.Babo.main_arg1) = m ((c.tc : Thread Cert.Babo.nD Cert.Babo.τ).loc Cert.Babo.main_arg1)
      ∧ r.2.mem ((c.tc : Thread Cert.Babo.nD Cert.Babo.τ).loc Cert.Babo.main_arg2) = m ((c.tc : Thread Cert.Babo.nD Cert.Babo.τ).loc Cert.Babo.main_arg2)
      ∧ r.2.mem ((c.tc : Thread Cert.Babo.nD Cert.Babo.τ).loc Cert.Babo.main_arg3) = m ((c.tc : Thread Cert.Babo.nD Cert.Babo.τ).loc Cert.Babo.main_arg3)
      ∧ r.2.mem ((c.tc : Thread Cert.Babo.nD Cert.Babo.τ).loc Cert.Babo.main_arg4) = m ((c.tc : Thread Cert.Babo.nD Cert.Babo.τ).loc Cert.Babo.main_arg4)
      ∧ r.2.mem ((c.tc : Thread Cert.Babo.nD Cert.Babo.τ).loc Cert.Babo.main_arg5) = m ((c.tc : Thread Cert.Babo.nD Cert.Babo.τ).loc Cert.Babo.main_arg5))
      ∧ r.2.sem = fun _ => 0)

def quiescent_BaboIdeal [hBaboIdeal : Cert.BaboIdeal.Facts] : Prop :=
  ∀ (m : (ℓ : Loc Cert.BaboIdeal.nD Cert.BaboIdeal.τ Cert.BaboIdeal.sig) → Buf (Elt Ideal) ℓ) (g : Dev Cert.BaboIdeal.nD → PrngReg), Pre_BaboIdeal m →
    θ_run (Cert.BaboIdeal.defs (F := Ideal)) (onTc (τ := Cert.BaboIdeal.τ) (Cert.BaboIdeal.main (F := Ideal))) ⟨m, fun _ => 0, g⟩ (fun r => (∀ c : Dev Cert.BaboIdeal.nD,
      r.2.mem ((c.tc : Thread Cert.BaboIdeal.nD Cert.BaboIdeal.τ).loc Cert.BaboIdeal.main_arg0) = m ((c.tc : Thread Cert.BaboIdeal.nD Cert.BaboIdeal.τ).loc Cert.BaboIdeal.main_arg0)
      ∧ r.2.mem ((c.tc : Thread Cert.BaboIdeal.nD Cert.BaboIdeal.τ).loc Cert.BaboIdeal.main_arg1) = m ((c.tc : Thread Cert.BaboIdeal.nD Cert.BaboIdeal.τ).loc Cert.BaboIdeal.main_arg1)
      ∧ r.2.mem ((c.tc : Thread Cert.BaboIdeal.nD Cert.BaboIdeal.τ).loc Cert.BaboIdeal.main_arg2) = m ((c.tc : Thread Cert.BaboIdeal.nD Cert.BaboIdeal.τ).loc Cert.BaboIdeal.main_arg2)
      ∧ r.2.mem ((c.tc : Thread Cert.BaboIdeal.nD Cert.BaboIdeal.τ).loc Cert.BaboIdeal.main_arg3) = m ((c.tc : Thread Cert.BaboIdeal.nD Cert.BaboIdeal.τ).loc Cert.BaboIdeal.main_arg3)
      ∧ r.2.mem ((c.tc : Thread Cert.BaboIdeal.nD Cert.BaboIdeal.τ).loc Cert.BaboIdeal.main_arg4) = m ((c.tc : Thread Cert.BaboIdeal.nD Cert.BaboIdeal.τ).loc Cert.BaboIdeal.main_arg4)
      ∧ r.2.mem ((c.tc : Thread Cert.BaboIdeal.nD Cert.BaboIdeal.τ).loc Cert.BaboIdeal.main_arg5) = m ((c.tc : Thread Cert.BaboIdeal.nD Cert.BaboIdeal.τ).loc Cert.BaboIdeal.main_arg5))
      ∧ r.2.sem = fun _ => 0)

def quiescent_BaboRefIdeal [hBaboRefIdeal : Cert.BaboRefIdeal.Facts] : Prop :=
  ∀ (m : (ℓ : Loc Cert.BaboRefIdeal.nD Cert.BaboRefIdeal.τ Cert.BaboRefIdeal.sig) → Buf (Elt Ideal) ℓ) (g : Dev Cert.BaboRefIdeal.nD → PrngReg), Pre_BaboRefIdeal m →
    θ_run (Cert.BaboRefIdeal.defs (F := Ideal)) (onTc (τ := Cert.BaboRefIdeal.τ) (Cert.BaboRefIdeal.main (F := Ideal))) ⟨m, fun _ => 0, g⟩ (fun r => (∀ c : Dev Cert.BaboRefIdeal.nD,
      r.2.mem ((c.tc : Thread Cert.BaboRefIdeal.nD Cert.BaboRefIdeal.τ).loc Cert.BaboRefIdeal.main_arg0) = m ((c.tc : Thread Cert.BaboRefIdeal.nD Cert.BaboRefIdeal.τ).loc Cert.BaboRefIdeal.main_arg0)
      ∧ r.2.mem ((c.tc : Thread Cert.BaboRefIdeal.nD Cert.BaboRefIdeal.τ).loc Cert.BaboRefIdeal.main_arg1) = m ((c.tc : Thread Cert.BaboRefIdeal.nD Cert.BaboRefIdeal.τ).loc Cert.BaboRefIdeal.main_arg1)
      ∧ r.2.mem ((c.tc : Thread Cert.BaboRefIdeal.nD Cert.BaboRefIdeal.τ).loc Cert.BaboRefIdeal.main_arg2) = m ((c.tc : Thread Cert.BaboRefIdeal.nD Cert.BaboRefIdeal.τ).loc Cert.BaboRefIdeal.main_arg2)
      ∧ r.2.mem ((c.tc : Thread Cert.BaboRefIdeal.nD Cert.BaboRefIdeal.τ).loc Cert.BaboRefIdeal.main_arg3) = m ((c.tc : Thread Cert.BaboRefIdeal.nD Cert.BaboRefIdeal.τ).loc Cert.BaboRefIdeal.main_arg3)
      ∧ r.2.mem ((c.tc : Thread Cert.BaboRefIdeal.nD Cert.BaboRefIdeal.τ).loc Cert.BaboRefIdeal.main_arg4) = m ((c.tc : Thread Cert.BaboRefIdeal.nD Cert.BaboRefIdeal.τ).loc Cert.BaboRefIdeal.main_arg4)
      ∧ r.2.mem ((c.tc : Thread Cert.BaboRefIdeal.nD Cert.BaboRefIdeal.τ).loc Cert.BaboRefIdeal.main_arg5) = m ((c.tc : Thread Cert.BaboRefIdeal.nD Cert.BaboRefIdeal.τ).loc Cert.BaboRefIdeal.main_arg5))
      ∧ r.2.sem = fun _ => 0)

def quiescent_Bssi [hBssi : Cert.Bssi.Facts] : Prop :=
  ∀ (m : (ℓ : Loc Cert.Bssi.nD Cert.Bssi.τ Cert.Bssi.sig) → Buf (Elt Bits) ℓ) (g : Dev Cert.Bssi.nD → PrngReg), Pre_Bssi m →
    θ_run (Cert.Bssi.defs (F := Bits)) (onTc (τ := Cert.Bssi.τ) (Cert.Bssi.main (F := Bits))) ⟨m, fun _ => 0, g⟩ (fun r => (∀ c : Dev Cert.Bssi.nD,
      r.2.mem ((c.tc : Thread Cert.Bssi.nD Cert.Bssi.τ).loc Cert.Bssi.main_arg0) = m ((c.tc : Thread Cert.Bssi.nD Cert.Bssi.τ).loc Cert.Bssi.main_arg0)
      ∧ r.2.mem ((c.tc : Thread Cert.Bssi.nD Cert.Bssi.τ).loc Cert.Bssi.main_arg1) = m ((c.tc : Thread Cert.Bssi.nD Cert.Bssi.τ).loc Cert.Bssi.main_arg1)
      ∧ r.2.mem ((c.tc : Thread Cert.Bssi.nD Cert.Bssi.τ).loc Cert.Bssi.main_arg2) = m ((c.tc : Thread Cert.Bssi.nD Cert.Bssi.τ).loc Cert.Bssi.main_arg2)
      ∧ r.2.mem ((c.tc : Thread Cert.Bssi.nD Cert.Bssi.τ).loc Cert.Bssi.main_arg3) = m ((c.tc : Thread Cert.Bssi.nD Cert.Bssi.τ).loc Cert.Bssi.main_arg3)
      ∧ r.2.mem ((c.tc : Thread Cert.Bssi.nD Cert.Bssi.τ).loc Cert.Bssi.main_arg4) = m ((c.tc : Thread Cert.Bssi.nD Cert.Bssi.τ).loc Cert.Bssi.main_arg4)
      ∧ r.2.mem ((c.tc : Thread Cert.Bssi.nD Cert.Bssi.τ).loc Cert.Bssi.main_arg5) = m ((c.tc : Thread Cert.Bssi.nD Cert.Bssi.τ).loc Cert.Bssi.main_arg5))
      ∧ r.2.sem = fun _ => 0)

def quiescent_BssiIdeal [hBssiIdeal : Cert.BssiIdeal.Facts] : Prop :=
  ∀ (m : (ℓ : Loc Cert.BssiIdeal.nD Cert.BssiIdeal.τ Cert.BssiIdeal.sig) → Buf (Elt Ideal) ℓ) (g : Dev Cert.BssiIdeal.nD → PrngReg), Pre_BssiIdeal m →
    θ_run (Cert.BssiIdeal.defs (F := Ideal)) (onTc (τ := Cert.BssiIdeal.τ) (Cert.BssiIdeal.main (F := Ideal))) ⟨m, fun _ => 0, g⟩ (fun r => (∀ c : Dev Cert.BssiIdeal.nD,
      r.2.mem ((c.tc : Thread Cert.BssiIdeal.nD Cert.BssiIdeal.τ).loc Cert.BssiIdeal.main_arg0) = m ((c.tc : Thread Cert.BssiIdeal.nD Cert.BssiIdeal.τ).loc Cert.BssiIdeal.main_arg0)
      ∧ r.2.mem ((c.tc : Thread Cert.BssiIdeal.nD Cert.BssiIdeal.τ).loc Cert.BssiIdeal.main_arg1) = m ((c.tc : Thread Cert.BssiIdeal.nD Cert.BssiIdeal.τ).loc Cert.BssiIdeal.main_arg1)
      ∧ r.2.mem ((c.tc : Thread Cert.BssiIdeal.nD Cert.BssiIdeal.τ).loc Cert.BssiIdeal.main_arg2) = m ((c.tc : Thread Cert.BssiIdeal.nD Cert.BssiIdeal.τ).loc Cert.BssiIdeal.main_arg2)
      ∧ r.2.mem ((c.tc : Thread Cert.BssiIdeal.nD Cert.BssiIdeal.τ).loc Cert.BssiIdeal.main_arg3) = m ((c.tc : Thread Cert.BssiIdeal.nD Cert.BssiIdeal.τ).loc Cert.BssiIdeal.main_arg3)
      ∧ r.2.mem ((c.tc : Thread Cert.BssiIdeal.nD Cert.BssiIdeal.τ).loc Cert.BssiIdeal.main_arg4) = m ((c.tc : Thread Cert.BssiIdeal.nD Cert.BssiIdeal.τ).loc Cert.BssiIdeal.main_arg4)
      ∧ r.2.mem ((c.tc : Thread Cert.BssiIdeal.nD Cert.BssiIdeal.τ).loc Cert.BssiIdeal.main_arg5) = m ((c.tc : Thread Cert.BssiIdeal.nD Cert.BssiIdeal.τ).loc Cert.BssiIdeal.main_arg5))
      ∧ r.2.sem = fun _ => 0)

def quiescent_BssiRefIdeal [hBssiRefIdeal : Cert.BssiRefIdeal.Facts] : Prop :=
  ∀ (m : (ℓ : Loc Cert.BssiRefIdeal.nD Cert.BssiRefIdeal.τ Cert.BssiRefIdeal.sig) → Buf (Elt Ideal) ℓ) (g : Dev Cert.BssiRefIdeal.nD → PrngReg), Pre_BssiRefIdeal m →
    θ_run (Cert.BssiRefIdeal.defs (F := Ideal)) (onTc (τ := Cert.BssiRefIdeal.τ) (Cert.BssiRefIdeal.main (F := Ideal))) ⟨m, fun _ => 0, g⟩ (fun r => (∀ c : Dev Cert.BssiRefIdeal.nD,
      r.2.mem ((c.tc : Thread Cert.BssiRefIdeal.nD Cert.BssiRefIdeal.τ).loc Cert.BssiRefIdeal.main_arg0) = m ((c.tc : Thread Cert.BssiRefIdeal.nD Cert.BssiRefIdeal.τ).loc Cert.BssiRefIdeal.main_arg0)
      ∧ r.2.mem ((c.tc : Thread Cert.BssiRefIdeal.nD Cert.BssiRefIdeal.τ).loc Cert.BssiRefIdeal.main_arg1) = m ((c.tc : Thread Cert.BssiRefIdeal.nD Cert.BssiRefIdeal.τ).loc Cert.BssiRefIdeal.main_arg1)
      ∧ r.2.mem ((c.tc : Thread Cert.BssiRefIdeal.nD Cert.BssiRefIdeal.τ).loc Cert.BssiRefIdeal.main_arg2) = m ((c.tc : Thread Cert.BssiRefIdeal.nD Cert.BssiRefIdeal.τ).loc Cert.BssiRefIdeal.main_arg2)
      ∧ r.2.mem ((c.tc : Thread Cert.BssiRefIdeal.nD Cert.BssiRefIdeal.τ).loc Cert.BssiRefIdeal.main_arg3) = m ((c.tc : Thread Cert.BssiRefIdeal.nD Cert.BssiRefIdeal.τ).loc Cert.BssiRefIdeal.main_arg3)
      ∧ r.2.mem ((c.tc : Thread Cert.BssiRefIdeal.nD Cert.BssiRefIdeal.τ).loc Cert.BssiRefIdeal.main_arg4) = m ((c.tc : Thread Cert.BssiRefIdeal.nD Cert.BssiRefIdeal.τ).loc Cert.BssiRefIdeal.main_arg4)
      ∧ r.2.mem ((c.tc : Thread Cert.BssiRefIdeal.nD Cert.BssiRefIdeal.τ).loc Cert.BssiRefIdeal.main_arg5) = m ((c.tc : Thread Cert.BssiRefIdeal.nD Cert.BssiRefIdeal.τ).loc Cert.BssiRefIdeal.main_arg5))
      ∧ r.2.sem = fun _ => 0)

def quiescent_Bsso [hBsso : Cert.Bsso.Facts] : Prop :=
  ∀ (m : (ℓ : Loc Cert.Bsso.nD Cert.Bsso.τ Cert.Bsso.sig) → Buf (Elt Bits) ℓ) (g : Dev Cert.Bsso.nD → PrngReg), Pre_Bsso m →
    θ_run (Cert.Bsso.defs (F := Bits)) (onTc (τ := Cert.Bsso.τ) (Cert.Bsso.main (F := Bits))) ⟨m, fun _ => 0, g⟩ (fun r => (∀ c : Dev Cert.Bsso.nD,
      r.2.mem ((c.tc : Thread Cert.Bsso.nD Cert.Bsso.τ).loc Cert.Bsso.main_arg0) = m ((c.tc : Thread Cert.Bsso.nD Cert.Bsso.τ).loc Cert.Bsso.main_arg0)
      ∧ r.2.mem ((c.tc : Thread Cert.Bsso.nD Cert.Bsso.τ).loc Cert.Bsso.main_arg1) = m ((c.tc : Thread Cert.Bsso.nD Cert.Bsso.τ).loc Cert.Bsso.main_arg1)
      ∧ r.2.mem ((c.tc : Thread Cert.Bsso.nD Cert.Bsso.τ).loc Cert.Bsso.main_arg2) = m ((c.tc : Thread Cert.Bsso.nD Cert.Bsso.τ).loc Cert.Bsso.main_arg2)
      ∧ r.2.mem ((c.tc : Thread Cert.Bsso.nD Cert.Bsso.τ).loc Cert.Bsso.main_arg3) = m ((c.tc : Thread Cert.Bsso.nD Cert.Bsso.τ).loc Cert.Bsso.main_arg3)
      ∧ r.2.mem ((c.tc : Thread Cert.Bsso.nD Cert.Bsso.τ).loc Cert.Bsso.main_arg4) = m ((c.tc : Thread Cert.Bsso.nD Cert.Bsso.τ).loc Cert.Bsso.main_arg4)
      ∧ r.2.mem ((c.tc : Thread Cert.Bsso.nD Cert.Bsso.τ).loc Cert.Bsso.main_arg5) = m ((c.tc : Thread Cert.Bsso.nD Cert.Bsso.τ).loc Cert.Bsso.main_arg5))
      ∧ r.2.sem = fun _ => 0)

def quiescent_BssoIdeal [hBssoIdeal : Cert.BssoIdeal.Facts] : Prop :=
  ∀ (m : (ℓ : Loc Cert.BssoIdeal.nD Cert.BssoIdeal.τ Cert.BssoIdeal.sig) → Buf (Elt Ideal) ℓ) (g : Dev Cert.BssoIdeal.nD → PrngReg), Pre_BssoIdeal m →
    θ_run (Cert.BssoIdeal.defs (F := Ideal)) (onTc (τ := Cert.BssoIdeal.τ) (Cert.BssoIdeal.main (F := Ideal))) ⟨m, fun _ => 0, g⟩ (fun r => (∀ c : Dev Cert.BssoIdeal.nD,
      r.2.mem ((c.tc : Thread Cert.BssoIdeal.nD Cert.BssoIdeal.τ).loc Cert.BssoIdeal.main_arg0) = m ((c.tc : Thread Cert.BssoIdeal.nD Cert.BssoIdeal.τ).loc Cert.BssoIdeal.main_arg0)
      ∧ r.2.mem ((c.tc : Thread Cert.BssoIdeal.nD Cert.BssoIdeal.τ).loc Cert.BssoIdeal.main_arg1) = m ((c.tc : Thread Cert.BssoIdeal.nD Cert.BssoIdeal.τ).loc Cert.BssoIdeal.main_arg1)
      ∧ r.2.mem ((c.tc : Thread Cert.BssoIdeal.nD Cert.BssoIdeal.τ).loc Cert.BssoIdeal.main_arg2) = m ((c.tc : Thread Cert.BssoIdeal.nD Cert.BssoIdeal.τ).loc Cert.BssoIdeal.main_arg2)
      ∧ r.2.mem ((c.tc : Thread Cert.BssoIdeal.nD Cert.BssoIdeal.τ).loc Cert.BssoIdeal.main_arg3) = m ((c.tc : Thread Cert.BssoIdeal.nD Cert.BssoIdeal.τ).loc Cert.BssoIdeal.main_arg3)
      ∧ r.2.mem ((c.tc : Thread Cert.BssoIdeal.nD Cert.BssoIdeal.τ).loc Cert.BssoIdeal.main_arg4) = m ((c.tc : Thread Cert.BssoIdeal.nD Cert.BssoIdeal.τ).loc Cert.BssoIdeal.main_arg4)
      ∧ r.2.mem ((c.tc : Thread Cert.BssoIdeal.nD Cert.BssoIdeal.τ).loc Cert.BssoIdeal.main_arg5) = m ((c.tc : Thread Cert.BssoIdeal.nD Cert.BssoIdeal.τ).loc Cert.BssoIdeal.main_arg5))
      ∧ r.2.sem = fun _ => 0)

def quiescent_BssoRefIdeal [hBssoRefIdeal : Cert.BssoRefIdeal.Facts] : Prop :=
  ∀ (m : (ℓ : Loc Cert.BssoRefIdeal.nD Cert.BssoRefIdeal.τ Cert.BssoRefIdeal.sig) → Buf (Elt Ideal) ℓ) (g : Dev Cert.BssoRefIdeal.nD → PrngReg), Pre_BssoRefIdeal m →
    θ_run (Cert.BssoRefIdeal.defs (F := Ideal)) (onTc (τ := Cert.BssoRefIdeal.τ) (Cert.BssoRefIdeal.main (F := Ideal))) ⟨m, fun _ => 0, g⟩ (fun r => (∀ c : Dev Cert.BssoRefIdeal.nD,
      r.2.mem ((c.tc : Thread Cert.BssoRefIdeal.nD Cert.BssoRefIdeal.τ).loc Cert.BssoRefIdeal.main_arg0) = m ((c.tc : Thread Cert.BssoRefIdeal.nD Cert.BssoRefIdeal.τ).loc Cert.BssoRefIdeal.main_arg0)
      ∧ r.2.mem ((c.tc : Thread Cert.BssoRefIdeal.nD Cert.BssoRefIdeal.τ).loc Cert.BssoRefIdeal.main_arg1) = m ((c.tc : Thread Cert.BssoRefIdeal.nD Cert.BssoRefIdeal.τ).loc Cert.BssoRefIdeal.main_arg1)
      ∧ r.2.mem ((c.tc : Thread Cert.BssoRefIdeal.nD Cert.BssoRefIdeal.τ).loc Cert.BssoRefIdeal.main_arg2) = m ((c.tc : Thread Cert.BssoRefIdeal.nD Cert.BssoRefIdeal.τ).loc Cert.BssoRefIdeal.main_arg2)
      ∧ r.2.mem ((c.tc : Thread Cert.BssoRefIdeal.nD Cert.BssoRefIdeal.τ).loc Cert.BssoRefIdeal.main_arg3) = m ((c.tc : Thread Cert.BssoRefIdeal.nD Cert.BssoRefIdeal.τ).loc Cert.BssoRefIdeal.main_arg3)
      ∧ r.2.mem ((c.tc : Thread Cert.BssoRefIdeal.nD Cert.BssoRefIdeal.τ).loc Cert.BssoRefIdeal.main_arg4) = m ((c.tc : Thread Cert.BssoRefIdeal.nD Cert.BssoRefIdeal.τ).loc Cert.BssoRefIdeal.main_arg4)
      ∧ r.2.mem ((c.tc : Thread Cert.BssoRefIdeal.nD Cert.BssoRefIdeal.τ).loc Cert.BssoRefIdeal.main_arg5) = m ((c.tc : Thread Cert.BssoRefIdeal.nD Cert.BssoRefIdeal.τ).loc Cert.BssoRefIdeal.main_arg5))
      ∧ r.2.sem = fun _ => 0)

def quiescent_Dplen [hDplen : Cert.Dplen.Facts] : Prop :=
  ∀ (m : (ℓ : Loc Cert.Dplen.nD Cert.Dplen.τ Cert.Dplen.sig) → Buf (Elt Bits) ℓ) (g : Dev Cert.Dplen.nD → PrngReg), Pre_Dplen m →
    θ_run (Cert.Dplen.defs (F := Bits)) (onTc (τ := Cert.Dplen.τ) (Cert.Dplen.main (F := Bits))) ⟨m, fun _ => 0, g⟩ (fun r => (∀ c : Dev Cert.Dplen.nD,
      r.2.mem ((c.tc : Thread Cert.Dplen.nD Cert.Dplen.τ).loc Cert.Dplen.main_arg0) = m ((c.tc : Thread Cert.Dplen.nD Cert.Dplen.τ).loc Cert.Dplen.main_arg0)
      ∧ r.2.mem ((c.tc : Thread Cert.Dplen.nD Cert.Dplen.τ).loc Cert.Dplen.main_arg1) = m ((c.tc : Thread Cert.Dplen.nD Cert.Dplen.τ).loc Cert.Dplen.main_arg1))
      ∧ r.2.sem = fun _ => 0)

def quiescent_DplenIdeal [hDplenIdeal : Cert.DplenIdeal.Facts] : Prop :=
  ∀ (m : (ℓ : Loc Cert.DplenIdeal.nD Cert.DplenIdeal.τ Cert.DplenIdeal.sig) → Buf (Elt Ideal) ℓ) (g : Dev Cert.DplenIdeal.nD → PrngReg), Pre_DplenIdeal m →
    θ_run (Cert.DplenIdeal.defs (F := Ideal)) (onTc (τ := Cert.DplenIdeal.τ) (Cert.DplenIdeal.main (F := Ideal))) ⟨m, fun _ => 0, g⟩ (fun r => (∀ c : Dev Cert.DplenIdeal.nD,
      r.2.mem ((c.tc : Thread Cert.DplenIdeal.nD Cert.DplenIdeal.τ).loc Cert.DplenIdeal.main_arg0) = m ((c.tc : Thread Cert.DplenIdeal.nD Cert.DplenIdeal.τ).loc Cert.DplenIdeal.main_arg0)
      ∧ r.2.mem ((c.tc : Thread Cert.DplenIdeal.nD Cert.DplenIdeal.τ).loc Cert.DplenIdeal.main_arg1) = m ((c.tc : Thread Cert.DplenIdeal.nD Cert.DplenIdeal.τ).loc Cert.DplenIdeal.main_arg1))
      ∧ r.2.sem = fun _ => 0)

def quiescent_DplenRefIdeal [hDplenRefIdeal : Cert.DplenRefIdeal.Facts] : Prop :=
  ∀ (m : (ℓ : Loc Cert.DplenRefIdeal.nD Cert.DplenRefIdeal.τ Cert.DplenRefIdeal.sig) → Buf (Elt Ideal) ℓ) (g : Dev Cert.DplenRefIdeal.nD → PrngReg), Pre_DplenRefIdeal m →
    θ_run (Cert.DplenRefIdeal.defs (F := Ideal)) (onTc (τ := Cert.DplenRefIdeal.τ) (Cert.DplenRefIdeal.main (F := Ideal))) ⟨m, fun _ => 0, g⟩ (fun r => (∀ c : Dev Cert.DplenRefIdeal.nD,
      r.2.mem ((c.tc : Thread Cert.DplenRefIdeal.nD Cert.DplenRefIdeal.τ).loc Cert.DplenRefIdeal.main_arg0) = m ((c.tc : Thread Cert.DplenRefIdeal.nD Cert.DplenRefIdeal.τ).loc Cert.DplenRefIdeal.main_arg0)
      ∧ r.2.mem ((c.tc : Thread Cert.DplenRefIdeal.nD Cert.DplenRefIdeal.τ).loc Cert.DplenRefIdeal.main_arg1) = m ((c.tc : Thread Cert.DplenRefIdeal.nD Cert.DplenRefIdeal.τ).loc Cert.DplenRefIdeal.main_arg1))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatRefIdeal [hDcatRefIdeal : Cert.DcatRefIdeal.Facts] : Prop :=
  ∀ (m : (ℓ : Loc Cert.DcatRefIdeal.nD Cert.DcatRefIdeal.τ Cert.DcatRefIdeal.sig) → Buf (Elt Ideal) ℓ) (g : Dev Cert.DcatRefIdeal.nD → PrngReg), Pre_DcatRefIdeal m →
    θ_run (Cert.DcatRefIdeal.defs (F := Ideal)) (onTc (τ := Cert.DcatRefIdeal.τ) (Cert.DcatRefIdeal.main (F := Ideal))) ⟨m, fun _ => 0, g⟩ (fun r => (∀ c : Dev Cert.DcatRefIdeal.nD,
      r.2.mem ((c.tc : Thread Cert.DcatRefIdeal.nD Cert.DcatRefIdeal.τ).loc Cert.DcatRefIdeal.main_arg0) = m ((c.tc : Thread Cert.DcatRefIdeal.nD Cert.DcatRefIdeal.τ).loc Cert.DcatRefIdeal.main_arg0)
      ∧ r.2.mem ((c.tc : Thread Cert.DcatRefIdeal.nD Cert.DcatRefIdeal.τ).loc Cert.DcatRefIdeal.main_arg1) = m ((c.tc : Thread Cert.DcatRefIdeal.nD Cert.DcatRefIdeal.τ).loc Cert.DcatRefIdeal.main_arg1))
      ∧ r.2.sem = fun _ => 0)

def quiescent_Dssm [hDssm : Cert.Dssm.Facts] : Prop :=
  ∀ (m : (ℓ : Loc Cert.Dssm.nD Cert.Dssm.τ Cert.Dssm.sig) → Buf (Elt Bits) ℓ) (g : Dev Cert.Dssm.nD → PrngReg), Pre_Dssm m →
    θ_run (Cert.Dssm.defs (F := Bits)) (onTc (τ := Cert.Dssm.τ) (Cert.Dssm.main (F := Bits))) ⟨m, fun _ => 0, g⟩ (fun r => (∀ c : Dev Cert.Dssm.nD,
      r.2.mem ((c.tc : Thread Cert.Dssm.nD Cert.Dssm.τ).loc Cert.Dssm.main_arg0) = m ((c.tc : Thread Cert.Dssm.nD Cert.Dssm.τ).loc Cert.Dssm.main_arg0)
      ∧ r.2.mem ((c.tc : Thread Cert.Dssm.nD Cert.Dssm.τ).loc Cert.Dssm.main_arg1) = m ((c.tc : Thread Cert.Dssm.nD Cert.Dssm.τ).loc Cert.Dssm.main_arg1))
      ∧ r.2.sem = fun _ => 0)

def quiescent_DssmIdeal [hDssmIdeal : Cert.DssmIdeal.Facts] : Prop :=
  ∀ (m : (ℓ : Loc Cert.DssmIdeal.nD Cert.DssmIdeal.τ Cert.DssmIdeal.sig) → Buf (Elt Ideal) ℓ) (g : Dev Cert.DssmIdeal.nD → PrngReg), Pre_DssmIdeal m →
    θ_run (Cert.DssmIdeal.defs (F := Ideal)) (onTc (τ := Cert.DssmIdeal.τ) (Cert.DssmIdeal.main (F := Ideal))) ⟨m, fun _ => 0, g⟩ (fun r => (∀ c : Dev Cert.DssmIdeal.nD,
      r.2.mem ((c.tc : Thread Cert.DssmIdeal.nD Cert.DssmIdeal.τ).loc Cert.DssmIdeal.main_arg0) = m ((c.tc : Thread Cert.DssmIdeal.nD Cert.DssmIdeal.τ).loc Cert.DssmIdeal.main_arg0)
      ∧ r.2.mem ((c.tc : Thread Cert.DssmIdeal.nD Cert.DssmIdeal.τ).loc Cert.DssmIdeal.main_arg1) = m ((c.tc : Thread Cert.DssmIdeal.nD Cert.DssmIdeal.τ).loc Cert.DssmIdeal.main_arg1))
      ∧ r.2.sem = fun _ => 0)

def quiescent_DssmRefIdeal [hDssmRefIdeal : Cert.DssmRefIdeal.Facts] : Prop :=
  ∀ (m : (ℓ : Loc Cert.DssmRefIdeal.nD Cert.DssmRefIdeal.τ Cert.DssmRefIdeal.sig) → Buf (Elt Ideal) ℓ) (g : Dev Cert.DssmRefIdeal.nD → PrngReg), Pre_DssmRefIdeal m →
    θ_run (Cert.DssmRefIdeal.defs (F := Ideal)) (onTc (τ := Cert.DssmRefIdeal.τ) (Cert.DssmRefIdeal.main (F := Ideal))) ⟨m, fun _ => 0, g⟩ (fun r => (∀ c : Dev Cert.DssmRefIdeal.nD,
      r.2.mem ((c.tc : Thread Cert.DssmRefIdeal.nD Cert.DssmRefIdeal.τ).loc Cert.DssmRefIdeal.main_arg0) = m ((c.tc : Thread Cert.DssmRefIdeal.nD Cert.DssmRefIdeal.τ).loc Cert.DssmRefIdeal.main_arg0)
      ∧ r.2.mem ((c.tc : Thread Cert.DssmRefIdeal.nD Cert.DssmRefIdeal.τ).loc Cert.DssmRefIdeal.main_arg1) = m ((c.tc : Thread Cert.DssmRefIdeal.nD Cert.DssmRefIdeal.τ).loc Cert.DssmRefIdeal.main_arg1))
      ∧ r.2.sem = fun _ => 0)

def quiescent_Pgate [hPgate : Cert.Pgate.Facts] : Prop :=
  ∀ (m : (ℓ : Loc Cert.Pgate.nD Cert.Pgate.τ Cert.Pgate.sig) → Buf (Elt Bits) ℓ) (g : Dev Cert.Pgate.nD → PrngReg), Pre_Pgate m →
    θ_run (Cert.Pgate.defs (F := Bits)) (onTc (τ := Cert.Pgate.τ) (Cert.Pgate.main (F := Bits))) ⟨m, fun _ => 0, g⟩ (fun r => (∀ c : Dev Cert.Pgate.nD,
      r.2.mem ((c.tc : Thread Cert.Pgate.nD Cert.Pgate.τ).loc Cert.Pgate.main_arg0) = m ((c.tc : Thread Cert.Pgate.nD Cert.Pgate.τ).loc Cert.Pgate.main_arg0)
      ∧ r.2.mem ((c.tc : Thread Cert.Pgate.nD Cert.Pgate.τ).loc Cert.Pgate.main_arg1) = m ((c.tc : Thread Cert.Pgate.nD Cert.Pgate.τ).loc Cert.Pgate.main_arg1))
      ∧ r.2.sem = fun _ => 0)

def quiescent_PgateIdeal [hPgateIdeal : Cert.PgateIdeal.Facts] : Prop :=
  ∀ (m : (ℓ : Loc Cert.PgateIdeal.nD Cert.PgateIdeal.τ Cert.PgateIdeal.sig) → Buf (Elt Ideal) ℓ) (g : Dev Cert.PgateIdeal.nD → PrngReg), Pre_PgateIdeal m →
    θ_run (Cert.PgateIdeal.defs (F := Ideal)) (onTc (τ := Cert.PgateIdeal.τ) (Cert.PgateIdeal.main (F := Ideal))) ⟨m, fun _ => 0, g⟩ (fun r => (∀ c : Dev Cert.PgateIdeal.nD,
      r.2.mem ((c.tc : Thread Cert.PgateIdeal.nD Cert.PgateIdeal.τ).loc Cert.PgateIdeal.main_arg0) = m ((c.tc : Thread Cert.PgateIdeal.nD Cert.PgateIdeal.τ).loc Cert.PgateIdeal.main_arg0)
      ∧ r.2.mem ((c.tc : Thread Cert.PgateIdeal.nD Cert.PgateIdeal.τ).loc Cert.PgateIdeal.main_arg1) = m ((c.tc : Thread Cert.PgateIdeal.nD Cert.PgateIdeal.τ).loc Cert.PgateIdeal.main_arg1))
      ∧ r.2.sem = fun _ => 0)

def quiescent_PgateRefIdeal [hPgateRefIdeal : Cert.PgateRefIdeal.Facts] : Prop :=
  ∀ (m : (ℓ : Loc Cert.PgateRefIdeal.nD Cert.PgateRefIdeal.τ Cert.PgateRefIdeal.sig) → Buf (Elt Ideal) ℓ) (g : Dev Cert.PgateRefIdeal.nD → PrngReg), Pre_PgateRefIdeal m →
    θ_run (Cert.PgateRefIdeal.defs (F := Ideal)) (onTc (τ := Cert.PgateRefIdeal.τ) (Cert.PgateRefIdeal.main (F := Ideal))) ⟨m, fun _ => 0, g⟩ (fun r => (∀ c : Dev Cert.PgateRefIdeal.nD,
      r.2.mem ((c.tc : Thread Cert.PgateRefIdeal.nD Cert.PgateRefIdeal.τ).loc Cert.PgateRefIdeal.main_arg0) = m ((c.tc : Thread Cert.PgateRefIdeal.nD Cert.PgateRefIdeal.τ).loc Cert.PgateRefIdeal.main_arg0)
      ∧ r.2.mem ((c.tc : Thread Cert.PgateRefIdeal.nD Cert.PgateRefIdeal.τ).loc Cert.PgateRefIdeal.main_arg1) = m ((c.tc : Thread Cert.PgateRefIdeal.nD Cert.PgateRefIdeal.τ).loc Cert.PgateRefIdeal.main_arg1))
      ∧ r.2.sem = fun _ => 0)

def quiescent_Abin [hAbin : Cert.Abin.Facts] : Prop :=
  ∀ (m : (ℓ : Loc Cert.Abin.nD Cert.Abin.τ Cert.Abin.sig) → Buf (Elt Bits) ℓ) (g : Dev Cert.Abin.nD → PrngReg), Pre_Abin m →
    θ_run (Cert.Abin.defs (F := Bits)) (onTc (τ := Cert.Abin.τ) (Cert.Abin.main (F := Bits))) ⟨m, fun _ => 0, g⟩ (fun r => (∀ c : Dev Cert.Abin.nD,
      r.2.mem ((c.tc : Thread Cert.Abin.nD Cert.Abin.τ).loc Cert.Abin.main_arg0) = m ((c.tc : Thread Cert.Abin.nD Cert.Abin.τ).loc Cert.Abin.main_arg0)
      ∧ r.2.mem ((c.tc : Thread Cert.Abin.nD Cert.Abin.τ).loc Cert.Abin.main_arg1) = m ((c.tc : Thread Cert.Abin.nD Cert.Abin.τ).loc Cert.Abin.main_arg1))
      ∧ r.2.sem = fun _ => 0)

def quiescent_AbinIdeal [hAbinIdeal : Cert.AbinIdeal.Facts] : Prop :=
  ∀ (m : (ℓ : Loc Cert.AbinIdeal.nD Cert.AbinIdeal.τ Cert.AbinIdeal.sig) → Buf (Elt Ideal) ℓ) (g : Dev Cert.AbinIdeal.nD → PrngReg), Pre_AbinIdeal m →
    θ_run (Cert.AbinIdeal.defs (F := Ideal)) (onTc (τ := Cert.AbinIdeal.τ) (Cert.AbinIdeal.main (F := Ideal))) ⟨m, fun _ => 0, g⟩ (fun r => (∀ c : Dev Cert.AbinIdeal.nD,
      r.2.mem ((c.tc : Thread Cert.AbinIdeal.nD Cert.AbinIdeal.τ).loc Cert.AbinIdeal.main_arg0) = m ((c.tc : Thread Cert.AbinIdeal.nD Cert.AbinIdeal.τ).loc Cert.AbinIdeal.main_arg0)
      ∧ r.2.mem ((c.tc : Thread Cert.AbinIdeal.nD Cert.AbinIdeal.τ).loc Cert.AbinIdeal.main_arg1) = m ((c.tc : Thread Cert.AbinIdeal.nD Cert.AbinIdeal.τ).loc Cert.AbinIdeal.main_arg1))
      ∧ r.2.sem = fun _ => 0)

def quiescent_AbinRefIdeal [hAbinRefIdeal : Cert.AbinRefIdeal.Facts] : Prop :=
  ∀ (m : (ℓ : Loc Cert.AbinRefIdeal.nD Cert.AbinRefIdeal.τ Cert.AbinRefIdeal.sig) → Buf (Elt Ideal) ℓ) (g : Dev Cert.AbinRefIdeal.nD → PrngReg), Pre_AbinRefIdeal m →
    θ_run (Cert.AbinRefIdeal.defs (F := Ideal)) (onTc (τ := Cert.AbinRefIdeal.τ) (Cert.AbinRefIdeal.main (F := Ideal))) ⟨m, fun _ => 0, g⟩ (fun r => (∀ c : Dev Cert.AbinRefIdeal.nD,
      r.2.mem ((c.tc : Thread Cert.AbinRefIdeal.nD Cert.AbinRefIdeal.τ).loc Cert.AbinRefIdeal.main_arg0) = m ((c.tc : Thread Cert.AbinRefIdeal.nD Cert.AbinRefIdeal.τ).loc Cert.AbinRefIdeal.main_arg0)
      ∧ r.2.mem ((c.tc : Thread Cert.AbinRefIdeal.nD Cert.AbinRefIdeal.τ).loc Cert.AbinRefIdeal.main_arg1) = m ((c.tc : Thread Cert.AbinRefIdeal.nD Cert.AbinRefIdeal.τ).loc Cert.AbinRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v1) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v6_0)) (v1 : (c : Dev Cert.UpIdeal.nD) → Buf (Elt Ideal) ((c.tc : Thread Cert.UpIdeal.nD Cert.UpIdeal.τ).loc Cert.UpIdeal.main_v6_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6_0) = v0 c
          ∧ r.2.mem ((c.tc : Thread Cert.UpIdeal.nD Cert.UpIdeal.τ).loc Cert.UpIdeal.main_v6_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)
      ∧ m' ((c.tc : Thread Cert.DuRefIdeal.nD Cert.DuRefIdeal.τ).loc Cert.DuRefIdeal.main_arg3) = m ((c.tc : Thread Cert.DuIdeal.nD Cert.DuIdeal.τ).loc Cert.DuIdeal.main_arg3)
      ∧ m' ((c.tc : Thread Cert.DuRefIdeal.nD Cert.DuRefIdeal.τ).loc Cert.DuRefIdeal.main_arg4) = m ((c.tc : Thread Cert.DuIdeal.nD Cert.DuIdeal.τ).loc Cert.DuIdeal.main_arg4)) →
    ∃ (v0 : (c : Dev Cert.DuIdeal.nD) → Buf (Elt Ideal) ((c.tc : Thread Cert.DuIdeal.nD Cert.DuIdeal.τ).loc Cert.DuIdeal.main_v5_0)) (v1 : (c : Dev Cert.DuIdeal.nD) → Buf (Elt Ideal) ((c.tc : Thread Cert.DuIdeal.nD Cert.DuIdeal.τ).loc Cert.DuIdeal.main_v5_1)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v5_0) = v0 c
          ∧ r.2.mem ((c.tc : Thread Cert.DuIdeal.nD Cert.DuIdeal.τ).loc Cert.DuIdeal.main_v5_1) = v1 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
          ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
          ∧ r.2.mem ((c.tc : Thread Cert.DuIdeal.nD Cert.DuIdeal.τ).loc Cert.DuIdeal.main_arg4) = m ((c.tc : Thread Cert.DuIdeal.nD Cert.DuIdeal.τ).loc Cert.DuIdeal.main_arg4))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v13) = v0 c
          ∧ r.2.mem ((c.tc : Thread Cert.DuRefIdeal.nD Cert.DuRefIdeal.τ).loc Cert.DuRefIdeal.main_v14) = v1 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2)
          ∧ r.2.mem ((c.tc : Thread Cert.DuRefIdeal.nD Cert.DuRefIdeal.τ).loc Cert.DuRefIdeal.main_arg3) = m' ((c.tc : Thread Cert.DuRefIdeal.nD Cert.DuRefIdeal.τ).loc Cert.DuRefIdeal.main_arg3)
          ∧ r.2.mem ((c.tc : Thread Cert.DuRefIdeal.nD Cert.DuRefIdeal.τ).loc Cert.DuRefIdeal.main_arg4) = m' ((c.tc : Thread Cert.DuRefIdeal.nD Cert.DuRefIdeal.τ).loc Cert.DuRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)
      ∧ m' ((c.tc : Thread Cert.DwdownRefIdeal.nD Cert.DwdownRefIdeal.τ).loc Cert.DwdownRefIdeal.main_arg2) = m ((c.tc : Thread Cert.DwdownIdeal.nD Cert.DwdownIdeal.τ).loc Cert.DwdownIdeal.main_arg2)
      ∧ m' ((c.tc : Thread Cert.DwdownRefIdeal.nD Cert.DwdownRefIdeal.τ).loc Cert.DwdownRefIdeal.main_arg3) = m ((c.tc : Thread Cert.DwdownIdeal.nD Cert.DwdownIdeal.τ).loc Cert.DwdownIdeal.main_arg3)) →
    ∃ (v0 : (c : Dev Cert.DwdownIdeal.nD) → Buf (Elt Ideal) ((c.tc : Thread Cert.DwdownIdeal.nD Cert.DwdownIdeal.τ).loc Cert.DwdownIdeal.main_v5)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v5) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1)
          ∧ r.2.mem ((c.tc : Thread Cert.DwdownIdeal.nD Cert.DwdownIdeal.τ).loc Cert.DwdownIdeal.main_arg2) = m ((c.tc : Thread Cert.DwdownIdeal.nD Cert.DwdownIdeal.τ).loc Cert.DwdownIdeal.main_arg2)
          ∧ r.2.mem ((c.tc : Thread Cert.DwdownIdeal.nD Cert.DwdownIdeal.τ).loc Cert.DwdownIdeal.main_arg3) = m ((c.tc : Thread Cert.DwdownIdeal.nD Cert.DwdownIdeal.τ).loc Cert.DwdownIdeal.main_arg3))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v12) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1)
          ∧ r.2.mem ((c.tc : Thread Cert.DwdownRefIdeal.nD Cert.DwdownRefIdeal.τ).loc Cert.DwdownRefIdeal.main_arg2) = m' ((c.tc : Thread Cert.DwdownRefIdeal.nD Cert.DwdownRefIdeal.τ).loc Cert.DwdownRefIdeal.main_arg2)
          ∧ r.2.mem ((c.tc : Thread Cert.DwdownRefIdeal.nD Cert.DwdownRefIdeal.τ).loc Cert.DwdownRefIdeal.main_arg3) = m' ((c.tc : Thread Cert.DwdownRefIdeal.nD Cert.DwdownRefIdeal.τ).loc Cert.DwdownRefIdeal.main_arg3))

def preserves_Dwgate_DwgateIdeal : Prop :=
  True

def algebraic_DwgateIdeal_DwgateRefIdeal [hDwgateIdeal : Cert.DwgateIdeal.Facts] [hDwgateRefIdeal : Cert.DwgateRefIdeal.Facts] : Prop :=
  ∀ (m : (ℓ : Loc Cert.DwgateIdeal.nD Cert.DwgateIdeal.τ Cert.DwgateIdeal.sig) → Buf (Elt Ideal) ℓ) (g : Dev Cert.DwgateIdeal.nD → PrngReg)
    (m' : (ℓ : Loc Cert.DwgateRefIdeal.nD Cert.DwgateRefIdeal.τ Cert.DwgateRefIdeal.sig) → Buf (Elt Ideal) ℓ) (g' : Dev Cert.DwgateRefIdeal.nD → PrngReg), Pre_DwgateIdeal m →
    (∀ c : Dev Cert.DwgateIdeal.nD,
      m' ((c.tc : Thread Cert.DwgateRefIdeal.nD Cert.DwgateRefIdeal.τ).loc Cert.DwgateRefIdeal.main_arg0) = m ((c.tc : Thread Cert.DwgateIdeal.nD Cert.DwgateIdeal.τ).loc Cert.DwgateIdeal.main_arg0)
      ∧ m' ((c.tc : Thread Cert.DwgateRefIdeal.nD Cert.DwgateRefIdeal.τ).loc Cert.DwgateRefIdeal.main_arg1) = m ((c.tc : Thread Cert.DwgateIdeal.nD Cert.DwgateIdeal.τ).loc Cert.DwgateIdeal.main_arg1)
      ∧ m' ((c.tc : Thread Cert.DwgateRefIdeal.nD Cert.DwgateRefIdeal.τ).loc Cert.DwgateRefIdeal.main_arg2) = m ((c.tc : Thread Cert.DwgateIdeal.nD Cert.DwgateIdeal.τ).loc Cert.DwgateIdeal.main_arg2)
      ∧ m' ((c.tc : Thread Cert.DwgateRefIdeal.nD Cert.DwgateRefIdeal.τ).loc Cert.DwgateRefIdeal.main_arg3) = m ((c.tc : Thread Cert.DwgateIdeal.nD Cert.DwgateIdeal.τ).loc Cert.DwgateIdeal.main_arg3)
      ∧ m' ((c.tc : Thread Cert.DwgateRefIdeal.nD Cert.DwgateRefIdeal.τ).loc Cert.DwgateRefIdeal.main_arg4) = m ((c.tc : Thread Cert.DwgateIdeal.nD Cert.DwgateIdeal.τ).loc Cert.DwgateIdeal.main_arg4)) →
    ∃ (v0 : (c : Dev Cert.DwgateIdeal.nD) → Buf (Elt Ideal) ((c.tc : Thread Cert.DwgateIdeal.nD Cert.DwgateIdeal.τ).loc Cert.DwgateIdeal.main_v14)),
      θ_run (Cert.DwgateIdeal.defs (F := Ideal)) (onTc (τ := Cert.DwgateIdeal.τ) (Cert.DwgateIdeal.main (F := Ideal))) ⟨m, fun _ => 0, g⟩ (fun r => ∀ c : Dev Cert.DwgateIdeal.nD,
          r.2.mem ((c.tc : Thread Cert.DwgateIdeal.nD Cert.DwgateIdeal.τ).loc Cert.DwgateIdeal.main_v14) = v0 c
          ∧ r.2.mem ((c.tc : Thread Cert.DwgateIdeal.nD Cert.DwgateIdeal.τ).loc Cert.DwgateIdeal.main_arg0) = m ((c.tc : Thread Cert.DwgateIdeal.nD Cert.DwgateIdeal.τ).loc Cert.DwgateIdeal.main_arg0)
          ∧ r.2.mem ((c.tc : Thread Cert.DwgateIdeal.nD Cert.DwgateIdeal.τ).loc Cert.DwgateIdeal.main_arg1) = m ((c.tc : Thread Cert.DwgateIdeal.nD Cert.DwgateIdeal.τ).loc Cert.DwgateIdeal.main_arg1)
          ∧ r.2.mem ((c.tc : Thread Cert.DwgateIdeal.nD Cert.DwgateIdeal.τ).loc Cert.DwgateIdeal.main_arg2) = m ((c.tc : Thread Cert.DwgateIdeal.nD Cert.DwgateIdeal.τ).loc Cert.DwgateIdeal.main_arg2)
          ∧ r.2.mem ((c.tc : Thread Cert.DwgateIdeal.nD Cert.DwgateIdeal.τ).loc Cert.DwgateIdeal.main_arg3) = m ((c.tc : Thread Cert.DwgateIdeal.nD Cert.DwgateIdeal.τ).loc Cert.DwgateIdeal.main_arg3)
          ∧ r.2.mem ((c.tc : Thread Cert.DwgateIdeal.nD Cert.DwgateIdeal.τ).loc Cert.DwgateIdeal.main_arg4) = m ((c.tc : Thread Cert.DwgateIdeal.nD Cert.DwgateIdeal.τ).loc Cert.DwgateIdeal.main_arg4))
      ∧ θ_run (Cert.DwgateRefIdeal.defs (F := Ideal)) (onTc (τ := Cert.DwgateRefIdeal.τ) (Cert.DwgateRefIdeal.main (F := Ideal))) ⟨m', fun _ => 0, g'⟩ (fun r => ∀ c : Dev Cert.DwgateRefIdeal.nD,
          r.2.mem ((c.tc : Thread Cert.DwgateRefIdeal.nD Cert.DwgateRefIdeal.τ).loc Cert.DwgateRefIdeal.main_v16) = v0 c
          ∧ r.2.mem ((c.tc : Thread Cert.DwgateRefIdeal.nD Cert.DwgateRefIdeal.τ).loc Cert.DwgateRefIdeal.main_arg0) = m' ((c.tc : Thread Cert.DwgateRefIdeal.nD Cert.DwgateRefIdeal.τ).loc Cert.DwgateRefIdeal.main_arg0)
          ∧ r.2.mem ((c.tc : Thread Cert.DwgateRefIdeal.nD Cert.DwgateRefIdeal.τ).loc Cert.DwgateRefIdeal.main_arg1) = m' ((c.tc : Thread Cert.DwgateRefIdeal.nD Cert.DwgateRefIdeal.τ).loc Cert.DwgateRefIdeal.main_arg1)
          ∧ r.2.mem ((c.tc : Thread Cert.DwgateRefIdeal.nD Cert.DwgateRefIdeal.τ).loc Cert.DwgateRefIdeal.main_arg2) = m' ((c.tc : Thread Cert.DwgateRefIdeal.nD Cert.DwgateRefIdeal.τ).loc Cert.DwgateRefIdeal.main_arg2)
          ∧ r.2.mem ((c.tc : Thread Cert.DwgateRefIdeal.nD Cert.DwgateRefIdeal.τ).loc Cert.DwgateRefIdeal.main_arg3) = m' ((c.tc : Thread Cert.DwgateRefIdeal.nD Cert.DwgateRefIdeal.τ).loc Cert.DwgateRefIdeal.main_arg3)
          ∧ r.2.mem ((c.tc : Thread Cert.DwgateRefIdeal.nD Cert.DwgateRefIdeal.τ).loc Cert.DwgateRefIdeal.main_arg4) = m' ((c.tc : Thread Cert.DwgateRefIdeal.nD Cert.DwgateRefIdeal.τ).loc Cert.DwgateRefIdeal.main_arg4))

def preserves_Dwup_DwupIdeal : Prop :=
  True

def algebraic_DwupIdeal_DwupRefIdeal [hDwupIdeal : Cert.DwupIdeal.Facts] [hDwupRefIdeal : Cert.DwupRefIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupRefIdeal.nD Cert.DwupRefIdeal.τ Cert.DwupRefIdeal.sig) → Buf (Elt Ideal) ℓ) (g' : Dev Cert.DwupRefIdeal.nD → PrngReg), Pre_DwupIdeal m →
    (∀ c : Dev Cert.DwupIdeal.nD,
      m' ((c.tc : Thread Cert.DwupRefIdeal.nD Cert.DwupRefIdeal.τ).loc Cert.DwupRefIdeal.main_arg0) = m ((c.tc : Thread Cert.DwupIdeal.nD Cert.DwupIdeal.τ).loc Cert.DwupIdeal.main_arg0)
      ∧ m' ((c.tc : Thread Cert.DwupRefIdeal.nD Cert.DwupRefIdeal.τ).loc Cert.DwupRefIdeal.main_arg1) = m ((c.tc : Thread Cert.DwupIdeal.nD Cert.DwupIdeal.τ).loc Cert.DwupIdeal.main_arg1)
      ∧ m' ((c.tc : Thread Cert.DwupRefIdeal.nD Cert.DwupRefIdeal.τ).loc Cert.DwupRefIdeal.main_arg2) = m ((c.tc : Thread Cert.DwupIdeal.nD Cert.DwupIdeal.τ).loc Cert.DwupIdeal.main_arg2)
      ∧ m' ((c.tc : Thread Cert.DwupRefIdeal.nD Cert.DwupRefIdeal.τ).loc Cert.DwupRefIdeal.main_arg3) = m ((c.tc : Thread Cert.DwupIdeal.nD Cert.DwupIdeal.τ).loc Cert.DwupIdeal.main_arg3)
      ∧ m' ((c.tc : Thread Cert.DwupRefIdeal.nD Cert.DwupRefIdeal.τ).loc Cert.DwupRefIdeal.main_arg4) = m ((c.tc : Thread Cert.DwupIdeal.nD Cert.DwupIdeal.τ).loc Cert.DwupIdeal.main_arg4)) →
    ∃ (v0 : (c : Dev Cert.DwupIdeal.nD) → Buf (Elt Ideal) ((c.tc : Thread Cert.DwupIdeal.nD Cert.DwupIdeal.τ).loc Cert.DwupIdeal.main_v13)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v13) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1)
          ∧ r.2.mem ((c.tc : Thread Cert.DwupIdeal.nD Cert.DwupIdeal.τ).loc Cert.DwupIdeal.main_arg2) = m ((c.tc : Thread Cert.DwupIdeal.nD Cert.DwupIdeal.τ).loc Cert.DwupIdeal.main_arg2)
          ∧ r.2.mem ((c.tc : Thread Cert.DwupIdeal.nD Cert.DwupIdeal.τ).loc Cert.DwupIdeal.main_arg3) = m ((c.tc : Thread Cert.DwupIdeal.nD Cert.DwupIdeal.τ).loc Cert.DwupIdeal.main_arg3)
          ∧ r.2.mem ((c.tc : Thread Cert.DwupIdeal.nD Cert.DwupIdeal.τ).loc Cert.DwupIdeal.main_arg4) = m ((c.tc : Thread Cert.DwupIdeal.nD Cert.DwupIdeal.τ).loc Cert.DwupIdeal.main_arg4))
      ∧ θ_run (Cert.DwupRefIdeal.defs (F := Ideal)) (onTc (τ := Cert.DwupRefIdeal.τ) (Cert.DwupRefIdeal.main (F := Ideal))) ⟨m', fun _ => 0, g'⟩ (fun r => ∀ c : Dev Cert.DwupRefIdeal.nD,
          r.2.mem ((c.tc : Thread Cert.DwupRefIdeal.nD Cert.DwupRefIdeal.τ).loc Cert.DwupRefIdeal.main_v15) = v0 c
          ∧ r.2.mem ((c.tc : Thread Cert.DwupRefIdeal.nD Cert.DwupRefIdeal.τ).loc Cert.DwupRefIdeal.main_arg0) = m' ((c.tc : Thread Cert.DwupRefIdeal.nD Cert.DwupRefIdeal.τ).loc Cert.DwupRefIdeal.main_arg0)
          ∧ r.2.mem ((c.tc : Thread Cert.DwupRefIdeal.nD Cert.DwupRefIdeal.τ).loc Cert.DwupRefIdeal.main_arg1) = m' ((c.tc : Thread Cert.DwupRefIdeal.nD Cert.DwupRefIdeal.τ).loc Cert.DwupRefIdeal.main_arg1)
          ∧ r.2.mem ((c.tc : Thread Cert.DwupRefIdeal.nD Cert.DwupRefIdeal.τ).loc Cert.DwupRefIdeal.main_arg2) = m' ((c.tc : Thread Cert.DwupRefIdeal.nD Cert.DwupRefIdeal.τ).loc Cert.DwupRefIdeal.main_arg2)
          ∧ r.2.mem ((c.tc : Thread Cert.DwupRefIdeal.nD Cert.DwupRefIdeal.τ).loc Cert.DwupRefIdeal.main_arg3) = m' ((c.tc : Thread Cert.DwupRefIdeal.nD Cert.DwupRefIdeal.τ).loc Cert.DwupRefIdeal.main_arg3)
          ∧ r.2.mem ((c.tc : Thread Cert.DwupRefIdeal.nD Cert.DwupRefIdeal.τ).loc Cert.DwupRefIdeal.main_arg4) = m' ((c.tc : Thread Cert.DwupRefIdeal.nD Cert.DwupRefIdeal.τ).loc Cert.DwupRefIdeal.main_arg4))

def preserves_Dnup_DnupIdeal : Prop :=
  True

def algebraic_DnupIdeal_DnupRefIdeal [hDnupIdeal : Cert.DnupIdeal.Facts] [hDnupRefIdeal : Cert.DnupRefIdeal.Facts] : Prop :=
  ∀ (m : (ℓ : Loc Cert.DnupIdeal.nD Cert.DnupIdeal.τ Cert.DnupIdeal.sig) → Buf (Elt Ideal) ℓ) (g : Dev Cert.DnupIdeal.nD → PrngReg)
    (m' : (ℓ : Loc Cert.DnupRefIdeal.nD Cert.DnupRefIdeal.τ Cert.DnupRefIdeal.sig) → Buf (Elt Ideal) ℓ) (g' : Dev Cert.DnupRefIdeal.nD → PrngReg), Pre_DnupIdeal m →
    (∀ c : Dev Cert.DnupIdeal.nD,
      m' ((c.tc : Thread Cert.DnupRefIdeal.nD Cert.DnupRefIdeal.τ).loc Cert.DnupRefIdeal.main_arg0) = m ((c.tc : Thread Cert.DnupIdeal.nD Cert.DnupIdeal.τ).loc Cert.DnupIdeal.main_arg0)
      ∧ m' ((c.tc : Thread Cert.DnupRefIdeal.nD Cert.DnupRefIdeal.τ).loc Cert.DnupRefIdeal.main_arg1) = m ((c.tc : Thread Cert.DnupIdeal.nD Cert.DnupIdeal.τ).loc Cert.DnupIdeal.main_arg1)
      ∧ m' ((c.tc : Thread Cert.DnupRefIdeal.nD Cert.DnupRefIdeal.τ).loc Cert.DnupRefIdeal.main_arg2) = m ((c.tc : Thread Cert.DnupIdeal.nD Cert.DnupIdeal.τ).loc Cert.DnupIdeal.main_arg2)
      ∧ m' ((c.tc : Thread Cert.DnupRefIdeal.nD Cert.DnupRefIdeal.τ).loc Cert.DnupRefIdeal.main_arg3) = m ((c.tc : Thread Cert.DnupIdeal.nD Cert.DnupIdeal.τ).loc Cert.DnupIdeal.main_arg3)
      ∧ m' ((c.tc : Thread Cert.DnupRefIdeal.nD Cert.DnupRefIdeal.τ).loc Cert.DnupRefIdeal.main_arg4) = m ((c.tc : Thread Cert.DnupIdeal.nD Cert.DnupIdeal.τ).loc Cert.DnupIdeal.main_arg4)) →
    ∃ (v0 : (c : Dev Cert.DnupIdeal.nD) → Buf (Elt Ideal) ((c.tc : Thread Cert.DnupIdeal.nD Cert.DnupIdeal.τ).loc Cert.DnupIdeal.main_v19)),
      θ_run (Cert.DnupIdeal.defs (F := Ideal)) (onTc (τ := Cert.DnupIdeal.τ) (Cert.DnupIdeal.main (F := Ideal))) ⟨m, fun _ => 0, g⟩ (fun r => ∀ c : Dev Cert.DnupIdeal.nD,
          r.2.mem ((c.tc : Thread Cert.DnupIdeal.nD Cert.DnupIdeal.τ).loc Cert.DnupIdeal.main_v19) = v0 c
          ∧ r.2.mem ((c.tc : Thread Cert.DnupIdeal.nD Cert.DnupIdeal.τ).loc Cert.DnupIdeal.main_arg0) = m ((c.tc : Thread Cert.DnupIdeal.nD Cert.DnupIdeal.τ).loc Cert.DnupIdeal.main_arg0)
          ∧ r.2.mem ((c.tc : Thread Cert.DnupIdeal.nD Cert.DnupIdeal.τ).loc Cert.DnupIdeal.main_arg1) = m ((c.tc : Thread Cert.DnupIdeal.nD Cert.DnupIdeal.τ).loc Cert.DnupIdeal.main_arg1)
          ∧ r.2.mem ((c.tc : Thread Cert.DnupIdeal.nD Cert.DnupIdeal.τ).loc Cert.DnupIdeal.main_arg2) = m ((c.tc : Thread Cert.DnupIdeal.nD Cert.DnupIdeal.τ).loc Cert.DnupIdeal.main_arg2)
          ∧ r.2.mem ((c.tc : Thread Cert.DnupIdeal.nD Cert.DnupIdeal.τ).loc Cert.DnupIdeal.main_arg3) = m ((c.tc : Thread Cert.DnupIdeal.nD Cert.DnupIdeal.τ).loc Cert.DnupIdeal.main_arg3)
          ∧ r.2.mem ((c.tc : Thread Cert.DnupIdeal.nD Cert.DnupIdeal.τ).loc Cert.DnupIdeal.main_arg4) = m ((c.tc : Thread Cert.DnupIdeal.nD Cert.DnupIdeal.τ).loc Cert.DnupIdeal.main_arg4))
      ∧ θ_run (Cert.DnupRefIdeal.defs (F := Ideal)) (onTc (τ := Cert.DnupRefIdeal.τ) (Cert.DnupRefIdeal.main (F := Ideal))) ⟨m', fun _ => 0, g'⟩ (fun r => ∀ c : Dev Cert.DnupRefIdeal.nD,
          r.2.mem ((c.tc : Thread Cert.DnupRefIdeal.nD Cert.DnupRefIdeal.τ).loc Cert.DnupRefIdeal.main_v15) = v0 c
          ∧ r.2.mem ((c.tc : Thread Cert.DnupRefIdeal.nD Cert.DnupRefIdeal.τ).loc Cert.DnupRefIdeal.main_arg0) = m' ((c.tc : Thread Cert.DnupRefIdeal.nD Cert.DnupRefIdeal.τ).loc Cert.DnupRefIdeal.main_arg0)
          ∧ r.2.mem ((c.tc : Thread Cert.DnupRefIdeal.nD Cert.DnupRefIdeal.τ).loc Cert.DnupRefIdeal.main_arg1) = m' ((c.tc : Thread Cert.DnupRefIdeal.nD Cert.DnupRefIdeal.τ).loc Cert.DnupRefIdeal.main_arg1)
          ∧ r.2.mem ((c.tc : Thread Cert.DnupRefIdeal.nD Cert.DnupRefIdeal.τ).loc Cert.DnupRefIdeal.main_arg2) = m' ((c.tc : Thread Cert.DnupRefIdeal.nD Cert.DnupRefIdeal.τ).loc Cert.DnupRefIdeal.main_arg2)
          ∧ r.2.mem ((c.tc : Thread Cert.DnupRefIdeal.nD Cert.DnupRefIdeal.τ).loc Cert.DnupRefIdeal.main_arg3) = m' ((c.tc : Thread Cert.DnupRefIdeal.nD Cert.DnupRefIdeal.τ).loc Cert.DnupRefIdeal.main_arg3)
          ∧ r.2.mem ((c.tc : Thread Cert.DnupRefIdeal.nD Cert.DnupRefIdeal.τ).loc Cert.DnupRefIdeal.main_arg4) = m' ((c.tc : Thread Cert.DnupRefIdeal.nD Cert.DnupRefIdeal.τ).loc Cert.DnupRefIdeal.main_arg4))

def preserves_Dngate_DngateIdeal : Prop :=
  True

def algebraic_DngateIdeal_DngateRefIdeal [hDngateIdeal : Cert.DngateIdeal.Facts] [hDngateRefIdeal : Cert.DngateRefIdeal.Facts] : Prop :=
  ∀ (m : (ℓ : Loc Cert.DngateIdeal.nD Cert.DngateIdeal.τ Cert.DngateIdeal.sig) → Buf (Elt Ideal) ℓ) (g : Dev Cert.DngateIdeal.nD → PrngReg)
    (m' : (ℓ : Loc Cert.DngateRefIdeal.nD Cert.DngateRefIdeal.τ Cert.DngateRefIdeal.sig) → Buf (Elt Ideal) ℓ) (g' : Dev Cert.DngateRefIdeal.nD → PrngReg), Pre_DngateIdeal m →
    (∀ c : Dev Cert.DngateIdeal.nD,
      m' ((c.tc : Thread Cert.DngateRefIdeal.nD Cert.DngateRefIdeal.τ).loc Cert.DngateRefIdeal.main_arg0) = m ((c.tc : Thread Cert.DngateIdeal.nD Cert.DngateIdeal.τ).loc Cert.DngateIdeal.main_arg0)
      ∧ m' ((c.tc : Thread Cert.DngateRefIdeal.nD Cert.DngateRefIdeal.τ).loc Cert.DngateRefIdeal.main_arg1) = m ((c.tc : Thread Cert.DngateIdeal.nD Cert.DngateIdeal.τ).loc Cert.DngateIdeal.main_arg1)
      ∧ m' ((c.tc : Thread Cert.DngateRefIdeal.nD Cert.DngateRefIdeal.τ).loc Cert.DngateRefIdeal.main_arg2) = m ((c.tc : Thread Cert.DngateIdeal.nD Cert.DngateIdeal.τ).loc Cert.DngateIdeal.main_arg2)
      ∧ m' ((c.tc : Thread Cert.DngateRefIdeal.nD Cert.DngateRefIdeal.τ).loc Cert.DngateRefIdeal.main_arg3) = m ((c.tc : Thread Cert.DngateIdeal.nD Cert.DngateIdeal.τ).loc Cert.DngateIdeal.main_arg3)
      ∧ m' ((c.tc : Thread Cert.DngateRefIdeal.nD Cert.DngateRefIdeal.τ).loc Cert.DngateRefIdeal.main_arg4) = m ((c.tc : Thread Cert.DngateIdeal.nD Cert.DngateIdeal.τ).loc Cert.DngateIdeal.main_arg4)) →
    ∃ (v0 : (c : Dev Cert.DngateIdeal.nD) → Buf (Elt Ideal) ((c.tc : Thread Cert.DngateIdeal.nD Cert.DngateIdeal.τ).loc Cert.DngateIdeal.main_v16)),
      θ_run (Cert.DngateIdeal.defs (F := Ideal)) (onTc (τ := Cert.DngateIdeal.τ) (Cert.DngateIdeal.main (F := Ideal))) ⟨m, fun _ => 0, g⟩ (fun r => ∀ c : Dev Cert.DngateIdeal.nD,
          r.2.mem ((c.tc : Thread Cert.DngateIdeal.nD Cert.DngateIdeal.τ).loc Cert.DngateIdeal.main_v16) = v0 c
          ∧ r.2.mem ((c.tc : Thread Cert.DngateIdeal.nD Cert.DngateIdeal.τ).loc Cert.DngateIdeal.main_arg0) = m ((c.tc : Thread Cert.DngateIdeal.nD Cert.DngateIdeal.τ).loc Cert.DngateIdeal.main_arg0)
          ∧ r.2.mem ((c.tc : Thread Cert.DngateIdeal.nD Cert.DngateIdeal.τ).loc Cert.DngateIdeal.main_arg1) = m ((c.tc : Thread Cert.DngateIdeal.nD Cert.DngateIdeal.τ).loc Cert.DngateIdeal.main_arg1)
          ∧ r.2.mem ((c.tc : Thread Cert.DngateIdeal.nD Cert.DngateIdeal.τ).loc Cert.DngateIdeal.main_arg2) = m ((c.tc : Thread Cert.DngateIdeal.nD Cert.DngateIdeal.τ).loc Cert.DngateIdeal.main_arg2)
          ∧ r.2.mem ((c.tc : Thread Cert.DngateIdeal.nD Cert.DngateIdeal.τ).loc Cert.DngateIdeal.main_arg3) = m ((c.tc : Thread Cert.DngateIdeal.nD Cert.DngateIdeal.τ).loc Cert.DngateIdeal.main_arg3)
          ∧ r.2.mem ((c.tc : Thread Cert.DngateIdeal.nD Cert.DngateIdeal.τ).loc Cert.DngateIdeal.main_arg4) = m ((c.tc : Thread Cert.DngateIdeal.nD Cert.DngateIdeal.τ).loc Cert.DngateIdeal.main_arg4))
      ∧ θ_run (Cert.DngateRefIdeal.defs (F := Ideal)) (onTc (τ := Cert.DngateRefIdeal.τ) (Cert.DngateRefIdeal.main (F := Ideal))) ⟨m', fun _ => 0, g'⟩ (fun r => ∀ c : Dev Cert.DngateRefIdeal.nD,
          r.2.mem ((c.tc : Thread Cert.DngateRefIdeal.nD Cert.DngateRefIdeal.τ).loc Cert.DngateRefIdeal.main_v12) = v0 c
          ∧ r.2.mem ((c.tc : Thread Cert.DngateRefIdeal.nD Cert.DngateRefIdeal.τ).loc Cert.DngateRefIdeal.main_arg0) = m' ((c.tc : Thread Cert.DngateRefIdeal.nD Cert.DngateRefIdeal.τ).loc Cert.DngateRefIdeal.main_arg0)
          ∧ r.2.mem ((c.tc : Thread Cert.DngateRefIdeal.nD Cert.DngateRefIdeal.τ).loc Cert.DngateRefIdeal.main_arg1) = m' ((c.tc : Thread Cert.DngateRefIdeal.nD Cert.DngateRefIdeal.τ).loc Cert.DngateRefIdeal.main_arg1)
          ∧ r.2.mem ((c.tc : Thread Cert.DngateRefIdeal.nD Cert.DngateRefIdeal.τ).loc Cert.DngateRefIdeal.main_arg2) = m' ((c.tc : Thread Cert.DngateRefIdeal.nD Cert.DngateRefIdeal.τ).loc Cert.DngateRefIdeal.main_arg2)
          ∧ r.2.mem ((c.tc : Thread Cert.DngateRefIdeal.nD Cert.DngateRefIdeal.τ).loc Cert.DngateRefIdeal.main_arg3) = m' ((c.tc : Thread Cert.DngateRefIdeal.nD Cert.DngateRefIdeal.τ).loc Cert.DngateRefIdeal.main_arg3)
          ∧ r.2.mem ((c.tc : Thread Cert.DngateRefIdeal.nD Cert.DngateRefIdeal.τ).loc Cert.DngateRefIdeal.main_arg4) = m' ((c.tc : Thread Cert.DngateRefIdeal.nD Cert.DngateRefIdeal.τ).loc Cert.DngateRefIdeal.main_arg4))

def preserves_Dscan_DscanIdeal : Prop :=
  True

def algebraic_DscanIdeal_DscanRefIdeal [hDscanIdeal : Cert.DscanIdeal.Facts] [hDscanRefIdeal : Cert.DscanRefIdeal.Facts] : Prop :=
  ∀ (m : (ℓ : Loc Cert.DscanIdeal.nD Cert.DscanIdeal.τ Cert.DscanIdeal.sig) → Buf (Elt Ideal) ℓ) (g : Dev Cert.DscanIdeal.nD → PrngReg)
    (m' : (ℓ : Loc Cert.DscanRefIdeal.nD Cert.DscanRefIdeal.τ Cert.DscanRefIdeal.sig) → Buf (Elt Ideal) ℓ) (g' : Dev Cert.DscanRefIdeal.nD → PrngReg), Pre_DscanIdeal m →
    (∀ c : Dev Cert.DscanIdeal.nD,
      m' ((c.tc : Thread Cert.DscanRefIdeal.nD Cert.DscanRefIdeal.τ).loc Cert.DscanRefIdeal.main_arg0) = m ((c.tc : Thread Cert.DscanIdeal.nD Cert.DscanIdeal.τ).loc Cert.DscanIdeal.main_arg0)
      ∧ m' ((c.tc : Thread Cert.DscanRefIdeal.nD Cert.DscanRefIdeal.τ).loc Cert.DscanRefIdeal.main_arg1) = m ((c.tc : Thread Cert.DscanIdeal.nD Cert.DscanIdeal.τ).loc Cert.DscanIdeal.main_arg1)
      ∧ m' ((c.tc : Thread Cert.DscanRefIdeal.nD Cert.DscanRefIdeal.τ).loc Cert.DscanRefIdeal.main_arg2) = m ((c.tc : Thread Cert.DscanIdeal.nD Cert.DscanIdeal.τ).loc Cert.DscanIdeal.main_arg2)
      ∧ m' ((c.tc : Thread Cert.DscanRefIdeal.nD Cert.DscanRefIdeal.τ).loc Cert.DscanRefIdeal.main_arg3) = m ((c.tc : Thread Cert.DscanIdeal.nD Cert.DscanIdeal.τ).loc Cert.DscanIdeal.main_arg3)
      ∧ m' ((c.tc : Thread Cert.DscanRefIdeal.nD Cert.DscanRefIdeal.τ).loc Cert.DscanRefIdeal.main_arg4) = m ((c.tc : Thread Cert.DscanIdeal.nD Cert.DscanIdeal.τ).loc Cert.DscanIdeal.main_arg4)
      ∧ m' ((c.tc : Thread Cert.DscanRefIdeal.nD Cert.DscanRefIdeal.τ).loc Cert.DscanRefIdeal.main_arg5) = m ((c.tc : Thread Cert.DscanIdeal.nD Cert.DscanIdeal.τ).loc Cert.DscanIdeal.main_arg5)) →
    ∃ (v0 : (c : Dev Cert.DscanIdeal.nD) → Buf (Elt Ideal) ((c.tc : Thread Cert.DscanIdeal.nD Cert.DscanIdeal.τ).loc Cert.DscanIdeal.main_v0_0)) (v1 : (c : Dev Cert.DscanIdeal.nD) → Buf (Elt Ideal) ((c.tc : Thread Cert.DscanIdeal.nD Cert.DscanIdeal.τ).loc Cert.DscanIdeal.main_v0_1)) (v2 : (c : Dev Cert.DscanIdeal.nD) → Buf (Elt Ideal) ((c.tc : Thread Cert.DscanIdeal.nD Cert.DscanIdeal.τ).loc Cert.DscanIdeal.main_v0_2)) (v3 : (c : Dev Cert.DscanIdeal.nD) → Buf (Elt Ideal) ((c.tc : Thread Cert.DscanIdeal.nD Cert.DscanIdeal.τ).loc Cert.DscanIdeal.main_v0_3)),
      θ_run (Cert.DscanIdeal.defs (F := Ideal)) (onTc (τ := Cert.DscanIdeal.τ) (Cert.DscanIdeal.main (F := Ideal))) ⟨m, fun _ => 0, g⟩ (fun r => ∀ c : Dev Cert.DscanIdeal.nD,
          r.2.mem ((c.tc : Thread Cert.DscanIdeal.nD Cert.DscanIdeal.τ).loc Cert.DscanIdeal.main_v0_0) = v0 c
          ∧ r.2.mem ((c.tc : Thread Cert.DscanIdeal.nD Cert.DscanIdeal.τ).loc Cert.DscanIdeal.main_v0_1) = v1 c
          ∧ r.2.mem ((c.tc : Thread Cert.DscanIdeal.nD Cert.DscanIdeal.τ).loc Cert.DscanIdeal.main_v0_2) = v2 c
          ∧ r.2.mem ((c.tc : Thread Cert.DscanIdeal.nD Cert.DscanIdeal.τ).loc Cert.DscanIdeal.main_v0_3) = v3 c
          ∧ r.2.mem ((c.tc : Thread Cert.DscanIdeal.nD Cert.DscanIdeal.τ).loc Cert.DscanIdeal.main_arg0) = m ((c.tc : Thread Cert.DscanIdeal.nD Cert.DscanIdeal.τ).loc Cert.DscanIdeal.main_arg0)
          ∧ r.2.mem ((c.tc : Thread Cert.DscanIdeal.nD Cert.DscanIdeal.τ).loc Cert.DscanIdeal.main_arg1) = m ((c.tc : Thread Cert.DscanIdeal.nD Cert.DscanIdeal.τ).loc Cert.DscanIdeal.main_arg1)
          ∧ r.2.mem ((c.tc : Thread Cert.DscanIdeal.nD Cert.DscanIdeal.τ).loc Cert.DscanIdeal.main_arg2) = m ((c.tc : Thread Cert.DscanIdeal.nD Cert.DscanIdeal.τ).loc Cert.DscanIdeal.main_arg2)
          ∧ r.2.mem ((c.tc : Thread Cert.DscanIdeal.nD Cert.DscanIdeal.τ).loc Cert.DscanIdeal.main_arg3) = m ((c.tc : Thread Cert.DscanIdeal.nD Cert.DscanIdeal.τ).loc Cert.DscanIdeal.main_arg3)
          ∧ r.2.mem ((c.tc : Thread Cert.DscanIdeal.nD Cert.DscanIdeal.τ).loc Cert.DscanIdeal.main_arg4) = m ((c.tc : Thread Cert.DscanIdeal.nD Cert.DscanIdeal.τ).loc Cert.DscanIdeal.main_arg4)
          ∧ r.2.mem ((c.tc : Thread Cert.DscanIdeal.nD Cert.DscanIdeal.τ).loc Cert.DscanIdeal.main_arg5) = m ((c.tc : Thread Cert.DscanIdeal.nD Cert.DscanIdeal.τ).loc Cert.DscanIdeal.main_arg5))
      ∧ θ_run (Cert.DscanRefIdeal.defs (F := Ideal)) (onTc (τ := Cert.DscanRefIdeal.τ) (Cert.DscanRefIdeal.main (F := Ideal))) ⟨m', fun _ => 0, g'⟩ (fun r => ∀ c : Dev Cert.DscanRefIdeal.nD,
          r.2.mem ((c.tc : Thread Cert.DscanRefIdeal.nD Cert.DscanRefIdeal.τ).loc Cert.DscanRefIdeal.main_v5_7) = v0 c
          ∧ r.2.mem ((c.tc : Thread Cert.DscanRefIdeal.nD Cert.DscanRefIdeal.τ).loc Cert.DscanRefIdeal.main_v5_8) = v1 c
          ∧ r.2.mem ((c.tc : Thread Cert.DscanRefIdeal.nD Cert.DscanRefIdeal.τ).loc Cert.DscanRefIdeal.main_v38) = v2 c
          ∧ r.2.mem ((c.tc : Thread Cert.DscanRefIdeal.nD Cert.DscanRefIdeal.τ).loc Cert.DscanRefIdeal.main_v33) = v3 c
          ∧ r.2.mem ((c.tc : Thread Cert.DscanRefIdeal.nD Cert.DscanRefIdeal.τ).loc Cert.DscanRefIdeal.main_arg0) = m' ((c.tc : Thread Cert.DscanRefIdeal.nD Cert.DscanRefIdeal.τ).loc Cert.DscanRefIdeal.main_arg0)
          ∧ r.2.mem ((c.tc : Thread Cert.DscanRefIdeal.nD Cert.DscanRefIdeal.τ).loc Cert.DscanRefIdeal.main_arg1) = m' ((c.tc : Thread Cert.DscanRefIdeal.nD Cert.DscanRefIdeal.τ).loc Cert.DscanRefIdeal.main_arg1)
          ∧ r.2.mem ((c.tc : Thread Cert.DscanRefIdeal.nD Cert.DscanRefIdeal.τ).loc Cert.DscanRefIdeal.main_arg2) = m' ((c.tc : Thread Cert.DscanRefIdeal.nD Cert.DscanRefIdeal.τ).loc Cert.DscanRefIdeal.main_arg2)
          ∧ r.2.mem ((c.tc : Thread Cert.DscanRefIdeal.nD Cert.DscanRefIdeal.τ).loc Cert.DscanRefIdeal.main_arg3) = m' ((c.tc : Thread Cert.DscanRefIdeal.nD Cert.DscanRefIdeal.τ).loc Cert.DscanRefIdeal.main_arg3)
          ∧ r.2.mem ((c.tc : Thread Cert.DscanRefIdeal.nD Cert.DscanRefIdeal.τ).loc Cert.DscanRefIdeal.main_arg4) = m' ((c.tc : Thread Cert.DscanRefIdeal.nD Cert.DscanRefIdeal.τ).loc Cert.DscanRefIdeal.main_arg4)
          ∧ r.2.mem ((c.tc : Thread Cert.DscanRefIdeal.nD Cert.DscanRefIdeal.τ).loc Cert.DscanRefIdeal.main_arg5) = m' ((c.tc : Thread Cert.DscanRefIdeal.nD Cert.DscanRefIdeal.τ).loc Cert.DscanRefIdeal.main_arg5))

def preserves_Dnorm_DnormIdeal : Prop :=
  True

def algebraic_DnormIdeal_DnormRefIdeal [hDnormIdeal : Cert.DnormIdeal.Facts] [hDnormRefIdeal : Cert.DnormRefIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)
      ∧ m' ((c.tc : Thread Cert.DnormRefIdeal.nD Cert.DnormRefIdeal.τ).loc Cert.DnormRefIdeal.main_arg2) = m ((c.tc : Thread Cert.DnormIdeal.nD Cert.DnormIdeal.τ).loc Cert.DnormIdeal.main_arg2)
      ∧ m' ((c.tc : Thread Cert.DnormRefIdeal.nD Cert.DnormRefIdeal.τ).loc Cert.DnormRefIdeal.main_arg3) = m ((c.tc : Thread Cert.DnormIdeal.nD Cert.DnormIdeal.τ).loc Cert.DnormIdeal.main_arg3)) →
    ∃ (v0 : (c : Dev Cert.DnormIdeal.nD) → Buf (Elt Ideal) ((c.tc : Thread Cert.DnormIdeal.nD Cert.DnormIdeal.τ).loc Cert.DnormIdeal.main_v1_0)) (v1 : (c : Dev Cert.DnormIdeal.nD) → Buf (Elt Ideal) ((c.tc : Thread Cert.DnormIdeal.nD Cert.DnormIdeal.τ).loc Cert.DnormIdeal.main_v1_1)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v1_0) = v0 c
          ∧ r.2.mem ((c.tc : Thread Cert.DnormIdeal.nD Cert.DnormIdeal.τ).loc Cert.DnormIdeal.main_v1_1) = v1 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v36) = v0 c
          ∧ r.2.mem ((c.tc : Thread Cert.DnormRefIdeal.nD Cert.DnormRefIdeal.τ).loc Cert.DnormRefIdeal.main_v37) = v1 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1)
          ∧ r.2.mem ((c.tc : Thread Cert.DnormRefIdeal.nD Cert.DnormRefIdeal.τ).loc Cert.DnormRefIdeal.main_arg2) = m' ((c.tc : Thread Cert.DnormRefIdeal.nD Cert.DnormRefIdeal.τ).loc Cert.DnormRefIdeal.main_arg2)
          ∧ r.2.mem ((c.tc : Thread Cert.DnormRefIdeal.nD Cert.DnormRefIdeal.τ).loc Cert.DnormRefIdeal.main_arg3) = m' ((c.tc : Thread Cert.DnormRefIdeal.nD Cert.DnormRefIdeal.τ).loc Cert.DnormRefIdeal.main_arg3))

def preserves_Dshift_DshiftIdeal : Prop :=
  True

def algebraic_DshiftIdeal_DshiftRefIdeal [hDshiftIdeal : Cert.DshiftIdeal.Facts] [hDshiftRefIdeal : Cert.DshiftRefIdeal.Facts] : Prop :=
  ∀ (m : (ℓ : Loc Cert.DshiftIdeal.nD Cert.DshiftIdeal.τ Cert.DshiftIdeal.sig) → Buf (Elt Ideal) ℓ) (g : Dev Cert.DshiftIdeal.nD → PrngReg)
    (m' : (ℓ : Loc Cert.DshiftRefIdeal.nD Cert.DshiftRefIdeal.τ Cert.DshiftRefIdeal.sig) → Buf (Elt Ideal) ℓ) (g' : Dev Cert.DshiftRefIdeal.nD → PrngReg), Pre_DshiftIdeal m →
    (∀ c : Dev Cert.DshiftIdeal.nD,
      m' ((c.tc : Thread Cert.DshiftRefIdeal.nD Cert.DshiftRefIdeal.τ).loc Cert.DshiftRefIdeal.main_arg0) = m ((c.tc : Thread Cert.DshiftIdeal.nD Cert.DshiftIdeal.τ).loc Cert.DshiftIdeal.main_arg0)
      ∧ m' ((c.tc : Thread Cert.DshiftRefIdeal.nD Cert.DshiftRefIdeal.τ).loc Cert.DshiftRefIdeal.main_arg1) = m ((c.tc : Thread Cert.DshiftIdeal.nD Cert.DshiftIdeal.τ).loc Cert.DshiftIdeal.main_arg1)
      ∧ m' ((c.tc : Thread Cert.DshiftRefIdeal.nD Cert.DshiftRefIdeal.τ).loc Cert.DshiftRefIdeal.main_arg2) = m ((c.tc : Thread Cert.DshiftIdeal.nD Cert.DshiftIdeal.τ).loc Cert.DshiftIdeal.main_arg2)) →
    ∃ (v0 : (c : Dev Cert.DshiftIdeal.nD) → Buf (Elt Ideal) ((c.tc : Thread Cert.DshiftIdeal.nD Cert.DshiftIdeal.τ).loc Cert.DshiftIdeal.main_v0_0)) (v1 : (c : Dev Cert.DshiftIdeal.nD) → Buf (Elt Ideal) ((c.tc : Thread Cert.DshiftIdeal.nD Cert.DshiftIdeal.τ).loc Cert.DshiftIdeal.main_v0_1)),
      θ_run (Cert.DshiftIdeal.defs (F := Ideal)) (onTc (τ := Cert.DshiftIdeal.τ) (Cert.DshiftIdeal.main (F := Ideal))) ⟨m, fun _ => 0, g⟩ (fun r => ∀ c : Dev Cert.DshiftIdeal.nD,
          r.2.mem ((c.tc : Thread Cert.DshiftIdeal.nD Cert.DshiftIdeal.τ).loc Cert.DshiftIdeal.main_v0_0) = v0 c
          ∧ r.2.mem ((c.tc : Thread Cert.DshiftIdeal.nD Cert.DshiftIdeal.τ).loc Cert.DshiftIdeal.main_v0_1) = v1 c
          ∧ r.2.mem ((c.tc : Thread Cert.DshiftIdeal.nD Cert.DshiftIdeal.τ).loc Cert.DshiftIdeal.main_arg0) = m ((c.tc : Thread Cert.DshiftIdeal.nD Cert.DshiftIdeal.τ).loc Cert.DshiftIdeal.main_arg0)
          ∧ r.2.mem ((c.tc : Thread Cert.DshiftIdeal.nD Cert.DshiftIdeal.τ).loc Cert.DshiftIdeal.main_arg1) = m ((c.tc : Thread Cert.DshiftIdeal.nD Cert.DshiftIdeal.τ).loc Cert.DshiftIdeal.main_arg1)
          ∧ r.2.mem ((c.tc : Thread Cert.DshiftIdeal.nD Cert.DshiftIdeal.τ).loc Cert.DshiftIdeal.main_arg2) = m ((c.tc : Thread Cert.DshiftIdeal.nD Cert.DshiftIdeal.τ).loc Cert.DshiftIdeal.main_arg2))
      ∧ θ_run (Cert.DshiftRefIdeal.defs (F := Ideal)) (onTc (τ := Cert.DshiftRefIdeal.τ) (Cert.DshiftRefIdeal.main (F := Ideal))) ⟨m', fun _ => 0, g'⟩ (fun r => ∀ c : Dev Cert.DshiftRefIdeal.nD,
          r.2.mem ((c.tc : Thread Cert.DshiftRefIdeal.nD Cert.DshiftRefIdeal.τ).loc Cert.DshiftRefIdeal.main_v22) = v0 c
          ∧ r.2.mem ((c.tc : Thread Cert.DshiftRefIdeal.nD Cert.DshiftRefIdeal.τ).loc Cert.DshiftRefIdeal.main_v14) = v1 c
          ∧ r.2.mem ((c.tc : Thread Cert.DshiftRefIdeal.nD Cert.DshiftRefIdeal.τ).loc Cert.DshiftRefIdeal.main_arg0) = m' ((c.tc : Thread Cert.DshiftRefIdeal.nD Cert.DshiftRefIdeal.τ).loc Cert.DshiftRefIdeal.main_arg0)
          ∧ r.2.mem ((c.tc : Thread Cert.DshiftRefIdeal.nD Cert.DshiftRefIdeal.τ).loc Cert.DshiftRefIdeal.main_arg1) = m' ((c.tc : Thread Cert.DshiftRefIdeal.nD Cert.DshiftRefIdeal.τ).loc Cert.DshiftRefIdeal.main_arg1)
          ∧ r.2.mem ((c.tc : Thread Cert.DshiftRefIdeal.nD Cert.DshiftRefIdeal.τ).loc Cert.DshiftRefIdeal.main_arg2) = m' ((c.tc : Thread Cert.DshiftRefIdeal.nD Cert.DshiftRefIdeal.τ).loc Cert.DshiftRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Dple_DpleIdeal : Prop :=
  True

def algebraic_DpleIdeal_DpleRefIdeal [hDpleIdeal : Cert.DpleIdeal.Facts] [hDpleRefIdeal : Cert.DpleRefIdeal.Facts] : Prop :=
  ∀ (m : (ℓ : Loc Cert.DpleIdeal.nD Cert.DpleIdeal.τ Cert.DpleIdeal.sig) → Buf (Elt Ideal) ℓ) (g : Dev Cert.DpleIdeal.nD → PrngReg)
    (m' : (ℓ : Loc Cert.DpleRefIdeal.nD Cert.DpleRefIdeal.τ Cert.DpleRefIdeal.sig) → Buf (Elt Ideal) ℓ) (g' : Dev Cert.DpleRefIdeal.nD → PrngReg), Pre_DpleIdeal m →
    (∀ c : Dev Cert.DpleIdeal.nD,
      m' ((c.tc : Thread Cert.DpleRefIdeal.nD Cert.DpleRefIdeal.τ).loc Cert.DpleRefIdeal.main_arg0) = m ((c.tc : Thread Cert.DpleIdeal.nD Cert.DpleIdeal.τ).loc Cert.DpleIdeal.main_arg0)
      ∧ m' ((c.tc : Thread Cert.DpleRefIdeal.nD Cert.DpleRefIdeal.τ).loc Cert.DpleRefIdeal.main_arg1) = m ((c.tc : Thread Cert.DpleIdeal.nD Cert.DpleIdeal.τ).loc Cert.DpleIdeal.main_arg1)
      ∧ m' ((c.tc : Thread Cert.DpleRefIdeal.nD Cert.DpleRefIdeal.τ).loc Cert.DpleRefIdeal.main_arg2) = m ((c.tc : Thread Cert.DpleIdeal.nD Cert.DpleIdeal.τ).loc Cert.DpleIdeal.main_arg2)) →
    ∃ (v0 : (c : Dev Cert.DpleIdeal.nD) → Buf (Elt Ideal) ((c.tc : Thread Cert.DpleIdeal.nD Cert.DpleIdeal.τ).loc Cert.DpleIdeal.main_v0_0)) (v1 : (c : Dev Cert.DpleIdeal.nD) → Buf (Elt Ideal) ((c.tc : Thread Cert.DpleIdeal.nD Cert.DpleIdeal.τ).loc Cert.DpleIdeal.main_v0_1)),
      θ_run (Cert.DpleIdeal.defs (F := Ideal)) (onTc (τ := Cert.DpleIdeal.τ) (Cert.DpleIdeal.main (F := Ideal))) ⟨m, fun _ => 0, g⟩ (fun r => ∀ c : Dev Cert.DpleIdeal.nD,
          r.2.mem ((c.tc : Thread Cert.DpleIdeal.nD Cert.DpleIdeal.τ).loc Cert.DpleIdeal.main_v0_0) = v0 c
          ∧ r.2.mem ((c.tc : Thread Cert.DpleIdeal.nD Cert.DpleIdeal.τ).loc Cert.DpleIdeal.main_v0_1) = v1 c
          ∧ r.2.mem ((c.tc : Thread Cert.DpleIdeal.nD Cert.DpleIdeal.τ).loc Cert.DpleIdeal.main_arg0) = m ((c.tc : Thread Cert.DpleIdeal.nD Cert.DpleIdeal.τ).loc Cert.DpleIdeal.main_arg0)
          ∧ r.2.mem ((c.tc : Thread Cert.DpleIdeal.nD Cert.DpleIdeal.τ).loc Cert.DpleIdeal.main_arg1) = m ((c.tc : Thread Cert.DpleIdeal.nD Cert.DpleIdeal.τ).loc Cert.DpleIdeal.main_arg1)
          ∧ r.2.mem ((c.tc : Thread Cert.DpleIdeal.nD Cert.DpleIdeal.τ).loc Cert.DpleIdeal.main_arg2) = m ((c.tc : Thread Cert.DpleIdeal.nD Cert.DpleIdeal.τ).loc Cert.DpleIdeal.main_arg2))
      ∧ θ_run (Cert.DpleRefIdeal.defs (F := Ideal)) (onTc (τ := Cert.DpleRefIdeal.τ) (Cert.DpleRefIdeal.main (F := Ideal))) ⟨m', fun _ => 0, g'⟩ (fun r => ∀ c : Dev Cert.DpleRefIdeal.nD,
          r.2.mem ((c.tc : Thread Cert.DpleRefIdeal.nD Cert.DpleRefIdeal.τ).loc Cert.DpleRefIdeal.main_v13) = v0 c
          ∧ r.2.mem ((c.tc : Thread Cert.DpleRefIdeal.nD Cert.DpleRefIdeal.τ).loc Cert.DpleRefIdeal.main_v14) = v1 c
          ∧ r.2.mem ((c.tc : Thread Cert.DpleRefIdeal.nD Cert.DpleRefIdeal.τ).loc Cert.DpleRefIdeal.main_arg0) = m' ((c.tc : Thread Cert.DpleRefIdeal.nD Cert.DpleRefIdeal.τ).loc Cert.DpleRefIdeal.main_arg0)
          ∧ r.2.mem ((c.tc : Thread Cert.DpleRefIdeal.nD Cert.DpleRefIdeal.τ).loc Cert.DpleRefIdeal.main_arg1) = m' ((c.tc : Thread Cert.DpleRefIdeal.nD Cert.DpleRefIdeal.τ).loc Cert.DpleRefIdeal.main_arg1)
          ∧ r.2.mem ((c.tc : Thread Cert.DpleRefIdeal.nD Cert.DpleRefIdeal.τ).loc Cert.DpleRefIdeal.main_arg2) = m' ((c.tc : Thread Cert.DpleRefIdeal.nD Cert.DpleRefIdeal.τ).loc Cert.DpleRefIdeal.main_arg2))

def preserves_Dglu_DgluIdeal : Prop :=
  True

def algebraic_DgluIdeal_DgluRefIdeal [hDgluIdeal : Cert.DgluIdeal.Facts] [hDgluRefIdeal : Cert.DgluRefIdeal.Facts] : Prop :=
  ∀ (m : (ℓ : Loc Cert.DgluIdeal.nD Cert.DgluIdeal.τ Cert.DgluIdeal.sig) → Buf (Elt Ideal) ℓ) (g : Dev Cert.DgluIdeal.nD → PrngReg)
    (m' : (ℓ : Loc Cert.DgluRefIdeal.nD Cert.DgluRefIdeal.τ Cert.DgluRefIdeal.sig) → Buf (Elt Ideal) ℓ) (g' : Dev Cert.DgluRefIdeal.nD → PrngReg), Pre_DgluIdeal m →
    (∀ c : Dev Cert.DgluIdeal.nD,
      m' ((c.tc : Thread Cert.DgluRefIdeal.nD Cert.DgluRefIdeal.τ).loc Cert.DgluRefIdeal.main_arg0) = m ((c.tc : Thread Cert.DgluIdeal.nD Cert.DgluIdeal.τ).loc Cert.DgluIdeal.main_arg0)
      ∧ m' ((c.tc : Thread Cert.DgluRefIdeal.nD Cert.DgluRefIdeal.τ).loc Cert.DgluRefIdeal.main_arg1) = m ((c.tc : Thread Cert.DgluIdeal.nD Cert.DgluIdeal.τ).loc Cert.DgluIdeal.main_arg1)) →
    ∃ (v0 : (c : Dev Cert.DgluIdeal.nD) → Buf (Elt Ideal) ((c.tc : Thread Cert.DgluIdeal.nD Cert.DgluIdeal.τ).loc Cert.DgluIdeal.main_v0)),
      θ_run (Cert.DgluIdeal.defs (F := Ideal)) (onTc (τ := Cert.DgluIdeal.τ) (Cert.DgluIdeal.main (F := Ideal))) ⟨m, fun _ => 0, g⟩ (fun r => ∀ c : Dev Cert.DgluIdeal.nD,
          r.2.mem ((c.tc : Thread Cert.DgluIdeal.nD Cert.DgluIdeal.τ).loc Cert.DgluIdeal.main_v0) = v0 c
          ∧ r.2.mem ((c.tc : Thread Cert.DgluIdeal.nD Cert.DgluIdeal.τ).loc Cert.DgluIdeal.main_arg0) = m ((c.tc : Thread Cert.DgluIdeal.nD Cert.DgluIdeal.τ).loc Cert.DgluIdeal.main_arg0)
          ∧ r.2.mem ((c.tc : Thread Cert.DgluIdeal.nD Cert.DgluIdeal.τ).loc Cert.DgluIdeal.main_arg1) = m ((c.tc : Thread Cert.DgluIdeal.nD Cert.DgluIdeal.τ).loc Cert.DgluIdeal.main_arg1))
      ∧ θ_run (Cert.DgluRefIdeal.defs (F := Ideal)) (onTc (τ := Cert.DgluRefIdeal.τ) (Cert.DgluRefIdeal.main (F := Ideal))) ⟨m', fun _ => 0, g'⟩ (fun r => ∀ c : Dev Cert.DgluRefIdeal.nD,
          r.2.mem ((c.tc : Thread Cert.DgluRefIdeal.nD Cert.DgluRefIdeal.τ).loc Cert.DgluRefIdeal.main_v18) = v0 c
          ∧ r.2.mem ((c.tc : Thread Cert.DgluRefIdeal.nD Cert.DgluRefIdeal.τ).loc Cert.DgluRefIdeal.main_arg0) = m' ((c.tc : Thread Cert.DgluRefIdeal.nD Cert.DgluRefIdeal.τ).loc Cert.DgluRefIdeal.main_arg0)
          ∧ r.2.mem ((c.tc : Thread Cert.DgluRefIdeal.nD Cert.DgluRefIdeal.τ).loc Cert.DgluRefIdeal.main_arg1) = m' ((c.tc : Thread Cert.DgluRefIdeal.nD Cert.DgluRefIdeal.τ).loc Cert.DgluRefIdeal.main_arg1))

def preserves_Dgelu_DgeluIdeal : Prop :=
  True

def algebraic_DgeluIdeal_DgeluRefIdeal [hDgeluIdeal : Cert.DgeluIdeal.Facts] [hDgeluRefIdeal : Cert.DgeluRefIdeal.Facts] : Prop :=
  ∀ (m : (ℓ : Loc Cert.DgeluIdeal.nD Cert.DgeluIdeal.τ Cert.DgeluIdeal.sig) → Buf (Elt Ideal) ℓ) (g : Dev Cert.DgeluIdeal.nD → PrngReg)
    (m' : (ℓ : Loc Cert.DgeluRefIdeal.nD Cert.DgeluRefIdeal.τ Cert.DgeluRefIdeal.sig) → Buf (Elt Ideal) ℓ) (g' : Dev Cert.DgeluRefIdeal.nD → PrngReg), Pre_DgeluIdeal m →
    (∀ c : Dev Cert.DgeluIdeal.nD,
      m' ((c.tc : Thread Cert.DgeluRefIdeal.nD Cert.DgeluRefIdeal.τ).loc Cert.DgeluRefIdeal.main_arg0) = m ((c.tc : Thread Cert.DgeluIdeal.nD Cert.DgeluIdeal.τ).loc Cert.DgeluIdeal.main_arg0)
      ∧ m' ((c.tc : Thread Cert.DgeluRefIdeal.nD Cert.DgeluRefIdeal.τ).loc Cert.DgeluRefIdeal.main_arg1) = m ((c.tc : Thread Cert.DgeluIdeal.nD Cert.DgeluIdeal.τ).loc Cert.DgeluIdeal.main_arg1)
      ∧ m' ((c.tc : Thread Cert.DgeluRefIdeal.nD Cert.DgeluRefIdeal.τ).loc Cert.DgeluRefIdeal.main_arg2) = m ((c.tc : Thread Cert.DgeluIdeal.nD Cert.DgeluIdeal.τ).loc Cert.DgeluIdeal.main_arg2)
      ∧ m' ((c.tc : Thread Cert.DgeluRefIdeal.nD Cert.DgeluRefIdeal.τ).loc Cert.DgeluRefIdeal.main_arg3) = m ((c.tc : Thread Cert.DgeluIdeal.nD Cert.DgeluIdeal.τ).loc Cert.DgeluIdeal.main_arg3)) →
    ∃ (v0 : (c : Dev Cert.DgeluIdeal.nD) → Buf (Elt Ideal) ((c.tc : Thread Cert.DgeluIdeal.nD Cert.DgeluIdeal.τ).loc Cert.DgeluIdeal.main_v1_0)) (v1 : (c : Dev Cert.DgeluIdeal.nD) → Buf (Elt Ideal) ((c.tc : Thread Cert.DgeluIdeal.nD Cert.DgeluIdeal.τ).loc Cert.DgeluIdeal.main_v1_1)) (v2 : (c : Dev Cert.DgeluIdeal.nD) → Buf (Elt Ideal) ((c.tc : Thread Cert.DgeluIdeal.nD Cert.DgeluIdeal.τ).loc Cert.DgeluIdeal.main_v1_2)),
      θ_run (Cert.DgeluIdeal.defs (F := Ideal)) (onTc (τ := Cert.DgeluIdeal.τ) (Cert.DgeluIdeal.main (F := Ideal))) ⟨m, fun _ => 0, g⟩ (fun r => ∀ c : Dev Cert.DgeluIdeal.nD,
          r.2.mem ((c.tc : Thread Cert.DgeluIdeal.nD Cert.DgeluIdeal.τ).loc Cert.DgeluIdeal.main_v1_0) = v0 c
          ∧ r.2.mem ((c.tc : Thread Cert.DgeluIdeal.nD Cert.DgeluIdeal.τ).loc Cert.DgeluIdeal.main_v1_1) = v1 c
          ∧ r.2.mem ((c.tc : Thread Cert.DgeluIdeal.nD Cert.DgeluIdeal.τ).loc Cert.DgeluIdeal.main_v1_2) = v2 c
          ∧ r.2.mem ((c.tc : Thread Cert.DgeluIdeal.nD Cert.DgeluIdeal.τ).loc Cert.DgeluIdeal.main_arg0) = m ((c.tc : Thread Cert.DgeluIdeal.nD Cert.DgeluIdeal.τ).loc Cert.DgeluIdeal.main_arg0)
          ∧ r.2.mem ((c.tc : Thread Cert.DgeluIdeal.nD Cert.DgeluIdeal.τ).loc Cert.DgeluIdeal.main_arg1) = m ((c.tc : Thread Cert.DgeluIdeal.nD Cert.DgeluIdeal.τ).loc Cert.DgeluIdeal.main_arg1)
          ∧ r.2.mem ((c.tc : Thread Cert.DgeluIdeal.nD Cert.DgeluIdeal.τ).loc Cert.DgeluIdeal.main_arg2) = m ((c.tc : Thread Cert.DgeluIdeal.nD Cert.DgeluIdeal.τ).loc Cert.DgeluIdeal.main_arg2)
          ∧ r.2.mem ((c.tc : Thread Cert.DgeluIdeal.nD Cert.DgeluIdeal.τ).loc Cert.DgeluIdeal.main_arg3) = m ((c.tc : Thread Cert.DgeluIdeal.nD Cert.DgeluIdeal.τ).loc Cert.DgeluIdeal.main_arg3))
      ∧ θ_run (Cert.DgeluRefIdeal.defs (F := Ideal)) (onTc (τ := Cert.DgeluRefIdeal.τ) (Cert.DgeluRefIdeal.main (F := Ideal))) ⟨m', fun _ => 0, g'⟩ (fun r => ∀ c : Dev Cert.DgeluRefIdeal.nD,
          r.2.mem ((c.tc : Thread Cert.DgeluRefIdeal.nD Cert.DgeluRefIdeal.τ).loc Cert.DgeluRefIdeal.main_v36) = v0 c
          ∧ r.2.mem ((c.tc : Thread Cert.DgeluRefIdeal.nD Cert.DgeluRefIdeal.τ).loc Cert.DgeluRefIdeal.main_v38) = v1 c
          ∧ r.2.mem ((c.tc : Thread Cert.DgeluRefIdeal.nD Cert.DgeluRefIdeal.τ).loc Cert.DgeluRefIdeal.main_v43) = v2 c
          ∧ r.2.mem ((c.tc : Thread Cert.DgeluRefIdeal.nD Cert.DgeluRefIdeal.τ).loc Cert.DgeluRefIdeal.main_arg0) = m' ((c.tc : Thread Cert.DgeluRefIdeal.nD Cert.DgeluRefIdeal.τ).loc Cert.DgeluRefIdeal.main_arg0)
          ∧ r.2.mem ((c.tc : Thread Cert.DgeluRefIdeal.nD Cert.DgeluRefIdeal.τ).loc Cert.DgeluRefIdeal.main_arg1) = m' ((c.tc : Thread Cert.DgeluRefIdeal.nD Cert.DgeluRefIdeal.τ).loc Cert.DgeluRefIdeal.main_arg1)
          ∧ r.2.mem ((c.tc : Thread Cert.DgeluRefIdeal.nD Cert.DgeluRefIdeal.τ).loc Cert.DgeluRefIdeal.main_arg2) = m' ((c.tc : Thread Cert.DgeluRefIdeal.nD Cert.DgeluRefIdeal.τ).loc Cert.DgeluRefIdeal.main_arg2)
          ∧ r.2.mem ((c.tc : Thread Cert.DgeluRefIdeal.nD Cert.DgeluRefIdeal.τ).loc Cert.DgeluRefIdeal.main_arg3) = m' ((c.tc : Thread Cert.DgeluRefIdeal.nD Cert.DgeluRefIdeal.τ).loc Cert.DgeluRefIdeal.main_arg3))

def preserves_Big_BigIdeal : Prop :=
  True

def algebraic_BigIdeal_BigRefIdeal [hBigIdeal : Cert.BigIdeal.Facts] [hBigRefIdeal : Cert.BigRefIdeal.Facts] : Prop :=
  ∀ (m : (ℓ : Loc Cert.BigIdeal.nD Cert.BigIdeal.τ Cert.BigIdeal.sig) → Buf (Elt Ideal) ℓ) (g : Dev Cert.BigIdeal.nD → PrngReg)
    (m' : (ℓ : Loc Cert.BigRefIdeal.nD Cert.BigRefIdeal.τ Cert.BigRefIdeal.sig) → Buf (Elt Ideal) ℓ) (g' : Dev Cert.BigRefIdeal.nD → PrngReg), Pre_BigIdeal m →
    (∀ c : Dev Cert.BigIdeal.nD,
      m' ((c.tc : Thread Cert.BigRefIdeal.nD Cert.BigRefIdeal.τ).loc Cert.BigRefIdeal.main_arg0) = m ((c.tc : Thread Cert.BigIdeal.nD Cert.BigIdeal.τ).loc Cert.BigIdeal.main_arg0)
      ∧ m' ((c.tc : Thread Cert.BigRefIdeal.nD Cert.BigRefIdeal.τ).loc Cert.BigRefIdeal.main_arg1) = m ((c.tc : Thread Cert.BigIdeal.nD Cert.BigIdeal.τ).loc Cert.BigIdeal.main_arg1)
      ∧ m' ((c.tc : Thread Cert.BigRefIdeal.nD Cert.BigRefIdeal.τ).loc Cert.BigRefIdeal.main_arg2) = m ((c.tc : Thread Cert.BigIdeal.nD Cert.BigIdeal.τ).loc Cert.BigIdeal.main_arg2)
      ∧ m' ((c.tc : Thread Cert.BigRefIdeal.nD Cert.BigRefIdeal.τ).loc Cert.BigRefIdeal.main_arg3) = m ((c.tc : Thread Cert.BigIdeal.nD Cert.BigIdeal.τ).loc Cert.BigIdeal.main_arg3)
      ∧ m' ((c.tc : Thread Cert.BigRefIdeal.nD Cert.BigRefIdeal.τ).loc Cert.BigRefIdeal.main_arg4) = m ((c.tc : Thread Cert.BigIdeal.nD Cert.BigIdeal.τ).loc Cert.BigIdeal.main_arg4)
      ∧ m' ((c.tc : Thread Cert.BigRefIdeal.nD Cert.BigRefIdeal.τ).loc Cert.BigRefIdeal.main_arg5) = m ((c.tc : Thread Cert.BigIdeal.nD Cert.BigIdeal.τ).loc Cert.BigIdeal.main_arg5)
      ∧ m' ((c.tc : Thread Cert.BigRefIdeal.nD Cert.BigRefIdeal.τ).loc Cert.BigRefIdeal.main_arg6) = m ((c.tc : Thread Cert.BigIdeal.nD Cert.BigIdeal.τ).loc Cert.BigIdeal.main_arg6)
      ∧ m' ((c.tc : Thread Cert.BigRefIdeal.nD Cert.BigRefIdeal.τ).loc Cert.BigRefIdeal.main_arg7) = m ((c.tc : Thread Cert.BigIdeal.nD Cert.BigIdeal.τ).loc Cert.BigIdeal.main_arg7)) →
    ∃ (v0 : (c : Dev Cert.BigIdeal.nD) → Buf (Elt Ideal) ((c.tc : Thread Cert.BigIdeal.nD Cert.BigIdeal.τ).loc Cert.BigIdeal.main_v0_0)) (v1 : (c : Dev Cert.BigIdeal.nD) → Buf (Elt Ideal) ((c.tc : Thread Cert.BigIdeal.nD Cert.BigIdeal.τ).loc Cert.BigIdeal.main_v0_1)) (v2 : (c : Dev Cert.BigIdeal.nD) → Buf (Elt Ideal) ((c.tc : Thread Cert.BigIdeal.nD Cert.BigIdeal.τ).loc Cert.BigIdeal.main_v0_2)) (v3 : (c : Dev Cert.BigIdeal.nD) → Buf (Elt Ideal) ((c.tc : Thread Cert.BigIdeal.nD Cert.BigIdeal.τ).loc Cert.BigIdeal.main_v0_3)),
      θ_run (Cert.BigIdeal.defs (F := Ideal)) (onTc (τ := Cert.BigIdeal.τ) (Cert.BigIdeal.main (F := Ideal))) ⟨m, fun _ => 0, g⟩ (fun r => ∀ c : Dev Cert.BigIdeal.nD,
          r.2.mem ((c.tc : Thread Cert.BigIdeal.nD Cert.BigIdeal.τ).loc Cert.BigIdeal.main_v0_0) = v0 c
          ∧ r.2.mem ((c.tc : Thread Cert.BigIdeal.nD Cert.BigIdeal.τ).loc Cert.BigIdeal.main_v0_1) = v1 c
          ∧ r.2.mem ((c.tc : Thread Cert.BigIdeal.nD Cert.BigIdeal.τ).loc Cert.BigIdeal.main_v0_2) = v2 c
          ∧ r.2.mem ((c.tc : Thread Cert.BigIdeal.nD Cert.BigIdeal.τ).loc Cert.BigIdeal.main_v0_3) = v3 c
          ∧ r.2.mem ((c.tc : Thread Cert.BigIdeal.nD Cert.BigIdeal.τ).loc Cert.BigIdeal.main_arg0) = m ((c.tc : Thread Cert.BigIdeal.nD Cert.BigIdeal.τ).loc Cert.BigIdeal.main_arg0)
          ∧ r.2.mem ((c.tc : Thread Cert.BigIdeal.nD Cert.BigIdeal.τ).loc Cert.BigIdeal.main_arg1) = m ((c.tc : Thread Cert.BigIdeal.nD Cert.BigIdeal.τ).loc Cert.BigIdeal.main_arg1)
          ∧ r.2.mem ((c.tc : Thread Cert.BigIdeal.nD Cert.BigIdeal.τ).loc Cert.BigIdeal.main_arg2) = m ((c.tc : Thread Cert.BigIdeal.nD Cert.BigIdeal.τ).loc Cert.BigIdeal.main_arg2)
          ∧ r.2.mem ((c.tc : Thread Cert.BigIdeal.nD Cert.BigIdeal.τ).loc Cert.BigIdeal.main_arg3) = m ((c.tc : Thread Cert.BigIdeal.nD Cert.BigIdeal.τ).loc Cert.BigIdeal.main_arg3)
          ∧ r.2.mem ((c.tc : Thread Cert.BigIdeal.nD Cert.BigIdeal.τ).loc Cert.BigIdeal.main_arg4) = m ((c.tc : Thread Cert.BigIdeal.nD Cert.BigIdeal.τ).loc Cert.BigIdeal.main_arg4)
          ∧ r.2.mem ((c.tc : Thread Cert.BigIdeal.nD Cert.BigIdeal.τ).loc Cert.BigIdeal.main_arg5) = m ((c.tc : Thread Cert.BigIdeal.nD Cert.BigIdeal.τ).loc Cert.BigIdeal.main_arg5)
          ∧ r.2.mem ((c.tc : Thread Cert.BigIdeal.nD Cert.BigIdeal.τ).loc Cert.BigIdeal.main_arg6) = m ((c.tc : Thread Cert.BigIdeal.nD Cert.BigIdeal.τ).loc Cert.BigIdeal.main_arg6)
          ∧ r.2.mem ((c.tc : Thread Cert.BigIdeal.nD Cert.BigIdeal.τ).loc Cert.BigIdeal.main_arg7) = m ((c.tc : Thread Cert.BigIdeal.nD Cert.BigIdeal.τ).loc Cert.BigIdeal.main_arg7))
      ∧ θ_run (Cert.BigRefIdeal.defs (F := Ideal)) (onTc (τ := Cert.BigRefIdeal.τ) (Cert.BigRefIdeal.main (F := Ideal))) ⟨m', fun _ => 0, g'⟩ (fun r => ∀ c : Dev Cert.BigRefIdeal.nD,
          r.2.mem ((c.tc : Thread Cert.BigRefIdeal.nD Cert.BigRefIdeal.τ).loc Cert.BigRefIdeal.main_v16) = v0 c
          ∧ r.2.mem ((c.tc : Thread Cert.BigRefIdeal.nD Cert.BigRefIdeal.τ).loc Cert.BigRefIdeal.main_v40) = v1 c
          ∧ r.2.mem ((c.tc : Thread Cert.BigRefIdeal.nD Cert.BigRefIdeal.τ).loc Cert.BigRefIdeal.main_v21) = v2 c
          ∧ r.2.mem ((c.tc : Thread Cert.BigRefIdeal.nD Cert.BigRefIdeal.τ).loc Cert.BigRefIdeal.main_v27) = v3 c
          ∧ r.2.mem ((c.tc : Thread Cert.BigRefIdeal.nD Cert.BigRefIdeal.τ).loc Cert.BigRefIdeal.main_arg0) = m' ((c.tc : Thread Cert.BigRefIdeal.nD Cert.BigRefIdeal.τ).loc Cert.BigRefIdeal.main_arg0)
          ∧ r.2.mem ((c.tc : Thread Cert.BigRefIdeal.nD Cert.BigRefIdeal.τ).loc Cert.BigRefIdeal.main_arg1) = m' ((c.tc : Thread Cert.BigRefIdeal.nD Cert.BigRefIdeal.τ).loc Cert.BigRefIdeal.main_arg1)
          ∧ r.2.mem ((c.tc : Thread Cert.BigRefIdeal.nD Cert.BigRefIdeal.τ).loc Cert.BigRefIdeal.main_arg2) = m' ((c.tc : Thread Cert.BigRefIdeal.nD Cert.BigRefIdeal.τ).loc Cert.BigRefIdeal.main_arg2)
          ∧ r.2.mem ((c.tc : Thread Cert.BigRefIdeal.nD Cert.BigRefIdeal.τ).loc Cert.BigRefIdeal.main_arg3) = m' ((c.tc : Thread Cert.BigRefIdeal.nD Cert.BigRefIdeal.τ).loc Cert.BigRefIdeal.main_arg3)
          ∧ r.2.mem ((c.tc : Thread Cert.BigRefIdeal.nD Cert.BigRefIdeal.τ).loc Cert.BigRefIdeal.main_arg4) = m' ((c.tc : Thread Cert.BigRefIdeal.nD Cert.BigRefIdeal.τ).loc Cert.BigRefIdeal.main_arg4)
          ∧ r.2.mem ((c.tc : Thread Cert.BigRefIdeal.nD Cert.BigRefIdeal.τ).loc Cert.BigRefIdeal.main_arg5) = m' ((c.tc : Thread Cert.BigRefIdeal.nD Cert.BigRefIdeal.τ).loc Cert.BigRefIdeal.main_arg5)
          ∧ r.2.mem ((c.tc : Thread Cert.BigRefIdeal.nD Cert.BigRefIdeal.τ).loc Cert.BigRefIdeal.main_arg6) = m' ((c.tc : Thread Cert.BigRefIdeal.nD Cert.BigRefIdeal.τ).loc Cert.BigRefIdeal.main_arg6)
          ∧ r.2.mem ((c.tc : Thread Cert.BigRefIdeal.nD Cert.BigRefIdeal.τ).loc Cert.BigRefIdeal.main_arg7) = m' ((c.tc : Thread Cert.BigRefIdeal.nD Cert.BigRefIdeal.τ).loc Cert.BigRefIdeal.main_arg7))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_Bdown_BdownIdeal : Prop :=
  True

def algebraic_BdownIdeal_BdownRefIdeal [hBdownIdeal : Cert.BdownIdeal.Facts] [hBdownRefIdeal : Cert.BdownRefIdeal.Facts] : Prop :=
  ∀ (m : (ℓ : Loc Cert.BdownIdeal.nD Cert.BdownIdeal.τ Cert.BdownIdeal.sig) → Buf (Elt Ideal) ℓ) (g : Dev Cert.BdownIdeal.nD → PrngReg)
    (m' : (ℓ : Loc Cert.BdownRefIdeal.nD Cert.BdownRefIdeal.τ Cert.BdownRefIdeal.sig) → Buf (Elt Ideal) ℓ) (g' : Dev Cert.BdownRefIdeal.nD → PrngReg), Pre_BdownIdeal m →
    (∀ c : Dev Cert.BdownIdeal.nD,
      m' ((c.tc : Thread Cert.BdownRefIdeal.nD Cert.BdownRefIdeal.τ).loc Cert.BdownRefIdeal.main_arg0) = m ((c.tc : Thread Cert.BdownIdeal.nD Cert.BdownIdeal.τ).loc Cert.BdownIdeal.main_arg0)
      ∧ m' ((c.tc : Thread Cert.BdownRefIdeal.nD Cert.BdownRefIdeal.τ).loc Cert.BdownRefIdeal.main_arg1) = m ((c.tc : Thread Cert.BdownIdeal.nD Cert.BdownIdeal.τ).loc Cert.BdownIdeal.main_arg1)
      ∧ m' ((c.tc : Thread Cert.BdownRefIdeal.nD Cert.BdownRefIdeal.τ).loc Cert.BdownRefIdeal.main_arg2) = m ((c.tc : Thread Cert.BdownIdeal.nD Cert.BdownIdeal.τ).loc Cert.BdownIdeal.main_arg2)
      ∧ m' ((c.tc : Thread Cert.BdownRefIdeal.nD Cert.BdownRefIdeal.τ).loc Cert.BdownRefIdeal.main_arg3) = m ((c.tc : Thread Cert.BdownIdeal.nD Cert.BdownIdeal.τ).loc Cert.BdownIdeal.main_arg3)
      ∧ m' ((c.tc : Thread Cert.BdownRefIdeal.nD Cert.BdownRefIdeal.τ).loc Cert.BdownRefIdeal.main_arg4) = m ((c.tc : Thread Cert.BdownIdeal.nD Cert.BdownIdeal.τ).loc Cert.BdownIdeal.main_arg4)
      ∧ m' ((c.tc : Thread Cert.BdownRefIdeal.nD Cert.BdownRefIdeal.τ).loc Cert.BdownRefIdeal.main_arg5) = m ((c.tc : Thread Cert.BdownIdeal.nD Cert.BdownIdeal.τ).loc Cert.BdownIdeal.main_arg5)
      ∧ m' ((c.tc : Thread Cert.BdownRefIdeal.nD Cert.BdownRefIdeal.τ).loc Cert.BdownRefIdeal.main_arg6) = m ((c.tc : Thread Cert.BdownIdeal.nD Cert.BdownIdeal.τ).loc Cert.BdownIdeal.main_arg6)
      ∧ m' ((c.tc : Thread Cert.BdownRefIdeal.nD Cert.BdownRefIdeal.τ).loc Cert.BdownRefIdeal.main_arg7) = m ((c.tc : Thread Cert.BdownIdeal.nD Cert.BdownIdeal.τ).loc Cert.BdownIdeal.main_arg7)) →
    ∃ (v0 : (c : Dev Cert.BdownIdeal.nD) → Buf (Elt Ideal) ((c.tc : Thread Cert.BdownIdeal.nD Cert.BdownIdeal.τ).loc Cert.BdownIdeal.main_v0_0)) (v1 : (c : Dev Cert.BdownIdeal.nD) → Buf (Elt Ideal) ((c.tc : Thread Cert.BdownIdeal.nD Cert.BdownIdeal.τ).loc Cert.BdownIdeal.main_v0_1)) (v2 : (c : Dev Cert.BdownIdeal.nD) → Buf (Elt Ideal) ((c.tc : Thread Cert.BdownIdeal.nD Cert.BdownIdeal.τ).loc Cert.BdownIdeal.main_v0_2)) (v3 : (c : Dev Cert.BdownIdeal.nD) → Buf (Elt Ideal) ((c.tc : Thread Cert.BdownIdeal.nD Cert.BdownIdeal.τ).loc Cert.BdownIdeal.main_v0_3)),
      θ_run (Cert.BdownIdeal.defs (F := Ideal)) (onTc (τ := Cert.BdownIdeal.τ) (Cert.BdownIdeal.main (F := Ideal))) ⟨m, fun _ => 0, g⟩ (fun r => ∀ c : Dev Cert.BdownIdeal.nD,
          r.2.mem ((c.tc : Thread Cert.BdownIdeal.nD Cert.BdownIdeal.τ).loc Cert.BdownIdeal.main_v0_0) = v0 c
          ∧ r.2.mem ((c.tc : Thread Cert.BdownIdeal.nD Cert.BdownIdeal.τ).loc Cert.BdownIdeal.main_v0_1) = v1 c
          ∧ r.2.mem ((c.tc : Thread Cert.BdownIdeal.nD Cert.BdownIdeal.τ).loc Cert.BdownIdeal.main_v0_2) = v2 c
          ∧ r.2.mem ((c.tc : Thread Cert.BdownIdeal.nD Cert.BdownIdeal.τ).loc Cert.BdownIdeal.main_v0_3) = v3 c
          ∧ r.2.mem ((c.tc : Thread Cert.BdownIdeal.nD Cert.BdownIdeal.τ).loc Cert.BdownIdeal.main_arg0) = m ((c.tc : Thread Cert.BdownIdeal.nD Cert.BdownIdeal.τ).loc Cert.BdownIdeal.main_arg0)
          ∧ r.2.mem ((c.tc : Thread Cert.BdownIdeal.nD Cert.BdownIdeal.τ).loc Cert.BdownIdeal.main_arg1) = m ((c.tc : Thread Cert.BdownIdeal.nD Cert.BdownIdeal.τ).loc Cert.BdownIdeal.main_arg1)
          ∧ r.2.mem ((c.tc : Thread Cert.BdownIdeal.nD Cert.BdownIdeal.τ).loc Cert.BdownIdeal.main_arg2) = m ((c.tc : Thread Cert.BdownIdeal.nD Cert.BdownIdeal.τ).loc Cert.BdownIdeal.main_arg2)
          ∧ r.2.mem ((c.tc : Thread Cert.BdownIdeal.nD Cert.BdownIdeal.τ).loc Cert.BdownIdeal.main_arg3) = m ((c.tc : Thread Cert.BdownIdeal.nD Cert.BdownIdeal.τ).loc Cert.BdownIdeal.main_arg3)
          ∧ r.2.mem ((c.tc : Thread Cert.BdownIdeal.nD Cert.BdownIdeal.τ).loc Cert.BdownIdeal.main_arg4) = m ((c.tc : Thread Cert.BdownIdeal.nD Cert.BdownIdeal.τ).loc Cert.BdownIdeal.main_arg4)
          ∧ r.2.mem ((c.tc : Thread Cert.BdownIdeal.nD Cert.BdownIdeal.τ).loc Cert.BdownIdeal.main_arg5) = m ((c.tc : Thread Cert.BdownIdeal.nD Cert.BdownIdeal.τ).loc Cert.BdownIdeal.main_arg5)
          ∧ r.2.mem ((c.tc : Thread Cert.BdownIdeal.nD Cert.BdownIdeal.τ).loc Cert.BdownIdeal.main_arg6) = m ((c.tc : Thread Cert.BdownIdeal.nD Cert.BdownIdeal.τ).loc Cert.BdownIdeal.main_arg6)
          ∧ r.2.mem ((c.tc : Thread Cert.BdownIdeal.nD Cert.BdownIdeal.τ).loc Cert.BdownIdeal.main_arg7) = m ((c.tc : Thread Cert.BdownIdeal.nD Cert.BdownIdeal.τ).loc Cert.BdownIdeal.main_arg7))
      ∧ θ_run (Cert.BdownRefIdeal.defs (F := Ideal)) (onTc (τ := Cert.BdownRefIdeal.τ) (Cert.BdownRefIdeal.main (F := Ideal))) ⟨m', fun _ => 0, g'⟩ (fun r => ∀ c : Dev Cert.BdownRefIdeal.nD,
          r.2.mem ((c.tc : Thread Cert.BdownRefIdeal.nD Cert.BdownRefIdeal.τ).loc Cert.BdownRefIdeal.main_v16) = v0 c
          ∧ r.2.mem ((c.tc : Thread Cert.BdownRefIdeal.nD Cert.BdownRefIdeal.τ).loc Cert.BdownRefIdeal.main_v40) = v1 c
          ∧ r.2.mem ((c.tc : Thread Cert.BdownRefIdeal.nD Cert.BdownRefIdeal.τ).loc Cert.BdownRefIdeal.main_v21) = v2 c
          ∧ r.2.mem ((c.tc : Thread Cert.BdownRefIdeal.nD Cert.BdownRefIdeal.τ).loc Cert.BdownRefIdeal.main_v27) = v3 c
          ∧ r.2.mem ((c.tc : Thread Cert.BdownRefIdeal.nD Cert.BdownRefIdeal.τ).loc Cert.BdownRefIdeal.main_arg0) = m' ((c.tc : Thread Cert.BdownRefIdeal.nD Cert.BdownRefIdeal.τ).loc Cert.BdownRefIdeal.main_arg0)
          ∧ r.2.mem ((c.tc : Thread Cert.BdownRefIdeal.nD Cert.BdownRefIdeal.τ).loc Cert.BdownRefIdeal.main_arg1) = m' ((c.tc : Thread Cert.BdownRefIdeal.nD Cert.BdownRefIdeal.τ).loc Cert.BdownRefIdeal.main_arg1)
          ∧ r.2.mem ((c.tc : Thread Cert.BdownRefIdeal.nD Cert.BdownRefIdeal.τ).loc Cert.BdownRefIdeal.main_arg2) = m' ((c.tc : Thread Cert.BdownRefIdeal.nD Cert.BdownRefIdeal.τ).loc Cert.BdownRefIdeal.main_arg2)
          ∧ r.2.mem ((c.tc : Thread Cert.BdownRefIdeal.nD Cert.BdownRefIdeal.τ).loc Cert.BdownRefIdeal.main_arg3) = m' ((c.tc : Thread Cert.BdownRefIdeal.nD Cert.BdownRefIdeal.τ).loc Cert.BdownRefIdeal.main_arg3)
          ∧ r.2.mem ((c.tc : Thread Cert.BdownRefIdeal.nD Cert.BdownRefIdeal.τ).loc Cert.BdownRefIdeal.main_arg4) = m' ((c.tc : Thread Cert.BdownRefIdeal.nD Cert.BdownRefIdeal.τ).loc Cert.BdownRefIdeal.main_arg4)
          ∧ r.2.mem ((c.tc : Thread Cert.BdownRefIdeal.nD Cert.BdownRefIdeal.τ).loc Cert.BdownRefIdeal.main_arg5) = m' ((c.tc : Thread Cert.BdownRefIdeal.nD Cert.BdownRefIdeal.τ).loc Cert.BdownRefIdeal.main_arg5)
          ∧ r.2.mem ((c.tc : Thread Cert.BdownRefIdeal.nD Cert.BdownRefIdeal.τ).loc Cert.BdownRefIdeal.main_arg6) = m' ((c.tc : Thread Cert.BdownRefIdeal.nD Cert.BdownRefIdeal.τ).loc Cert.BdownRefIdeal.main_arg6)
          ∧ r.2.mem ((c.tc : Thread Cert.BdownRefIdeal.nD Cert.BdownRefIdeal.τ).loc Cert.BdownRefIdeal.main_arg7) = m' ((c.tc : Thread Cert.BdownRefIdeal.nD Cert.BdownRefIdeal.τ).loc Cert.BdownRefIdeal.main_arg7))

def preserves_Bpg_BpgIdeal : Prop :=
  True

def algebraic_BpgIdeal_BpgRefIdeal [hBpgIdeal : Cert.BpgIdeal.Facts] [hBpgRefIdeal : Cert.BpgRefIdeal.Facts] : Prop :=
  ∀ (m : (ℓ : Loc Cert.BpgIdeal.nD Cert.BpgIdeal.τ Cert.BpgIdeal.sig) → Buf (Elt Ideal) ℓ) (g : Dev Cert.BpgIdeal.nD → PrngReg)
    (m' : (ℓ : Loc Cert.BpgRefIdeal.nD Cert.BpgRefIdeal.τ Cert.BpgRefIdeal.sig) → Buf (Elt Ideal) ℓ) (g' : Dev Cert.BpgRefIdeal.nD → PrngReg), Pre_BpgIdeal m →
    (∀ c : Dev Cert.BpgIdeal.nD,
      m' ((c.tc : Thread Cert.BpgRefIdeal.nD Cert.BpgRefIdeal.τ).loc Cert.BpgRefIdeal.main_arg0) = m ((c.tc : Thread Cert.BpgIdeal.nD Cert.BpgIdeal.τ).loc Cert.BpgIdeal.main_arg0)
      ∧ m' ((c.tc : Thread Cert.BpgRefIdeal.nD Cert.BpgRefIdeal.τ).loc Cert.BpgRefIdeal.main_arg1) = m ((c.tc : Thread Cert.BpgIdeal.nD Cert.BpgIdeal.τ).loc Cert.BpgIdeal.main_arg1)
      ∧ m' ((c.tc : Thread Cert.BpgRefIdeal.nD Cert.BpgRefIdeal.τ).loc Cert.BpgRefIdeal.main_arg2) = m ((c.tc : Thread Cert.BpgIdeal.nD Cert.BpgIdeal.τ).loc Cert.BpgIdeal.main_arg2)
      ∧ m' ((c.tc : Thread Cert.BpgRefIdeal.nD Cert.BpgRefIdeal.τ).loc Cert.BpgRefIdeal.main_arg3) = m ((c.tc : Thread Cert.BpgIdeal.nD Cert.BpgIdeal.τ).loc Cert.BpgIdeal.main_arg3)
      ∧ m' ((c.tc : Thread Cert.BpgRefIdeal.nD Cert.BpgRefIdeal.τ).loc Cert.BpgRefIdeal.main_arg4) = m ((c.tc : Thread Cert.BpgIdeal.nD Cert.BpgIdeal.τ).loc Cert.BpgIdeal.main_arg4)
      ∧ m' ((c.tc : Thread Cert.BpgRefIdeal.nD Cert.BpgRefIdeal.τ).loc Cert.BpgRefIdeal.main_arg5) = m ((c.tc : Thread Cert.BpgIdeal.nD Cert.BpgIdeal.τ).loc Cert.BpgIdeal.main_arg5)
      ∧ m' ((c.tc : Thread Cert.BpgRefIdeal.nD Cert.BpgRefIdeal.τ).loc Cert.BpgRefIdeal.main_arg6) = m ((c.tc : Thread Cert.BpgIdeal.nD Cert.BpgIdeal.τ).loc Cert.BpgIdeal.main_arg6)
      ∧ m' ((c.tc : Thread Cert.BpgRefIdeal.nD Cert.BpgRefIdeal.τ).loc Cert.BpgRefIdeal.main_arg7) = m ((c.tc : Thread Cert.BpgIdeal.nD Cert.BpgIdeal.τ).loc Cert.BpgIdeal.main_arg7)) →
    ∃ (v0 : (c : Dev Cert.BpgIdeal.nD) → Buf (Elt Ideal) ((c.tc : Thread Cert.BpgIdeal.nD Cert.BpgIdeal.τ).loc Cert.BpgIdeal.main_v0_0)) (v1 : (c : Dev Cert.BpgIdeal.nD) → Buf (Elt Ideal) ((c.tc : Thread Cert.BpgIdeal.nD Cert.BpgIdeal.τ).loc Cert.BpgIdeal.main_v0_1)) (v2 : (c : Dev Cert.BpgIdeal.nD) → Buf (Elt Ideal) ((c.tc : Thread Cert.BpgIdeal.nD Cert.BpgIdeal.τ).loc Cert.BpgIdeal.main_v0_2)) (v3 : (c : Dev Cert.BpgIdeal.nD) → Buf (Elt Ideal) ((c.tc : Thread Cert.BpgIdeal.nD Cert.BpgIdeal.τ).loc Cert.BpgIdeal.main_v0_3)),
      θ_run (Cert.BpgIdeal.defs (F := Ideal)) (onTc (τ := Cert.BpgIdeal.τ) (Cert.BpgIdeal.main (F := Ideal))) ⟨m, fun _ => 0, g⟩ (fun r => ∀ c : Dev Cert.BpgIdeal.nD,
          r.2.mem ((c.tc : Thread Cert.BpgIdeal.nD Cert.BpgIdeal.τ).loc Cert.BpgIdeal.main_v0_0) = v0 c
          ∧ r.2.mem ((c.tc : Thread Cert.BpgIdeal.nD Cert.BpgIdeal.τ).loc Cert.BpgIdeal.main_v0_1) = v1 c
          ∧ r.2.mem ((c.tc : Thread Cert.BpgIdeal.nD Cert.BpgIdeal.τ).loc Cert.BpgIdeal.main_v0_2) = v2 c
          ∧ r.2.mem ((c.tc : Thread Cert.BpgIdeal.nD Cert.BpgIdeal.τ).loc Cert.BpgIdeal.main_v0_3) = v3 c
          ∧ r.2.mem ((c.tc : Thread Cert.BpgIdeal.nD Cert.BpgIdeal.τ).loc Cert.BpgIdeal.main_arg0) = m ((c.tc : Thread Cert.BpgIdeal.nD Cert.BpgIdeal.τ).loc Cert.BpgIdeal.main_arg0)
          ∧ r.2.mem ((c.tc : Thread Cert.BpgIdeal.nD Cert.BpgIdeal.τ).loc Cert.BpgIdeal.main_arg1) = m ((c.tc : Thread Cert.BpgIdeal.nD Cert.BpgIdeal.τ).loc Cert.BpgIdeal.main_arg1)
          ∧ r.2.mem ((c.tc : Thread Cert.BpgIdeal.nD Cert.BpgIdeal.τ).loc Cert.BpgIdeal.main_arg2) = m ((c.tc : Thread Cert.BpgIdeal.nD Cert.BpgIdeal.τ).loc Cert.BpgIdeal.main_arg2)
          ∧ r.2.mem ((c.tc : Thread Cert.BpgIdeal.nD Cert.BpgIdeal.τ).loc Cert.BpgIdeal.main_arg3) = m ((c.tc : Thread Cert.BpgIdeal.nD Cert.BpgIdeal.τ).loc Cert.BpgIdeal.main_arg3)
          ∧ r.2.mem ((c.tc : Thread Cert.BpgIdeal.nD Cert.BpgIdeal.τ).loc Cert.BpgIdeal.main_arg4) = m ((c.tc : Thread Cert.BpgIdeal.nD Cert.BpgIdeal.τ).loc Cert.BpgIdeal.main_arg4)
          ∧ r.2.mem ((c.tc : Thread Cert.BpgIdeal.nD Cert.BpgIdeal.τ).loc Cert.BpgIdeal.main_arg5) = m ((c.tc : Thread Cert.BpgIdeal.nD Cert.BpgIdeal.τ).loc Cert.BpgIdeal.main_arg5)
          ∧ r.2.mem ((c.tc : Thread Cert.BpgIdeal.nD Cert.BpgIdeal.τ).loc Cert.BpgIdeal.main_arg6) = m ((c.tc : Thread Cert.BpgIdeal.nD Cert.BpgIdeal.τ).loc Cert.BpgIdeal.main_arg6)
          ∧ r.2.mem ((c.tc : Thread Cert.BpgIdeal.nD Cert.BpgIdeal.τ).loc Cert.BpgIdeal.main_arg7) = m ((c.tc : Thread Cert.BpgIdeal.nD Cert.BpgIdeal.τ).loc Cert.BpgIdeal.main_arg7))
      ∧ θ_run (Cert.BpgRefIdeal.defs (F := Ideal)) (onTc (τ := Cert.BpgRefIdeal.τ) (Cert.BpgRefIdeal.main (F := Ideal))) ⟨m', fun _ => 0, g'⟩ (fun r => ∀ c : Dev Cert.BpgRefIdeal.nD,
          r.2.mem ((c.tc : Thread Cert.BpgRefIdeal.nD Cert.BpgRefIdeal.τ).loc Cert.BpgRefIdeal.main_v16) = v0 c
          ∧ r.2.mem ((c.tc : Thread Cert.BpgRefIdeal.nD Cert.BpgRefIdeal.τ).loc Cert.BpgRefIdeal.main_v40) = v1 c
          ∧ r.2.mem ((c.tc : Thread Cert.BpgRefIdeal.nD Cert.BpgRefIdeal.τ).loc Cert.BpgRefIdeal.main_v21) = v2 c
          ∧ r.2.mem ((c.tc : Thread Cert.BpgRefIdeal.nD Cert.BpgRefIdeal.τ).loc Cert.BpgRefIdeal.main_v27) = v3 c
          ∧ r.2.mem ((c.tc : Thread Cert.BpgRefIdeal.nD Cert.BpgRefIdeal.τ).loc Cert.BpgRefIdeal.main_arg0) = m' ((c.tc : Thread Cert.BpgRefIdeal.nD Cert.BpgRefIdeal.τ).loc Cert.BpgRefIdeal.main_arg0)
          ∧ r.2.mem ((c.tc : Thread Cert.BpgRefIdeal.nD Cert.BpgRefIdeal.τ).loc Cert.BpgRefIdeal.main_arg1) = m' ((c.tc : Thread Cert.BpgRefIdeal.nD Cert.BpgRefIdeal.τ).loc Cert.BpgRefIdeal.main_arg1)
          ∧ r.2.mem ((c.tc : Thread Cert.BpgRefIdeal.nD Cert.BpgRefIdeal.τ).loc Cert.BpgRefIdeal.main_arg2) = m' ((c.tc : Thread Cert.BpgRefIdeal.nD Cert.BpgRefIdeal.τ).loc Cert.BpgRefIdeal.main_arg2)
          ∧ r.2.mem ((c.tc : Thread Cert.BpgRefIdeal.nD Cert.BpgRefIdeal.τ).loc Cert.BpgRefIdeal.main_arg3) = m' ((c.tc : Thread Cert.BpgRefIdeal.nD Cert.BpgRefIdeal.τ).loc Cert.BpgRefIdeal.main_arg3)
          ∧ r.2.mem ((c.tc : Thread Cert.BpgRefIdeal.nD Cert.BpgRefIdeal.τ).loc Cert.BpgRefIdeal.main_arg4) = m' ((c.tc : Thread Cert.BpgRefIdeal.nD Cert.BpgRefIdeal.τ).loc Cert.BpgRefIdeal.main_arg4)
          ∧ r.2.mem ((c.tc : Thread Cert.BpgRefIdeal.nD Cert.BpgRefIdeal.τ).loc Cert.BpgRefIdeal.main_arg5) = m' ((c.tc : Thread Cert.BpgRefIdeal.nD Cert.BpgRefIdeal.τ).loc Cert.BpgRefIdeal.main_arg5)
          ∧ r.2.mem ((c.tc : Thread Cert.BpgRefIdeal.nD Cert.BpgRefIdeal.τ).loc Cert.BpgRefIdeal.main_arg6) = m' ((c.tc : Thread Cert.BpgRefIdeal.nD Cert.BpgRefIdeal.τ).loc Cert.BpgRefIdeal.main_arg6)
          ∧ r.2.mem ((c.tc : Thread Cert.BpgRefIdeal.nD Cert.BpgRefIdeal.τ).loc Cert.BpgRefIdeal.main_arg7) = m' ((c.tc : Thread Cert.BpgRefIdeal.nD Cert.BpgRefIdeal.τ).loc Cert.BpgRefIdeal.main_arg7))

def preserves_Bpp_BppIdeal : Prop :=
  True

def algebraic_BppIdeal_BppRefIdeal [hBppIdeal : Cert.BppIdeal.Facts] [hBppRefIdeal : Cert.BppRefIdeal.Facts] : Prop :=
  ∀ (m : (ℓ : Loc Cert.BppIdeal.nD Cert.BppIdeal.τ Cert.BppIdeal.sig) → Buf (Elt Ideal) ℓ) (g : Dev Cert.BppIdeal.nD → PrngReg)
    (m' : (ℓ : Loc Cert.BppRefIdeal.nD Cert.BppRefIdeal.τ Cert.BppRefIdeal.sig) → Buf (Elt Ideal) ℓ) (g' : Dev Cert.BppRefIdeal.nD → PrngReg), Pre_BppIdeal m →
    (∀ c : Dev Cert.BppIdeal.nD,
      m' ((c.tc : Thread Cert.BppRefIdeal.nD Cert.BppRefIdeal.τ).loc Cert.BppRefIdeal.main_arg0) = m ((c.tc : Thread Cert.BppIdeal.nD Cert.BppIdeal.τ).loc Cert.BppIdeal.main_arg0)
      ∧ m' ((c.tc : Thread Cert.BppRefIdeal.nD Cert.BppRefIdeal.τ).loc Cert.BppRefIdeal.main_arg1) = m ((c.tc : Thread Cert.BppIdeal.nD Cert.BppIdeal.τ).loc Cert.BppIdeal.main_arg1)
      ∧ m' ((c.tc : Thread Cert.BppRefIdeal.nD Cert.BppRefIdeal.τ).loc Cert.BppRefIdeal.main_arg2) = m ((c.tc : Thread Cert.BppIdeal.nD Cert.BppIdeal.τ).loc Cert.BppIdeal.main_arg2)
      ∧ m' ((c.tc : Thread Cert.BppRefIdeal.nD Cert.BppRefIdeal.τ).loc Cert.BppRefIdeal.main_arg3) = m ((c.tc : Thread Cert.BppIdeal.nD Cert.BppIdeal.τ).loc Cert.BppIdeal.main_arg3)
      ∧ m' ((c.tc : Thread Cert.BppRefIdeal.nD Cert.BppRefIdeal.τ).loc Cert.BppRefIdeal.main_arg4) = m ((c.tc : Thread Cert.BppIdeal.nD Cert.BppIdeal.τ).loc Cert.BppIdeal.main_arg4)
      ∧ m' ((c.tc : Thread Cert.BppRefIdeal.nD Cert.BppRefIdeal.τ).loc Cert.BppRefIdeal.main_arg5) = m ((c.tc : Thread Cert.BppIdeal.nD Cert.BppIdeal.τ).loc Cert.BppIdeal.main_arg5)
      ∧ m' ((c.tc : Thread Cert.BppRefIdeal.nD Cert.BppRefIdeal.τ).loc Cert.BppRefIdeal.main_arg6) = m ((c.tc : Thread Cert.BppIdeal.nD Cert.BppIdeal.τ).loc Cert.BppIdeal.main_arg6)
      ∧ m' ((c.tc : Thread Cert.BppRefIdeal.nD Cert.BppRefIdeal.τ).loc Cert.BppRefIdeal.main_arg7) = m ((c.tc : Thread Cert.BppIdeal.nD Cert.BppIdeal.τ).loc Cert.BppIdeal.main_arg7)) →
    ∃ (v0 : (c : Dev Cert.BppIdeal.nD) → Buf (Elt Ideal) ((c.tc : Thread Cert.BppIdeal.nD Cert.BppIdeal.τ).loc Cert.BppIdeal.main_v0_0)) (v1 : (c : Dev Cert.BppIdeal.nD) → Buf (Elt Ideal) ((c.tc : Thread Cert.BppIdeal.nD Cert.BppIdeal.τ).loc Cert.BppIdeal.main_v0_1)) (v2 : (c : Dev Cert.BppIdeal.nD) → Buf (Elt Ideal) ((c.tc : Thread Cert.BppIdeal.nD Cert.BppIdeal.τ).loc Cert.BppIdeal.main_v0_2)) (v3 : (c : Dev Cert.BppIdeal.nD) → Buf (Elt Ideal) ((c.tc : Thread Cert.BppIdeal.nD Cert.BppIdeal.τ).loc Cert.BppIdeal.main_v0_3)),
      θ_run (Cert.BppIdeal.defs (F := Ideal)) (onTc (τ := Cert.BppIdeal.τ) (Cert.BppIdeal.main (F := Ideal))) ⟨m, fun _ => 0, g⟩ (fun r => ∀ c : Dev Cert.BppIdeal.nD,
          r.2.mem ((c.tc : Thread Cert.BppIdeal.nD Cert.BppIdeal.τ).loc Cert.BppIdeal.main_v0_0) = v0 c
          ∧ r.2.mem ((c.tc : Thread Cert.BppIdeal.nD Cert.BppIdeal.τ).loc Cert.BppIdeal.main_v0_1) = v1 c
          ∧ r.2.mem ((c.tc : Thread Cert.BppIdeal.nD Cert.BppIdeal.τ).loc Cert.BppIdeal.main_v0_2) = v2 c
          ∧ r.2.mem ((c.tc : Thread Cert.BppIdeal.nD Cert.BppIdeal.τ).loc Cert.BppIdeal.main_v0_3) = v3 c
          ∧ r.2.mem ((c.tc : Thread Cert.BppIdeal.nD Cert.BppIdeal.τ).loc Cert.BppIdeal.main_arg0) = m ((c.tc : Thread Cert.BppIdeal.nD Cert.BppIdeal.τ).loc Cert.BppIdeal.main_arg0)
          ∧ r.2.mem ((c.tc : Thread Cert.BppIdeal.nD Cert.BppIdeal.τ).loc Cert.BppIdeal.main_arg1) = m ((c.tc : Thread Cert.BppIdeal.nD Cert.BppIdeal.τ).loc Cert.BppIdeal.main_arg1)
          ∧ r.2.mem ((c.tc : Thread Cert.BppIdeal.nD Cert.BppIdeal.τ).loc Cert.BppIdeal.main_arg2) = m ((c.tc : Thread Cert.BppIdeal.nD Cert.BppIdeal.τ).loc Cert.BppIdeal.main_arg2)
          ∧ r.2.mem ((c.tc : Thread Cert.BppIdeal.nD Cert.BppIdeal.τ).loc Cert.BppIdeal.main_arg3) = m ((c.tc : Thread Cert.BppIdeal.nD Cert.BppIdeal.τ).loc Cert.BppIdeal.main_arg3)
          ∧ r.2.mem ((c.tc : Thread Cert.BppIdeal.nD Cert.BppIdeal.τ).loc Cert.BppIdeal.main_arg4) = m ((c.tc : Thread Cert.BppIdeal.nD Cert.BppIdeal.τ).loc Cert.BppIdeal.main_arg4)
          ∧ r.2.mem ((c.tc : Thread Cert.BppIdeal.nD Cert.BppIdeal.τ).loc Cert.BppIdeal.main_arg5) = m ((c.tc : Thread Cert.BppIdeal.nD Cert.BppIdeal.τ).loc Cert.BppIdeal.main_arg5)
          ∧ r.2.mem ((c.tc : Thread Cert.BppIdeal.nD Cert.BppIdeal.τ).loc Cert.BppIdeal.main_arg6) = m ((c.tc : Thread Cert.BppIdeal.nD Cert.BppIdeal.τ).loc Cert.BppIdeal.main_arg6)
          ∧ r.2.mem ((c.tc : Thread Cert.BppIdeal.nD Cert.BppIdeal.τ).loc Cert.BppIdeal.main_arg7) = m ((c.tc : Thread Cert.BppIdeal.nD Cert.BppIdeal.τ).loc Cert.BppIdeal.main_arg7))
      ∧ θ_run (Cert.BppRefIdeal.defs (F := Ideal)) (onTc (τ := Cert.BppRefIdeal.τ) (Cert.BppRefIdeal.main (F := Ideal))) ⟨m', fun _ => 0, g'⟩ (fun r => ∀ c : Dev Cert.BppRefIdeal.nD,
          r.2.mem ((c.tc : Thread Cert.BppRefIdeal.nD Cert.BppRefIdeal.τ).loc Cert.BppRefIdeal.main_v16) = v0 c
          ∧ r.2.mem ((c.tc : Thread Cert.BppRefIdeal.nD Cert.BppRefIdeal.τ).loc Cert.BppRefIdeal.main_v40) = v1 c
          ∧ r.2.mem ((c.tc : Thread Cert.BppRefIdeal.nD Cert.BppRefIdeal.τ).loc Cert.BppRefIdeal.main_v21) = v2 c
          ∧ r.2.mem ((c.tc : Thread Cert.BppRefIdeal.nD Cert.BppRefIdeal.τ).loc Cert.BppRefIdeal.main_v27) = v3 c
          ∧ r.2.mem ((c.tc : Thread Cert.BppRefIdeal.nD Cert.BppRefIdeal.τ).loc Cert.BppRefIdeal.main_arg0) = m' ((c.tc : Thread Cert.BppRefIdeal.nD Cert.BppRefIdeal.τ).loc Cert.BppRefIdeal.main_arg0)
          ∧ r.2.mem ((c.tc : Thread Cert.BppRefIdeal.nD Cert.BppRefIdeal.τ).loc Cert.BppRefIdeal.main_arg1) = m' ((c.tc : Thread Cert.BppRefIdeal.nD Cert.BppRefIdeal.τ).loc Cert.BppRefIdeal.main_arg1)
          ∧ r.2.mem ((c.tc : Thread Cert.BppRefIdeal.nD Cert.BppRefIdeal.τ).loc Cert.BppRefIdeal.main_arg2) = m' ((c.tc : Thread Cert.BppRefIdeal.nD Cert.BppRefIdeal.τ).loc Cert.BppRefIdeal.main_arg2)
          ∧ r.2.mem ((c.tc : Thread Cert.BppRefIdeal.nD Cert.BppRefIdeal.τ).loc Cert.BppRefIdeal.main_arg3) = m' ((c.tc : Thread Cert.BppRefIdeal.nD Cert.BppRefIdeal.τ).loc Cert.BppRefIdeal.main_arg3)
          ∧ r.2.mem ((c.tc : Thread Cert.BppRefIdeal.nD Cert.BppRefIdeal.τ).loc Cert.BppRefIdeal.main_arg4) = m' ((c.tc : Thread Cert.BppRefIdeal.nD Cert.BppRefIdeal.τ).loc Cert.BppRefIdeal.main_arg4)
          ∧ r.2.mem ((c.tc : Thread Cert.BppRefIdeal.nD Cert.BppRefIdeal.τ).loc Cert.BppRefIdeal.main_arg5) = m' ((c.tc : Thread Cert.BppRefIdeal.nD Cert.BppRefIdeal.τ).loc Cert.BppRefIdeal.main_arg5)
          ∧ r.2.mem ((c.tc : Thread Cert.BppRefIdeal.nD Cert.BppRefIdeal.τ).loc Cert.BppRefIdeal.main_arg6) = m' ((c.tc : Thread Cert.BppRefIdeal.nD Cert.BppRefIdeal.τ).loc Cert.BppRefIdeal.main_arg6)
          ∧ r.2.mem ((c.tc : Thread Cert.BppRefIdeal.nD Cert.BppRefIdeal.τ).loc Cert.BppRefIdeal.main_arg7) = m' ((c.tc : Thread Cert.BppRefIdeal.nD Cert.BppRefIdeal.τ).loc Cert.BppRefIdeal.main_arg7))

def preserves_Bab_BabIdeal : Prop :=
  True

def algebraic_BabIdeal_BabRefIdeal [hBabIdeal : Cert.BabIdeal.Facts] [hBabRefIdeal : Cert.BabRefIdeal.Facts] : Prop :=
  ∀ (m : (ℓ : Loc Cert.BabIdeal.nD Cert.BabIdeal.τ Cert.BabIdeal.sig) → Buf (Elt Ideal) ℓ) (g : Dev Cert.BabIdeal.nD → PrngReg)
    (m' : (ℓ : Loc Cert.BabRefIdeal.nD Cert.BabRefIdeal.τ Cert.BabRefIdeal.sig) → Buf (Elt Ideal) ℓ) (g' : Dev Cert.BabRefIdeal.nD → PrngReg), Pre_BabIdeal m →
    (∀ c : Dev Cert.BabIdeal.nD,
      m' ((c.tc : Thread Cert.BabRefIdeal.nD Cert.BabRefIdeal.τ).loc Cert.BabRefIdeal.main_arg0) = m ((c.tc : Thread Cert.BabIdeal.nD Cert.BabIdeal.τ).loc Cert.BabIdeal.main_arg0)
      ∧ m' ((c.tc : Thread Cert.BabRefIdeal.nD Cert.BabRefIdeal.τ).loc Cert.BabRefIdeal.main_arg1) = m ((c.tc : Thread Cert.BabIdeal.nD Cert.BabIdeal.τ).loc Cert.BabIdeal.main_arg1)
      ∧ m' ((c.tc : Thread Cert.BabRefIdeal.nD Cert.BabRefIdeal.τ).loc Cert.BabRefIdeal.main_arg2) = m ((c.tc : Thread Cert.BabIdeal.nD Cert.BabIdeal.τ).loc Cert.BabIdeal.main_arg2)
      ∧ m' ((c.tc : Thread Cert.BabRefIdeal.nD Cert.BabRefIdeal.τ).loc Cert.BabRefIdeal.main_arg3) = m ((c.tc : Thread Cert.BabIdeal.nD Cert.BabIdeal.τ).loc Cert.BabIdeal.main_arg3)
      ∧ m' ((c.tc : Thread Cert.BabRefIdeal.nD Cert.BabRefIdeal.τ).loc Cert.BabRefIdeal.main_arg4) = m ((c.tc : Thread Cert.BabIdeal.nD Cert.BabIdeal.τ).loc Cert.BabIdeal.main_arg4)
      ∧ m' ((c.tc : Thread Cert.BabRefIdeal.nD Cert.BabRefIdeal.τ).loc Cert.BabRefIdeal.main_arg5) = m ((c.tc : Thread Cert.BabIdeal.nD Cert.BabIdeal.τ).loc Cert.BabIdeal.main_arg5)) →
    ∃ (v0 : (c : Dev Cert.BabIdeal.nD) → Buf (Elt Ideal) ((c.tc : Thread Cert.BabIdeal.nD Cert.BabIdeal.τ).loc Cert.BabIdeal.main_v0_0)) (v1 : (c : Dev Cert.BabIdeal.nD) → Buf (Elt Ideal) ((c.tc : Thread Cert.BabIdeal.nD Cert.BabIdeal.τ).loc Cert.BabIdeal.main_v0_1)) (v2 : (c : Dev Cert.BabIdeal.nD) → Buf (Elt Ideal) ((c.tc : Thread Cert.BabIdeal.nD Cert.BabIdeal.τ).loc Cert.BabIdeal.main_v0_2)) (v3 : (c : Dev Cert.BabIdeal.nD) → Buf (Elt Ideal) ((c.tc : Thread Cert.BabIdeal.nD Cert.BabIdeal.τ).loc Cert.BabIdeal.main_v0_3)),
      θ_run (Cert.BabIdeal.defs (F := Ideal)) (onTc (τ := Cert.BabIdeal.τ) (Cert.BabIdeal.main (F := Ideal))) ⟨m, fun _ => 0, g⟩ (fun r => ∀ c : Dev Cert.BabIdeal.nD,
          r.2.mem ((c.tc : Thread Cert.BabIdeal.nD Cert.BabIdeal.τ).loc Cert.BabIdeal.main_v0_0) = v0 c
          ∧ r.2.mem ((c.tc : Thread Cert.BabIdeal.nD Cert.BabIdeal.τ).loc Cert.BabIdeal.main_v0_1) = v1 c
          ∧ r.2.mem ((c.tc : Thread Cert.BabIdeal.nD Cert.BabIdeal.τ).loc Cert.BabIdeal.main_v0_2) = v2 c
          ∧ r.2.mem ((c.tc : Thread Cert.BabIdeal.nD Cert.BabIdeal.τ).loc Cert.BabIdeal.main_v0_3) = v3 c
          ∧ r.2.mem ((c.tc : Thread Cert.BabIdeal.nD Cert.BabIdeal.τ).loc Cert.BabIdeal.main_arg0) = m ((c.tc : Thread Cert.BabIdeal.nD Cert.BabIdeal.τ).loc Cert.BabIdeal.main_arg0)
          ∧ r.2.mem ((c.tc : Thread Cert.BabIdeal.nD Cert.BabIdeal.τ).loc Cert.BabIdeal.main_arg1) = m ((c.tc : Thread Cert.BabIdeal.nD Cert.BabIdeal.τ).loc Cert.BabIdeal.main_arg1)
          ∧ r.2.mem ((c.tc : Thread Cert.BabIdeal.nD Cert.BabIdeal.τ).loc Cert.BabIdeal.main_arg2) = m ((c.tc : Thread Cert.BabIdeal.nD Cert.BabIdeal.τ).loc Cert.BabIdeal.main_arg2)
          ∧ r.2.mem ((c.tc : Thread Cert.BabIdeal.nD Cert.BabIdeal.τ).loc Cert.BabIdeal.main_arg3) = m ((c.tc : Thread Cert.BabIdeal.nD Cert.BabIdeal.τ).loc Cert.BabIdeal.main_arg3)
          ∧ r.2.mem ((c.tc : Thread Cert.BabIdeal.nD Cert.BabIdeal.τ).loc Cert.BabIdeal.main_arg4) = m ((c.tc : Thread Cert.BabIdeal.nD Cert.BabIdeal.τ).loc Cert.BabIdeal.main_arg4)
          ∧ r.2.mem ((c.tc : Thread Cert.BabIdeal.nD Cert.BabIdeal.τ).loc Cert.BabIdeal.main_arg5) = m ((c.tc : Thread Cert.BabIdeal.nD Cert.BabIdeal.τ).loc Cert.BabIdeal.main_arg5))
      ∧ θ_run (Cert.BabRefIdeal.defs (F := Ideal)) (onTc (τ := Cert.BabRefIdeal.τ) (Cert.BabRefIdeal.main (F := Ideal))) ⟨m', fun _ => 0, g'⟩ (fun r => ∀ c : Dev Cert.BabRefIdeal.nD,
          r.2.mem ((c.tc : Thread Cert.BabRefIdeal.nD Cert.BabRefIdeal.τ).loc Cert.BabRefIdeal.main_v7) = v0 c
          ∧ r.2.mem ((c.tc : Thread Cert.BabRefIdeal.nD Cert.BabRefIdeal.τ).loc Cert.BabRefIdeal.main_v31) = v1 c
          ∧ r.2.mem ((c.tc : Thread Cert.BabRefIdeal.nD Cert.BabRefIdeal.τ).loc Cert.BabRefIdeal.main_v12) = v2 c
          ∧ r.2.mem ((c.tc : Thread Cert.BabRefIdeal.nD Cert.BabRefIdeal.τ).loc Cert.BabRefIdeal.main_v18) = v3 c
          ∧ r.2.mem ((c.tc : Thread Cert.BabRefIdeal.nD Cert.BabRefIdeal.τ).loc Cert.BabRefIdeal.main_arg0) = m' ((c.tc : Thread Cert.BabRefIdeal.nD Cert.BabRefIdeal.τ).loc Cert.BabRefIdeal.main_arg0)
          ∧ r.2.mem ((c.tc : Thread Cert.BabRefIdeal.nD Cert.BabRefIdeal.τ).loc Cert.BabRefIdeal.main_arg1) = m' ((c.tc : Thread Cert.BabRefIdeal.nD Cert.BabRefIdeal.τ).loc Cert.BabRefIdeal.main_arg1)
          ∧ r.2.mem ((c.tc : Thread Cert.BabRefIdeal.nD Cert.BabRefIdeal.τ).loc Cert.BabRefIdeal.main_arg2) = m' ((c.tc : Thread Cert.BabRefIdeal.nD Cert.BabRefIdeal.τ).loc Cert.BabRefIdeal.main_arg2)
          ∧ r.2.mem ((c.tc : Thread Cert.BabRefIdeal.nD Cert.BabRefIdeal.τ).loc Cert.BabRefIdeal.main_arg3) = m' ((c.tc : Thread Cert.BabRefIdeal.nD Cert.BabRefIdeal.τ).loc Cert.BabRefIdeal.main_arg3)
          ∧ r.2.mem ((c.tc : Thread Cert.BabRefIdeal.nD Cert.BabRefIdeal.τ).loc Cert.BabRefIdeal.main_arg4) = m' ((c.tc : Thread Cert.BabRefIdeal.nD Cert.BabRefIdeal.τ).loc Cert.BabRefIdeal.main_arg4)
          ∧ r.2.mem ((c.tc : Thread Cert.BabRefIdeal.nD Cert.BabRefIdeal.τ).loc Cert.BabRefIdeal.main_arg5) = m' ((c.tc : Thread Cert.BabRefIdeal.nD Cert.BabRefIdeal.τ).loc Cert.BabRefIdeal.main_arg5))

def preserves_Babo_BaboIdeal : Prop :=
  True

def algebraic_BaboIdeal_BaboRefIdeal [hBaboIdeal : Cert.BaboIdeal.Facts] [hBaboRefIdeal : Cert.BaboRefIdeal.Facts] : Prop :=
  ∀ (m : (ℓ : Loc Cert.BaboIdeal.nD Cert.BaboIdeal.τ Cert.BaboIdeal.sig) → Buf (Elt Ideal) ℓ) (g : Dev Cert.BaboIdeal.nD → PrngReg)
    (m' : (ℓ : Loc Cert.BaboRefIdeal.nD Cert.BaboRefIdeal.τ Cert.BaboRefIdeal.sig) → Buf (Elt Ideal) ℓ) (g' : Dev Cert.BaboRefIdeal.nD → PrngReg), Pre_BaboIdeal m →
    (∀ c : Dev Cert.BaboIdeal.nD,
      m' ((c.tc : Thread Cert.BaboRefIdeal.nD Cert.BaboRefIdeal.τ).loc Cert.BaboRefIdeal.main_arg0) = m ((c.tc : Thread Cert.BaboIdeal.nD Cert.BaboIdeal.τ).loc Cert.BaboIdeal.main_arg0)
      ∧ m' ((c.tc : Thread Cert.BaboRefIdeal.nD Cert.BaboRefIdeal.τ).loc Cert.BaboRefIdeal.main_arg1) = m ((c.tc : Thread Cert.BaboIdeal.nD Cert.BaboIdeal.τ).loc Cert.BaboIdeal.main_arg1)
      ∧ m' ((c.tc : Thread Cert.BaboRefIdeal.nD Cert.BaboRefIdeal.τ).loc Cert.BaboRefIdeal.main_arg2) = m ((c.tc : Thread Cert.BaboIdeal.nD Cert.BaboIdeal.τ).loc Cert.BaboIdeal.main_arg2)
      ∧ m' ((c.tc : Thread Cert.BaboRefIdeal.nD Cert.BaboRefIdeal.τ).loc Cert.BaboRefIdeal.main_arg3) = m ((c.tc : Thread Cert.BaboIdeal.nD Cert.BaboIdeal.τ).loc Cert.BaboIdeal.main_arg3)
      ∧ m' ((c.tc : Thread Cert.BaboRefIdeal.nD Cert.BaboRefIdeal.τ).loc Cert.BaboRefIdeal.main_arg4) = m ((c.tc : Thread Cert.BaboIdeal.nD Cert.BaboIdeal.τ).loc Cert.BaboIdeal.main_arg4)
      ∧ m' ((c.tc : Thread Cert.BaboRefIdeal.nD Cert.BaboRefIdeal.τ).loc Cert.BaboRefIdeal.main_arg5) = m ((c.tc : Thread Cert.BaboIdeal.nD Cert.BaboIdeal.τ).loc Cert.BaboIdeal.main_arg5)) →
    ∃ (v0 : (c : Dev Cert.BaboIdeal.nD) → Buf (Elt Ideal) ((c.tc : Thread Cert.BaboIdeal.nD Cert.BaboIdeal.τ).loc Cert.BaboIdeal.main_v0_0)) (v1 : (c : Dev Cert.BaboIdeal.nD) → Buf (Elt Ideal) ((c.tc : Thread Cert.BaboIdeal.nD Cert.BaboIdeal.τ).loc Cert.BaboIdeal.main_v0_1)) (v2 : (c : Dev Cert.BaboIdeal.nD) → Buf (Elt Ideal) ((c.tc : Thread Cert.BaboIdeal.nD Cert.BaboIdeal.τ).loc Cert.BaboIdeal.main_v0_2)) (v3 : (c : Dev Cert.BaboIdeal.nD) → Buf (Elt Ideal) ((c.tc : Thread Cert.BaboIdeal.nD Cert.BaboIdeal.τ).loc Cert.BaboIdeal.main_v0_3)),
      θ_run (Cert.BaboIdeal.defs (F := Ideal)) (onTc (τ := Cert.BaboIdeal.τ) (Cert.BaboIdeal.main (F := Ideal))) ⟨m, fun _ => 0, g⟩ (fun r => ∀ c : Dev Cert.BaboIdeal.nD,
          r.2.mem ((c.tc : Thread Cert.BaboIdeal.nD Cert.BaboIdeal.τ).loc Cert.BaboIdeal.main_v0_0) = v0 c
          ∧ r.2.mem ((c.tc : Thread Cert.BaboIdeal.nD Cert.BaboIdeal.τ).loc Cert.BaboIdeal.main_v0_1) = v1 c
          ∧ r.2.mem ((c.tc : Thread Cert.BaboIdeal.nD Cert.BaboIdeal.τ).loc Cert.BaboIdeal.main_v0_2) = v2 c
          ∧ r.2.mem ((c.tc : Thread Cert.BaboIdeal.nD Cert.BaboIdeal.τ).loc Cert.BaboIdeal.main_v0_3) = v3 c
          ∧ r.2.mem ((c.tc : Thread Cert.BaboIdeal.nD Cert.BaboIdeal.τ).loc Cert.BaboIdeal.main_arg0) = m ((c.tc : Thread Cert.BaboIdeal.nD Cert.BaboIdeal.τ).loc Cert.BaboIdeal.main_arg0)
          ∧ r.2.mem ((c.tc : Thread Cert.BaboIdeal.nD Cert.BaboIdeal.τ).loc Cert.BaboIdeal.main_arg1) = m ((c.tc : Thread Cert.BaboIdeal.nD Cert.BaboIdeal.τ).loc Cert.BaboIdeal.main_arg1)
          ∧ r.2.mem ((c.tc : Thread Cert.BaboIdeal.nD Cert.BaboIdeal.τ).loc Cert.BaboIdeal.main_arg2) = m ((c.tc : Thread Cert.BaboIdeal.nD Cert.BaboIdeal.τ).loc Cert.BaboIdeal.main_arg2)
          ∧ r.2.mem ((c.tc : Thread Cert.BaboIdeal.nD Cert.BaboIdeal.τ).loc Cert.BaboIdeal.main_arg3) = m ((c.tc : Thread Cert.BaboIdeal.nD Cert.BaboIdeal.τ).loc Cert.BaboIdeal.main_arg3)
          ∧ r.2.mem ((c.tc : Thread Cert.BaboIdeal.nD Cert.BaboIdeal.τ).loc Cert.BaboIdeal.main_arg4) = m ((c.tc : Thread Cert.BaboIdeal.nD Cert.BaboIdeal.τ).loc Cert.BaboIdeal.main_arg4)
          ∧ r.2.mem ((c.tc : Thread Cert.BaboIdeal.nD Cert.BaboIdeal.τ).loc Cert.BaboIdeal.main_arg5) = m ((c.tc : Thread Cert.BaboIdeal.nD Cert.BaboIdeal.τ).loc Cert.BaboIdeal.main_arg5))
      ∧ θ_run (Cert.BaboRefIdeal.defs (F := Ideal)) (onTc (τ := Cert.BaboRefIdeal.τ) (Cert.BaboRefIdeal.main (F := Ideal))) ⟨m', fun _ => 0, g'⟩ (fun r => ∀ c : Dev Cert.BaboRefIdeal.nD,
          r.2.mem ((c.tc : Thread Cert.BaboRefIdeal.nD Cert.BaboRefIdeal.τ).loc Cert.BaboRefIdeal.main_v7) = v0 c
          ∧ r.2.mem ((c.tc : Thread Cert.BaboRefIdeal.nD Cert.BaboRefIdeal.τ).loc Cert.BaboRefIdeal.main_v31) = v1 c
          ∧ r.2.mem ((c.tc : Thread Cert.BaboRefIdeal.nD Cert.BaboRefIdeal.τ).loc Cert.BaboRefIdeal.main_v12) = v2 c
          ∧ r.2.mem ((c.tc : Thread Cert.BaboRefIdeal.nD Cert.BaboRefIdeal.τ).loc Cert.BaboRefIdeal.main_v18) = v3 c
          ∧ r.2.mem ((c.tc : Thread Cert.BaboRefIdeal.nD Cert.BaboRefIdeal.τ).loc Cert.BaboRefIdeal.main_arg0) = m' ((c.tc : Thread Cert.BaboRefIdeal.nD Cert.BaboRefIdeal.τ).loc Cert.BaboRefIdeal.main_arg0)
          ∧ r.2.mem ((c.tc : Thread Cert.BaboRefIdeal.nD Cert.BaboRefIdeal.τ).loc Cert.BaboRefIdeal.main_arg1) = m' ((c.tc : Thread Cert.BaboRefIdeal.nD Cert.BaboRefIdeal.τ).loc Cert.BaboRefIdeal.main_arg1)
          ∧ r.2.mem ((c.tc : Thread Cert.BaboRefIdeal.nD Cert.BaboRefIdeal.τ).loc Cert.BaboRefIdeal.main_arg2) = m' ((c.tc : Thread Cert.BaboRefIdeal.nD Cert.BaboRefIdeal.τ).loc Cert.BaboRefIdeal.main_arg2)
          ∧ r.2.mem ((c.tc : Thread Cert.BaboRefIdeal.nD Cert.BaboRefIdeal.τ).loc Cert.BaboRefIdeal.main_arg3) = m' ((c.tc : Thread Cert.BaboRefIdeal.nD Cert.BaboRefIdeal.τ).loc Cert.BaboRefIdeal.main_arg3)
          ∧ r.2.mem ((c.tc : Thread Cert.BaboRefIdeal.nD Cert.BaboRefIdeal.τ).loc Cert.BaboRefIdeal.main_arg4) = m' ((c.tc : Thread Cert.BaboRefIdeal.nD Cert.BaboRefIdeal.τ).loc Cert.BaboRefIdeal.main_arg4)
          ∧ r.2.mem ((c.tc : Thread Cert.BaboRefIdeal.nD Cert.BaboRefIdeal.τ).loc Cert.BaboRefIdeal.main_arg5) = m' ((c.tc : Thread Cert.BaboRefIdeal.nD Cert.BaboRefIdeal.τ).loc Cert.BaboRefIdeal.main_arg5))

def preserves_Bssi_BssiIdeal : Prop :=
  True

def algebraic_BssiIdeal_BssiRefIdeal [hBssiIdeal : Cert.BssiIdeal.Facts] [hBssiRefIdeal : Cert.BssiRefIdeal.Facts] : Prop :=
  ∀ (m : (ℓ : Loc Cert.BssiIdeal.nD Cert.BssiIdeal.τ Cert.BssiIdeal.sig) → Buf (Elt Ideal) ℓ) (g : Dev Cert.BssiIdeal.nD → PrngReg)
    (m' : (ℓ : Loc Cert.BssiRefIdeal.nD Cert.BssiRefIdeal.τ Cert.BssiRefIdeal.sig) → Buf (Elt Ideal) ℓ) (g' : Dev Cert.BssiRefIdeal.nD → PrngReg), Pre_BssiIdeal m →
    (∀ c : Dev Cert.BssiIdeal.nD,
      m' ((c.tc : Thread Cert.BssiRefIdeal.nD Cert.BssiRefIdeal.τ).loc Cert.BssiRefIdeal.main_arg0) = m ((c.tc : Thread Cert.BssiIdeal.nD Cert.BssiIdeal.τ).loc Cert.BssiIdeal.main_arg0)
      ∧ m' ((c.tc : Thread Cert.BssiRefIdeal.nD Cert.BssiRefIdeal.τ).loc Cert.BssiRefIdeal.main_arg1) = m ((c.tc : Thread Cert.BssiIdeal.nD Cert.BssiIdeal.τ).loc Cert.BssiIdeal.main_arg1)
      ∧ m' ((c.tc : Thread Cert.BssiRefIdeal.nD Cert.BssiRefIdeal.τ).loc Cert.BssiRefIdeal.main_arg2) = m ((c.tc : Thread Cert.BssiIdeal.nD Cert.BssiIdeal.τ).loc Cert.BssiIdeal.main_arg2)
      ∧ m' ((c.tc : Thread Cert.BssiRefIdeal.nD Cert.BssiRefIdeal.τ).loc Cert.BssiRefIdeal.main_arg3) = m ((c.tc : Thread Cert.BssiIdeal.nD Cert.BssiIdeal.τ).loc Cert.BssiIdeal.main_arg3)
      ∧ m' ((c.tc : Thread Cert.BssiRefIdeal.nD Cert.BssiRefIdeal.τ).loc Cert.BssiRefIdeal.main_arg4) = m ((c.tc : Thread Cert.BssiIdeal.nD Cert.BssiIdeal.τ).loc Cert.BssiIdeal.main_arg4)
      ∧ m' ((c.tc : Thread Cert.BssiRefIdeal.nD Cert.BssiRefIdeal.τ).loc Cert.BssiRefIdeal.main_arg5) = m ((c.tc : Thread Cert.BssiIdeal.nD Cert.BssiIdeal.τ).loc Cert.BssiIdeal.main_arg5)) →
    ∃ (v0 : (c : Dev Cert.BssiIdeal.nD) → Buf (Elt Ideal) ((c.tc : Thread Cert.BssiIdeal.nD Cert.BssiIdeal.τ).loc Cert.BssiIdeal.main_v0_0)) (v1 : (c : Dev Cert.BssiIdeal.nD) → Buf (Elt Ideal) ((c.tc : Thread Cert.BssiIdeal.nD Cert.BssiIdeal.τ).loc Cert.BssiIdeal.main_v0_1)) (v2 : (c : Dev Cert.BssiIdeal.nD) → Buf (Elt Ideal) ((c.tc : Thread Cert.BssiIdeal.nD Cert.BssiIdeal.τ).loc Cert.BssiIdeal.main_v0_2)) (v3 : (c : Dev Cert.BssiIdeal.nD) → Buf (Elt Ideal) ((c.tc : Thread Cert.BssiIdeal.nD Cert.BssiIdeal.τ).loc Cert.BssiIdeal.main_v0_3)),
      θ_run (Cert.BssiIdeal.defs (F := Ideal)) (onTc (τ := Cert.BssiIdeal.τ) (Cert.BssiIdeal.main (F := Ideal))) ⟨m, fun _ => 0, g⟩ (fun r => ∀ c : Dev Cert.BssiIdeal.nD,
          r.2.mem ((c.tc : Thread Cert.BssiIdeal.nD Cert.BssiIdeal.τ).loc Cert.BssiIdeal.main_v0_0) = v0 c
          ∧ r.2.mem ((c.tc : Thread Cert.BssiIdeal.nD Cert.BssiIdeal.τ).loc Cert.BssiIdeal.main_v0_1) = v1 c
          ∧ r.2.mem ((c.tc : Thread Cert.BssiIdeal.nD Cert.BssiIdeal.τ).loc Cert.BssiIdeal.main_v0_2) = v2 c
          ∧ r.2.mem ((c.tc : Thread Cert.BssiIdeal.nD Cert.BssiIdeal.τ).loc Cert.BssiIdeal.main_v0_3) = v3 c
          ∧ r.2.mem ((c.tc : Thread Cert.BssiIdeal.nD Cert.BssiIdeal.τ).loc Cert.BssiIdeal.main_arg0) = m ((c.tc : Thread Cert.BssiIdeal.nD Cert.BssiIdeal.τ).loc Cert.BssiIdeal.main_arg0)
          ∧ r.2.mem ((c.tc : Thread Cert.BssiIdeal.nD Cert.BssiIdeal.τ).loc Cert.BssiIdeal.main_arg1) = m ((c.tc : Thread Cert.BssiIdeal.nD Cert.BssiIdeal.τ).loc Cert.BssiIdeal.main_arg1)
          ∧ r.2.mem ((c.tc : Thread Cert.BssiIdeal.nD Cert.BssiIdeal.τ).loc Cert.BssiIdeal.main_arg2) = m ((c.tc : Thread Cert.BssiIdeal.nD Cert.BssiIdeal.τ).loc Cert.BssiIdeal.main_arg2)
          ∧ r.2.mem ((c.tc : Thread Cert.BssiIdeal.nD Cert.BssiIdeal.τ).loc Cert.BssiIdeal.main_arg3) = m ((c.tc : Thread Cert.BssiIdeal.nD Cert.BssiIdeal.τ).loc Cert.BssiIdeal.main_arg3)
          ∧ r.2.mem ((c.tc : Thread Cert.BssiIdeal.nD Cert.BssiIdeal.τ).loc Cert.BssiIdeal.main_arg4) = m ((c.tc : Thread Cert.BssiIdeal.nD Cert.BssiIdeal.τ).loc Cert.BssiIdeal.main_arg4)
          ∧ r.2.mem ((c.tc : Thread Cert.BssiIdeal.nD Cert.BssiIdeal.τ).loc Cert.BssiIdeal.main_arg5) = m ((c.tc : Thread Cert.BssiIdeal.nD Cert.BssiIdeal.τ).loc Cert.BssiIdeal.main_arg5))
      ∧ θ_run (Cert.BssiRefIdeal.defs (F := Ideal)) (onTc (τ := Cert.BssiRefIdeal.τ) (Cert.BssiRefIdeal.main (F := Ideal))) ⟨m', fun _ => 0, g'⟩ (fun r => ∀ c : Dev Cert.BssiRefIdeal.nD,
          r.2.mem ((c.tc : Thread Cert.BssiRefIdeal.nD Cert.BssiRefIdeal.τ).loc Cert.BssiRefIdeal.main_v7) = v0 c
          ∧ r.2.mem ((c.tc : Thread Cert.BssiRefIdeal.nD Cert.BssiRefIdeal.τ).loc Cert.BssiRefIdeal.main_v31) = v1 c
          ∧ r.2.mem ((c.tc : Thread Cert.BssiRefIdeal.nD Cert.BssiRefIdeal.τ).loc Cert.BssiRefIdeal.main_v12) = v2 c
          ∧ r.2.mem ((c.tc : Thread Cert.BssiRefIdeal.nD Cert.BssiRefIdeal.τ).loc Cert.BssiRefIdeal.main_v18) = v3 c
          ∧ r.2.mem ((c.tc : Thread Cert.BssiRefIdeal.nD Cert.BssiRefIdeal.τ).loc Cert.BssiRefIdeal.main_arg0) = m' ((c.tc : Thread Cert.BssiRefIdeal.nD Cert.BssiRefIdeal.τ).loc Cert.BssiRefIdeal.main_arg0)
          ∧ r.2.mem ((c.tc : Thread Cert.BssiRefIdeal.nD Cert.BssiRefIdeal.τ).loc Cert.BssiRefIdeal.main_arg1) = m' ((c.tc : Thread Cert.BssiRefIdeal.nD Cert.BssiRefIdeal.τ).loc Cert.BssiRefIdeal.main_arg1)
          ∧ r.2.mem ((c.tc : Thread Cert.BssiRefIdeal.nD Cert.BssiRefIdeal.τ).loc Cert.BssiRefIdeal.main_arg2) = m' ((c.tc : Thread Cert.BssiRefIdeal.nD Cert.BssiRefIdeal.τ).loc Cert.BssiRefIdeal.main_arg2)
          ∧ r.2.mem ((c.tc : Thread Cert.BssiRefIdeal.nD Cert.BssiRefIdeal.τ).loc Cert.BssiRefIdeal.main_arg3) = m' ((c.tc : Thread Cert.BssiRefIdeal.nD Cert.BssiRefIdeal.τ).loc Cert.BssiRefIdeal.main_arg3)
          ∧ r.2.mem ((c.tc : Thread Cert.BssiRefIdeal.nD Cert.BssiRefIdeal.τ).loc Cert.BssiRefIdeal.main_arg4) = m' ((c.tc : Thread Cert.BssiRefIdeal.nD Cert.BssiRefIdeal.τ).loc Cert.BssiRefIdeal.main_arg4)
          ∧ r.2.mem ((c.tc : Thread Cert.BssiRefIdeal.nD Cert.BssiRefIdeal.τ).loc Cert.BssiRefIdeal.main_arg5) = m' ((c.tc : Thread Cert.BssiRefIdeal.nD Cert.BssiRefIdeal.τ).loc Cert.BssiRefIdeal.main_arg5))

def preserves_Bsso_BssoIdeal : Prop :=
  True

def algebraic_BssoIdeal_BssoRefIdeal [hBssoIdeal : Cert.BssoIdeal.Facts] [hBssoRefIdeal : Cert.BssoRefIdeal.Facts] : Prop :=
  ∀ (m : (ℓ : Loc Cert.BssoIdeal.nD Cert.BssoIdeal.τ Cert.BssoIdeal.sig) → Buf (Elt Ideal) ℓ) (g : Dev Cert.BssoIdeal.nD → PrngReg)
    (m' : (ℓ : Loc Cert.BssoRefIdeal.nD Cert.BssoRefIdeal.τ Cert.BssoRefIdeal.sig) → Buf (Elt Ideal) ℓ) (g' : Dev Cert.BssoRefIdeal.nD → PrngReg), Pre_BssoIdeal m →
    (∀ c : Dev Cert.BssoIdeal.nD,
      m' ((c.tc : Thread Cert.BssoRefIdeal.nD Cert.BssoRefIdeal.τ).loc Cert.BssoRefIdeal.main_arg0) = m ((c.tc : Thread Cert.BssoIdeal.nD Cert.BssoIdeal.τ).loc Cert.BssoIdeal.main_arg0)
      ∧ m' ((c.tc : Thread Cert.BssoRefIdeal.nD Cert.BssoRefIdeal.τ).loc Cert.BssoRefIdeal.main_arg1) = m ((c.tc : Thread Cert.BssoIdeal.nD Cert.BssoIdeal.τ).loc Cert.BssoIdeal.main_arg1)
      ∧ m' ((c.tc : Thread Cert.BssoRefIdeal.nD Cert.BssoRefIdeal.τ).loc Cert.BssoRefIdeal.main_arg2) = m ((c.tc : Thread Cert.BssoIdeal.nD Cert.BssoIdeal.τ).loc Cert.BssoIdeal.main_arg2)
      ∧ m' ((c.tc : Thread Cert.BssoRefIdeal.nD Cert.BssoRefIdeal.τ).loc Cert.BssoRefIdeal.main_arg3) = m ((c.tc : Thread Cert.BssoIdeal.nD Cert.BssoIdeal.τ).loc Cert.BssoIdeal.main_arg3)
      ∧ m' ((c.tc : Thread Cert.BssoRefIdeal.nD Cert.BssoRefIdeal.τ).loc Cert.BssoRefIdeal.main_arg4) = m ((c.tc : Thread Cert.BssoIdeal.nD Cert.BssoIdeal.τ).loc Cert.BssoIdeal.main_arg4)
      ∧ m' ((c.tc : Thread Cert.BssoRefIdeal.nD Cert.BssoRefIdeal.τ).loc Cert.BssoRefIdeal.main_arg5) = m ((c.tc : Thread Cert.BssoIdeal.nD Cert.BssoIdeal.τ).loc Cert.BssoIdeal.main_arg5)) →
    ∃ (v0 : (c : Dev Cert.BssoIdeal.nD) → Buf (Elt Ideal) ((c.tc : Thread Cert.BssoIdeal.nD Cert.BssoIdeal.τ).loc Cert.BssoIdeal.main_v0_0)) (v1 : (c : Dev Cert.BssoIdeal.nD) → Buf (Elt Ideal) ((c.tc : Thread Cert.BssoIdeal.nD Cert.BssoIdeal.τ).loc Cert.BssoIdeal.main_v0_1)) (v2 : (c : Dev Cert.BssoIdeal.nD) → Buf (Elt Ideal) ((c.tc : Thread Cert.BssoIdeal.nD Cert.BssoIdeal.τ).loc Cert.BssoIdeal.main_v0_2)) (v3 : (c : Dev Cert.BssoIdeal.nD) → Buf (Elt Ideal) ((c.tc : Thread Cert.BssoIdeal.nD Cert.BssoIdeal.τ).loc Cert.BssoIdeal.main_v0_3)),
      θ_run (Cert.BssoIdeal.defs (F := Ideal)) (onTc (τ := Cert.BssoIdeal.τ) (Cert.BssoIdeal.main (F := Ideal))) ⟨m, fun _ => 0, g⟩ (fun r => ∀ c : Dev Cert.BssoIdeal.nD,
          r.2.mem ((c.tc : Thread Cert.BssoIdeal.nD Cert.BssoIdeal.τ).loc Cert.BssoIdeal.main_v0_0) = v0 c
          ∧ r.2.mem ((c.tc : Thread Cert.BssoIdeal.nD Cert.BssoIdeal.τ).loc Cert.BssoIdeal.main_v0_1) = v1 c
          ∧ r.2.mem ((c.tc : Thread Cert.BssoIdeal.nD Cert.BssoIdeal.τ).loc Cert.BssoIdeal.main_v0_2) = v2 c
          ∧ r.2.mem ((c.tc : Thread Cert.BssoIdeal.nD Cert.BssoIdeal.τ).loc Cert.BssoIdeal.main_v0_3) = v3 c
          ∧ r.2.mem ((c.tc : Thread Cert.BssoIdeal.nD Cert.BssoIdeal.τ).loc Cert.BssoIdeal.main_arg0) = m ((c.tc : Thread Cert.BssoIdeal.nD Cert.BssoIdeal.τ).loc Cert.BssoIdeal.main_arg0)
          ∧ r.2.mem ((c.tc : Thread Cert.BssoIdeal.nD Cert.BssoIdeal.τ).loc Cert.BssoIdeal.main_arg1) = m ((c.tc : Thread Cert.BssoIdeal.nD Cert.BssoIdeal.τ).loc Cert.BssoIdeal.main_arg1)
          ∧ r.2.mem ((c.tc : Thread Cert.BssoIdeal.nD Cert.BssoIdeal.τ).loc Cert.BssoIdeal.main_arg2) = m ((c.tc : Thread Cert.BssoIdeal.nD Cert.BssoIdeal.τ).loc Cert.BssoIdeal.main_arg2)
          ∧ r.2.mem ((c.tc : Thread Cert.BssoIdeal.nD Cert.BssoIdeal.τ).loc Cert.BssoIdeal.main_arg3) = m ((c.tc : Thread Cert.BssoIdeal.nD Cert.BssoIdeal.τ).loc Cert.BssoIdeal.main_arg3)
          ∧ r.2.mem ((c.tc : Thread Cert.BssoIdeal.nD Cert.BssoIdeal.τ).loc Cert.BssoIdeal.main_arg4) = m ((c.tc : Thread Cert.BssoIdeal.nD Cert.BssoIdeal.τ).loc Cert.BssoIdeal.main_arg4)
          ∧ r.2.mem ((c.tc : Thread Cert.BssoIdeal.nD Cert.BssoIdeal.τ).loc Cert.BssoIdeal.main_arg5) = m ((c.tc : Thread Cert.BssoIdeal.nD Cert.BssoIdeal.τ).loc Cert.BssoIdeal.main_arg5))
      ∧ θ_run (Cert.BssoRefIdeal.defs (F := Ideal)) (onTc (τ := Cert.BssoRefIdeal.τ) (Cert.BssoRefIdeal.main (F := Ideal))) ⟨m', fun _ => 0, g'⟩ (fun r => ∀ c : Dev Cert.BssoRefIdeal.nD,
          r.2.mem ((c.tc : Thread Cert.BssoRefIdeal.nD Cert.BssoRefIdeal.τ).loc Cert.BssoRefIdeal.main_v7) = v0 c
          ∧ r.2.mem ((c.tc : Thread Cert.BssoRefIdeal.nD Cert.BssoRefIdeal.τ).loc Cert.BssoRefIdeal.main_v31) = v1 c
          ∧ r.2.mem ((c.tc : Thread Cert.BssoRefIdeal.nD Cert.BssoRefIdeal.τ).loc Cert.BssoRefIdeal.main_v12) = v2 c
          ∧ r.2.mem ((c.tc : Thread Cert.BssoRefIdeal.nD Cert.BssoRefIdeal.τ).loc Cert.BssoRefIdeal.main_v18) = v3 c
          ∧ r.2.mem ((c.tc : Thread Cert.BssoRefIdeal.nD Cert.BssoRefIdeal.τ).loc Cert.BssoRefIdeal.main_arg0) = m' ((c.tc : Thread Cert.BssoRefIdeal.nD Cert.BssoRefIdeal.τ).loc Cert.BssoRefIdeal.main_arg0)
          ∧ r.2.mem ((c.tc : Thread Cert.BssoRefIdeal.nD Cert.BssoRefIdeal.τ).loc Cert.BssoRefIdeal.main_arg1) = m' ((c.tc : Thread Cert.BssoRefIdeal.nD Cert.BssoRefIdeal.τ).loc Cert.BssoRefIdeal.main_arg1)
          ∧ r.2.mem ((c.tc : Thread Cert.BssoRefIdeal.nD Cert.BssoRefIdeal.τ).loc Cert.BssoRefIdeal.main_arg2) = m' ((c.tc : Thread Cert.BssoRefIdeal.nD Cert.BssoRefIdeal.τ).loc Cert.BssoRefIdeal.main_arg2)
          ∧ r.2.mem ((c.tc : Thread Cert.BssoRefIdeal.nD Cert.BssoRefIdeal.τ).loc Cert.BssoRefIdeal.main_arg3) = m' ((c.tc : Thread Cert.BssoRefIdeal.nD Cert.BssoRefIdeal.τ).loc Cert.BssoRefIdeal.main_arg3)
          ∧ r.2.mem ((c.tc : Thread Cert.BssoRefIdeal.nD Cert.BssoRefIdeal.τ).loc Cert.BssoRefIdeal.main_arg4) = m' ((c.tc : Thread Cert.BssoRefIdeal.nD Cert.BssoRefIdeal.τ).loc Cert.BssoRefIdeal.main_arg4)
          ∧ r.2.mem ((c.tc : Thread Cert.BssoRefIdeal.nD Cert.BssoRefIdeal.τ).loc Cert.BssoRefIdeal.main_arg5) = m' ((c.tc : Thread Cert.BssoRefIdeal.nD Cert.BssoRefIdeal.τ).loc Cert.BssoRefIdeal.main_arg5))

def preserves_Dplen_DplenIdeal : Prop :=
  True

def algebraic_DplenIdeal_DplenRefIdeal [hDplenIdeal : Cert.DplenIdeal.Facts] [hDplenRefIdeal : Cert.DplenRefIdeal.Facts] : Prop :=
  ∀ (m : (ℓ : Loc Cert.DplenIdeal.nD Cert.DplenIdeal.τ Cert.DplenIdeal.sig) → Buf (Elt Ideal) ℓ) (g : Dev Cert.DplenIdeal.nD → PrngReg)
    (m' : (ℓ : Loc Cert.DplenRefIdeal.nD Cert.DplenRefIdeal.τ Cert.DplenRefIdeal.sig) → Buf (Elt Ideal) ℓ) (g' : Dev Cert.DplenRefIdeal.nD → PrngReg), Pre_DplenIdeal m →
    (∀ c : Dev Cert.DplenIdeal.nD,
      m' ((c.tc : Thread Cert.DplenRefIdeal.nD Cert.DplenRefIdeal.τ).loc Cert.DplenRefIdeal.main_arg0) = m ((c.tc : Thread Cert.DplenIdeal.nD Cert.DplenIdeal.τ).loc Cert.DplenIdeal.main_arg0)
      ∧ m' ((c.tc : Thread Cert.DplenRefIdeal.nD Cert.DplenRefIdeal.τ).loc Cert.DplenRefIdeal.main_arg1) = m ((c.tc : Thread Cert.DplenIdeal.nD Cert.DplenIdeal.τ).loc Cert.DplenIdeal.main_arg1)) →
    ∃ (v0 : (c : Dev Cert.DplenIdeal.nD) → Buf (Elt Ideal) ((c.tc : Thread Cert.DplenIdeal.nD Cert.DplenIdeal.τ).loc Cert.DplenIdeal.main_v2)),
      θ_run (Cert.DplenIdeal.defs (F := Ideal)) (onTc (τ := Cert.DplenIdeal.τ) (Cert.DplenIdeal.main (F := Ideal))) ⟨m, fun _ => 0, g⟩ (fun r => ∀ c : Dev Cert.DplenIdeal.nD,
          r.2.mem ((c.tc : Thread Cert.DplenIdeal.nD Cert.DplenIdeal.τ).loc Cert.DplenIdeal.main_v2) = v0 c
          ∧ r.2.mem ((c.tc : Thread Cert.DplenIdeal.nD Cert.DplenIdeal.τ).loc Cert.DplenIdeal.main_arg0) = m ((c.tc : Thread Cert.DplenIdeal.nD Cert.DplenIdeal.τ).loc Cert.DplenIdeal.main_arg0)
          ∧ r.2.mem ((c.tc : Thread Cert.DplenIdeal.nD Cert.DplenIdeal.τ).loc Cert.DplenIdeal.main_arg1) = m ((c.tc : Thread Cert.DplenIdeal.nD Cert.DplenIdeal.τ).loc Cert.DplenIdeal.main_arg1))
      ∧ θ_run (Cert.DplenRefIdeal.defs (F := Ideal)) (onTc (τ := Cert.DplenRefIdeal.τ) (Cert.DplenRefIdeal.main (F := Ideal))) ⟨m', fun _ => 0, g'⟩ (fun r => ∀ c : Dev Cert.DplenRefIdeal.nD,
          r.2.mem ((c.tc : Thread Cert.DplenRefIdeal.nD Cert.DplenRefIdeal.τ).loc Cert.DplenRefIdeal.main_v2) = v0 c
          ∧ r.2.mem ((c.tc : Thread Cert.DplenRefIdeal.nD Cert.DplenRefIdeal.τ).loc Cert.DplenRefIdeal.main_arg0) = m' ((c.tc : Thread Cert.DplenRefIdeal.nD Cert.DplenRefIdeal.τ).loc Cert.DplenRefIdeal.main_arg0)
          ∧ r.2.mem ((c.tc : Thread Cert.DplenRefIdeal.nD Cert.DplenRefIdeal.τ).loc Cert.DplenRefIdeal.main_arg1) = m' ((c.tc : Thread Cert.DplenRefIdeal.nD Cert.DplenRefIdeal.τ).loc Cert.DplenRefIdeal.main_arg1))

def preserves_Dcat_DcatIdeal : Prop :=
  True

def algebraic_DcatIdeal_DcatRefIdeal [hDcatIdeal : Cert.DcatIdeal.Facts] [hDcatRefIdeal : Cert.DcatRefIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatRefIdeal.nD Cert.DcatRefIdeal.τ Cert.DcatRefIdeal.sig) → Buf (Elt Ideal) ℓ) (g' : Dev Cert.DcatRefIdeal.nD → PrngReg), Pre_DcatIdeal m →
    (∀ c : Dev Cert.DcatIdeal.nD,
      m' ((c.tc : Thread Cert.DcatRefIdeal.nD Cert.DcatRefIdeal.τ).loc Cert.DcatRefIdeal.main_arg0) = m ((c.tc : Thread Cert.DcatIdeal.nD Cert.DcatIdeal.τ).loc Cert.DcatIdeal.main_arg0)
      ∧ m' ((c.tc : Thread Cert.DcatRefIdeal.nD Cert.DcatRefIdeal.τ).loc Cert.DcatRefIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v1)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v1) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatRefIdeal.defs (F := Ideal)) (onTc (τ := Cert.DcatRefIdeal.τ) (Cert.DcatRefIdeal.main (F := Ideal))) ⟨m', fun _ => 0, g'⟩ (fun r => ∀ c : Dev Cert.DcatRefIdeal.nD,
          r.2.mem ((c.tc : Thread Cert.DcatRefIdeal.nD Cert.DcatRefIdeal.τ).loc Cert.DcatRefIdeal.main_v2) = v0 c
          ∧ r.2.mem ((c.tc : Thread Cert.DcatRefIdeal.nD Cert.DcatRefIdeal.τ).loc Cert.DcatRefIdeal.main_arg0) = m' ((c.tc : Thread Cert.DcatRefIdeal.nD Cert.DcatRefIdeal.τ).loc Cert.DcatRefIdeal.main_arg0)
          ∧ r.2.mem ((c.tc : Thread Cert.DcatRefIdeal.nD Cert.DcatRefIdeal.τ).loc Cert.DcatRefIdeal.main_arg1) = m' ((c.tc : Thread Cert.DcatRefIdeal.nD Cert.DcatRefIdeal.τ).loc Cert.DcatRefIdeal.main_arg1))

def preserves_Dssm_DssmIdeal : Prop :=
  True

def algebraic_DssmIdeal_DssmRefIdeal [hDssmIdeal : Cert.DssmIdeal.Facts] [hDssmRefIdeal : Cert.DssmRefIdeal.Facts] : Prop :=
  ∀ (m : (ℓ : Loc Cert.DssmIdeal.nD Cert.DssmIdeal.τ Cert.DssmIdeal.sig) → Buf (Elt Ideal) ℓ) (g : Dev Cert.DssmIdeal.nD → PrngReg)
    (m' : (ℓ : Loc Cert.DssmRefIdeal.nD Cert.DssmRefIdeal.τ Cert.DssmRefIdeal.sig) → Buf (Elt Ideal) ℓ) (g' : Dev Cert.DssmRefIdeal.nD → PrngReg), Pre_DssmIdeal m →
    (∀ c : Dev Cert.DssmIdeal.nD,
      m' ((c.tc : Thread Cert.DssmRefIdeal.nD Cert.DssmRefIdeal.τ).loc Cert.DssmRefIdeal.main_arg0) = m ((c.tc : Thread Cert.DssmIdeal.nD Cert.DssmIdeal.τ).loc Cert.DssmIdeal.main_arg0)
      ∧ m' ((c.tc : Thread Cert.DssmRefIdeal.nD Cert.DssmRefIdeal.τ).loc Cert.DssmRefIdeal.main_arg1) = m ((c.tc : Thread Cert.DssmIdeal.nD Cert.DssmIdeal.τ).loc Cert.DssmIdeal.main_arg1)) →
    ∃ (v0 : (c : Dev Cert.DssmIdeal.nD) → Buf (Elt Ideal) ((c.tc : Thread Cert.DssmIdeal.nD Cert.DssmIdeal.τ).loc Cert.DssmIdeal.main_v1)),
      θ_run (Cert.DssmIdeal.defs (F := Ideal)) (onTc (τ := Cert.DssmIdeal.τ) (Cert.DssmIdeal.main (F := Ideal))) ⟨m, fun _ => 0, g⟩ (fun r => ∀ c : Dev Cert.DssmIdeal.nD,
          r.2.mem ((c.tc : Thread Cert.DssmIdeal.nD Cert.DssmIdeal.τ).loc Cert.DssmIdeal.main_v1) = v0 c
          ∧ r.2.mem ((c.tc : Thread Cert.DssmIdeal.nD Cert.DssmIdeal.τ).loc Cert.DssmIdeal.main_arg0) = m ((c.tc : Thread Cert.DssmIdeal.nD Cert.DssmIdeal.τ).loc Cert.DssmIdeal.main_arg0)
          ∧ r.2.mem ((c.tc : Thread Cert.DssmIdeal.nD Cert.DssmIdeal.τ).loc Cert.DssmIdeal.main_arg1) = m ((c.tc : Thread Cert.DssmIdeal.nD Cert.DssmIdeal.τ).loc Cert.DssmIdeal.main_arg1))
      ∧ θ_run (Cert.DssmRefIdeal.defs (F := Ideal)) (onTc (τ := Cert.DssmRefIdeal.τ) (Cert.DssmRefIdeal.main (F := Ideal))) ⟨m', fun _ => 0, g'⟩ (fun r => ∀ c : Dev Cert.DssmRefIdeal.nD,
          r.2.mem ((c.tc : Thread Cert.DssmRefIdeal.nD Cert.DssmRefIdeal.τ).loc Cert.DssmRefIdeal.main_v2) = v0 c
          ∧ r.2.mem ((c.tc : Thread Cert.DssmRefIdeal.nD Cert.DssmRefIdeal.τ).loc Cert.DssmRefIdeal.main_arg0) = m' ((c.tc : Thread Cert.DssmRefIdeal.nD Cert.DssmRefIdeal.τ).loc Cert.DssmRefIdeal.main_arg0)
          ∧ r.2.mem ((c.tc : Thread Cert.DssmRefIdeal.nD Cert.DssmRefIdeal.τ).loc Cert.DssmRefIdeal.main_arg1) = m' ((c.tc : Thread Cert.DssmRefIdeal.nD Cert.DssmRefIdeal.τ).loc Cert.DssmRefIdeal.main_arg1))

def preserves_Pgate_PgateIdeal : Prop :=
  True

def algebraic_PgateIdeal_PgateRefIdeal [hPgateIdeal : Cert.PgateIdeal.Facts] [hPgateRefIdeal : Cert.PgateRefIdeal.Facts] : Prop :=
  ∀ (m : (ℓ : Loc Cert.PgateIdeal.nD Cert.PgateIdeal.τ Cert.PgateIdeal.sig) → Buf (Elt Ideal) ℓ) (g : Dev Cert.PgateIdeal.nD → PrngReg)
    (m' : (ℓ : Loc Cert.PgateRefIdeal.nD Cert.PgateRefIdeal.τ Cert.PgateRefIdeal.sig) → Buf (Elt Ideal) ℓ) (g' : Dev Cert.PgateRefIdeal.nD → PrngReg), Pre_PgateIdeal m →
    (∀ c : Dev Cert.PgateIdeal.nD,
      m' ((c.tc : Thread Cert.PgateRefIdeal.nD Cert.PgateRefIdeal.τ).loc Cert.PgateRefIdeal.main_arg0) = m ((c.tc : Thread Cert.PgateIdeal.nD Cert.PgateIdeal.τ).loc Cert.PgateIdeal.main_arg0)
      ∧ m' ((c.tc : Thread Cert.PgateRefIdeal.nD Cert.PgateRefIdeal.τ).loc Cert.PgateRefIdeal.main_arg1) = m ((c.tc : Thread Cert.PgateIdeal.nD Cert.PgateIdeal.τ).loc Cert.PgateIdeal.main_arg1)) →
    ∃ (v0 : (c : Dev Cert.PgateIdeal.nD) → Buf (Elt Ideal) ((c.tc : Thread Cert.PgateIdeal.nD Cert.PgateIdeal.τ).loc Cert.PgateIdeal.main_v2)),
      θ_run (Cert.PgateIdeal.defs (F := Ideal)) (onTc (τ := Cert.PgateIdeal.τ) (Cert.PgateIdeal.main (F := Ideal))) ⟨m, fun _ => 0, g⟩ (fun r => ∀ c : Dev Cert.PgateIdeal.nD,
          r.2.mem ((c.tc : Thread Cert.PgateIdeal.nD Cert.PgateIdeal.τ).loc Cert.PgateIdeal.main_v2) = v0 c
          ∧ r.2.mem ((c.tc : Thread Cert.PgateIdeal.nD Cert.PgateIdeal.τ).loc Cert.PgateIdeal.main_arg0) = m ((c.tc : Thread Cert.PgateIdeal.nD Cert.PgateIdeal.τ).loc Cert.PgateIdeal.main_arg0)
          ∧ r.2.mem ((c.tc : Thread Cert.PgateIdeal.nD Cert.PgateIdeal.τ).loc Cert.PgateIdeal.main_arg1) = m ((c.tc : Thread Cert.PgateIdeal.nD Cert.PgateIdeal.τ).loc Cert.PgateIdeal.main_arg1))
      ∧ θ_run (Cert.PgateRefIdeal.defs (F := Ideal)) (onTc (τ := Cert.PgateRefIdeal.τ) (Cert.PgateRefIdeal.main (F := Ideal))) ⟨m', fun _ => 0, g'⟩ (fun r => ∀ c : Dev Cert.PgateRefIdeal.nD,
          r.2.mem ((c.tc : Thread Cert.PgateRefIdeal.nD Cert.PgateRefIdeal.τ).loc Cert.PgateRefIdeal.main_v0) = v0 c
          ∧ r.2.mem ((c.tc : Thread Cert.PgateRefIdeal.nD Cert.PgateRefIdeal.τ).loc Cert.PgateRefIdeal.main_arg0) = m' ((c.tc : Thread Cert.PgateRefIdeal.nD Cert.PgateRefIdeal.τ).loc Cert.PgateRefIdeal.main_arg0)
          ∧ r.2.mem ((c.tc : Thread Cert.PgateRefIdeal.nD Cert.PgateRefIdeal.τ).loc Cert.PgateRefIdeal.main_arg1) = m' ((c.tc : Thread Cert.PgateRefIdeal.nD Cert.PgateRefIdeal.τ).loc Cert.PgateRefIdeal.main_arg1))

def preserves_Abin_AbinIdeal : Prop :=
  True

def algebraic_AbinIdeal_AbinRefIdeal [hAbinIdeal : Cert.AbinIdeal.Facts] [hAbinRefIdeal : Cert.AbinRefIdeal.Facts] : Prop :=
  ∀ (m : (ℓ : Loc Cert.AbinIdeal.nD Cert.AbinIdeal.τ Cert.AbinIdeal.sig) → Buf (Elt Ideal) ℓ) (g : Dev Cert.AbinIdeal.nD → PrngReg)
    (m' : (ℓ : Loc Cert.AbinRefIdeal.nD Cert.AbinRefIdeal.τ Cert.AbinRefIdeal.sig) → Buf (Elt Ideal) ℓ) (g' : Dev Cert.AbinRefIdeal.nD → PrngReg), Pre_AbinIdeal m →
    (∀ c : Dev Cert.AbinIdeal.nD,
      m' ((c.tc : Thread Cert.AbinRefIdeal.nD Cert.AbinRefIdeal.τ).loc Cert.AbinRefIdeal.main_arg0) = m ((c.tc : Thread Cert.AbinIdeal.nD Cert.AbinIdeal.τ).loc Cert.AbinIdeal.main_arg0)
      ∧ m' ((c.tc : Thread Cert.AbinRefIdeal.nD Cert.AbinRefIdeal.τ).loc Cert.AbinRefIdeal.main_arg1) = m ((c.tc : Thread Cert.AbinIdeal.nD Cert.AbinIdeal.τ).loc Cert.AbinIdeal.main_arg1)) →
    ∃ (v0 : (c : Dev Cert.AbinIdeal.nD) → Buf (Elt Ideal) ((c.tc : Thread Cert.AbinIdeal.nD Cert.AbinIdeal.τ).loc Cert.AbinIdeal.main_v2)),
      θ_run (Cert.AbinIdeal.defs (F := Ideal)) (onTc (τ := Cert.AbinIdeal.τ) (Cert.AbinIdeal.main (F := Ideal))) ⟨m, fun _ => 0, g⟩ (fun r => ∀ c : Dev Cert.AbinIdeal.nD,
          r.2.mem ((c.tc : Thread Cert.AbinIdeal.nD Cert.AbinIdeal.τ).loc Cert.AbinIdeal.main_v2) = v0 c
          ∧ r.2.mem ((c.tc : Thread Cert.AbinIdeal.nD Cert.AbinIdeal.τ).loc Cert.AbinIdeal.main_arg0) = m ((c.tc : Thread Cert.AbinIdeal.nD Cert.AbinIdeal.τ).loc Cert.AbinIdeal.main_arg0)
          ∧ r.2.mem ((c.tc : Thread Cert.AbinIdeal.nD Cert.AbinIdeal.τ).loc Cert.AbinIdeal.main_arg1) = m ((c.tc : Thread Cert.AbinIdeal.nD Cert.AbinIdeal.τ).loc Cert.AbinIdeal.main_arg1))
      ∧ θ_run (Cert.AbinRefIdeal.defs (F := Ideal)) (onTc (τ := Cert.AbinRefIdeal.τ) (Cert.AbinRefIdeal.main (F := Ideal))) ⟨m', fun _ => 0, g'⟩ (fun r => ∀ c : Dev Cert.AbinRefIdeal.nD,
          r.2.mem ((c.tc : Thread Cert.AbinRefIdeal.nD Cert.AbinRefIdeal.τ).loc Cert.AbinRefIdeal.main_v0) = v0 c
          ∧ r.2.mem ((c.tc : Thread Cert.AbinRefIdeal.nD Cert.AbinRefIdeal.τ).loc Cert.AbinRefIdeal.main_arg0) = m' ((c.tc : Thread Cert.AbinRefIdeal.nD Cert.AbinRefIdeal.τ).loc Cert.AbinRefIdeal.main_arg0)
          ∧ r.2.mem ((c.tc : Thread Cert.AbinRefIdeal.nD Cert.AbinRefIdeal.τ).loc Cert.AbinRefIdeal.main_arg1) = m' ((c.tc : Thread Cert.AbinRefIdeal.nD Cert.AbinRefIdeal.τ).loc Cert.AbinRefIdeal.main_arg1))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hUp : Cert.Up.Facts) (hUpIdeal : Cert.UpIdeal.Facts) (hUpRefIdeal : Cert.UpRefIdeal.Facts) (hDu : Cert.Du.Facts) (hDuIdeal : Cert.DuIdeal.Facts) (hDuRefIdeal : Cert.DuRefIdeal.Facts) (hDown : Cert.Down.Facts) (hDownIdeal : Cert.DownIdeal.Facts) (hDownRefIdeal : Cert.DownRefIdeal.Facts) (hDwdown : Cert.Dwdown.Facts) (hDwdownIdeal : Cert.DwdownIdeal.Facts) (hDwdownRefIdeal : Cert.DwdownRefIdeal.Facts) (hDwgate : Cert.Dwgate.Facts) (hDwgateIdeal : Cert.DwgateIdeal.Facts) (hDwgateRefIdeal : Cert.DwgateRefIdeal.Facts) (hDwup : Cert.Dwup.Facts) (hDwupIdeal : Cert.DwupIdeal.Facts) (hDwupRefIdeal : Cert.DwupRefIdeal.Facts) (hDnup : Cert.Dnup.Facts) (hDnupIdeal : Cert.DnupIdeal.Facts) (hDnupRefIdeal : Cert.DnupRefIdeal.Facts) (hDngate : Cert.Dngate.Facts) (hDngateIdeal : Cert.DngateIdeal.Facts) (hDngateRefIdeal : Cert.DngateRefIdeal.Facts) (hDscan : Cert.Dscan.Facts) (hDscanIdeal : Cert.DscanIdeal.Facts) (hDscanRefIdeal : Cert.DscanRefIdeal.Facts) (hDnorm : Cert.Dnorm.Facts) (hDnormIdeal : Cert.DnormIdeal.Facts) (hDnormRefIdeal : Cert.DnormRefIdeal.Facts) (hDshift : Cert.Dshift.Facts) (hDshiftIdeal : Cert.DshiftIdeal.Facts) (hDshiftRefIdeal : Cert.DshiftRefIdeal.Facts) (hLoss : Cert.Loss.Facts) (hLossIdeal : Cert.LossIdeal.Facts) (hLossRefIdeal : Cert.LossRefIdeal.Facts) (hAdam : Cert.Adam.Facts) (hAdamIdeal : Cert.AdamIdeal.Facts) (hAdamRefIdeal : Cert.AdamRefIdeal.Facts) (hDple : Cert.Dple.Facts) (hDpleIdeal : Cert.DpleIdeal.Facts) (hDpleRefIdeal : Cert.DpleRefIdeal.Facts) (hDglu : Cert.Dglu.Facts) (hDgluIdeal : Cert.DgluIdeal.Facts) (hDgluRefIdeal : Cert.DgluRefIdeal.Facts) (hDgelu : Cert.Dgelu.Facts) (hDgeluIdeal : Cert.DgeluIdeal.Facts) (hDgeluRefIdeal : Cert.DgeluRefIdeal.Facts) (hBig : Cert.Big.Facts) (hBigIdeal : Cert.BigIdeal.Facts) (hBigRefIdeal : Cert.BigRefIdeal.Facts) (hSum : Cert.Sum.Facts) (hSumIdeal : Cert.SumIdeal.Facts) (hSumRefIdeal : Cert.SumRefIdeal.Facts) (hBdown : Cert.Bdown.Facts) (hBdownIdeal : Cert.BdownIdeal.Facts) (hBdownRefIdeal : Cert.BdownRefIdeal.Facts) (hBpg : Cert.Bpg.Facts) (hBpgIdeal : Cert.BpgIdeal.Facts) (hBpgRefIdeal : Cert.BpgRefIdeal.Facts) (hBpp : Cert.Bpp.Facts) (hBppIdeal : Cert.BppIdeal.Facts) (hBppRefIdeal : Cert.BppRefIdeal.Facts) (hBab : Cert.Bab.Facts) (hBabIdeal : Cert.BabIdeal.Facts) (hBabRefIdeal : Cert.BabRefIdeal.Facts) (hBabo : Cert.Babo.Facts) (hBaboIdeal : Cert.BaboIdeal.Facts) (hBaboRefIdeal : Cert.BaboRefIdeal.Facts) (hBssi : Cert.Bssi.Facts) (hBssiIdeal : Cert.BssiIdeal.Facts) (hBssiRefIdeal : Cert.BssiRefIdeal.Facts) (hBsso : Cert.Bsso.Facts) (hBssoIdeal : Cert.BssoIdeal.Facts) (hBssoRefIdeal : Cert.BssoRefIdeal.Facts) (hDplen : Cert.Dplen.Facts) (hDplenIdeal : Cert.DplenIdeal.Facts) (hDplenRefIdeal : Cert.DplenRefIdeal.Facts) (hDcat : Cert.Dcat.Facts) (hDcatIdeal : Cert.DcatIdeal.Facts) (hDcatRefIdeal : Cert.DcatRefIdeal.Facts) (hDssm : Cert.Dssm.Facts) (hDssmIdeal : Cert.DssmIdeal.Facts) (hDssmRefIdeal : Cert.DssmRefIdeal.Facts) (hPgate : Cert.Pgate.Facts) (hPgateIdeal : Cert.PgateIdeal.Facts) (hPgateRefIdeal : Cert.PgateRefIdeal.Facts) (hAbin : Cert.Abin.Facts) (hAbinIdeal : Cert.AbinIdeal.Facts) (hAbinRefIdeal : Cert.AbinRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Gate (hGate := hGate)
    ∧ quiescent_GateIdeal (hGateIdeal := hGateIdeal)
    ∧ quiescent_GateRefIdeal (hGateRefIdeal := hGateRefIdeal)
    ∧ quiescent_Up (hUp := hUp)
    ∧ quiescent_UpIdeal (hUpIdeal := hUpIdeal)
    ∧ quiescent_UpRefIdeal (hUpRefIdeal := hUpRefIdeal)
    ∧ quiescent_Du (hDu := hDu)
    ∧ quiescent_DuIdeal (hDuIdeal := hDuIdeal)
    ∧ quiescent_DuRefIdeal (hDuRefIdeal := hDuRefIdeal)
    ∧ quiescent_Down (hDown := hDown)
    ∧ quiescent_DownIdeal (hDownIdeal := hDownIdeal)
    ∧ quiescent_DownRefIdeal (hDownRefIdeal := hDownRefIdeal)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Dwgate (hDwgate := hDwgate)
    ∧ quiescent_DwgateIdeal (hDwgateIdeal := hDwgateIdeal)
    ∧ quiescent_DwgateRefIdeal (hDwgateRefIdeal := hDwgateRefIdeal)
    ∧ quiescent_Dwup (hDwup := hDwup)
    ∧ quiescent_DwupIdeal (hDwupIdeal := hDwupIdeal)
    ∧ quiescent_DwupRefIdeal (hDwupRefIdeal := hDwupRefIdeal)
    ∧ quiescent_Dnup (hDnup := hDnup)
    ∧ quiescent_DnupIdeal (hDnupIdeal := hDnupIdeal)
    ∧ quiescent_DnupRefIdeal (hDnupRefIdeal := hDnupRefIdeal)
    ∧ quiescent_Dngate (hDngate := hDngate)
    ∧ quiescent_DngateIdeal (hDngateIdeal := hDngateIdeal)
    ∧ quiescent_DngateRefIdeal (hDngateRefIdeal := hDngateRefIdeal)
    ∧ quiescent_Dscan (hDscan := hDscan)
    ∧ quiescent_DscanIdeal (hDscanIdeal := hDscanIdeal)
    ∧ quiescent_DscanRefIdeal (hDscanRefIdeal := hDscanRefIdeal)
    ∧ quiescent_Dnorm (hDnorm := hDnorm)
    ∧ quiescent_DnormIdeal (hDnormIdeal := hDnormIdeal)
    ∧ quiescent_DnormRefIdeal (hDnormRefIdeal := hDnormRefIdeal)
    ∧ quiescent_Dshift (hDshift := hDshift)
    ∧ quiescent_DshiftIdeal (hDshiftIdeal := hDshiftIdeal)
    ∧ quiescent_DshiftRefIdeal (hDshiftRefIdeal := hDshiftRefIdeal)
    ∧ quiescent_Loss (hLoss := hLoss)
    ∧ quiescent_LossIdeal (hLossIdeal := hLossIdeal)
    ∧ quiescent_LossRefIdeal (hLossRefIdeal := hLossRefIdeal)
    ∧ quiescent_Adam (hAdam := hAdam)
    ∧ quiescent_AdamIdeal (hAdamIdeal := hAdamIdeal)
    ∧ quiescent_AdamRefIdeal (hAdamRefIdeal := hAdamRefIdeal)
    ∧ quiescent_Dple (hDple := hDple)
    ∧ quiescent_DpleIdeal (hDpleIdeal := hDpleIdeal)
    ∧ quiescent_DpleRefIdeal (hDpleRefIdeal := hDpleRefIdeal)
    ∧ quiescent_Dglu (hDglu := hDglu)
    ∧ quiescent_DgluIdeal (hDgluIdeal := hDgluIdeal)
    ∧ quiescent_DgluRefIdeal (hDgluRefIdeal := hDgluRefIdeal)
    ∧ quiescent_Dgelu (hDgelu := hDgelu)
    ∧ quiescent_DgeluIdeal (hDgeluIdeal := hDgeluIdeal)
    ∧ quiescent_DgeluRefIdeal (hDgeluRefIdeal := hDgeluRefIdeal)
    ∧ quiescent_Big (hBig := hBig)
    ∧ quiescent_BigIdeal (hBigIdeal := hBigIdeal)
    ∧ quiescent_BigRefIdeal (hBigRefIdeal := hBigRefIdeal)
    ∧ quiescent_Sum (hSum := hSum)
    ∧ quiescent_SumIdeal (hSumIdeal := hSumIdeal)
    ∧ quiescent_SumRefIdeal (hSumRefIdeal := hSumRefIdeal)
    ∧ quiescent_Bdown (hBdown := hBdown)
    ∧ quiescent_BdownIdeal (hBdownIdeal := hBdownIdeal)
    ∧ quiescent_BdownRefIdeal (hBdownRefIdeal := hBdownRefIdeal)
    ∧ quiescent_Bpg (hBpg := hBpg)
    ∧ quiescent_BpgIdeal (hBpgIdeal := hBpgIdeal)
    ∧ quiescent_BpgRefIdeal (hBpgRefIdeal := hBpgRefIdeal)
    ∧ quiescent_Bpp (hBpp := hBpp)
    ∧ quiescent_BppIdeal (hBppIdeal := hBppIdeal)
    ∧ quiescent_BppRefIdeal (hBppRefIdeal := hBppRefIdeal)
    ∧ quiescent_Bab (hBab := hBab)
    ∧ quiescent_BabIdeal (hBabIdeal := hBabIdeal)
    ∧ quiescent_BabRefIdeal (hBabRefIdeal := hBabRefIdeal)
    ∧ quiescent_Babo (hBabo := hBabo)
    ∧ quiescent_BaboIdeal (hBaboIdeal := hBaboIdeal)
    ∧ quiescent_BaboRefIdeal (hBaboRefIdeal := hBaboRefIdeal)
    ∧ quiescent_Bssi (hBssi := hBssi)
    ∧ quiescent_BssiIdeal (hBssiIdeal := hBssiIdeal)
    ∧ quiescent_BssiRefIdeal (hBssiRefIdeal := hBssiRefIdeal)
    ∧ quiescent_Bsso (hBsso := hBsso)
    ∧ quiescent_BssoIdeal (hBssoIdeal := hBssoIdeal)
    ∧ quiescent_BssoRefIdeal (hBssoRefIdeal := hBssoRefIdeal)
    ∧ quiescent_Dplen (hDplen := hDplen)
    ∧ quiescent_DplenIdeal (hDplenIdeal := hDplenIdeal)
    ∧ quiescent_DplenRefIdeal (hDplenRefIdeal := hDplenRefIdeal)
    ∧ quiescent_Dcat (hDcat := hDcat)
    ∧ quiescent_DcatIdeal (hDcatIdeal := hDcatIdeal)
    ∧ quiescent_DcatRefIdeal (hDcatRefIdeal := hDcatRefIdeal)
    ∧ quiescent_Dssm (hDssm := hDssm)
    ∧ quiescent_DssmIdeal (hDssmIdeal := hDssmIdeal)
    ∧ quiescent_DssmRefIdeal (hDssmRefIdeal := hDssmRefIdeal)
    ∧ quiescent_Pgate (hPgate := hPgate)
    ∧ quiescent_PgateIdeal (hPgateIdeal := hPgateIdeal)
    ∧ quiescent_PgateRefIdeal (hPgateRefIdeal := hPgateRefIdeal)
    ∧ quiescent_Abin (hAbin := hAbin)
    ∧ quiescent_AbinIdeal (hAbinIdeal := hAbinIdeal)
    ∧ quiescent_AbinRefIdeal (hAbinRefIdeal := hAbinRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Gate_GateIdeal
    ∧ algebraic_GateIdeal_GateRefIdeal (hGateIdeal := hGateIdeal) (hGateRefIdeal := hGateRefIdeal)
    ∧ preserves_Up_UpIdeal
    ∧ algebraic_UpIdeal_UpRefIdeal (hUpIdeal := hUpIdeal) (hUpRefIdeal := hUpRefIdeal)
    ∧ preserves_Du_DuIdeal
    ∧ algebraic_DuIdeal_DuRefIdeal (hDuIdeal := hDuIdeal) (hDuRefIdeal := hDuRefIdeal)
    ∧ preserves_Down_DownIdeal
    ∧ algebraic_DownIdeal_DownRefIdeal (hDownIdeal := hDownIdeal) (hDownRefIdeal := hDownRefIdeal)
    ∧ preserves_Dwdown_DwdownIdeal
    ∧ algebraic_DwdownIdeal_DwdownRefIdeal (hDwdownIdeal := hDwdownIdeal) (hDwdownRefIdeal := hDwdownRefIdeal)
    ∧ preserves_Dwgate_DwgateIdeal
    ∧ algebraic_DwgateIdeal_DwgateRefIdeal (hDwgateIdeal := hDwgateIdeal) (hDwgateRefIdeal := hDwgateRefIdeal)
    ∧ preserves_Dwup_DwupIdeal
    ∧ algebraic_DwupIdeal_DwupRefIdeal (hDwupIdeal := hDwupIdeal) (hDwupRefIdeal := hDwupRefIdeal)
    ∧ preserves_Dnup_DnupIdeal
    ∧ algebraic_DnupIdeal_DnupRefIdeal (hDnupIdeal := hDnupIdeal) (hDnupRefIdeal := hDnupRefIdeal)
    ∧ preserves_Dngate_DngateIdeal
    ∧ algebraic_DngateIdeal_DngateRefIdeal (hDngateIdeal := hDngateIdeal) (hDngateRefIdeal := hDngateRefIdeal)
    ∧ preserves_Dscan_DscanIdeal
    ∧ algebraic_DscanIdeal_DscanRefIdeal (hDscanIdeal := hDscanIdeal) (hDscanRefIdeal := hDscanRefIdeal)
    ∧ preserves_Dnorm_DnormIdeal
    ∧ algebraic_DnormIdeal_DnormRefIdeal (hDnormIdeal := hDnormIdeal) (hDnormRefIdeal := hDnormRefIdeal)
    ∧ preserves_Dshift_DshiftIdeal
    ∧ algebraic_DshiftIdeal_DshiftRefIdeal (hDshiftIdeal := hDshiftIdeal) (hDshiftRefIdeal := hDshiftRefIdeal)
    ∧ preserves_Loss_LossIdeal
    ∧ algebraic_LossIdeal_LossRefIdeal (hLossIdeal := hLossIdeal) (hLossRefIdeal := hLossRefIdeal)
    ∧ preserves_Adam_AdamIdeal
    ∧ algebraic_AdamIdeal_AdamRefIdeal (hAdamIdeal := hAdamIdeal) (hAdamRefIdeal := hAdamRefIdeal)
    ∧ preserves_Dple_DpleIdeal
    ∧ algebraic_DpleIdeal_DpleRefIdeal (hDpleIdeal := hDpleIdeal) (hDpleRefIdeal := hDpleRefIdeal)
    ∧ preserves_Dglu_DgluIdeal
    ∧ algebraic_DgluIdeal_DgluRefIdeal (hDgluIdeal := hDgluIdeal) (hDgluRefIdeal := hDgluRefIdeal)
    ∧ preserves_Dgelu_DgeluIdeal
    ∧ algebraic_DgeluIdeal_DgeluRefIdeal (hDgeluIdeal := hDgeluIdeal) (hDgeluRefIdeal := hDgeluRefIdeal)
    ∧ preserves_Big_BigIdeal
    ∧ algebraic_BigIdeal_BigRefIdeal (hBigIdeal := hBigIdeal) (hBigRefIdeal := hBigRefIdeal)
    ∧ preserves_Sum_SumIdeal
    ∧ algebraic_SumIdeal_SumRefIdeal (hSumIdeal := hSumIdeal) (hSumRefIdeal := hSumRefIdeal)
    ∧ preserves_Bdown_BdownIdeal
    ∧ algebraic_BdownIdeal_BdownRefIdeal (hBdownIdeal := hBdownIdeal) (hBdownRefIdeal := hBdownRefIdeal)
    ∧ preserves_Bpg_BpgIdeal
    ∧ algebraic_BpgIdeal_BpgRefIdeal (hBpgIdeal := hBpgIdeal) (hBpgRefIdeal := hBpgRefIdeal)
    ∧ preserves_Bpp_BppIdeal
    ∧ algebraic_BppIdeal_BppRefIdeal (hBppIdeal := hBppIdeal) (hBppRefIdeal := hBppRefIdeal)
    ∧ preserves_Bab_BabIdeal
    ∧ algebraic_BabIdeal_BabRefIdeal (hBabIdeal := hBabIdeal) (hBabRefIdeal := hBabRefIdeal)
    ∧ preserves_Babo_BaboIdeal
    ∧ algebraic_BaboIdeal_BaboRefIdeal (hBaboIdeal := hBaboIdeal) (hBaboRefIdeal := hBaboRefIdeal)
    ∧ preserves_Bssi_BssiIdeal
    ∧ algebraic_BssiIdeal_BssiRefIdeal (hBssiIdeal := hBssiIdeal) (hBssiRefIdeal := hBssiRefIdeal)
    ∧ preserves_Bsso_BssoIdeal
    ∧ algebraic_BssoIdeal_BssoRefIdeal (hBssoIdeal := hBssoIdeal) (hBssoRefIdeal := hBssoRefIdeal)
    ∧ preserves_Dplen_DplenIdeal
    ∧ algebraic_DplenIdeal_DplenRefIdeal (hDplenIdeal := hDplenIdeal) (hDplenRefIdeal := hDplenRefIdeal)
    ∧ preserves_Dcat_DcatIdeal
    ∧ algebraic_DcatIdeal_DcatRefIdeal (hDcatIdeal := hDcatIdeal) (hDcatRefIdeal := hDcatRefIdeal)
    ∧ preserves_Dssm_DssmIdeal
    ∧ algebraic_DssmIdeal_DssmRefIdeal (hDssmIdeal := hDssmIdeal) (hDssmRefIdeal := hDssmRefIdeal)
    ∧ preserves_Pgate_PgateIdeal
    ∧ algebraic_PgateIdeal_PgateRefIdeal (hPgateIdeal := hPgateIdeal) (hPgateRefIdeal := hPgateRefIdeal)
    ∧ preserves_Abin_AbinIdeal
    ∧ algebraic_AbinIdeal_AbinRefIdeal (hAbinIdeal := hAbinIdeal) (hAbinRefIdeal := hAbinRefIdeal)
-- ==== Pre_finite_scores.lean ====
abbrev S4096x1024 : Shape := ⟨2, ![4096, 1024]⟩
abbrev S16x64x576 : Shape := ⟨3, ![16, 64, 576]⟩
abbrev S_ : Shape := ⟨0, ![]⟩

class Facts : Prop where
  bcast_S_S4096x1024 : S_.BroadcastsInDim S4096x1024 (![] : Fin 0 → Fin S4096x1024.rank)
  bcast_S_S16x64x576 : S_.BroadcastsInDim S16x64x576 (![] : Fin 0 → Fin S16x64x576.rank)

variable [Facts]

def fn {F : FTy → Type} [FloatOps F] (main_arg0 : FVec F S4096x1024 .f32) (main_arg1 : FVec F S4096x1024 .f32) (main_arg2 : FVec F S4096x1024 .f32) (main_arg3 : FVec F S16x64x576 .f32) (main_arg4 : FVec F S4096x1024 .f32) : IVec S4096x1024 1 × IVec S4096x1024 1 × IVec S16x64x576 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S16x64x576 .f32 := Host.absf main_arg3
  let main_cst_1 : FVec F S_ .f32 := constant S_ .f32 0x7F800000#32
  let main_v7 : FVec F S16x64x576 .f32 := broadcastInDim S16x64x576 ![] bcast_S_S16x64x576 main_cst_1
  let main_v8 : IVec S16x64x576 1 := cmpf .olt main_v6 main_v7
  (main_v2, main_v5, main_v8)
-- ==== Kernel.lean ====
abbrev S4096x1024 : Shape := ⟨2, ![4096, 1024]⟩
abbrev S16x64x576 : Shape := ⟨3, ![16, 64, 576]⟩
abbrev S4096x16x64 : Shape := ⟨3, ![4096, 16, 64]⟩
abbrev S16x4096x64 : Shape := ⟨3, ![16, 4096, 64]⟩
abbrev S_ : Shape := ⟨0, ![]⟩
abbrev S16x4608x64 : Shape := ⟨3, ![16, 4608, 64]⟩
abbrev S2x64x64 : Shape := ⟨3, ![2, 64, 64]⟩
abbrev S2x4608x64 : Shape := ⟨3, ![2, 4608, 64]⟩
abbrev S2x64x576 : Shape := ⟨3, ![2, 64, 576]⟩
abbrev S2x576x64 : Shape := ⟨3, ![2, 576, 64]⟩
abbrev S2x64 : Shape := ⟨2, ![2, 64]⟩
abbrev S2x64x1 : Shape := ⟨3, ![2, 64, 1]⟩

abbrev nBuf : Space → Nat
  | .hbm => 27
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S16x64x576, .f32⟩
  | .hbm, ⟨4, _⟩ => ⟨S4096x1024, .f32⟩
  | .hbm, ⟨5, _⟩ => ⟨S4096x16x64, .f32⟩
  | .hbm, ⟨6, _⟩ => ⟨S16x4096x64, .f32⟩
  | .hbm, ⟨7, _⟩ => ⟨S16x4096x64, .bf16⟩
  | .hbm, ⟨8, _⟩ => ⟨S4096x16x64, .f32⟩
  | .hbm, ⟨9, _⟩ => ⟨S16x4096x64, .f32⟩
  | .hbm, ⟨10, _⟩ => ⟨S16x4096x64, .bf16⟩
  | .hbm, ⟨11, _⟩ => ⟨S_, .i32⟩
  | .hbm, ⟨12, _⟩ => ⟨S_, .bf16⟩
  | .hbm, ⟨13, _⟩ => ⟨S16x4608x64, .bf16⟩
  | .hbm, ⟨14, _⟩ => ⟨S4096x16x64, .f32⟩
  | .hbm, ⟨15, _⟩ => ⟨S16x4096x64, .f32⟩
  | .hbm, ⟨16, _⟩ => ⟨S16x4096x64, .bf16⟩
  | .hbm, ⟨17, _⟩ => ⟨S_, .i32⟩
  | .hbm, ⟨18, _⟩ => ⟨S_, .bf16⟩
  | .hbm, ⟨19, _⟩ => ⟨S16x4608x64, .bf16⟩
  | .hbm, ⟨20, _⟩ => ⟨S4096x16x64, .f32⟩
  | .hbm, ⟨21, _⟩ => ⟨S16x4096x64, .f32⟩
  | .hbm, ⟨22, _⟩ => ⟨S16x4096x64, .bf16⟩
  | .hbm, ⟨23, _⟩ => ⟨S16x4096x64, .f32⟩
  | .hbm, ⟨24, _⟩ => ⟨S16x4608x64, .f32⟩
  | .hbm, ⟨25, _⟩ => ⟨S16x4608x64, .f32⟩
  | .hbm, ⟨26, _⟩ => ⟨S16x64x576, .f32⟩
  | .local _ .vmem, ⟨0, _⟩ => ⟨S2x64x64, .bf16⟩
  | .local _ .vmem, ⟨1, _⟩ => ⟨S2x64x64, .bf16⟩
  | .local _ .vmem, ⟨2, _⟩ => ⟨S2x4608x64, .bf16⟩
  | .local _ .vmem, ⟨3, _⟩ => ⟨S2x4608x64, .bf16⟩
  | .local _ .vmem, ⟨4, _⟩ => ⟨S2x4608x64, .bf16⟩
  | .local _ .vmem, ⟨5, _⟩ => ⟨S2x4608x64, .bf16⟩
  | .local _ .vmem, ⟨6, _⟩ => ⟨S2x64x576, .f32⟩
  | .local _ .vmem, ⟨7, _⟩ => ⟨S2x64x576, .f32⟩
  | .local _ .vmem, ⟨8, _⟩ => ⟨S2x64x64, .bf16⟩
  | .local _ .vmem, ⟨9, _⟩ => ⟨S2x64x64, .bf16⟩
  | .local _ .vmem, ⟨10, _⟩ => ⟨S2x64x64, .f32⟩
  | .local _ .vmem, ⟨11, _⟩ => ⟨S2x64x64, .f32⟩
  | .local _ .vmem, ⟨12, _⟩ => ⟨S2x4608x64, .f32⟩
  | .local _ .vmem, ⟨13, _⟩ => ⟨S2x4608x64, .f32⟩
  | .local _ .vmem, ⟨14, _⟩ => ⟨S2x4608x64, .f32⟩
  | .local _ .vmem, ⟨15, _⟩ => ⟨S2x4608x64, .f32⟩
  | .local _ .vmem, ⟨16, _⟩ => ⟨S2x64x576, .f32⟩
  | .local _ .vmem, ⟨17, _⟩ => ⟨S2x64x576, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 64], ![false, false]⟩

def k0_mult1 (i : grid0.Coords) : BitVec 32 :=
  let arg1 : BitVec 32 := BitVec.ofNat 32 (i 1).val
  let c64_i32 : BitVec 32 := 64#32
  let v3 : BitVec 32 := Scalar.muli arg1 c64_i32
  v3
def k0_off1 (i : grid0.Coords) : Fin 3 → Nat :=
  let c0_3 : Index := 0#32
  let arg1 : BitVec 32 := BitVec.ofNat 32 (i 1).val
  let c64_i32 : BitVec 32 := 64#32
  let v3 : BitVec 32 := Scalar.muli arg1 c64_i32
  let v4 : BitVec 32 := v3
  let v7 : Index := Scalar.indexCast v4
  let c0_4 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4608x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x4608x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x4608x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x4608x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x64x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S16x64x576 : Shape := ⟨3, ![16, 64, 576]⟩
abbrev S4096x16x64 : Shape := ⟨3, ![4096, 16, 64]⟩
abbrev S_ : Shape := ⟨0, ![]⟩
abbrev S4608x16x64 : Shape := ⟨3, ![4608, 16, 64]⟩
abbrev S64x64x16x64 : Shape := ⟨4, ![64, 64, 16, 64]⟩
abbrev S72x64x16x64 : Shape := ⟨4, ![72, 64, 16, 64]⟩
abbrev S64x576x16x64 : Shape := ⟨4, ![64, 576, 16, 64]⟩
abbrev S64x16x64x576 : Shape := ⟨4, ![64, 16, 64, 576]⟩
abbrev S1x16x64x576 : Shape := ⟨4, ![1, 16, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x1x1x576 : Shape := ⟨4, ![64, 1, 1, 576]⟩
abbrev S64x16x64 : Shape := ⟨3, ![64, 16, 64]⟩
abbrev S64x16x64x1 : Shape := ⟨4, ![64, 16, 64, 1]⟩
abbrev S64x16x64x64 : Shape := ⟨4, ![64, 16, 64, 64]⟩
abbrev S64x16x576x64 : Shape := ⟨4, ![64, 16, 576, 64]⟩
abbrev S16x4096x64 : Shape := ⟨3, ![16, 4096, 64]⟩
abbrev S16x4608x64 : Shape := ⟨3, ![16, 4608, 64]⟩

abbrev nBuf : Space → Nat
  | .hbm => 208
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S16x64x576, .f32⟩
  | 4 => ⟨S4096x1024, .f32⟩
  | 5 => ⟨S4096x16x64, .f32⟩
  | 6 => ⟨S4096x16x64, .f32⟩
  | 7 => ⟨S4096x16x64, .f32⟩
  | 8 => ⟨S4096x16x64, .f32⟩
  | 9 => ⟨S_, .f32⟩
  | 10 => ⟨S4608x16x64, .f32⟩
  | 11 => ⟨S_, .f32⟩
  | 12 => ⟨S4608x16x64, .f32⟩
  | 13 => ⟨S64x64x16x64, .f32⟩
  | 14 => ⟨S72x64x16x64, .f32⟩
  | 15 => ⟨S64x64x16x64, .f32⟩
  | 16 => ⟨S64x64x16x64, .f32⟩
  | 17 => ⟨S64x64x16x64, .f32⟩
  | 18 => ⟨S64x64x16x64, .f32⟩
  | 19 => ⟨S64x64x16x64, .f32⟩
  | 20 => ⟨S64x64x16x64, .f32⟩
  | 21 => ⟨S64x64x16x64, .f32⟩
  | 22 => ⟨S64x64x16x64, .f32⟩
  | 23 => ⟨S64x64x16x64, .f32⟩
  | 24 => ⟨S64x576x16x64, .f32⟩
  | 25 => ⟨S64x16x64x576, .f32⟩
  | 26 => ⟨S1x16x64x576, .f32⟩
  | 27 => ⟨S64x16x64x576, .f32⟩
  | 28 => ⟨S64x16x64x576, .f32⟩
  | 29 => ⟨S64, .i32⟩
  | 30 => ⟨S64x1, .i32⟩
  | 31 => ⟨S_, .i32⟩
  | 32 => ⟨S64x1, .i32⟩
  | 33 => ⟨S64x1, .i32⟩
  | 34 => ⟨S576, .i32⟩
  | 35 => ⟨S1x576, .i32⟩
  | 36 => ⟨S64x576, .i32⟩
  | 37 => ⟨S64x576, .i32⟩
  | 38 => ⟨S64x576, .i32⟩
  | 39 => ⟨S_, .i32⟩
  | 40 => ⟨S64x576, .i32⟩
  | 41 => ⟨S64x576, .i1⟩
  | 42 => ⟨S64x1x1x576, .i1⟩
  | 43 => ⟨S64x16x64x576, .i1⟩
  | 44 => ⟨S_, .f32⟩
  | 45 => ⟨S64x16x64x576, .f32⟩
  | 46 => ⟨S64x16x64x576, .f32⟩
  | 47 => ⟨S_, .f32⟩
  | 48 => ⟨S64x16x64x576, .f32⟩
  | 49 => ⟨S_, .f32⟩
  | 50 => ⟨S64x16x64, .f32⟩
  | 51 => ⟨S64x16x64x1, .f32⟩
  | 52 => ⟨S64x16x64x576, .f32⟩
  | 53 => ⟨S64x16x64x576, .i1⟩
  | 54 => ⟨S64x16x64x576, .f32⟩
  | 55 => ⟨S_, .f32⟩
  | 56 => ⟨S64x16x64, .f32⟩
  | 57 => ⟨S_, .f32⟩
  | 58 => ⟨S64x16x64, .f32⟩
  | 59 => ⟨S64x16x64, .f32⟩
  | 60 => ⟨S_, .f32⟩
  | 61 => ⟨S64x16x64, .f32⟩
  | 62 => ⟨S64x16x64, .i1⟩
  | 63 => ⟨S_, .f32⟩
  | 64 => ⟨S64x16x64, .f32⟩
  | 65 => ⟨S64x16x64, .i1⟩
  | 66 => ⟨S_, .f32⟩
  | 67 => ⟨S64x16x64, .f32⟩
  | 68 => ⟨S_, .f32⟩
  | 69 => ⟨S64x16x64, .f32⟩
  | 70 => ⟨S_, .f32⟩
  | 71 => ⟨S64x16x64, .f32⟩
  | 72 => ⟨S64x16x64, .f32⟩
  | 73 => ⟨S64x16x64, .f32⟩
  | 74 => ⟨S64x16x64x1, .f32⟩
  | 75 => ⟨S64x16x64x576, .f32⟩
  | 76 => ⟨S64x16x64x576, .f32⟩
  | 77 => ⟨S64x16x64x576, .f32⟩
  | 78 => ⟨S_, .f32⟩
  | 79 => ⟨S64x16x64, .f32⟩
  | 80 => ⟨S64x16x64x1, .f32⟩
  | 81 => ⟨S64x16x64x576, .f32⟩
  | 82 => ⟨S64x16x64x576, .f32⟩
  | 83 => ⟨S64x16x64x1, .f32⟩
  | 84 => ⟨S_, .f32⟩
  | 85 => ⟨S64x16x64x1, .f32⟩
  | 86 => ⟨S64x16x64x1, .f32⟩
  | 87 => ⟨S72x64x16x64, .f32⟩
  | 88 => ⟨S64x64x16x64, .f32⟩
  | 89 => ⟨S64x64x16x64, .f32⟩
  | 90 => ⟨S64x64x16x64, .f32⟩
  | 91 => ⟨S64x64x16x64, .f32⟩
  | 92 => ⟨S64x64x16x64, .f32⟩
  | 93 => ⟨S64x64x16x64, .f32⟩
  | 94 => ⟨S64x64x16x64, .f32⟩
  | 95 => ⟨S64x64x16x64, .f32⟩
  | 96 => ⟨S64x64x16x64, .f32⟩
  | 97 => ⟨S64x576x16x64, .f32⟩
  | 98 => ⟨S64x16x64x64, .f32⟩
  | 99 => ⟨S64x64x16x64, .f32⟩
  | 100 => ⟨S4096x16x64, .f32⟩
  | 101 => ⟨S64x64x16x64, .f32⟩
  | 102 => ⟨S64x16x64x64, .f32⟩
  | 103 => ⟨S64x16x64x576, .f32⟩
  | 104 => ⟨S64x16x64x576, .f32⟩
  | 105 => ⟨S64x576x16x64, .f32⟩
  | 106 => ⟨S64x64x16x64, .f32⟩
  | 107 => ⟨S64x64x16x64, .f32⟩
  | 108 => ⟨S64x64x16x64, .f32⟩
  | 109 => ⟨S64x64x16x64, .f32⟩
  | 110 => ⟨S64x64x16x64, .f32⟩
  | 111 => ⟨S64x64x16x64, .f32⟩
  | 112 => ⟨S64x64x16x64, .f32⟩
  | 113 => ⟨S64x64x16x64, .f32⟩
  | 114 => ⟨S64x64x16x64, .f32⟩
  | 115 => ⟨S_, .f32⟩
  | 116 => ⟨S72x64x16x64, .f32⟩
  | 117 => ⟨S_, .f32⟩
  | 118 => ⟨S72x64x16x64, .f32⟩
  | 119 => ⟨S72x64x16x64, .f32⟩
  | 120 => ⟨S_, .f32⟩
  | 121 => ⟨S72x64x16x64, .f32⟩
  | 122 => ⟨S72x64x16x64, .f32⟩
  | 123 => ⟨S_, .f32⟩
  | 124 => ⟨S72x64x16x64, .f32⟩
  | 125 => ⟨S72x64x16x64, .f32⟩
  | 126 => ⟨S_, .f32⟩
  | 127 => ⟨S72x64x16x64, .f32⟩
  | _ => ⟨S4096x1024, .f32⟩

abbrev hbmTy0_1 (i : Nat) : BufTy := match i % 128 with
  | 0 => ⟨S72x64x16x64, .f32⟩
  | 1 => ⟨S_, .f32⟩
  | 2 => ⟨S72x64x16x64, .f32⟩
  | 3 => ⟨S72x64x16x64, .f32⟩
  | 4 => ⟨S_, .f32⟩
  | 5 => ⟨S72x64x16x64, .f32⟩
  | 6 => ⟨S72x64x16x64, .f32⟩
  | 7 => ⟨S_, .f32⟩
  | 8 => ⟨S72x64x16x64, .f32⟩
  | 9 => ⟨S72x64x16x64, .f32⟩
  | 10 => ⟨S_, .f32⟩
  | 11 => ⟨S72x64x16x64, .f32⟩
  | 12 => ⟨S72x64x16x64, .f32⟩
  | 13 => ⟨S4608x16x64, .f32⟩
  | 14 => ⟨S64x16x64x576, .f32⟩
  | 15 => ⟨S64x16x64x576, .f32⟩
  | 16 => ⟨S64x16x64x576, .f32⟩
  | 17 => ⟨S_, .f32⟩
  | 18 => ⟨S64x16x64, .f32⟩
  | 19 => ⟨S64x16x64x1, .f32⟩
  | 20 => ⟨S64x16x64x1, .f32⟩
  | 21 => ⟨S64x16x64x576, .f32⟩
  | 22 => ⟨S64x16x64x576, .f32⟩
  | 23 => ⟨S_, .f32⟩
  | 24 => ⟨S64x16x64, .f32⟩
  | 25 => ⟨S64x16x64x576, .f32⟩
  | 26 => ⟨S64x16x64x576, .f32⟩
  | 27 => ⟨S64x16x64x576, .f32⟩
  | 28 => ⟨S_, .f32⟩
  | 29 => ⟨S64x16x64x576, .f32⟩
  | 30 => ⟨S64x16x64x576, .f32⟩
  | 31 => ⟨S_, .f32⟩
  | 32 => ⟨S16x64x576, .f32⟩
  | 33 => ⟨S1x16x64x576, .f32⟩
  | 34 => ⟨S_, .f32⟩
  | 35 => ⟨S16x64x576, .f32⟩
  | 36 => ⟨S64x16x576x64, .f32⟩
  | 37 => ⟨S64x576x16x64, .f32⟩
  | 38 => ⟨S64x16x64x64, .f32⟩
  | 39 => ⟨S64x64x16x64, .f32⟩
  | 40 => ⟨S64x64x16x64, .f32⟩
  | 41 => ⟨S64x64x16x64, .f32⟩
  | 42 => ⟨S64x64x16x64, .f32⟩
  | 43 => ⟨S64x64x16x64, .f32⟩
  | 44 => ⟨S64x64x16x64, .f32⟩
  | 45 => ⟨S64x64x16x64, .f32⟩
  | 46 => ⟨S64x64x16x64, .f32⟩
  | 47 => ⟨S64x64x16x64, .f32⟩
  | 48 => ⟨S64x64x16x64, .f32⟩
  | 49 => ⟨S_, .f32⟩
  | 50 => ⟨S72x64x16x64, .f32⟩
  | 51 => ⟨S_, .f32⟩
  | 52 => ⟨S72x64x16x64, .f32⟩
  | 53 => ⟨S72x64x16x64, .f32⟩
  | 54 => ⟨S_, .f32⟩
  | 55 => ⟨S72x64x16x64, .f32⟩
  | 56 => ⟨S72x64x16x64, .f32⟩
  | 57 => ⟨S_, .f32⟩
  | 58 => ⟨S72x64x16x64, .f32⟩
  | 59 => ⟨S72x64x16x64, .f32⟩
  | 60 => ⟨S_, .f32⟩
  | 61 => ⟨S72x64x16x64, .f32⟩
  | 62 => ⟨S72x64x16x64, .f32⟩
  | 63 => ⟨S_, .f32⟩
  | 64 => ⟨S72x64x16x64, .f32⟩
  | 65 => ⟨S72x64x16x64, .f32⟩
  | 66 => ⟨S_, .f32⟩
  | 67 => ⟨S72x64x16x64, .f32⟩
  | 68 => ⟨S72x64x16x64, .f32⟩
  | 69 => ⟨S_, .f32⟩
  | 70 => ⟨S72x64x16x64, .f32⟩
  | 71 => ⟨S72x64x16x64, .f32⟩
  | 72 => ⟨S_, .f32⟩
  | 73 => ⟨S72x64x16x64, .f32⟩
  | 74 => ⟨S72x64x16x64, .f32⟩
  | 75 => ⟨S4608x16x64, .f32⟩
  | 76 => ⟨S4096x16x64, .f32⟩
  | 77 => ⟨S16x4096x64, .f32⟩
  | 78 => ⟨S16x4608x64, .f32⟩
  | 79 => ⟨S16x4608x64, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_14 : Ref sig .tc := ⟨.hbm, 115, rfl⟩
abbrev main_v94 : Ref sig .tc := ⟨.hbm, 116, rfl⟩
abbrev main_cst_15 : Ref sig .tc := ⟨.hbm, 117, rfl⟩
abbrev main_v95 : Ref sig .tc := ⟨.hbm, 118, rfl⟩
abbrev main_v96 : Ref sig .tc := ⟨.hbm, 119, rfl⟩
abbrev main_cst_16 : Ref sig .tc := ⟨.hbm, 120, rfl⟩
abbrev main_v97 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_v100 : Ref sig .tc := ⟨.hbm, 125, rfl⟩
abbrev main_cst_18 : Ref sig .tc := ⟨.hbm, 126, rfl⟩
abbrev main_v101 : Ref sig .tc := ⟨.hbm, 127, rfl⟩
abbrev main_v102 : Ref sig .tc := ⟨.hbm, 128, rfl⟩
abbrev main_cst_19 : Ref sig .tc := ⟨.hbm, 129, rfl⟩
abbrev main_v103 : Ref sig .tc := ⟨.hbm, 130, rfl⟩
abbrev main_v104 : Ref sig .tc := ⟨.hbm, 131, rfl⟩
abbrev main_cst_20 : Ref sig .tc := ⟨.hbm, 132, rfl⟩
abbrev main_v105 : Ref sig .tc := ⟨.hbm, 133, rfl⟩
abbrev main_v106 : Ref sig .tc := ⟨.hbm, 134, rfl⟩
abbrev main_cst_21 : Ref sig .tc := ⟨.hbm, 135, rfl⟩
abbrev main_v107 : Ref sig .tc := ⟨.hbm, 136, rfl⟩
abbrev main_v108 : Ref sig .tc := ⟨.hbm, 137, rfl⟩
abbrev main_cst_22 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_23 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_24 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_25 : Ref sig .tc := ⟨.hbm, 156, rfl⟩
abbrev main_v124 : Ref sig .tc := ⟨.hbm, 157, rfl⟩
abbrev main_v125 : Ref sig .tc := ⟨.hbm, 158, rfl⟩
abbrev main_cst_26 : Ref sig .tc := ⟨.hbm, 159, rfl⟩
abbrev main_v126 : Ref sig .tc := ⟨.hbm, 160, rfl⟩
abbrev main_v127 : Ref sig .tc := ⟨.hbm, 161, rfl⟩
abbrev main_cst_27 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_28 : Ref sig .tc := ⟨.hbm, 177, rfl⟩
abbrev main_v142 : Ref sig .tc := ⟨.hbm, 178, rfl⟩
abbrev main_cst_29 : Ref sig .tc := ⟨.hbm, 179, rfl⟩
abbrev main_v143 : Ref sig .tc := ⟨.hbm, 180, rfl⟩
abbrev main_v144 : Ref sig .tc := ⟨.hbm, 181, rfl⟩
abbrev main_cst_30 : Ref sig .tc := ⟨.hbm, 182, rfl⟩
abbrev main_v145 : Ref sig .tc := ⟨.hbm, 183, rfl⟩
abbrev main_v146 : Ref sig .tc := ⟨.hbm, 184, rfl⟩
abbrev main_cst_31 : Ref sig .tc := ⟨.hbm, 185, rfl⟩
abbrev main_v147 : Ref sig .tc := ⟨.hbm, 186, rfl⟩
abbrev main_v148 : Ref sig .tc := ⟨.hbm, 187, rfl⟩
abbrev main_cst_32 : Ref sig .tc := ⟨.hbm, 188, rfl⟩
abbrev main_v149 : Ref sig .tc := ⟨.hbm, 189, rfl⟩
abbrev main_v150 : Ref sig .tc := ⟨.hbm, 190, rfl⟩
abbrev main_cst_33 : Ref sig .tc := ⟨.hbm, 191, rfl⟩
abbrev main_v151 : Ref sig .tc := ⟨.hbm, 192, rfl⟩
abbrev main_v152 : Ref sig .tc := ⟨.hbm, 193, rfl⟩
abbrev main_cst_34 : Ref sig .tc := ⟨.hbm, 194, rfl⟩
abbrev main_v153 : Ref sig .tc := ⟨.hbm, 195, rfl⟩
abbrev main_v154 : Ref sig .tc := ⟨.hbm, 196, rfl⟩
abbrev main_cst_35 : Ref sig .tc := ⟨.hbm, 197, rfl⟩
abbrev main_v155 : Ref sig .tc := ⟨.hbm, 198, rfl⟩
abbrev main_v156 : Ref sig .tc := ⟨.hbm, 199, rfl⟩
abbrev main_cst_36 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩

abbrev nD : Nat := 1
abbrev τ : Topo := Topo.v7x

variable {F : FTy → Type} [FloatOps F]
-- ==== Gate.lean ====
abbrev S4096x2048 : Shape := ⟨2, ![4096, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x2048, .bf16⟩
  | .hbm, ⟨3, _⟩ => ⟨S2048x4x1408, .f32⟩
  | .hbm, ⟨4, _⟩ => ⟨S4x2048x1408, .f32⟩
  | .hbm, ⟨5, _⟩ => ⟨S4x2048x1408, .bf16⟩
  | .hbm, ⟨6, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .bf16⟩
  | .local _ .vmem, ⟨5, _⟩ => ⟨S512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S4096x5632, .f32⟩
  | .hbm, ⟨3, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Up.lean ====
abbrev S4096x2048 : Shape := ⟨2, ![4096, 2048]⟩
abbrev S2048x5632 : Shape := ⟨2, ![2048, 5632]⟩
abbrev S4096x5632 : Shape := ⟨2, ![4096, 5632]⟩
abbrev S2048x4x1408 : Shape := ⟨3, ![2048, 4, 1408]⟩
abbrev S4x2048x1408 : Shape := ⟨3, ![4, 2048, 1408]⟩
abbrev S256x2048 : Shape := ⟨2, ![256, 2048]⟩
abbrev S1x2048x1408 : Shape := ⟨3, ![1, 2048, 1408]⟩
abbrev S256x1408 : Shape := ⟨2, ![256, 1408]⟩
abbrev S2048x1408 : Shape := ⟨2, ![2048, 1408]⟩

abbrev nBuf : Space → Nat
  | .hbm => 11
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x5632, .bf16⟩
  | .hbm, ⟨5, _⟩ => ⟨S4096x2048, .bf16⟩
  | .hbm, ⟨6, _⟩ => ⟨S2048x4x1408, .f32⟩
  | .hbm, ⟨7, _⟩ => ⟨S4x2048x1408, .f32⟩
  | .hbm, ⟨8, _⟩ => ⟨S4x2048x1408, .bf16⟩
  | .hbm, ⟨9, _⟩ => ⟨S4096x5632, .bf16⟩
  | .hbm, ⟨10, _⟩ => ⟨S4096x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpRefIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x5632, .bf16⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Du.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S256x2048 : Shape := ⟨2, ![256, 2048]⟩
abbrev S1408x2048 : Shape := ⟨2, ![1408, 2048]⟩
abbrev S256x1408 : Shape := ⟨2, ![256, 1408]⟩

abbrev nBuf : Space → Nat
  | .hbm => 12
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .bf16⟩
  | .hbm, ⟨7, _⟩ => ⟨S4096x5632, .f32⟩
  | .hbm, ⟨8, _⟩ => ⟨S4096x5632, .bf16⟩
  | .hbm, ⟨9, _⟩ => ⟨S5632x2048, .bf16⟩
  | .hbm, ⟨10, _⟩ => ⟨S4096x5632, .bf16⟩
  | .hbm, ⟨11, _⟩ => ⟨S4096x5632, .bf16⟩
  | .local _ .vmem, ⟨0, _⟩ => ⟨S256x2048, .f32⟩
  | .local _ .vmem, ⟨1, _⟩ => ⟨S256x2048, .f32⟩
  | .local _ .vmem, ⟨2, _⟩ => ⟨S1408x2048, .bf16⟩
  | .local _ .vmem, ⟨3, _⟩ => ⟨S1408x2048, .bf16⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DuRefIdeal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .bf16⟩
  | .hbm, ⟨36, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩

abbrev nD : Nat := 1
abbrev τ : Topo := Topo.v7x

variable {F : FTy → Type} [FloatOps F]
-- ==== Down.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .bf16⟩
  | .hbm, ⟨18, _⟩ => ⟨S5632x2048, .bf16⟩
  | .hbm, ⟨19, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩

abbrev nD : Nat := 1
abbrev τ : Topo := Topo.v7x

variable {F : FTy → Type} [FloatOps F]
-- ==== Dwdown.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 18
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .bf16⟩
  | .hbm, ⟨17, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownRefIdeal.lean ====
abbrev S4096x2048 : Shape := ⟨2, ![4096, 2048]⟩
abbrev S2048x5632 : Shape := ⟨2, ![2048, 5632]⟩
abbrev S_ : Shape := ⟨0, ![]⟩
abbrev S5632x2048 : Shape := ⟨2, ![5632, 2048]⟩
abbrev S4096x5632 : Shape := ⟨2, ![4096, 5632]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S2048x5632, .f32⟩
  | .hbm, ⟨26, _⟩ => ⟨S5632x2048, .f32⟩
  | .hbm, ⟨27, _⟩ => ⟨S5632x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Dwgate.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S4x2048x1408 : Shape := ⟨3, ![4, 2048, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 37
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x2048, .bf16⟩
  | .hbm, ⟨35, _⟩ => ⟨S4096x5632, .bf16⟩
  | .hbm, ⟨36, _⟩ => ⟨S4x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgateRefIdeal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S2048x4x1408 : Shape := ⟨3, ![2048, 4, 1408]⟩
abbrev S4x2048x1408 : Shape := ⟨3, ![4, 2048, 1408]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S5632x2048, .f32⟩
  | .hbm, ⟨35, _⟩ => ⟨S2048x5632, .f32⟩
  | .hbm, ⟨36, _⟩ => ⟨S2048x4x1408, .f32⟩
  | .hbm, ⟨37, _⟩ => ⟨S4x2048x1408, .f32⟩
  | .hbm, ⟨38, _⟩ => ⟨S4x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]
-- ==== Dwup.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S4x2048x1408 : Shape := ⟨3, ![4, 2048, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 29
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x5632, .f32⟩
  | .hbm, ⟨25, _⟩ => ⟨S4096x5632, .f32⟩
  | .hbm, ⟨26, _⟩ => ⟨S4096x2048, .bf16⟩
  | .hbm, ⟨27, _⟩ => ⟨S4096x5632, .bf16⟩
  | .hbm, ⟨28, _⟩ => ⟨S4x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwupRefIdeal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S2048x4x1408 : Shape := ⟨3, ![2048, 4, 1408]⟩
abbrev S4x2048x1408 : Shape := ⟨3, ![4, 2048, 1408]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x5632, .f32⟩
  | .hbm, ⟨25, _⟩ => ⟨S4096x5632, .f32⟩
  | .hbm, ⟨26, _⟩ => ⟨S5632x2048, .f32⟩
  | .hbm, ⟨27, _⟩ => ⟨S2048x5632, .f32⟩
  | .hbm, ⟨28, _⟩ => ⟨S2048x4x1408, .f32⟩
  | .hbm, ⟨29, _⟩ => ⟨S4x2048x1408, .f32⟩
  | .hbm, ⟨30, _⟩ => ⟨S4x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]
-- ==== Dnup.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S2048x4x1408 : Shape := ⟨3, ![2048, 4, 1408]⟩
abbrev S4x2048x1408 : Shape := ⟨3, ![4, 2048, 1408]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 42
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S5632x2048, .f32⟩
  | .hbm, ⟨36, _⟩ => ⟨S4096x2048, .f32⟩
  | .hbm, ⟨37, _⟩ => ⟨S4096x5632, .bf16⟩
  | .hbm, ⟨38, _⟩ => ⟨S2048x4x1408, .f32⟩
  | .hbm, ⟨39, _⟩ => ⟨S4x2048x1408, .f32⟩
  | .hbm, ⟨40, _⟩ => ⟨S4x2048x1408, .bf16⟩
  | .hbm, ⟨41, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DnupRefIdeal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2048, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x2048, .f32⟩
  | .hbm, ⟨37, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩

abbrev nD : Nat := 1
abbrev τ : Topo := Topo.v7x

variable {F : FTy → Type} [FloatOps F]
-- ==== Dngate.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S2048x4x1408 : Shape := ⟨3, ![2048, 4, 1408]⟩
abbrev S4x2048x1408 : Shape := ⟨3, ![4, 2048, 1408]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 39
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .bf16⟩
  | .hbm, ⟨35, _⟩ => ⟨S2048x4x1408, .f32⟩
  | .hbm, ⟨36, _⟩ => ⟨S4x2048x1408, .f32⟩
  | .hbm, ⟨37, _⟩ => ⟨S4x2048x1408, .bf16⟩
  | .hbm, ⟨38, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DngateRefIdeal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v11 : Ref sig .tc := ⟨.hbm, 33, rfl⟩
abbrev main_v12 : Ref sig .tc := ⟨.hbm, 34, rfl⟩

abbrev nD : Nat := 1
abbrev τ : Topo := Topo.v7x

variable {F : FTy → Type} [FloatOps F]
-- ==== Dscan.lean ====
abbrev S4096x32x128 : Shape := ⟨3, ![4096, 32, 128]⟩
abbrev S32x128 : Shape := ⟨2, ![32, 128]⟩
abbrev S256x32x128 : Shape := ⟨3, ![256, 32, 128]⟩
abbrev S1x32x128 : Shape := ⟨3, ![1, 32, 128]⟩

abbrev nBuf : Space → Nat
  | .hbm => 10
  | .vmem => 18
  | .smem => 0
  | _ => 0

abbrev bufTy : (tb : Table) → Fin (tcTables nBuf tb) → BufTy
  | .hbm, ⟨0, _⟩ => ⟨S4096x32x128, .f32⟩
  | .hbm, ⟨1, _⟩ => ⟨S4096x32x128, .f32⟩
  | .hbm, ⟨2, _⟩ => ⟨S32x128, .f32⟩
  | .hbm, ⟨3, _⟩ => ⟨S32x128, .f32⟩
  | .hbm, ⟨4, _⟩ => ⟨S4096x32x128, .f32⟩
  | .hbm, ⟨5, _⟩ => ⟨S4096x32x128, .f32⟩
  | .hbm, ⟨6, _⟩ => ⟨S4096x32x128, .f32⟩
  | .hbm, ⟨7, _⟩ => ⟨S4096x32x128, .f32⟩
  | .hbm, ⟨8, _⟩ => ⟨S32x128, .f32⟩
  | .hbm, ⟨9, _⟩ => ⟨S32x128, .f32⟩
  | .local _ .vmem, ⟨0, _⟩ => ⟨S256x32x128, .f32⟩
  | .local _ .vmem, ⟨1, _⟩ => ⟨S256x32x128, .f32⟩
  | .local _ .vmem, ⟨2, _⟩ => ⟨S256x32x128, .f32⟩
  | .local _ .vmem, ⟨3, _⟩ => ⟨S256x32x128, .f32⟩
  | .local _ .vmem, ⟨4, _⟩ => ⟨S256x32x128, .f32⟩
  | .local _ .vmem, ⟨5, _⟩ => ⟨S256x32x128, .f32⟩
  | .local _ .vmem, ⟨6, _⟩ => ⟨S256x32x128, .f32⟩
  | .local _ .vmem, ⟨7, _⟩ => ⟨S256x32x128, .f32⟩
  | .local _ .vmem, ⟨8, _⟩ => ⟨S32x128, .f32⟩
  | .local _ .vmem, ⟨9, _⟩ => ⟨S32x128, .f32⟩
  | .local _ .vmem, ⟨10, _⟩ => ⟨S256x32x128, .f32⟩
  | .local _ .vmem, ⟨11, _⟩ => ⟨S256x32x128, .f32⟩
  | .local _ .vmem, ⟨12, _⟩ => ⟨S256x32x128, .f32⟩
  | .local _ .vmem, ⟨13, _⟩ => ⟨S256x32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | _, _ => ⟨S4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_12 : BitVec 32 := 0#32
  let c256_i32 : BitVec 32 := 256#32
  let v11 : BitVec 32 := Scalar.addi c0_i32_12 c256_i32
  let c1_i32 : BitVec 32 := 1#32
  ⟨c0_i32_12, v11, c1_i32⟩
def k0_off1 (k0_t1 : Fin k0_t1_loop.trips) : Fin 3 → Nat :=
  let c255_i32 : BitVec 32 := 255#32
  let c0_i32_12 : BitVec 32 := 0#32
  let c1_i32 : BitVec 32 := 1#32
  let arg13 : BitVec 32 := Scf.iv c0_i32_12 c1_i32 k0_t1
  let v21 : BitVec 32 := Scalar.subi c255_i32 arg13
  let v22 : Index := Scalar.indexCast v21
  let c0_22 : Index := 0#32
  let c0_23 : Index := 0#32
  ![v22.toNat, 0, 0]
def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DscanRefIdeal.lean ====
abbrev S4096x32x128 : Shape := ⟨3, ![4096, 32, 128]⟩
abbrev S32x128 : Shape := ⟨2, ![32, 128]⟩
abbrev S_ : Shape := ⟨0, ![]⟩
abbrev S1x32x128 : Shape := ⟨3, ![1, 32, 128]⟩

abbrev nBuf : Space → Nat
  | .hbm => 100
  | .vmem => 0
  | .smem => 0
  | _ => 0

abbrev bufTy : (tb : Table) → Fin (tcTables nBuf tb) → BufTy
  | .hbm, ⟨0, _⟩ => ⟨S4096x32x128, .f32⟩
  | .hbm, ⟨1, _⟩ => ⟨S4096x32x128, .f32⟩
  | .hbm, ⟨2, _⟩ => ⟨S32x128, .f32⟩
  | .hbm, ⟨3, _⟩ => ⟨S32x128, .f32⟩
  | .hbm, ⟨4, _⟩ => ⟨S4096x32x128, .f32⟩
  | .hbm, ⟨5, _⟩ => ⟨S4096x32x128, .f32⟩
  | .hbm, ⟨6, _⟩ => ⟨S_, .f32⟩
  | .hbm, ⟨7, _⟩ => ⟨S32x128, .f32⟩
  | .hbm, ⟨8, _⟩ => ⟨S_, .f32⟩
  | .hbm, ⟨9, _⟩ => ⟨S32x128, .f32⟩
  | .hbm, ⟨10, _⟩ => ⟨S_, .f32⟩
  | .hbm, ⟨11, _⟩ => ⟨S32x128, .f32⟩
  | .hbm, ⟨12, _⟩ => ⟨S_, .f32⟩
  | .hbm, ⟨13, _⟩ => ⟨S4096x32x128, .f32⟩
  | .hbm, ⟨14, _⟩ => ⟨S_, .f32⟩
  | .hbm, ⟨15, _⟩ => ⟨S4096x32x128, .f32⟩
  | .hbm, ⟨16, _⟩ => ⟨S_, .i32⟩
  | .hbm, ⟨17, _⟩ => ⟨S4096x32x128, .f32⟩
  | .hbm, ⟨18, _⟩ => ⟨S4096x32x128, .f32⟩
  | .hbm, ⟨19, _⟩ => ⟨S32x128, .f32⟩
  | .hbm, ⟨20, _⟩ => ⟨S32x128, .f32⟩
  | .hbm, ⟨21, _⟩ => ⟨S_, .i32⟩
  | .hbm, ⟨22, _⟩ => ⟨S32x128, .f32⟩
  | .hbm, ⟨23, _⟩ => ⟨S32x128, .f32⟩
  | .hbm, ⟨24, _⟩ => ⟨S4096x32x128, .f32⟩
  | .hbm, ⟨25, _⟩ => ⟨S4096x32x128, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x32x128, .f32⟩
  | .hbm, ⟨35, _⟩ => ⟨S32x128, .f32⟩
  | .hbm, ⟨36, _⟩ => ⟨S_, .i32⟩
  | .hbm, ⟨37, _⟩ => ⟨S_, .i32⟩
  | .hbm, ⟨38, _⟩ => ⟨S1x32x128, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S32x128, .f32⟩
  | .hbm, ⟨43, _⟩ => ⟨S32x128, .f32⟩
  | .hbm, ⟨44, _⟩ => ⟨S32x128, .f32⟩
  | .hbm, ⟨45, _⟩ => ⟨S32x128, .f32⟩
  | .hbm, ⟨46, _⟩ => ⟨S32x128, .f32⟩
  | .hbm, ⟨47, _⟩ => ⟨S32x128, .f32⟩
  | .hbm, ⟨48, _⟩ => ⟨S32x128, .f32⟩
  | .hbm, ⟨49, _⟩ => ⟨S1x32x128, .f32⟩
  | .hbm, ⟨50, _⟩ => ⟨S_, .i32⟩
  | .hbm, ⟨51, _⟩ => ⟨S_, .i32⟩
  | .hbm, ⟨52, _⟩ => ⟨S4096x32x128, .f32⟩
  | .hbm, ⟨53, _⟩ => ⟨S1x32x128, .f32⟩
  | .hbm, ⟨54, _⟩ => ⟨S_, .i32⟩
  | .hbm, ⟨55, _⟩ => ⟨S_, .i32⟩
  | .hbm, ⟨56, _⟩ => ⟨S4096x32x128, .f32⟩
  | .hbm, ⟨57, _⟩ => ⟨S_, .i32⟩
  | .hbm, ⟨58, _⟩ => ⟨S_, .i32⟩
  | .hbm, ⟨59, _⟩ => ⟨S1x32x128, .f32⟩
  | .hbm, ⟨60, _⟩ => ⟨S4096x32x128, .f32⟩
  | .hbm, ⟨61, _⟩ => ⟨S4096x32x128, .f32⟩
  | .hbm, ⟨62, _⟩ => ⟨S1x32x128, .f32⟩
  | .hbm, ⟨63, _⟩ => ⟨S4096x32x128, .f32⟩
  | .hbm, ⟨64, _⟩ => ⟨S4096x32x128, .f32⟩
  | .hbm, ⟨65, _⟩ => ⟨S4096x32x128, .f32⟩
  | .hbm, ⟨66, _⟩ => ⟨S1x32x128, .f32⟩
  | .hbm, ⟨67, _⟩ => ⟨S4096x32x128, .f32⟩
  | .hbm, ⟨68, _⟩ => ⟨S4096x32x128, .f32⟩
  | .hbm, ⟨69, _⟩ => ⟨S1x32x128, .f32⟩
  | .hbm, ⟨70, _⟩ => ⟨S4096x32x128, .f32⟩
  | .hbm, ⟨71, _⟩ => ⟨S4096x32x128, .f32⟩
  | .hbm, ⟨72, _⟩ => ⟨S4096x32x128, .f32⟩
  | .hbm, ⟨73, _⟩ => ⟨S4096x32x128, .f32⟩
  | .hbm, ⟨74, _⟩ => ⟨S_, .f32⟩
  | .hbm, ⟨75, _⟩ => ⟨S32x128, .f32⟩
  | .hbm, ⟨76, _⟩ => ⟨S1x32x128, .f32⟩
  | .hbm, ⟨77, _⟩ => ⟨S_, .f32⟩
  | .hbm, ⟨78, _⟩ => ⟨S32x128, .f32⟩
  | .hbm, ⟨79, _⟩ => ⟨S4096x32x128, .f32⟩
  | .hbm, ⟨80, _⟩ => ⟨S_, .f32⟩
  | .hbm, ⟨81, _⟩ => ⟨S32x128, .f32⟩
  | .hbm, ⟨82, _⟩ => ⟨S1x32x128, .f32⟩
  | .hbm, ⟨83, _⟩ => ⟨S_, .f32⟩
  | .hbm, ⟨84, _⟩ => ⟨S32x128, .f32⟩
  | .hbm, ⟨85, _⟩ => ⟨S4096x32x128, .f32⟩
  | .hbm, ⟨86, _⟩ => ⟨S4096x32x128, .f32⟩
  | .hbm, ⟨87, _⟩ => ⟨S_, .f32⟩
  | .hbm, ⟨88, _⟩ => ⟨S32x128, .f32⟩
  | .hbm, ⟨89, _⟩ => ⟨S1x32x128, .f32⟩
  | .hbm, ⟨90, _⟩ => ⟨S_, .f32⟩
  | .hbm, ⟨91, _⟩ => ⟨S32x128, .f32⟩
  | .hbm, ⟨92, _⟩ => ⟨S32x128, .f32⟩
  | .hbm, ⟨93, _⟩ => ⟨S4096x32x128, .f32⟩
  | .hbm, ⟨94, _⟩ => ⟨S_, .f32⟩
  | .hbm, ⟨95, _⟩ => ⟨S32x128, .f32⟩
  | .hbm, ⟨96, _⟩ => ⟨S1x32x128, .f32⟩
  | .hbm, ⟨97, _⟩ => ⟨S_, .f32⟩
  | .hbm, ⟨98, _⟩ => ⟨S32x128, .f32⟩
  | .hbm, ⟨99, _⟩ => ⟨S32x128, .f32⟩
  | _, _ => ⟨S4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_c : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev main_v5_8 : Ref sig .tc := ⟨.hbm, 25, rfl⟩
abbrev main_while0c_c_20 : Ref sig .tc := ⟨.hbm, 26, rfl⟩
abbrev main_while0c_v39 : Ref sig .tc := ⟨.hbm, 27, rfl⟩
abbrev main_while0b_c_20 : Ref sig .tc := ⟨.hbm, 28, rfl⟩
abbrev main_while0b_v39 : Ref sig .tc := ⟨.hbm, 29, rfl⟩
abbrev main_while0b_c_21 : Ref sig .tc := ⟨.hbm, 30, rfl⟩
abbrev main_while0b_v40 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v41 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_v0 : Ref sig .tc := ⟨.hbm, 38, rfl⟩
abbrev main_while0b_v42 : Ref sig .tc := ⟨.hbm, 39, rfl⟩
abbrev main_while0b_v43 : Ref sig .tc := ⟨.hbm, 40, rfl⟩
abbrev main_while0b_v44 : Ref sig .tc := ⟨.hbm, 41, rfl⟩
abbrev main_while0b_v45 : Ref sig .tc := ⟨.hbm, 42, rfl⟩
abbrev main_while0b_v46 : Ref sig .tc := ⟨.hbm, 43, rfl⟩
abbrev main_while0b_v47 : Ref sig .tc := ⟨.hbm, 44, rfl⟩
abbrev main_while0b_v48 : Ref sig .tc := ⟨.hbm, 45, rfl⟩
abbrev main_while0b_v49 : Ref sig .tc := ⟨.hbm, 46, rfl⟩
abbrev main_while0b_v50 : Ref sig .tc := ⟨.hbm, 47, rfl⟩
abbrev main_while0b_v51 : Ref sig .tc := ⟨.hbm, 48, rfl⟩
abbrev main_while0b_call2_v0 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_v52 : Ref sig .tc := ⟨.hbm, 52, rfl⟩
abbrev main_while0b_call3_v0 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_v53 : Ref sig .tc := ⟨.hbm, 56, rfl⟩
abbrev main_while0b_c_22 : Ref sig .tc := ⟨.hbm, 57, rfl⟩
abbrev main_while0b_v54 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_cst_4 : Ref sig .tc := ⟨.hbm, 74, rfl⟩
abbrev main_v21 : Ref sig .tc := ⟨.hbm, 75, rfl⟩
abbrev main_v22 : Ref sig .tc := ⟨.hbm, 76, rfl⟩
abbrev main_cst_5 : Ref sig .tc := ⟨.hbm, 77, rfl⟩
abbrev main_v23 : Ref sig .tc := ⟨.hbm, 78, rfl⟩
abbrev main_v24 : Ref sig .tc := ⟨.hbm, 79, rfl⟩
abbrev main_cst_6 : Ref sig .tc := ⟨.hbm, 80, rfl⟩
abbrev main_v25 : Ref sig .tc := ⟨.hbm, 81, rfl⟩
abbrev main_v26 : Ref sig .tc := ⟨.hbm, 82, rfl⟩
abbrev main_cst_7 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_cst_8 : Ref sig .tc := ⟨.hbm, 87, rfl⟩
abbrev main_v30 : Ref sig .tc := ⟨.hbm, 88, rfl⟩
abbrev main_v31 : Ref sig .tc := ⟨.hbm, 89, rfl⟩
abbrev main_cst_9 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_cst_10 : Ref sig .tc := ⟨.hbm, 94, rfl⟩
abbrev main_v35 : Ref sig .tc := ⟨.hbm, 95, rfl⟩
abbrev main_v36 : Ref sig .tc := ⟨.hbm, 96, rfl⟩
abbrev main_cst_11 : Ref sig .tc := ⟨.hbm, 97, rfl⟩
abbrev main_v37 : Ref sig .tc := ⟨.hbm, 98, rfl⟩
abbrev main_v38 : Ref sig .tc := ⟨.hbm, 99, rfl⟩

abbrev nD : Nat := 1
abbrev τ : Topo := Topo.v7x

variable {F : FTy → Type} [FloatOps F]

abbrev main_while0_count : Scf.Loop 32 := ⟨0#32, 4096#32, 1#32⟩
-- ==== Dnorm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DnormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Dshift.lean ====
abbrev S4096x6400 : Shape := ⟨2, ![4096, 6400]⟩
abbrev S1x3328 : Shape := ⟨2, ![1, 3328]⟩
abbrev S4096x3328 : Shape := ⟨2, ![4096, 3328]⟩
abbrev S4096x256 : Shape := ⟨2, ![4096, 256]⟩
abbrev S1x256 : Shape := ⟨2, ![1, 256]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S4096x6400, .f32⟩
  | .hbm, ⟨1, _⟩ => ⟨S1x3328, .f32⟩
  | .hbm, ⟨2, _⟩ => ⟨S4096x3328, .f32⟩
  | .hbm, ⟨3, _⟩ => ⟨S4096x3328, .f32⟩
  | .hbm, ⟨4, _⟩ => ⟨S1x3328, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x256, .f32⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | .local _ .vmem, ⟨8, _⟩ => ⟨S1x256, .f32⟩
  | .local _ .vmem, ⟨9, _⟩ => ⟨S1x256, .f32⟩
  | _, _ => ⟨S4096x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DshiftRefIdeal.lean ====
abbrev S4096x6400 : Shape := ⟨2, ![4096, 6400]⟩
abbrev S1x3328 : Shape := ⟨2, ![1, 3328]⟩
abbrev S4096x3328 : Shape := ⟨2, ![4096, 3328]⟩
abbrev S_ : Shape := ⟨0, ![]⟩
abbrev S4095x3328 : Shape := ⟨2, ![4095, 3328]⟩
abbrev S3328 : Shape := ⟨1, ![3328]⟩

abbrev nBuf : Space → Nat
  | .hbm => 30
  | .vmem => 0
  | .smem => 0
  | _ => 0

abbrev bufTy : (tb : Table) → Fin (tcTables nBuf tb) → BufTy
  | .hbm, ⟨0, _⟩ => ⟨S4096x6400, .f32⟩
  | .hbm, ⟨1, _⟩ => ⟨S1x3328, .f32⟩
  | .hbm, ⟨2, _⟩ => ⟨S4096x3328, .f32⟩
  | .hbm, ⟨3, _⟩ => ⟨S4096x3328, .f32⟩
  | .hbm, ⟨4, _⟩ => ⟨S1x3328, .f32⟩
  | .hbm, ⟨5, _⟩ => ⟨S_, .f32⟩
  | .hbm, ⟨6, _⟩ => ⟨S1x3328, .f32⟩
  | .hbm, ⟨7, _⟩ => ⟨S4095x3328, .f32⟩
  | .hbm, ⟨8, _⟩ => ⟨S4096x3328, .f32⟩
  | .hbm, ⟨9, _⟩ => ⟨S_, .f32⟩
  | .hbm, ⟨10, _⟩ => ⟨S1x3328, .f32⟩
  | .hbm, ⟨11, _⟩ => ⟨S4096x3328, .f32⟩
  | .hbm, ⟨12, _⟩ => ⟨S4096x3328, .f32⟩
  | .hbm, ⟨13, _⟩ => ⟨S4096x3328, .f32⟩
  | .hbm, ⟨14, _⟩ => ⟨S4096x3328, .f32⟩
  | .hbm, ⟨15, _⟩ => ⟨S4096x3328, .f32⟩
  | .hbm, ⟨16, _⟩ => ⟨S4096x3328, .f32⟩
  | .hbm, ⟨17, _⟩ => ⟨S4096x3328, .f32⟩
  | .hbm, ⟨18, _⟩ => ⟨S_, .f32⟩
  | .hbm, ⟨19, _⟩ => ⟨S3328, .f32⟩
  | .hbm, ⟨20, _⟩ => ⟨S1x3328, .f32⟩
  | .hbm, ⟨21, _⟩ => ⟨S4096x3328, .f32⟩
  | .hbm, ⟨22, _⟩ => ⟨S4096x3328, .f32⟩
  | .hbm, ⟨23, _⟩ => ⟨S4096x3328, .f32⟩
  | .hbm, ⟨24, _⟩ => ⟨S4096x3328, .f32⟩
  | .hbm, ⟨25, _⟩ => ⟨S1x3328, .f32⟩
  | .hbm, ⟨26, _⟩ => ⟨S4095x3328, .f32⟩
  | .hbm, ⟨27, _⟩ => ⟨S_, .f32⟩
  | .hbm, ⟨28, _⟩ => ⟨S4096x3328, .f32⟩
  | .hbm, ⟨29, _⟩ => ⟨S4096x3328, .f32⟩
  | _, _ => ⟨S4096x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Loss.lean ====
abbrev S4096x2048 : Shape := ⟨2, ![4096, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x2048 : Shape := ⟨2, ![4096, 2048]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Adam.lean ====
abbrev S3072x128 : Shape := ⟨2, ![3072, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S3072x128, .f32⟩
  | .hbm, ⟨5, _⟩ => ⟨S3072x128, .f32⟩
  | .hbm, ⟨6, _⟩ => ⟨S3072x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S3072x128 : Shape := ⟨2, ![3072, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S_, .f32⟩
  | .hbm, ⟨5, _⟩ => ⟨S3072x128, .f32⟩
  | .hbm, ⟨6, _⟩ => ⟨S3072x128, .f32⟩
  | .hbm, ⟨7, _⟩ => ⟨S_, .f32⟩
  | .hbm, ⟨8, _⟩ => ⟨S3072x128, .f32⟩
  | .hbm, ⟨9, _⟩ => ⟨S3072x128, .f32⟩
  | .hbm, ⟨10, _⟩ => ⟨S3072x128, .f32⟩
  | .hbm, ⟨11, _⟩ => ⟨S_, .f32⟩
  | .hbm, ⟨12, _⟩ => ⟨S3072x128, .f32⟩
  | .hbm, ⟨13, _⟩ => ⟨S3072x128, .f32⟩
  | .hbm, ⟨14, _⟩ => ⟨S3072x128, .f32⟩
  | .hbm, ⟨15, _⟩ => ⟨S_, .f32⟩
  | .hbm, ⟨16, _⟩ => ⟨S3072x128, .f32⟩
  | .hbm, ⟨17, _⟩ => ⟨S3072x128, .f32⟩
  | .hbm, ⟨18, _⟩ => ⟨S3072x128, .f32⟩
  | .hbm, ⟨19, _⟩ => ⟨S_, .f32⟩
  | .hbm, ⟨20, _⟩ => ⟨S3072x128, .f32⟩
  | .hbm, ⟨21, _⟩ => ⟨S3072x128, .f32⟩
  | .hbm, ⟨22, _⟩ => ⟨S_, .f32⟩
  | .hbm, ⟨23, _⟩ => ⟨S3072x128, .f32⟩
  | .hbm, ⟨24, _⟩ => ⟨S3072x128, .f32⟩
  | .hbm, ⟨25, _⟩ => ⟨S3072x128, .f32⟩
  | .hbm, ⟨26, _⟩ => ⟨S_, .f32⟩
  | .hbm, ⟨27, _⟩ => ⟨S3072x128, .f32⟩
  | .hbm, ⟨28, _⟩ => ⟨S3072x128, .f32⟩
  | .hbm, ⟨29, _⟩ => ⟨S3072x128, .f32⟩
  | .hbm, ⟨30, _⟩ => ⟨S_, .f32⟩
  | .hbm, ⟨31, _⟩ => ⟨S3072x128, .f32⟩
  | .hbm, ⟨32, _⟩ => ⟨S3072x128, .f32⟩
  | .hbm, ⟨33, _⟩ => ⟨S3072x128, .f32⟩
  | .hbm, ⟨34, _⟩ => ⟨S_, .f32⟩
  | .hbm, ⟨35, _⟩ => ⟨S3072x128, .f32⟩
  | .hbm, ⟨36, _⟩ => ⟨S3072x128, .f32⟩
  | _, _ => ⟨S3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Dple.lean ====
abbrev S4096x2048 : Shape := ⟨2, ![4096, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DpleRefIdeal.lean ====
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Dglu.lean ====
abbrev S4096x4096 : Shape := ⟨2, ![4096, 4096]⟩
abbrev S4096x2048 : Shape := ⟨2, ![4096, 2048]⟩
abbrev S256x4096 : Shape := ⟨2, ![256, 4096]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S256x2048, .f32⟩
  | .local _ .vmem, ⟨3, _⟩ => ⟨S256x2048, .f32⟩
  | .local _ .vmem, ⟨4, _⟩ => ⟨S256x4096, .bf16⟩
  | .local _ .vmem, ⟨5, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DgluRefIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Dgelu.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DgeluRefIdeal.lean ====
abbrev S4096x1024 : Shape := ⟨2, ![4096, 1024]⟩
abbrev S1024 : Shape := ⟨1, ![1024]⟩
abbrev S1x1024 : Shape := ⟨2, ![1, 1024]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Big.lean ====
abbrev S1 : Shape := ⟨1, ![1]⟩
abbrev S2x2048x1408 : Shape := ⟨3, ![2, 2048, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 11
  | .vmem => 22
  | .smem => 1
  | _ => 0

abbrev bufTy : (tb : Table) → Fin (tcTables nBuf tb) → BufTy
  | .hbm, ⟨0, _⟩ => ⟨S2x2048x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | .local _ .smem, ⟨0, _⟩ => ⟨S1, .i32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_4 : BitVec 32 := 0#32
  let v19 : BitVec 1 := Scalar.cmpi .eq arg0 c0_i32_4
  let v20 : BitVec 32 := Scalar.extui v19
  let c0_i32_5 : BitVec 32 := 0#32
  let v21 : BitVec 1 := Scalar.cmpi .ne v20 c0_i32_5
  v21

def k0_cond2 (i : grid0.Coords) : BitVec 1 :=
  let arg0 : BitVec 32 := BitVec.ofNat 32 (i 0).val
  let c1_i32_6 : BitVec 32 := 1#32
  let v22 : BitVec 1 := Scalar.cmpi .eq arg0 c1_i32_6
  let v23 : BitVec 32 := Scalar.extui v22
  let c0_i32_7 : BitVec 32 := 0#32
  let v24 : BitVec 1 := Scalar.cmpi .ne v23 c0_i32_7
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c7_i32 : BitVec 32 := 7#32
  let v12 : BitVec 32 := Scalar.select v11 c0_i32_5 c7_i32
  let v13 : BitVec 32 := Scalar.select v0 v10 v12
  let c0_i32_6 : BitVec 32 := 0#32
  let c0_i32_7 : BitVec 32 := 0#32
  ![v13.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c7_i32 : BitVec 32 := 7#32
  let v12 : BitVec 32 := Scalar.select v11 c0_i32_5 c7_i32
  let v13 : BitVec 32 := Scalar.select v0 v10 v12
  let c0_i32_6 : BitVec 32 := 0#32
  let c0_i32_7 : BitVec 32 := 0#32
  ![v13.toNat, c0_i32_6.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 1 := Scalar.cmpi .slt arg0 c1_i32_4
  let c0_i32_5 : BitVec 32 := 0#32
  let c7_i32 : BitVec 32 := 7#32
  let v12 : BitVec 32 := Scalar.select v11 c0_i32_5 c7_i32
  let v13 : BitVec 32 := Scalar.select v0 v10 v12
  let c0_i32_6 : BitVec 32 := 0#32
  let c0_i32_7 : BitVec 32 := 0#32
  ![v13.toNat, c0_i32_6.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 1 := Scalar.cmpi .slt arg0 c1_i32_4
  let c0_i32_5 : BitVec 32 := 0#32
  let c7_i32 : BitVec 32 := 7#32
  let v12 : BitVec 32 := Scalar.select v11 c0_i32_5 c7_i32
  let v13 : BitVec 32 := Scalar.select v0 v10 v12
  let c0_i32_6 : BitVec 32 := 0#32
  let c0_i32_7 : BitVec 32 := 0#32
  ![v13.toNat, c0_i32_6.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== BigRefIdeal.lean ====
abbrev S1 : Shape := ⟨1, ![1]⟩
abbrev S2x2048x1408 : Shape := ⟨3, ![2, 2048, 1408]⟩
abbrev S1024x1408 : Shape := ⟨2, ![1024, 1408]⟩
abbrev S_ : Shape := ⟨0, ![]⟩
abbrev S2048x1408 : Shape := ⟨2, ![2048, 1408]⟩
abbrev S1x2048x1408 : Shape := ⟨3, ![1, 2048, 1408]⟩

abbrev nBuf : Space → Nat
  | .hbm => 62
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S2x2048x1408, .f32⟩
  | .hbm, ⟨7, _⟩ => ⟨S2x2048x1408, .f32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S1024x1408, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S1024x1408, .f32⟩
  | .hbm, ⟨16, _⟩ => ⟨S2048x1408, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S1024x1408, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S1024x1408, .f32⟩
  | .hbm, ⟨25, _⟩ => ⟨S2048x1408, .f32⟩
  | .hbm, ⟨26, _⟩ => ⟨S1x2048x1408, .f32⟩
  | .hbm, ⟨27, _⟩ => ⟨S1x2048x1408, .f32⟩
  | .hbm, ⟨28, _⟩ => ⟨S2x2048x1408, .f32⟩
  | .hbm, ⟨29, _⟩ => ⟨S_, .f32⟩
  | .hbm, ⟨30, _⟩ => ⟨S2x2048x1408, .f32⟩
  | .hbm, ⟨31, _⟩ => ⟨S2x2048x1408, .f32⟩
  | .hbm, ⟨32, _⟩ => ⟨S_, .f32⟩
  | .hbm, ⟨33, _⟩ => ⟨S2x2048x1408, .f32⟩
  | .hbm, ⟨34, _⟩ => ⟨S2x2048x1408, .f32⟩
  | .hbm, ⟨35, _⟩ => ⟨S2x2048x1408, .f32⟩
  | .hbm, ⟨36, _⟩ => ⟨S_, .f32⟩
  | .hbm, ⟨37, _⟩ => ⟨S2x2048x1408, .f32⟩
  | .hbm, ⟨38, _⟩ => ⟨S2x2048x1408, .f32⟩
  | .hbm, ⟨39, _⟩ => ⟨S2x2048x1408, .f32⟩
  | .hbm, ⟨40, _⟩ => ⟨S_, .f32⟩
  | .hbm, ⟨41, _⟩ => ⟨S2x2048x1408, .f32⟩
  | .hbm, ⟨42, _⟩ => ⟨S2x2048x1408, .f32⟩
  | .hbm, ⟨43, _⟩ => ⟨S2x2048x1408, .f32⟩
  | .hbm, ⟨44, _⟩ => ⟨S_, .f32⟩
  | .hbm, ⟨45, _⟩ => ⟨S2x2048x1408, .f32⟩
  | .hbm, ⟨46, _⟩ => ⟨S2x2048x1408, .f32⟩
  | .hbm, ⟨47, _⟩ => ⟨S_, .f32⟩
  | .hbm, ⟨48, _⟩ => ⟨S2x2048x1408, .f32⟩
  | .hbm, ⟨49, _⟩ => ⟨S2x2048x1408, .f32⟩
  | .hbm, ⟨50, _⟩ => ⟨S2x2048x1408, .f32⟩
  | .hbm, ⟨51, _⟩ => ⟨S_, .f32⟩
  | .hbm, ⟨52, _⟩ => ⟨S2x2048x1408, .f32⟩
  | .hbm, ⟨53, _⟩ => ⟨S2x2048x1408, .f32⟩
  | .hbm, ⟨54, _⟩ => ⟨S2x2048x1408, .f32⟩
  | .hbm, ⟨55, _⟩ => ⟨S_, .f32⟩
  | .hbm, ⟨56, _⟩ => ⟨S2x2048x1408, .f32⟩
  | .hbm, ⟨57, _⟩ => ⟨S2x2048x1408, .f32⟩
  | .hbm, ⟨58, _⟩ => ⟨S2x2048x1408, .f32⟩
  | .hbm, ⟨59, _⟩ => ⟨S_, .f32⟩
  | .hbm, ⟨60, _⟩ => ⟨S2x2048x1408, .f32⟩
  | .hbm, ⟨61, _⟩ => ⟨S2x2048x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Sum.lean ====
abbrev S8x4608x128 : Shape := ⟨3, ![8, 4608, 128]⟩
abbrev S4608x128 : Shape := ⟨2, ![4608, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x4608x128, .f32⟩
  | .hbm, ⟨1, _⟩ => ⟨S4608x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRefIdeal.lean ====
abbrev S8x4608x128 : Shape := ⟨3, ![8, 4608, 128]⟩
abbrev S_ : Shape := ⟨0, ![]⟩
abbrev S4608x128 : Shape := ⟨2, ![4608, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x4608x128, .f32⟩
  | .hbm, ⟨1, _⟩ => ⟨S_, .f32⟩
  | .hbm, ⟨2, _⟩ => ⟨S4608x128, .f32⟩
  | _, _ => ⟨S8x4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Bdown.lean ====
abbrev S1 : Shape := ⟨1, ![1]⟩
abbrev S2x1408x2048 : Shape := ⟨3, ![2, 1408, 2048]⟩
abbrev S704x2048 : Shape := ⟨2, ![704, 2048]⟩
abbrev S1x64x2048 : Shape := ⟨3, ![1, 64, 2048]⟩
abbrev S64x2048 : Shape := ⟨2, ![64, 2048]⟩

abbrev nBuf : Space → Nat
  | .hbm => 11
  | .vmem => 22
  | .smem => 1
  | _ => 0

abbrev bufTy : (tb : Table) → Fin (tcTables nBuf tb) → BufTy
  | .hbm, ⟨0, _⟩ => ⟨S2x1408x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .smem, ⟨0, _⟩ => ⟨S1, .i32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 22], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_4 : BitVec 32 := 0#32
  let v19 : BitVec 1 := Scalar.cmpi .eq arg0 c0_i32_4
  let v20 : BitVec 32 := Scalar.extui v19
  let c0_i32_5 : BitVec 32 := 0#32
  let v21 : BitVec 1 := Scalar.cmpi .ne v20 c0_i32_5
  v21

def k0_cond2 (i : grid0.Coords) : BitVec 1 :=
  let arg0 : BitVec 32 := BitVec.ofNat 32 (i 0).val
  let c1_i32_6 : BitVec 32 := 1#32
  let v22 : BitVec 1 := Scalar.cmpi .eq arg0 c1_i32_6
  let v23 : BitVec 32 := Scalar.extui v22
  let c0_i32_7 : BitVec 32 := 0#32
  let v24 : BitVec 1 := Scalar.cmpi .ne v23 c0_i32_7
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let c0_i32_0 : BitVec 32 := 0#32
  let v1 : BitVec 1 := Scalar.cmpi .eq c11_i32 c0_i32_0
  let c1_i32 : BitVec 32 := 1#32
  let v2 : BitVec 32 := Scalar.select v1 c1_i32 c11_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c10_i32 : BitVec 32 := 10#32
  let v12 : BitVec 32 := Scalar.select v11 c0_i32_5 c10_i32
  let v13 : BitVec 32 := Scalar.select v0 v10 v12
  let c0_i32_6 : BitVec 32 := 0#32
  let c0_i32_7 : BitVec 32 := 0#32
  ![v13.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let c0_i32_0 : BitVec 32 := 0#32
  let v1 : BitVec 1 := Scalar.cmpi .eq c11_i32 c0_i32_0
  let c1_i32 : BitVec 32 := 1#32
  let v2 : BitVec 32 := Scalar.select v1 c1_i32 c11_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c10_i32 : BitVec 32 := 10#32
  let v12 : BitVec 32 := Scalar.select v11 c0_i32_5 c10_i32
  let v13 : BitVec 32 := Scalar.select v0 v10 v12
  let c0_i32_6 : BitVec 32 := 0#32
  let c0_i32_7 : BitVec 32 := 0#32
  ![v13.toNat, c0_i32_6.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c11_i32 : BitVec 32 := 11#32
  let c0_i32 : BitVec 32 := 0#32
  let v1 : BitVec 1 := Scalar.cmpi .eq c11_i32 c0_i32
  let c1_i32_0 : BitVec 32 := 1#32
  let v2 : BitVec 32 := Scalar.select v1 c1_i32_0 c11_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 1 := Scalar.cmpi .slt arg0 c1_i32_4
  let c0_i32_5 : BitVec 32 := 0#32
  let c10_i32 : BitVec 32 := 10#32
  let v12 : BitVec 32 := Scalar.select v11 c0_i32_5 c10_i32
  let v13 : BitVec 32 := Scalar.select v0 v10 v12
  let c0_i32_6 : BitVec 32 := 0#32
  let c0_i32_7 : BitVec 32 := 0#32
  ![v13.toNat, c0_i32_6.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c11_i32 : BitVec 32 := 11#32
  let c0_i32 : BitVec 32 := 0#32
  let v1 : BitVec 1 := Scalar.cmpi .eq c11_i32 c0_i32
  let c1_i32_0 : BitVec 32 := 1#32
  let v2 : BitVec 32 := Scalar.select v1 c1_i32_0 c11_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 1 := Scalar.cmpi .slt arg0 c1_i32_4
  let c0_i32_5 : BitVec 32 := 0#32
  let c10_i32 : BitVec 32 := 10#32
  let v12 : BitVec 32 := Scalar.select v11 c0_i32_5 c10_i32
  let v13 : BitVec 32 := Scalar.select v0 v10 v12
  let c0_i32_6 : BitVec 32 := 0#32
  let c0_i32_7 : BitVec 32 := 0#32
  ![v13.toNat, c0_i32_6.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== BdownIdeal.lean ====
abbrev S1 : Shape := ⟨1, ![1]⟩
abbrev S2x1408x2048 : Shape := ⟨3, ![2, 1408, 2048]⟩
abbrev S704x2048 : Shape := ⟨2, ![704, 2048]⟩
abbrev S1x64x2048 : Shape := ⟨3, ![1, 64, 2048]⟩
abbrev S64x2048 : Shape := ⟨2, ![64, 2048]⟩

abbrev nBuf : Space → Nat
  | .hbm => 11
  | .vmem => 22
  | .smem => 1
  | _ => 0

abbrev bufTy : (tb : Table) → Fin (tcTables nBuf tb) → BufTy
  | .hbm, ⟨0, _⟩ => ⟨S2x1408x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .smem, ⟨0, _⟩ => ⟨S1, .i32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 22], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_4 : BitVec 32 := 0#32
  let v19 : BitVec 1 := Scalar.cmpi .eq arg0 c0_i32_4
  let v20 : BitVec 32 := Scalar.extui v19
  let c0_i32_5 : BitVec 32 := 0#32
  let v21 : BitVec 1 := Scalar.cmpi .ne v20 c0_i32_5
  v21

def k0_cond2 (i : grid0.Coords) : BitVec 1 :=
  let arg0 : BitVec 32 := BitVec.ofNat 32 (i 0).val
  let c1_i32_6 : BitVec 32 := 1#32
  let v22 : BitVec 1 := Scalar.cmpi .eq arg0 c1_i32_6
  let v23 : BitVec 32 := Scalar.extui v22
  let c0_i32_7 : BitVec 32 := 0#32
  let v24 : BitVec 1 := Scalar.cmpi .ne v23 c0_i32_7
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let c0_i32_0 : BitVec 32 := 0#32
  let v1 : BitVec 1 := Scalar.cmpi .eq c11_i32 c0_i32_0
  let c1_i32 : BitVec 32 := 1#32
  let v2 : BitVec 32 := Scalar.select v1 c1_i32 c11_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c10_i32 : BitVec 32 := 10#32
  let v12 : BitVec 32 := Scalar.select v11 c0_i32_5 c10_i32
  let v13 : BitVec 32 := Scalar.select v0 v10 v12
  let c0_i32_6 : BitVec 32 := 0#32
  let c0_i32_7 : BitVec 32 := 0#32
  ![v13.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let c0_i32_0 : BitVec 32 := 0#32
  let v1 : BitVec 1 := Scalar.cmpi .eq c11_i32 c0_i32_0
  let c1_i32 : BitVec 32 := 1#32
  let v2 : BitVec 32 := Scalar.select v1 c1_i32 c11_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c10_i32 : BitVec 32 := 10#32
  let v12 : BitVec 32 := Scalar.select v11 c0_i32_5 c10_i32
  let v13 : BitVec 32 := Scalar.select v0 v10 v12
  let c0_i32_6 : BitVec 32 := 0#32
  let c0_i32_7 : BitVec 32 := 0#32
  ![v13.toNat, c0_i32_6.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c11_i32 : BitVec 32 := 11#32
  let c0_i32 : BitVec 32 := 0#32
  let v1 : BitVec 1 := Scalar.cmpi .eq c11_i32 c0_i32
  let c1_i32_0 : BitVec 32 := 1#32
  let v2 : BitVec 32 := Scalar.select v1 c1_i32_0 c11_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 1 := Scalar.cmpi .slt arg0 c1_i32_4
  let c0_i32_5 : BitVec 32 := 0#32
  let c10_i32 : BitVec 32 := 10#32
  let v12 : BitVec 32 := Scalar.select v11 c0_i32_5 c10_i32
  let v13 : BitVec 32 := Scalar.select v0 v10 v12
  let c0_i32_6 : BitVec 32 := 0#32
  let c0_i32_7 : BitVec 32 := 0#32
  ![v13.toNat, c0_i32_6.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c11_i32 : BitVec 32 := 11#32
  let c0_i32 : BitVec 32 := 0#32
  let v1 : BitVec 1 := Scalar.cmpi .eq c11_i32 c0_i32
  let c1_i32_0 : BitVec 32 := 1#32
  let v2 : BitVec 32 := Scalar.select v1 c1_i32_0 c11_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 1 := Scalar.cmpi .slt arg0 c1_i32_4
  let c0_i32_5 : BitVec 32 := 0#32
  let c10_i32 : BitVec 32 := 10#32
  let v12 : BitVec 32 := Scalar.select v11 c0_i32_5 c10_i32
  let v13 : BitVec 32 := Scalar.select v0 v10 v12
  let c0_i32_6 : BitVec 32 := 0#32
  let c0_i32_7 : BitVec 32 := 0#32
  ![v13.toNat, c0_i32_6.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== BdownRefIdeal.lean ====
abbrev S1 : Shape := ⟨1, ![1]⟩
abbrev S2x1408x2048 : Shape := ⟨3, ![2, 1408, 2048]⟩
abbrev S704x2048 : Shape := ⟨2, ![704, 2048]⟩
abbrev S_ : Shape := ⟨0, ![]⟩
abbrev S1408x2048 : Shape := ⟨2, ![1408, 2048]⟩
abbrev S1x1408x2048 : Shape := ⟨3, ![1, 1408, 2048]⟩

abbrev nBuf : Space → Nat
  | .hbm => 62
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1408x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S2x1408x2048, .f32⟩
  | .hbm, ⟨7, _⟩ => ⟨S2x1408x2048, .f32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S704x2048, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S704x2048, .f32⟩
  | .hbm, ⟨16, _⟩ => ⟨S1408x2048, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S704x2048, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S704x2048, .f32⟩
  | .hbm, ⟨25, _⟩ => ⟨S1408x2048, .f32⟩
  | .hbm, ⟨26, _⟩ => ⟨S1x1408x2048, .f32⟩
  | .hbm, ⟨27, _⟩ => ⟨S1x1408x2048, .f32⟩
  | .hbm, ⟨28, _⟩ => ⟨S2x1408x2048, .f32⟩
  | .hbm, ⟨29, _⟩ => ⟨S_, .f32⟩
  | .hbm, ⟨30, _⟩ => ⟨S2x1408x2048, .f32⟩
  | .hbm, ⟨31, _⟩ => ⟨S2x1408x2048, .f32⟩
  | .hbm, ⟨32, _⟩ => ⟨S_, .f32⟩
  | .hbm, ⟨33, _⟩ => ⟨S2x1408x2048, .f32⟩
  | .hbm, ⟨34, _⟩ => ⟨S2x1408x2048, .f32⟩
  | .hbm, ⟨35, _⟩ => ⟨S2x1408x2048, .f32⟩
  | .hbm, ⟨36, _⟩ => ⟨S_, .f32⟩
  | .hbm, ⟨37, _⟩ => ⟨S2x1408x2048, .f32⟩
  | .hbm, ⟨38, _⟩ => ⟨S2x1408x2048, .f32⟩
  | .hbm, ⟨39, _⟩ => ⟨S2x1408x2048, .f32⟩
  | .hbm, ⟨40, _⟩ => ⟨S_, .f32⟩
  | .hbm, ⟨41, _⟩ => ⟨S2x1408x2048, .f32⟩
  | .hbm, ⟨42, _⟩ => ⟨S2x1408x2048, .f32⟩
  | .hbm, ⟨43, _⟩ => ⟨S2x1408x2048, .f32⟩
  | .hbm, ⟨44, _⟩ => ⟨S_, .f32⟩
  | .hbm, ⟨45, _⟩ => ⟨S2x1408x2048, .f32⟩
  | .hbm, ⟨46, _⟩ => ⟨S2x1408x2048, .f32⟩
  | .hbm, ⟨47, _⟩ => ⟨S_, .f32⟩
  | .hbm, ⟨48, _⟩ => ⟨S2x1408x2048, .f32⟩
  | .hbm, ⟨49, _⟩ => ⟨S2x1408x2048, .f32⟩
  | .hbm, ⟨50, _⟩ => ⟨S2x1408x2048, .f32⟩
  | .hbm, ⟨51, _⟩ => ⟨S_, .f32⟩
  | .hbm, ⟨52, _⟩ => ⟨S2x1408x2048, .f32⟩
  | .hbm, ⟨53, _⟩ => ⟨S2x1408x2048, .f32⟩
  | .hbm, ⟨54, _⟩ => ⟨S2x1408x2048, .f32⟩
  | .hbm, ⟨55, _⟩ => ⟨S_, .f32⟩
  | .hbm, ⟨56, _⟩ => ⟨S2x1408x2048, .f32⟩
  | .hbm, ⟨57, _⟩ => ⟨S2x1408x2048, .f32⟩
  | .hbm, ⟨58, _⟩ => ⟨S2x1408x2048, .f32⟩
  | .hbm, ⟨59, _⟩ => ⟨S_, .f32⟩
  | .hbm, ⟨60, _⟩ => ⟨S2x1408x2048, .f32⟩
  | .hbm, ⟨61, _⟩ => ⟨S2x1408x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Bpg.lean ====
abbrev S1 : Shape := ⟨1, ![1]⟩
abbrev S2x512x2048 : Shape := ⟨3, ![2, 512, 2048]⟩
abbrev S256x2048 : Shape := ⟨2, ![256, 2048]⟩
abbrev S1x128x2048 : Shape := ⟨3, ![1, 128, 2048]⟩
abbrev S128x2048 : Shape := ⟨2, ![128, 2048]⟩

abbrev nBuf : Space → Nat
  | .hbm => 11
  | .vmem => 22
  | .smem => 1
  | _ => 0

abbrev bufTy : (tb : Table) → Fin (tcTables nBuf tb) → BufTy
  | .hbm, ⟨0, _⟩ => ⟨S2x512x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .smem, ⟨0, _⟩ => ⟨S1, .i32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_4 : BitVec 32 := 0#32
  let v19 : BitVec 1 := Scalar.cmpi .eq arg0 c0_i32_4
  let v20 : BitVec 32 := Scalar.extui v19
  let c0_i32_5 : BitVec 32 := 0#32
  let v21 : BitVec 1 := Scalar.cmpi .ne v20 c0_i32_5
  v21

def k0_cond2 (i : grid0.Coords) : BitVec 1 :=
  let arg0 : BitVec 32 := BitVec.ofNat 32 (i 0).val
  let c1_i32_6 : BitVec 32 := 1#32
  let v22 : BitVec 1 := Scalar.cmpi .eq arg0 c1_i32_6
  let v23 : BitVec 32 := Scalar.extui v22
  let c0_i32_7 : BitVec 32 := 0#32
  let v24 : BitVec 1 := Scalar.cmpi .ne v23 c0_i32_7
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 1 := Scalar.cmpi .slt arg0 c1_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 1 := Scalar.cmpi .slt arg0 c1_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== BpgIdeal.lean ====
abbrev S1 : Shape := ⟨1, ![1]⟩
abbrev S2x512x2048 : Shape := ⟨3, ![2, 512, 2048]⟩
abbrev S256x2048 : Shape := ⟨2, ![256, 2048]⟩
abbrev S1x128x2048 : Shape := ⟨3, ![1, 128, 2048]⟩
abbrev S128x2048 : Shape := ⟨2, ![128, 2048]⟩

abbrev nBuf : Space → Nat
  | .hbm => 11
  | .vmem => 22
  | .smem => 1
  | _ => 0

abbrev bufTy : (tb : Table) → Fin (tcTables nBuf tb) → BufTy
  | .hbm, ⟨0, _⟩ => ⟨S2x512x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .smem, ⟨0, _⟩ => ⟨S1, .i32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_4 : BitVec 32 := 0#32
  let v19 : BitVec 1 := Scalar.cmpi .eq arg0 c0_i32_4
  let v20 : BitVec 32 := Scalar.extui v19
  let c0_i32_5 : BitVec 32 := 0#32
  let v21 : BitVec 1 := Scalar.cmpi .ne v20 c0_i32_5
  v21

def k0_cond2 (i : grid0.Coords) : BitVec 1 :=
  let arg0 : BitVec 32 := BitVec.ofNat 32 (i 0).val
  let c1_i32_6 : BitVec 32 := 1#32
  let v22 : BitVec 1 := Scalar.cmpi .eq arg0 c1_i32_6
  let v23 : BitVec 32 := Scalar.extui v22
  let c0_i32_7 : BitVec 32 := 0#32
  let v24 : BitVec 1 := Scalar.cmpi .ne v23 c0_i32_7
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 1 := Scalar.cmpi .slt arg0 c1_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c1_i32_4 : BitVec 32 := 1#32
  let v11 : BitVec 1 := Scalar.cmpi .slt arg0 c1_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== BpgRefIdeal.lean ====
abbrev S1 : Shape := ⟨1, ![1]⟩
abbrev S2x512x2048 : Shape := ⟨3, ![2, 512, 2048]⟩
abbrev S256x2048 : Shape := ⟨2, ![256, 2048]⟩
abbrev S_ : Shape := ⟨0, ![]⟩
abbrev S512x2048 : Shape := ⟨2, ![512, 2048]⟩
abbrev S1x512x2048 : Shape := ⟨3, ![1, 512, 2048]⟩

abbrev nBuf : Space → Nat
  | .hbm => 62
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x512x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S2x512x2048, .f32⟩
  | .hbm, ⟨7, _⟩ => ⟨S2x512x2048, .f32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S256x2048, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S256x2048, .f32⟩
  | .hbm, ⟨16, _⟩ => ⟨S512x2048, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S256x2048, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S256x2048, .f32⟩
  | .hbm, ⟨25, _⟩ => ⟨S512x2048, .f32⟩
  | .hbm, ⟨26, _⟩ => ⟨S1x512x2048, .f32⟩
  | .hbm, ⟨27, _⟩ => ⟨S1x512x2048, .f32⟩
  | .hbm, ⟨28, _⟩ => ⟨S2x512x2048, .f32⟩
  | .hbm, ⟨29, _⟩ => ⟨S_, .f32⟩
  | .hbm, ⟨30, _⟩ => ⟨S2x512x2048, .f32⟩
  | .hbm, ⟨31, _⟩ => ⟨S2x512x2048, .f32⟩
  | .hbm, ⟨32, _⟩ => ⟨S_, .f32⟩
  | .hbm, ⟨33, _⟩ => ⟨S2x512x2048, .f32⟩
  | .hbm, ⟨34, _⟩ => ⟨S2x512x2048, .f32⟩
  | .hbm, ⟨35, _⟩ => ⟨S2x512x2048, .f32⟩
  | .hbm, ⟨36, _⟩ => ⟨S_, .f32⟩
  | .hbm, ⟨37, _⟩ => ⟨S2x512x2048, .f32⟩
  | .hbm, ⟨38, _⟩ => ⟨S2x512x2048, .f32⟩
  | .hbm, ⟨39, _⟩ => ⟨S2x512x2048, .f32⟩
  | .hbm, ⟨40, _⟩ => ⟨S_, .f32⟩
  | .hbm, ⟨41, _⟩ => ⟨S2x512x2048, .f32⟩
  | .hbm, ⟨42, _⟩ => ⟨S2x512x2048, .f32⟩
  | .hbm, ⟨43, _⟩ => ⟨S2x512x2048, .f32⟩
  | .hbm, ⟨44, _⟩ => ⟨S_, .f32⟩
  | .hbm, ⟨45, _⟩ => ⟨S2x512x2048, .f32⟩
  | .hbm, ⟨46, _⟩ => ⟨S2x512x2048, .f32⟩
  | .hbm, ⟨47, _⟩ => ⟨S_, .f32⟩
  | .hbm, ⟨48, _⟩ => ⟨S2x512x2048, .f32⟩
  | .hbm, ⟨49, _⟩ => ⟨S2x512x2048, .f32⟩
  | .hbm, ⟨50, _⟩ => ⟨S2x512x2048, .f32⟩
  | .hbm, ⟨51, _⟩ => ⟨S_, .f32⟩
  | .hbm, ⟨52, _⟩ => ⟨S2x512x2048, .f32⟩
  | .hbm, ⟨53, _⟩ => ⟨S2x512x2048, .f32⟩
  | .hbm, ⟨54, _⟩ => ⟨S2x512x2048, .f32⟩
  | .hbm, ⟨55, _⟩ => ⟨S_, .f32⟩
  | .hbm, ⟨56, _⟩ => ⟨S2x512x2048, .f32⟩
  | .hbm, ⟨57, _⟩ => ⟨S2x512x2048, .f32⟩
  | .hbm, ⟨58, _⟩ => ⟨S2x512x2048, .f32⟩
  | .hbm, ⟨59, _⟩ => ⟨S_, .f32⟩
  | .hbm, ⟨60, _⟩ => ⟨S2x512x2048, .f32⟩
  | .hbm, ⟨61, _⟩ => ⟨S2x512x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Bpp.lean ====
abbrev S1 : Shape := ⟨1, ![1]⟩
abbrev S2x256x512 : Shape := ⟨3, ![2, 256, 512]⟩
abbrev S128x512 : Shape := ⟨2, ![128, 512]⟩
abbrev S1x128x512 : Shape := ⟨3, ![1, 128, 512]⟩

abbrev nBuf : Space → Nat
  | .hbm => 11
  | .vmem => 18
  | .smem => 1
  | _ => 0

abbrev bufTy : (tb : Table) → Fin (tcTables nBuf tb) → BufTy
  | .hbm, ⟨0, _⟩ => ⟨S2x256x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S2x256x512, .f32⟩
  | .hbm, ⟨6, _⟩ => ⟨S2x256x512, .f32⟩
  | .hbm, ⟨7, _⟩ => ⟨S2x256x512, .f32⟩
  | .hbm, ⟨8, _⟩ => ⟨S2x256x512, .f32⟩
  | .hbm, ⟨9, _⟩ => ⟨S2x256x512, .f32⟩
  | .hbm, ⟨10, _⟩ => ⟨S2x256x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .smem, ⟨0, _⟩ => ⟨S1, .i32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_5 : BitVec 32 := 0#32
  let v19 : BitVec 1 := Scalar.cmpi .eq arg0 c0_i32_5
  let v20 : BitVec 32 := Scalar.extui v19
  let c0_i32_6 : BitVec 32 := 0#32
  let v21 : BitVec 1 := Scalar.cmpi .ne v20 c0_i32_6
  v21

def k0_cond2 (i : grid0.Coords) : BitVec 1 :=
  let arg0 : BitVec 32 := BitVec.ofNat 32 (i 0).val
  let c1_i32_7 : BitVec 32 := 1#32
  let v22 : BitVec 1 := Scalar.cmpi .eq arg0 c1_i32_7
  let v23 : BitVec 32 := Scalar.extui v22
  let c0_i32_8 : BitVec 32 := 0#32
  let v24 : BitVec 1 := Scalar.cmpi .ne v23 c0_i32_8
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== BppRefIdeal.lean ====
abbrev S1 : Shape := ⟨1, ![1]⟩
abbrev S2x256x512 : Shape := ⟨3, ![2, 256, 512]⟩
abbrev S128x512 : Shape := ⟨2, ![128, 512]⟩
abbrev S_ : Shape := ⟨0, ![]⟩
abbrev S256x512 : Shape := ⟨2, ![256, 512]⟩
abbrev S1x256x512 : Shape := ⟨3, ![1, 256, 512]⟩

abbrev nBuf : Space → Nat
  | .hbm => 62
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S2x256x512, .f32⟩
  | .hbm, ⟨7, _⟩ => ⟨S2x256x512, .f32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S128x512, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S128x512, .f32⟩
  | .hbm, ⟨16, _⟩ => ⟨S256x512, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S128x512, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S128x512, .f32⟩
  | .hbm, ⟨25, _⟩ => ⟨S256x512, .f32⟩
  | .hbm, ⟨26, _⟩ => ⟨S1x256x512, .f32⟩
  | .hbm, ⟨27, _⟩ => ⟨S1x256x512, .f32⟩
  | .hbm, ⟨28, _⟩ => ⟨S2x256x512, .f32⟩
  | .hbm, ⟨29, _⟩ => ⟨S_, .f32⟩
  | .hbm, ⟨30, _⟩ => ⟨S2x256x512, .f32⟩
  | .hbm, ⟨31, _⟩ => ⟨S2x256x512, .f32⟩
  | .hbm, ⟨32, _⟩ => ⟨S_, .f32⟩
  | .hbm, ⟨33, _⟩ => ⟨S2x256x512, .f32⟩
  | .hbm, ⟨34, _⟩ => ⟨S2x256x512, .f32⟩
  | .hbm, ⟨35, _⟩ => ⟨S2x256x512, .f32⟩
  | .hbm, ⟨36, _⟩ => ⟨S_, .f32⟩
  | .hbm, ⟨37, _⟩ => ⟨S2x256x512, .f32⟩
  | .hbm, ⟨38, _⟩ => ⟨S2x256x512, .f32⟩
  | .hbm, ⟨39, _⟩ => ⟨S2x256x512, .f32⟩
  | .hbm, ⟨40, _⟩ => ⟨S_, .f32⟩
  | .hbm, ⟨41, _⟩ => ⟨S2x256x512, .f32⟩
  | .hbm, ⟨42, _⟩ => ⟨S2x256x512, .f32⟩
  | .hbm, ⟨43, _⟩ => ⟨S2x256x512, .f32⟩
  | .hbm, ⟨44, _⟩ => ⟨S_, .f32⟩
  | .hbm, ⟨45, _⟩ => ⟨S2x256x512, .f32⟩
  | .hbm, ⟨46, _⟩ => ⟨S2x256x512, .f32⟩
  | .hbm, ⟨47, _⟩ => ⟨S_, .f32⟩
  | .hbm, ⟨48, _⟩ => ⟨S2x256x512, .f32⟩
  | .hbm, ⟨49, _⟩ => ⟨S2x256x512, .f32⟩
  | .hbm, ⟨50, _⟩ => ⟨S2x256x512, .f32⟩
  | .hbm, ⟨51, _⟩ => ⟨S_, .f32⟩
  | .hbm, ⟨52, _⟩ => ⟨S2x256x512, .f32⟩
  | .hbm, ⟨53, _⟩ => ⟨S2x256x512, .f32⟩
  | .hbm, ⟨54, _⟩ => ⟨S2x256x512, .f32⟩
  | .hbm, ⟨55, _⟩ => ⟨S_, .f32⟩
  | .hbm, ⟨56, _⟩ => ⟨S2x256x512, .f32⟩
  | .hbm, ⟨57, _⟩ => ⟨S2x256x512, .f32⟩
  | .hbm, ⟨58, _⟩ => ⟨S2x256x512, .f32⟩
  | .hbm, ⟨59, _⟩ => ⟨S_, .f32⟩
  | .hbm, ⟨60, _⟩ => ⟨S2x256x512, .f32⟩
  | .hbm, ⟨61, _⟩ => ⟨S2x256x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Bab.lean ====
abbrev S1 : Shape := ⟨1, ![1]⟩
abbrev S1x2048x1600 : Shape := ⟨3, ![1, 2048, 1600]⟩
abbrev S1024x1600 : Shape := ⟨2, ![1024, 1600]⟩
abbrev S1x128x1600 : Shape := ⟨3, ![1, 128, 1600]⟩
abbrev S128x1600 : Shape := ⟨2, ![128, 1600]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x1600, .f32⟩
  | .hbm, ⟨1, _⟩ => ⟨S1024x1600, .f32⟩
  | .hbm, ⟨2, _⟩ => ⟨S1024x1600, .f32⟩
  | .hbm, ⟨3, _⟩ => ⟨S1x2048x1600, .f32⟩
  | .hbm, ⟨4, _⟩ => ⟨S1x2048x1600, .f32⟩
  | .hbm, ⟨5, _⟩ => ⟨S1x2048x1600, .f32⟩
  | .hbm, ⟨6, _⟩ => ⟨S1x2048x1600, .f32⟩
  | .hbm, ⟨7, _⟩ => ⟨S1x2048x1600, .f32⟩
  | .hbm, ⟨8, _⟩ => ⟨S1x2048x1600, .f32⟩
  | .local _ .vmem, ⟨0, _⟩ => ⟨S1x128x1600, .f32⟩
  | .local _ .vmem, ⟨1, _⟩ => ⟨S1x128x1600, .f32⟩
  | .local _ .vmem, ⟨2, _⟩ => ⟨S1x128x1600, .f32⟩
  | .local _ .vmem, ⟨3, _⟩ => ⟨S1x128x1600, .f32⟩
  | .local _ .vmem, ⟨4, _⟩ => ⟨S1x128x1600, .f32⟩
  | .local _ .vmem, ⟨5, _⟩ => ⟨S1x128x1600, .f32⟩
  | .local _ .vmem, ⟨6, _⟩ => ⟨S128x1600, .f32⟩
  | .local _ .vmem, ⟨7, _⟩ => ⟨S128x1600, .f32⟩
  | .local _ .vmem, ⟨8, _⟩ => ⟨S128x1600, .f32⟩
  | .local _ .vmem, ⟨9, _⟩ => ⟨S128x1600, .f32⟩
  | .local _ .vmem, ⟨10, _⟩ => ⟨S1x128x1600, .f32⟩
  | .local _ .vmem, ⟨11, _⟩ => ⟨S1x128x1600, .f32⟩
  | .local _ .vmem, ⟨12, _⟩ => ⟨S1x128x1600, .f32⟩
  | .local _ .vmem, ⟨13, _⟩ => ⟨S1x128x1600, .f32⟩
  | .local _ .vmem, ⟨14, _⟩ => ⟨S1x128x1600, .f32⟩
  | .local _ .vmem, ⟨15, _⟩ => ⟨S1x128x1600, .f32⟩
  | .local _ .vmem, ⟨16, _⟩ => ⟨S1x128x1600, .f32⟩
  | .local _ .vmem, ⟨17, _⟩ => ⟨S1x128x1600, .f32⟩
  | .local _ .smem, ⟨0, _⟩ => ⟨S1, .i32⟩
  | _, _ => ⟨S1x2048x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_4 : BitVec 32 := 0#32
  let v19 : BitVec 1 := Scalar.cmpi .eq arg0 c0_i32_4
  let v20 : BitVec 32 := Scalar.extui v19
  let c0_i32_5 : BitVec 32 := 0#32
  let v21 : BitVec 1 := Scalar.cmpi .ne v20 c0_i32_5
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c7_i32 : BitVec 32 := 7#32
  let v12 : BitVec 32 := Scalar.select v11 c0_i32_5 c7_i32
  let v13 : BitVec 32 := Scalar.select v0 v10 v12
  let c0_i32_6 : BitVec 32 := 0#32
  let c0_i32_7 : BitVec 32 := 0#32
  ![v13.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c7_i32 : BitVec 32 := 7#32
  let v12 : BitVec 32 := Scalar.select v11 c0_i32_5 c7_i32
  let v13 : BitVec 32 := Scalar.select v0 v10 v12
  let c0_i32_6 : BitVec 32 := 0#32
  let c0_i32_7 : BitVec 32 := 0#32
  ![v13.toNat, c0_i32_6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1600 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BabIdeal.lean ====
abbrev S1 : Shape := ⟨1, ![1]⟩
abbrev S1x2048x1600 : Shape := ⟨3, ![1, 2048, 1600]⟩
abbrev S1024x1600 : Shape := ⟨2, ![1024, 1600]⟩
abbrev S1x128x1600 : Shape := ⟨3, ![1, 128, 1600]⟩
abbrev S128x1600 : Shape := ⟨2, ![128, 1600]⟩

abbrev nBuf : Space → Nat
  | .hbm => 9
  | .vmem => 18
  | .smem => 1
  | _ => 0

abbrev bufTy : (tb : Table) → Fin (tcTables nBuf tb) → BufTy
  | .hbm, ⟨0, _⟩ => ⟨S1x2048x1600, .f32⟩
  | .hbm, ⟨1, _⟩ => ⟨S1024x1600, .f32⟩
  | .hbm, ⟨2, _⟩ => ⟨S1024x1600, .f32⟩
  | .hbm, ⟨3, _⟩ => ⟨S1x2048x1600, .f32⟩
  | .hbm, ⟨4, _⟩ => ⟨S1x2048x1600, .f32⟩
  | .hbm, ⟨5, _⟩ => ⟨S1x2048x1600, .f32⟩
  | .hbm, ⟨6, _⟩ => ⟨S1x2048x1600, .f32⟩
  | .hbm, ⟨7, _⟩ => ⟨S1x2048x1600, .f32⟩
  | .hbm, ⟨8, _⟩ => ⟨S1x2048x1600, .f32⟩
  | .local _ .vmem, ⟨0, _⟩ => ⟨S1x128x1600, .f32⟩
  | .local _ .vmem, ⟨1, _⟩ => ⟨S1x128x1600, .f32⟩
  | .local _ .vmem, ⟨2, _⟩ => ⟨S1x128x1600, .f32⟩
  | .local _ .vmem, ⟨3, _⟩ => ⟨S1x128x1600, .f32⟩
  | .local _ .vmem, ⟨4, _⟩ => ⟨S1x128x1600, .f32⟩
  | .local _ .vmem, ⟨5, _⟩ => ⟨S1x128x1600, .f32⟩
  | .local _ .vmem, ⟨6, _⟩ => ⟨S128x1600, .f32⟩
  | .local _ .vmem, ⟨7, _⟩ => ⟨S128x1600, .f32⟩
  | .local _ .vmem, ⟨8, _⟩ => ⟨S128x1600, .f32⟩
  | .local _ .vmem, ⟨9, _⟩ => ⟨S128x1600, .f32⟩
  | .local _ .vmem, ⟨10, _⟩ => ⟨S1x128x1600, .f32⟩
  | .local _ .vmem, ⟨11, _⟩ => ⟨S1x128x1600, .f32⟩
  | .local _ .vmem, ⟨12, _⟩ => ⟨S1x128x1600, .f32⟩
  | .local _ .vmem, ⟨13, _⟩ => ⟨S1x128x1600, .f32⟩
  | .local _ .vmem, ⟨14, _⟩ => ⟨S1x128x1600, .f32⟩
  | .local _ .vmem, ⟨15, _⟩ => ⟨S1x128x1600, .f32⟩
  | .local _ .vmem, ⟨16, _⟩ => ⟨S1x128x1600, .f32⟩
  | .local _ .vmem, ⟨17, _⟩ => ⟨S1x128x1600, .f32⟩
  | .local _ .smem, ⟨0, _⟩ => ⟨S1, .i32⟩
  | _, _ => ⟨S1x2048x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_4 : BitVec 32 := 0#32
  let v19 : BitVec 1 := Scalar.cmpi .eq arg0 c0_i32_4
  let v20 : BitVec 32 := Scalar.extui v19
  let c0_i32_5 : BitVec 32 := 0#32
  let v21 : BitVec 1 := Scalar.cmpi .ne v20 c0_i32_5
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c7_i32 : BitVec 32 := 7#32
  let v12 : BitVec 32 := Scalar.select v11 c0_i32_5 c7_i32
  let v13 : BitVec 32 := Scalar.select v0 v10 v12
  let c0_i32_6 : BitVec 32 := 0#32
  let c0_i32_7 : BitVec 32 := 0#32
  ![v13.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let c0_i32_0 : BitVec 32 := 0#32
  let v1 : BitVec 1 := Scalar.cmpi .eq c8_i32 c0_i32_0
  let c1_i32 : BitVec 32 := 1#32
  let v2 : BitVec 32 := Scalar.select v1 c1_i32 c8_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c7_i32 : BitVec 32 := 7#32
  let v12 : BitVec 32 := Scalar.select v11 c0_i32_5 c7_i32
  let v13 : BitVec 32 := Scalar.select v0 v10 v12
  let c0_i32_6 : BitVec 32 := 0#32
  let c0_i32_7 : BitVec 32 := 0#32
  ![v13.toNat, c0_i32_6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1600 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BabRefIdeal.lean ====
abbrev S1 : Shape := ⟨1, ![1]⟩
abbrev S1x2048x1600 : Shape := ⟨3, ![1, 2048, 1600]⟩
abbrev S1024x1600 : Shape := ⟨2, ![1024, 1600]⟩
abbrev S_ : Shape := ⟨0, ![]⟩
abbrev S2048x1600 : Shape := ⟨2, ![2048, 1600]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x2048x1600, .f32⟩
  | .hbm, ⟨2, _⟩ => ⟨S1024x1600, .f32⟩
  | .hbm, ⟨3, _⟩ => ⟨S1024x1600, .f32⟩
  | .hbm, ⟨4, _⟩ => ⟨S1x2048x1600, .f32⟩
  | .hbm, ⟨5, _⟩ => ⟨S1x2048x1600, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x1600, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x1600, .f32⟩
  | .hbm, ⟨14, _⟩ => ⟨S2048x1600, .f32⟩
  | .hbm, ⟨15, _⟩ => ⟨S1x2048x1600, .f32⟩
  | .hbm, ⟨16, _⟩ => ⟨S_, .f32⟩
  | .hbm, ⟨17, _⟩ => ⟨S1x2048x1600, .f32⟩
  | .hbm, ⟨18, _⟩ => ⟨S1x2048x1600, .f32⟩
  | .hbm, ⟨19, _⟩ => ⟨S_, .f32⟩
  | .hbm, ⟨20, _⟩ => ⟨S1x2048x1600, .f32⟩
  | .hbm, ⟨21, _⟩ => ⟨S1x2048x1600, .f32⟩
  | .hbm, ⟨22, _⟩ => ⟨S1x2048x1600, .f32⟩
  | .hbm, ⟨23, _⟩ => ⟨S_, .f32⟩
  | .hbm, ⟨24, _⟩ => ⟨S1x2048x1600, .f32⟩
  | .hbm, ⟨25, _⟩ => ⟨S1x2048x1600, .f32⟩
  | .hbm, ⟨26, _⟩ => ⟨S1x2048x1600, .f32⟩
  | .hbm, ⟨27, _⟩ => ⟨S_, .f32⟩
  | .hbm, ⟨28, _⟩ => ⟨S1x2048x1600, .f32⟩
  | .hbm, ⟨29, _⟩ => ⟨S1x2048x1600, .f32⟩
  | .hbm, ⟨30, _⟩ => ⟨S1x2048x1600, .f32⟩
  | .hbm, ⟨31, _⟩ => ⟨S_, .f32⟩
  | .hbm, ⟨32, _⟩ => ⟨S1x2048x1600, .f32⟩
  | .hbm, ⟨33, _⟩ => ⟨S1x2048x1600, .f32⟩
  | .hbm, ⟨34, _⟩ => ⟨S_, .f32⟩
  | .hbm, ⟨35, _⟩ => ⟨S1x2048x1600, .f32⟩
  | .hbm, ⟨36, _⟩ => ⟨S1x2048x1600, .f32⟩
  | .hbm, ⟨37, _⟩ => ⟨S1x2048x1600, .f32⟩
  | .hbm, ⟨38, _⟩ => ⟨S_, .f32⟩
  | .hbm, ⟨39, _⟩ => ⟨S1x2048x1600, .f32⟩
  | .hbm, ⟨40, _⟩ => ⟨S1x2048x1600, .f32⟩
  | .hbm, ⟨41, _⟩ => ⟨S1x2048x1600, .f32⟩
  | .hbm, ⟨42, _⟩ => ⟨S_, .f32⟩
  | .hbm, ⟨43, _⟩ => ⟨S1x2048x1600, .f32⟩
  | .hbm, ⟨44, _⟩ => ⟨S1x2048x1600, .f32⟩
  | .hbm, ⟨45, _⟩ => ⟨S1x2048x1600, .f32⟩
  | .hbm, ⟨46, _⟩ => ⟨S_, .f32⟩
  | .hbm, ⟨47, _⟩ => ⟨S1x2048x1600, .f32⟩
  | .hbm, ⟨48, _⟩ => ⟨S1x2048x1600, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Babo.lean ====
abbrev S1 : Shape := ⟨1, ![1]⟩
abbrev S1x512x2048 : Shape := ⟨3, ![1, 512, 2048]⟩
abbrev S256x2048 : Shape := ⟨2, ![256, 2048]⟩
abbrev S1x128x2048 : Shape := ⟨3, ![1, 128, 2048]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1x512x2048, .f32⟩
  | .hbm, ⟨1, _⟩ => ⟨S256x2048, .f32⟩
  | .hbm, ⟨2, _⟩ => ⟨S256x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .hbm, ⟨8, _⟩ => ⟨S1x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_4 : BitVec 32 := 0#32
  let v19 : BitVec 1 := Scalar.cmpi .eq arg0 c0_i32_4
  let v20 : BitVec 32 := Scalar.extui v19
  let c0_i32_5 : BitVec 32 := 0#32
  let v21 : BitVec 1 := Scalar.cmpi .ne v20 c0_i32_5
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BaboIdeal.lean ====
abbrev S1 : Shape := ⟨1, ![1]⟩
abbrev S1x512x2048 : Shape := ⟨3, ![1, 512, 2048]⟩
abbrev S256x2048 : Shape := ⟨2, ![256, 2048]⟩
abbrev S1x128x2048 : Shape := ⟨3, ![1, 128, 2048]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1x512x2048, .f32⟩
  | .hbm, ⟨1, _⟩ => ⟨S256x2048, .f32⟩
  | .hbm, ⟨2, _⟩ => ⟨S256x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .hbm, ⟨8, _⟩ => ⟨S1x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_4 : BitVec 32 := 0#32
  let v19 : BitVec 1 := Scalar.cmpi .eq arg0 c0_i32_4
  let v20 : BitVec 32 := Scalar.extui v19
  let c0_i32_5 : BitVec 32 := 0#32
  let v21 : BitVec 1 := Scalar.cmpi .ne v20 c0_i32_5
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BaboRefIdeal.lean ====
abbrev S1 : Shape := ⟨1, ![1]⟩
abbrev S1x512x2048 : Shape := ⟨3, ![1, 512, 2048]⟩
abbrev S256x2048 : Shape := ⟨2, ![256, 2048]⟩
abbrev S_ : Shape := ⟨0, ![]⟩
abbrev S512x2048 : Shape := ⟨2, ![512, 2048]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x512x2048, .f32⟩
  | .hbm, ⟨2, _⟩ => ⟨S256x2048, .f32⟩
  | .hbm, ⟨3, _⟩ => ⟨S256x2048, .f32⟩
  | .hbm, ⟨4, _⟩ => ⟨S1x512x2048, .f32⟩
  | .hbm, ⟨5, _⟩ => ⟨S1x512x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x2048, .f32⟩
  | .hbm, ⟨14, _⟩ => ⟨S512x2048, .f32⟩
  | .hbm, ⟨15, _⟩ => ⟨S1x512x2048, .f32⟩
  | .hbm, ⟨16, _⟩ => ⟨S_, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S1x512x2048, .f32⟩
  | .hbm, ⟨23, _⟩ => ⟨S_, .f32⟩
  | .hbm, ⟨24, _⟩ => ⟨S1x512x2048, .f32⟩
  | .hbm, ⟨25, _⟩ => ⟨S1x512x2048, .f32⟩
  | .hbm, ⟨26, _⟩ => ⟨S1x512x2048, .f32⟩
  | .hbm, ⟨27, _⟩ => ⟨S_, .f32⟩
  | .hbm, ⟨28, _⟩ => ⟨S1x512x2048, .f32⟩
  | .hbm, ⟨29, _⟩ => ⟨S1x512x2048, .f32⟩
  | .hbm, ⟨30, _⟩ => ⟨S1x512x2048, .f32⟩
  | .hbm, ⟨31, _⟩ => ⟨S_, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S1x512x2048, .f32⟩
  | .hbm, ⟨38, _⟩ => ⟨S_, .f32⟩
  | .hbm, ⟨39, _⟩ => ⟨S1x512x2048, .f32⟩
  | .hbm, ⟨40, _⟩ => ⟨S1x512x2048, .f32⟩
  | .hbm, ⟨41, _⟩ => ⟨S1x512x2048, .f32⟩
  | .hbm, ⟨42, _⟩ => ⟨S_, .f32⟩
  | .hbm, ⟨43, _⟩ => ⟨S1x512x2048, .f32⟩
  | .hbm, ⟨44, _⟩ => ⟨S1x512x2048, .f32⟩
  | .hbm, ⟨45, _⟩ => ⟨S1x512x2048, .f32⟩
  | .hbm, ⟨46, _⟩ => ⟨S_, .f32⟩
  | .hbm, ⟨47, _⟩ => ⟨S1x512x2048, .f32⟩
  | .hbm, ⟨48, _⟩ => ⟨S1x512x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Bssi.lean ====
abbrev S1 : Shape := ⟨1, ![1]⟩
abbrev S1x512x1024 : Shape := ⟨3, ![1, 512, 1024]⟩
abbrev S256x1024 : Shape := ⟨2, ![256, 1024]⟩
abbrev S1x256x1024 : Shape := ⟨3, ![1, 256, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_5 : BitVec 32 := 0#32
  let v19 : BitVec 1 := Scalar.cmpi .eq arg0 c0_i32_5
  let v20 : BitVec 32 := Scalar.extui v19
  let c0_i32_6 : BitVec 32 := 0#32
  let v21 : BitVec 1 := Scalar.cmpi .ne v20 c0_i32_6
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BssiIdeal.lean ====
abbrev S1 : Shape := ⟨1, ![1]⟩
abbrev S1x512x1024 : Shape := ⟨3, ![1, 512, 1024]⟩
abbrev S256x1024 : Shape := ⟨2, ![256, 1024]⟩
abbrev S1x256x1024 : Shape := ⟨3, ![1, 256, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_5 : BitVec 32 := 0#32
  let v19 : BitVec 1 := Scalar.cmpi .eq arg0 c0_i32_5
  let v20 : BitVec 32 := Scalar.extui v19
  let c0_i32_6 : BitVec 32 := 0#32
  let v21 : BitVec 1 := Scalar.cmpi .ne v20 c0_i32_6
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BssiRefIdeal.lean ====
abbrev S1 : Shape := ⟨1, ![1]⟩
abbrev S1x512x1024 : Shape := ⟨3, ![1, 512, 1024]⟩
abbrev S256x1024 : Shape := ⟨2, ![256, 1024]⟩
abbrev S_ : Shape := ⟨0, ![]⟩
abbrev S512x1024 : Shape := ⟨2, ![512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x512x1024, .f32⟩
  | .hbm, ⟨2, _⟩ => ⟨S256x1024, .f32⟩
  | .hbm, ⟨3, _⟩ => ⟨S256x1024, .f32⟩
  | .hbm, ⟨4, _⟩ => ⟨S1x512x1024, .f32⟩
  | .hbm, ⟨5, _⟩ => ⟨S1x512x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x1024, .f32⟩
  | .hbm, ⟨14, _⟩ => ⟨S512x1024, .f32⟩
  | .hbm, ⟨15, _⟩ => ⟨S1x512x1024, .f32⟩
  | .hbm, ⟨16, _⟩ => ⟨S_, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S_, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S_, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S1x512x1024, .f32⟩
  | .hbm, ⟨38, _⟩ => ⟨S_, .f32⟩
  | .hbm, ⟨39, _⟩ => ⟨S1x512x1024, .f32⟩
  | .hbm, ⟨40, _⟩ => ⟨S1x512x1024, .f32⟩
  | .hbm, ⟨41, _⟩ => ⟨S1x512x1024, .f32⟩
  | .hbm, ⟨42, _⟩ => ⟨S_, .f32⟩
  | .hbm, ⟨43, _⟩ => ⟨S1x512x1024, .f32⟩
  | .hbm, ⟨44, _⟩ => ⟨S1x512x1024, .f32⟩
  | .hbm, ⟨45, _⟩ => ⟨S1x512x1024, .f32⟩
  | .hbm, ⟨46, _⟩ => ⟨S_, .f32⟩
  | .hbm, ⟨47, _⟩ => ⟨S1x512x1024, .f32⟩
  | .hbm, ⟨48, _⟩ => ⟨S1x512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Bsso.lean ====
abbrev S1 : Shape := ⟨1, ![1]⟩
abbrev S1x1024x512 : Shape := ⟨3, ![1, 1024, 512]⟩
abbrev S512x512 : Shape := ⟨2, ![512, 512]⟩
abbrev S1x256x512 : Shape := ⟨3, ![1, 256, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x512, .f32⟩
  | .hbm, ⟨1, _⟩ => ⟨S512x512, .f32⟩
  | .hbm, ⟨2, _⟩ => ⟨S512x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_4 : BitVec 32 := 0#32
  let v19 : BitVec 1 := Scalar.cmpi .eq arg0 c0_i32_4
  let v20 : BitVec 32 := Scalar.extui v19
  let c0_i32_5 : BitVec 32 := 0#32
  let v21 : BitVec 1 := Scalar.cmpi .ne v20 c0_i32_5
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg1 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .slt arg0 c0_i32_4
  let c0_i32_5 : BitVec 32 := 0#32
  let c1_i32_6 : BitVec 32 := 1#32
  let v12 : BitVec 32 := Scalar.select v11 c0_i32_5 c1_i32_6
  let v13 : BitVec 32 := Scalar.select v0 v10 v12
  let c0_i32_7 : BitVec 32 := 0#32
  let c0_i32_8 : BitVec 32 := 0#32
  ![v13.toNat, c0_i32_7.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BssoRefIdeal.lean ====
abbrev S1 : Shape := ⟨1, ![1]⟩
abbrev S1x1024x512 : Shape := ⟨3, ![1, 1024, 512]⟩
abbrev S512x512 : Shape := ⟨2, ![512, 512]⟩
abbrev S_ : Shape := ⟨0, ![]⟩
abbrev S1024x512 : Shape := ⟨2, ![1024, 512]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1024x512, .f32⟩
  | .hbm, ⟨2, _⟩ => ⟨S512x512, .f32⟩
  | .hbm, ⟨3, _⟩ => ⟨S512x512, .f32⟩
  | .hbm, ⟨4, _⟩ => ⟨S1x1024x512, .f32⟩
  | .hbm, ⟨5, _⟩ => ⟨S1x1024x512, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x512, .f32⟩
  | .hbm, ⟨14, _⟩ => ⟨S1024x512, .f32⟩
  | .hbm, ⟨15, _⟩ => ⟨S1x1024x512, .f32⟩
  | .hbm, ⟨16, _⟩ => ⟨S_, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S_, .f32⟩
  | .hbm, ⟨28, _⟩ => ⟨S1x1024x512, .f32⟩
  | .hbm, ⟨29, _⟩ => ⟨S1x1024x512, .f32⟩
  | .hbm, ⟨30, _⟩ => ⟨S1x1024x512, .f32⟩
  | .hbm, ⟨31, _⟩ => ⟨S_, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S_, .f32⟩
  | .hbm, ⟨39, _⟩ => ⟨S1x1024x512, .f32⟩
  | .hbm, ⟨40, _⟩ => ⟨S1x1024x512, .f32⟩
  | .hbm, ⟨41, _⟩ => ⟨S1x1024x512, .f32⟩
  | .hbm, ⟨42, _⟩ => ⟨S_, .f32⟩
  | .hbm, ⟨43, _⟩ => ⟨S1x1024x512, .f32⟩
  | .hbm, ⟨44, _⟩ => ⟨S1x1024x512, .f32⟩
  | .hbm, ⟨45, _⟩ => ⟨S1x1024x512, .f32⟩
  | .hbm, ⟨46, _⟩ => ⟨S_, .f32⟩
  | .hbm, ⟨47, _⟩ => ⟨S1x1024x512, .f32⟩
  | .hbm, ⟨48, _⟩ => ⟨S1x1024x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Dplen.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DplenRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dcat.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatIdeal.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dssm.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x1024, .bf16⟩
  | .hbm, ⟨3, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DssmRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Pgate.lean ====
abbrev S4096x2048 : Shape := ⟨2, ![4096, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PgateIdeal.lean ====
abbrev S4096x2048 : Shape := ⟨2, ![4096, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PgateRefIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Abin.lean ====
abbrev S4096x2048 : Shape := ⟨2, ![4096, 2048]⟩
abbrev S2048x6400 : Shape := ⟨2, ![2048, 6400]⟩
abbrev S4096x6400 : Shape := ⟨2, ![4096, 6400]⟩
abbrev S512x2048 : Shape := ⟨2, ![512, 2048]⟩
abbrev S2048x1280 : Shape := ⟨2, ![2048, 1280]⟩
abbrev S512x1280 : Shape := ⟨2, ![512, 1280]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x6400, .f32⟩
  | .hbm, ⟨2, _⟩ => ⟨S4096x2048, .bf16⟩
  | .hbm, ⟨3, _⟩ => ⟨S2048x6400, .bf16⟩
  | .hbm, ⟨4, _⟩ => ⟨S4096x6400, .f32⟩
  | .local _ .vmem, ⟨0, _⟩ => ⟨S512x2048, .bf16⟩
  | .local _ .vmem, ⟨1, _⟩ => ⟨S512x2048, .bf16⟩
  | .local _ .vmem, ⟨2, _⟩ => ⟨S2048x1280, .bf16⟩
  | .local _ .vmem, ⟨3, _⟩ => ⟨S2048x1280, .bf16⟩
  | .local _ .vmem, ⟨4, _⟩ => ⟨S512x1280, .f32⟩
  | .local _ .vmem, ⟨5, _⟩ => ⟨S512x1280, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbinRefIdeal.lean ====
abbrev S4096x2048 : Shape := ⟨2, ![4096, 2048]⟩
abbrev S2048x6400 : Shape := ⟨2, ![2048, 6400]⟩
abbrev S4096x6400 : Shape := ⟨2, ![4096, 6400]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6400, .f32⟩
  | .hbm, ⟨2, _⟩ => ⟨S4096x6400, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Spec.lean ====
/-
  The gradient of the chunked band attention as plain formulas over the extended reals, which both programs are read
  down to: heads, chunks, rows of a chunk and columns of its band are named by `Fin` coordinates.
-/
module

public import Idealize.ShloMosaic.Lib.Pointwise

@[expose] public section

noncomputable section

namespace Cert.Spec

open Idealize.ShloMosaic

/-- An array of one row per position of the sequence and all the heads side by side. -/
abbrev Seq := (⟨2, ![4096, 1024]⟩ : Shape).Idx → EReal
/-- The bias: per head, row of a chunk, column of its band. -/
abbrev Bias := (⟨3, ![16, 64, 576]⟩ : Shape).Idx → EReal

/-- Column `d` of head `h` in the row of all the heads. -/
abbrev lane (h : Fin 16) (d : Fin 64) : Fin 1024 := ⟨h.val * 64 + d.val, by omega⟩
/-- Row `i` of chunk `c` in the sequence. -/
abbrev row (c i : Fin 64) : Fin 4096 := ⟨c.val * 64 + i.val, by omega⟩
/-- Column `j` of the band of chunk `c` in the padded sequence. -/
abbrev col (c : Fin 64) (j : Fin 576) : Fin 4608 := ⟨c.val * 64 + j.val, by omega⟩

/-- Head `h` of a sequence. -/
def head (X : Seq) (h : Fin 16) (t : Fin 4096) (d : Fin 64) : EReal := X (ix2 t (lane h d))
/-- Head `h` of a sequence with 512 rows of zeros in front. -/
def padded (X : Seq) (h : Fin 16) (t : Fin 4608) (d : Fin 64) : EReal :=
  if ht : 512 ≤ t.val then head X h ⟨t.val - 512, by omega⟩ d else 0

/-- The scores of row `i` of chunk `c`: `-∞` at a column that lies in front of the sequence. -/
def score (Q K : Seq) (B : Bias) (h : Fin 16) (c i : Fin 64) (j : Fin 576) : EReal :=
  if 512 ≤ c.val * 64 + j.val then
    (∑ d : Fin 64, head Q h (row c i) d * padded K h (col c j) d) + B (ix3 h i j) else ⊥

/-- The greatest entry of a row. -/
def top (s : Fin 576 → EReal) : EReal := Finset.univ.fold max ⊥ s
/-- The exponentials of a row, its greatest entry taken away. -/
def expo (s : Fin 576 → EReal) (j : Fin 576) : EReal := Ideal.exp (s j - top s)
/-- The softmax of a row. -/
def soft (s : Fin 576 → EReal) (j : Fin 576) : EReal := Ideal.div (expo s j) (∑ k, expo s k)
/-- The gradient of a row of scores, from its probabilities and the gradient of those. -/
def back (p g : Fin 576 → EReal) (j : Fin 576) : EReal := p j * (g j - ∑ k, p k * g k)

/-- The probabilities. -/
def prob (Q K : Seq) (B : Bias) (h : Fin 16) (c i : Fin 64) : Fin 576 → EReal := soft (score Q K B h c i)
/-- The gradient of the probabilities. -/
def dprob (V D : Seq) (h : Fin 16) (c i : Fin 64) (j : Fin 576) : EReal :=
  ∑ d : Fin 64, head D h (row c i) d * padded V h (col c j) d
/-- The gradient of the scores. -/
def dscore (Q K V : Seq) (B : Bias) (D : Seq) (h : Fin 16) (c i : Fin 64) : Fin 576 → EReal :=
  back (prob Q K B h c i) (dprob V D h c i)

/-- The gradient of the queries. -/
def dq (Q K V : Seq) (B : Bias) (D : Seq) (h : Fin 16) (c i : Fin 64) (d : Fin 64) : EReal :=
  ∑ j : Fin 576, dscore Q K V B D h c i j * padded K h (col c j) d
/-- What chunk `c` adds to row `t` of the padded sequence, `f` giving the entry per column of the band. -/
def share (f : Fin 576 → EReal) (c : ℕ) (t : Fin 4608) : EReal :=
  if ht : c * 64 ≤ t.val ∧ t.val < c * 64 + 576 then f ⟨t.val - c * 64, by omega⟩ else 0
/-- The gradient of the padded keys: the sum over the chunks whose band holds the row. -/
def dk (Q K V : Seq) (B : Bias) (D : Seq) (h : Fin 16) (t : Fin 4608) (d : Fin 64) : EReal :=
  ∑ c : Fin 64, share (fun j => ∑ i : Fin 64, dscore Q K V B D h c i j * head Q h (row c i) d) c.val t
/-- The gradient of the padded values. -/
def dv (Q K : Seq) (B : Bias) (D : Seq) (h : Fin 16) (t : Fin 4608) (d : Fin 64) : EReal :=
  ∑ c : Fin 64, share (fun j => ∑ i : Fin 64, prob Q K B h c i j * head D h (row c i) d) c.val t
/-- The gradient of the bias: the sum over the chunks. -/
def db (Q K V : Seq) (B : Bias) (D : Seq) (h : Fin 16) (i : Fin 64) (j : Fin 576) : EReal :=
  ∑ c : Fin 64, dscore Q K V B D h c i j

end Cert.Spec

end
-- ==== Proof.Entry.lean ====
/-
  The arrays the kernel's windows read, as the host lines before the launch leave them: heads of the arguments, the
  keys and the values with 512 rows of zeros in front.
-/
module

public import proofs.«01_k».proof.Proof.Spec
public import proofs.«01_k».proof.Proof.Gen.KernelIdeal.Value
public import Idealize.ShloMosaic.Lib.StableHlo.Run
public import Idealize.ShloMosaic.Lib.KernelVsHost

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ)

/-- The queries on core `c`. -/
abbrev Qa (c : Dev nD) : Spec.Seq := m ((c : Thread nD τ).loc main_arg0)
/-- The keys. -/
abbrev Ka (c : Dev nD) : Spec.Seq := m ((c : Thread nD τ).loc main_arg1)
/-- The values. -/
abbrev Va (c : Dev nD) : Spec.Seq := m ((c : Thread nD τ).loc main_arg2)
/-- The bias. -/
abbrev Ba (c : Dev nD) : Spec.Bias := m ((c : Thread nD τ).loc main_arg3)
/-- The gradient of the attention's result. -/
abbrev Da (c : Dev nD) : Spec.Seq := m ((c : Thread nD τ).loc main_arg4)

/-- The host lines before the launch in one list. -/
theorem V_eq (c : Dev nD) (b : Ref sig .tc) : V m c b = StableHlo.after
    (hostOps0 ++ (hostOps0_1 ++ (hostOps0_2 ++ (hostOps0_3 ++ hostOps0_4)))) (fun b => m (c, b)) b := by
  simp only [V, List.flatten_cons, List.flatten_nil, List.append_nil]

/-- The queries' window reads their heads. -/
theorem V_q (c : Dev nD) (h : Fin 16) (t : Fin 4096) (d : Fin 64) :
    (V m c main_v2 : FVec Ideal S16x4096x64 .bf16) (ix3 h t d) = Spec.head (Qa m c) h t d := by
  have e : (V m c main_v2 : FVec Ideal S16x4096x64 .bf16) = truncf (F := Ideal) .bf16 (transpose S16x4096x64 [1, 0, 2]
      (shapeCast S4096x16x64 (Qa m c : FVec Ideal S4096x1024 .f32) shapeCasts_S4096x1024_S4096x16x64)
      transposes_S4096x16x64_S16x4096x64_1_0_2) bitsLt_bf16_f32 := by
    rw [V_eq]
    simp only [hostOps0, hostOps0_1, hostOps0_2, hostOps0_3, hostOps0_4, List.cons_append, List.nil_append]
    after_results_simp
    rfl
  rw [e]
  pointwise [Spec.head, Spec.lane]

/-- The gradient's window reads its heads. -/
theorem V_d (c : Dev nD) (h : Fin 16) (t : Fin 4096) (d : Fin 64) :
    (V m c main_v13 : FVec Ideal S16x4096x64 .bf16) (ix3 h t d) = Spec.head (Da m c) h t d := by
  have e : (V m c main_v13 : FVec Ideal S16x4096x64 .bf16) = truncf (F := Ideal) .bf16 (transpose S16x4096x64 [1, 0, 2]
      (shapeCast S4096x16x64 (Da m c : FVec Ideal S4096x1024 .f32) shapeCasts_S4096x1024_S4096x16x64)
      transposes_S4096x16x64_S16x4096x64_1_0_2) bitsLt_bf16_f32 := by
    rw [V_eq]
    simp only [hostOps0, hostOps0_1, hostOps0_2, hostOps0_3, hostOps0_4, List.cons_append, List.nil_append]
    after_results_simp
    rfl
  rw [e]
  pointwise [Spec.head, Spec.lane]

/-- The keys' window reads their heads behind 512 rows of zeros. -/
theorem V_k (c : Dev nD) (h : Fin 16) (t : Fin 4608) (d : Fin 64) :
    (V m c main_v6 : FVec Ideal S16x4608x64 .bf16) (ix3 h t d) = Spec.padded (Ka m c) h t d := by
  have e : (V m c main_v6 : FVec Ideal S16x4608x64 .bf16) = pad S16x4608x64 ![0, 512, 0] ![0, 0, 0] ![0, 0, 0]
      (truncf (F := Ideal) .bf16 (transpose S16x4096x64 [1, 0, 2]
        (shapeCast S4096x16x64 (Ka m c : FVec Ideal S4096x1024 .f32) shapeCasts_S4096x1024_S4096x16x64)
        transposes_S4096x16x64_S16x4096x64_1_0_2) bitsLt_bf16_f32)
      (sitofp (F := Ideal) .bf16 (constantI S_ 32 0#32)) pads_S16x4096x64_S16x4608x64_000_51200_000 h_S_ := by
    rw [V_eq]
    simp only [hostOps0, hostOps0_1, hostOps0_2, hostOps0_3, hostOps0_4, List.cons_append, List.nil_append]
    after_results_simp
    rfl
  rw [e]
  pointwise [Spec.padded, Spec.head, Spec.lane]
  by_cases ht : 512 ≤ t.val
  · rw [dif_pos ⟨ht, by omega⟩, dif_pos ht]
  · rw [dif_neg fun hh => ht hh.1, dif_neg ht]
    exact sitofp_zero (φ := .bf16)

/-- The values' window reads their heads behind 512 rows of zeros. -/
theorem V_v (c : Dev nD) (h : Fin 16) (t : Fin 4608) (d : Fin 64) :
    (V m c main_v10 : FVec Ideal S16x4608x64 .bf16) (ix3 h t d) = Spec.padded (Va m c) h t d := by
  have e : (V m c main_v10 : FVec Ideal S16x4608x64 .bf16) = pad S16x4608x64 ![0, 512, 0] ![0, 0, 0] ![0, 0, 0]
      (truncf (F := Ideal) .bf16 (transpose S16x4096x64 [1, 0, 2]
        (shapeCast S4096x16x64 (Va m c : FVec Ideal S4096x1024 .f32) shapeCasts_S4096x1024_S4096x16x64)
        transposes_S4096x16x64_S16x4096x64_1_0_2) bitsLt_bf16_f32)
      (sitofp (F := Ideal) .bf16 (constantI S_ 32 0#32)) pads_S16x4096x64_S16x4608x64_000_51200_000 h_S_ := by
    rw [V_eq]
    simp only [hostOps0, hostOps0_1, hostOps0_2, hostOps0_3, hostOps0_4, List.cons_append, List.nil_append]
    after_results_simp
    rfl
  rw [e]
  pointwise [Spec.padded, Spec.head, Spec.lane]
  by_cases ht : 512 ≤ t.val
  · rw [dif_pos ⟨ht, by omega⟩, dif_pos ht]
  · rw [dif_neg fun hh => ht hh.1, dif_neg ht]
    exact sitofp_zero (φ := .bf16)

/-! ## The blocks the points read -/

/-- The head that entry `a` of a block is of, at point `t`. -/
abbrev hd (t : Fin cfg0.N) (a : Fin 2) : Fin 16 := ⟨t.val / 64 * 2 + a.val, by have : t.val < 512 := t.isLt; omega⟩
/-- The chunk of point `t`. -/
abbrev ck (t : Fin cfg0.N) : Fin 64 := ⟨t.val % 64, by omega⟩

theorem index_q : ∀ t : Fin grid0.N, win0_0.index t 0 = t.val / 64 ∧ win0_0.index t 1 = t.val % 64 ∧ win0_0.index t 2 = 0 := by
  decide +kernel
theorem index_k : ∀ t : Fin grid0.N, win0_1.index t 0 = t.val / 64 ∧ win0_1.index t 1 = 0 ∧ win0_1.index t 2 = 0 := by
  decide +kernel
theorem index_v : ∀ t : Fin grid0.N, win0_2.index t 0 = t.val / 64 ∧ win0_2.index t 1 = 0 ∧ win0_2.index t 2 = 0 := by
  decide +kernel
theorem index_b : ∀ t : Fin grid0.N, win0_3.index t 0 = t.val / 64 ∧ win0_3.index t 1 = 0 ∧ win0_3.index t 2 = 0 := by
  decide +kernel
theorem index_d : ∀ t : Fin grid0.N, win0_4.index t 0 = t.val / 64 ∧ win0_4.index t 1 = t.val % 64 ∧ win0_4.index t 2 = 0 := by
  decide +kernel

/-- The block of queries at a point. -/
theorem iblk_q (c : Dev nD) (t : Fin cfg0.N) (a : Fin 2) (i d : Fin 64) :
    (iblk m c 0 t : FVec Ideal S2x64x64 .bf16) (ix3 a i d) = Spec.head (Qa m c) (hd t a) (Spec.row (ck t) i) d := by
  rw [← V_q]
  unfold iblk
  rw [View.read_apply]
  show V m c main_v2 _ = V m c main_v2 _
  congr 1
  funext x
  apply Fin.ext
  obtain ⟨h0, h1, h2⟩ := index_q t
  match x with
  | ⟨0, _⟩ => show win0_0.index t 0 * 2 + 1 * a.val = _; rw [h0]; show _ = t.val / 64 * 2 + a.val; omega
  | ⟨1, _⟩ => show win0_0.index t 1 * 64 + 1 * i.val = _; rw [h1]; show _ = t.val % 64 * 64 + i.val; omega
  | ⟨2, _⟩ => show win0_0.index t 2 * 64 + 1 * d.val = _; rw [h2]; show _ = d.val; omega

/-- The block of keys at a point. -/
theorem iblk_k (c : Dev nD) (t : Fin cfg0.N) (a : Fin 2) (r : Fin 4608) (d : Fin 64) :
    (iblk m c 1 t : FVec Ideal S2x4608x64 .bf16) (ix3 a r d) = Spec.padded (Ka m c) (hd t a) r d := by
  rw [← V_k]
  unfold iblk
  rw [View.read_apply]
  show V m c main_v6 _ = V m c main_v6 _
  congr 1
  funext x
  apply Fin.ext
  obtain ⟨h0, h1, h2⟩ := index_k t
  match x with
  | ⟨0, _⟩ => show win0_1.index t 0 * 2 + 1 * a.val = _; rw [h0]; show _ = t.val / 64 * 2 + a.val; omega
  | ⟨1, _⟩ => show win0_1.index t 1 * 4608 + 1 * r.val = _; rw [h1]; show _ = r.val; omega
  | ⟨2, _⟩ => show win0_1.index t 2 * 64 + 1 * d.val = _; rw [h2]; show _ = d.val; omega

/-- The block of values at a point. -/
theorem iblk_v (c : Dev nD) (t : Fin cfg0.N) (a : Fin 2) (r : Fin 4608) (d : Fin 64) :
    (iblk m c 2 t : FVec Ideal S2x4608x64 .bf16) (ix3 a r d) = Spec.padded (Va m c) (hd t a) r d := by
  rw [← V_v]
  unfold iblk
  rw [View.read_apply]
  show V m c main_v10 _ = V m c main_v10 _
  congr 1
  funext x
  apply Fin.ext
  obtain ⟨h0, h1, h2⟩ := index_v t
  match x with
  | ⟨0, _⟩ => show win0_2.index t 0 * 2 + 1 * a.val = _; rw [h0]; show _ = t.val / 64 * 2 + a.val; omega
  | ⟨1, _⟩ => show win0_2.index t 1 * 4608 + 1 * r.val = _; rw [h1]; show _ = r.val; omega
  | ⟨2, _⟩ => show win0_2.index t 2 * 64 + 1 * d.val = _; rw [h2]; show _ = d.val; omega

/-- The block of the bias at a point. -/
theorem iblk_b (c : Dev nD) (t : Fin cfg0.N) (a : Fin 2) (i : Fin 64) (j : Fin 576) :
    (iblk m c 3 t : FVec Ideal S2x64x576 .f32) (ix3 a i j) = Ba m c (ix3 (hd t a) i j) := by
  rw [show Ba m c = V m c main_arg3 from (V_main_arg3 m c).symm]
  unfold iblk
  rw [View.read_apply]
  show V m c main_arg3 _ = V m c main_arg3 _
  congr 1
  funext x
  apply Fin.ext
  obtain ⟨h0, h1, h2⟩ := index_b t
  match x with
  | ⟨0, _⟩ => show win0_3.index t 0 * 2 + 1 * a.val = _; rw [h0]; show _ = t.val / 64 * 2 + a.val; omega
  | ⟨1, _⟩ => show win0_3.index t 1 * 64 + 1 * i.val = _; rw [h1]; show _ = i.val; omega
  | ⟨2, _⟩ => show win0_3.index t 2 * 576 + 1 * j.val = _; rw [h2]; show _ = j.val; omega

/-- The block of the result's gradient at a point. -/
theorem iblk_d (c : Dev nD) (t : Fin cfg0.N) (a : Fin 2) (i d : Fin 64) :
    (iblk m c 4 t : FVec Ideal S2x64x64 .bf16) (ix3 a i d) = Spec.head (Da m c) (hd t a) (Spec.row (ck t) i) d := by
  rw [← V_d]
  unfold iblk
  rw [View.read_apply]
  show V m c main_v13 _ = V m c main_v13 _
  congr 1
  funext x
  apply Fin.ext
  obtain ⟨h0, h1, h2⟩ := index_d t
  match x with
  | ⟨0, _⟩ => show win0_4.index t 0 * 2 + 1 * a.val = _; rw [h0]; show _ = t.val / 64 * 2 + a.val; omega
  | ⟨1, _⟩ => show win0_4.index t 1 * 64 + 1 * i.val = _; rw [h1]; show _ = t.val % 64 * 64 + i.val; omega
  | ⟨2, _⟩ => show win0_4.index t 2 * 64 + 1 * d.val = _; rw [h2]; show _ = d.val; omega

end Cert.Att

end
-- ==== Proof.Point.lean ====
/-
  What one point of the grid computes, read at an index over the extended reals: the probabilities, the gradient of the
  scores and the three products of them.
-/
module

public import proofs.«01_k».proof.Proof.Entry
public import Idealize.ShloMosaic.Lib.WordCmp
public import Idealize.ShloMosaic.Lib.Tactic

@[expose] public section

set_option maxRecDepth 16384

noncomputable section

namespace Cert.Att

open Cert.KernelIdeal Cert.KernelIdeal.Gen Idealize.ShloMosaic Idealize.ShloMosaic.TcCoe Idealize.SL.Sem

/-- The scores of row `r`, head `a`, at chunk `n`, of a block of queries, a band of keys and a block of the bias. -/
def scores (n : ℕ) (q : FVec Ideal S2x64x64 .bf16) (k : FVec Ideal S2x576x64 .bf16) (b : FVec Ideal S2x64x576 .f32)
    (a : Fin 2) (r : Fin 64) (j : Fin 576) : EReal :=
  if 512 ≤ n * 64 + j.val then (∑ d : Fin 64, q (ix3 a r d) * k (ix3 a j d)) + b (ix3 a r j) else ⊥

/-- The kernel's test of a column, as a test of the column's place in the padded sequence. -/
theorem col_test (n : Fin 64) (j : Fin 576) : IntOp.cmpi .sge (BitVec.ofNat 32 j.val)
    (Scalar.subi (512#32) (Scalar.muli (BitVec.ofNat 32 n.val) 64#32)) = BitVec.ofBool (decide (512 ≤ n.val * 64 + j.val)) := by
  revert n j
  decide +kernel

/-- The word of negative infinity. -/
theorem neg_inf : Ideal.ofBits FTy.f32 0xFF800000#32 = ⊥ := by
  simp [Ideal.ofBits, Ideal.ieee]

/-- The payload that holds a point's probabilities. -/
theorem pay_prob (i : grid0.Coords) (q : FVec Ideal S2x64x64 .bf16) (k : FVec Ideal S2x576x64 .bf16)
    (b : FVec Ideal S2x64x576 .f32) (a : Fin 2) (r : Fin 64) (j : Fin 576) :
    k0_pay13 (F := Ideal) i q k b (ix3 a r j) = Spec.soft (scores (i 1).val q k b a r) j := by
  unfold_payloads
  pointwise [Spec.soft, Spec.expo, Spec.top]
  have hs : ∀ x : Fin 576, Scalar.select (IntOp.cmpi .sge (BitVec.ofNat 32 x.val)
      (Scalar.subi (512#32) (Scalar.muli (BitVec.ofNat 32 (i 1).val) 64#32)))
      (∑ d, q (ix3 a r d) * k (ix3 a x d) + b (ix3 a r x)) (Named.named (F := Ideal) κ "mask" (φ := .f32) 0xF149F2CA#32)
      = scores (i 1).val q k b a r x := fun x => by
    rw [col_test (i 1) x]
    unfold scores
    by_cases hx : 512 ≤ (i 1).val * 64 + x.val
    · rw [if_pos hx, decide_eq_true hx]; rfl
    · rw [if_neg hx, decide_eq_false hx]; rfl
  simp only [hs]
  rw [neg_inf]

/-- The gradient of the scores at a point. -/
theorem pay_ds (v : FVec Ideal S2x576x64 .bf16) (p : FVec Ideal S2x64x576 .f32) (g : FVec Ideal S2x64x64 .bf16)
    (a : Fin 2) (r : Fin 64) (j : Fin 576) :
    k0_pay1 (F := Ideal) v p g (constant S2x64x576 .f32 0x00000000#32) (ix3 a r j)
      = Spec.back (fun x => p (ix3 a r x)) (fun x => ∑ d : Fin 64, g (ix3 a r d) * v (ix3 a x d)) j := by
  unfold_payloads
  pointwise [Spec.back]

/-- What a point adds to the gradient of the bias. -/
theorem pay_db (v : FVec Ideal S2x576x64 .bf16) (p : FVec Ideal S2x64x576 .f32) (g : FVec Ideal S2x64x64 .bf16)
    (z : FVec Ideal S2x64x576 .f32) (x : FVec Ideal S2x64x576 .f32) (y : S2x64x576.Idx) :
    k0_pay2 (F := Ideal) v p g z x y = x y + k0_pay1 (F := Ideal) v p g z y := by
  idx_vars y
  unfold k0_pay2
  pointwise

/-- A point's gradient of the queries. -/
theorem pay_dq (k v : FVec Ideal S2x576x64 .bf16) (p : FVec Ideal S2x64x576 .f32) (g : FVec Ideal S2x64x64 .bf16)
    (z : FVec Ideal S2x64x576 .f32) (a : Fin 2) (r d : Fin 64) :
    k0_pay4 (F := Ideal) k v p g z (ix3 a r d) = ∑ j : Fin 576, k0_pay1 (F := Ideal) v p g z (ix3 a r j) * k (ix3 a j d) := by
  unfold k0_pay4 k0_pay3
  pointwise

/-- What a point adds to the gradient of the keys of its band. -/
theorem pay_dk (q : FVec Ideal S2x64x64 .bf16) (v : FVec Ideal S2x576x64 .bf16) (p : FVec Ideal S2x64x576 .f32)
    (g : FVec Ideal S2x64x64 .bf16) (z : FVec Ideal S2x64x576 .f32) (x : FVec Ideal S2x576x64 .f32)
    (a : Fin 2) (j : Fin 576) (d : Fin 64) :
    k0_pay5 (F := Ideal) q v p g z x (ix3 a j d)
      = x (ix3 a j d) + ∑ r : Fin 64, k0_pay1 (F := Ideal) v p g z (ix3 a r j) * q (ix3 a r d) := by
  unfold k0_pay5 k0_pay3
  pointwise

/-- What a point adds to the gradient of the values of its band. -/
theorem pay_dv (p : FVec Ideal S2x64x576 .f32) (g : FVec Ideal S2x64x64 .bf16) (x : FVec Ideal S2x576x64 .f32)
    (a : Fin 2) (j : Fin 576) (d : Fin 64) :
    k0_pay6 (F := Ideal) p g x (ix3 a j d) = x (ix3 a j d) + ∑ r : Fin 64, p (ix3 a r j) * g (ix3 a r d) := by
  unfold k0_pay6
  pointwise

end Cert.Att

end
-- ==== Proof.Outs.lean ====
/-
  What one point of the grid leaves in each output's staging buffer, as functions of the blocks it reads and of what
  the point before left there.
-/
module

public import proofs.«01_k».proof.Proof.Point
public import Idealize.ShloMosaic.Lib.WritesUnit
public import Idealize.ShloMosaic.Lib.Pipeline.ValueKit.Tiles

@[expose] public section

set_option maxRecDepth 16384

noncomputable section

namespace Cert.Att

open Cert.KernelIdeal Cert.KernelIdeal.Gen Idealize.ShloMosaic Idealize.ShloMosaic.TcCoe Idealize.SL.Sem

theorem hz3 : (![0, 0, 0] : Fin 3 → Nat) = fun _ => 0 := funext fun a => by fin_cases a <;> rfl

/-- Where the band of a chunk begins, as a row of the padded operand. -/
theorem off_band (i : grid0.Coords) : k0_off1 i = ![0, (i 1).val * 64, 0] := by
  have h : ∀ n : Fin 64, BitVec.toNat (Scalar.indexCast (Scalar.muli (BitVec.ofNat 32 n.val) 64#32)) = n.val * 64 := by
    decide +kernel
  have h1 := h (i 1)
  funext a
  fin_cases a
  · rfl
  · exact h1
  · rfl

/-- The chunk of a point. -/
def ch (i : grid0.Coords) : Fin 64 := ⟨(i 1).val, (i 1).isLt⟩

/-- Row `j` of the band of chunk `n`, as a row of the padded operand. -/
def at_band (n : Fin 64) (j : Fin 576) : Fin 4608 := ⟨n.val * 64 + j.val, by omega⟩

/-- A band is read at an index from the padded operand. -/
theorem ld_band {e : EltTy} (i : grid0.Coords) (x : S2x4608x64.Idx → Elt Ideal e)
    (inb : ∀ a, k0_off1 i a + (![2, 576, 64] : Fin 3 → Nat) a ≤ S2x4608x64.size a) (a : Fin 2) (j : Fin 576) (d : Fin 64) :
    View.ld (Val := Elt Ideal) (e' := e) x (Rect.unit (s := S2x4608x64) (k0_off1 i) ![2, 576, 64] inb) (ix3 a j d) = x (ix3 a (at_band (ch i) j) d) :=
  View.ld_unit_apply_of _ _ _ _ _ _ fun b => by
    refine Eq.trans ?_ (congrArg (· + _) (congrFun (off_band i) b).symm)
    fin_cases b
    · exact (Nat.zero_add _).symm
    · rfl
    · exact (Nat.zero_add _).symm

/-- The band of chunk `i 1` of a padded operand. -/
def bandOf (i : grid0.Coords) (x : S2x4608x64.Idx → EReal) : S2x576x64.Idx → EReal :=
  fun y => x (ix3 (y 0) (at_band (ch i) (y 1)) (y 2))

theorem band_apply (i : grid0.Coords) (x : S2x4608x64.Idx → EReal) (a : Fin 2) (j : Fin 576) (d : Fin 64) :
    bandOf i x (ix3 a j d) = x (ix3 a (at_band (ch i) j) d) := rfl

/-- The load of a band of 16-bit entries is the band. -/
theorem ld_bandH (i : grid0.Coords) (x : FVec Ideal S2x4608x64 .bf16)
    (inb : ∀ a, k0_off1 i a + (![2, 576, 64] : Fin 3 → Nat) a ≤ S2x4608x64.size a) :
    View.ld (Val := Elt Ideal) (e' := .bf16) x (Rect.unit (s := S2x4608x64) (k0_off1 i) ![2, 576, 64] inb) = bandOf i x := by
  funext y
  idx_vars y
  exact ld_band (e := .bf16) i x inb _ _ _

/-- The load of a band of 32-bit entries is the band. -/
theorem ld_bandF (i : grid0.Coords) (x : FVec Ideal S2x4608x64 .f32)
    (inb : ∀ a, k0_off1 i a + (![2, 576, 64] : Fin 3 → Nat) a ≤ S2x4608x64.size a) :
    View.ld (Val := Elt Ideal) (e' := .f32) x (Rect.unit (s := S2x4608x64) (k0_off1 i) ![2, 576, 64] inb) = bandOf i x := by
  funext y
  idx_vars y
  exact ld_band (e := .f32) i x inb _ _ _

/-- A store of a band over contents `g` whose payload adds `u` to the band leaves `g` with the chunk's share added. -/
theorem add_band (V : View sig .tc .vmem S2x4608x64 .f32) (f : V.ty.Contents (Elt Ideal)) (i : grid0.Coords)
    (inb : ∀ a, k0_off1 i a + (![2, 576, 64] : Fin 3 → Nat) a ≤ S2x4608x64.size a)
    (w : FVec Ideal S2x576x64 .f32) (L : List (View.Piece (Elt Ideal) S2x4608x64 .f32)) (g : EReal) (u : Fin 576 → EReal)
    (a : Fin 2) (r : Fin 4608) (d : Fin 64)
    (hg : V.read (Elt Ideal) (V.writes (Elt Ideal) f L) (ix3 a r d) = g)
    (hw : ∀ j : Fin 576, (i 1).val * 64 + j.val = r.val → w (ix3 a j d) = g + u j) :
    V.read (Elt Ideal) (V.writes (Elt Ideal) f
      ((⟨Rect.unit (s := S2x4608x64) (k0_off1 i) ![2, 576, 64] inb, w⟩ : View.Piece (Elt Ideal) S2x4608x64 .f32) :: L)) (ix3 a r d)
      = g + Spec.share u (i 1).val r := by
  unfold Spec.share
  by_cases h : (i 1).val * 64 ≤ r.val ∧ r.val < (i 1).val * 64 + 576
  · rw [dif_pos h]
    have hlt : r.val - (i 1).val * 64 < 576 := by omega
    refine (View.read_writes_cons_unit_of_mem V f inb w L (ix3 a r d) (ix3 a ⟨r.val - (i 1).val * 64, hlt⟩ d) (off_band i) ?_).trans
      (hw ⟨r.val - (i 1).val * 64, hlt⟩ (by show _ + (r.val - _) = _; omega))
    intro b
    fin_cases b
    · exact (Nat.zero_add _).symm
    · show r.val = (i 1).val * 64 + (r.val - (i 1).val * 64); omega
    · exact (Nat.zero_add _).symm
  · rw [dif_neg h, add_zero]
    refine (View.read_writes_cons_unit_of_not_mem V f inb w L (ix3 a r d) (off_band i) 1 ?_).trans hg
    show r.val < (i 1).val * 64 ∨ (i 1).val * 64 + 576 ≤ r.val
    omega

/-- A fill of the whole buffer with zeros reads zero. -/
theorem zero_fill (V : View sig .tc .vmem S2x4608x64 .f32) (f : V.ty.Contents (Elt Ideal))
    (inb : ∀ a, (![0, 0, 0] : Fin 3 → Nat) a + (![2, 4608, 64] : Fin 3 → Nat) a ≤ S2x4608x64.size a)
    (w : FVec Ideal S2x4608x64 .f32) (a : Fin 2) (r : Fin 4608) (d : Fin 64) (hw : ∀ y, w y = 0) :
    V.read (Elt Ideal) (V.writes (Elt Ideal) f
      [(⟨Rect.unit (s := S2x4608x64) ![0, 0, 0] ![2, 4608, 64] inb, w⟩ : View.Piece (Elt Ideal) S2x4608x64 .f32)]) (ix3 a r d) = 0 :=
  (View.read_writes_cons_unit_of_mem V f inb w [] (ix3 a r d) (ix3 a r d) hz3 fun b => (Nat.zero_add _).symm).trans (hw _)

/-- A row's probabilities from the blocks a point reads. -/
def probB (i : grid0.Coords) (x0 : FVec Ideal S2x64x64 .bf16) (x1 : FVec Ideal S2x4608x64 .bf16) (x3 : FVec Ideal S2x64x576 .f32)
    (a : Fin 2) (r : Fin 64) : Fin 576 → EReal :=
  Spec.soft fun j => if 512 ≤ (i 1).val * 64 + j.val then
    (∑ d : Fin 64, x0 (ix3 a r d) * x1 (ix3 a (at_band (ch i) j) d)) + x3 (ix3 a r j) else ⊥

/-- A row of the gradient of the scores from the blocks a point reads. -/
def backB (i : grid0.Coords) (x0 : FVec Ideal S2x64x64 .bf16) (x1 x2 : FVec Ideal S2x4608x64 .bf16) (x3 : FVec Ideal S2x64x576 .f32)
    (x4 : FVec Ideal S2x64x64 .bf16) (a : Fin 2) (r : Fin 64) : Fin 576 → EReal :=
  Spec.back (probB i x0 x1 x3 a r) fun j => ∑ d : Fin 64, x4 (ix3 a r d) * x2 (ix3 a (at_band (ch i) j) d)

/-- The stored probabilities at an index. -/
theorem prob_at (i : grid0.Coords) (x0 : FVec Ideal S2x64x64 .bf16) (x1 : FVec Ideal S2x4608x64 .bf16) (x3 : FVec Ideal S2x64x576 .f32)
    (a : Fin 2) (r : Fin 64) (j : Fin 576) :
    k0_pay13 (F := Ideal) i x0 (bandOf i x1) x3 (ix3 a r j)
      = probB i x0 x1 x3 a r j := by
  rw [pay_prob]
  unfold probB
  congr 1

/-- The gradient of the scores at an index. -/
theorem back_at (i : grid0.Coords) (x0 : FVec Ideal S2x64x64 .bf16) (x1 x2 : FVec Ideal S2x4608x64 .bf16) (x3 : FVec Ideal S2x64x576 .f32)
    (x4 : FVec Ideal S2x64x64 .bf16) (a : Fin 2) (r : Fin 64) (j : Fin 576) :
    k0_pay1 (F := Ideal) (bandOf i x2)
      (k0_pay13 (F := Ideal) i x0 (bandOf i x1) x3)
      x4 (constant S2x64x576 .f32 0x00000000#32) (ix3 a r j) = backB i x0 x1 x2 x3 x4 a r j := by
  rw [pay_ds]
  unfold backB
  simp only [prob_at, band_apply]

theorem same_q (x : FVec Ideal S2x64x64 .bf16) : k0_pay10 (F := Ideal) x = x := by unfold k0_pay10; simp only [shapeCast_self]
theorem same_v (x : FVec Ideal S2x576x64 .bf16) : k0_pay12 (F := Ideal) x = x := by unfold k0_pay12; simp only [shapeCast_self]
theorem same_k (x : FVec Ideal S2x576x64 .bf16) : k0_pay11 (F := Ideal) x = x := by unfold k0_pay11; simp only [shapeCast_self]
theorem same_d (x : FVec Ideal S2x64x64 .bf16) : k0_pay14 (F := Ideal) x = x := by unfold k0_pay14; simp only [shapeCast_self]
theorem zero_k (y : S2x4608x64.Idx) : k0_pay7 (F := Ideal) y = 0 := by unfold k0_pay7; idx_vars y; pointwise
theorem zero_v (y : S2x4608x64.Idx) : k0_pay8 (F := Ideal) y = 0 := by unfold k0_pay8; idx_vars y; pointwise
theorem zero_b (y : S2x64x576.Idx) : k0_pay9 (F := Ideal) y = 0 := by unfold k0_pay9; idx_vars y; pointwise

section B
variable (c : Dev nD) (i : grid0.Coords) (a2 : Memref sig .tc .vmem S2x64x64 .bf16) (h2 : a2.IsWhole) (a3 : Memref sig .tc .vmem S2x4608x64 .bf16) (h3 : a3.IsWhole) (a4 : Memref sig .tc .vmem S2x4608x64 .bf16) (h4 : a4.IsWhole) (a5 : Memref sig .tc .vmem S2x64x576 .f32) (h5 : a5.IsWhole) (a6 : Memref sig .tc .vmem S2x64x64 .bf16) (h6 : a6.IsWhole) (a7 : Memref sig .tc .vmem S2x64x64 .f32) (h7 : a7.IsWhole) (a8 : Memref sig .tc .vmem S2x4608x64 .f32) (h8 : a8.IsWhole) (a9 : Memref sig .tc .vmem S2x4608x64 .f32) (h9 : a9.IsWhole) (a10 : Memref sig .tc .vmem S2x64x576 .f32) (h10 : a10.IsWhole)
  (hc : ¬cond0_0 i) (x0 : FVec Ideal S2x64x64 .bf16) (x1 x2 : FVec Ideal S2x4608x64 .bf16) (x3 : FVec Ideal S2x64x576 .f32) (x4 : FVec Ideal S2x64x64 .bf16) (o6 o7 : FVec Ideal S2x4608x64 .f32) (o8 : FVec Ideal S2x64x576 .f32)

/-- What a point leaves in the buffer of the gradient of the queries, over what the point before left. -/
theorem out_B_5 (a : Fin 2) (r d : Fin 64) :
    out0_B_5 (F := Ideal) c i a2 h2 a3 h3 a4 h4 a5 h5 a6 h6 a7 h7 a8 h8 a9 h9 a10 h10 hc x0 x1 x2 x3 x4 o6 o7 o8 (ix3 a r d)
      = ∑ j : Fin 576, backB i x0 x1 x2 x3 x4 a r j * x1 (ix3 a (at_band (ch i) j) d) := by
  unfold out0_B_5
  rw [View.read_writes_eq_canon (Val := Elt Ideal) _ _ _ (cover0_B_5 c i a2 h2 a3 h3 a4 h4 a5 h5 a6 h6 a7 h7 a8 h8 a9 h9 a10 h10 hc x0 x1 x2 x3 x4 o6 o7 o8)]
  unfold kernelRun0_B
  dsimp only
  rw [View.canon_unit_zero hz3]
  simp only [kernelRun0_B.sl.r, kernelRun0_B.sl.r_1, kernelRun0_B.sl.r_2, kernelRun0_B.sl.r_3, kernelRun0_B.sl.r_4, kernelRun0_B.sl.cst_17, View.readAt_eq_ld, h2.read_unread, h3.read_unread, h4.read_unread, h5.read_unread, h6.read_unread, h10.read_unread, View.ld_unit_zero (S := S2x64x64) hz3, View.ld_unit_zero (S := S2x64x576) hz3, ld_bandH, ld_bandF, same_q, same_v, same_k, same_d]
  rw [pay_dq]
  simp only [back_at, band_apply]

/-- What a point leaves in the buffer of the gradient of the keys, over what the point before left. -/
theorem out_B_6 (a : Fin 2) (r : Fin 4608) (d : Fin 64) :
    out0_B_6 (F := Ideal) c i a2 h2 a3 h3 a4 h4 a5 h5 a6 h6 a7 h7 a8 h8 a9 h9 a10 h10 hc x0 x1 x2 x3 x4 o6 o7 o8 (ix3 a r d)
      = o6 (ix3 a r d) + Spec.share (fun j => ∑ q : Fin 64, backB i x0 x1 x2 x3 x4 a q j * x0 (ix3 a q d)) (i 1).val r := by
  unfold out0_B_6
  unfold kernelRun0_B
  dsimp only
  simp only [kernelRun0_B.sl.r, kernelRun0_B.sl.r_1, kernelRun0_B.sl.r_2, kernelRun0_B.sl.r_3, kernelRun0_B.sl.r_4, kernelRun0_B.sl.cst_17, View.readAt_eq_ld, h2.read_unread, h3.read_unread, h4.read_unread, h5.read_unread, h6.read_unread, h10.read_unread, View.ld_unit_zero (S := S2x64x64) hz3, View.ld_unit_zero (S := S2x64x576) hz3, ld_bandH, ld_bandF, same_q, same_v, same_k, same_d]
  refine add_band _ _ i _ _ _ _ _ a r d (congrFun (h8.read_unread (Val := Elt Ideal) o6) (ix3 a r d)) fun j hj => ?_
  have hr : at_band (ch i) j = r := Fin.ext hj
  rw [pay_dk, band_apply, h8.read_unread, hr]
  simp only [back_at]

/-- What a point leaves in the buffer of the gradient of the values, over what the point before left. -/
theorem out_B_7 (a : Fin 2) (r : Fin 4608) (d : Fin 64) :
    out0_B_7 (F := Ideal) c i a2 h2 a3 h3 a4 h4 a5 h5 a6 h6 a7 h7 a8 h8 a9 h9 a10 h10 hc x0 x1 x2 x3 x4 o6 o7 o8 (ix3 a r d)
      = o7 (ix3 a r d) + Spec.share (fun j => ∑ q : Fin 64, probB i x0 x1 x3 a q j * x4 (ix3 a q d)) (i 1).val r := by
  unfold out0_B_7
  unfold kernelRun0_B
  dsimp only
  simp only [kernelRun0_B.sl.r, kernelRun0_B.sl.r_1, kernelRun0_B.sl.r_2, kernelRun0_B.sl.r_3, kernelRun0_B.sl.r_4, kernelRun0_B.sl.cst_17, View.readAt_eq_ld, h2.read_unread, h3.read_unread, h4.read_unread, h5.read_unread, h6.read_unread, h10.read_unread, View.ld_unit_zero (S := S2x64x64) hz3, View.ld_unit_zero (S := S2x64x576) hz3, ld_bandH, ld_bandF, same_q, same_v, same_k, same_d]
  refine add_band _ _ i _ _ _ _ _ a r d (congrFun (h9.read_unread (Val := Elt Ideal) o7) (ix3 a r d)) fun j hj => ?_
  have hr : at_band (ch i) j = r := Fin.ext hj
  rw [pay_dv, band_apply, h9.read_unread, hr]
  simp only [prob_at]

/-- What a point leaves in the buffer of the gradient of the bias, over what the point before left. -/
theorem out_B_8 (a : Fin 2) (r : Fin 64) (j : Fin 576) :
    out0_B_8 (F := Ideal) c i a2 h2 a3 h3 a4 h4 a5 h5 a6 h6 a7 h7 a8 h8 a9 h9 a10 h10 hc x0 x1 x2 x3 x4 o6 o7 o8 (ix3 a r j)
      = o8 (ix3 a r j) + backB i x0 x1 x2 x3 x4 a r j := by
  unfold out0_B_8
  rw [View.read_writes_eq_canon (Val := Elt Ideal) _ _ _ (cover0_B_8 c i a2 h2 a3 h3 a4 h4 a5 h5 a6 h6 a7 h7 a8 h8 a9 h9 a10 h10 hc x0 x1 x2 x3 x4 o6 o7 o8)]
  unfold kernelRun0_B
  dsimp only
  rw [View.canon_unit_zero hz3]
  simp only [kernelRun0_B.sl.r, kernelRun0_B.sl.r_1, kernelRun0_B.sl.r_2, kernelRun0_B.sl.r_3, kernelRun0_B.sl.r_4, kernelRun0_B.sl.cst_17, View.readAt_eq_ld, h2.read_unread, h3.read_unread, h4.read_unread, h5.read_unread, h6.read_unread, h10.read_unread, View.ld_unit_zero (S := S2x64x64) hz3, View.ld_unit_zero (S := S2x64x576) hz3, ld_bandH, ld_bandF, same_q, same_v, same_k, same_d]
  rw [pay_db, back_at]

end B

section A
variable (c : Dev nD) (i : grid0.Coords) (a2 : Memref sig .tc .vmem S2x64x64 .bf16) (h2 : a2.IsWhole) (a3 : Memref sig .tc .vmem S2x4608x64 .bf16) (h3 : a3.IsWhole) (a4 : Memref sig .tc .vmem S2x4608x64 .bf16) (h4 : a4.IsWhole) (a5 : Memref sig .tc .vmem S2x64x576 .f32) (h5 : a5.IsWhole) (a6 : Memref sig .tc .vmem S2x64x64 .bf16) (h6 : a6.IsWhole) (a7 : Memref sig .tc .vmem S2x64x64 .f32) (h7 : a7.IsWhole) (a8 : Memref sig .tc .vmem S2x4608x64 .f32) (h8 : a8.IsWhole) (a9 : Memref sig .tc .vmem S2x4608x64 .f32) (h9 : a9.IsWhole) (a10 : Memref sig .tc .vmem S2x64x576 .f32) (h10 : a10.IsWhole)
  (hc : cond0_0 i) (x0 : FVec Ideal S2x64x64 .bf16) (x1 x2 : FVec Ideal S2x4608x64 .bf16) (x3 : FVec Ideal S2x64x576 .f32) (x4 : FVec Ideal S2x64x64 .bf16)

/-- What a point leaves in the buffer of the gradient of the queries at the first chunk of a group of heads. -/
theorem out_A_5 (a : Fin 2) (r d : Fin 64) :
    out0_A_5 (F := Ideal) c i a2 h2 a3 h3 a4 h4 a5 h5 a6 h6 a7 h7 a8 h8 a9 h9 a10 h10 hc x0 x1 x2 x3 x4 (ix3 a r d)
      = ∑ j : Fin 576, backB i x0 x1 x2 x3 x4 a r j * x1 (ix3 a (at_band (ch i) j) d) := by
  unfold out0_A_5
  rw [View.read_writes_eq_canon (Val := Elt Ideal) _ _ _ (cover0_A_5 c i a2 h2 a3 h3 a4 h4 a5 h5 a6 h6 a7 h7 a8 h8 a9 h9 a10 h10 hc x0 x1 x2 x3 x4)]
  unfold kernelRun0_A
  dsimp only
  rw [View.canon_unit_zero hz3]
  simp only [kernelRun0_A.sl.r, kernelRun0_A.sl.r_1, kernelRun0_A.sl.r_2, kernelRun0_A.sl.r_3, kernelRun0_A.sl.r_4, kernelRun0_A.sl.cst_17, kernelRun0_A.sl.v52, kernelRun0_A.sl.v59, kernelRun0_A.sl.v41, View.readAt_eq_ld, h2.read_unread, h3.read_unread, h4.read_unread, h5.read_unread, h6.read_unread, h10.read_unread, View.ld_unit_zero (S := S2x64x64) hz3, View.ld_unit_zero (S := S2x64x576) hz3, ld_bandH, ld_bandF, same_q, same_v, same_k, same_d]
  rw [pay_dq]
  simp only [back_at, band_apply]

/-- What a point leaves in the buffer of the gradient of the keys at the first chunk of a group of heads. -/
theorem out_A_6 (a : Fin 2) (r : Fin 4608) (d : Fin 64) :
    out0_A_6 (F := Ideal) c i a2 h2 a3 h3 a4 h4 a5 h5 a6 h6 a7 h7 a8 h8 a9 h9 a10 h10 hc x0 x1 x2 x3 x4 (ix3 a r d)
      = 0 + Spec.share (fun j => ∑ q : Fin 64, backB i x0 x1 x2 x3 x4 a q j * x0 (ix3 a q d)) (i 1).val r := by
  unfold out0_A_6
  unfold kernelRun0_A
  dsimp only
  simp only [kernelRun0_A.sl.r, kernelRun0_A.sl.r_1, kernelRun0_A.sl.r_2, kernelRun0_A.sl.r_3, kernelRun0_A.sl.r_4, kernelRun0_A.sl.cst_17, kernelRun0_A.sl.v52, kernelRun0_A.sl.v59, kernelRun0_A.sl.v41, View.readAt_eq_ld, h2.read_unread, h3.read_unread, h4.read_unread, h5.read_unread, h6.read_unread, h10.read_unread, View.ld_unit_zero (S := S2x64x64) hz3, View.ld_unit_zero (S := S2x64x576) hz3, ld_bandH, ld_bandF, same_q, same_v, same_k, same_d]
  refine add_band _ _ i _ _ _ _ _ a r d ?_ fun j hj => ?_
  · exact zero_fill _ _ _ _ a r d zero_k
  rw [pay_dk, band_apply]
  simp only [back_at]
  unfold kernelRun0_A.sl.H6_1
  rw [zero_fill _ _ _ _ _ _ _ zero_k]

/-- What a point leaves in the buffer of the gradient of the values at the first chunk of a group of heads. -/
theorem out_A_7 (a : Fin 2) (r : Fin 4608) (d : Fin 64) :
    out0_A_7 (F := Ideal) c i a2 h2 a3 h3 a4 h4 a5 h5 a6 h6 a7 h7 a8 h8 a9 h9 a10 h10 hc x0 x1 x2 x3 x4 (ix3 a r d)
      = 0 + Spec.share (fun j => ∑ q : Fin 64, probB i x0 x1 x3 a q j * x4 (ix3 a q d)) (i 1).val r := by
  unfold out0_A_7
  unfold kernelRun0_A
  dsimp only
  simp only [kernelRun0_A.sl.r, kernelRun0_A.sl.r_1, kernelRun0_A.sl.r_2, kernelRun0_A.sl.r_3, kernelRun0_A.sl.r_4, kernelRun0_A.sl.cst_17, kernelRun0_A.sl.v52, kernelRun0_A.sl.v59, kernelRun0_A.sl.v41, View.readAt_eq_ld, h2.read_unread, h3.read_unread, h4.read_unread, h5.read_unread, h6.read_unread, h10.read_unread, View.ld_unit_zero (S := S2x64x64) hz3, View.ld_unit_zero (S := S2x64x576) hz3, ld_bandH, ld_bandF, same_q, same_v, same_k, same_d]
  refine add_band _ _ i _ _ _ _ _ a r d ?_ fun j hj => ?_
  · exact zero_fill _ _ _ _ a r d zero_v
  rw [pay_dv, band_apply]
  simp only [prob_at]
  unfold kernelRun0_A.sl.H7_1
  rw [zero_fill _ _ _ _ _ _ _ zero_v]

/-- What a point leaves in the buffer of the gradient of the bias at the first chunk of a group of heads. -/
theorem out_A_8 (a : Fin 2) (r : Fin 64) (j : Fin 576) :
    out0_A_8 (F := Ideal) c i a2 h2 a3 h3 a4 h4 a5 h5 a6 h6 a7 h7 a8 h8 a9 h9 a10 h10 hc x0 x1 x2 x3 x4 (ix3 a r j)
      = 0 + backB i x0 x1 x2 x3 x4 a r j := by
  unfold out0_A_8
  rw [View.read_writes_eq_canon (Val := Elt Ideal) _ _ _ (cover0_A_8 c i a2 h2 a3 h3 a4 h4 a5 h5 a6 h6 a7 h7 a8 h8 a9 h9 a10 h10 hc x0 x1 x2 x3 x4)]
  unfold kernelRun0_A
  dsimp only
  rw [View.canon_cons_unit_zero (S := S2x64x576) hz3]
  simp only [kernelRun0_A.sl.r, kernelRun0_A.sl.r_1, kernelRun0_A.sl.r_2, kernelRun0_A.sl.r_3, kernelRun0_A.sl.r_4, kernelRun0_A.sl.cst_17, kernelRun0_A.sl.v52, kernelRun0_A.sl.v59, kernelRun0_A.sl.v41, View.readAt_eq_ld, h2.read_unread, h3.read_unread, h4.read_unread, h5.read_unread, h6.read_unread, h10.read_unread, View.ld_unit_zero (S := S2x64x64) hz3, View.ld_unit_zero (S := S2x64x576) hz3, ld_bandH, ld_bandF, same_q, same_v, same_k, same_d]
  rw [pay_db, back_at]
  unfold kernelRun0_A.sl.H8_1
  rw [View.readCov_unit_zero (S := S2x64x576) _ hz3, zero_b]

end A

end Cert.Att

end
-- ==== Proof.Fold.lean ====
/-
  The staging buffers along the grid: the buffers of the keys', the values' and the bias' gradients gather, over the
  chunks of a group of heads, what each chunk adds; the buffer of the queries' gradient holds the point's own block.
-/
module

public import proofs.«01_k».proof.Proof.Entry
public import proofs.«01_k».proof.Proof.Outs

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- The second coordinate of a point is its chunk. -/
theorem coord_ck : ∀ t : Fin cfg0.N, (grid0.coords t 1).val = t.val % 64 := by decide +kernel

theorem ch_ck (t : Fin cfg0.N) : ch (grid0.coords t) = ck t := Fin.ext (coord_ck t)

theorem at_band_col (t : Fin cfg0.N) (j : Fin 576) : at_band (ch (grid0.coords t)) j = Spec.col (ck t) j := by
  rw [ch_ck]; rfl

/-- A point's probabilities are the specification's at its head and its chunk. -/
theorem probB_eq (t : Fin cfg0.N) (a : Fin 2) (r : Fin 64) :
    probB (grid0.coords t) (iblk m c 0 t) (iblk m c 1 t) (iblk m c 3 t) a r
      = Spec.prob (Qa m c) (Ka m c) (Ba m c) (hd t a) (ck t) r := by
  unfold probB Spec.prob
  congr 1
  funext j
  unfold Spec.score
  rw [coord_ck]
  simp only [iblk_q, iblk_k, iblk_b, at_band_col]

/-- A point's gradient of the scores is the specification's at its head and its chunk. -/
theorem backB_eq (t : Fin cfg0.N) (a : Fin 2) (r : Fin 64) :
    backB (grid0.coords t) (iblk m c 0 t) (iblk m c 1 t) (iblk m c 2 t) (iblk m c 3 t) (iblk m c 4 t) a r
      = Spec.dscore (Qa m c) (Ka m c) (Va m c) (Ba m c) (Da m c) (hd t a) (ck t) r := by
  unfold backB Spec.dscore
  rw [probB_eq]
  congr 1
  funext j
  unfold Spec.dprob
  simp only [iblk_d, iblk_v, at_band_col]

/-- What chunk `s` adds to the gradient of the padded keys. -/
def partK (h : Fin 16) (r : Fin 4608) (d : Fin 64) (s : Fin 64) : EReal :=
  Spec.share (fun j => ∑ i : Fin 64, Spec.dscore (Qa m c) (Ka m c) (Va m c) (Ba m c) (Da m c) h s i j
    * Spec.head (Qa m c) h (Spec.row s i) d) s.val r
/-- What chunk `s` adds to the gradient of the padded values. -/
def partV (h : Fin 16) (r : Fin 4608) (d : Fin 64) (s : Fin 64) : EReal :=
  Spec.share (fun j => ∑ i : Fin 64, Spec.prob (Qa m c) (Ka m c) (Ba m c) h s i j
    * Spec.head (Da m c) h (Spec.row s i) d) s.val r
/-- What chunk `s` adds to the gradient of the bias. -/
def partB (h : Fin 16) (r : Fin 64) (j : Fin 576) (s : Fin 64) : EReal :=
  Spec.dscore (Qa m c) (Ka m c) (Va m c) (Ba m c) (Da m c) h s r j

/-- The buffer of the queries' gradient after a point. -/
theorem outs_q (t : Fin cfg0.N) (a : Fin 2) (r d : Fin 64) :
    ((outsAt0 m c t.val t.isLt).1 : FVec Ideal S2x64x64 .f32) (ix3 a r d)
      = Spec.dq (Qa m c) (Ka m c) (Va m c) (Ba m c) (Da m c) (hd t a) (ck t) r d := by
  by_cases h0 : t.val % 64 = 0
  · rw [outsAt0_A m c t h0]
    dsimp only
    refine (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) a r d).trans ?_
    rw [backB_eq]
    unfold Spec.dq
    simp only [iblk_k, at_band_col]
  · have hp : t.val - 1 < cfg0.N := Nat.lt_of_le_of_lt (Nat.sub_le _ _) t.isLt
    rw [outsAt0_B m c t h0]
    dsimp only
    refine (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) hp).2.1 (outsAt0 m c (t.val - 1) hp).2.2.1 (outsAt0 m c (t.val - 1) hp).2.2.2 a r d).trans ?_
    rw [backB_eq]
    unfold Spec.dq
    simp only [iblk_k, at_band_col]

/-- The three gathering buffers at the first chunk of a group of heads. -/
theorem outs_first (t : Fin cfg0.N) (h0 : t.val % 64 = 0) (a : Fin 2) :
    (∀ (r : Fin 4608) (d : Fin 64), ((outsAt0 m c t.val t.isLt).2.1 : FVec Ideal S2x4608x64 .f32) (ix3 a r d) = 0 + partK m c (hd t a) r d (ck t))
    ∧ (∀ (r : Fin 4608) (d : Fin 64), ((outsAt0 m c t.val t.isLt).2.2.1 : FVec Ideal S2x4608x64 .f32) (ix3 a r d) = 0 + partV m c (hd t a) r d (ck t))
    ∧ (∀ (r : Fin 64) (j : Fin 576), ((outsAt0 m c t.val t.isLt).2.2.2 : FVec Ideal S2x64x576 .f32) (ix3 a r j) = 0 + partB m c (hd t a) r j (ck t)) := by
  rw [outsAt0_A m c t h0]
  dsimp only
  refine ⟨fun r d => ?_, fun r d => ?_, fun r j => ?_⟩
  · refine (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) a r d).trans ?_
    unfold partK
    simp only [backB_eq, iblk_q, coord_ck]
  · refine (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) a r d).trans ?_
    unfold partV
    simp only [probB_eq, iblk_d, coord_ck]
  · refine (out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) a r j).trans ?_
    unfold partB
    rw [backB_eq]

/-- The three gathering buffers at a later chunk, over what the point before left. -/
theorem outs_next (t : Fin cfg0.N) (h0 : ¬t.val % 64 = 0) (hp : t.val - 1 < cfg0.N) (a : Fin 2) :
    (∀ (r : Fin 4608) (d : Fin 64), ((outsAt0 m c t.val t.isLt).2.1 : FVec Ideal S2x4608x64 .f32) (ix3 a r d)
      = ((outsAt0 m c (t.val - 1) hp).2.1 : FVec Ideal S2x4608x64 .f32) (ix3 a r d) + partK m c (hd t a) r d (ck t))
    ∧ (∀ (r : Fin 4608) (d : Fin 64), ((outsAt0 m c t.val t.isLt).2.2.1 : FVec Ideal S2x4608x64 .f32) (ix3 a r d)
      = ((outsAt0 m c (t.val - 1) hp).2.2.1 : FVec Ideal S2x4608x64 .f32) (ix3 a r d) + partV m c (hd t a) r d (ck t))
    ∧ (∀ (r : Fin 64) (j : Fin 576), ((outsAt0 m c t.val t.isLt).2.2.2 : FVec Ideal S2x64x576 .f32) (ix3 a r j)
      = ((outsAt0 m c (t.val - 1) hp).2.2.2 : FVec Ideal S2x64x576 .f32) (ix3 a r j) + partB m c (hd t a) r j (ck t)) := by
  rw [outsAt0_B m c t h0]
  dsimp only
  refine ⟨fun r d => ?_, fun r d => ?_, fun r j => ?_⟩
  · refine (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) hp).2.1 (outsAt0 m c (t.val - 1) hp).2.2.1 (outsAt0 m c (t.val - 1) hp).2.2.2 a r d).trans ?_
    unfold partK
    simp only [backB_eq, iblk_q, coord_ck]
  · refine (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) hp).2.1 (outsAt0 m c (t.val - 1) hp).2.2.1 (outsAt0 m c (t.val - 1) hp).2.2.2 a r d).trans ?_
    unfold partV
    simp only [probB_eq, iblk_d, coord_ck]
  · refine (out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) hp).2.1 (outsAt0 m c (t.val - 1) hp).2.2.1 (outsAt0 m c (t.val - 1) hp).2.2.2 a r j).trans ?_
    unfold partB
    rw [backB_eq]

/-- The sum over the first chunks, each chunk named by a number. -/
def upTo (f : Fin 64 → EReal) (n : ℕ) : EReal := ∑ s ∈ Finset.range n, f ⟨s % 64, Nat.mod_lt _ (by norm_num)⟩

theorem upTo_all (f : Fin 64 → EReal) : upTo f 64 = ∑ s : Fin 64, f s := by
  unfold upTo
  rw [Finset.sum_range]
  exact Finset.sum_congr rfl fun s _ => congrArg f (Fin.ext (Nat.mod_eq_of_lt s.isLt))

/-- The three gathering buffers after any point: the sum over the chunks of its group of heads so far. -/
theorem outs_sum (a : Fin 2) (n : ℕ) : ∀ hn : n < cfg0.N,
    (∀ (r : Fin 4608) (d : Fin 64), ((outsAt0 m c n hn).2.1 : FVec Ideal S2x4608x64 .f32) (ix3 a r d)
      = upTo (partK m c (hd ⟨n, hn⟩ a) r d) (n % 64 + 1))
    ∧ (∀ (r : Fin 4608) (d : Fin 64), ((outsAt0 m c n hn).2.2.1 : FVec Ideal S2x4608x64 .f32) (ix3 a r d)
      = upTo (partV m c (hd ⟨n, hn⟩ a) r d) (n % 64 + 1))
    ∧ (∀ (r : Fin 64) (j : Fin 576), ((outsAt0 m c n hn).2.2.2 : FVec Ideal S2x64x576 .f32) (ix3 a r j)
      = upTo (partB m c (hd ⟨n, hn⟩ a) r j) (n % 64 + 1)) := by
  induction n with
  | zero =>
    intro hn
    obtain ⟨e1, e2, e3⟩ := outs_first m c ⟨0, hn⟩ rfl a
    unfold upTo
    simp only [Nat.zero_mod, Nat.zero_add, Finset.sum_range_one]
    refine ⟨fun r d => (e1 r d).trans (zero_add _), fun r d => (e2 r d).trans (zero_add _), fun r j => (e3 r j).trans (zero_add _)⟩
  | succ n ih =>
    intro hn
    by_cases h0 : (n + 1) % 64 = 0
    · obtain ⟨e1, e2, e3⟩ := outs_first m c ⟨n + 1, hn⟩ h0 a
      have hk : ck ⟨n + 1, hn⟩ = ⟨0 % 64, Nat.mod_lt _ (by norm_num)⟩ := Fin.ext h0
      rw [hk] at e1 e2 e3
      unfold upTo
      simp only [h0, Nat.zero_add, Finset.sum_range_one]
      refine ⟨fun r d => (e1 r d).trans (zero_add _), fun r d => (e2 r d).trans (zero_add _), fun r j => (e3 r j).trans (zero_add _)⟩
    · have hp : n < cfg0.N := Nat.lt_of_succ_lt hn
      obtain ⟨i1, i2, i3⟩ := ih hp
      obtain ⟨e1, e2, e3⟩ := outs_next m c ⟨n + 1, hn⟩ h0 hp a
      have hh : hd ⟨n, hp⟩ a = hd ⟨n + 1, hn⟩ a := Fin.ext (by
        show n / 64 * 2 + a.val = (n + 1) / 64 * 2 + a.val
        omega)
      have hm : (n + 1) % 64 = n % 64 + 1 := by omega
      rw [hh] at i1 i2 i3
      have hk : ck ⟨n + 1, hn⟩ = ⟨(n % 64 + 1) % 64, Nat.mod_lt _ (by norm_num)⟩ := Fin.ext (by
        show (n + 1) % 64 = (n % 64 + 1) % 64
        omega)
      rw [hk] at e1 e2 e3
      unfold upTo at i1 i2 i3 ⊢
      rw [hm]
      refine ⟨fun r d => ?_, fun r d => ?_, fun r j => ?_⟩
      · rw [Finset.sum_range_succ, ← i1]; exact e1 r d
      · rw [Finset.sum_range_succ, ← i2]; exact e2 r d
      · rw [Finset.sum_range_succ, ← i3]; exact e3 r j

end Cert.Att

end
-- ==== Proof.Result.lean ====
/-
  The four result arrays of the launch: each block written back is the block of one formula over the whole array, and
  the blocks written back cover the array.
-/
module

public import proofs.«01_k».proof.Proof.Fold
public import proofs.«01_k».proof.Proof.Gen.KernelIdeal.Value

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- The chunk of a row of the sequence, and the row's place in it. -/
def chunkOf (t : Fin 4096) : Fin 64 := ⟨t.val / 64, by omega⟩
def placeOf (t : Fin 4096) : Fin 64 := ⟨t.val % 64, by omega⟩

/-- The gradient of the queries as one array. -/
def resQ : FVec Ideal S16x4096x64 .f32 := fun y =>
  Spec.dq (Qa m c) (Ka m c) (Va m c) (Ba m c) (Da m c) (y 0) (chunkOf (y 1)) (placeOf (y 1)) (y 2)
/-- The gradient of the padded keys as one array. -/
def resK : FVec Ideal S16x4608x64 .f32 := fun y =>
  Spec.dk (Qa m c) (Ka m c) (Va m c) (Ba m c) (Da m c) (y 0) (y 1) (y 2)
/-- The gradient of the padded values as one array. -/
def resV : FVec Ideal S16x4608x64 .f32 := fun y =>
  Spec.dv (Qa m c) (Ka m c) (Ba m c) (Da m c) (y 0) (y 1) (y 2)
/-- The gradient of the bias as one array. -/
def resB : FVec Ideal S16x64x576 .f32 := fun y =>
  Spec.db (Qa m c) (Ka m c) (Va m c) (Ba m c) (Da m c) (y 0) (y 1) (y 2)

theorem index_5 : ∀ t : Fin grid0.N, win0_5.index t 0 = t.val / 64 ∧ win0_5.index t 1 = t.val % 64 ∧ win0_5.index t 2 = 0 := by
  decide +kernel
theorem index_6 : ∀ t : Fin grid0.N, win0_6.index t 0 = t.val / 64 ∧ win0_6.index t 1 = 0 ∧ win0_6.index t 2 = 0 := by
  decide +kernel
theorem index_7 : ∀ t : Fin grid0.N, win0_7.index t 0 = t.val / 64 ∧ win0_7.index t 1 = 0 ∧ win0_7.index t 2 = 0 := by
  decide +kernel
theorem index_8 : ∀ t : Fin grid0.N, win0_8.index t 0 = t.val / 64 ∧ win0_8.index t 1 = 0 ∧ win0_8.index t 2 = 0 := by
  decide +kernel

theorem chunk_row (k i : Fin 64) : chunkOf (Spec.row k i) = k := Fin.ext (by
  show (k.val * 64 + i.val) / 64 = k.val
  omega)
theorem place_row (k i : Fin 64) : placeOf (Spec.row k i) = i := Fin.ext (by
  show (k.val * 64 + i.val) % 64 = i.val
  omega)

/-- The array of the queries' gradient at a row of a chunk. -/
theorem resQ_row (h : Fin 16) (k i d : Fin 64) :
    Spec.dq (Qa m c) (Ka m c) (Va m c) (Ba m c) (Da m c) h k i d = resQ m c (ix3 h (Spec.row k i) d) := by
  show _ = Spec.dq (Qa m c) (Ka m c) (Va m c) (Ba m c) (Da m c) h (chunkOf (Spec.row k i)) (placeOf (Spec.row k i)) d
  rw [chunk_row, place_row]

/-- The sum over all the chunks, at the last chunk of a group of heads. -/
theorem upTo_last (f : Fin 64 → EReal) (n : ℕ) (h : n % 64 = 63) : upTo f (n % 64 + 1) = ∑ s : Fin 64, f s := by
  rw [h]
  exact upTo_all f

/-- A block of the gradient of the queries that is written back is that block of the array. -/
theorem block_5 (t : Fin cfg0.N) (_ : (cfg0.win 5).flush t = true) :
    (dats m 0 c).flushed 5 t = ((cfg0.win 5).blk t).view.read (Elt Ideal) (resQ m c) := by
  rw [Cert.KernelIdeal.Value.flushed5]
  funext y
  rw [View.read_apply]
  have e := outs_q m c t (y 0) (y 1) (y 2)
  refine Eq.trans (congrArg (outsAt0 m c t.val t.isLt).1 (?_ : _ = ix3 (y 0) (y 1) (y 2))) (e.trans ?_)
  · funext x
    match x with
    | ⟨0, _⟩ => rfl
    | ⟨1, _⟩ => rfl
    | ⟨2, _⟩ => rfl
  have hx : ((cfg0.win 5).blk t).view.emb y = ix3 (hd t (y 0)) (Spec.row (ck t) (y 1)) (y 2) := by
    obtain ⟨h0, h1, h2⟩ := index_5 t
    funext x
    apply Fin.ext
    match x with
    | ⟨0, _⟩ => show win0_5.index t 0 * 2 + 1 * (y 0).val = _; rw [h0]; show _ = t.val / 64 * 2 + (y 0).val; omega
    | ⟨1, _⟩ => show win0_5.index t 1 * 64 + 1 * (y 1).val = _; rw [h1]; show _ = t.val % 64 * 64 + (y 1).val; omega
    | ⟨2, _⟩ => show win0_5.index t 2 * 64 + 1 * (y 2).val = _; rw [h2]; show _ = (y 2).val; omega
  rw [hx]
  exact resQ_row m c (hd t (y 0)) (ck t) (y 1) (y 2)

/-- The array of the gradient of the queries after the launch. -/
theorem array_5 : (dats m 0 c).arrAt 5 cfg0.N = resQ m c :=
  (dats m 0 c).arrAt_eq_of_cover 5 (resQ m c) (block_5 m c) fun i => by
    have i0 : (i 0).val < 16 := (i 0).isLt
    have i1 : (i 1).val < 4096 := (i 1).isLt
    have i2 : (i 2).val < 64 := (i 2).isLt
    have ht : (i 0).val / 2 * 64 + (i 1).val / 64 < cfg0.N := by rw [show cfg0.N = 512 from N_0]; omega
    obtain ⟨t, hv⟩ : ∃ t : Fin cfg0.N, t.val = (i 0).val / 2 * 64 + (i 1).val / 64 := ⟨⟨_, ht⟩, rfl⟩
    refine ⟨t, flush0_5 t, ?_⟩
    show i ∈ ((View.whole main_v14_0).slice (win0_5.rect t)).set
    rw [View.set_slice_whole, Rect.mem_set_unit]
    obtain ⟨h0, h1, h2⟩ := index_5 t
    intro a
    match a with
    | ⟨0, _⟩ =>
      show win0_5.index t 0 * 2 ≤ (i 0).val ∧ (i 0).val < win0_5.index t 0 * 2 + 2
      rw [h0]; omega
    | ⟨1, _⟩ =>
      show win0_5.index t 1 * 64 ≤ (i 1).val ∧ (i 1).val < win0_5.index t 1 * 64 + 64
      rw [h1]; omega
    | ⟨2, _⟩ =>
      show win0_5.index t 2 * 64 ≤ (i 2).val ∧ (i 2).val < win0_5.index t 2 * 64 + 64
      rw [h2]; omega

/-- A block of the gradient of the keys that is written back is that block of the array. -/
theorem block_6 (t : Fin cfg0.N) (hf : (cfg0.win 6).flush t = true) :
    (dats m 0 c).flushed 6 t = ((cfg0.win 6).blk t).view.read (Elt Ideal) (resK m c) := by
  rw [Cert.KernelIdeal.Value.flushed6]
  funext y
  rw [View.read_apply]
  have e := ((outs_sum m c (y 0) t.val t.isLt).1 (y 1) (y 2)).trans (upTo_last _ _ ((flush0_6 t).mp hf))
  refine Eq.trans (congrArg (outsAt0 m c t.val t.isLt).2.1 (?_ : _ = ix3 (y 0) (y 1) (y 2))) (e.trans ?_)
  · funext x
    match x with
    | ⟨0, _⟩ => rfl
    | ⟨1, _⟩ => rfl
    | ⟨2, _⟩ => rfl
  have hx : ((cfg0.win 6).blk t).view.emb y = ix3 (hd t (y 0)) (y 1) (y 2) := by
    obtain ⟨h0, h1, h2⟩ := index_6 t
    funext x
    apply Fin.ext
    match x with
    | ⟨0, _⟩ => show win0_6.index t 0 * 2 + 1 * (y 0).val = _; rw [h0]; show _ = t.val / 64 * 2 + (y 0).val; omega
    | ⟨1, _⟩ => show win0_6.index t 1 * 4608 + 1 * (y 1).val = _; rw [h1]; show _ = (y 1).val; omega
    | ⟨2, _⟩ => show win0_6.index t 2 * 64 + 1 * (y 2).val = _; rw [h2]; show _ = (y 2).val; omega
  rw [hx]
  rfl

/-- The array of the gradient of the keys after the launch. -/
theorem array_6 : (dats m 0 c).arrAt 6 cfg0.N = resK m c :=
  (dats m 0 c).arrAt_eq_of_cover 6 (resK m c) (block_6 m c) fun i => by
    have i0 : (i 0).val < 16 := (i 0).isLt
    have i1 : (i 1).val < 4608 := (i 1).isLt
    have i2 : (i 2).val < 64 := (i 2).isLt
    have ht : (i 0).val / 2 * 64 + 63 < cfg0.N := by rw [show cfg0.N = 512 from N_0]; omega
    obtain ⟨t, hv⟩ : ∃ t : Fin cfg0.N, t.val = (i 0).val / 2 * 64 + 63 := ⟨⟨_, ht⟩, rfl⟩
    refine ⟨t, (flush0_6 t).mpr (by omega), ?_⟩
    show i ∈ ((View.whole main_v14_1).slice (win0_6.rect t)).set
    rw [View.set_slice_whole, Rect.mem_set_unit]
    obtain ⟨h0, h1, h2⟩ := index_6 t
    intro a
    match a with
    | ⟨0, _⟩ =>
      show win0_6.index t 0 * 2 ≤ (i 0).val ∧ (i 0).val < win0_6.index t 0 * 2 + 2
      rw [h0]; omega
    | ⟨1, _⟩ =>
      show win0_6.index t 1 * 4608 ≤ (i 1).val ∧ (i 1).val < win0_6.index t 1 * 4608 + 4608
      rw [h1]; omega
    | ⟨2, _⟩ =>
      show win0_6.index t 2 * 64 ≤ (i 2).val ∧ (i 2).val < win0_6.index t 2 * 64 + 64
      rw [h2]; omega

/-- A block of the gradient of the values that is written back is that block of the array. -/
theorem block_7 (t : Fin cfg0.N) (hf : (cfg0.win 7).flush t = true) :
    (dats m 0 c).flushed 7 t = ((cfg0.win 7).blk t).view.read (Elt Ideal) (resV m c) := by
  rw [Cert.KernelIdeal.Value.flushed7]
  funext y
  rw [View.read_apply]
  have e := ((outs_sum m c (y 0) t.val t.isLt).2.1 (y 1) (y 2)).trans (upTo_last _ _ ((flush0_7 t).mp hf))
  refine Eq.trans (congrArg (outsAt0 m c t.val t.isLt).2.2.1 (?_ : _ = ix3 (y 0) (y 1) (y 2))) (e.trans ?_)
  · funext x
    match x with
    | ⟨0, _⟩ => rfl
    | ⟨1, _⟩ => rfl
    | ⟨2, _⟩ => rfl
  have hx : ((cfg0.win 7).blk t).view.emb y = ix3 (hd t (y 0)) (y 1) (y 2) := by
    obtain ⟨h0, h1, h2⟩ := index_7 t
    funext x
    apply Fin.ext
    match x with
    | ⟨0, _⟩ => show win0_7.index t 0 * 2 + 1 * (y 0).val = _; rw [h0]; show _ = t.val / 64 * 2 + (y 0).val; omega
    | ⟨1, _⟩ => show win0_7.index t 1 * 4608 + 1 * (y 1).val = _; rw [h1]; show _ = (y 1).val; omega
    | ⟨2, _⟩ => show win0_7.index t 2 * 64 + 1 * (y 2).val = _; rw [h2]; show _ = (y 2).val; omega
  rw [hx]
  rfl

/-- The array of the gradient of the values after the launch. -/
theorem array_7 : (dats m 0 c).arrAt 7 cfg0.N = resV m c :=
  (dats m 0 c).arrAt_eq_of_cover 7 (resV m c) (block_7 m c) fun i => by
    have i0 : (i 0).val < 16 := (i 0).isLt
    have i1 : (i 1).val < 4608 := (i 1).isLt
    have i2 : (i 2).val < 64 := (i 2).isLt
    have ht : (i 0).val / 2 * 64 + 63 < cfg0.N := by rw [show cfg0.N = 512 from N_0]; omega
    obtain ⟨t, hv⟩ : ∃ t : Fin cfg0.N, t.val = (i 0).val / 2 * 64 + 63 := ⟨⟨_, ht⟩, rfl⟩
    refine ⟨t, (flush0_7 t).mpr (by omega), ?_⟩
    show i ∈ ((View.whole main_v14_2).slice (win0_7.rect t)).set
    rw [View.set_slice_whole, Rect.mem_set_unit]
    obtain ⟨h0, h1, h2⟩ := index_7 t
    intro a
    match a with
    | ⟨0, _⟩ =>
      show win0_7.index t 0 * 2 ≤ (i 0).val ∧ (i 0).val < win0_7.index t 0 * 2 + 2
      rw [h0]; omega
    | ⟨1, _⟩ =>
      show win0_7.index t 1 * 4608 ≤ (i 1).val ∧ (i 1).val < win0_7.index t 1 * 4608 + 4608
      rw [h1]; omega
    | ⟨2, _⟩ =>
      show win0_7.index t 2 * 64 ≤ (i 2).val ∧ (i 2).val < win0_7.index t 2 * 64 + 64
      rw [h2]; omega

/-- A block of the gradient of the bias that is written back is that block of the array. -/
theorem block_8 (t : Fin cfg0.N) (hf : (cfg0.win 8).flush t = true) :
    (dats m 0 c).flushed 8 t = ((cfg0.win 8).blk t).view.read (Elt Ideal) (resB m c) := by
  rw [Cert.KernelIdeal.Value.flushed8]
  funext y
  rw [View.read_apply]
  have e := ((outs_sum m c (y 0) t.val t.isLt).2.2 (y 1) (y 2)).trans (upTo_last _ _ ((flush0_8 t).mp hf))
  refine Eq.trans (congrArg (outsAt0 m c t.val t.isLt).2.2.2 (?_ : _ = ix3 (y 0) (y 1) (y 2))) (e.trans ?_)
  · funext x
    match x with
    | ⟨0, _⟩ => rfl
    | ⟨1, _⟩ => rfl
    | ⟨2, _⟩ => rfl
  have hx : ((cfg0.win 8).blk t).view.emb y = ix3 (hd t (y 0)) (y 1) (y 2) := by
    obtain ⟨h0, h1, h2⟩ := index_8 t
    funext x
    apply Fin.ext
    match x with
    | ⟨0, _⟩ => show win0_8.index t 0 * 2 + 1 * (y 0).val = _; rw [h0]; show _ = t.val / 64 * 2 + (y 0).val; omega
    | ⟨1, _⟩ => show win0_8.index t 1 * 64 + 1 * (y 1).val = _; rw [h1]; show _ = (y 1).val; omega
    | ⟨2, _⟩ => show win0_8.index t 2 * 576 + 1 * (y 2).val = _; rw [h2]; show _ = (y 2).val; omega
  rw [hx]
  rfl

/-- The array of the gradient of the bias after the launch. -/
theorem array_8 : (dats m 0 c).arrAt 8 cfg0.N = resB m c :=
  (dats m 0 c).arrAt_eq_of_cover 8 (resB m c) (block_8 m c) fun i => by
    have i0 : (i 0).val < 16 := (i 0).isLt
    have i1 : (i 1).val < 64 := (i 1).isLt
    have i2 : (i 2).val < 576 := (i 2).isLt
    have ht : (i 0).val / 2 * 64 + 63 < cfg0.N := by rw [show cfg0.N = 512 from N_0]; omega
    obtain ⟨t, hv⟩ : ∃ t : Fin cfg0.N, t.val = (i 0).val / 2 * 64 + 63 := ⟨⟨_, ht⟩, rfl⟩
    refine ⟨t, (flush0_8 t).mpr (by omega), ?_⟩
    show i ∈ ((View.whole main_v14_3).slice (win0_8.rect t)).set
    rw [View.set_slice_whole, Rect.mem_set_unit]
    obtain ⟨h0, h1, h2⟩ := index_8 t
    intro a
    match a with
    | ⟨0, _⟩ =>
      show win0_8.index t 0 * 2 ≤ (i 0).val ∧ (i 0).val < win0_8.index t 0 * 2 + 2
      rw [h0]; omega
    | ⟨1, _⟩ =>
      show win0_8.index t 1 * 64 ≤ (i 1).val ∧ (i 1).val < win0_8.index t 1 * 64 + 64
      rw [h1]; omega
    | ⟨2, _⟩ =>
      show win0_8.index t 2 * 576 ≤ (i 2).val ∧ (i 2).val < win0_8.index t 2 * 576 + 576
      rw [h2]; omega

end Cert.Att

end
-- ==== Proof.RowMath.lean ====
/-
  One row of the attention over the extended reals: its exponentials are real and their sum is positive when the row
  holds a real entry and no entry is `+∞`; the gradient of a row of scores as a quotient's derivative written out, and
  as the probabilities' own formula, agree.
-/
module

public import proofs.«01_k».proof.Proof.Spec
public import Idealize.ShloMosaic.PureOps.Ideal.Laws

@[expose] public section

noncomputable section

namespace Cert.Spec

open Idealize.ShloMosaic

/-- A real number among the extended reals. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.zero : IsReal 0 := ⟨0, EReal.coe_zero.symm⟩
/-- A finite sum of reals is real. -/
theorem IsReal.sum {ι : Type} (s : Finset ι) (f : ι → EReal) (h : ∀ i, IsReal (f i)) : IsReal (∑ i ∈ s, f i) :=
  Finset.sum_induction f IsReal (fun _ _ => IsReal.add) IsReal.zero fun i _ => h i
/-- The sum of the coercions of reals is the coercion of the sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplying by a nonnegative real distributes over a finite sum of extended reals. -/
theorem sum_mul_coe {ι : Type} (s : Finset ι) (f : ι → EReal) (u : ℝ) (hu : 0 ≤ u) :
    ∑ i ∈ s, f i * (u : EReal) = (∑ i ∈ s, f i) * (u : EReal) := by
  classical
  induction s using Finset.induction_on with
  | empty => simp
  | insert a s ha ih =>
    rw [Finset.sum_insert ha, Finset.sum_insert ha, ih,
      EReal.right_distrib_of_nonneg_of_ne_top (EReal.coe_nonneg.mpr hu) (EReal.coe_ne_top u)]

/-- A row that a softmax is taken of: a real entry or `-∞` everywhere, and a real entry somewhere. -/
structure Row (s : Fin 576 → EReal) : Prop where
  lt : ∀ j, s j < ⊤
  some : ∃ j, s j ≠ ⊥

/-- The greatest entry of such a row is real. -/
theorem Row.top_real {s : Fin 576 → EReal} (h : Row s) : IsReal (top s) := by
  obtain ⟨j, hj⟩ := h.some
  have h1 : top s < ⊤ := (Finset.fold_max_lt _).mpr ⟨bot_lt_top, fun x _ => h.lt x⟩
  have h2 : s j ≤ top s := (Finset.le_fold_max _).mpr (Or.inr ⟨j, Finset.mem_univ _, le_rfl⟩)
  have h3 : top s ≠ ⊥ := fun e => hj (le_bot_iff.mp (e ▸ h2))
  exact ⟨(top s).toReal, (EReal.coe_toReal h1.ne h3).symm⟩

/-- The exponentials of such a row are nonnegative reals, and positive at a real entry. -/
theorem Row.expo_real {s : Fin 576 → EReal} (h : Row s) (j : Fin 576) :
    ∃ r : ℝ, expo s j = (r : EReal) ∧ 0 ≤ r ∧ (s j ≠ ⊥ → 0 < r) := by
  obtain ⟨t, ht⟩ := h.top_real
  unfold expo
  rw [ht]
  by_cases hj : s j = ⊥
  · refine ⟨0, ?_, le_rfl, fun hn => absurd hj hn⟩
    rw [hj, EReal.bot_sub]
    exact rfl
  · obtain ⟨r, hr⟩ : IsReal (s j) := ⟨(s j).toReal, (EReal.coe_toReal (h.lt j).ne hj).symm⟩
    refine ⟨Real.exp (r - t), ?_, (Real.exp_pos _).le, fun _ => Real.exp_pos _⟩
    rw [hr, ← EReal.coe_sub]
    rfl

/-- A masked entry's exponential is zero. -/
theorem Row.expo_bot {s : Fin 576 → EReal} (h : Row s) {j : Fin 576} (hj : s j = ⊥) : expo s j = 0 := by
  obtain ⟨t, ht⟩ := h.top_real
  unfold expo
  rw [ht, hj, EReal.bot_sub]
  exact rfl

/-- The sum of the exponentials of such a row is a positive real. -/
theorem Row.sum_real {s : Fin 576 → EReal} (h : Row s) : ∃ r : ℝ, (∑ j, expo s j) = (r : EReal) ∧ 0 < r := by
  choose f hf h0 hp using h.expo_real
  obtain ⟨j, hj⟩ := h.some
  refine ⟨∑ j, f j, ?_, Finset.sum_pos' (fun i _ => h0 i) ⟨j, Finset.mem_univ _, hp j hj⟩⟩
  rw [← sum_coe]
  exact Finset.sum_congr rfl fun i _ => hf i

/-- The gradient of a row of scores as the derivative of a quotient, written out term by term. -/
def quot (s g : Fin 576 → EReal) (j : Fin 576) : EReal :=
  (Ideal.div (g j) (∑ k, expo s k)
    + -(∑ k, g k * Ideal.div 1 ((∑ k, expo s k) * (∑ k, expo s k)) * expo s k)) * expo s j

/-- The two forms of the gradient of a row of scores agree, whatever the gradient of the probabilities holds. -/
theorem Row.quot_eq {s : Fin 576 → EReal} (h : Row s) (g : Fin 576 → EReal) (j : Fin 576) :
    quot s g j = back (soft s) g j := by
  obtain ⟨S, hS, hpos⟩ := h.sum_real
  choose e he h0 hp using h.expo_real
  unfold quot back soft
  rw [hS]
  have hu : (0 : ℝ) ≤ 1 / S := (one_div_pos.mpr hpos).le
  have hne : S ≠ 0 := hpos.ne'
  have hpk : ∀ k, Ideal.div (expo s k) (S : EReal) = ((e k * (1 / S) : ℝ) : EReal) := fun k => by
    rw [Ideal.div_coe hne, he k, EReal.coe_mul]
  have hc : Ideal.div 1 ((S : EReal) * (S : EReal)) = ((1 / S * (1 / S) : ℝ) : EReal) := by
    rw [← EReal.coe_mul, Ideal.div_coe (mul_ne_zero hne hne), one_mul]
    congr 1
    field_simp
  rw [hc]
  have hsum : (∑ k, g k * ((1 / S * (1 / S) : ℝ) : EReal) * expo s k)
      = (∑ k, Ideal.div (expo s k) (S : EReal) * g k) * ((1 / S : ℝ) : EReal) := by
    rw [← sum_mul_coe _ _ _ hu]
    refine Finset.sum_congr rfl fun k _ => ?_
    rw [hpk, he k, mul_comm ((e k * (1 / S) : ℝ) : EReal) (g k), mul_assoc, mul_assoc, ← EReal.coe_mul, ← EReal.coe_mul]
    congr 2
    ring
  rw [hsum, hpk, Ideal.div_coe hne, he j, ← EReal.neg_mul,
    ← EReal.right_distrib_of_nonneg_of_ne_top (EReal.coe_nonneg.mpr hu) (EReal.coe_ne_top _), mul_assoc, ← EReal.coe_mul,
    mul_comm, mul_comm (1 / S) (e j), ← sub_eq_add_neg]

/-- A masked entry's gradient is zero. -/
theorem Row.back_bot {s : Fin 576 → EReal} (h : Row s) (g : Fin 576 → EReal) {j : Fin 576} (hj : s j = ⊥) :
    back (soft s) g j = 0 := by
  obtain ⟨S, hS, hpos⟩ := h.sum_real
  unfold back soft
  rw [h.expo_bot hj, hS, Ideal.div_coe hpos.ne', zero_mul, zero_mul]

/-- What the chunks add to a row of the padded sequence, gathered by the place of the row's own chunk in the band
    instead of by the chunk. -/
theorem share_sum (g : Fin 64 → Fin 576 → EReal) (k : Fin 72) (r : Fin 64) :
    ∑ c : Fin 64, share (g c) c.val ⟨k.val * 64 + r.val, by omega⟩
      = ∑ j : Fin 9, if h : j.val ≤ k.val ∧ k.val - j.val < 64 then
          g ⟨k.val - j.val, h.2⟩ ⟨j.val * 64 + r.val, by omega⟩ else 0 := by
  have hl : ∀ c : Fin 64, share (g c) c.val ⟨k.val * 64 + r.val, by omega⟩
      = ∑ j : Fin 9, if c.val + j.val = k.val then g c ⟨j.val * 64 + r.val, by omega⟩ else 0 := fun c => by
    unfold share
    by_cases h : c.val * 64 ≤ k.val * 64 + r.val ∧ k.val * 64 + r.val < c.val * 64 + 576
    · rw [dif_pos h, Finset.sum_eq_single (⟨k.val - c.val, by omega⟩ : Fin 9)]
      · rw [if_pos (by show c.val + (k.val - c.val) = k.val; omega)]
        congr 1
        apply Fin.ext
        show k.val * 64 + r.val - c.val * 64 = (k.val - c.val) * 64 + r.val
        omega
      · intro j _ hj
        exact if_neg fun e => hj (Fin.ext (by show j.val = k.val - c.val; omega))
      · intro hn; exact absurd (Finset.mem_univ _) hn
    · rw [dif_neg h]
      exact (Finset.sum_eq_zero fun j _ => if_neg fun e => h (by omega)).symm
  have hr : ∀ j : Fin 9, (∑ c : Fin 64, if c.val + j.val = k.val then g c ⟨j.val * 64 + r.val, by omega⟩ else 0)
      = if h : j.val ≤ k.val ∧ k.val - j.val < 64 then g ⟨k.val - j.val, h.2⟩ ⟨j.val * 64 + r.val, by omega⟩ else 0 := fun j => by
    by_cases h : j.val ≤ k.val ∧ k.val - j.val < 64
    · rw [dif_pos h, Finset.sum_eq_single (⟨k.val - j.val, h.2⟩ : Fin 64)]
      · rw [if_pos (by show k.val - j.val + j.val = k.val; omega)]
      · intro c _ hc
        exact if_neg fun e => hc (Fin.ext (by show c.val = k.val - j.val; omega))
      · intro hn; exact absurd (Finset.mem_univ _) hn
    · rw [dif_neg h]
      exact Finset.sum_eq_zero fun c _ => if_neg fun e => h (by have := c.isLt; omega)
  rw [Finset.sum_congr rfl fun c _ => hl c, Finset.sum_comm]
  exact Finset.sum_congr rfl fun j _ => hr j

end Cert.Spec

end
-- ==== Proof.RefRead.lean ====
/-
  The reference's layout operations read at an index: heads, padded keys and values, bands of a chunk.
-/
module

public import proofs.«01_k».proof.Proof.RowMath
public import proofs.«01_k».proof.Proof.Gen.ReferenceIdeal.Read
public import Idealize.ShloMosaic.Lib.Pointwise

@[expose] public section

set_option maxRecDepth 16384

noncomputable section

namespace Cert.Ref

open Cert.ReferenceIdeal Cert.ReferenceIdeal.Read Idealize.ShloMosaic Idealize.ShloMosaic.TcCoe Idealize.SL.Sem

variable (x0 x1 x2 x4 : Spec.Seq) (x3 : Spec.Bias)

/-- A padded head at two names of one row. -/
theorem padded_row (X : Spec.Seq) (h : Fin 16) (d : Fin 64) {t t' : Fin 4608} (e : t.val = t'.val) :
    Spec.padded X h t d = Spec.padded X h t' d := by
  rw [Fin.ext e]

/-- The padded keys. -/
theorem r_v4 (t : Fin 4608) (h : Fin 16) (d : Fin 64) :
    val_main_v4 (F := Ideal) x1 (ix3 t h d) = Spec.padded x1 h t d := by
  unfold val_main_v4 val_main_v1 val_main_cst
  pointwise [Spec.padded, Spec.head, Spec.lane]
  by_cases ht : 512 ≤ t.val
  · rw [dif_pos ⟨ht, by omega⟩, dif_pos ht]
  · rw [dif_neg fun hh => ht hh.1, dif_neg ht]

theorem r_v8 (c : Fin 64) (j : Fin 64) (h : Fin 16) (d : Fin 64) :
    val_main_v8 (F := Ideal) x1 (ix4 c j h d) = Spec.padded x1 h ⟨(0 + c.val) * 64 + j.val, by omega⟩ d := by
  unfold val_main_v8 val_main_v7
  pointwise
  exact (r_v4 x1 _ h d).trans (padded_row x1 h d (by simp))
theorem r_v9 (c : Fin 64) (j : Fin 64) (h : Fin 16) (d : Fin 64) :
    val_main_v9 (F := Ideal) x1 (ix4 c j h d) = Spec.padded x1 h ⟨(1 + c.val) * 64 + j.val, by omega⟩ d := by
  unfold val_main_v9 val_main_v7
  pointwise
  exact (r_v4 x1 _ h d).trans (padded_row x1 h d (by rfl))
theorem r_v10 (c : Fin 64) (j : Fin 64) (h : Fin 16) (d : Fin 64) :
    val_main_v10 (F := Ideal) x1 (ix4 c j h d) = Spec.padded x1 h ⟨(2 + c.val) * 64 + j.val, by omega⟩ d := by
  unfold val_main_v10 val_main_v7
  pointwise
  exact (r_v4 x1 _ h d).trans (padded_row x1 h d (by rfl))
theorem r_v11 (c : Fin 64) (j : Fin 64) (h : Fin 16) (d : Fin 64) :
    val_main_v11 (F := Ideal) x1 (ix4 c j h d) = Spec.padded x1 h ⟨(3 + c.val) * 64 + j.val, by omega⟩ d := by
  unfold val_main_v11 val_main_v7
  pointwise
  exact (r_v4 x1 _ h d).trans (padded_row x1 h d (by rfl))
theorem r_v12 (c : Fin 64) (j : Fin 64) (h : Fin 16) (d : Fin 64) :
    val_main_v12 (F := Ideal) x1 (ix4 c j h d) = Spec.padded x1 h ⟨(4 + c.val) * 64 + j.val, by omega⟩ d := by
  unfold val_main_v12 val_main_v7
  pointwise
  exact (r_v4 x1 _ h d).trans (padded_row x1 h d (by rfl))
theorem r_v13 (c : Fin 64) (j : Fin 64) (h : Fin 16) (d : Fin 64) :
    val_main_v13 (F := Ideal) x1 (ix4 c j h d) = Spec.padded x1 h ⟨(5 + c.val) * 64 + j.val, by omega⟩ d := by
  unfold val_main_v13 val_main_v7
  pointwise
  exact (r_v4 x1 _ h d).trans (padded_row x1 h d (by rfl))
theorem r_v14 (c : Fin 64) (j : Fin 64) (h : Fin 16) (d : Fin 64) :
    val_main_v14 (F := Ideal) x1 (ix4 c j h d) = Spec.padded x1 h ⟨(6 + c.val) * 64 + j.val, by omega⟩ d := by
  unfold val_main_v14 val_main_v7
  pointwise
  exact (r_v4 x1 _ h d).trans (padded_row x1 h d (by rfl))
theorem r_v15 (c : Fin 64) (j : Fin 64) (h : Fin 16) (d : Fin 64) :
    val_main_v15 (F := Ideal) x1 (ix4 c j h d) = Spec.padded x1 h ⟨(7 + c.val) * 64 + j.val, by omega⟩ d := by
  unfold val_main_v15 val_main_v7
  pointwise
  exact (r_v4 x1 _ h d).trans (padded_row x1 h d (by rfl))
theorem r_v16 (c : Fin 64) (j : Fin 64) (h : Fin 16) (d : Fin 64) :
    val_main_v16 (F := Ideal) x1 (ix4 c j h d) = Spec.padded x1 h ⟨(8 + c.val) * 64 + j.val, by omega⟩ d := by
  unfold val_main_v16 val_main_v7
  pointwise
  exact (r_v4 x1 _ h d).trans (padded_row x1 h d (by rfl))

/-- The bands of the keys. -/
theorem r_v17 (c : Fin 64) (j : Fin 576) (h : Fin 16) (d : Fin 64) :
    val_main_v17 (F := Ideal) x1 (ix4 c j h d) = Spec.padded x1 h (Spec.col c j) d := by
  unfold val_main_v17
  pointwise
  simp only [r_v8, r_v9, r_v10, r_v11, r_v12, r_v13, r_v14, r_v15, r_v16]
  split_ifs <;> exact padded_row x1 h d (by dsimp only; omega)

/-- The padded values. -/
theorem r_v5 (t : Fin 4608) (h : Fin 16) (d : Fin 64) :
    val_main_v5 (F := Ideal) x2 (ix3 t h d) = Spec.padded x2 h t d := by
  unfold val_main_v5 val_main_v2 val_main_cst_0
  pointwise [Spec.padded, Spec.head, Spec.lane]
  by_cases ht : 512 ≤ t.val
  · rw [dif_pos ⟨ht, by omega⟩, dif_pos ht]
  · rw [dif_neg fun hh => ht hh.1, dif_neg ht]

theorem r_v67 (c : Fin 64) (j : Fin 64) (h : Fin 16) (d : Fin 64) :
    val_main_v67 (F := Ideal) x2 (ix4 c j h d) = Spec.padded x2 h ⟨(0 + c.val) * 64 + j.val, by omega⟩ d := by
  unfold val_main_v67 val_main_v66
  pointwise
  exact (r_v5 x2 _ h d).trans (padded_row x2 h d (by simp))
theorem r_v68 (c : Fin 64) (j : Fin 64) (h : Fin 16) (d : Fin 64) :
    val_main_v68 (F := Ideal) x2 (ix4 c j h d) = Spec.padded x2 h ⟨(1 + c.val) * 64 + j.val, by omega⟩ d := by
  unfold val_main_v68 val_main_v66
  pointwise
  exact (r_v5 x2 _ h d).trans (padded_row x2 h d (by rfl))
theorem r_v69 (c : Fin 64) (j : Fin 64) (h : Fin 16) (d : Fin 64) :
    val_main_v69 (F := Ideal) x2 (ix4 c j h d) = Spec.padded x2 h ⟨(2 + c.val) * 64 + j.val, by omega⟩ d := by
  unfold val_main_v69 val_main_v66
  pointwise
  exact (r_v5 x2 _ h d).trans (padded_row x2 h d (by rfl))
theorem r_v70 (c : Fin 64) (j : Fin 64) (h : Fin 16) (d : Fin 64) :
    val_main_v70 (F := Ideal) x2 (ix4 c j h d) = Spec.padded x2 h ⟨(3 + c.val) * 64 + j.val, by omega⟩ d := by
  unfold val_main_v70 val_main_v66
  pointwise
  exact (r_v5 x2 _ h d).trans (padded_row x2 h d (by rfl))
theorem r_v71 (c : Fin 64) (j : Fin 64) (h : Fin 16) (d : Fin 64) :
    val_main_v71 (F := Ideal) x2 (ix4 c j h d) = Spec.padded x2 h ⟨(4 + c.val) * 64 + j.val, by omega⟩ d := by
  unfold val_main_v71 val_main_v66
  pointwise
  exact (r_v5 x2 _ h d).trans (padded_row x2 h d (by rfl))
theorem r_v72 (c : Fin 64) (j : Fin 64) (h : Fin 16) (d : Fin 64) :
    val_main_v72 (F := Ideal) x2 (ix4 c j h d) = Spec.padded x2 h ⟨(5 + c.val) * 64 + j.val, by omega⟩ d := by
  unfold val_main_v72 val_main_v66
  pointwise
  exact (r_v5 x2 _ h d).trans (padded_row x2 h d (by rfl))
theorem r_v73 (c : Fin 64) (j : Fin 64) (h : Fin 16) (d : Fin 64) :
    val_main_v73 (F := Ideal) x2 (ix4 c j h d) = Spec.padded x2 h ⟨(6 + c.val) * 64 + j.val, by omega⟩ d := by
  unfold val_main_v73 val_main_v66
  pointwise
  exact (r_v5 x2 _ h d).trans (padded_row x2 h d (by rfl))
theorem r_v74 (c : Fin 64) (j : Fin 64) (h : Fin 16) (d : Fin 64) :
    val_main_v74 (F := Ideal) x2 (ix4 c j h d) = Spec.padded x2 h ⟨(7 + c.val) * 64 + j.val, by omega⟩ d := by
  unfold val_main_v74 val_main_v66
  pointwise
  exact (r_v5 x2 _ h d).trans (padded_row x2 h d (by rfl))
theorem r_v75 (c : Fin 64) (j : Fin 64) (h : Fin 16) (d : Fin 64) :
    val_main_v75 (F := Ideal) x2 (ix4 c j h d) = Spec.padded x2 h ⟨(8 + c.val) * 64 + j.val, by omega⟩ d := by
  unfold val_main_v75 val_main_v66
  pointwise
  exact (r_v5 x2 _ h d).trans (padded_row x2 h d (by rfl))

/-- The bands of the values. -/
theorem r_v76 (c : Fin 64) (j : Fin 576) (h : Fin 16) (d : Fin 64) :
    val_main_v76 (F := Ideal) x2 (ix4 c j h d) = Spec.padded x2 h (Spec.col c j) d := by
  unfold val_main_v76
  pointwise
  simp only [r_v67, r_v68, r_v69, r_v70, r_v71, r_v72, r_v73, r_v74, r_v75]
  split_ifs <;> exact padded_row x2 h d (by dsimp only; omega)

/-- The word of negative infinity. -/
theorem word_bot : Ideal.ofBits FTy.f32 0xFF800000#32 = ⊥ := by
  simp [Ideal.ofBits, Ideal.ieee]

/-- The chunks of the queries. -/
theorem r_v6 (c i : Fin 64) (h : Fin 16) (d : Fin 64) :
    val_main_v6 (F := Ideal) x0 (ix4 c i h d) = Spec.head x0 h (Spec.row c i) d := by
  unfold val_main_v6 val_main_v0
  pointwise [Spec.head, Spec.lane, Spec.row]

/-- The chunks of the gradient of the result. -/
theorem r_v81 (c : Fin 64) (h : Fin 16) (d i : Fin 64) :
    val_main_v81 (F := Ideal) x4 (ix4 c h d i) = Spec.head x4 h (Spec.row c i) d := by
  unfold val_main_v81 val_main_v80 val_main_v3
  pointwise [Spec.head, Spec.lane, Spec.row]

/-- The test of a column. -/
theorem valid_col (c : Fin 64) (j : Fin 576) :
    IntOp.cmpi .sge (IntOp.addi (IntOp.muli (BitVec.ofNat 32 c.val) 64#32) (BitVec.ofNat 32 j.val)) 512#32
      = BitVec.ofBool (decide (512 ≤ c.val * 64 + j.val)) := by
  revert c j
  decide +kernel

theorem r_v34 (c : Fin 64) (h : Fin 16) (i : Fin 64) (j : Fin 576) :
    val_main_v34 (F := Ideal) (ix4 c h i j) = BitVec.ofBool (decide (512 ≤ c.val * 64 + j.val)) := by
  rw [← valid_col]
  unfold val_main_v34 val_main_v33 val_main_v32 val_main_v31 val_main_v30 val_main_v29 val_main_v28 val_main_v27 val_main_v26 val_main_v25 val_main_v24 val_main_v23 val_main_v22 val_main_c val_main_c_1
  pointwise

theorem r_v18 (c : Fin 64) (h : Fin 16) (i : Fin 64) (j : Fin 576) :
    val_main_v18 (F := Ideal) x0 x1 (ix4 c h i j) = ∑ d : Fin 64, Spec.head x0 h (Spec.row c i) d * Spec.padded x1 h (Spec.col c j) d := by
  unfold val_main_v18
  pointwise
  simp only [r_v6, r_v17]

/-- The scores. -/
theorem r_v36 (c : Fin 64) (h : Fin 16) (i : Fin 64) (j : Fin 576) :
    val_main_v36 (F := Ideal) x0 x1 x3 (ix4 c h i j) = Spec.score x0 x1 x3 h c i j := by
  unfold val_main_v36 val_main_v35 val_main_cst_2 val_main_v21 val_main_v20 val_main_v19
  pointwise
  rw [r_v34, r_v18]
  unfold Spec.score
  rw [word_bot]
  by_cases hv : 512 ≤ c.val * 64 + j.val
  · rw [if_pos hv, decide_eq_true hv]
    rfl
  · rw [if_neg hv, decide_eq_false hv]
    rfl

/-- The greatest entry of a row of scores. -/
theorem r_v38 (c : Fin 64) (h : Fin 16) (i : Fin 64) :
    val_main_v38 (F := Ideal) x0 x1 x3 (ix3 c h i) = Spec.top (Spec.score x0 x1 x3 h c i) := by
  unfold val_main_v38 val_main_cst_4
  pointwise
  simp only [r_v36]
  rw [word_bot]
  rfl

end Cert.Ref

end
-- ==== Proof.RefRow.lean ====
/-
  The reference's rows read at an index: exponentials, probabilities and the gradient of the scores.
-/
module

public import proofs.«01_k».proof.Proof.RefRead
public import proofs.«01_k».proof.Proof.Gen.ReferenceIdeal.Read
public import Idealize.ShloMosaic.Lib.Pointwise

@[expose] public section

set_option maxRecDepth 16384

noncomputable section

namespace Cert.Ref

open Cert.ReferenceIdeal Cert.ReferenceIdeal.Read Idealize.ShloMosaic Idealize.ShloMosaic.TcCoe Idealize.SL.Sem

variable (x0 x1 x2 x4 : Spec.Seq) (x3 : Spec.Bias)

/-- The greatest entry of a row of scores, once more over negative infinity. -/
theorem r_v45 (c : Fin 64) (h : Fin 16) (i : Fin 64) :
    val_main_v45 (F := Ideal) x0 x1 x3 (ix3 c h i) = Spec.top (Spec.score x0 x1 x3 h c i) := by
  rw [val_main_v45_apply, val_main_v44_apply, val_main_cst_6_apply, r_v38]
  have e : (FloatOps.ofBits (F := Ideal) FTy.f32 0xFF800000#32 : EReal) = ⊥ := word_bot
  rw [e]
  exact max_eq_right bot_le

/-- The greatest entry of a row of scores, at every column. -/
theorem r_v56 (c : Fin 64) (h : Fin 16) (i : Fin 64) (j : Fin 576) :
    val_main_v56 (F := Ideal) x0 x1 x3 (ix4 c h i j) = Spec.top (Spec.score x0 x1 x3 h c i) := by
  rw [← r_v45]
  unfold val_main_v56 val_main_v55
  pointwise

/-- The exponentials of a row of scores. -/
theorem r_v58 (c : Fin 64) (h : Fin 16) (i : Fin 64) (j : Fin 576) :
    val_main_v58 (F := Ideal) x0 x1 x3 (ix4 c h i j) = Spec.expo (Spec.score x0 x1 x3 h c i) j := by
  rw [val_main_v58_apply, val_main_v57_apply, r_v36, r_v56]
  rfl

/-- The sum of the exponentials of a row of scores. -/
theorem r_v59 (c : Fin 64) (h : Fin 16) (i : Fin 64) :
    val_main_v59 (F := Ideal) x0 x1 x3 (ix3 c h i) = ∑ j, Spec.expo (Spec.score x0 x1 x3 h c i) j := by
  unfold val_main_v59 val_main_cst_12
  pointwise
  simp only [r_v58]

/-- The probabilities. -/
theorem r_v62 (c : Fin 64) (h : Fin 16) (i : Fin 64) (j : Fin 576) :
    val_main_v62 (F := Ideal) x0 x1 x3 (ix4 c h i j) = Spec.prob x0 x1 x3 h c i j := by
  unfold val_main_v62 val_main_v61 val_main_v60
  pointwise
  rw [r_v58, r_v59]
  rfl

/-- The gradient of the probabilities. -/
theorem r_v82 (c : Fin 64) (h : Fin 16) (i : Fin 64) (j : Fin 576) :
    val_main_v82 (F := Ideal) x2 x4 (ix4 c h i j) = Spec.dprob x2 x4 h c i j := by
  unfold val_main_v82 Spec.dprob
  pointwise
  simp only [r_v81, r_v76]

/-- One over the square of the sum of the exponentials. -/
theorem r_v65 (c : Fin 64) (h : Fin 16) (i : Fin 64) (z : Fin 1) :
    val_main_v65 (F := Ideal) x0 x1 x3 (ix4 c h i z) = Ideal.div 1
      ((∑ j, Spec.expo (Spec.score x0 x1 x3 h c i) j) * ∑ j, Spec.expo (Spec.score x0 x1 x3 h c i) j) := by
  unfold val_main_v65 val_main_v64 val_main_v63 val_main_v60 val_main_cst_13
  pointwise
  simp only [r_v59]

/-- The gradient of the scores before the mask. -/
theorem r_v123 (c : Fin 64) (h : Fin 16) (i : Fin 64) (j : Fin 576) :
    val_main_v123 (F := Ideal) x0 x1 x2 x3 x4 (ix4 c h i j)
      = Spec.quot (Spec.score x0 x1 x3 h c i) (Spec.dprob x2 x4 h c i) j := by
  unfold val_main_v123 val_main_v122 val_main_v121 val_main_v120 val_main_v119 val_main_v118 val_main_v117 val_main_v116 val_main_v115 val_main_v114 val_main_v113 val_main_v112 val_main_v60 val_main_cst_23 val_main_cst_24
  pointwise
  simp only [r_v58, r_v59, r_v82, r_v65]
  unfold Spec.quot
  rw [Fin.sum_univ_one]

end Cert.Ref

end
-- ==== Proof.RefOut.lean ====
/-
  The reference's results read at an index: each is the plain formula for that gradient, provided every row of scores
  is one that a softmax is taken of.
-/
module

public import proofs.«01_k».proof.Proof.RefRow
public import proofs.«01_k».proof.Proof.Result
public import proofs.«01_k».proof.Proof.Gen.ReferenceIdeal.Read
public import Idealize.ShloMosaic.Lib.Pointwise

@[expose] public section

set_option maxRecDepth 16384

noncomputable section

namespace Cert.Ref

open Cert.ReferenceIdeal Cert.ReferenceIdeal.Read Idealize.ShloMosaic Idealize.ShloMosaic.TcCoe Idealize.SL.Sem

variable (x0 x1 x2 x4 : Spec.Seq) (x3 : Spec.Bias)

/-- The gradient of the values of a band, from one chunk. -/
theorem r_v84 (c : Fin 64) (j : Fin 576) (h : Fin 16) (d : Fin 64) :
    val_main_v84 (F := Ideal) x0 x1 x3 x4 (ix4 c j h d)
      = ∑ i : Fin 64, Spec.prob x0 x1 x3 h c i j * Spec.head x4 h (Spec.row c i) d := by
  unfold val_main_v84 val_main_v83
  pointwise
  simp only [r_v81, r_v62]
  exact Finset.sum_congr rfl fun _ _ => mul_comm _ _

/-- A sum of nine entries, taken from the last to the first. -/
theorem nine (f : Fin 9 → EReal) :
    ∑ j, f j = f 8 + f 7 + f 6 + f 5 + f 4 + f 3 + f 2 + f 1 + f 0 := by
  rw [Fin.sum_univ_castSucc, Fin.sum_univ_eight]
  show f 0 + f 1 + f 2 + f 3 + f 4 + f 5 + f 6 + f 7 + f 8 = _
  ac_rfl

/-- Piece 0 of the bands, moved to the chunks whose rows it holds. -/
theorem r_v109 (k : Fin 72) (r : Fin 64) (h : Fin 16) (d : Fin 64) :
    val_main_v109 (F := Ideal) x0 x1 x3 x4 (ix4 k r h d)
      = if hh : (0 : Fin 9).val ≤ k.val ∧ k.val - (0 : Fin 9).val < 64 then
          (fun c z => val_main_v84 (F := Ideal) x0 x1 x3 x4 (ix4 c z h d)) ⟨k.val - (0 : Fin 9).val, hh.2⟩
            ⟨(0 : Fin 9).val * 64 + r.val, by omega⟩ else 0 := by
  unfold val_main_v109 val_main_v85 val_main_cst_22
  pointwise

/-- Piece 1 of the bands, moved to the chunks whose rows it holds. -/
theorem r_v107 (k : Fin 72) (r : Fin 64) (h : Fin 16) (d : Fin 64) :
    val_main_v107 (F := Ideal) x0 x1 x3 x4 (ix4 k r h d)
      = if hh : (1 : Fin 9).val ≤ k.val ∧ k.val - (1 : Fin 9).val < 64 then
          (fun c z => val_main_v84 (F := Ideal) x0 x1 x3 x4 (ix4 c z h d)) ⟨k.val - (1 : Fin 9).val, hh.2⟩
            ⟨(1 : Fin 9).val * 64 + r.val, by omega⟩ else 0 := by
  unfold val_main_v107 val_main_v86 val_main_cst_21
  pointwise

/-- Piece 2 of the bands, moved to the chunks whose rows it holds. -/
theorem r_v105 (k : Fin 72) (r : Fin 64) (h : Fin 16) (d : Fin 64) :
    val_main_v105 (F := Ideal) x0 x1 x3 x4 (ix4 k r h d)
      = if hh : (2 : Fin 9).val ≤ k.val ∧ k.val - (2 : Fin 9).val < 64 then
          (fun c z => val_main_v84 (F := Ideal) x0 x1 x3 x4 (ix4 c z h d)) ⟨k.val - (2 : Fin 9).val, hh.2⟩
            ⟨(2 : Fin 9).val * 64 + r.val, by omega⟩ else 0 := by
  unfold val_main_v105 val_main_v87 val_main_cst_20
  pointwise

/-- Piece 3 of the bands, moved to the chunks whose rows it holds. -/
theorem r_v103 (k : Fin 72) (r : Fin 64) (h : Fin 16) (d : Fin 64) :
    val_main_v103 (F := Ideal) x0 x1 x3 x4 (ix4 k r h d)
      = if hh : (3 : Fin 9).val ≤ k.val ∧ k.val - (3 : Fin 9).val < 64 then
          (fun c z => val_main_v84 (F := Ideal) x0 x1 x3 x4 (ix4 c z h d)) ⟨k.val - (3 : Fin 9).val, hh.2⟩
            ⟨(3 : Fin 9).val * 64 + r.val, by omega⟩ else 0 := by
  unfold val_main_v103 val_main_v88 val_main_cst_19
  pointwise

/-- Piece 4 of the bands, moved to the chunks whose rows it holds. -/
theorem r_v101 (k : Fin 72) (r : Fin 64) (h : Fin 16) (d : Fin 64) :
    val_main_v101 (F := Ideal) x0 x1 x3 x4 (ix4 k r h d)
      = if hh : (4 : Fin 9).val ≤ k.val ∧ k.val - (4 : Fin 9).val < 64 then
          (fun c z => val_main_v84 (F := Ideal) x0 x1 x3 x4 (ix4 c z h d)) ⟨k.val - (4 : Fin 9).val, hh.2⟩
            ⟨(4 : Fin 9).val * 64 + r.val, by omega⟩ else 0 := by
  unfold val_main_v101 val_main_v89 val_main_cst_18
  pointwise

/-- Piece 5 of the bands, moved to the chunks whose rows it holds. -/
theorem r_v99 (k : Fin 72) (r : Fin 64) (h : Fin 16) (d : Fin 64) :
    val_main_v99 (F := Ideal) x0 x1 x3 x4 (ix4 k r h d)
      = if hh : (5 : Fin 9).val ≤ k.val ∧ k.val - (5 : Fin 9).val < 64 then
          (fun c z => val_main_v84 (F := Ideal) x0 x1 x3 x4 (ix4 c z h d)) ⟨k.val - (5 : Fin 9).val, hh.2⟩
            ⟨(5 : Fin 9).val * 64 + r.val, by omega⟩ else 0 := by
  unfold val_main_v99 val_main_v90 val_main_cst_17
  pointwise

/-- Piece 6 of the bands, moved to the chunks whose rows it holds. -/
theorem r_v97 (k : Fin 72) (r : Fin 64) (h : Fin 16) (d : Fin 64) :
    val_main_v97 (F := Ideal) x0 x1 x3 x4 (ix4 k r h d)
      = if hh : (6 : Fin 9).val ≤ k.val ∧ k.val - (6 : Fin 9).val < 64 then
          (fun c z => val_main_v84 (F := Ideal) x0 x1 x3 x4 (ix4 c z h d)) ⟨k.val - (6 : Fin 9).val, hh.2⟩
            ⟨(6 : Fin 9).val * 64 + r.val, by omega⟩ else 0 := by
  unfold val_main_v97 val_main_v91 val_main_cst_16
  pointwise

/-- Piece 7 of the bands, moved to the chunks whose rows it holds. -/
theorem r_v95 (k : Fin 72) (r : Fin 64) (h : Fin 16) (d : Fin 64) :
    val_main_v95 (F := Ideal) x0 x1 x3 x4 (ix4 k r h d)
      = if hh : (7 : Fin 9).val ≤ k.val ∧ k.val - (7 : Fin 9).val < 64 then
          (fun c z => val_main_v84 (F := Ideal) x0 x1 x3 x4 (ix4 c z h d)) ⟨k.val - (7 : Fin 9).val, hh.2⟩
            ⟨(7 : Fin 9).val * 64 + r.val, by omega⟩ else 0 := by
  unfold val_main_v95 val_main_v92 val_main_cst_15
  pointwise

/-- Piece 8 of the bands, moved to the chunks whose rows it holds. -/
theorem r_v94 (k : Fin 72) (r : Fin 64) (h : Fin 16) (d : Fin 64) :
    val_main_v94 (F := Ideal) x0 x1 x3 x4 (ix4 k r h d)
      = if hh : (8 : Fin 9).val ≤ k.val ∧ k.val - (8 : Fin 9).val < 64 then
          (fun c z => val_main_v84 (F := Ideal) x0 x1 x3 x4 (ix4 c z h d)) ⟨k.val - (8 : Fin 9).val, hh.2⟩
            ⟨(8 : Fin 9).val * 64 + r.val, by omega⟩ else 0 := by
  unfold val_main_v94 val_main_v93 val_main_cst_14
  pointwise

/-- The pieces together: what the chunks add to a row of the padded sequence. -/
theorem r_v110 (k : Fin 72) (r : Fin 64) (h : Fin 16) (d : Fin 64) :
    val_main_v110 (F := Ideal) x0 x1 x3 x4 (ix4 k r h d)
      = ∑ c : Fin 64, Spec.share (fun z => val_main_v84 (F := Ideal) x0 x1 x3 x4 (ix4 c z h d)) c.val ⟨k.val * 64 + r.val, by omega⟩ := by
  rw [Spec.share_sum (fun c z => val_main_v84 (F := Ideal) x0 x1 x3 x4 (ix4 c z h d)) k r, nine, val_main_v110_apply, val_main_v108_apply, val_main_v106_apply, val_main_v104_apply, val_main_v102_apply, val_main_v100_apply, val_main_v98_apply, val_main_v96_apply]
  rw [r_v94, r_v95, r_v97, r_v99, r_v101, r_v103, r_v105, r_v107, r_v109]
  rfl

/-- The same at a row of the padded sequence. -/
theorem r_v163 (h : Fin 16) (t : Fin 4608) (d : Fin 64) :
    val_main_v163 (F := Ideal) x0 x1 x3 x4 (ix3 h t d)
      = ∑ c : Fin 64, Spec.share (fun z => val_main_v84 (F := Ideal) x0 x1 x3 x4 (ix4 c z h d)) c.val t := by
  unfold val_main_v163 val_main_v111
  pointwise
  refine (r_v110 x0 x1 x4 x3 _ _ _ _).trans ?_
  congr 1
  funext c
  congr 1
  apply Fin.ext
  show t.val / 64 * 64 + t.val % 64 = t.val
  omega

/-- The gradient of the padded values. -/
theorem ref_dv (h : Fin 16) (t : Fin 4608) (d : Fin 64) :
    val_main_v163 (F := Ideal) x0 x1 x3 x4 (ix3 h t d) = Spec.dv x0 x1 x3 x4 h t d := by
  rw [r_v163]
  simp only [r_v84]
  rfl

/-- Every row of scores is one that a softmax is taken of. -/
def Rows (Q K : Spec.Seq) (B : Spec.Bias) : Prop := ∀ h c i, Spec.Row (Spec.score Q K B h c i)

/-- The gradient of the scores. -/
theorem r_v125 (rows : Rows x0 x1 x3) (c : Fin 64) (h : Fin 16) (i : Fin 64) (j : Fin 576) :
    val_main_v125 (F := Ideal) x0 x1 x2 x3 x4 (ix4 c h i j) = Spec.dscore x0 x1 x2 x3 x4 h c i j := by
  rw [val_main_v125_apply, r_v34, r_v123, val_main_v124_apply, val_main_cst_25_apply, (rows h c i).quot_eq]
  by_cases hv : 512 ≤ c.val * 64 + j.val
  · rw [decide_eq_true hv]
    rfl
  · rw [decide_eq_false hv]
    refine Eq.trans ?_ ((rows h c i).back_bot (Spec.dprob x2 x4 h c i) (if_neg hv)).symm
    exact Ideal.ofBits_zero .f32

/-- The gradient of the bias. -/
theorem ref_db (rows : Rows x0 x1 x3) (h : Fin 16) (i : Fin 64) (j : Fin 576) :
    val_main_v128 (F := Ideal) x0 x1 x2 x3 x4 (ix3 h i j) = Spec.db x0 x1 x2 x3 x4 h i j := by
  unfold val_main_v128 val_main_v127 val_main_v126 val_main_cst_26 val_main_cst_27
  pointwise
  simp only [r_v125 x0 x1 x2 x4 x3 rows]
  rw [Fin.sum_univ_one]
  rfl

/-- The gradient of the queries. -/
theorem ref_dq (rows : Rows x0 x1 x3) (h : Fin 16) (c i : Fin 64) (d : Fin 64) :
    val_main_v161 (F := Ideal) x0 x1 x2 x3 x4 (ix3 h (Spec.row c i) d) = Spec.dq x0 x1 x2 x3 x4 h c i d := by
  unfold val_main_v161 val_main_v160 val_main_v132 val_main_v131
  pointwise
  simp only [r_v125 x0 x1 x2 x4 x3 rows, r_v17]
  rfl

/-- The gradient of the keys of a band, from one chunk. -/
theorem r_v130 (rows : Rows x0 x1 x3) (c : Fin 64) (j : Fin 576) (h : Fin 16) (d : Fin 64) :
    val_main_v130 (F := Ideal) x0 x1 x2 x3 x4 (ix4 c j h d)
      = ∑ i : Fin 64, Spec.dscore x0 x1 x2 x3 x4 h c i j * Spec.head x0 h (Spec.row c i) d := by
  unfold val_main_v130 val_main_v129
  pointwise
  simp only [r_v125 x0 x1 x2 x4 x3 rows, r_v6]

/-- Piece 0 of the bands, moved to the chunks whose rows it holds. -/
theorem r_v157 (k : Fin 72) (r : Fin 64) (h : Fin 16) (d : Fin 64) :
    val_main_v157 (F := Ideal) x0 x1 x2 x3 x4 (ix4 k r h d)
      = if hh : (0 : Fin 9).val ≤ k.val ∧ k.val - (0 : Fin 9).val < 64 then
          (fun c z => val_main_v130 (F := Ideal) x0 x1 x2 x3 x4 (ix4 c z h d)) ⟨k.val - (0 : Fin 9).val, hh.2⟩
            ⟨(0 : Fin 9).val * 64 + r.val, by omega⟩ else 0 := by
  unfold val_main_v157 val_main_v133 val_main_cst_36
  pointwise

/-- Piece 1 of the bands, moved to the chunks whose rows it holds. -/
theorem r_v155 (k : Fin 72) (r : Fin 64) (h : Fin 16) (d : Fin 64) :
    val_main_v155 (F := Ideal) x0 x1 x2 x3 x4 (ix4 k r h d)
      = if hh : (1 : Fin 9).val ≤ k.val ∧ k.val - (1 : Fin 9).val < 64 then
          (fun c z => val_main_v130 (F := Ideal) x0 x1 x2 x3 x4 (ix4 c z h d)) ⟨k.val - (1 : Fin 9).val, hh.2⟩
            ⟨(1 : Fin 9).val * 64 + r.val, by omega⟩ else 0 := by
  unfold val_main_v155 val_main_v134 val_main_cst_35
  pointwise

/-- Piece 2 of the bands, moved to the chunks whose rows it holds. -/
theorem r_v153 (k : Fin 72) (r : Fin 64) (h : Fin 16) (d : Fin 64) :
    val_main_v153 (F := Ideal) x0 x1 x2 x3 x4 (ix4 k r h d)
      = if hh : (2 : Fin 9).val ≤ k.val ∧ k.val - (2 : Fin 9).val < 64 then
          (fun c z => val_main_v130 (F := Ideal) x0 x1 x2 x3 x4 (ix4 c z h d)) ⟨k.val - (2 : Fin 9).val, hh.2⟩
            ⟨(2 : Fin 9).val * 64 + r.val, by omega⟩ else 0 := by
  unfold val_main_v153 val_main_v135 val_main_cst_34
  pointwise

/-- Piece 3 of the bands, moved to the chunks whose rows it holds. -/
theorem r_v151 (k : Fin 72) (r : Fin 64) (h : Fin 16) (d : Fin 64) :
    val_main_v151 (F := Ideal) x0 x1 x2 x3 x4 (ix4 k r h d)
      = if hh : (3 : Fin 9).val ≤ k.val ∧ k.val - (3 : Fin 9).val < 64 then
          (fun c z => val_main_v130 (F := Ideal) x0 x1 x2 x3 x4 (ix4 c z h d)) ⟨k.val - (3 : Fin 9).val, hh.2⟩
            ⟨(3 : Fin 9).val * 64 + r.val, by omega⟩ else 0 := by
  unfold val_main_v151 val_main_v136 val_main_cst_33
  pointwise

/-- Piece 4 of the bands, moved to the chunks whose rows it holds. -/
theorem r_v149 (k : Fin 72) (r : Fin 64) (h : Fin 16) (d : Fin 64) :
    val_main_v149 (F := Ideal) x0 x1 x2 x3 x4 (ix4 k r h d)
      = if hh : (4 : Fin 9).val ≤ k.val ∧ k.val - (4 : Fin 9).val < 64 then
          (fun c z => val_main_v130 (F := Ideal) x0 x1 x2 x3 x4 (ix4 c z h d)) ⟨k.val - (4 : Fin 9).val, hh.2⟩
            ⟨(4 : Fin 9).val * 64 + r.val, by omega⟩ else 0 := by
  unfold val_main_v149 val_main_v137 val_main_cst_32
  pointwise

/-- Piece 5 of the bands, moved to the chunks whose rows it holds. -/
theorem r_v147 (k : Fin 72) (r : Fin 64) (h : Fin 16) (d : Fin 64) :
    val_main_v147 (F := Ideal) x0 x1 x2 x3 x4 (ix4 k r h d)
      = if hh : (5 : Fin 9).val ≤ k.val ∧ k.val - (5 : Fin 9).val < 64 then
          (fun c z => val_main_v130 (F := Ideal) x0 x1 x2 x3 x4 (ix4 c z h d)) ⟨k.val - (5 : Fin 9).val, hh.2⟩
            ⟨(5 : Fin 9).val * 64 + r.val, by omega⟩ else 0 := by
  unfold val_main_v147 val_main_v138 val_main_cst_31
  pointwise

/-- Piece 6 of the bands, moved to the chunks whose rows it holds. -/
theorem r_v145 (k : Fin 72) (r : Fin 64) (h : Fin 16) (d : Fin 64) :
    val_main_v145 (F := Ideal) x0 x1 x2 x3 x4 (ix4 k r h d)
      = if hh : (6 : Fin 9).val ≤ k.val ∧ k.val - (6 : Fin 9).val < 64 then
          (fun c z => val_main_v130 (F := Ideal) x0 x1 x2 x3 x4 (ix4 c z h d)) ⟨k.val - (6 : Fin 9).val, hh.2⟩
            ⟨(6 : Fin 9).val * 64 + r.val, by omega⟩ else 0 := by
  unfold val_main_v145 val_main_v139 val_main_cst_30
  pointwise

/-- Piece 7 of the bands, moved to the chunks whose rows it holds. -/
theorem r_v143 (k : Fin 72) (r : Fin 64) (h : Fin 16) (d : Fin 64) :
    val_main_v143 (F := Ideal) x0 x1 x2 x3 x4 (ix4 k r h d)
      = if hh : (7 : Fin 9).val ≤ k.val ∧ k.val - (7 : Fin 9).val < 64 then
          (fun c z => val_main_v130 (F := Ideal) x0 x1 x2 x3 x4 (ix4 c z h d)) ⟨k.val - (7 : Fin 9).val, hh.2⟩
            ⟨(7 : Fin 9).val * 64 + r.val, by omega⟩ else 0 := by
  unfold val_main_v143 val_main_v140 val_main_cst_29
  pointwise

/-- Piece 8 of the bands, moved to the chunks whose rows it holds. -/
theorem r_v142 (k : Fin 72) (r : Fin 64) (h : Fin 16) (d : Fin 64) :
    val_main_v142 (F := Ideal) x0 x1 x2 x3 x4 (ix4 k r h d)
      = if hh : (8 : Fin 9).val ≤ k.val ∧ k.val - (8 : Fin 9).val < 64 then
          (fun c z => val_main_v130 (F := Ideal) x0 x1 x2 x3 x4 (ix4 c z h d)) ⟨k.val - (8 : Fin 9).val, hh.2⟩
            ⟨(8 : Fin 9).val * 64 + r.val, by omega⟩ else 0 := by
  unfold val_main_v142 val_main_v141 val_main_cst_28
  pointwise

/-- The pieces together: what the chunks add to a row of the padded sequence. -/
theorem r_v158 (k : Fin 72) (r : Fin 64) (h : Fin 16) (d : Fin 64) :
    val_main_v158 (F := Ideal) x0 x1 x2 x3 x4 (ix4 k r h d)
      = ∑ c : Fin 64, Spec.share (fun z => val_main_v130 (F := Ideal) x0 x1 x2 x3 x4 (ix4 c z h d)) c.val ⟨k.val * 64 + r.val, by omega⟩ := by
  rw [Spec.share_sum (fun c z => val_main_v130 (F := Ideal) x0 x1 x2 x3 x4 (ix4 c z h d)) k r, nine, val_main_v158_apply, val_main_v156_apply, val_main_v154_apply, val_main_v152_apply, val_main_v150_apply, val_main_v148_apply, val_main_v146_apply, val_main_v144_apply]
  rw [r_v142, r_v143, r_v145, r_v147, r_v149, r_v151, r_v153, r_v155, r_v157]
  rfl

/-- The same at a row of the padded sequence. -/
theorem r_v162 (h : Fin 16) (t : Fin 4608) (d : Fin 64) :
    val_main_v162 (F := Ideal) x0 x1 x2 x3 x4 (ix3 h t d)
      = ∑ c : Fin 64, Spec.share (fun z => val_main_v130 (F := Ideal) x0 x1 x2 x3 x4 (ix4 c z h d)) c.val t := by
  unfold val_main_v162 val_main_v159
  pointwise
  refine (r_v158 x0 x1 x2 x4 x3 _ _ _ _).trans ?_
  congr 1
  funext c
  congr 1
  apply Fin.ext
  show t.val / 64 * 64 + t.val % 64 = t.val
  omega

/-- The gradient of the padded keys. -/
theorem ref_dk (rows : Rows x0 x1 x3) (h : Fin 16) (t : Fin 4608) (d : Fin 64) :
    val_main_v162 (F := Ideal) x0 x1 x2 x3 x4 (ix3 h t d) = Spec.dk x0 x1 x2 x3 x4 h t d := by
  rw [r_v162]
  simp only [r_v130 x0 x1 x2 x4 x3 rows]
  rfl

end Cert.Ref

end
-- ==== Proof.Blocks.lean ====
/-
  A sum over a contracted dimension taken block by block, as one sum.
-/
module

public import Mathlib.Data.EReal.Operations
public import Mathlib.Algebra.BigOperators.Fin
public import Mathlib.Logic.Equiv.Fin.Basic

@[expose] public section

noncomputable section

namespace Blocks

/-- The sum of the first `n` of some parts. -/
def first {b : ℕ} (f : Fin b → EReal) (n : ℕ) : EReal := ∑ s : Fin b, if s.val < n then f s else 0

/-- One part is the first. -/
theorem first_one {b : ℕ} (f : Fin b → EReal) (s : Fin b) (h : s.val = 0) : first f 1 = f s := by
  unfold first
  rw [Finset.sum_eq_single s]
  · rw [if_pos (by omega)]
  · intro x _ hx
    exact if_neg fun hl => hx (Fin.ext (by omega))
  · exact fun hx => absurd (Finset.mem_univ s) hx

/-- One more part is added. -/
theorem first_succ {b : ℕ} (f : Fin b → EReal) (s : Fin b) : first f (s.val + 1) = first f s.val + f s := by
  have e : ∀ x : Fin b, (if x.val < s.val + 1 then f x else 0)
      = (if x.val < s.val then f x else 0) + if x = s then f s else 0 := by
    intro x
    by_cases hx : x = s
    · subst hx
      rw [if_pos (by omega), if_neg (by omega), if_pos rfl, zero_add]
    · have hv : x.val ≠ s.val := fun h => hx (Fin.ext h)
      rw [if_neg hx, add_zero]
      by_cases hl : x.val < s.val
      · rw [if_pos hl, if_pos (by omega)]
      · rw [if_neg hl, if_neg (by omega)]
  unfold first
  rw [Finset.sum_congr rfl fun x _ => e x, Finset.sum_add_distrib]
  congr 1
  rw [Finset.sum_ite_eq' Finset.univ s fun _ => f s, if_pos (Finset.mem_univ s)]

/-- All the parts. -/
theorem first_all {b : ℕ} (f : Fin b → EReal) : first f b = ∑ s : Fin b, f s :=
  Finset.sum_congr rfl fun s _ => if_pos s.isLt

/-- Place `x` of block `s`. -/
def place {b n : ℕ} (s : Fin b) (x : Fin n) : Fin (b * n) :=
  ⟨s.val * n + x.val, by
    have h1 := s.isLt
    have h2 := x.isLt
    calc s.val * n + x.val < s.val * n + n := by omega
      _ = (s.val + 1) * n := by ring
      _ ≤ b * n := Nat.mul_le_mul_right n h1⟩

/-- A sum over all places is the sum over the blocks of the sums inside them. -/
theorem sum_place {b n : ℕ} (g : Fin (b * n) → EReal) : (∑ s : Fin b, ∑ x : Fin n, g (place s x)) = ∑ k : Fin (b * n), g k := by
  rw [← Fintype.sum_prod_type' (f := fun (s : Fin b) (x : Fin n) => g (place s x))]
  refine Fintype.sum_equiv finProdFinEquiv _ _ fun p => congrArg g (Fin.ext ?_)
  show p.1.val * n + p.2.val = p.2.val + n * p.1.val
  ring

end Blocks

end
-- ==== Proof.Base.lean ====
/-
  What the modules here take from the library.
-/
module

public import Idealize.ShloMosaic.Lib.StableHlo.Run
public import Idealize.ShloMosaic.Lib.KernelVsHost
public import Idealize.ShloMosaic.Lib.Tactic
public import Idealize.ShloMosaic.Lib.Pointwise
public import Idealize.ShloMosaic.Lib.WritesUnit
public import Idealize.ShloMosaic.Lib.VecWindow
public import Idealize.ShloMosaic.Lib.Pipeline.Value
public import Idealize.ShloMosaic.Lib.Pipeline.ValueKit.Tiles
public import Idealize.ShloMosaic.Adequacy
public import Idealize.ShloMosaic.Init
-- ==== Proof.Rows.lean ====
/-
  Arrays cut along their rows into equal blocks: indices by their coordinates, the block that holds a row, and a sum
  that a launch gathers block after block.
-/
module

public import proofs.«01_k».proof.Proof.Blocks
public import proofs.«01_k».proof.Proof.Base

@[expose] public section

noncomputable section

namespace Rows

open Idealize.ShloMosaic

/-- Offsets of zero. -/
theorem hz2 : (![0, 0] : Fin 2 → Nat) = fun _ => 0 := funext fun a => by fin_cases a <;> rfl

/-- Offsets of zero. -/
theorem hz3 : (![0, 0, 0] : Fin 3 → Nat) = fun _ => 0 := funext fun a => by fin_cases a <;> rfl

/-- An index is known by its coordinates. -/
theorem ix2_of {s : Fin 2 → ℕ} (x : (⟨2, s⟩ : Shape).Idx) (y : (⟨2, s⟩ : Shape).Idx) (h0 : (x 0).val = (y 0).val)
    (h1 : (x 1).val = (y 1).val) : x = y := by
  funext a
  match a with
  | ⟨0, _⟩ => exact Fin.ext h0
  | ⟨1, _⟩ => exact Fin.ext h1

/-- A place of a block whose number is known. -/
theorem off {p q : ℕ} (h : p = q) (n k : ℕ) : p * n + 1 * k = q * n + k := by rw [h, one_mul]

/-- A place of the only block. -/
theorem off_zero {p : ℕ} (h : p = 0) (n k : ℕ) : p * n + 1 * k = k := by rw [h, one_mul, zero_mul, zero_add]

/-- A row lies in the block of its quotient. -/
theorem within {p i n : ℕ} (hn : 0 < n) (h : p = i / n) : p * n ≤ i ∧ i < p * n + n := by
  subst h
  exact ⟨Nat.div_mul_le_self i n, by have := Nat.lt_div_mul_add (a := i) hn; omega⟩

/-- A column lies in the only block. -/
theorem within_zero {p i n : ℕ} (hi : i < n) (h : p = 0) : p * n ≤ i ∧ i < p * n + n := by
  subst h; omega

/-- A sum gathered block after block is the sum over all places. -/
theorem gathered {b n : ℕ} (g : Fin (b * n) → EReal) (a : (k : ℕ) → k < b → EReal)
    (first : ∀ h, a 0 h = ∑ x : Fin n, g (Blocks.place ⟨0, h⟩ x))
    (next : ∀ k h, a (k + 1) h = a k (Nat.lt_of_succ_lt h) + ∑ x : Fin n, g (Blocks.place ⟨k + 1, h⟩ x)) :
    ∀ k (h : k < b), k + 1 = b → a k h = ∑ y, g y := by
  have e : ∀ k (h : k < b), a k h = Blocks.first (fun s => ∑ x : Fin n, g (Blocks.place s x)) (k + 1) := by
    intro k
    induction k with
    | zero => exact fun h => (first h).trans (Blocks.first_one (fun s => ∑ x : Fin n, g (Blocks.place s x)) ⟨0, h⟩ rfl).symm
    | succ k ih => exact fun h => (next k h).trans ((congrArg (· + _) (ih _)).trans (Blocks.first_succ _ ⟨k + 1, h⟩).symm)
  intro k h hb
  rw [e k h, hb, Blocks.first_all, Blocks.sum_place]

end Rows

end
-- ==== Proof.Tiles.lean ====
/-
  A product of two matrices of which every grid point makes one tile: where the tiles and what they are made of lie, and
  that they fill the product. Stated once for any sizes; each such call applies it to its own.
-/
module

public import proofs.«01_k».proof.Proof.Rows

@[expose] public section

noncomputable section

namespace Tiles

open Idealize.ShloMosaic

/-- `M` rows are `a` blocks of `r`, and `N` columns `b` blocks of `c`. -/
structure Sizes (M N a r b c : ℕ) : Prop where
  rows : M = a * r
  cols : N = b * c
  row : 0 < r
  col : 0 < c

variable {M N K a r b c : ℕ} (z : Sizes M N a r b c) (t : Fin (a * b)) (p : Fin r) (q : Fin c)

/-- A row of point `t`'s tile. -/
def row : Fin M := (Blocks.place t.divNat p).cast z.rows.symm

/-- A column of point `t`'s tile. -/
def col : Fin N := (Blocks.place t.modNat q).cast z.cols.symm

/-- The product of two matrices. -/
def product (A : Fin M → Fin K → EReal) (B : Fin K → Fin N → EReal) : (⟨2, ![M, N]⟩ : Shape).Idx → EReal :=
  fun y => ∑ k, A (y 0) k * B k (y 1)

section Lie
variable {i : Fin 2 → ℕ}

/-- A place of the product as the launch computes it. -/
theorem tile_of (e : i 0 = t.val / b ∧ i 1 = t.val % b) (y : (⟨2, ![M, N]⟩ : Shape).Idx) (h0 : (y 0).val = i 0 * r + 1 * p.val)
    (h1 : (y 1).val = i 1 * c + 1 * q.val) : y = ix2 (row z t p) (col z t q) :=
  Rows.ix2_of _ _ (h0.trans (Rows.off e.1 _ _)) (h1.trans (Rows.off e.2 _ _))

/-- A place of the first factor. -/
theorem left_of (k : Fin K) (e : i 0 = t.val / b ∧ i 1 = 0) (y : (⟨2, ![M, K]⟩ : Shape).Idx) (h0 : (y 0).val = i 0 * r + 1 * p.val)
    (h1 : (y 1).val = i 1 * K + 1 * k.val) : y = ix2 (row z t p) k :=
  Rows.ix2_of _ _ (h0.trans (Rows.off e.1 _ _)) (h1.trans (Rows.off_zero e.2 _ _))

/-- A place of the second factor. -/
theorem right_of (k : Fin K) (e : i 0 = 0 ∧ i 1 = t.val % b) (y : (⟨2, ![K, N]⟩ : Shape).Idx) (h0 : (y 0).val = i 0 * K + 1 * k.val)
    (h1 : (y 1).val = i 1 * c + 1 * q.val) : y = ix2 k (col z t q) :=
  Rows.ix2_of _ _ (h0.trans (Rows.off_zero e.1 _ _)) (h1.trans (Rows.off e.2 _ _))

/-- A place of the second factor, if it is given transposed. -/
theorem turned_of (k : Fin K) (e : i 0 = t.val % b ∧ i 1 = 0) (y : (⟨2, ![N, K]⟩ : Shape).Idx) (h0 : (y 0).val = i 0 * c + 1 * q.val)
    (h1 : (y 1).val = i 1 * K + 1 * k.val) : y = ix2 (col z t q) k :=
  Rows.ix2_of _ _ (h0.trans (Rows.off e.1 _ _)) (h1.trans (Rows.off_zero e.2 _ _))

/-- A place of the second factor, if it is given in blocks of columns. -/
theorem split_of {i : Fin 3 → ℕ} (k : Fin K) (e : i 0 = t.val % b ∧ i 1 = 0 ∧ i 2 = 0) (y : (⟨3, ![b, K, c]⟩ : Shape).Idx)
    (h0 : (y 0).val = i 0 * 1 + 1 * 0) (h1 : (y 1).val = i 1 * K + 1 * k.val) (h2 : (y 2).val = i 2 * c + 1 * q.val) :
    y = ix3 t.modNat k q := by
  funext x
  match x with
  | ⟨0, _⟩ => exact Fin.ext (h0.trans (by rw [e.1, Nat.mul_one]; rfl))
  | ⟨1, _⟩ => exact Fin.ext (h1.trans (Rows.off_zero e.2.1 _ _))
  | ⟨2, _⟩ => exact Fin.ext (h2.trans (Rows.off_zero e.2.2 _ _))

end Lie

/-- A tile known at each of its places. -/
theorem tile {u v : (⟨2, ![r, c]⟩ : Shape).Idx → EReal} (G : (⟨2, ![M, N]⟩ : Shape).Idx → EReal)
    (hu : ∀ p q, u (ix2 p q) = G (ix2 (row z t p) (col z t q))) (hv : ∀ p q, v (ix2 p q) = G (ix2 (row z t p) (col z t q))) : u = v := by
  funext y
  rw [show y = ix2 (y 0 : Fin r) (y 1 : Fin c) from Rows.ix2_of _ _ rfl rfl]
  exact (hu _ _).trans (hv _ _).symm

/-- Sets that hold the tiles of the points hold every place. -/
theorem cover {n : ℕ} (hn : n = a * b) (S : Fin n → Set (⟨2, ![M, N]⟩ : Shape).Idx)
    (h : ∀ t p q, ix2 (row z (t.cast hn) p) (col z (t.cast hn) q) ∈ S t) (y : (⟨2, ![M, N]⟩ : Shape).Idx) : ∃ t, y ∈ S t := by
  subst hn
  have y0 : (y 0).val / r < a := Nat.div_lt_of_lt_mul ((y 0).isLt.trans_eq (z.rows.trans (Nat.mul_comm _ _)))
  have y1 : (y 1).val / c < b := Nat.div_lt_of_lt_mul ((y 1).isLt.trans_eq (z.cols.trans (Nat.mul_comm _ _)))
  have hb : 0 < b := Nat.lt_of_le_of_lt (Nat.zero_le _) y1
  refine ⟨Blocks.place ⟨_, y0⟩ ⟨_, y1⟩, ?_⟩
  have e : y = ix2 (row z (Blocks.place ⟨_, y0⟩ ⟨_, y1⟩) ⟨(y 0).val % r, Nat.mod_lt _ z.row⟩)
      (col z (Blocks.place ⟨_, y0⟩ ⟨_, y1⟩) ⟨(y 1).val % c, Nat.mod_lt _ z.col⟩) := by
    refine Rows.ix2_of _ _ ?_ ?_
    · show (y 0).val = ((y 0).val / r * b + (y 1).val / c) / b * r + (y 0).val % r
      rw [Nat.mul_comm _ b, Nat.mul_add_div hb, Nat.div_eq_of_lt y1, Nat.add_zero, Nat.mul_comm]
      exact (Nat.div_add_mod _ _).symm
    · show (y 1).val = ((y 0).val / r * b + (y 1).val / c) % b * c + (y 1).val % c
      rw [Nat.mul_comm _ b, Nat.mul_add_mod, Nat.mod_eq_of_lt y1, Nat.mul_comm]
      exact (Nat.div_add_mod _ _).symm
  exact Set.mem_of_eq_of_mem e (h _ _ _)

end Tiles

end
-- ==== Proof.Gate.lean ====
/-
  The first half of the way into the feed-forward part: every point of the launch makes one tile of the product.
-/
module

public import proofs.«01_k».proof.Defs
public import proofs.«01_k».proof.Proof.Tiles
public import proofs.«01_k».proof.Proof.Gen.GateIdeal.Value
public import proofs.«01_k».proof.Proof.Gen.GateRefIdeal.Read

@[expose] public section

set_option maxRecDepth 16384

noncomputable section

namespace Cert.Gat

open Cert.GateIdeal Cert.GateIdeal.Gen Idealize.ShloMosaic Idealize.ShloMosaic.TcCoe Idealize.SL.Sem Tiles

/-- How the product is cut into tiles. -/
theorem sizes : Sizes 4096 5632 8 512 4 1408 := by constructor <;> norm_num

/-- Where the blocks of a point lie. -/
theorem lie : ∀ t : Fin grid0.N, (win0_0.index t 0 = t.val / 4 ∧ win0_0.index t 1 = 0)
    ∧ (win0_1.index t 0 = t.val % 4 ∧ win0_1.index t 1 = 0 ∧ win0_1.index t 2 = 0)
    ∧ win0_2.index t 0 = t.val / 4 ∧ win0_2.index t 1 = t.val % 4 := by decide +kernel

/-- What a point leaves. -/
theorem point (x0 : Vec Ideal S512x2048 .bf16) (x1 : Vec Ideal S1x2048x1408 .bf16) (p : Fin 512) (q : Fin 1408) :
    (out0_2 (F := Ideal) x0 x1 : FVec Ideal S512x1408 .bf16) (ix2 p q) = ∑ k : Fin 2048, x0 (ix2 p k) * x1 (ix3 0 k q) := by
  unfold out0_2
  rw [View.canon_unit_zero Rows.hz2, View.ld_unit_zero (S := S512x2048) Rows.hz2, View.ld_unit_zero (S := S1x2048x1408) Rows.hz3]
  unfold k0_pay1
  pointwise

section Arrays
variable (m : (ℓ : Loc nD τ sig) → Buf (Elt Ideal) ℓ) (c : Dev nD)

/-- The first factor. -/
abbrev arg0 : FVec Ideal S4096x2048 .f32 := m ((c : Thread nD τ).loc main_arg0)
/-- The second factor. -/
abbrev arg1 : FVec Ideal S2048x5632 .f32 := m ((c : Thread nD τ).loc main_arg1)
/-- The result. -/
abbrev G : FVec Ideal S4096x5632 .bf16 := product (fun i k => arg0 m c (ix2 i k)) (fun k j => arg1 m c (ix2 k j))

/-- The arrays that the points read. -/
theorem read_arrays : (V m c main_v0 : FVec Ideal S4096x2048 .bf16) = truncf (F := Ideal) .bf16 (arg0 m c) bitsLt_bf16_f32
    ∧ (V m c main_v3 : FVec Ideal S4x2048x1408 .bf16) = truncf (F := Ideal) .bf16 (transpose S4x2048x1408 [1, 0, 2]
      (shapeCast S2048x4x1408 (arg1 m c) shapeCasts_S2048x5632_S2048x4x1408) transposes_S2048x4x1408_S4x2048x1408_1_0_2) bitsLt_bf16_f32 := by
  constructor <;>
  · simp only [V, List.flatten_cons, List.flatten_nil, List.append_nil, hostOps0, List.cons_append, List.nil_append]
    after_results_simp
    try rfl

/-- The second factor in blocks of columns. -/
theorem split (s : Fin 4) (k : Fin 2048) (q : Fin 1408) :
    (V m c main_v3 : FVec Ideal S4x2048x1408 .bf16) (ix3 s k q) = arg1 m c (ix2 k (Blocks.place s q)) := by
  rw [(read_arrays m c).2]
  generalize arg1 m c = z
  pointwise [Blocks.place]

/-- What a point leaves is its tile of the result. -/
theorem stored (t : Fin cfg0.N) (p : Fin 512) (q : Fin 1408) :
    (out0_2 (F := Ideal) (iblk m c 0 t) (iblk m c 1 t) : FVec Ideal S512x1408 .bf16) (ix2 p q)
      = G m c (ix2 (row sizes (t.cast N_0) p) (col sizes (t.cast N_0) q)) := by
  refine (point _ _ p q).trans (Finset.sum_congr rfl fun k _ => congrArg₂ _ ?_ ?_) <;> unfold iblk
  · exact (View.read_apply _ _).trans ((congrFun (read_arrays m c).1 _).trans (congrArg (arg0 m c) (left_of sizes (t.cast N_0) p k (lie t).1 _ rfl rfl)))
  · refine (View.read_apply _ _).trans (Eq.trans ?_ (split m c _ k q))
    exact congrArg (V m c main_v3 : FVec Ideal S4x2048x1408 .bf16) (split_of (t.cast N_0) q k (lie t).2.1 _ rfl rfl rfl)

/-- The array after the launch. -/
theorem array : (dats m 0 c).arrAt 2 cfg0.N = G m c :=
  (dats m 0 c).arrAt_eq_of_cover 2 (G m c)
    (fun t _ => (Cert.GateIdeal.Value.flushed2 m c t).trans (tile sizes (t.cast N_0) (G m c) (stored m c t)
      (fun p q => (View.read_apply _ _).trans (congrArg (G m c) (tile_of sizes (t.cast N_0) p q (lie t).2.2 _ rfl rfl)))))
    (fun y => (cover sizes N_0 _ (fun t p q => (congrArg (· ∈ _) (tile_of sizes (t.cast N_0) p q (lie t).2.2 _ rfl rfl)).mp
      (View.emb_mem_set _ (ix2 p q))) y).imp fun t h => ⟨flush0_2 t, h⟩)

end Arrays

/-- The reference's result. -/
theorem reference (x0 : FVec Ideal S4096x2048 .f32) (x1 : FVec Ideal S2048x5632 .f32) :
    Cert.GateRefIdeal.Read.val_main_v1 (F := Ideal) x0 x1 = product (fun i k => x0 (ix2 i k)) (fun k j => x1 (ix2 k j)) := by
  funext y
  idx_vars y
  unfold Cert.GateRefIdeal.Read.val_main_v1 Cert.GateRefIdeal.Read.val_main_v0
  pointwise [product]

/-- The reference runs, keeps its arguments, and holds no counter above zero at the end. -/
theorem frame_reference : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The kernel's result is the reference's. -/
theorem algebraic : Cert.algebraic_GateIdeal_GateRefIdeal := by
  intro m ρ m' ρ' _ hagree
  refine ⟨fun c => G m c, (θ_run _ _ _).mono (fun r h c => ⟨(h c).1.trans (array m c), (h c).2⟩) (Cert.GateIdeal.Value.run_blocks m ρ),
    (θ_run _ _ _).mono (fun r h c => ⟨((h c).1.trans (Cert.GateRefIdeal.Read.val_main_v1_eq _ _)).trans ?_, (h c).2⟩)
      (Cert.GateRefIdeal.Value.run (F := Ideal) m' ρ')⟩
  obtain ⟨a0, a1⟩ := hagree c
  rw [reference, a0, a1]

end Cert.Gat

end
-- ==== Proof.Silu.lean ====
/-
  `silu` and its derivative at one entry over the extended reals: the two ways of writing the derivative agree at every
  entry, the infinite ones included. A product of halved factors.
-/
module

public import proofs.«01_k».proof.Proof.RowMath
public import Idealize.ShloMosaic.PureOps.Ideal.Laws
public import Idealize.ShloMosaic.PureOps.Ideal

@[expose] public section

noncomputable section

namespace Blocks

open Idealize.ShloMosaic

/-- `silu`: an entry times its logistic function. -/
def silu (a : EReal) : EReal := a * Ideal.div 1 (1 + Ideal.exp (-a))

/-- The gradient that comes back through `silu` at the entry `a` from the gradient `g`. -/
def siluBack (a g : EReal) : EReal :=
  g * Ideal.div 1 (1 + Ideal.exp (-a)) + a * g * (Ideal.div 1 (1 + Ideal.exp (-a)) * (1 - Ideal.div 1 (1 + Ideal.exp (-a))))

/-- The derivative of the logistic function as a quotient's is the one of its value. -/
theorem logistic_back (a : EReal) :
    Ideal.div 1 ((1 + Ideal.exp (-a)) * (1 + Ideal.exp (-a))) * Ideal.exp (-a)
      = Ideal.div 1 (1 + Ideal.exp (-a)) * (1 - Ideal.div 1 (1 + Ideal.exp (-a))) := by
  induction a with
  | bot =>
    have h : (1 : EReal) + ⊤ = ⊤ := rfl
    simp [Ideal.div, h]
  | top =>
    have h : (1 : EReal) - 1 = 0 := by rw [← EReal.coe_one, ← EReal.coe_sub]; simp
    simp [Ideal.div, h]
  | coe r =>
    have he : 0 < Real.exp (-r) := Real.exp_pos _
    have h1 : (1 : EReal) = ((1 : ℝ) : EReal) := rfl
    have hn : 1 + Real.exp (-r) ≠ 0 := by positivity
    rw [← EReal.coe_neg, Ideal.exp_coe, h1, ← EReal.coe_add, ← EReal.coe_mul, Ideal.div_coe (mul_ne_zero hn hn), Ideal.div_coe hn,
      ← EReal.coe_mul, ← EReal.coe_mul, ← EReal.coe_mul, ← EReal.coe_sub, ← EReal.coe_mul]
    congr 1
    field_simp
    ring

/-- The word of one half. -/
theorem half_eq : Ideal.ofBits .f32 0x3F000000#32 = (((1 : ℝ) / 2 : ℝ) : EReal) := by
  have h1 : (1056964608 : ℕ) >>> 23 % 256 = 126 := by decide
  have h2 : BitVec.extractLsb' 31 1 1056964608#32 = 0#1 := by decide
  norm_num [Ideal.ofBits, Ideal.ieee, h1, h2]

/-- Halving the left factors of a product halves the product. -/
theorem half_sum {n : ℕ} (f g : Fin n → EReal) :
    ∑ k, Ideal.ofBits .f32 0x3F000000#32 * f k * g k = (∑ k, f k * g k) * Ideal.ofBits .f32 0x3F000000#32 := by
  rw [half_eq, ← Cert.Spec.sum_mul_coe _ _ _ (by norm_num)]
  exact Finset.sum_congr rfl fun k _ => by rw [mul_assoc, mul_comm]

end Blocks

end
-- ==== Proof.Up.lean ====
/-
  The second half of the way into the feed-forward part: every point of the launch makes one tile of the product, and
  one tile of the product times the gate.
-/
module

public import proofs.«01_k».proof.Defs
public import proofs.«01_k».proof.Proof.Tiles
public import proofs.«01_k».proof.Proof.Silu
public import proofs.«01_k».proof.Proof.Gen.UpIdeal.Value
public import proofs.«01_k».proof.Proof.Gen.UpRefIdeal.Read

@[expose] public section

set_option maxRecDepth 16384

noncomputable section

namespace Cert.Upp

open Cert.UpIdeal Cert.UpIdeal.Gen Idealize.ShloMosaic Idealize.ShloMosaic.TcCoe Idealize.SL.Sem Tiles

/-- How the product is cut into tiles. -/
theorem sizes : Sizes 4096 5632 16 256 4 1408 := by constructor <;> norm_num

/-- Where the blocks of a point lie. -/
theorem lie : ∀ t : Fin grid0.N, (win0_0.index t 0 = t.val / 4 ∧ win0_0.index t 1 = 0)
    ∧ (win0_1.index t 0 = t.val % 4 ∧ win0_1.index t 1 = 0 ∧ win0_1.index t 2 = 0)
    ∧ (win0_2.index t 0 = t.val / 4 ∧ win0_2.index t 1 = t.val % 4) ∧ (win0_3.index t 0 = t.val / 4 ∧ win0_3.index t 1 = t.val % 4)
    ∧ win0_4.index t 0 = t.val / 4 ∧ win0_4.index t 1 = t.val % 4 := by decide +kernel

section Point
variable (x0 : Vec Ideal S256x2048 .bf16) (x1 : Vec Ideal S1x2048x1408 .bf16) (x2 : Vec Ideal S256x1408 .bf16) (p : Fin 256) (q : Fin 1408)

/-- What a point leaves of the product. -/
theorem point_b : (out0_3 (F := Ideal) x0 x1 x2 : FVec Ideal S256x1408 .bf16) (ix2 p q) = ∑ k : Fin 2048, x0 (ix2 p k) * x1 (ix3 0 k q) := by
  unfold out0_3
  rw [View.canon_unit_zero Rows.hz2]
  simp only [View.ld_unit_zero (S := S256x2048) Rows.hz2, View.ld_unit_zero (S := S1x2048x1408) Rows.hz3, View.ld_unit_zero (S := S256x1408) Rows.hz2]
  unfold k0_pay2 k0_pay1
  pointwise

/-- What a point leaves of the gated product. -/
theorem point_u : (out0_4 (F := Ideal) x0 x1 x2 : FVec Ideal S256x1408 .bf16) (ix2 p q)
    = Blocks.silu (x2 (ix2 p q)) * ∑ k : Fin 2048, x0 (ix2 p k) * x1 (ix3 0 k q) := by
  unfold out0_4
  rw [View.canon_unit_zero Rows.hz2]
  simp only [View.ld_unit_zero (S := S256x2048) Rows.hz2, View.ld_unit_zero (S := S1x2048x1408) Rows.hz3, View.ld_unit_zero (S := S256x1408) Rows.hz2]
  unfold k0_pay3 k0_pay1 Blocks.silu
  pointwise
  simp only [zero_sub]

end Point

section Arrays
variable (m : (ℓ : Loc nD τ sig) → Buf (Elt Ideal) ℓ) (c : Dev nD)

/-- The first factor. -/
abbrev arg0 : FVec Ideal S4096x2048 .f32 := m ((c : Thread nD τ).loc main_arg0)
/-- The gate's second factor. -/
abbrev arg1 : FVec Ideal S2048x5632 .f32 := m ((c : Thread nD τ).loc main_arg1)
/-- The second factor. -/
abbrev arg2 : FVec Ideal S2048x5632 .f32 := m ((c : Thread nD τ).loc main_arg2)
/-- The gate's product. -/
abbrev gate : FVec Ideal S4096x5632 .f32 := Cert.UpRefIdeal.Read.val_main_v2 (F := Ideal) (arg0 m c) (arg1 m c)
/-- The product. -/
abbrev B : FVec Ideal S4096x5632 .bf16 := product (fun i k => arg0 m c (ix2 i k)) (fun k j => arg2 m c (ix2 k j))
/-- The gated product. -/
abbrev U : FVec Ideal S4096x5632 .bf16 := fun y => Blocks.silu (gate m c y) * B m c y

/-- The arrays that the points read. -/
theorem read_arrays : (V m c main_v2 : FVec Ideal S4096x2048 .bf16) = truncf (F := Ideal) .bf16 (arg0 m c) bitsLt_bf16_f32
    ∧ (V m c main_v5 : FVec Ideal S4x2048x1408 .bf16) = truncf (F := Ideal) .bf16 (transpose S4x2048x1408 [1, 0, 2]
      (shapeCast S2048x4x1408 (arg2 m c) shapeCasts_S2048x5632_S2048x4x1408) transposes_S2048x4x1408_S4x2048x1408_1_0_2) bitsLt_bf16_f32
    ∧ (V m c main_v1 : FVec Ideal S4096x5632 .bf16) = truncf (F := Ideal) .bf16 (gate m c) bitsLt_bf16_f32 := by
  refine ⟨?_, ?_, ?_⟩ <;>
  · simp only [V, List.flatten_cons, List.flatten_nil, List.append_nil, hostOps0, List.cons_append, List.nil_append]
    after_results_simp
    try rfl

/-- The second factor in blocks of columns. -/
theorem split (s : Fin 4) (k : Fin 2048) (q : Fin 1408) :
    (V m c main_v5 : FVec Ideal S4x2048x1408 .bf16) (ix3 s k q) = arg2 m c (ix2 k (Blocks.place s q)) := by
  rw [(read_arrays m c).2.1]
  generalize arg2 m c = z
  pointwise [Blocks.place]

/-- The factors of a point are those of its place of the product. -/
theorem factors (t : Fin cfg0.N) (p : Fin 256) (q : Fin 1408) (k : Fin 2048) :
    (iblk m c 0 t : FVec Ideal S256x2048 .bf16) (ix2 p k) = arg0 m c (ix2 (row sizes (t.cast N_0) p) k)
    ∧ (iblk m c 1 t : FVec Ideal S1x2048x1408 .bf16) (ix3 0 k q) = arg2 m c (ix2 k (col sizes (t.cast N_0) q)) := by
  constructor <;> unfold iblk
  · exact (View.read_apply _ _).trans ((congrFun (read_arrays m c).1 _).trans (congrArg (arg0 m c) (left_of sizes (t.cast N_0) p k (lie t).1 _ rfl rfl)))
  · refine (View.read_apply _ _).trans (Eq.trans ?_ (split m c _ k q))
    exact congrArg (V m c main_v5 : FVec Ideal S4x2048x1408 .bf16) (split_of (t.cast N_0) q k (lie t).2.1 _ rfl rfl rfl)

/-- What a point leaves of the product is its tile. -/
theorem stored_b (t : Fin cfg0.N) (p : Fin 256) (q : Fin 1408) :
    (out0_3 (F := Ideal) (iblk m c 0 t) (iblk m c 1 t) (iblk m c 2 t) : FVec Ideal S256x1408 .bf16) (ix2 p q)
      = B m c (ix2 (row sizes (t.cast N_0) p) (col sizes (t.cast N_0) q)) :=
  (point_b _ _ _ p q).trans (Finset.sum_congr rfl fun k _ => congrArg₂ _ (factors m c t p q k).1 (factors m c t p q k).2)

/-- The array of the product after the launch. -/
theorem array_b : (dats m 0 c).arrAt 3 cfg0.N = B m c :=
  (dats m 0 c).arrAt_eq_of_cover 3 (B m c)
    (fun t _ => (Cert.UpIdeal.Value.flushed3 m c t).trans (tile sizes (t.cast N_0) (B m c) (stored_b m c t)
      (fun p q => (View.read_apply _ _).trans (congrArg (B m c) (tile_of sizes (t.cast N_0) p q (lie t).2.2.2.1 _ rfl rfl)))))
    (fun y => (cover sizes N_0 _ (fun t p q => (congrArg (· ∈ _) (tile_of sizes (t.cast N_0) p q (lie t).2.2.2.1 _ rfl rfl)).mp
      (View.emb_mem_set _ (ix2 p q))) y).imp fun t h => ⟨flush0_3 t, h⟩)

/-- What a point leaves of the gated product is its tile. -/
theorem stored_u (t : Fin cfg0.N) (p : Fin 256) (q : Fin 1408) :
    (out0_4 (F := Ideal) (iblk m c 0 t) (iblk m c 1 t) (iblk m c 2 t) : FVec Ideal S256x1408 .bf16) (ix2 p q)
      = U m c (ix2 (row sizes (t.cast N_0) p) (col sizes (t.cast N_0) q)) := by
  refine (point_u _ _ _ p q).trans (congrArg₂ _ (congrArg Blocks.silu ?_)
    (Finset.sum_congr rfl fun k _ => congrArg₂ _ (factors m c t p q k).1 (factors m c t p q k).2))
  unfold iblk
  exact (View.read_apply _ _).trans ((congrFun (read_arrays m c).2.2 _).trans (congrArg (gate m c) (tile_of sizes (t.cast N_0) p q (lie t).2.2.1 _ rfl rfl)))

/-- The array of the gated product after the launch. -/
theorem array_u : (dats m 0 c).arrAt 4 cfg0.N = U m c :=
  (dats m 0 c).arrAt_eq_of_cover 4 (U m c)
    (fun t _ => (Cert.UpIdeal.Value.flushed4 m c t).trans (tile sizes (t.cast N_0) (U m c) (stored_u m c t)
      (fun p q => (View.read_apply _ _).trans (congrArg (U m c) (tile_of sizes (t.cast N_0) p q (lie t).2.2.2.2 _ rfl rfl)))))
    (fun y => (cover sizes N_0 _ (fun t p q => (congrArg (· ∈ _) (tile_of sizes (t.cast N_0) p q (lie t).2.2.2.2 _ rfl rfl)).mp
      (View.emb_mem_set _ (ix2 p q))) y).imp fun t h => ⟨flush0_4 t, h⟩)

end Arrays

/-- The reference's product. -/
theorem reference_b (x0 : FVec Ideal S4096x2048 .f32) (x2 : FVec Ideal S2048x5632 .f32) :
    Cert.UpRefIdeal.Read.val_main_v1 (F := Ideal) x0 x2 = product (fun i k => x0 (ix2 i k)) (fun k j => x2 (ix2 k j)) := by
  funext y
  idx_vars y
  unfold Cert.UpRefIdeal.Read.val_main_v1 Cert.UpRefIdeal.Read.val_main_v0
  pointwise [product]

/-- The reference's gated product. -/
theorem reference_u (x0 : FVec Ideal S4096x2048 .f32) (x1 : FVec Ideal S2048x5632 .f32) (x2 : FVec Ideal S2048x5632 .f32) (i : Fin 4096) (j : Fin 5632) :
    Cert.UpRefIdeal.Read.val_main_v5 (F := Ideal) x0 x1 x2 (ix2 i j) = Blocks.silu (Cert.UpRefIdeal.Read.val_main_v2 (F := Ideal) x0 x1 (ix2 i j)) * ∑ k : Fin 2048, (x0 (ix2 i k)) * (x2 (ix2 k j)) := by
  unfold Cert.UpRefIdeal.Read.val_main_v5 Cert.UpRefIdeal.Read.val_main_v4 Cert.UpRefIdeal.Read.val_main_v3 Cert.UpRefIdeal.Read.val_main_call0_v5 Cert.UpRefIdeal.Read.val_main_call0_v4 Cert.UpRefIdeal.Read.val_main_call0_cst_0 Cert.UpRefIdeal.Read.val_main_call0_v3 Cert.UpRefIdeal.Read.val_main_call0_v2 Cert.UpRefIdeal.Read.val_main_call0_cst Cert.UpRefIdeal.Read.val_main_call0_v1 Cert.UpRefIdeal.Read.val_main_call0_v0 Cert.UpRefIdeal.Read.val_main_v0
  generalize Cert.UpRefIdeal.Read.val_main_v2 (F := Ideal) x0 x1 = z
  unfold Blocks.silu
  pointwise

/-- The reference runs, keeps its arguments, and holds no counter above zero at the end. -/
theorem frame_reference : Cert.quiescent_UpRefIdeal := fun m ρ _ =>
  (θ_run Cert.UpRefIdeal.defs _ _).mono (fun r h => ⟨fun c => (h c).2.2, sem_eq_zero_of_no_sems (by decide) r.2⟩)
    (Cert.UpRefIdeal.Value.run (F := Ideal) m ρ)

/-- The kernel's results are the reference's. -/
theorem algebraic : Cert.algebraic_UpIdeal_UpRefIdeal := by
  intro m ρ m' ρ' _ hagree
  refine ⟨fun c => B m c, fun c => U m c, (θ_run _ _ _).mono (fun r h c => ?_) (Cert.UpIdeal.Value.run_blocks m ρ),
    (θ_run _ _ _).mono (fun r h c => ?_) (Cert.UpRefIdeal.Value.run (F := Ideal) m' ρ')⟩
  · exact ⟨(h c).1.trans (array_b m c), (h c).2.1.trans (array_u m c), (h c).2.2⟩
  · obtain ⟨a0, a1, a2⟩ := hagree c
    refine ⟨((h c).1.trans (Cert.UpRefIdeal.Read.val_main_v1_eq _ _)).trans ?_, ((h c).2.1.trans (Cert.UpRefIdeal.Read.val_main_v5_eq _ _ _)).trans ?_, (h c).2.2⟩
    · rw [reference_b, a0, a2]
    · rw [a0, a1, a2]
      funext y
      idx_vars y
      exact reference_u _ _ _ _ _

end Cert.Upp

end
-- ==== Proof.Du.lean ====
/-
  The way back through the feed-forward part's `silu` and product: every point of the launch makes one tile of the
  product with the matrix out of the part, halved, and from it one tile of the gradients of both halves.
-/
module

public import proofs.«01_k».proof.Defs
public import proofs.«01_k».proof.Proof.Rows
public import proofs.«01_k».proof.Proof.Silu
public import proofs.«01_k».proof.Proof.RowMath
public import proofs.«01_k».proof.Proof.Gen.Du.Frame
public import proofs.«01_k».proof.Proof.Gen.DuIdeal.Value
public import proofs.«01_k».proof.Proof.Gen.DuRefIdeal.Read

@[expose] public section

set_option maxRecDepth 16384

noncomputable section

namespace Cert.Ddu

open Cert.DuIdeal Cert.DuIdeal.Gen Idealize.ShloMosaic Idealize.ShloMosaic.TcCoe Idealize.SL.Sem

/-! ## One point -/

section Point
variable (x0 : FVec Ideal S256x2048 .f32) (x1 : FVec Ideal S1408x2048 .bf16) (x2 : FVec Ideal S256x1408 .bf16) (x3 : FVec Ideal S256x1408 .bf16)

/-- The tile `da` of a point. -/
def tile_da (i : Fin 256) (j : Fin 1408) : EReal :=
  Blocks.siluBack (x2 (ix2 i j)) ((∑ k : Fin 2048, (x0 (ix2 i k)) * (x1 (ix2 j k))) * Ideal.ofBits .f32 0x3F000000#32 * (x3 (ix2 i j)))

/-- What a point stores. -/
theorem pay_da (i : Fin 256) (j : Fin 1408) :
    (k0_pay8 (F := Ideal) x0 x1 x2 x3 : FVec Ideal S256x1408 .bf16) (ix2 i j) = tile_da x0 x1 x2 x3 i j := by
  unfold tile_da k0_pay8 k0_pay6 k0_pay5 k0_pay4 k0_pay3 k0_pay2
  unfold Blocks.siluBack
  pointwise
  simp only [zero_sub, EReal.neg_mul, neg_neg, mul_one]
  rw [mul_assoc _ _ (Ideal.exp _), Blocks.logistic_back]

/-- Its buffer after the point. -/
theorem out_da : out0_4 (F := Ideal) x0 x1 x2 x3 = k0_pay8 (F := Ideal) x0 x1 x2 x3 := by
  unfold out0_4
  rw [View.canon_unit_zero Rows.hz2]
  simp only [View.ld_unit_zero (S := S256x2048) Rows.hz2, View.ld_unit_zero (S := S1408x2048) Rows.hz2, View.ld_unit_zero (S := S256x1408) Rows.hz2]

/-- The tile `db` of a point. -/
def tile_db (i : Fin 256) (j : Fin 1408) : EReal :=
  Blocks.silu (x2 (ix2 i j)) * ((∑ k : Fin 2048, (x0 (ix2 i k)) * (x1 (ix2 j k))) * Ideal.ofBits .f32 0x3F000000#32)

/-- What a point stores. -/
theorem pay_db (i : Fin 256) (j : Fin 1408) :
    (k0_pay1 (F := Ideal) (k0_pay7 (F := Ideal) x0 x1 x2) : FVec Ideal S256x1408 .bf16) (ix2 i j) = tile_db x0 x1 x2 i j := by
  unfold tile_db k0_pay1 k0_pay7 k0_pay6 k0_pay5 k0_pay4 k0_pay3 k0_pay2
  unfold Blocks.silu
  pointwise
  simp only [zero_sub]

/-- Its buffer after the point. -/
theorem out_db : out0_5 (F := Ideal) x0 x1 x2 x3 = k0_pay1 (F := Ideal) (k0_pay7 (F := Ideal) x0 x1 x2) := by
  unfold out0_5
  rw [View.canon_unit_zero Rows.hz2]
  simp only [View.ld_unit_zero (S := S256x2048) Rows.hz2, View.ld_unit_zero (S := S1408x2048) Rows.hz2, View.ld_unit_zero (S := S256x1408) Rows.hz2]

end Point

/-! ## The arrays the windows read -/

section Arrays
variable (m : (ℓ : Loc nD τ sig) → Buf (Elt Ideal) ℓ) (c : Dev nD)

/-- The host lines before the launch in one list. -/
theorem V_eq (b : Ref sig .tc) : V m c b = StableHlo.after hostOps0 (fun b => m (c, b)) b := by
  simp only [V, List.flatten_cons, List.flatten_nil, List.append_nil]

/-- An argument. -/
abbrev arg0 : FVec Ideal S4096x2048 .f32 := m ((c : Thread nD τ).loc main_arg0)
/-- An argument. -/
abbrev arg1 : FVec Ideal S2048x5632 .f32 := m ((c : Thread nD τ).loc main_arg1)
/-- An argument. -/
abbrev arg2 : FVec Ideal S2048x5632 .f32 := m ((c : Thread nD τ).loc main_arg2)
/-- An argument. -/
abbrev arg3 : FVec Ideal S5632x2048 .f32 := m ((c : Thread nD τ).loc main_arg3)
/-- An argument. -/
abbrev arg4 : FVec Ideal S4096x2048 .f32 := m ((c : Thread nD τ).loc main_arg4)
/-- An operand. -/
abbrev op_inp : FVec Ideal S4096x2048 .f32 := (arg4 m c)
/-- An operand. -/
abbrev op_mat : FVec Ideal S5632x2048 .f32 := (arg3 m c)
/-- An operand. -/
abbrev op_gate : FVec Ideal S4096x5632 .f32 := Cert.DuRefIdeal.Read.val_main_v0 (F := Ideal) (arg0 m c) (arg1 m c)
/-- An operand. -/
abbrev op_up : FVec Ideal S4096x5632 .f32 := Cert.DuRefIdeal.Read.val_main_v1 (F := Ideal) (arg0 m c) (arg2 m c)

/-- Its array is that operand. -/
theorem V_inp (i : Fin 4096) (j : Fin 2048) : (V m c main_arg4 : FVec Ideal S4096x2048 .f32) (ix2 i j) = op_inp m c (ix2 i j) :=
  congrFun (V_main_arg4 m c) _

/-- Its array holds that operand. -/
theorem V_mat (i : Fin 5632) (j : Fin 2048) : (V m c main_v4 : FVec Ideal S5632x2048 .bf16) (ix2 i j) = op_mat m c (ix2 i j) := by
  have e : (V m c main_v4 : FVec Ideal S5632x2048 .bf16) = truncf (F := Ideal) .bf16 (op_mat m c) bitsLt_bf16_f32 := by
    rw [V_eq]
    simp only [hostOps0, List.cons_append, List.nil_append]
    after_results_simp
    try rfl
  rw [e]
  rfl

/-- Its array holds that operand. -/
theorem V_gate (i : Fin 4096) (j : Fin 5632) : (V m c main_v1 : FVec Ideal S4096x5632 .bf16) (ix2 i j) = op_gate m c (ix2 i j) := by
  have e : (V m c main_v1 : FVec Ideal S4096x5632 .bf16) = truncf (F := Ideal) .bf16 (op_gate m c) bitsLt_bf16_f32 := by
    rw [V_eq]
    simp only [hostOps0, List.cons_append, List.nil_append]
    after_results_simp
    try rfl
  rw [e]
  rfl

/-- Its array holds that operand. -/
theorem V_up (i : Fin 4096) (j : Fin 5632) : (V m c main_v3 : FVec Ideal S4096x5632 .bf16) (ix2 i j) = op_up m c (ix2 i j) := by
  have e : (V m c main_v3 : FVec Ideal S4096x5632 .bf16) = truncf (F := Ideal) .bf16 (op_up m c) bitsLt_bf16_f32 := by
    rw [V_eq]
    simp only [hostOps0, List.cons_append, List.nil_append]
    after_results_simp
    try rfl
  rw [e]
  rfl

/-! ## The blocks -/

theorem index_0 : ∀ t : Fin grid0.N, win0_0.index t 0 = t.val / 4 ∧ win0_0.index t 1 = 0 := by decide +kernel
theorem index_1 : ∀ t : Fin grid0.N, win0_1.index t 0 = t.val % 4 ∧ win0_1.index t 1 = 0 := by decide +kernel
theorem index_2 : ∀ t : Fin grid0.N, win0_2.index t 0 = t.val / 4 ∧ win0_2.index t 1 = t.val % 4 := by decide +kernel
theorem index_3 : ∀ t : Fin grid0.N, win0_3.index t 0 = t.val / 4 ∧ win0_3.index t 1 = t.val % 4 := by decide +kernel
theorem index_4 : ∀ t : Fin grid0.N, win0_4.index t 0 = t.val / 4 ∧ win0_4.index t 1 = t.val % 4 := by decide +kernel
theorem index_5 : ∀ t : Fin grid0.N, win0_5.index t 0 = t.val / 4 ∧ win0_5.index t 1 = t.val % 4 := by decide +kernel

theorem points (t : Fin cfg0.N) : t.val < 64 := t.isLt.trans_eq (show cfg0.N = 64 from N_0)

/-- The slice of the columns a point works on. -/
def slice (n : ℕ) : Fin 4 := ⟨n % 4, Nat.mod_lt _ (by decide)⟩
/-- A row of a point's tile. -/
def rowOf (n : ℕ) (i : Fin 256) : Fin 4096 := ⟨n / 4 % 16 * 256 + i.val, by omega⟩
/-- A column of a point's tile. -/
def colOf (n : ℕ) (j : Fin 1408) : Fin 5632 := Blocks.place (slice n) j

/-- The block of `inp` at a point. -/
theorem block_inp (t : Fin cfg0.N) (i : Fin 256) (j : Fin 2048) :
    (iblk m c 0 t : FVec Ideal S256x2048 .f32) (ix2 i j) = op_inp m c (ix2 (rowOf t.val i) j) := by
  rw [← V_inp]
  unfold iblk
  rw [View.read_apply]
  show V m c main_arg4 _ = V m c main_arg4 _
  congr 1
  funext a
  apply Fin.ext
  have ht := points t
  obtain ⟨h0, h1⟩ := index_0 t
  match a with
  | ⟨0, _⟩ => show win0_0.index t 0 * 256 + 1 * i.val = _; rw [h0]; show _ = t.val / 4 % 16 * 256 + i.val; omega
  | ⟨1, _⟩ => show win0_0.index t 1 * 2048 + 1 * j.val = _; rw [h1]; show _ = j.val; omega

/-- The block of `mat` at a point. -/
theorem block_mat (t : Fin cfg0.N) (i : Fin 1408) (j : Fin 2048) :
    (iblk m c 1 t : FVec Ideal S1408x2048 .bf16) (ix2 i j) = op_mat m c (ix2 (colOf t.val i) j) := by
  rw [← V_mat]
  unfold iblk
  rw [View.read_apply]
  show V m c main_v4 _ = V m c main_v4 _
  congr 1
  funext a
  apply Fin.ext
  have ht := points t
  obtain ⟨h0, h1⟩ := index_1 t
  match a with
  | ⟨0, _⟩ => show win0_1.index t 0 * 1408 + 1 * i.val = _; rw [h0]; show _ = t.val % 4 * 1408 + i.val; omega
  | ⟨1, _⟩ => show win0_1.index t 1 * 2048 + 1 * j.val = _; rw [h1]; show _ = j.val; omega

/-- The block of `gate` at a point. -/
theorem block_gate (t : Fin cfg0.N) (i : Fin 256) (j : Fin 1408) :
    (iblk m c 2 t : FVec Ideal S256x1408 .bf16) (ix2 i j) = op_gate m c (ix2 (rowOf t.val i) (colOf t.val j)) := by
  rw [← V_gate]
  unfold iblk
  rw [View.read_apply]
  show V m c main_v1 _ = V m c main_v1 _
  congr 1
  funext a
  apply Fin.ext
  have ht := points t
  obtain ⟨h0, h1⟩ := index_2 t
  match a with
  | ⟨0, _⟩ => show win0_2.index t 0 * 256 + 1 * i.val = _; rw [h0]; show _ = t.val / 4 % 16 * 256 + i.val; omega
  | ⟨1, _⟩ => show win0_2.index t 1 * 1408 + 1 * j.val = _; rw [h1]; show _ = t.val % 4 * 1408 + j.val; omega

/-- The block of `up` at a point. -/
theorem block_up (t : Fin cfg0.N) (i : Fin 256) (j : Fin 1408) :
    (iblk m c 3 t : FVec Ideal S256x1408 .bf16) (ix2 i j) = op_up m c (ix2 (rowOf t.val i) (colOf t.val j)) := by
  rw [← V_up]
  unfold iblk
  rw [View.read_apply]
  show V m c main_v3 _ = V m c main_v3 _
  congr 1
  funext a
  apply Fin.ext
  have ht := points t
  obtain ⟨h0, h1⟩ := index_3 t
  match a with
  | ⟨0, _⟩ => show win0_3.index t 0 * 256 + 1 * i.val = _; rw [h0]; show _ = t.val / 4 % 16 * 256 + i.val; omega
  | ⟨1, _⟩ => show win0_3.index t 1 * 1408 + 1 * j.val = _; rw [h1]; show _ = t.val % 4 * 1408 + j.val; omega

/-- The result `da` as one array. -/
def res_da : FVec Ideal S4096x5632 .bf16 := fun y =>
  let i : Fin 4096 := y 0
  let j : Fin 5632 := y 1
  Blocks.siluBack (op_gate m c (ix2 i j)) ((∑ k : Fin 2048, (op_inp m c (ix2 i k)) * (op_mat m c (ix2 j k))) * Ideal.ofBits .f32 0x3F000000#32 * (op_up m c (ix2 i j)))

/-- What a point stores is its tile of the array. -/
theorem stored_da (t : Fin cfg0.N) (i : Fin 256) (j : Fin 1408) :
    (out0_4 (F := Ideal) (iblk m c 0 t) (iblk m c 1 t) (iblk m c 2 t) (iblk m c 3 t) : FVec Ideal S256x1408 .bf16) (ix2 i j)
      = res_da m c (ix2 (rowOf t.val i) (colOf t.val j)) := by
  rw [out_da, pay_da]
  unfold tile_da
  simp only [block_inp, block_mat, block_gate, block_up]
  rfl

/-- A block that is written back is that block of the array. -/
theorem block_da (t : Fin cfg0.N) (_ : (cfg0.win 4).flush t = true) :
    (dats m 0 c).flushed 4 t = ((cfg0.win 4).blk t).view.read (Elt Ideal) (res_da m c) := by
  rw [Cert.DuIdeal.Value.flushed4]
  funext y
  rw [View.read_apply]
  have ht := points t
  obtain ⟨h0, h1⟩ := index_4 t
  have hx : ((cfg0.win 4).blk t).view.emb y = ix2 (rowOf t.val (y 0)) (colOf t.val (y 1)) := by
    funext x
    apply Fin.ext
    match x with
    | ⟨0, _⟩ => show win0_4.index t 0 * 256 + 1 * (y 0).val = _; rw [h0]; show _ = t.val / 4 % 16 * 256 + (y 0).val; omega
    | ⟨1, _⟩ => show win0_4.index t 1 * 1408 + 1 * (y 1).val = _; rw [h1]; show _ = t.val % 4 * 1408 + (y 1).val; omega
  rw [hx]
  refine Eq.trans (congrArg (out0_4 (F := Ideal) (iblk m c 0 t) (iblk m c 1 t) (iblk m c 2 t) (iblk m c 3 t)) (?_ : _ = ix2 (y 0) (y 1))) (stored_da m c t (y 0) (y 1))
  funext x
  match x with
  | ⟨0, _⟩ => rfl
  | ⟨1, _⟩ => rfl

/-- The array after the launch. -/
theorem array_da : (dats m 0 c).arrAt 4 cfg0.N = res_da m c :=
  (dats m 0 c).arrAt_eq_of_cover 4 (res_da m c) (block_da m c) fun i => by
    have i0 : (i 0).val < 4096 := (i 0).isLt
    have i1 : (i 1).val < 5632 := (i 1).isLt
    have ht : (i 0).val / 256 * 4 + (i 1).val / 1408 < cfg0.N := by rw [show cfg0.N = 64 from N_0]; omega
    obtain ⟨t, hv⟩ : ∃ t : Fin cfg0.N, t.val = (i 0).val / 256 * 4 + (i 1).val / 1408 := ⟨⟨_, ht⟩, rfl⟩
    refine ⟨t, flush0_4 t, ?_⟩
    show i ∈ ((View.whole (Pipeline.arrRef spec0 4)).slice (win0_4.rect t)).set
    rw [View.set_slice_whole, Rect.mem_set_unit]
    obtain ⟨h0, h1⟩ := index_4 t
    intro a
    match a with
    | ⟨0, _⟩ =>
      show win0_4.index t 0 * 256 ≤ (i 0).val ∧ (i 0).val < win0_4.index t 0 * 256 + 256
      rw [h0]; omega
    | ⟨1, _⟩ =>
      show win0_4.index t 1 * 1408 ≤ (i 1).val ∧ (i 1).val < win0_4.index t 1 * 1408 + 1408
      rw [h1]; omega

/-- The result `db` as one array. -/
def res_db : FVec Ideal S4096x5632 .bf16 := fun y =>
  let i : Fin 4096 := y 0
  let j : Fin 5632 := y 1
  Blocks.silu (op_gate m c (ix2 i j)) * ((∑ k : Fin 2048, (op_inp m c (ix2 i k)) * (op_mat m c (ix2 j k))) * Ideal.ofBits .f32 0x3F000000#32)

/-- What a point stores is its tile of the array. -/
theorem stored_db (t : Fin cfg0.N) (i : Fin 256) (j : Fin 1408) :
    (out0_5 (F := Ideal) (iblk m c 0 t) (iblk m c 1 t) (iblk m c 2 t) (iblk m c 3 t) : FVec Ideal S256x1408 .bf16) (ix2 i j)
      = res_db m c (ix2 (rowOf t.val i) (colOf t.val j)) := by
  rw [out_db, pay_db]
  unfold tile_db
  simp only [block_inp, block_mat, block_gate]
  rfl

/-- A block that is written back is that block of the array. -/
theorem block_db (t : Fin cfg0.N) (_ : (cfg0.win 5).flush t = true) :
    (dats m 0 c).flushed 5 t = ((cfg0.win 5).blk t).view.read (Elt Ideal) (res_db m c) := by
  rw [Cert.DuIdeal.Value.flushed5]
  funext y
  rw [View.read_apply]
  have ht := points t
  obtain ⟨h0, h1⟩ := index_5 t
  have hx : ((cfg0.win 5).blk t).view.emb y = ix2 (rowOf t.val (y 0)) (colOf t.val (y 1)) := by
    funext x
    apply Fin.ext
    match x with
    | ⟨0, _⟩ => show win0_5.index t 0 * 256 + 1 * (y 0).val = _; rw [h0]; show _ = t.val / 4 % 16 * 256 + (y 0).val; omega
    | ⟨1, _⟩ => show win0_5.index t 1 * 1408 + 1 * (y 1).val = _; rw [h1]; show _ = t.val % 4 * 1408 + (y 1).val; omega
  rw [hx]
  refine Eq.trans (congrArg (out0_5 (F := Ideal) (iblk m c 0 t) (iblk m c 1 t) (iblk m c 2 t) (iblk m c 3 t)) (?_ : _ = ix2 (y 0) (y 1))) (stored_db m c t (y 0) (y 1))
  funext x
  match x with
  | ⟨0, _⟩ => rfl
  | ⟨1, _⟩ => rfl

/-- The array after the launch. -/
theorem array_db : (dats m 0 c).arrAt 5 cfg0.N = res_db m c :=
  (dats m 0 c).arrAt_eq_of_cover 5 (res_db m c) (block_db m c) fun i => by
    have i0 : (i 0).val < 4096 := (i 0).isLt
    have i1 : (i 1).val < 5632 := (i 1).isLt
    have ht : (i 0).val / 256 * 4 + (i 1).val / 1408 < cfg0.N := by rw [show cfg0.N = 64 from N_0]; omega
    obtain ⟨t, hv⟩ : ∃ t : Fin cfg0.N, t.val = (i 0).val / 256 * 4 + (i 1).val / 1408 := ⟨⟨_, ht⟩, rfl⟩
    refine ⟨t, flush0_5 t, ?_⟩
    show i ∈ ((View.whole (Pipeline.arrRef spec0 5)).slice (win0_5.rect t)).set
    rw [View.set_slice_whole, Rect.mem_set_unit]
    obtain ⟨h0, h1⟩ := index_5 t
    intro a
    match a with
    | ⟨0, _⟩ =>
      show win0_5.index t 0 * 256 ≤ (i 0).val ∧ (i 0).val < win0_5.index t 0 * 256 + 256
      rw [h0]; omega
    | ⟨1, _⟩ =>
      show win0_5.index t 1 * 1408 ≤ (i 1).val ∧ (i 1).val < win0_5.index t 1 * 1408 + 1408
      rw [h1]; omega

end Arrays

/-! ## The reference -/

/-- The reference's result `da`. -/
theorem reference_da (x0 : FVec Ideal S4096x2048 .f32) (x1 : FVec Ideal S2048x5632 .f32) (x2 : FVec Ideal S2048x5632 .f32) (x3 : FVec Ideal S5632x2048 .f32) (x4 : FVec Ideal S4096x2048 .f32) (i : Fin 4096) (j : Fin 5632) :
    Cert.DuRefIdeal.Read.val_main_v13 (F := Ideal) x0 x1 x2 x3 x4 (ix2 i j) = Blocks.siluBack (Cert.DuRefIdeal.Read.val_main_v0 (F := Ideal) x0 x1 (ix2 i j)) ((∑ k : Fin 2048, (x4 (ix2 i k)) * (x3 (ix2 j k))) * Ideal.ofBits .f32 0x3F000000#32 * (Cert.DuRefIdeal.Read.val_main_v1 (F := Ideal) x0 x2 (ix2 i j))) := by
  unfold Cert.DuRefIdeal.Read.val_main_v13 Cert.DuRefIdeal.Read.val_main_v12 Cert.DuRefIdeal.Read.val_main_call1_v2 Cert.DuRefIdeal.Read.val_main_call1_v1 Cert.DuRefIdeal.Read.val_main_call1_v0 Cert.DuRefIdeal.Read.val_main_v11 Cert.DuRefIdeal.Read.val_main_v9 Cert.DuRefIdeal.Read.val_main_v8 Cert.DuRefIdeal.Read.val_main_v7 Cert.DuRefIdeal.Read.val_main_cst_0 Cert.DuRefIdeal.Read.val_main_v2_1 Cert.DuRefIdeal.Read.val_main_call0_v7 Cert.DuRefIdeal.Read.val_main_call0_v6 Cert.DuRefIdeal.Read.val_main_call0_cst_1 Cert.DuRefIdeal.Read.val_main_v2_2 Cert.DuRefIdeal.Read.val_main_call0_v4 Cert.DuRefIdeal.Read.val_main_call0_cst_0 Cert.DuRefIdeal.Read.val_main_call0_v3 Cert.DuRefIdeal.Read.val_main_call0_v2 Cert.DuRefIdeal.Read.val_main_call0_cst Cert.DuRefIdeal.Read.val_main_call0_v1 Cert.DuRefIdeal.Read.val_main_call0_v0
  generalize Cert.DuRefIdeal.Read.val_main_v0 (F := Ideal) x0 x1 = z
  generalize Cert.DuRefIdeal.Read.val_main_v1 (F := Ideal) x0 x2 = u
  unfold Blocks.siluBack
  pointwise
  rw [Blocks.half_sum]

/-- From arguments that agree the reference's array is the kernel's. -/
theorem meet_da (m : (ℓ : Loc nD τ sig) → Buf (Elt Ideal) ℓ) (c : Dev nD) {x0 : FVec Ideal S4096x2048 .f32} {x1 : FVec Ideal S2048x5632 .f32} {x2 : FVec Ideal S2048x5632 .f32} {x3 : FVec Ideal S5632x2048 .f32} {x4 : FVec Ideal S4096x2048 .f32}
    (e0 : x0 = arg0 m c) (e1 : x1 = arg1 m c) (e2 : x2 = arg2 m c) (e3 : x3 = arg3 m c) (e4 : x4 = arg4 m c) :
    Cert.DuRefIdeal.Read.val_main_v13 (F := Ideal) x0 x1 x2 x3 x4 = res_da m c := by
  subst e0 e1 e2 e3 e4
  funext y
  idx_vars y
  exact reference_da _ _ _ _ _ _ _

/-- The reference's result `db`. -/
theorem reference_db (x0 : FVec Ideal S4096x2048 .f32) (x1 : FVec Ideal S2048x5632 .f32) (x3 : FVec Ideal S5632x2048 .f32) (x4 : FVec Ideal S4096x2048 .f32) (i : Fin 4096) (j : Fin 5632) :
    Cert.DuRefIdeal.Read.val_main_v14 (F := Ideal) x0 x1 x3 x4 (ix2 i j) = Blocks.silu (Cert.DuRefIdeal.Read.val_main_v0 (F := Ideal) x0 x1 (ix2 i j)) * ((∑ k : Fin 2048, (x4 (ix2 i k)) * (x3 (ix2 j k))) * Ideal.ofBits .f32 0x3F000000#32) := by
  unfold Cert.DuRefIdeal.Read.val_main_v14 Cert.DuRefIdeal.Read.val_main_v10 Cert.DuRefIdeal.Read.val_main_v9 Cert.DuRefIdeal.Read.val_main_v8 Cert.DuRefIdeal.Read.val_main_v7 Cert.DuRefIdeal.Read.val_main_cst_0 Cert.DuRefIdeal.Read.val_main_v2_0 Cert.DuRefIdeal.Read.val_main_v2_2 Cert.DuRefIdeal.Read.val_main_call0_v4 Cert.DuRefIdeal.Read.val_main_call0_cst_0 Cert.DuRefIdeal.Read.val_main_call0_v3 Cert.DuRefIdeal.Read.val_main_call0_v2 Cert.DuRefIdeal.Read.val_main_call0_cst Cert.DuRefIdeal.Read.val_main_call0_v1 Cert.DuRefIdeal.Read.val_main_call0_v0
  generalize Cert.DuRefIdeal.Read.val_main_v0 (F := Ideal) x0 x1 = z
  unfold Blocks.silu
  pointwise
  rw [Blocks.half_sum]

/-- From arguments that agree the reference's array is the kernel's. -/
theorem meet_db (m : (ℓ : Loc nD τ sig) → Buf (Elt Ideal) ℓ) (c : Dev nD) {x0 : FVec Ideal S4096x2048 .f32} {x1 : FVec Ideal S2048x5632 .f32} {x3 : FVec Ideal S5632x2048 .f32} {x4 : FVec Ideal S4096x2048 .f32}
    (e0 : x0 = arg0 m c) (e1 : x1 = arg1 m c) (e3 : x3 = arg3 m c) (e4 : x4 = arg4 m c) :
    Cert.DuRefIdeal.Read.val_main_v14 (F := Ideal) x0 x1 x3 x4 = res_db m c := by
  subst e0 e1 e3 e4
  funext y
  idx_vars y
  exact reference_db _ _ _ _ _ _

/-- The reference runs, keeps its arguments, and holds no counter above zero at the end. -/
theorem frame_reference : Cert.quiescent_DuRefIdeal := fun m ρ _ =>
  (θ_run Cert.DuRefIdeal.defs _ _).mono (fun r h => ⟨fun c => (h c).2.2, sem_eq_zero_of_no_sems (by decide) r.2⟩)
    (Cert.DuRefIdeal.Value.run (F := Ideal) m ρ)

/-- The kernel's results are the reference's. -/
theorem algebraic : Cert.algebraic_DuIdeal_DuRefIdeal := by
  intro m ρ m' ρ' _ hagree
  refine ⟨fun c => res_da m c, fun c => res_db m c, (θ_run _ _ _).mono (fun r h c => ?_) (Cert.DuIdeal.Value.run_blocks m ρ),
    (θ_run _ _ _).mono (fun r h c => ?_) (Cert.DuRefIdeal.Value.run (F := Ideal) m' ρ')⟩
  · exact ⟨(h c).1.trans (array_da m c), (h c).2.1.trans (array_db m c), (h c).2.2⟩
  · obtain ⟨a0, a1, a2, a3, a4⟩ := hagree c
    exact ⟨((h c).1.trans (Cert.DuRefIdeal.Read.val_main_v13_eq _ _ _ _ _)).trans (meet_da m c a0 a1 a2 a3 a4), ((h c).2.1.trans (Cert.DuRefIdeal.Read.val_main_v14_eq _ _ _ _)).trans (meet_db m c a0 a1 a3 a4), (h c).2.2⟩

end Cert.Ddu

end
-- ==== Proof.Down.lean ====
/-
  The way out of the feed-forward part: the launch adds, tile by tile, the products of the four slices of the inner
  dimension, halves the sum and adds the residual; the reference takes one product.
-/
module

public import proofs.«01_k».proof.Defs
public import proofs.«01_k».proof.Proof.Rows
public import proofs.«01_k».proof.Proof.Gen.Down.Frame
public import proofs.«01_k».proof.Proof.Gen.DownIdeal.Value
public import proofs.«01_k».proof.Proof.Gen.DownRefIdeal.Read

@[expose] public section

set_option maxRecDepth 16384

noncomputable section

namespace Cert.Dow

open Cert.DownIdeal Cert.DownIdeal.Gen Idealize.ShloMosaic Idealize.ShloMosaic.TcCoe Idealize.SL.Sem

/-! ## One point -/

/-- The product of two blocks at an index. -/
def prod (a : FVec Ideal S512x1408 .bf16) (b : FVec Ideal S1408x1024 .bf16) (i : Fin 512) (j : Fin 1024) : EReal :=
  ∑ x : Fin 1408, a (ix2 i x) * b (ix2 x j)

/-- A point's product. -/
theorem pay_first (a : FVec Ideal S512x1408 .bf16) (b : FVec Ideal S1408x1024 .bf16) (i : Fin 512) (j : Fin 1024) :
    k0_pay2 (F := Ideal) a b (ix2 i j) = prod a b i j := by
  unfold k0_pay2 k0_pay1 prod
  pointwise

/-- A point's product on top of what has been gathered. -/
theorem pay_next (a : FVec Ideal S512x1408 .bf16) (b : FVec Ideal S1408x1024 .bf16) (g : FVec Ideal S512x1024 .f32) (i : Fin 512) (j : Fin 1024) :
    k0_pay3 (F := Ideal) a b g (ix2 i j) = g (ix2 i j) + prod a b i j := by
  unfold k0_pay3 k0_pay1 prod
  pointwise

/-- What is stored of what has been gathered. -/
theorem pay_last (g : FVec Ideal S512x1024 .f32) (r : FVec Ideal S512x1024 .f32) (i : Fin 512) (j : Fin 1024) :
    k0_pay4 (F := Ideal) g r (ix2 i j) = g (ix2 i j) * Ideal.ofBits .f32 0x3F000000#32 + r (ix2 i j) := by
  unfold k0_pay4
  pointwise

section Point
variable (c : Dev nD) (i : grid0.Coords) (a3 : Memref sig .tc .vmem S512x1408 .bf16) (h3 : a3.IsWhole) (a4 : Memref sig .tc .vmem S1408x1024 .bf16) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole)
  (x0 : FVec Ideal S512x1408 .bf16) (x1 : FVec Ideal S1408x1024 .bf16) (x2 : FVec Ideal S512x1024 .f32) (xs : FVec Ideal S512x1024 .f32)

/-- The scratch after a point that starts a sum. -/
theorem scratch_A (hc0 : cond0_0 i) (hc1 : ¬cond0_1 i) (hc2 : ¬cond0_2 i) :
    sout0_A_0 (F := Ideal) c i a3 h3 a4 h4 a5 h5 a6 h6 a7 h7 hc0 hc1 hc2 x0 x1 x2 = k0_pay2 (F := Ideal) x0 x1 := by
  unfold sout0_A_0
  rw [View.read_writes_eq_canon (Val := Elt Ideal) _ _ _ (scover0_A_0 c i a3 h3 a4 h4 a5 h5 a6 h6 a7 h7 hc0 hc1 hc2 x0 x1 x2)]
  unfold kernelRun0_A
  dsimp only
  rw [View.canon_unit_zero Rows.hz2]
  simp only [View.readAt_eq_ld, h3.read_unread, h4.read_unread, h5.read_unread, View.ld_unit_zero (S := S512x1408) Rows.hz2, View.ld_unit_zero (S := S1408x1024) Rows.hz2, View.ld_unit_zero (S := S512x1024) Rows.hz2]

/-- The scratch after a point that goes on with a sum. -/
theorem scratch_B (hc0 : ¬cond0_0 i) (hc1 : cond0_1 i) (hc2 : ¬cond0_2 i) :
    sout0_B_0 (F := Ideal) c i a3 h3 a4 h4 a5 h5 a6 h6 a7 h7 hc0 hc1 hc2 x0 x1 x2 xs = k0_pay3 (F := Ideal) x0 x1 xs := by
  unfold sout0_B_0
  rw [View.read_writes_eq_canon (Val := Elt Ideal) _ _ _ (scover0_B_0 c i a3 h3 a4 h4 a5 h5 a6 h6 a7 h7 hc0 hc1 hc2 x0 x1 x2 xs)]
  unfold kernelRun0_B
  dsimp only
  rw [View.canon_unit_zero Rows.hz2]
  simp only [View.readAt_eq_ld, h3.read_unread, h4.read_unread, h5.read_unread, h7.read_unread, View.ld_unit_zero (S := S512x1408) Rows.hz2, View.ld_unit_zero (S := S1408x1024) Rows.hz2, View.ld_unit_zero (S := S512x1024) Rows.hz2]

/-- The scratch after a point that goes on with a sum and ends it. -/
theorem scratch_C (hc0 : ¬cond0_0 i) (hc1 : cond0_1 i) (hc2 : cond0_2 i) :
    sout0_C_0 (F := Ideal) c i a3 h3 a4 h4 a5 h5 a6 h6 a7 h7 hc0 hc1 hc2 x0 x1 x2 xs = k0_pay3 (F := Ideal) x0 x1 xs := by
  unfold sout0_C_0
  rw [View.read_writes_eq_canon (Val := Elt Ideal) _ _ _ (scover0_C_0 c i a3 h3 a4 h4 a5 h5 a6 h6 a7 h7 hc0 hc1 hc2 x0 x1 x2 xs)]
  unfold kernelRun0_C
  dsimp only
  unfold kernelRun0_C.sl.HS0_1
  rw [View.canon_unit_zero Rows.hz2]
  simp only [View.readAt_eq_ld, h3.read_unread, h4.read_unread, h5.read_unread, h7.read_unread, View.ld_unit_zero (S := S512x1408) Rows.hz2, View.ld_unit_zero (S := S1408x1024) Rows.hz2, View.ld_unit_zero (S := S512x1024) Rows.hz2]

/-- The result's buffer after a point that ends a sum. -/
theorem out_C (hc0 : ¬cond0_0 i) (hc1 : cond0_1 i) (hc2 : cond0_2 i) :
    out0_C_3 (F := Ideal) c i a3 h3 a4 h4 a5 h5 a6 h6 a7 h7 hc0 hc1 hc2 x0 x1 x2 xs = k0_pay4 (F := Ideal) (k0_pay3 (F := Ideal) x0 x1 xs) x2 := by
  unfold out0_C_3
  rw [View.read_writes_eq_canon (Val := Elt Ideal) _ _ _ (cover0_C_3 c i a3 h3 a4 h4 a5 h5 a6 h6 a7 h7 hc0 hc1 hc2 x0 x1 x2 xs)]
  unfold kernelRun0_C
  dsimp only
  rw [View.canon_unit_zero Rows.hz2]
  unfold kernelRun0_C.sl.v14 kernelRun0_C.sl.HS0_1
  refine congrArg₂ (k0_pay4 (F := Ideal)) ((View.readCov_full a7.view _ _ _ _).trans ?_) ?_
  all_goals
    simp only [View.readAt_eq_ld, h3.read_unread, h4.read_unread, h5.read_unread, h7.read_unread, View.ld_unit_zero (S := S512x1408) Rows.hz2, View.ld_unit_zero (S := S1408x1024) Rows.hz2, View.ld_unit_zero (S := S512x1024) Rows.hz2]

end Point

/-! ## The arrays the windows read -/

section Arrays
variable (m : (ℓ : Loc nD τ sig) → Buf (Elt Ideal) ℓ) (c : Dev nD)

/-- The host lines before the launch in one list. -/
theorem V_eq (b : Ref sig .tc) : V m c b = StableHlo.after (hostOps0 ++ (hostOps0_1 ++ hostOps0_2)) (fun b => m (c, b)) b := by
  simp only [V, List.flatten_cons, List.flatten_nil, List.append_nil]
/-- An argument. -/
abbrev arg0 : FVec Ideal S4096x2048 .f32 := m ((c : Thread nD τ).loc main_arg0)
/-- An argument. -/
abbrev arg1 : FVec Ideal S4096x2048 .f32 := m ((c : Thread nD τ).loc main_arg1)
/-- An argument. -/
abbrev arg2 : FVec Ideal S2048x5632 .f32 := m ((c : Thread nD τ).loc main_arg2)
/-- An argument. -/
abbrev arg3 : FVec Ideal S2048x5632 .f32 := m ((c : Thread nD τ).loc main_arg3)
/-- An argument. -/
abbrev arg4 : FVec Ideal S5632x2048 .f32 := m ((c : Thread nD τ).loc main_arg4)
/-- The left operand. -/
abbrev lhs : FVec Ideal S4096x5632 .f32 := Cert.DownRefIdeal.Read.val_main_v3 (F := Ideal) (arg1 m c) (arg2 m c) (arg3 m c)
/-- The right operand. -/
abbrev rhs : FVec Ideal S5632x2048 .f32 := (arg4 m c)

/-- The left operand's array is that operand. -/
theorem V_lhs (k : Fin 5632) (i : Fin 4096) : (V m c main_v4 : FVec Ideal S4096x5632 .bf16) (ix2 i k) = lhs m c (ix2 i k) := by
  have e : (V m c main_v4 : FVec Ideal S4096x5632 .bf16) = truncf (F := Ideal) .bf16 (lhs m c) bitsLt_bf16_f32 := by
    rw [V_eq]
    simp only [hostOps0, hostOps0_1, hostOps0_2, List.cons_append, List.nil_append]
    after_results_simp
    try rfl
  rw [e]
  rfl

/-- The right operand's array is that operand. -/
theorem V_rhs (k : Fin 5632) (j : Fin 2048) : (V m c main_v5 : FVec Ideal S5632x2048 .bf16) (ix2 k j) = rhs m c (ix2 k j) := by
  have e : (V m c main_v5 : FVec Ideal S5632x2048 .bf16) = truncf (F := Ideal) .bf16 (rhs m c) bitsLt_bf16_f32 := by
    rw [V_eq]
    simp only [hostOps0, hostOps0_1, hostOps0_2, List.cons_append, List.nil_append]
    after_results_simp
    try rfl
  rw [e]
  rfl

/-- What is added at the end. -/
abbrev rest : FVec Ideal S4096x2048 .f32 := (arg0 m c)

/-- Its array. -/
theorem V_rest (i : Fin 4096) (j : Fin 2048) : (V m c main_arg0 : FVec Ideal S4096x2048 .f32) (ix2 i j) = rest m c (ix2 i j) :=
  congrFun (V_main_arg0 m c) _

/-! ## The blocks -/

theorem index_0 : ∀ t : Fin grid0.N, win0_0.index t 0 = t.val / 8 ∧ win0_0.index t 1 = t.val % 4 := by decide +kernel
theorem index_1 : ∀ t : Fin grid0.N, win0_1.index t 0 = t.val % 4 ∧ win0_1.index t 1 = t.val / 4 % 2 := by decide +kernel
theorem index_2 : ∀ t : Fin grid0.N, win0_2.index t 0 = t.val / 8 ∧ win0_2.index t 1 = t.val / 4 % 2 := by decide +kernel
theorem index_3 : ∀ t : Fin grid0.N, win0_3.index t 0 = t.val / 8 ∧ win0_3.index t 1 = t.val / 4 % 2 := by decide +kernel

theorem points (t : Fin cfg0.N) : t.val < 64 := t.isLt.trans_eq (show cfg0.N = 64 from N_0)

/-- The part of the sum a point takes. -/
def part (n : ℕ) : Fin 4 := ⟨n % 4, Nat.mod_lt _ (by decide)⟩
/-- A row of a point's block of the result. -/
def rowOf (n : ℕ) (i : Fin 512) : Fin 4096 := ⟨n / 8 % 8 * 512 + i.val, by omega⟩
/-- A column of a point's block of the result. -/
def colOf (n : ℕ) (j : Fin 1024) : Fin 2048 := ⟨n / 4 % 2 * 1024 + j.val, by omega⟩
/-- A place of a part of the sum. -/
def at_part (s : Fin 4) (x : Fin 1408) : Fin 5632 := Blocks.place s x

/-- The left operand's block at a point. -/
theorem block_lhs (t : Fin cfg0.N) (x : Fin 1408) (i : Fin 512) :
    (iblk m c 0 t : FVec Ideal S512x1408 .bf16) (ix2 i x) = lhs m c (ix2 (rowOf t.val i) (at_part (part t.val) x)) := by
  rw [← V_lhs]
  unfold iblk
  rw [View.read_apply]
  show V m c main_v4 _ = V m c main_v4 _
  congr 1
  funext a
  apply Fin.ext
  have ht := points t
  obtain ⟨h0, h1⟩ := index_0 t
  match a with
  | ⟨0, _⟩ => show win0_0.index t 0 * 512 + 1 * i.val = _; rw [h0]; show _ = t.val / 8 % 8 * 512 + i.val; omega
  | ⟨1, _⟩ => show win0_0.index t 1 * 1408 + 1 * x.val = _; rw [h1]; show _ = t.val % 4 * 1408 + x.val; omega

/-- The right operand's block at a point. -/
theorem block_rhs (t : Fin cfg0.N) (x : Fin 1408) (j : Fin 1024) :
    (iblk m c 1 t : FVec Ideal S1408x1024 .bf16) (ix2 x j) = rhs m c (ix2 (at_part (part t.val) x) (colOf t.val j)) := by
  rw [← V_rhs]
  unfold iblk
  rw [View.read_apply]
  show V m c main_v5 _ = V m c main_v5 _
  congr 1
  funext a
  apply Fin.ext
  have ht := points t
  obtain ⟨h0, h1⟩ := index_1 t
  match a with
  | ⟨0, _⟩ => show win0_1.index t 0 * 1408 + 1 * x.val = _; rw [h0]; show _ = t.val % 4 * 1408 + x.val; omega
  | ⟨1, _⟩ => show win0_1.index t 1 * 1024 + 1 * j.val = _; rw [h1]; show _ = t.val / 4 % 2 * 1024 + j.val; omega

/-- The block a point adds at the end. -/
theorem block_rest (t : Fin cfg0.N) (i : Fin 512) (j : Fin 1024) :
    (iblk m c 2 t : FVec Ideal S512x1024 .f32) (ix2 i j) = rest m c (ix2 (rowOf t.val i) (colOf t.val j)) := by
  rw [← V_rest]
  unfold iblk
  rw [View.read_apply]
  show V m c main_arg0 _ = V m c main_arg0 _
  congr 1
  funext a
  apply Fin.ext
  have ht := points t
  obtain ⟨h0, h1⟩ := index_2 t
  match a with
  | ⟨0, _⟩ => show win0_2.index t 0 * 512 + 1 * i.val = _; rw [h0]; show _ = t.val / 8 % 8 * 512 + i.val; omega
  | ⟨1, _⟩ => show win0_2.index t 1 * 1024 + 1 * j.val = _; rw [h1]; show _ = t.val / 4 % 2 * 1024 + j.val; omega

/-! ## The sum along the grid -/

/-- One part of the sum at a row and a column. -/
def term (i : Fin 4096) (j : Fin 2048) (s : Fin 4) : EReal :=
  ∑ x : Fin 1408, lhs m c (ix2 i (at_part s x)) * rhs m c (ix2 (at_part s x) j)

/-- The product at a row and a column. -/
def dot (i : Fin 4096) (j : Fin 2048) : EReal := ∑ k : Fin 5632, lhs m c (ix2 i k) * rhs m c (ix2 k j)

/-- The parts together are the product. -/
theorem terms (i : Fin 4096) (j : Fin 2048) : Blocks.first (term m c i j) 4 = dot m c i j :=
  (Blocks.first_all _).trans (Blocks.sum_place (b := 4) (n := 1408) fun k => lhs m c (ix2 i k) * rhs m c (ix2 k j))

/-- A point's own product is its part of the sum. -/
theorem own (t : Fin cfg0.N) (i : Fin 512) (j : Fin 1024) :
    prod (iblk m c 0 t) (iblk m c 1 t) i j
      = term m c (rowOf t.val i) (colOf t.val j) (part t.val) :=
  Finset.sum_congr rfl fun x _ => congrArg₂ (· * ·) (block_lhs m c t x i) (block_rhs m c t x j)

/-- The scratch after a point holds the parts of the sum up to the point's. -/
theorem gathered (i : Fin 512) (j : Fin 1024) : ∀ (n : ℕ) (hn : n < cfg0.N),
    ((outsAt0 m c n hn).2 : FVec Ideal S512x1024 .f32) (ix2 i j) = Blocks.first (term m c (rowOf n i) (colOf n j)) (n % 4 + 1) := by
  intro n
  induction n with
  | zero =>
    intro hn
    have e := outsAt0_A m c ⟨0, hn⟩ (Nat.zero_mod _) (by show ¬ 1 ≤ 0 % 4; omega) (by show ¬ 0 % 4 = 3; omega)
    dsimp only at e
    rw [e]
    dsimp only
    rw [scratch_A, pay_first, own]
    exact (Blocks.first_one _ (part 0) rfl).symm
  | succ n ih =>
    intro hn
    by_cases h0 : (n + 1) % 4 = 0
    · have e := outsAt0_A m c ⟨n + 1, hn⟩ h0 (by show ¬ 1 ≤ (n + 1) % 4; omega) (by show ¬ (n + 1) % 4 = 3; omega)
      dsimp only at e
      rw [e]
      dsimp only
      rw [scratch_A, pay_first, own, h0]
      exact (Blocks.first_one _ (part (n + 1)) h0).symm
    · by_cases h3 : (n + 1) % 4 = 3
      · have e := outsAt0_C m c ⟨n + 1, hn⟩ h0 (by show 1 ≤ (n + 1) % 4; omega) h3
        dsimp only at e
        rw [e]
        dsimp only
        rw [scratch_C, pay_next, own]
        have hr : rowOf n i = rowOf (n + 1) i := Fin.ext (by show n / 8 % 8 * 512 + i.val = (n + 1) / 8 % 8 * 512 + i.val; omega)
        have hc : colOf n j = colOf (n + 1) j := Fin.ext (by show n / 4 % 2 * 1024 + j.val = (n + 1) / 4 % 2 * 1024 + j.val; omega)
        have hs : n % 4 + 1 = (part (n + 1)).val := by show n % 4 + 1 = (n + 1) % 4; omega
        refine (congrArg₂ (· + ·) (ih (Nat.lt_of_succ_lt hn)) rfl).trans ?_
        rw [hr, hc, hs]
        exact (Blocks.first_succ _ (part (n + 1))).symm
      · have e := outsAt0_B m c ⟨n + 1, hn⟩ h0 (by show 1 ≤ (n + 1) % 4; omega) h3
        dsimp only at e
        rw [e]
        dsimp only
        rw [scratch_B, pay_next, own]
        have hr : rowOf n i = rowOf (n + 1) i := Fin.ext (by show n / 8 % 8 * 512 + i.val = (n + 1) / 8 % 8 * 512 + i.val; omega)
        have hc : colOf n j = colOf (n + 1) j := Fin.ext (by show n / 4 % 2 * 1024 + j.val = (n + 1) / 4 % 2 * 1024 + j.val; omega)
        have hs : n % 4 + 1 = (part (n + 1)).val := by show n % 4 + 1 = (n + 1) % 4; omega
        refine (congrArg₂ (· + ·) (ih (Nat.lt_of_succ_lt hn)) rfl).trans ?_
        rw [hr, hc, hs]
        exact (Blocks.first_succ _ (part (n + 1))).symm

/-- The result at a row and a column. -/
def val (i : Fin 4096) (j : Fin 2048) : EReal := dot m c i j * Ideal.ofBits .f32 0x3F000000#32 + rest m c (ix2 i j)

/-- The result's buffer after the last point of a sum. -/
theorem stored (t : Fin cfg0.N) (h : t.val % 4 = 3) (i : Fin 512) (j : Fin 1024) :
    ((outsAt0 m c t.val t.isLt).1 : FVec Ideal S512x1024 .f32) (ix2 i j) = val m c (rowOf t.val i) (colOf t.val j) := by
  have g := gathered m c i j t.val t.isLt
  have e := outsAt0_C m c t (by omega) (by omega) h
  rw [e] at g ⊢
  dsimp only at g ⊢
  rw [scratch_C] at g
  rw [out_C, pay_last, g, h, block_rest]
  unfold val
  rw [← terms m c]

/-! ## The array -/

/-- The result as one array. -/
def res : FVec Ideal S4096x2048 .f32 := fun y => val m c (y 0) (y 1)

/-- A block that is written back is that block of the array. -/
theorem block_res (t : Fin cfg0.N) (hf : (cfg0.win 3).flush t = true) :
    (dats m 0 c).flushed 3 t = ((cfg0.win 3).blk t).view.read (Elt Ideal) (res m c) := by
  rw [Cert.DownIdeal.Value.flushed3]
  funext y
  rw [View.read_apply]
  have e := stored m c t ((flush0_3 t).mp hf) (y 0) (y 1)
  refine Eq.trans (congrArg (outsAt0 m c t.val t.isLt).1 (?_ : _ = ix2 (y 0) (y 1))) (e.trans ?_)
  · funext x
    match x with
    | ⟨0, _⟩ => rfl
    | ⟨1, _⟩ => rfl
  have ht := points t
  obtain ⟨h0, h1⟩ := index_3 t
  have hx : ((cfg0.win 3).blk t).view.emb y = ix2 (rowOf t.val (y 0)) (colOf t.val (y 1)) := by
    funext x
    apply Fin.ext
    match x with
    | ⟨0, _⟩ => show win0_3.index t 0 * 512 + 1 * (y 0).val = _; rw [h0]; show _ = t.val / 8 % 8 * 512 + (y 0).val; omega
    | ⟨1, _⟩ => show win0_3.index t 1 * 1024 + 1 * (y 1).val = _; rw [h1]; show _ = t.val / 4 % 2 * 1024 + (y 1).val; omega
  rw [hx]
  rfl

/-- The array after the launch. -/
theorem array_res : (dats m 0 c).arrAt 3 cfg0.N = res m c :=
  (dats m 0 c).arrAt_eq_of_cover 3 (res m c) (block_res m c) fun i => (Cert.DownIdeal.Value.covered_iff3 i).2 (by
    have h0 : (i 0).val < 4096 := (i 0).isLt
    have h1 : (i 1).val < 2048 := (i 1).isLt
    omega)

end Arrays

/-! ## The reference -/

/-- The reference's result is the same product. -/
theorem reference (x0 : FVec Ideal S4096x2048 .f32) (x1 : FVec Ideal S4096x2048 .f32) (x2 : FVec Ideal S2048x5632 .f32) (x3 : FVec Ideal S2048x5632 .f32) (x4 : FVec Ideal S5632x2048 .f32)
    (i : Fin 4096) (j : Fin 2048) :
    Cert.DownRefIdeal.Read.val_main_v7 (F := Ideal) x0 x1 x2 x3 x4 (ix2 i j)
      = (∑ k : Fin 5632, (Cert.DownRefIdeal.Read.val_main_v3 (F := Ideal) x1 x2 x3) (ix2 i k) * x4 (ix2 k j)) * Ideal.ofBits .f32 0x3F000000#32 + x0 (ix2 i j) := by
  unfold Cert.DownRefIdeal.Read.val_main_v7 Cert.DownRefIdeal.Read.val_main_v6 Cert.DownRefIdeal.Read.val_main_v5 Cert.DownRefIdeal.Read.val_main_cst Cert.DownRefIdeal.Read.val_main_v4
  generalize Cert.DownRefIdeal.Read.val_main_v3 (F := Ideal) x1 x2 x3 = z0
  pointwise
  rw [mul_comm, add_comm]

/-- The reference runs, keeps its arguments, and holds no counter above zero at the end. -/
theorem frame_reference : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- From arguments that agree the reference's array is the kernel's. -/
theorem meet (m : (ℓ : Loc nD τ sig) → Buf (Elt Ideal) ℓ) (c : Dev nD) {x0 : FVec Ideal S4096x2048 .f32} {x1 : FVec Ideal S4096x2048 .f32} {x2 : FVec Ideal S2048x5632 .f32} {x3 : FVec Ideal S2048x5632 .f32} {x4 : FVec Ideal S5632x2048 .f32}
    (e0 : x0 = arg0 m c) (e1 : x1 = arg1 m c) (e2 : x2 = arg2 m c) (e3 : x3 = arg3 m c) (e4 : x4 = arg4 m c) :
    Cert.DownRefIdeal.Read.val_main_v7 (F := Ideal) x0 x1 x2 x3 x4 = res m c := by
  subst e0 e1 e2 e3 e4
  funext y
  idx_vars y
  exact reference _ _ _ _ _ _ _

/-- The kernel's result is the reference's. -/
theorem algebraic : Cert.algebraic_DownIdeal_DownRefIdeal := by
  intro m ρ m' ρ' _ hagree
  refine ⟨fun c => res m c, (θ_run _ _ _).mono (fun r h c => ?_) (Cert.DownIdeal.Value.run_blocks m ρ),
    (θ_run _ _ _).mono (fun r h c => ?_) (Cert.DownRefIdeal.Value.run (F := Ideal) m' ρ')⟩
  · exact ⟨(h c).1.trans (array_res m c), (h c).2⟩
  · obtain ⟨a0, a1, a2, a3, a4⟩ := hagree c
    exact ⟨((h c).1.trans (Cert.DownRefIdeal.Read.val_main_v7_eq _ _ _ _ _)).trans (meet m c a0 a1 a2 a3 a4), (h c).2⟩

end Cert.Dow

end
-- ==== Proof.Dwdown.lean ====
/-
  The gradient of the matrix out of the feed-forward part: the launch adds, tile by tile, the products of the two
  halves of the rows and halves the sum; the reference halves the gradient it is given and takes one product.
-/
module

public import proofs.«01_k».proof.Defs
public import proofs.«01_k».proof.Proof.Rows
public import proofs.«01_k».proof.Proof.Silu
public import proofs.«01_k».proof.Proof.Gen.Dwdown.Frame
public import proofs.«01_k».proof.Proof.Gen.DwdownIdeal.Value
public import proofs.«01_k».proof.Proof.Gen.DwdownRefIdeal.Read

@[expose] public section

set_option maxRecDepth 16384

noncomputable section

namespace Cert.Dwd

open Cert.DwdownIdeal Cert.DwdownIdeal.Gen Idealize.ShloMosaic Idealize.ShloMosaic.TcCoe Idealize.SL.Sem

/-! ## One point -/

/-- The product of two blocks at an index. -/
def prod (a : FVec Ideal S2048x512 .bf16) (b : FVec Ideal S2048x1024 .f32) (i : Fin 512) (j : Fin 1024) : EReal :=
  ∑ x : Fin 2048, a (ix2 x i) * b (ix2 x j)

/-- A point's product. -/
theorem pay_first (a : FVec Ideal S2048x512 .bf16) (b : FVec Ideal S2048x1024 .f32) (i : Fin 512) (j : Fin 1024) :
    k0_pay2 (F := Ideal) a b (ix2 i j) = prod a b i j := by
  unfold k0_pay2 k0_pay1 prod
  pointwise

/-- A point's product on top of what has been gathered. -/
theorem pay_next (a : FVec Ideal S2048x512 .bf16) (b : FVec Ideal S2048x1024 .f32) (g : FVec Ideal S512x1024 .f32) (i : Fin 512) (j : Fin 1024) :
    k0_pay3 (F := Ideal) a b g (ix2 i j) = g (ix2 i j) + prod a b i j := by
  unfold k0_pay3 k0_pay1 prod
  pointwise

/-- What is stored of what has been gathered. -/
theorem pay_last (g : FVec Ideal S512x1024 .f32) (i : Fin 512) (j : Fin 1024) :
    k0_pay4 (F := Ideal) g (ix2 i j) = g (ix2 i j) * Ideal.ofBits .f32 0x3F000000#32 := by
  unfold k0_pay4
  pointwise

section Point
variable (c : Dev nD) (i : grid0.Coords) (a3 : Memref sig .tc .vmem S2048x512 .bf16) (h3 : a3.IsWhole) (a4 : Memref sig .tc .vmem S2048x1024 .f32) (h4 : a4.IsWhole) (a5 : Memref sig .tc .vmem S512x1024 .bf16) (h5 : a5.IsWhole) (a6 : Memref sig .tc .vmem S512x1024 .f32) (h6 : a6.IsWhole)
  (x0 : FVec Ideal S2048x512 .bf16) (x1 : FVec Ideal S2048x1024 .f32) (xs : FVec Ideal S512x1024 .f32)

/-- The scratch after a point that starts a sum. -/
theorem scratch_A (hc0 : cond0_0 i) (hc1 : ¬cond0_1 i) (hc2 : ¬cond0_2 i) :
    sout0_A_0 (F := Ideal) c i a3 h3 a4 h4 a5 h5 a6 h6 hc0 hc1 hc2 x0 x1 = k0_pay2 (F := Ideal) x0 x1 := by
  unfold sout0_A_0
  rw [View.read_writes_eq_canon (Val := Elt Ideal) _ _ _ (scover0_A_0 c i a3 h3 a4 h4 a5 h5 a6 h6 hc0 hc1 hc2 x0 x1)]
  unfold kernelRun0_A
  dsimp only
  rw [View.canon_unit_zero Rows.hz2]
  simp only [View.readAt_eq_ld, h3.read_unread, h4.read_unread, View.ld_unit_zero (S := S2048x512) Rows.hz2, View.ld_unit_zero (S := S2048x1024) Rows.hz2, View.ld_unit_zero (S := S512x1024) Rows.hz2]

/-- The scratch after a point that goes on with a sum. -/
theorem scratch_B (hc0 : ¬cond0_0 i) (hc1 : cond0_1 i) (hc2 : cond0_2 i) :
    sout0_B_0 (F := Ideal) c i a3 h3 a4 h4 a5 h5 a6 h6 hc0 hc1 hc2 x0 x1 xs = k0_pay3 (F := Ideal) x0 x1 xs := by
  unfold sout0_B_0
  rw [View.read_writes_eq_canon (Val := Elt Ideal) _ _ _ (scover0_B_0 c i a3 h3 a4 h4 a5 h5 a6 h6 hc0 hc1 hc2 x0 x1 xs)]
  unfold kernelRun0_B
  dsimp only
  unfold kernelRun0_B.sl.HS0_1
  rw [View.canon_unit_zero Rows.hz2]
  simp only [View.readAt_eq_ld, h3.read_unread, h4.read_unread, h6.read_unread, View.ld_unit_zero (S := S2048x512) Rows.hz2, View.ld_unit_zero (S := S2048x1024) Rows.hz2, View.ld_unit_zero (S := S512x1024) Rows.hz2]

/-- The result's buffer after a point that ends a sum. -/
theorem out_B (hc0 : ¬cond0_0 i) (hc1 : cond0_1 i) (hc2 : cond0_2 i) :
    out0_B_2 (F := Ideal) c i a3 h3 a4 h4 a5 h5 a6 h6 hc0 hc1 hc2 x0 x1 xs = k0_pay4 (F := Ideal) (k0_pay3 (F := Ideal) x0 x1 xs) := by
  unfold out0_B_2
  rw [View.read_writes_eq_canon (Val := Elt Ideal) _ _ _ (cover0_B_2 c i a3 h3 a4 h4 a5 h5 a6 h6 hc0 hc1 hc2 x0 x1 xs)]
  unfold kernelRun0_B
  dsimp only
  rw [View.canon_unit_zero Rows.hz2]
  unfold kernelRun0_B.sl.v14 kernelRun0_B.sl.HS0_1
  refine congrArg (k0_pay4 (F := Ideal)) ((View.readCov_full a6.view _ _ _ _).trans ?_)
  simp only [View.readAt_eq_ld, h3.read_unread, h4.read_unread, h6.read_unread, View.ld_unit_zero (S := S2048x512) Rows.hz2, View.ld_unit_zero (S := S2048x1024) Rows.hz2, View.ld_unit_zero (S := S512x1024) Rows.hz2]

end Point

/-! ## The arrays the windows read -/

section Arrays
variable (m : (ℓ : Loc nD τ sig) → Buf (Elt Ideal) ℓ) (c : Dev nD)

/-- The host lines before the launch in one list. -/
theorem V_eq (b : Ref sig .tc) : V m c b = StableHlo.after (hostOps0 ++ (hostOps0_1 ++ hostOps0_2)) (fun b => m (c, b)) b := by
  simp only [V, List.flatten_cons, List.flatten_nil, List.append_nil]
/-- An argument. -/
abbrev arg0 : FVec Ideal S4096x2048 .f32 := m ((c : Thread nD τ).loc main_arg0)
/-- An argument. -/
abbrev arg1 : FVec Ideal S2048x5632 .f32 := m ((c : Thread nD τ).loc main_arg1)
/-- An argument. -/
abbrev arg2 : FVec Ideal S2048x5632 .f32 := m ((c : Thread nD τ).loc main_arg2)
/-- An argument. -/
abbrev arg3 : FVec Ideal S4096x2048 .f32 := m ((c : Thread nD τ).loc main_arg3)
/-- The left operand. -/
abbrev lhs : FVec Ideal S4096x5632 .f32 := Cert.DwdownRefIdeal.Read.val_main_v4 (F := Ideal) (arg0 m c) (arg1 m c) (arg2 m c)
/-- The right operand. -/
abbrev rhs : FVec Ideal S4096x2048 .f32 := (arg3 m c)

/-- The left operand's array is that operand. -/
theorem V_lhs (k : Fin 4096) (i : Fin 5632) : (V m c main_v4 : FVec Ideal S4096x5632 .bf16) (ix2 k i) = lhs m c (ix2 k i) := by
  have e : (V m c main_v4 : FVec Ideal S4096x5632 .bf16) = truncf (F := Ideal) .bf16 (lhs m c) bitsLt_bf16_f32 := by
    rw [V_eq]
    simp only [hostOps0, hostOps0_1, hostOps0_2, List.cons_append, List.nil_append]
    after_results_simp
    try rfl
  rw [e]
  rfl

/-- The right operand's array is that operand. -/
theorem V_rhs (k : Fin 4096) (j : Fin 2048) : (V m c main_arg3 : FVec Ideal S4096x2048 .f32) (ix2 k j) = rhs m c (ix2 k j) :=
  congrFun (V_main_arg3 m c) _

/-! ## The blocks -/

theorem index_0 : ∀ t : Fin grid0.N, win0_0.index t 0 = t.val % 2 ∧ win0_0.index t 1 = t.val / 4 := by decide +kernel
theorem index_1 : ∀ t : Fin grid0.N, win0_1.index t 0 = t.val % 2 ∧ win0_1.index t 1 = t.val / 2 % 2 := by decide +kernel
theorem index_2 : ∀ t : Fin grid0.N, win0_2.index t 0 = t.val / 4 ∧ win0_2.index t 1 = t.val / 2 % 2 := by decide +kernel

theorem points (t : Fin cfg0.N) : t.val < 44 := t.isLt.trans_eq (show cfg0.N = 44 from N_0)

/-- The part of the sum a point takes. -/
def part (n : ℕ) : Fin 2 := ⟨n % 2, Nat.mod_lt _ (by decide)⟩
/-- A row of a point's block of the result. -/
def rowOf (n : ℕ) (i : Fin 512) : Fin 5632 := ⟨n / 4 % 11 * 512 + i.val, by omega⟩
/-- A column of a point's block of the result. -/
def colOf (n : ℕ) (j : Fin 1024) : Fin 2048 := ⟨n / 2 % 2 * 1024 + j.val, by omega⟩
/-- A place of a part of the sum. -/
def at_part (s : Fin 2) (x : Fin 2048) : Fin 4096 := Blocks.place s x

/-- The left operand's block at a point. -/
theorem block_lhs (t : Fin cfg0.N) (x : Fin 2048) (i : Fin 512) :
    (iblk m c 0 t : FVec Ideal S2048x512 .bf16) (ix2 x i) = lhs m c (ix2 (at_part (part t.val) x) (rowOf t.val i)) := by
  rw [← V_lhs]
  unfold iblk
  rw [View.read_apply]
  show V m c main_v4 _ = V m c main_v4 _
  congr 1
  funext a
  apply Fin.ext
  have ht := points t
  obtain ⟨h0, h1⟩ := index_0 t
  match a with
  | ⟨0, _⟩ => show win0_0.index t 0 * 2048 + 1 * x.val = _; rw [h0]; show _ = t.val % 2 * 2048 + x.val; omega
  | ⟨1, _⟩ => show win0_0.index t 1 * 512 + 1 * i.val = _; rw [h1]; show _ = t.val / 4 % 11 * 512 + i.val; omega

/-- The right operand's block at a point. -/
theorem block_rhs (t : Fin cfg0.N) (x : Fin 2048) (j : Fin 1024) :
    (iblk m c 1 t : FVec Ideal S2048x1024 .f32) (ix2 x j) = rhs m c (ix2 (at_part (part t.val) x) (colOf t.val j)) := by
  rw [← V_rhs]
  unfold iblk
  rw [View.read_apply]
  show V m c main_arg3 _ = V m c main_arg3 _
  congr 1
  funext a
  apply Fin.ext
  have ht := points t
  obtain ⟨h0, h1⟩ := index_1 t
  match a with
  | ⟨0, _⟩ => show win0_1.index t 0 * 2048 + 1 * x.val = _; rw [h0]; show _ = t.val % 2 * 2048 + x.val; omega
  | ⟨1, _⟩ => show win0_1.index t 1 * 1024 + 1 * j.val = _; rw [h1]; show _ = t.val / 2 % 2 * 1024 + j.val; omega

/-! ## The sum along the grid -/

/-- One part of the sum at a row and a column. -/
def term (i : Fin 5632) (j : Fin 2048) (s : Fin 2) : EReal :=
  ∑ x : Fin 2048, lhs m c (ix2 (at_part s x) i) * rhs m c (ix2 (at_part s x) j)

/-- The product at a row and a column. -/
def dot (i : Fin 5632) (j : Fin 2048) : EReal := ∑ k : Fin 4096, lhs m c (ix2 k i) * rhs m c (ix2 k j)

/-- The parts together are the product. -/
theorem terms (i : Fin 5632) (j : Fin 2048) : Blocks.first (term m c i j) 2 = dot m c i j :=
  (Blocks.first_all _).trans (Blocks.sum_place (b := 2) (n := 2048) fun k => lhs m c (ix2 k i) * rhs m c (ix2 k j))

/-- A point's own product is its part of the sum. -/
theorem own (t : Fin cfg0.N) (i : Fin 512) (j : Fin 1024) :
    prod (iblk m c 0 t) (iblk m c 1 t) i j
      = term m c (rowOf t.val i) (colOf t.val j) (part t.val) :=
  Finset.sum_congr rfl fun x _ => congrArg₂ (· * ·) (block_lhs m c t x i) (block_rhs m c t x j)

/-- The scratch after a point holds the parts of the sum up to the point's. -/
theorem gathered (i : Fin 512) (j : Fin 1024) : ∀ (n : ℕ) (hn : n < cfg0.N),
    ((outsAt0 m c n hn).2 : FVec Ideal S512x1024 .f32) (ix2 i j) = Blocks.first (term m c (rowOf n i) (colOf n j)) (n % 2 + 1) := by
  intro n
  induction n with
  | zero =>
    intro hn
    have e := outsAt0_A m c ⟨0, hn⟩ (Nat.zero_mod _) (by show ¬ 0 % 2 = 1; omega) (by show ¬ 0 % 2 = 1; omega)
    dsimp only at e
    rw [e]
    dsimp only
    rw [scratch_A, pay_first, own]
    exact (Blocks.first_one _ (part 0) rfl).symm
  | succ n ih =>
    intro hn
    by_cases h0 : (n + 1) % 2 = 0
    · have e := outsAt0_A m c ⟨n + 1, hn⟩ h0 (by show ¬ (n + 1) % 2 = 1; omega) (by show ¬ (n + 1) % 2 = 1; omega)
      dsimp only at e
      rw [e]
      dsimp only
      rw [scratch_A, pay_first, own, h0]
      exact (Blocks.first_one _ (part (n + 1)) h0).symm
    · have h1 : (n + 1) % 2 = 1 := by omega
      have e := outsAt0_B m c ⟨n + 1, hn⟩ h0 h1 h1
      dsimp only at e
      rw [e]
      dsimp only
      rw [scratch_B, pay_next, own]
      have hr : rowOf n i = rowOf (n + 1) i := Fin.ext (by show n / 4 % 11 * 512 + i.val = (n + 1) / 4 % 11 * 512 + i.val; omega)
      have hc : colOf n j = colOf (n + 1) j := Fin.ext (by show n / 2 % 2 * 1024 + j.val = (n + 1) / 2 % 2 * 1024 + j.val; omega)
      have hs : n % 2 + 1 = (part (n + 1)).val := by show n % 2 + 1 = (n + 1) % 2; omega
      refine (congrArg₂ (· + ·) (ih (Nat.lt_of_succ_lt hn)) rfl).trans ?_
      rw [hr, hc, hs]
      exact (Blocks.first_succ _ (part (n + 1))).symm

/-- The result at a row and a column. -/
def val (i : Fin 5632) (j : Fin 2048) : EReal := dot m c i j * Ideal.ofBits .f32 0x3F000000#32

/-- The result's buffer after the last point of a sum. -/
theorem stored (t : Fin cfg0.N) (h : t.val % 2 = 1) (i : Fin 512) (j : Fin 1024) :
    ((outsAt0 m c t.val t.isLt).1 : FVec Ideal S512x1024 .bf16) (ix2 i j) = val m c (rowOf t.val i) (colOf t.val j) := by
  have g := gathered m c i j t.val t.isLt
  have e := outsAt0_B m c t (by omega) h h
  rw [e] at g ⊢
  dsimp only at g ⊢
  rw [scratch_B] at g
  rw [out_B, pay_last, g, h]
  unfold val
  rw [← terms m c]

/-! ## The array -/

/-- The result as one array. -/
def res : FVec Ideal S5632x2048 .bf16 := fun y => val m c (y 0) (y 1)

/-- A block that is written back is that block of the array. -/
theorem block_res (t : Fin cfg0.N) (hf : (cfg0.win 2).flush t = true) :
    (dats m 0 c).flushed 2 t = ((cfg0.win 2).blk t).view.read (Elt Ideal) (res m c) := by
  rw [Cert.DwdownIdeal.Value.flushed2]
  funext y
  rw [View.read_apply]
  have e := stored m c t ((flush0_2 t).mp hf) (y 0) (y 1)
  refine Eq.trans (congrArg (outsAt0 m c t.val t.isLt).1 (?_ : _ = ix2 (y 0) (y 1))) (e.trans ?_)
  · funext x
    match x with
    | ⟨0, _⟩ => rfl
    | ⟨1, _⟩ => rfl
  have ht := points t
  obtain ⟨h0, h1⟩ := index_2 t
  have hx : ((cfg0.win 2).blk t).view.emb y = ix2 (rowOf t.val (y 0)) (colOf t.val (y 1)) := by
    funext x
    apply Fin.ext
    match x with
    | ⟨0, _⟩ => show win0_2.index t 0 * 512 + 1 * (y 0).val = _; rw [h0]; show _ = t.val / 4 % 11 * 512 + (y 0).val; omega
    | ⟨1, _⟩ => show win0_2.index t 1 * 1024 + 1 * (y 1).val = _; rw [h1]; show _ = t.val / 2 % 2 * 1024 + (y 1).val; omega
  rw [hx]
  rfl

/-- The array after the launch. -/
theorem array_res : (dats m 0 c).arrAt 2 cfg0.N = res m c :=
  (dats m 0 c).arrAt_eq_of_cover 2 (res m c) (block_res m c) fun i => (Cert.DwdownIdeal.Value.covered_iff2 i).2 (by
    have h0 : (i 0).val < 5632 := (i 0).isLt
    have h1 : (i 1).val < 2048 := (i 1).isLt
    omega)

end Arrays

/-! ## The reference -/

/-- The reference's result is the same product. -/
theorem reference (x0 : FVec Ideal S4096x2048 .f32) (x1 : FVec Ideal S2048x5632 .f32) (x2 : FVec Ideal S2048x5632 .f32) (x3 : FVec Ideal S4096x2048 .f32)
    (i : Fin 5632) (j : Fin 2048) :
    Cert.DwdownRefIdeal.Read.val_main_v12 (F := Ideal) x0 x1 x2 x3 (ix2 i j)
      = (∑ k : Fin 4096, (Cert.DwdownRefIdeal.Read.val_main_v4 (F := Ideal) x0 x1 x2) (ix2 k i) * x3 (ix2 k j)) * Ideal.ofBits .f32 0x3F000000#32 := by
  unfold Cert.DwdownRefIdeal.Read.val_main_v12 Cert.DwdownRefIdeal.Read.val_main_v11 Cert.DwdownRefIdeal.Read.val_main_v10 Cert.DwdownRefIdeal.Read.val_main_v9 Cert.DwdownRefIdeal.Read.val_main_v8 Cert.DwdownRefIdeal.Read.val_main_cst_1
  generalize Cert.DwdownRefIdeal.Read.val_main_v4 (F := Ideal) x0 x1 x2 = z0
  pointwise
  rw [Blocks.half_sum]
  exact congrArg (· * _) (Finset.sum_congr rfl fun k _ => mul_comm _ _)

/-- The reference runs, keeps its arguments, and holds no counter above zero at the end. -/
theorem frame_reference : Cert.quiescent_DwdownRefIdeal := fun m ρ _ =>
  (θ_run Cert.DwdownRefIdeal.defs _ _).mono (fun r h => ⟨fun c => (h c).2, sem_eq_zero_of_no_sems (by decide) r.2⟩)
    (Cert.DwdownRefIdeal.Value.run (F := Ideal) m ρ)

/-- From arguments that agree the reference's array is the kernel's. -/
theorem meet (m : (ℓ : Loc nD τ sig) → Buf (Elt Ideal) ℓ) (c : Dev nD) {x0 : FVec Ideal S4096x2048 .f32} {x1 : FVec Ideal S2048x5632 .f32} {x2 : FVec Ideal S2048x5632 .f32} {x3 : FVec Ideal S4096x2048 .f32}
    (e0 : x0 = arg0 m c) (e1 : x1 = arg1 m c) (e2 : x2 = arg2 m c) (e3 : x3 = arg3 m c) :
    Cert.DwdownRefIdeal.Read.val_main_v12 (F := Ideal) x0 x1 x2 x3 = res m c := by
  subst e0 e1 e2 e3
  funext y
  idx_vars y
  exact reference _ _ _ _ _ _

/-- The kernel's gradient is the reference's. -/
theorem algebraic : Cert.algebraic_DwdownIdeal_DwdownRefIdeal := by
  intro m ρ m' ρ' _ hagree
  refine ⟨fun c => res m c, (θ_run _ _ _).mono (fun r h c => ?_) (Cert.DwdownIdeal.Value.run_blocks m ρ),
    (θ_run _ _ _).mono (fun r h c => ?_) (Cert.DwdownRefIdeal.Value.run (F := Ideal) m' ρ')⟩
  · exact ⟨(h c).1.trans (array_res m c), (h c).2⟩
  · obtain ⟨a0, a1, a2, a3⟩ := hagree c
    exact ⟨((h c).1.trans (Cert.DwdownRefIdeal.Read.val_main_v12_eq _ _ _ _)).trans (meet m c a0 a1 a2 a3), (h c).2⟩

end Cert.Dwd

end
-- ==== Proof.Dwgate.lean ====
/-
  The gradient of the first matrix into the feed-forward part: the launch adds, tile by tile, the products of the two
  halves of the rows; the reference takes one product over all the rows.
-/
module

public import proofs.«01_k».proof.Defs
public import proofs.«01_k».proof.Proof.Rows
public import proofs.«01_k».proof.Proof.Gen.Dwgate.Frame
public import proofs.«01_k».proof.Proof.Gen.DwgateIdeal.Value
public import proofs.«01_k».proof.Proof.Gen.DwgateRefIdeal.Read

@[expose] public section

set_option maxRecDepth 16384

noncomputable section

namespace Cert.Dwg

open Cert.DwgateIdeal Cert.DwgateIdeal.Gen Idealize.ShloMosaic Idealize.ShloMosaic.TcCoe Idealize.SL.Sem

/-! ## One point -/

/-- The product of two blocks at an index. -/
def prod (a : FVec Ideal S2048x512 .bf16) (b : FVec Ideal S2048x1408 .bf16) (i : Fin 512) (j : Fin 1408) : EReal :=
  ∑ x : Fin 2048, a (ix2 x i) * b (ix2 x j)

/-- A point's product. -/
theorem pay_first (a : FVec Ideal S2048x512 .bf16) (b : FVec Ideal S2048x1408 .bf16) (i : Fin 512) (j : Fin 1408) :
    k0_pay2 (F := Ideal) a b (ix2 i j) = prod a b i j := by
  unfold k0_pay2 k0_pay1 prod
  pointwise

/-- A point's product on top of what has been gathered. -/
theorem pay_next (a : FVec Ideal S2048x512 .bf16) (b : FVec Ideal S2048x1408 .bf16) (g : FVec Ideal S512x1408 .f32) (i : Fin 512) (j : Fin 1408) :
    k0_pay3 (F := Ideal) a b g (ix2 i j) = g (ix2 i j) + prod a b i j := by
  unfold k0_pay3 k0_pay1 prod
  pointwise

/-- What is stored of what has been gathered. -/
theorem pay_last (g : FVec Ideal S512x1408 .f32) (i : Fin 512) (j : Fin 1408) :
    k0_pay4 (F := Ideal) g (ix3 (0 : Fin 1) i j) = g (ix2 i j) := by
  unfold k0_pay4
  pointwise

section Point
variable (c : Dev nD) (i : grid0.Coords) (a3 : Memref sig .tc .vmem S2048x512 .bf16) (h3 : a3.IsWhole) (a4 : Memref sig .tc .vmem S2048x1408 .bf16) (h4 : a4.IsWhole) (a5 : Memref sig .tc .vmem S1x512x1408 .bf16) (h5 : a5.IsWhole) (a6 : Memref sig .tc .vmem S512x1408 .f32) (h6 : a6.IsWhole)
  (x0 : FVec Ideal S2048x512 .bf16) (x1 : FVec Ideal S2048x1408 .bf16) (xs : FVec Ideal S512x1408 .f32)

/-- The scratch after a point that starts a sum. -/
theorem scratch_A (hc0 : cond0_0 i) (hc1 : ¬cond0_1 i) (hc2 : ¬cond0_2 i) :
    sout0_A_0 (F := Ideal) c i a3 h3 a4 h4 a5 h5 a6 h6 hc0 hc1 hc2 x0 x1 = k0_pay2 (F := Ideal) x0 x1 := by
  unfold sout0_A_0
  rw [View.read_writes_eq_canon (Val := Elt Ideal) _ _ _ (scover0_A_0 c i a3 h3 a4 h4 a5 h5 a6 h6 hc0 hc1 hc2 x0 x1)]
  unfold kernelRun0_A
  dsimp only
  rw [View.canon_unit_zero Rows.hz2]
  simp only [View.readAt_eq_ld, h3.read_unread, h4.read_unread, View.ld_unit_zero (S := S2048x512) Rows.hz2, View.ld_unit_zero (S := S2048x1408) Rows.hz2, View.ld_unit_zero (S := S512x1408) Rows.hz2]

/-- The scratch after a point that goes on with a sum. -/
theorem scratch_B (hc0 : ¬cond0_0 i) (hc1 : cond0_1 i) (hc2 : cond0_2 i) :
    sout0_B_0 (F := Ideal) c i a3 h3 a4 h4 a5 h5 a6 h6 hc0 hc1 hc2 x0 x1 xs = k0_pay3 (F := Ideal) x0 x1 xs := by
  unfold sout0_B_0
  rw [View.read_writes_eq_canon (Val := Elt Ideal) _ _ _ (scover0_B_0 c i a3 h3 a4 h4 a5 h5 a6 h6 hc0 hc1 hc2 x0 x1 xs)]
  unfold kernelRun0_B
  dsimp only
  unfold kernelRun0_B.sl.HS0_1
  rw [View.canon_unit_zero Rows.hz2]
  simp only [View.readAt_eq_ld, h3.read_unread, h4.read_unread, h6.read_unread, View.ld_unit_zero (S := S2048x512) Rows.hz2, View.ld_unit_zero (S := S2048x1408) Rows.hz2, View.ld_unit_zero (S := S512x1408) Rows.hz2]

/-- The result's buffer after a point that ends a sum. -/
theorem out_B (hc0 : ¬cond0_0 i) (hc1 : cond0_1 i) (hc2 : cond0_2 i) :
    out0_B_2 (F := Ideal) c i a3 h3 a4 h4 a5 h5 a6 h6 hc0 hc1 hc2 x0 x1 xs = k0_pay4 (F := Ideal) (k0_pay3 (F := Ideal) x0 x1 xs) := by
  unfold out0_B_2
  rw [View.read_writes_eq_canon (Val := Elt Ideal) _ _ _ (cover0_B_2 c i a3 h3 a4 h4 a5 h5 a6 h6 hc0 hc1 hc2 x0 x1 xs)]
  unfold kernelRun0_B
  dsimp only
  rw [View.canon_unit_zero Rows.hz3]
  unfold kernelRun0_B.sl.v14 kernelRun0_B.sl.HS0_1
  refine congrArg (k0_pay4 (F := Ideal)) ((View.readCov_full a6.view _ _ _ _).trans ?_)
  simp only [View.readAt_eq_ld, h3.read_unread, h4.read_unread, h6.read_unread, View.ld_unit_zero (S := S2048x512) Rows.hz2, View.ld_unit_zero (S := S2048x1408) Rows.hz2, View.ld_unit_zero (S := S512x1408) Rows.hz2]

end Point

/-! ## The arrays the windows read -/

section Arrays
variable (m : (ℓ : Loc nD τ sig) → Buf (Elt Ideal) ℓ) (c : Dev nD)

/-- The host lines before the launch in one list. -/
theorem V_eq (b : Ref sig .tc) : V m c b = StableHlo.after (hostOps0 ++ (hostOps0_1 ++ (hostOps0_2 ++ (hostOps0_3 ++ hostOps0_4)))) (fun b => m (c, b)) b := by
  simp only [V, List.flatten_cons, List.flatten_nil, List.append_nil]
/-- An argument. -/
abbrev arg0 : FVec Ideal S4096x2048 .f32 := m ((c : Thread nD τ).loc main_arg0)
/-- An argument. -/
abbrev arg1 : FVec Ideal S2048x5632 .f32 := m ((c : Thread nD τ).loc main_arg1)
/-- An argument. -/
abbrev arg2 : FVec Ideal S2048x5632 .f32 := m ((c : Thread nD τ).loc main_arg2)
/-- An argument. -/
abbrev arg3 : FVec Ideal S5632x2048 .f32 := m ((c : Thread nD τ).loc main_arg3)
/-- An argument. -/
abbrev arg4 : FVec Ideal S4096x2048 .f32 := m ((c : Thread nD τ).loc main_arg4)
/-- The left operand. -/
abbrev lhs : FVec Ideal S4096x2048 .f32 := (arg0 m c)
/-- The right operand. -/
abbrev rhs : FVec Ideal S4096x5632 .f32 := Cert.DwgateRefIdeal.Read.val_main_v11 (F := Ideal) (arg0 m c) (arg1 m c) (arg2 m c) (arg3 m c) (arg4 m c)

/-- The left operand's array is that operand. -/
theorem V_lhs (k : Fin 4096) (i : Fin 2048) : (V m c main_v12 : FVec Ideal S4096x2048 .bf16) (ix2 k i) = lhs m c (ix2 k i) := by
  have e : (V m c main_v12 : FVec Ideal S4096x2048 .bf16) = truncf (F := Ideal) .bf16 (lhs m c) bitsLt_bf16_f32 := by
    rw [V_eq]
    simp only [hostOps0, hostOps0_1, hostOps0_2, hostOps0_3, hostOps0_4, List.cons_append, List.nil_append]
    after_results_simp
    try rfl
  rw [e]
  rfl

/-- The right operand's array is that operand. -/
theorem V_rhs (k : Fin 4096) (j : Fin 5632) : (V m c main_v13 : FVec Ideal S4096x5632 .bf16) (ix2 k j) = rhs m c (ix2 k j) := by
  have e : (V m c main_v13 : FVec Ideal S4096x5632 .bf16) = truncf (F := Ideal) .bf16 (rhs m c) bitsLt_bf16_f32 := by
    rw [V_eq]
    simp only [hostOps0, hostOps0_1, hostOps0_2, hostOps0_3, hostOps0_4, List.cons_append, List.nil_append]
    after_results_simp
    try rfl
  rw [e]
  rfl

/-! ## The blocks -/

theorem index_0 : ∀ t : Fin grid0.N, win0_0.index t 0 = t.val % 2 ∧ win0_0.index t 1 = t.val / 8 := by decide +kernel
theorem index_1 : ∀ t : Fin grid0.N, win0_1.index t 0 = t.val % 2 ∧ win0_1.index t 1 = t.val / 2 % 4 := by decide +kernel
theorem index_2 : ∀ t : Fin grid0.N, win0_2.index t 0 = t.val / 2 % 4 ∧ win0_2.index t 1 = t.val / 8 ∧ win0_2.index t 2 = 0 := by decide +kernel

theorem points (t : Fin cfg0.N) : t.val < 32 := t.isLt.trans_eq (show cfg0.N = 32 from N_0)

/-- The part of the sum a point takes. -/
def part (n : ℕ) : Fin 2 := ⟨n % 2, Nat.mod_lt _ (by decide)⟩
/-- A row of a point's block of the result. -/
def rowOf (n : ℕ) (i : Fin 512) : Fin 2048 := ⟨n / 8 % 4 * 512 + i.val, by omega⟩
/-- A column of a point's block of the result. -/
def colOf (n : ℕ) (j : Fin 1408) : Fin 5632 := ⟨n / 2 % 4 * 1408 + j.val, by omega⟩
/-- A place of a part of the sum. -/
def at_part (s : Fin 2) (x : Fin 2048) : Fin 4096 := Blocks.place s x

/-- The left operand's block at a point. -/
theorem block_lhs (t : Fin cfg0.N) (x : Fin 2048) (i : Fin 512) :
    (iblk m c 0 t : FVec Ideal S2048x512 .bf16) (ix2 x i) = lhs m c (ix2 (at_part (part t.val) x) (rowOf t.val i)) := by
  rw [← V_lhs]
  unfold iblk
  rw [View.read_apply]
  show V m c main_v12 _ = V m c main_v12 _
  congr 1
  funext a
  apply Fin.ext
  have ht := points t
  obtain ⟨h0, h1⟩ := index_0 t
  match a with
  | ⟨0, _⟩ => show win0_0.index t 0 * 2048 + 1 * x.val = _; rw [h0]; show _ = t.val % 2 * 2048 + x.val; omega
  | ⟨1, _⟩ => show win0_0.index t 1 * 512 + 1 * i.val = _; rw [h1]; show _ = t.val / 8 % 4 * 512 + i.val; omega

/-- The right operand's block at a point. -/
theorem block_rhs (t : Fin cfg0.N) (x : Fin 2048) (j : Fin 1408) :
    (iblk m c 1 t : FVec Ideal S2048x1408 .bf16) (ix2 x j) = rhs m c (ix2 (at_part (part t.val) x) (colOf t.val j)) := by
  rw [← V_rhs]
  unfold iblk
  rw [View.read_apply]
  show V m c main_v13 _ = V m c main_v13 _
  congr 1
  funext a
  apply Fin.ext
  have ht := points t
  obtain ⟨h0, h1⟩ := index_1 t
  match a with
  | ⟨0, _⟩ => show win0_1.index t 0 * 2048 + 1 * x.val = _; rw [h0]; show _ = t.val % 2 * 2048 + x.val; omega
  | ⟨1, _⟩ => show win0_1.index t 1 * 1408 + 1 * j.val = _; rw [h1]; show _ = t.val / 2 % 4 * 1408 + j.val; omega

/-! ## The sum along the grid -/

/-- One part of the sum at a row and a column. -/
def term (i : Fin 2048) (j : Fin 5632) (s : Fin 2) : EReal :=
  ∑ x : Fin 2048, lhs m c (ix2 (at_part s x) i) * rhs m c (ix2 (at_part s x) j)

/-- The product at a row and a column. -/
def dot (i : Fin 2048) (j : Fin 5632) : EReal := ∑ k : Fin 4096, lhs m c (ix2 k i) * rhs m c (ix2 k j)

/-- The parts together are the product. -/
theorem terms (i : Fin 2048) (j : Fin 5632) : Blocks.first (term m c i j) 2 = dot m c i j :=
  (Blocks.first_all _).trans (Blocks.sum_place (b := 2) (n := 2048) fun k => lhs m c (ix2 k i) * rhs m c (ix2 k j))

/-- A point's own product is its part of the sum. -/
theorem own (t : Fin cfg0.N) (i : Fin 512) (j : Fin 1408) :
    prod (iblk m c 0 t) (iblk m c 1 t) i j
      = term m c (rowOf t.val i) (colOf t.val j) (part t.val) :=
  Finset.sum_congr rfl fun x _ => congrArg₂ (· * ·) (block_lhs m c t x i) (block_rhs m c t x j)

/-- The scratch after a point holds the parts of the sum up to the point's. -/
theorem gathered (i : Fin 512) (j : Fin 1408) : ∀ (n : ℕ) (hn : n < cfg0.N),
    ((outsAt0 m c n hn).2 : FVec Ideal S512x1408 .f32) (ix2 i j) = Blocks.first (term m c (rowOf n i) (colOf n j)) (n % 2 + 1) := by
  intro n
  induction n with
  | zero =>
    intro hn
    have e := outsAt0_A m c ⟨0, hn⟩ (Nat.zero_mod _) (by show ¬ 0 % 2 = 1; omega) (by show ¬ 0 % 2 = 1; omega)
    dsimp only at e
    rw [e]
    dsimp only
    rw [scratch_A, pay_first, own]
    exact (Blocks.first_one _ (part 0) rfl).symm
  | succ n ih =>
    intro hn
    by_cases h0 : (n + 1) % 2 = 0
    · have e := outsAt0_A m c ⟨n + 1, hn⟩ h0 (by show ¬ (n + 1) % 2 = 1; omega) (by show ¬ (n + 1) % 2 = 1; omega)
      dsimp only at e
      rw [e]
      dsimp only
      rw [scratch_A, pay_first, own, h0]
      exact (Blocks.first_one _ (part (n + 1)) h0).symm
    · have h1 : (n + 1) % 2 = 1 := by omega
      have e := outsAt0_B m c ⟨n + 1, hn⟩ h0 h1 h1
      dsimp only at e
      rw [e]
      dsimp only
      rw [scratch_B, pay_next, own]
      have hr : rowOf n i = rowOf (n + 1) i := Fin.ext (by show n / 8 % 4 * 512 + i.val = (n + 1) / 8 % 4 * 512 + i.val; omega)
      have hc : colOf n j = colOf (n + 1) j := Fin.ext (by show n / 2 % 4 * 1408 + j.val = (n + 1) / 2 % 4 * 1408 + j.val; omega)
      have hs : n % 2 + 1 = (part (n + 1)).val := by show n % 2 + 1 = (n + 1) % 2; omega
      refine (congrArg₂ (· + ·) (ih (Nat.lt_of_succ_lt hn)) rfl).trans ?_
      rw [hr, hc, hs]
      exact (Blocks.first_succ _ (part (n + 1))).symm

/-- The result at a row and a column. -/
def val (i : Fin 2048) (j : Fin 5632) : EReal := dot m c i j

/-- The result's buffer after the last point of a sum. -/
theorem stored (t : Fin cfg0.N) (h : t.val % 2 = 1) (i : Fin 512) (j : Fin 1408) :
    ((outsAt0 m c t.val t.isLt).1 : FVec Ideal S1x512x1408 .bf16) (ix3 (0 : Fin 1) i j) = val m c (rowOf t.val i) (colOf t.val j) := by
  have g := gathered m c i j t.val t.isLt
  have e := outsAt0_B m c t (by omega) h h
  rw [e] at g ⊢
  dsimp only at g ⊢
  rw [scratch_B] at g
  rw [out_B, pay_last, g, h]
  exact terms m c _ _

/-! ## The array -/

/-- A column of a slice as a column of the whole. -/
def colAt (s : Fin 4) (j : Fin 1408) : Fin 5632 := Blocks.place s j

/-- The result as one array. -/
def res : FVec Ideal S4x2048x1408 .bf16 := fun y => val m c (y 1) (colAt (y 0) (y 2))

/-- A block that is written back is that block of the array. -/
theorem block_res (t : Fin cfg0.N) (hf : (cfg0.win 2).flush t = true) :
    (dats m 0 c).flushed 2 t = ((cfg0.win 2).blk t).view.read (Elt Ideal) (res m c) := by
  rw [Cert.DwgateIdeal.Value.flushed2]
  funext y
  rw [View.read_apply]
  have hy0 : (y 0).val = 0 := by have h : (y 0).val < 1 := (y 0).isLt; omega
  have e := stored m c t ((flush0_2 t).mp hf) (y 1) (y 2)
  refine Eq.trans (congrArg (outsAt0 m c t.val t.isLt).1 (?_ : _ = ix3 (0 : Fin 1) (y 1) (y 2))) (e.trans ?_)
  · funext x
    match x with
    | ⟨0, _⟩ => exact Fin.ext hy0
    | ⟨1, _⟩ => rfl
    | ⟨2, _⟩ => rfl
  have ht := points t
  obtain ⟨h0, h1, h2⟩ := index_2 t
  have hx : ((cfg0.win 2).blk t).view.emb y = ix3 (⟨t.val / 2 % 4, by omega⟩ : Fin 4) (rowOf t.val (y 1)) (y 2) := by
    funext x
    apply Fin.ext
    match x with
    | ⟨0, _⟩ => show win0_2.index t 0 * 1 + 1 * (y 0).val = _; rw [h0, hy0]; show _ = t.val / 2 % 4; omega
    | ⟨1, _⟩ => show win0_2.index t 1 * 512 + 1 * (y 1).val = _; rw [h1]; show _ = t.val / 8 % 4 * 512 + (y 1).val; omega
    | ⟨2, _⟩ => show win0_2.index t 2 * 1408 + 1 * (y 2).val = _; rw [h2]; show _ = (y 2).val; omega
  rw [hx]
  rfl

/-- The array after the launch. -/
theorem array_res : (dats m 0 c).arrAt 2 cfg0.N = res m c :=
  (dats m 0 c).arrAt_eq_of_cover 2 (res m c) (block_res m c) fun i => (Cert.DwgateIdeal.Value.covered_iff2 i).2 (by
    have h0 : (i 0).val < 4 := (i 0).isLt
    have h1 : (i 1).val < 2048 := (i 1).isLt
    have h2 : (i 2).val < 1408 := (i 2).isLt
    omega)

end Arrays

/-! ## The reference -/

/-- The reference's result is the same product. -/
theorem reference (x0 : FVec Ideal S4096x2048 .f32) (x1 : FVec Ideal S2048x5632 .f32) (x2 : FVec Ideal S2048x5632 .f32) (x3 : FVec Ideal S5632x2048 .f32) (x4 : FVec Ideal S4096x2048 .f32)
    (s : Fin 4) (i : Fin 2048) (j : Fin 1408) :
    Cert.DwgateRefIdeal.Read.val_main_v16 (F := Ideal) x0 x1 x2 x3 x4 (ix3 s i j)
      = (∑ k : Fin 4096, x0 (ix2 k i) * (Cert.DwgateRefIdeal.Read.val_main_v11 (F := Ideal) x0 x1 x2 x3 x4) (ix2 k (colAt s j))) := by
  unfold Cert.DwgateRefIdeal.Read.val_main_v16 Cert.DwgateRefIdeal.Read.val_main_v15 Cert.DwgateRefIdeal.Read.val_main_v14 Cert.DwgateRefIdeal.Read.val_main_v13 Cert.DwgateRefIdeal.Read.val_main_v12
  generalize Cert.DwgateRefIdeal.Read.val_main_v11 (F := Ideal) x0 x1 x2 x3 x4 = z0
  pointwise
  exact Finset.sum_congr rfl fun k _ => mul_comm _ _

/-- The reference runs, keeps its arguments, and holds no counter above zero at the end. -/
theorem frame_reference : Cert.quiescent_DwgateRefIdeal := fun m ρ _ =>
  (θ_run Cert.DwgateRefIdeal.defs _ _).mono (fun r h => ⟨fun c => (h c).2, sem_eq_zero_of_no_sems (by decide) r.2⟩)
    (Cert.DwgateRefIdeal.Value.run (F := Ideal) m ρ)

/-- From arguments that agree the reference's array is the kernel's. -/
theorem meet (m : (ℓ : Loc nD τ sig) → Buf (Elt Ideal) ℓ) (c : Dev nD) {x0 : FVec Ideal S4096x2048 .f32} {x1 : FVec Ideal S2048x5632 .f32} {x2 : FVec Ideal S2048x5632 .f32} {x3 : FVec Ideal S5632x2048 .f32} {x4 : FVec Ideal S4096x2048 .f32}
    (e0 : x0 = arg0 m c) (e1 : x1 = arg1 m c) (e2 : x2 = arg2 m c) (e3 : x3 = arg3 m c) (e4 : x4 = arg4 m c) :
    Cert.DwgateRefIdeal.Read.val_main_v16 (F := Ideal) x0 x1 x2 x3 x4 = res m c := by
  subst e0 e1 e2 e3 e4
  funext y
  idx_vars y
  exact reference _ _ _ _ _ _ _ _

/-- The kernel's gradient is the reference's. -/
theorem algebraic : Cert.algebraic_DwgateIdeal_DwgateRefIdeal := by
  intro m ρ m' ρ' _ hagree
  refine ⟨fun c => res m c, (θ_run _ _ _).mono (fun r h c => ?_) (Cert.DwgateIdeal.Value.run_blocks m ρ),
    (θ_run _ _ _).mono (fun r h c => ?_) (Cert.DwgateRefIdeal.Value.run (F := Ideal) m' ρ')⟩
  · exact ⟨(h c).1.trans (array_res m c), (h c).2⟩
  · obtain ⟨a0, a1, a2, a3, a4⟩ := hagree c
    exact ⟨((h c).1.trans (Cert.DwgateRefIdeal.Read.val_main_v16_eq _ _ _ _ _)).trans (meet m c a0 a1 a2 a3 a4), (h c).2⟩

end Cert.Dwg

end
-- ==== Proof.Dwup.lean ====
/-
  The gradient of the second matrix into the feed-forward part: the launch adds, tile by tile, the products of the two
  halves of the rows; the reference takes one product over all the rows.
-/
module

public import proofs.«01_k».proof.Defs
public import proofs.«01_k».proof.Proof.Rows
public import proofs.«01_k».proof.Proof.Gen.Dwup.Frame
public import proofs.«01_k».proof.Proof.Gen.DwupIdeal.Value
public import proofs.«01_k».proof.Proof.Gen.DwupRefIdeal.Read

@[expose] public section

set_option maxRecDepth 16384

noncomputable section

namespace Cert.Dwu

open Cert.DwupIdeal Cert.DwupIdeal.Gen Idealize.ShloMosaic Idealize.ShloMosaic.TcCoe Idealize.SL.Sem

/-! ## One point -/

/-- The product of two blocks at an index. -/
def prod (a : FVec Ideal S2048x512 .bf16) (b : FVec Ideal S2048x1408 .bf16) (i : Fin 512) (j : Fin 1408) : EReal :=
  ∑ x : Fin 2048, a (ix2 x i) * b (ix2 x j)

/-- A point's product. -/
theorem pay_first (a : FVec Ideal S2048x512 .bf16) (b : FVec Ideal S2048x1408 .bf16) (i : Fin 512) (j : Fin 1408) :
    k0_pay2 (F := Ideal) a b (ix2 i j) = prod a b i j := by
  unfold k0_pay2 k0_pay1 prod
  pointwise

/-- A point's product on top of what has been gathered. -/
theorem pay_next (a : FVec Ideal S2048x512 .bf16) (b : FVec Ideal S2048x1408 .bf16) (g : FVec Ideal S512x1408 .f32) (i : Fin 512) (j : Fin 1408) :
    k0_pay3 (F := Ideal) a b g (ix2 i j) = g (ix2 i j) + prod a b i j := by
  unfold k0_pay3 k0_pay1 prod
  pointwise

/-- What is stored of what has been gathered. -/
theorem pay_last (g : FVec Ideal S512x1408 .f32) (i : Fin 512) (j : Fin 1408) :
    k0_pay4 (F := Ideal) g (ix3 (0 : Fin 1) i j) = g (ix2 i j) := by
  unfold k0_pay4
  pointwise

section Point
variable (c : Dev nD) (i : grid0.Coords) (a3 : Memref sig .tc .vmem S2048x512 .bf16) (h3 : a3.IsWhole) (a4 : Memref sig .tc .vmem S2048x1408 .bf16) (h4 : a4.IsWhole) (a5 : Memref sig .tc .vmem S1x512x1408 .bf16) (h5 : a5.IsWhole) (a6 : Memref sig .tc .vmem S512x1408 .f32) (h6 : a6.IsWhole)
  (x0 : FVec Ideal S2048x512 .bf16) (x1 : FVec Ideal S2048x1408 .bf16) (xs : FVec Ideal S512x1408 .f32)

/-- The scratch after a point that starts a sum. -/
theorem scratch_A (hc0 : cond0_0 i) (hc1 : ¬cond0_1 i) (hc2 : ¬cond0_2 i) :
    sout0_A_0 (F := Ideal) c i a3 h3 a4 h4 a5 h5 a6 h6 hc0 hc1 hc2 x0 x1 = k0_pay2 (F := Ideal) x0 x1 := by
  unfold sout0_A_0
  rw [View.read_writes_eq_canon (Val := Elt Ideal) _ _ _ (scover0_A_0 c i a3 h3 a4 h4 a5 h5 a6 h6 hc0 hc1 hc2 x0 x1)]
  unfold kernelRun0_A
  dsimp only
  rw [View.canon_unit_zero Rows.hz2]
  simp only [View.readAt_eq_ld, h3.read_unread, h4.read_unread, View.ld_unit_zero (S := S2048x512) Rows.hz2, View.ld_unit_zero (S := S2048x1408) Rows.hz2, View.ld_unit_zero (S := S512x1408) Rows.hz2]

/-- The scratch after a point that goes on with a sum. -/
theorem scratch_B (hc0 : ¬cond0_0 i) (hc1 : cond0_1 i) (hc2 : cond0_2 i) :
    sout0_B_0 (F := Ideal) c i a3 h3 a4 h4 a5 h5 a6 h6 hc0 hc1 hc2 x0 x1 xs = k0_pay3 (F := Ideal) x0 x1 xs := by
  unfold sout0_B_0
  rw [View.read_writes_eq_canon (Val := Elt Ideal) _ _ _ (scover0_B_0 c i a3 h3 a4 h4 a5 h5 a6 h6 hc0 hc1 hc2 x0 x1 xs)]
  unfold kernelRun0_B
  dsimp only
  unfold kernelRun0_B.sl.HS0_1
  rw [View.canon_unit_zero Rows.hz2]
  simp only [View.readAt_eq_ld, h3.read_unread, h4.read_unread, h6.read_unread, View.ld_unit_zero (S := S2048x512) Rows.hz2, View.ld_unit_zero (S := S2048x1408) Rows.hz2, View.ld_unit_zero (S := S512x1408) Rows.hz2]

/-- The result's buffer after a point that ends a sum. -/
theorem out_B (hc0 : ¬cond0_0 i) (hc1 : cond0_1 i) (hc2 : cond0_2 i) :
    out0_B_2 (F := Ideal) c i a3 h3 a4 h4 a5 h5 a6 h6 hc0 hc1 hc2 x0 x1 xs = k0_pay4 (F := Ideal) (k0_pay3 (F := Ideal) x0 x1 xs) := by
  unfold out0_B_2
  rw [View.read_writes_eq_canon (Val := Elt Ideal) _ _ _ (cover0_B_2 c i a3 h3 a4 h4 a5 h5 a6 h6 hc0 hc1 hc2 x0 x1 xs)]
  unfold kernelRun0_B
  dsimp only
  rw [View.canon_unit_zero Rows.hz3]
  unfold kernelRun0_B.sl.v14 kernelRun0_B.sl.HS0_1
  refine congrArg (k0_pay4 (F := Ideal)) ((View.readCov_full a6.view _ _ _ _).trans ?_)
  simp only [View.readAt_eq_ld, h3.read_unread, h4.read_unread, h6.read_unread, View.ld_unit_zero (S := S2048x512) Rows.hz2, View.ld_unit_zero (S := S2048x1408) Rows.hz2, View.ld_unit_zero (S := S512x1408) Rows.hz2]

end Point

/-! ## The arrays the windows read -/

section Arrays
variable (m : (ℓ : Loc nD τ sig) → Buf (Elt Ideal) ℓ) (c : Dev nD)

/-- The host lines before the launch in one list. -/
theorem V_eq (b : Ref sig .tc) : V m c b = StableHlo.after (hostOps0 ++ (hostOps0_1 ++ hostOps0_2)) (fun b => m (c, b)) b := by
  simp only [V, List.flatten_cons, List.flatten_nil, List.append_nil]
/-- An argument. -/
abbrev arg0 : FVec Ideal S4096x2048 .f32 := m ((c : Thread nD τ).loc main_arg0)
/-- An argument. -/
abbrev arg1 : FVec Ideal S2048x5632 .f32 := m ((c : Thread nD τ).loc main_arg1)
/-- An argument. -/
abbrev arg2 : FVec Ideal S2048x5632 .f32 := m ((c : Thread nD τ).loc main_arg2)
/-- An argument. -/
abbrev arg3 : FVec Ideal S5632x2048 .f32 := m ((c : Thread nD τ).loc main_arg3)
/-- An argument. -/
abbrev arg4 : FVec Ideal S4096x2048 .f32 := m ((c : Thread nD τ).loc main_arg4)
/-- The left operand. -/
abbrev lhs : FVec Ideal S4096x2048 .f32 := (arg0 m c)
/-- The right operand. -/
abbrev rhs : FVec Ideal S4096x5632 .f32 := Cert.DwupRefIdeal.Read.val_main_v10 (F := Ideal) (arg0 m c) (arg1 m c) (arg3 m c) (arg4 m c)

/-- The left operand's array is that operand. -/
theorem V_lhs (k : Fin 4096) (i : Fin 2048) : (V m c main_v11 : FVec Ideal S4096x2048 .bf16) (ix2 k i) = lhs m c (ix2 k i) := by
  have e : (V m c main_v11 : FVec Ideal S4096x2048 .bf16) = truncf (F := Ideal) .bf16 (lhs m c) bitsLt_bf16_f32 := by
    rw [V_eq]
    simp only [hostOps0, hostOps0_1, hostOps0_2, List.cons_append, List.nil_append]
    after_results_simp
    try rfl
  rw [e]
  rfl

/-- The right operand's array is that operand. -/
theorem V_rhs (k : Fin 4096) (j : Fin 5632) : (V m c main_v12 : FVec Ideal S4096x5632 .bf16) (ix2 k j) = rhs m c (ix2 k j) := by
  have e : (V m c main_v12 : FVec Ideal S4096x5632 .bf16) = truncf (F := Ideal) .bf16 (rhs m c) bitsLt_bf16_f32 := by
    rw [V_eq]
    simp only [hostOps0, hostOps0_1, hostOps0_2, List.cons_append, List.nil_append]
    after_results_simp
    try rfl
  rw [e]
  rfl

/-! ## The blocks -/

theorem index_0 : ∀ t : Fin grid0.N, win0_0.index t 0 = t.val % 2 ∧ win0_0.index t 1 = t.val / 8 := by decide +kernel
theorem index_1 : ∀ t : Fin grid0.N, win0_1.index t 0 = t.val % 2 ∧ win0_1.index t 1 = t.val / 2 % 4 := by decide +kernel
theorem index_2 : ∀ t : Fin grid0.N, win0_2.index t 0 = t.val / 2 % 4 ∧ win0_2.index t 1 = t.val / 8 ∧ win0_2.index t 2 = 0 := by decide +kernel

theorem points (t : Fin cfg0.N) : t.val < 32 := t.isLt.trans_eq (show cfg0.N = 32 from N_0)

/-- The part of the sum a point takes. -/
def part (n : ℕ) : Fin 2 := ⟨n % 2, Nat.mod_lt _ (by decide)⟩
/-- A row of a point's block of the result. -/
def rowOf (n : ℕ) (i : Fin 512) : Fin 2048 := ⟨n / 8 % 4 * 512 + i.val, by omega⟩
/-- A column of a point's block of the result. -/
def colOf (n : ℕ) (j : Fin 1408) : Fin 5632 := ⟨n / 2 % 4 * 1408 + j.val, by omega⟩
/-- A place of a part of the sum. -/
def at_part (s : Fin 2) (x : Fin 2048) : Fin 4096 := Blocks.place s x

/-- The left operand's block at a point. -/
theorem block_lhs (t : Fin cfg0.N) (x : Fin 2048) (i : Fin 512) :
    (iblk m c 0 t : FVec Ideal S2048x512 .bf16) (ix2 x i) = lhs m c (ix2 (at_part (part t.val) x) (rowOf t.val i)) := by
  rw [← V_lhs]
  unfold iblk
  rw [View.read_apply]
  show V m c main_v11 _ = V m c main_v11 _
  congr 1
  funext a
  apply Fin.ext
  have ht := points t
  obtain ⟨h0, h1⟩ := index_0 t
  match a with
  | ⟨0, _⟩ => show win0_0.index t 0 * 2048 + 1 * x.val = _; rw [h0]; show _ = t.val % 2 * 2048 + x.val; omega
  | ⟨1, _⟩ => show win0_0.index t 1 * 512 + 1 * i.val = _; rw [h1]; show _ = t.val / 8 % 4 * 512 + i.val; omega

/-- The right operand's block at a point. -/
theorem block_rhs (t : Fin cfg0.N) (x : Fin 2048) (j : Fin 1408) :
    (iblk m c 1 t : FVec Ideal S2048x1408 .bf16) (ix2 x j) = rhs m c (ix2 (at_part (part t.val) x) (colOf t.val j)) := by
  rw [← V_rhs]
  unfold iblk
  rw [View.read_apply]
  show V m c main_v12 _ = V m c main_v12 _
  congr 1
  funext a
  apply Fin.ext
  have ht := points t
  obtain ⟨h0, h1⟩ := index_1 t
  match a with
  | ⟨0, _⟩ => show win0_1.index t 0 * 2048 + 1 * x.val = _; rw [h0]; show _ = t.val % 2 * 2048 + x.val; omega
  | ⟨1, _⟩ => show win0_1.index t 1 * 1408 + 1 * j.val = _; rw [h1]; show _ = t.val / 2 % 4 * 1408 + j.val; omega

/-! ## The sum along the grid -/

/-- One part of the sum at a row and a column. -/
def term (i : Fin 2048) (j : Fin 5632) (s : Fin 2) : EReal :=
  ∑ x : Fin 2048, lhs m c (ix2 (at_part s x) i) * rhs m c (ix2 (at_part s x) j)

/-- The product at a row and a column. -/
def dot (i : Fin 2048) (j : Fin 5632) : EReal := ∑ k : Fin 4096, lhs m c (ix2 k i) * rhs m c (ix2 k j)

/-- The parts together are the product. -/
theorem terms (i : Fin 2048) (j : Fin 5632) : Blocks.first (term m c i j) 2 = dot m c i j :=
  (Blocks.first_all _).trans (Blocks.sum_place (b := 2) (n := 2048) fun k => lhs m c (ix2 k i) * rhs m c (ix2 k j))

/-- A point's own product is its part of the sum. -/
theorem own (t : Fin cfg0.N) (i : Fin 512) (j : Fin 1408) :
    prod (iblk m c 0 t) (iblk m c 1 t) i j
      = term m c (rowOf t.val i) (colOf t.val j) (part t.val) :=
  Finset.sum_congr rfl fun x _ => congrArg₂ (· * ·) (block_lhs m c t x i) (block_rhs m c t x j)

/-- The scratch after a point holds the parts of the sum up to the point's. -/
theorem gathered (i : Fin 512) (j : Fin 1408) : ∀ (n : ℕ) (hn : n < cfg0.N),
    ((outsAt0 m c n hn).2 : FVec Ideal S512x1408 .f32) (ix2 i j) = Blocks.first (term m c (rowOf n i) (colOf n j)) (n % 2 + 1) := by
  intro n
  induction n with
  | zero =>
    intro hn
    have e := outsAt0_A m c ⟨0, hn⟩ (Nat.zero_mod _) (by show ¬ 0 % 2 = 1; omega) (by show ¬ 0 % 2 = 1; omega)
    dsimp only at e
    rw [e]
    dsimp only
    rw [scratch_A, pay_first, own]
    exact (Blocks.first_one _ (part 0) rfl).symm
  | succ n ih =>
    intro hn
    by_cases h0 : (n + 1) % 2 = 0
    · have e := outsAt0_A m c ⟨n + 1, hn⟩ h0 (by show ¬ (n + 1) % 2 = 1; omega) (by show ¬ (n + 1) % 2 = 1; omega)
      dsimp only at e
      rw [e]
      dsimp only
      rw [scratch_A, pay_first, own, h0]
      exact (Blocks.first_one _ (part (n + 1)) h0).symm
    · have h1 : (n + 1) % 2 = 1 := by omega
      have e := outsAt0_B m c ⟨n + 1, hn⟩ h0 h1 h1
      dsimp only at e
      rw [e]
      dsimp only
      rw [scratch_B, pay_next, own]
      have hr : rowOf n i = rowOf (n + 1) i := Fin.ext (by show n / 8 % 4 * 512 + i.val = (n + 1) / 8 % 4 * 512 + i.val; omega)
      have hc : colOf n j = colOf (n + 1) j := Fin.ext (by show n / 2 % 4 * 1408 + j.val = (n + 1) / 2 % 4 * 1408 + j.val; omega)
      have hs : n % 2 + 1 = (part (n + 1)).val := by show n % 2 + 1 = (n + 1) % 2; omega
      refine (congrArg₂ (· + ·) (ih (Nat.lt_of_succ_lt hn)) rfl).trans ?_
      rw [hr, hc, hs]
      exact (Blocks.first_succ _ (part (n + 1))).symm

/-- The result at a row and a column. -/
def val (i : Fin 2048) (j : Fin 5632) : EReal := dot m c i j

/-- The result's buffer after the last point of a sum. -/
theorem stored (t : Fin cfg0.N) (h : t.val % 2 = 1) (i : Fin 512) (j : Fin 1408) :
    ((outsAt0 m c t.val t.isLt).1 : FVec Ideal S1x512x1408 .bf16) (ix3 (0 : Fin 1) i j) = val m c (rowOf t.val i) (colOf t.val j) := by
  have g := gathered m c i j t.val t.isLt
  have e := outsAt0_B m c t (by omega) h h
  rw [e] at g ⊢
  dsimp only at g ⊢
  rw [scratch_B] at g
  rw [out_B, pay_last, g, h]
  exact terms m c _ _

/-! ## The array -/

/-- A column of a slice as a column of the whole. -/
def colAt (s : Fin 4) (j : Fin 1408) : Fin 5632 := Blocks.place s j

/-- The result as one array. -/
def res : FVec Ideal S4x2048x1408 .bf16 := fun y => val m c (y 1) (colAt (y 0) (y 2))

/-- A block that is written back is that block of the array. -/
theorem block_res (t : Fin cfg0.N) (hf : (cfg0.win 2).flush t = true) :
    (dats m 0 c).flushed 2 t = ((cfg0.win 2).blk t).view.read (Elt Ideal) (res m c) := by
  rw [Cert.DwupIdeal.Value.flushed2]
  funext y
  rw [View.read_apply]
  have hy0 : (y 0).val = 0 := by have h : (y 0).val < 1 := (y 0).isLt; omega
  have e := stored m c t ((flush0_2 t).mp hf) (y 1) (y 2)
  refine Eq.trans (congrArg (outsAt0 m c t.val t.isLt).1 (?_ : _ = ix3 (0 : Fin 1) (y 1) (y 2))) (e.trans ?_)
  · funext x
    match x with
    | ⟨0, _⟩ => exact Fin.ext hy0
    | ⟨1, _⟩ => rfl
    | ⟨2, _⟩ => rfl
  have ht := points t
  obtain ⟨h0, h1, h2⟩ := index_2 t
  have hx : ((cfg0.win 2).blk t).view.emb y = ix3 (⟨t.val / 2 % 4, by omega⟩ : Fin 4) (rowOf t.val (y 1)) (y 2) := by
    funext x
    apply Fin.ext
    match x with
    | ⟨0, _⟩ => show win0_2.index t 0 * 1 + 1 * (y 0).val = _; rw [h0, hy0]; show _ = t.val / 2 % 4; omega
    | ⟨1, _⟩ => show win0_2.index t 1 * 512 + 1 * (y 1).val = _; rw [h1]; show _ = t.val / 8 % 4 * 512 + (y 1).val; omega
    | ⟨2, _⟩ => show win0_2.index t 2 * 1408 + 1 * (y 2).val = _; rw [h2]; show _ = (y 2).val; omega
  rw [hx]
  rfl

/-- The array after the launch. -/
theorem array_res : (dats m 0 c).arrAt 2 cfg0.N = res m c :=
  (dats m 0 c).arrAt_eq_of_cover 2 (res m c) (block_res m c) fun i => (Cert.DwupIdeal.Value.covered_iff2 i).2 (by
    have h0 : (i 0).val < 4 := (i 0).isLt
    have h1 : (i 1).val < 2048 := (i 1).isLt
    have h2 : (i 2).val < 1408 := (i 2).isLt
    omega)

end Arrays

/-! ## The reference -/

/-- The reference's result is the same product. -/
theorem reference (x0 : FVec Ideal S4096x2048 .f32) (x1 : FVec Ideal S2048x5632 .f32) (x3 : FVec Ideal S5632x2048 .f32) (x4 : FVec Ideal S4096x2048 .f32)
    (s : Fin 4) (i : Fin 2048) (j : Fin 1408) :
    Cert.DwupRefIdeal.Read.val_main_v15 (F := Ideal) x0 x1 x3 x4 (ix3 s i j)
      = (∑ k : Fin 4096, x0 (ix2 k i) * (Cert.DwupRefIdeal.Read.val_main_v10 (F := Ideal) x0 x1 x3 x4) (ix2 k (colAt s j))) := by
  unfold Cert.DwupRefIdeal.Read.val_main_v15 Cert.DwupRefIdeal.Read.val_main_v14 Cert.DwupRefIdeal.Read.val_main_v13 Cert.DwupRefIdeal.Read.val_main_v12 Cert.DwupRefIdeal.Read.val_main_v11
  generalize Cert.DwupRefIdeal.Read.val_main_v10 (F := Ideal) x0 x1 x3 x4 = z0
  pointwise
  exact Finset.sum_congr rfl fun k _ => mul_comm _ _

/-- The reference runs, keeps its arguments, and holds no counter above zero at the end. -/
theorem frame_reference : Cert.quiescent_DwupRefIdeal := fun m ρ _ =>
  (θ_run Cert.DwupRefIdeal.defs _ _).mono (fun r h => ⟨fun c => (h c).2, sem_eq_zero_of_no_sems (by decide) r.2⟩)
    (Cert.DwupRefIdeal.Value.run (F := Ideal) m ρ)

/-- From arguments that agree the reference's array is the kernel's. -/
theorem meet (m : (ℓ : Loc nD τ sig) → Buf (Elt Ideal) ℓ) (c : Dev nD) {x0 : FVec Ideal S4096x2048 .f32} {x1 : FVec Ideal S2048x5632 .f32} {x3 : FVec Ideal S5632x2048 .f32} {x4 : FVec Ideal S4096x2048 .f32}
    (e0 : x0 = arg0 m c) (e1 : x1 = arg1 m c) (e3 : x3 = arg3 m c) (e4 : x4 = arg4 m c) :
    Cert.DwupRefIdeal.Read.val_main_v15 (F := Ideal) x0 x1 x3 x4 = res m c := by
  subst e0 e1 e3 e4
  funext y
  idx_vars y
  exact reference _ _ _ _ _ _ _

/-- The kernel's gradient is the reference's. -/
theorem algebraic : Cert.algebraic_DwupIdeal_DwupRefIdeal := by
  intro m ρ m' ρ' _ hagree
  refine ⟨fun c => res m c, (θ_run _ _ _).mono (fun r h c => ?_) (Cert.DwupIdeal.Value.run_blocks m ρ),
    (θ_run _ _ _).mono (fun r h c => ?_) (Cert.DwupRefIdeal.Value.run (F := Ideal) m' ρ')⟩
  · exact ⟨(h c).1.trans (array_res m c), (h c).2⟩
  · obtain ⟨a0, a1, a2, a3, a4⟩ := hagree c
    exact ⟨((h c).1.trans (Cert.DwupRefIdeal.Read.val_main_v15_eq _ _ _ _)).trans (meet m c a0 a1 a3 a4), (h c).2⟩

end Cert.Dwu

end
-- ==== Proof.Dnup.lean ====
/-
  The gradient that comes back through both matrices into the feed-forward part: the launch adds, tile by tile, the
  products of the four slices of the columns of the second matrix to what came back through the first; the reference
  takes the two products and their sum.
-/
module

public import proofs.«01_k».proof.Defs
public import proofs.«01_k».proof.Proof.Rows
public import proofs.«01_k».proof.Proof.Gen.Dnup.Frame
public import proofs.«01_k».proof.Proof.Gen.DnupIdeal.Value
public import proofs.«01_k».proof.Proof.Gen.DnupRefIdeal.Read

@[expose] public section

set_option maxRecDepth 16384

noncomputable section

namespace Cert.Dnu

open Cert.DnupIdeal Cert.DnupIdeal.Gen Idealize.ShloMosaic Idealize.ShloMosaic.TcCoe Idealize.SL.Sem

/-! ## One point -/

/-- The product of two blocks at an index. -/
def prod (a : FVec Ideal S512x1408 .bf16) (b : FVec Ideal S1x1024x1408 .bf16) (i : Fin 512) (j : Fin 1024) : EReal :=
  ∑ x : Fin 1408, a (ix2 i x) * b (ix3 (0 : Fin 1) j x)

/-- A point's product. -/
theorem pay_first (a : FVec Ideal S512x1408 .bf16) (b : FVec Ideal S1x1024x1408 .bf16) (i : Fin 512) (j : Fin 1024) :
    k0_pay2 (F := Ideal) a b (ix2 i j) = prod a b i j := by
  unfold k0_pay2 k0_pay1 prod
  pointwise

/-- A point's product on top of what has been gathered. -/
theorem pay_next (a : FVec Ideal S512x1408 .bf16) (b : FVec Ideal S1x1024x1408 .bf16) (g : FVec Ideal S512x1024 .f32) (i : Fin 512) (j : Fin 1024) :
    k0_pay3 (F := Ideal) a b g (ix2 i j) = g (ix2 i j) + prod a b i j := by
  unfold k0_pay3 k0_pay1 prod
  pointwise

/-- What is stored of what has been gathered. -/
theorem pay_last (g : FVec Ideal S512x1024 .f32) (r : FVec Ideal S512x1024 .f32) (i : Fin 512) (j : Fin 1024) :
    k0_pay4 (F := Ideal) g r (ix2 i j) = g (ix2 i j) + r (ix2 i j) := by
  unfold k0_pay4
  pointwise

section Point
variable (c : Dev nD) (i : grid0.Coords) (a3 : Memref sig .tc .vmem S512x1408 .bf16) (h3 : a3.IsWhole) (a4 : Memref sig .tc .vmem S1x1024x1408 .bf16) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole)
  (x0 : FVec Ideal S512x1408 .bf16) (x1 : FVec Ideal S1x1024x1408 .bf16) (x2 : FVec Ideal S512x1024 .f32) (xs : FVec Ideal S512x1024 .f32)

/-- The scratch after a point that starts a sum. -/
theorem scratch_A (hc0 : cond0_0 i) (hc1 : ¬cond0_1 i) (hc2 : ¬cond0_2 i) :
    sout0_A_0 (F := Ideal) c i a3 h3 a4 h4 a5 h5 a6 h6 a7 h7 hc0 hc1 hc2 x0 x1 x2 = k0_pay2 (F := Ideal) x0 x1 := by
  unfold sout0_A_0
  rw [View.read_writes_eq_canon (Val := Elt Ideal) _ _ _ (scover0_A_0 c i a3 h3 a4 h4 a5 h5 a6 h6 a7 h7 hc0 hc1 hc2 x0 x1 x2)]
  unfold kernelRun0_A
  dsimp only
  rw [View.canon_unit_zero Rows.hz2]
  simp only [View.readAt_eq_ld, h3.read_unread, h4.read_unread, h5.read_unread, View.ld_unit_zero (S := S512x1408) Rows.hz2, View.ld_unit_zero (S := S1x1024x1408) Rows.hz3, View.ld_unit_zero (S := S512x1024) Rows.hz2]

/-- The scratch after a point that goes on with a sum. -/
theorem scratch_B (hc0 : ¬cond0_0 i) (hc1 : cond0_1 i) (hc2 : ¬cond0_2 i) :
    sout0_B_0 (F := Ideal) c i a3 h3 a4 h4 a5 h5 a6 h6 a7 h7 hc0 hc1 hc2 x0 x1 x2 xs = k0_pay3 (F := Ideal) x0 x1 xs := by
  unfold sout0_B_0
  rw [View.read_writes_eq_canon (Val := Elt Ideal) _ _ _ (scover0_B_0 c i a3 h3 a4 h4 a5 h5 a6 h6 a7 h7 hc0 hc1 hc2 x0 x1 x2 xs)]
  unfold kernelRun0_B
  dsimp only
  rw [View.canon_unit_zero Rows.hz2]
  simp only [View.readAt_eq_ld, h3.read_unread, h4.read_unread, h5.read_unread, h7.read_unread, View.ld_unit_zero (S := S512x1408) Rows.hz2, View.ld_unit_zero (S := S1x1024x1408) Rows.hz3, View.ld_unit_zero (S := S512x1024) Rows.hz2]

/-- The scratch after a point that goes on with a sum and ends it. -/
theorem scratch_C (hc0 : ¬cond0_0 i) (hc1 : cond0_1 i) (hc2 : cond0_2 i) :
    sout0_C_0 (F := Ideal) c i a3 h3 a4 h4 a5 h5 a6 h6 a7 h7 hc0 hc1 hc2 x0 x1 x2 xs = k0_pay3 (F := Ideal) x0 x1 xs := by
  unfold sout0_C_0
  rw [View.read_writes_eq_canon (Val := Elt Ideal) _ _ _ (scover0_C_0 c i a3 h3 a4 h4 a5 h5 a6 h6 a7 h7 hc0 hc1 hc2 x0 x1 x2 xs)]
  unfold kernelRun0_C
  dsimp only
  unfold kernelRun0_C.sl.HS0_1
  rw [View.canon_unit_zero Rows.hz2]
  simp only [View.readAt_eq_ld, h3.read_unread, h4.read_unread, h5.read_unread, h7.read_unread, View.ld_unit_zero (S := S512x1408) Rows.hz2, View.ld_unit_zero (S := S1x1024x1408) Rows.hz3, View.ld_unit_zero (S := S512x1024) Rows.hz2]

/-- The result's buffer after a point that ends a sum. -/
theorem out_C (hc0 : ¬cond0_0 i) (hc1 : cond0_1 i) (hc2 : cond0_2 i) :
    out0_C_3 (F := Ideal) c i a3 h3 a4 h4 a5 h5 a6 h6 a7 h7 hc0 hc1 hc2 x0 x1 x2 xs = k0_pay4 (F := Ideal) (k0_pay3 (F := Ideal) x0 x1 xs) x2 := by
  unfold out0_C_3
  rw [View.read_writes_eq_canon (Val := Elt Ideal) _ _ _ (cover0_C_3 c i a3 h3 a4 h4 a5 h5 a6 h6 a7 h7 hc0 hc1 hc2 x0 x1 x2 xs)]
  unfold kernelRun0_C
  dsimp only
  rw [View.canon_unit_zero Rows.hz2]
  unfold kernelRun0_C.sl.v14 kernelRun0_C.sl.HS0_1
  refine congrArg₂ (k0_pay4 (F := Ideal)) ((View.readCov_full a7.view _ _ _ _).trans ?_) ?_
  all_goals
    simp only [View.readAt_eq_ld, h3.read_unread, h4.read_unread, h5.read_unread, h7.read_unread, View.ld_unit_zero (S := S512x1408) Rows.hz2, View.ld_unit_zero (S := S1x1024x1408) Rows.hz3, View.ld_unit_zero (S := S512x1024) Rows.hz2]

end Point

/-! ## The arrays the windows read -/

section Arrays
variable (m : (ℓ : Loc nD τ sig) → Buf (Elt Ideal) ℓ) (c : Dev nD)

/-- The host lines before the launch in one list. -/
theorem V_eq (b : Ref sig .tc) : V m c b = StableHlo.after (hostOps0 ++ (hostOps0_1 ++ (hostOps0_2 ++ (hostOps0_3 ++ hostOps0_4)))) (fun b => m (c, b)) b := by
  simp only [V, List.flatten_cons, List.flatten_nil, List.append_nil]
/-- An argument. -/
abbrev arg0 : FVec Ideal S4096x2048 .f32 := m ((c : Thread nD τ).loc main_arg0)
/-- An argument. -/
abbrev arg1 : FVec Ideal S2048x5632 .f32 := m ((c : Thread nD τ).loc main_arg1)
/-- An argument. -/
abbrev arg2 : FVec Ideal S2048x5632 .f32 := m ((c : Thread nD τ).loc main_arg2)
/-- An argument. -/
abbrev arg3 : FVec Ideal S5632x2048 .f32 := m ((c : Thread nD τ).loc main_arg3)
/-- An argument. -/
abbrev arg4 : FVec Ideal S4096x2048 .f32 := m ((c : Thread nD τ).loc main_arg4)
/-- The left operand. -/
abbrev lhs : FVec Ideal S4096x5632 .f32 := Cert.DnupRefIdeal.Read.val_main_v10 (F := Ideal) (arg0 m c) (arg1 m c) (arg3 m c) (arg4 m c)
/-- The right operand. -/
abbrev rhs : FVec Ideal S2048x5632 .f32 := (arg2 m c)

/-- The left operand's array is that operand. -/
theorem V_lhs (k : Fin 5632) (i : Fin 4096) : (V m c main_v15 : FVec Ideal S4096x5632 .bf16) (ix2 i k) = lhs m c (ix2 i k) := by
  have e : (V m c main_v15 : FVec Ideal S4096x5632 .bf16) = truncf (F := Ideal) .bf16 (lhs m c) bitsLt_bf16_f32 := by
    rw [V_eq]
    simp only [hostOps0, hostOps0_1, hostOps0_2, hostOps0_3, hostOps0_4, List.cons_append, List.nil_append]
    after_results_simp
    try rfl
  rw [e]
  rfl

/-- The right operand's array holds its slices of columns. -/
theorem V_rhs (s : Fin 4) (j : Fin 2048) (x : Fin 1408) : (V m c main_v18 : FVec Ideal S4x2048x1408 .bf16) (ix3 s j x) = rhs m c (ix2 j (Blocks.place s x)) := by
  have e : (V m c main_v18 : FVec Ideal S4x2048x1408 .bf16) = truncf (F := Ideal) .bf16 (transpose S4x2048x1408 [1, 0, 2] (shapeCast S2048x4x1408 (rhs m c) shapeCasts_S2048x5632_S2048x4x1408) transposes_S2048x4x1408_S4x2048x1408_1_0_2) bitsLt_bf16_f32 := by
    rw [V_eq]
    simp only [hostOps0, hostOps0_1, hostOps0_2, hostOps0_3, hostOps0_4, List.cons_append, List.nil_append]
    after_results_simp
    try rfl
  rw [e]
  generalize rhs m c = z
  pointwise [Blocks.place]

/-- What is added at the end. -/
abbrev rest : FVec Ideal S4096x2048 .f32 := Cert.DnupRefIdeal.Read.val_main_v14 (F := Ideal) (arg0 m c) (arg1 m c) (arg2 m c) (arg3 m c) (arg4 m c)

/-- Its array. -/
theorem V_rest (i : Fin 4096) (j : Fin 2048) : (V m c main_v14 : FVec Ideal S4096x2048 .f32) (ix2 i j) = rest m c (ix2 i j) := by
  have e : (V m c main_v14 : FVec Ideal S4096x2048 .f32) = Host.dotGeneral (φ₁ := .f32) (φ₂ := .f32) dot_S4096x5632_S5632x2048_S4096x2048_1_0_0_1_n_n none
      (Cert.DnupRefIdeal.Read.val_main_v13 (F := Ideal) (arg0 m c) (arg1 m c) (arg2 m c) (arg3 m c) (arg4 m c) : FVec Ideal S4096x5632 .f32) (transpose S5632x2048 [1, 0] (arg1 m c) transposes_S2048x5632_S5632x2048_1_0) := by
    rw [V_eq]
    simp only [hostOps0, hostOps0_1, hostOps0_2, hostOps0_3, hostOps0_4, List.cons_append, List.nil_append]
    after_results_simp
    try rfl
  rw [e]
  unfold rest Cert.DnupRefIdeal.Read.val_main_v14
  generalize Cert.DnupRefIdeal.Read.val_main_v13 (F := Ideal) (arg0 m c) (arg1 m c) (arg2 m c) (arg3 m c) (arg4 m c) = z
  generalize arg1 m c = u
  pointwise

/-! ## The blocks -/

theorem index_0 : ∀ t : Fin grid0.N, win0_0.index t 0 = t.val / 8 ∧ win0_0.index t 1 = t.val % 4 := by decide +kernel
theorem index_1 : ∀ t : Fin grid0.N, win0_1.index t 0 = t.val % 4 ∧ win0_1.index t 1 = t.val / 4 % 2 ∧ win0_1.index t 2 = 0 := by decide +kernel
theorem index_2 : ∀ t : Fin grid0.N, win0_2.index t 0 = t.val / 8 ∧ win0_2.index t 1 = t.val / 4 % 2 := by decide +kernel
theorem index_3 : ∀ t : Fin grid0.N, win0_3.index t 0 = t.val / 8 ∧ win0_3.index t 1 = t.val / 4 % 2 := by decide +kernel

theorem points (t : Fin cfg0.N) : t.val < 64 := t.isLt.trans_eq (show cfg0.N = 64 from N_0)

/-- The part of the sum a point takes. -/
def part (n : ℕ) : Fin 4 := ⟨n % 4, Nat.mod_lt _ (by decide)⟩
/-- A row of a point's block of the result. -/
def rowOf (n : ℕ) (i : Fin 512) : Fin 4096 := ⟨n / 8 % 8 * 512 + i.val, by omega⟩
/-- A column of a point's block of the result. -/
def colOf (n : ℕ) (j : Fin 1024) : Fin 2048 := ⟨n / 4 % 2 * 1024 + j.val, by omega⟩
/-- A place of a part of the sum. -/
def at_part (s : Fin 4) (x : Fin 1408) : Fin 5632 := Blocks.place s x

/-- The left operand's block at a point. -/
theorem block_lhs (t : Fin cfg0.N) (x : Fin 1408) (i : Fin 512) :
    (iblk m c 0 t : FVec Ideal S512x1408 .bf16) (ix2 i x) = lhs m c (ix2 (rowOf t.val i) (at_part (part t.val) x)) := by
  rw [← V_lhs]
  unfold iblk
  rw [View.read_apply]
  show V m c main_v15 _ = V m c main_v15 _
  congr 1
  funext a
  apply Fin.ext
  have ht := points t
  obtain ⟨h0, h1⟩ := index_0 t
  match a with
  | ⟨0, _⟩ => show win0_0.index t 0 * 512 + 1 * i.val = _; rw [h0]; show _ = t.val / 8 % 8 * 512 + i.val; omega
  | ⟨1, _⟩ => show win0_0.index t 1 * 1408 + 1 * x.val = _; rw [h1]; show _ = t.val % 4 * 1408 + x.val; omega

/-- The right operand's block at a point. -/
theorem block_rhs (t : Fin cfg0.N) (x : Fin 1408) (j : Fin 1024) :
    (iblk m c 1 t : FVec Ideal S1x1024x1408 .bf16) (ix3 (0 : Fin 1) j x) = rhs m c (ix2 (colOf t.val j) (at_part (part t.val) x)) := by
  unfold at_part
  rw [← V_rhs]
  unfold iblk
  rw [View.read_apply]
  show V m c main_v18 _ = V m c main_v18 _
  congr 1
  funext a
  apply Fin.ext
  have ht := points t
  obtain ⟨h0, h1, h2⟩ := index_1 t
  match a with
  | ⟨0, _⟩ => show win0_1.index t 0 * 1 + 1 * 0 = _; rw [h0]; show _ = t.val % 4; omega
  | ⟨1, _⟩ => show win0_1.index t 1 * 1024 + 1 * j.val = _; rw [h1]; show _ = t.val / 4 % 2 * 1024 + j.val; omega
  | ⟨2, _⟩ => show win0_1.index t 2 * 1408 + 1 * x.val = _; rw [h2]; show _ = x.val; omega

/-- The block a point adds at the end. -/
theorem block_rest (t : Fin cfg0.N) (i : Fin 512) (j : Fin 1024) :
    (iblk m c 2 t : FVec Ideal S512x1024 .f32) (ix2 i j) = rest m c (ix2 (rowOf t.val i) (colOf t.val j)) := by
  rw [← V_rest]
  unfold iblk
  rw [View.read_apply]
  show V m c main_v14 _ = V m c main_v14 _
  congr 1
  funext a
  apply Fin.ext
  have ht := points t
  obtain ⟨h0, h1⟩ := index_2 t
  match a with
  | ⟨0, _⟩ => show win0_2.index t 0 * 512 + 1 * i.val = _; rw [h0]; show _ = t.val / 8 % 8 * 512 + i.val; omega
  | ⟨1, _⟩ => show win0_2.index t 1 * 1024 + 1 * j.val = _; rw [h1]; show _ = t.val / 4 % 2 * 1024 + j.val; omega

/-! ## The sum along the grid -/

/-- One part of the sum at a row and a column. -/
def term (i : Fin 4096) (j : Fin 2048) (s : Fin 4) : EReal :=
  ∑ x : Fin 1408, lhs m c (ix2 i (at_part s x)) * rhs m c (ix2 j (at_part s x))

/-- The product at a row and a column. -/
def dot (i : Fin 4096) (j : Fin 2048) : EReal := ∑ k : Fin 5632, lhs m c (ix2 i k) * rhs m c (ix2 j k)

/-- The parts together are the product. -/
theorem terms (i : Fin 4096) (j : Fin 2048) : Blocks.first (term m c i j) 4 = dot m c i j :=
  (Blocks.first_all _).trans (Blocks.sum_place (b := 4) (n := 1408) fun k => lhs m c (ix2 i k) * rhs m c (ix2 j k))

/-- A point's own product is its part of the sum. -/
theorem own (t : Fin cfg0.N) (i : Fin 512) (j : Fin 1024) :
    prod (iblk m c 0 t) (iblk m c 1 t) i j
      = term m c (rowOf t.val i) (colOf t.val j) (part t.val) :=
  Finset.sum_congr rfl fun x _ => congrArg₂ (· * ·) (block_lhs m c t x i) (block_rhs m c t x j)

/-- The scratch after a point holds the parts of the sum up to the point's. -/
theorem gathered (i : Fin 512) (j : Fin 1024) : ∀ (n : ℕ) (hn : n < cfg0.N),
    ((outsAt0 m c n hn).2 : FVec Ideal S512x1024 .f32) (ix2 i j) = Blocks.first (term m c (rowOf n i) (colOf n j)) (n % 4 + 1) := by
  intro n
  induction n with
  | zero =>
    intro hn
    have e := outsAt0_A m c ⟨0, hn⟩ (Nat.zero_mod _) (by show ¬ 1 ≤ 0 % 4; omega) (by show ¬ 0 % 4 = 3; omega)
    dsimp only at e
    rw [e]
    dsimp only
    rw [scratch_A, pay_first, own]
    exact (Blocks.first_one _ (part 0) rfl).symm
  | succ n ih =>
    intro hn
    by_cases h0 : (n + 1) % 4 = 0
    · have e := outsAt0_A m c ⟨n + 1, hn⟩ h0 (by show ¬ 1 ≤ (n + 1) % 4; omega) (by show ¬ (n + 1) % 4 = 3; omega)
      dsimp only at e
      rw [e]
      dsimp only
      rw [scratch_A, pay_first, own, h0]
      exact (Blocks.first_one _ (part (n + 1)) h0).symm
    · by_cases h3 : (n + 1) % 4 = 3
      · have e := outsAt0_C m c ⟨n + 1, hn⟩ h0 (by show 1 ≤ (n + 1) % 4; omega) h3
        dsimp only at e
        rw [e]
        dsimp only
        rw [scratch_C, pay_next, own]
        have hr : rowOf n i = rowOf (n + 1) i := Fin.ext (by show n / 8 % 8 * 512 + i.val = (n + 1) / 8 % 8 * 512 + i.val; omega)
        have hc : colOf n j = colOf (n + 1) j := Fin.ext (by show n / 4 % 2 * 1024 + j.val = (n + 1) / 4 % 2 * 1024 + j.val; omega)
        have hs : n % 4 + 1 = (part (n + 1)).val := by show n % 4 + 1 = (n + 1) % 4; omega
        refine (congrArg₂ (· + ·) (ih (Nat.lt_of_succ_lt hn)) rfl).trans ?_
        rw [hr, hc, hs]
        exact (Blocks.first_succ _ (part (n + 1))).symm
      · have e := outsAt0_B m c ⟨n + 1, hn⟩ h0 (by show 1 ≤ (n + 1) % 4; omega) h3
        dsimp only at e
        rw [e]
        dsimp only
        rw [scratch_B, pay_next, own]
        have hr : rowOf n i = rowOf (n + 1) i := Fin.ext (by show n / 8 % 8 * 512 + i.val = (n + 1) / 8 % 8 * 512 + i.val; omega)
        have hc : colOf n j = colOf (n + 1) j := Fin.ext (by show n / 4 % 2 * 1024 + j.val = (n + 1) / 4 % 2 * 1024 + j.val; omega)
        have hs : n % 4 + 1 = (part (n + 1)).val := by show n % 4 + 1 = (n + 1) % 4; omega
        refine (congrArg₂ (· + ·) (ih (Nat.lt_of_succ_lt hn)) rfl).trans ?_
        rw [hr, hc, hs]
        exact (Blocks.first_succ _ (part (n + 1))).symm

/-- The result at a row and a column. -/
def val (i : Fin 4096) (j : Fin 2048) : EReal := dot m c i j + rest m c (ix2 i j)

/-- The result's buffer after the last point of a sum. -/
theorem stored (t : Fin cfg0.N) (h : t.val % 4 = 3) (i : Fin 512) (j : Fin 1024) :
    ((outsAt0 m c t.val t.isLt).1 : FVec Ideal S512x1024 .f32) (ix2 i j) = val m c (rowOf t.val i) (colOf t.val j) := by
  have g := gathered m c i j t.val t.isLt
  have e := outsAt0_C m c t (by omega) (by omega) h
  rw [e] at g ⊢
  dsimp only at g ⊢
  rw [scratch_C] at g
  rw [out_C, pay_last, g, h, block_rest]
  unfold val
  rw [← terms m c]

/-! ## The array -/

/-- The result as one array. -/
def res : FVec Ideal S4096x2048 .f32 := fun y => val m c (y 0) (y 1)

/-- A block that is written back is that block of the array. -/
theorem block_res (t : Fin cfg0.N) (hf : (cfg0.win 3).flush t = true) :
    (dats m 0 c).flushed 3 t = ((cfg0.win 3).blk t).view.read (Elt Ideal) (res m c) := by
  rw [Cert.DnupIdeal.Value.flushed3]
  funext y
  rw [View.read_apply]
  have e := stored m c t ((flush0_3 t).mp hf) (y 0) (y 1)
  refine Eq.trans (congrArg (outsAt0 m c t.val t.isLt).1 (?_ : _ = ix2 (y 0) (y 1))) (e.trans ?_)
  · funext x
    match x with
    | ⟨0, _⟩ => rfl
    | ⟨1, _⟩ => rfl
  have ht := points t
  obtain ⟨h0, h1⟩ := index_3 t
  have hx : ((cfg0.win 3).blk t).view.emb y = ix2 (rowOf t.val (y 0)) (colOf t.val (y 1)) := by
    funext x
    apply Fin.ext
    match x with
    | ⟨0, _⟩ => show win0_3.index t 0 * 512 + 1 * (y 0).val = _; rw [h0]; show _ = t.val / 8 % 8 * 512 + (y 0).val; omega
    | ⟨1, _⟩ => show win0_3.index t 1 * 1024 + 1 * (y 1).val = _; rw [h1]; show _ = t.val / 4 % 2 * 1024 + (y 1).val; omega
  rw [hx]
  rfl

/-- The array after the launch. -/
theorem array_res : (dats m 0 c).arrAt 3 cfg0.N = res m c :=
  (dats m 0 c).arrAt_eq_of_cover 3 (res m c) (block_res m c) fun i => (Cert.DnupIdeal.Value.covered_iff3 i).2 (by
    have h0 : (i 0).val < 4096 := (i 0).isLt
    have h1 : (i 1).val < 2048 := (i 1).isLt
    omega)

end Arrays

/-! ## The reference -/

/-- The reference's result is the same product. -/
theorem reference (x0 : FVec Ideal S4096x2048 .f32) (x1 : FVec Ideal S2048x5632 .f32) (x2 : FVec Ideal S2048x5632 .f32) (x3 : FVec Ideal S5632x2048 .f32) (x4 : FVec Ideal S4096x2048 .f32)
    (i : Fin 4096) (j : Fin 2048) :
    Cert.DnupRefIdeal.Read.val_main_v15 (F := Ideal) x0 x1 x2 x3 x4 (ix2 i j)
      = (∑ k : Fin 5632, (Cert.DnupRefIdeal.Read.val_main_v10 (F := Ideal) x0 x1 x3 x4) (ix2 i k) * x2 (ix2 j k)) + (Cert.DnupRefIdeal.Read.val_main_v14 (F := Ideal) x0 x1 x2 x3 x4) (ix2 i j) := by
  unfold Cert.DnupRefIdeal.Read.val_main_v15 Cert.DnupRefIdeal.Read.val_main_v12
  generalize Cert.DnupRefIdeal.Read.val_main_v10 (F := Ideal) x0 x1 x3 x4 = z0
  generalize Cert.DnupRefIdeal.Read.val_main_v14 (F := Ideal) x0 x1 x2 x3 x4 = z1
  pointwise

/-- The reference runs, keeps its arguments, and holds no counter above zero at the end. -/
theorem frame_reference : Cert.quiescent_DnupRefIdeal := fun m ρ _ =>
  (θ_run Cert.DnupRefIdeal.defs _ _).mono (fun r h => ⟨fun c => (h c).2, sem_eq_zero_of_no_sems (by decide) r.2⟩)
    (Cert.DnupRefIdeal.Value.run (F := Ideal) m ρ)

/-- From arguments that agree the reference's array is the kernel's. -/
theorem meet (m : (ℓ : Loc nD τ sig) → Buf (Elt Ideal) ℓ) (c : Dev nD) {x0 : FVec Ideal S4096x2048 .f32} {x1 : FVec Ideal S2048x5632 .f32} {x2 : FVec Ideal S2048x5632 .f32} {x3 : FVec Ideal S5632x2048 .f32} {x4 : FVec Ideal S4096x2048 .f32}
    (e0 : x0 = arg0 m c) (e1 : x1 = arg1 m c) (e2 : x2 = arg2 m c) (e3 : x3 = arg3 m c) (e4 : x4 = arg4 m c) :
    Cert.DnupRefIdeal.Read.val_main_v15 (F := Ideal) x0 x1 x2 x3 x4 = res m c := by
  subst e0 e1 e2 e3 e4
  funext y
  idx_vars y
  exact reference _ _ _ _ _ _ _

/-- The kernel's gradient is the reference's. -/
theorem algebraic : Cert.algebraic_DnupIdeal_DnupRefIdeal := by
  intro m ρ m' ρ' _ hagree
  refine ⟨fun c => res m c, (θ_run _ _ _).mono (fun r h c => ?_) (Cert.DnupIdeal.Value.run_blocks m ρ),
    (θ_run _ _ _).mono (fun r h c => ?_) (Cert.DnupRefIdeal.Value.run (F := Ideal) m' ρ')⟩
  · exact ⟨(h c).1.trans (array_res m c), (h c).2⟩
  · obtain ⟨a0, a1, a2, a3, a4⟩ := hagree c
    exact ⟨((h c).1.trans (Cert.DnupRefIdeal.Read.val_main_v15_eq _ _ _ _ _)).trans (meet m c a0 a1 a2 a3 a4), (h c).2⟩

end Cert.Dnu

end
-- ==== Proof.Dngate.lean ====
/-
  The gradient that comes back through the first matrix into the feed-forward part: the launch adds, tile by tile, the
  products of the four slices of the columns; the reference takes one product over all the columns.
-/
module

public import proofs.«01_k».proof.Defs
public import proofs.«01_k».proof.Proof.Rows
public import proofs.«01_k».proof.Proof.Gen.Dngate.Frame
public import proofs.«01_k».proof.Proof.Gen.DngateIdeal.Value
public import proofs.«01_k».proof.Proof.Gen.DngateRefIdeal.Read

@[expose] public section

set_option maxRecDepth 16384

noncomputable section

namespace Cert.Dng

open Cert.DngateIdeal Cert.DngateIdeal.Gen Idealize.ShloMosaic Idealize.ShloMosaic.TcCoe Idealize.SL.Sem

/-! ## One point -/

/-- The product of two blocks at an index. -/
def prod (a : FVec Ideal S512x1408 .bf16) (b : FVec Ideal S1x1024x1408 .bf16) (i : Fin 512) (j : Fin 1024) : EReal :=
  ∑ x : Fin 1408, a (ix2 i x) * b (ix3 (0 : Fin 1) j x)

/-- A point's product. -/
theorem pay_first (a : FVec Ideal S512x1408 .bf16) (b : FVec Ideal S1x1024x1408 .bf16) (i : Fin 512) (j : Fin 1024) :
    k0_pay2 (F := Ideal) a b (ix2 i j) = prod a b i j := by
  unfold k0_pay2 k0_pay1 prod
  pointwise

/-- A point's product on top of what has been gathered. -/
theorem pay_next (a : FVec Ideal S512x1408 .bf16) (b : FVec Ideal S1x1024x1408 .bf16) (g : FVec Ideal S512x1024 .f32) (i : Fin 512) (j : Fin 1024) :
    k0_pay3 (F := Ideal) a b g (ix2 i j) = g (ix2 i j) + prod a b i j := by
  unfold k0_pay3 k0_pay1 prod
  pointwise

section Point
variable (c : Dev nD) (i : grid0.Coords) (a3 : Memref sig .tc .vmem S512x1408 .bf16) (h3 : a3.IsWhole) (a4 : Memref sig .tc .vmem S1x1024x1408 .bf16) (h4 : a4.IsWhole) (a5 : Memref sig .tc .vmem S512x1024 .f32) (h5 : a5.IsWhole) (a6 : Memref sig .tc .vmem S512x1024 .f32) (h6 : a6.IsWhole)
  (x0 : FVec Ideal S512x1408 .bf16) (x1 : FVec Ideal S1x1024x1408 .bf16) (xs : FVec Ideal S512x1024 .f32)

/-- The scratch after a point that starts a sum. -/
theorem scratch_A (hc0 : cond0_0 i) (hc1 : ¬cond0_1 i) (hc2 : ¬cond0_2 i) :
    sout0_A_0 (F := Ideal) c i a3 h3 a4 h4 a5 h5 a6 h6 hc0 hc1 hc2 x0 x1 = k0_pay2 (F := Ideal) x0 x1 := by
  unfold sout0_A_0
  rw [View.read_writes_eq_canon (Val := Elt Ideal) _ _ _ (scover0_A_0 c i a3 h3 a4 h4 a5 h5 a6 h6 hc0 hc1 hc2 x0 x1)]
  unfold kernelRun0_A
  dsimp only
  rw [View.canon_unit_zero Rows.hz2]
  simp only [View.readAt_eq_ld, h3.read_unread, h4.read_unread, View.ld_unit_zero (S := S512x1408) Rows.hz2, View.ld_unit_zero (S := S1x1024x1408) Rows.hz3, View.ld_unit_zero (S := S512x1024) Rows.hz2]

/-- The scratch after a point that goes on with a sum. -/
theorem scratch_B (hc0 : ¬cond0_0 i) (hc1 : cond0_1 i) (hc2 : ¬cond0_2 i) :
    sout0_B_0 (F := Ideal) c i a3 h3 a4 h4 a5 h5 a6 h6 hc0 hc1 hc2 x0 x1 xs = k0_pay3 (F := Ideal) x0 x1 xs := by
  unfold sout0_B_0
  rw [View.read_writes_eq_canon (Val := Elt Ideal) _ _ _ (scover0_B_0 c i a3 h3 a4 h4 a5 h5 a6 h6 hc0 hc1 hc2 x0 x1 xs)]
  unfold kernelRun0_B
  dsimp only
  rw [View.canon_unit_zero Rows.hz2]
  simp only [View.readAt_eq_ld, h3.read_unread, h4.read_unread, h6.read_unread, View.ld_unit_zero (S := S512x1408) Rows.hz2, View.ld_unit_zero (S := S1x1024x1408) Rows.hz3, View.ld_unit_zero (S := S512x1024) Rows.hz2]

/-- The scratch after a point that goes on with a sum and ends it. -/
theorem scratch_C (hc0 : ¬cond0_0 i) (hc1 : cond0_1 i) (hc2 : cond0_2 i) :
    sout0_C_0 (F := Ideal) c i a3 h3 a4 h4 a5 h5 a6 h6 hc0 hc1 hc2 x0 x1 xs = k0_pay3 (F := Ideal) x0 x1 xs := by
  unfold sout0_C_0
  rw [View.read_writes_eq_canon (Val := Elt Ideal) _ _ _ (scover0_C_0 c i a3 h3 a4 h4 a5 h5 a6 h6 hc0 hc1 hc2 x0 x1 xs)]
  unfold kernelRun0_C
  dsimp only
  unfold kernelRun0_C.sl.HS0_1
  rw [View.canon_unit_zero Rows.hz2]
  simp only [View.readAt_eq_ld, h3.read_unread, h4.read_unread, h6.read_unread, View.ld_unit_zero (S := S512x1408) Rows.hz2, View.ld_unit_zero (S := S1x1024x1408) Rows.hz3, View.ld_unit_zero (S := S512x1024) Rows.hz2]

/-- The result's buffer after a point that ends a sum. -/
theorem out_C (hc0 : ¬cond0_0 i) (hc1 : cond0_1 i) (hc2 : cond0_2 i) :
    out0_C_2 (F := Ideal) c i a3 h3 a4 h4 a5 h5 a6 h6 hc0 hc1 hc2 x0 x1 xs = k0_pay3 (F := Ideal) x0 x1 xs := by
  unfold out0_C_2
  rw [View.read_writes_eq_canon (Val := Elt Ideal) _ _ _ (cover0_C_2 c i a3 h3 a4 h4 a5 h5 a6 h6 hc0 hc1 hc2 x0 x1 xs)]
  unfold kernelRun0_C
  dsimp only
  rw [View.canon_unit_zero Rows.hz2]
  unfold kernelRun0_C.sl.v14 kernelRun0_C.sl.HS0_1
  refine (View.readCov_full a6.view _ _ _ _).trans ?_
  simp only [View.readAt_eq_ld, h3.read_unread, h4.read_unread, h6.read_unread, View.ld_unit_zero (S := S512x1408) Rows.hz2, View.ld_unit_zero (S := S1x1024x1408) Rows.hz3, View.ld_unit_zero (S := S512x1024) Rows.hz2]

end Point

/-! ## The arrays the windows read -/

section Arrays
variable (m : (ℓ : Loc nD τ sig) → Buf (Elt Ideal) ℓ) (c : Dev nD)

/-- The host lines before the launch in one list. -/
theorem V_eq (b : Ref sig .tc) : V m c b = StableHlo.after (hostOps0 ++ (hostOps0_1 ++ (hostOps0_2 ++ (hostOps0_3 ++ hostOps0_4)))) (fun b => m (c, b)) b := by
  simp only [V, List.flatten_cons, List.flatten_nil, List.append_nil]
/-- An argument. -/
abbrev arg0 : FVec Ideal S4096x2048 .f32 := m ((c : Thread nD τ).loc main_arg0)
/-- An argument. -/
abbrev arg1 : FVec Ideal S2048x5632 .f32 := m ((c : Thread nD τ).loc main_arg1)
/-- An argument. -/
abbrev arg2 : FVec Ideal S2048x5632 .f32 := m ((c : Thread nD τ).loc main_arg2)
/-- An argument. -/
abbrev arg3 : FVec Ideal S5632x2048 .f32 := m ((c : Thread nD τ).loc main_arg3)
/-- An argument. -/
abbrev arg4 : FVec Ideal S4096x2048 .f32 := m ((c : Thread nD τ).loc main_arg4)
/-- The left operand. -/
abbrev lhs : FVec Ideal S4096x5632 .f32 := Cert.DngateRefIdeal.Read.val_main_v11 (F := Ideal) (arg0 m c) (arg1 m c) (arg2 m c) (arg3 m c) (arg4 m c)
/-- The right operand. -/
abbrev rhs : FVec Ideal S2048x5632 .f32 := (arg1 m c)

/-- The left operand's array is that operand. -/
theorem V_lhs (k : Fin 5632) (i : Fin 4096) : (V m c main_v12 : FVec Ideal S4096x5632 .bf16) (ix2 i k) = lhs m c (ix2 i k) := by
  have e : (V m c main_v12 : FVec Ideal S4096x5632 .bf16) = truncf (F := Ideal) .bf16 (lhs m c) bitsLt_bf16_f32 := by
    rw [V_eq]
    simp only [hostOps0, hostOps0_1, hostOps0_2, hostOps0_3, hostOps0_4, List.cons_append, List.nil_append]
    after_results_simp
    try rfl
  rw [e]
  rfl

/-- The right operand's array holds its slices of columns. -/
theorem V_rhs (s : Fin 4) (j : Fin 2048) (x : Fin 1408) : (V m c main_v15 : FVec Ideal S4x2048x1408 .bf16) (ix3 s j x) = rhs m c (ix2 j (Blocks.place s x)) := by
  have e : (V m c main_v15 : FVec Ideal S4x2048x1408 .bf16) = truncf (F := Ideal) .bf16 (transpose S4x2048x1408 [1, 0, 2] (shapeCast S2048x4x1408 (rhs m c) shapeCasts_S2048x5632_S2048x4x1408) transposes_S2048x4x1408_S4x2048x1408_1_0_2) bitsLt_bf16_f32 := by
    rw [V_eq]
    simp only [hostOps0, hostOps0_1, hostOps0_2, hostOps0_3, hostOps0_4, List.cons_append, List.nil_append]
    after_results_simp
    try rfl
  rw [e]
  generalize rhs m c = z
  pointwise [Blocks.place]

/-! ## The blocks -/

theorem index_0 : ∀ t : Fin grid0.N, win0_0.index t 0 = t.val / 8 ∧ win0_0.index t 1 = t.val % 4 := by decide +kernel
theorem index_1 : ∀ t : Fin grid0.N, win0_1.index t 0 = t.val % 4 ∧ win0_1.index t 1 = t.val / 4 % 2 ∧ win0_1.index t 2 = 0 := by decide +kernel
theorem index_2 : ∀ t : Fin grid0.N, win0_2.index t 0 = t.val / 8 ∧ win0_2.index t 1 = t.val / 4 % 2 := by decide +kernel

theorem points (t : Fin cfg0.N) : t.val < 64 := t.isLt.trans_eq (show cfg0.N = 64 from N_0)

/-- The part of the sum a point takes. -/
def part (n : ℕ) : Fin 4 := ⟨n % 4, Nat.mod_lt _ (by decide)⟩
/-- A row of a point's block of the result. -/
def rowOf (n : ℕ) (i : Fin 512) : Fin 4096 := ⟨n / 8 % 8 * 512 + i.val, by omega⟩
/-- A column of a point's block of the result. -/
def colOf (n : ℕ) (j : Fin 1024) : Fin 2048 := ⟨n / 4 % 2 * 1024 + j.val, by omega⟩
/-- A place of a part of the sum. -/
def at_part (s : Fin 4) (x : Fin 1408) : Fin 5632 := Blocks.place s x

/-- The left operand's block at a point. -/
theorem block_lhs (t : Fin cfg0.N) (x : Fin 1408) (i : Fin 512) :
    (iblk m c 0 t : FVec Ideal S512x1408 .bf16) (ix2 i x) = lhs m c (ix2 (rowOf t.val i) (at_part (part t.val) x)) := by
  rw [← V_lhs]
  unfold iblk
  rw [View.read_apply]
  show V m c main_v12 _ = V m c main_v12 _
  congr 1
  funext a
  apply Fin.ext
  have ht := points t
  obtain ⟨h0, h1⟩ := index_0 t
  match a with
  | ⟨0, _⟩ => show win0_0.index t 0 * 512 + 1 * i.val = _; rw [h0]; show _ = t.val / 8 % 8 * 512 + i.val; omega
  | ⟨1, _⟩ => show win0_0.index t 1 * 1408 + 1 * x.val = _; rw [h1]; show _ = t.val % 4 * 1408 + x.val; omega

/-- The right operand's block at a point. -/
theorem block_rhs (t : Fin cfg0.N) (x : Fin 1408) (j : Fin 1024) :
    (iblk m c 1 t : FVec Ideal S1x1024x1408 .bf16) (ix3 (0 : Fin 1) j x) = rhs m c (ix2 (colOf t.val j) (at_part (part t.val) x)) := by
  unfold at_part
  rw [← V_rhs]
  unfold iblk
  rw [View.read_apply]
  show V m c main_v15 _ = V m c main_v15 _
  congr 1
  funext a
  apply Fin.ext
  have ht := points t
  obtain ⟨h0, h1, h2⟩ := index_1 t
  match a with
  | ⟨0, _⟩ => show win0_1.index t 0 * 1 + 1 * 0 = _; rw [h0]; show _ = t.val % 4; omega
  | ⟨1, _⟩ => show win0_1.index t 1 * 1024 + 1 * j.val = _; rw [h1]; show _ = t.val / 4 % 2 * 1024 + j.val; omega
  | ⟨2, _⟩ => show win0_1.index t 2 * 1408 + 1 * x.val = _; rw [h2]; show _ = x.val; omega

/-! ## The sum along the grid -/

/-- One part of the sum at a row and a column. -/
def term (i : Fin 4096) (j : Fin 2048) (s : Fin 4) : EReal :=
  ∑ x : Fin 1408, lhs m c (ix2 i (at_part s x)) * rhs m c (ix2 j (at_part s x))

/-- The product at a row and a column. -/
def dot (i : Fin 4096) (j : Fin 2048) : EReal := ∑ k : Fin 5632, lhs m c (ix2 i k) * rhs m c (ix2 j k)

/-- The parts together are the product. -/
theorem terms (i : Fin 4096) (j : Fin 2048) : Blocks.first (term m c i j) 4 = dot m c i j :=
  (Blocks.first_all _).trans (Blocks.sum_place (b := 4) (n := 1408) fun k => lhs m c (ix2 i k) * rhs m c (ix2 j k))

/-- A point's own product is its part of the sum. -/
theorem own (t : Fin cfg0.N) (i : Fin 512) (j : Fin 1024) :
    prod (iblk m c 0 t) (iblk m c 1 t) i j
      = term m c (rowOf t.val i) (colOf t.val j) (part t.val) :=
  Finset.sum_congr rfl fun x _ => congrArg₂ (· * ·) (block_lhs m c t x i) (block_rhs m c t x j)

/-- The scratch after a point holds the parts of the sum up to the point's. -/
theorem gathered (i : Fin 512) (j : Fin 1024) : ∀ (n : ℕ) (hn : n < cfg0.N),
    ((outsAt0 m c n hn).2 : FVec Ideal S512x1024 .f32) (ix2 i j) = Blocks.first (term m c (rowOf n i) (colOf n j)) (n % 4 + 1) := by
  intro n
  induction n with
  | zero =>
    intro hn
    have e := outsAt0_A m c ⟨0, hn⟩ (Nat.zero_mod _) (by show ¬ 1 ≤ 0 % 4; omega) (by show ¬ 0 % 4 = 3; omega)
    dsimp only at e
    rw [e]
    dsimp only
    rw [scratch_A, pay_first, own]
    exact (Blocks.first_one _ (part 0) rfl).symm
  | succ n ih =>
    intro hn
    by_cases h0 : (n + 1) % 4 = 0
    · have e := outsAt0_A m c ⟨n + 1, hn⟩ h0 (by show ¬ 1 ≤ (n + 1) % 4; omega) (by show ¬ (n + 1) % 4 = 3; omega)
      dsimp only at e
      rw [e]
      dsimp only
      rw [scratch_A, pay_first, own, h0]
      exact (Blocks.first_one _ (part (n + 1)) h0).symm
    · by_cases h3 : (n + 1) % 4 = 3
      · have e := outsAt0_C m c ⟨n + 1, hn⟩ h0 (by show 1 ≤ (n + 1) % 4; omega) h3
        dsimp only at e
        rw [e]
        dsimp only
        rw [scratch_C, pay_next, own]
        have hr : rowOf n i = rowOf (n + 1) i := Fin.ext (by show n / 8 % 8 * 512 + i.val = (n + 1) / 8 % 8 * 512 + i.val; omega)
        have hc : colOf n j = colOf (n + 1) j := Fin.ext (by show n / 4 % 2 * 1024 + j.val = (n + 1) / 4 % 2 * 1024 + j.val; omega)
        have hs : n % 4 + 1 = (part (n + 1)).val := by show n % 4 + 1 = (n + 1) % 4; omega
        refine (congrArg₂ (· + ·) (ih (Nat.lt_of_succ_lt hn)) rfl).trans ?_
        rw [hr, hc, hs]
        exact (Blocks.first_succ _ (part (n + 1))).symm
      · have e := outsAt0_B m c ⟨n + 1, hn⟩ h0 (by show 1 ≤ (n + 1) % 4; omega) h3
        dsimp only at e
        rw [e]
        dsimp only
        rw [scratch_B, pay_next, own]
        have hr : rowOf n i = rowOf (n + 1) i := Fin.ext (by show n / 8 % 8 * 512 + i.val = (n + 1) / 8 % 8 * 512 + i.val; omega)
        have hc : colOf n j = colOf (n + 1) j := Fin.ext (by show n / 4 % 2 * 1024 + j.val = (n + 1) / 4 % 2 * 1024 + j.val; omega)
        have hs : n % 4 + 1 = (part (n + 1)).val := by show n % 4 + 1 = (n + 1) % 4; omega
        refine (congrArg₂ (· + ·) (ih (Nat.lt_of_succ_lt hn)) rfl).trans ?_
        rw [hr, hc, hs]
        exact (Blocks.first_succ _ (part (n + 1))).symm

/-- The result at a row and a column. -/
def val (i : Fin 4096) (j : Fin 2048) : EReal := dot m c i j

/-- The result's buffer after the last point of a sum. -/
theorem stored (t : Fin cfg0.N) (h : t.val % 4 = 3) (i : Fin 512) (j : Fin 1024) :
    ((outsAt0 m c t.val t.isLt).1 : FVec Ideal S512x1024 .f32) (ix2 i j) = val m c (rowOf t.val i) (colOf t.val j) := by
  have g := gathered m c i j t.val t.isLt
  have e := outsAt0_C m c t (by omega) (by omega) h
  rw [e] at g ⊢
  dsimp only at g ⊢
  rw [scratch_C] at g
  rw [out_C, g, h]
  exact terms m c _ _

/-! ## The array -/

/-- The result as one array. -/
def res : FVec Ideal S4096x2048 .f32 := fun y => val m c (y 0) (y 1)

/-- A block that is written back is that block of the array. -/
theorem block_res (t : Fin cfg0.N) (hf : (cfg0.win 2).flush t = true) :
    (dats m 0 c).flushed 2 t = ((cfg0.win 2).blk t).view.read (Elt Ideal) (res m c) := by
  rw [Cert.DngateIdeal.Value.flushed2]
  funext y
  rw [View.read_apply]
  have e := stored m c t ((flush0_2 t).mp hf) (y 0) (y 1)
  refine Eq.trans (congrArg (outsAt0 m c t.val t.isLt).1 (?_ : _ = ix2 (y 0) (y 1))) (e.trans ?_)
  · funext x
    match x with
    | ⟨0, _⟩ => rfl
    | ⟨1, _⟩ => rfl
  have ht := points t
  obtain ⟨h0, h1⟩ := index_2 t
  have hx : ((cfg0.win 2).blk t).view.emb y = ix2 (rowOf t.val (y 0)) (colOf t.val (y 1)) := by
    funext x
    apply Fin.ext
    match x with
    | ⟨0, _⟩ => show win0_2.index t 0 * 512 + 1 * (y 0).val = _; rw [h0]; show _ = t.val / 8 % 8 * 512 + (y 0).val; omega
    | ⟨1, _⟩ => show win0_2.index t 1 * 1024 + 1 * (y 1).val = _; rw [h1]; show _ = t.val / 4 % 2 * 1024 + (y 1).val; omega
  rw [hx]
  rfl

/-- The array after the launch. -/
theorem array_res : (dats m 0 c).arrAt 2 cfg0.N = res m c :=
  (dats m 0 c).arrAt_eq_of_cover 2 (res m c) (block_res m c) fun i => (Cert.DngateIdeal.Value.covered_iff2 i).2 (by
    have h0 : (i 0).val < 4096 := (i 0).isLt
    have h1 : (i 1).val < 2048 := (i 1).isLt
    omega)

end Arrays

/-! ## The reference -/

/-- The reference's result is the same product. -/
theorem reference (x0 : FVec Ideal S4096x2048 .f32) (x1 : FVec Ideal S2048x5632 .f32) (x2 : FVec Ideal S2048x5632 .f32) (x3 : FVec Ideal S5632x2048 .f32) (x4 : FVec Ideal S4096x2048 .f32)
    (i : Fin 4096) (j : Fin 2048) :
    Cert.DngateRefIdeal.Read.val_main_v12 (F := Ideal) x0 x1 x2 x3 x4 (ix2 i j)
      = (∑ k : Fin 5632, (Cert.DngateRefIdeal.Read.val_main_v11 (F := Ideal) x0 x1 x2 x3 x4) (ix2 i k) * x1 (ix2 j k)) := by
  unfold Cert.DngateRefIdeal.Read.val_main_v12
  generalize Cert.DngateRefIdeal.Read.val_main_v11 (F := Ideal) x0 x1 x2 x3 x4 = z0
  pointwise

/-- The reference runs, keeps its arguments, and holds no counter above zero at the end. -/
theorem frame_reference : Cert.quiescent_DngateRefIdeal := fun m ρ _ =>
  (θ_run Cert.DngateRefIdeal.defs _ _).mono (fun r h => ⟨fun c => (h c).2, sem_eq_zero_of_no_sems (by decide) r.2⟩)
    (Cert.DngateRefIdeal.Value.run (F := Ideal) m ρ)

/-- From arguments that agree the reference's array is the kernel's. -/
theorem meet (m : (ℓ : Loc nD τ sig) → Buf (Elt Ideal) ℓ) (c : Dev nD) {x0 : FVec Ideal S4096x2048 .f32} {x1 : FVec Ideal S2048x5632 .f32} {x2 : FVec Ideal S2048x5632 .f32} {x3 : FVec Ideal S5632x2048 .f32} {x4 : FVec Ideal S4096x2048 .f32}
    (e0 : x0 = arg0 m c) (e1 : x1 = arg1 m c) (e2 : x2 = arg2 m c) (e3 : x3 = arg3 m c) (e4 : x4 = arg4 m c) :
    Cert.DngateRefIdeal.Read.val_main_v12 (F := Ideal) x0 x1 x2 x3 x4 = res m c := by
  subst e0 e1 e2 e3 e4
  funext y
  idx_vars y
  exact reference _ _ _ _ _ _ _

/-- The kernel's gradient is the reference's. -/
theorem algebraic : Cert.algebraic_DngateIdeal_DngateRefIdeal := by
  intro m ρ m' ρ' _ hagree
  refine ⟨fun c => res m c, (θ_run _ _ _).mono (fun r h c => ?_) (Cert.DngateIdeal.Value.run_blocks m ρ),
    (θ_run _ _ _).mono (fun r h c => ?_) (Cert.DngateRefIdeal.Value.run (F := Ideal) m' ρ')⟩
  · exact ⟨(h c).1.trans (array_res m c), (h c).2⟩
  · obtain ⟨a0, a1, a2, a3, a4⟩ := hagree c
    exact ⟨((h c).1.trans (Cert.DngateRefIdeal.Read.val_main_v12_eq _ _ _ _ _)).trans (meet m c a0 a1 a2 a3 a4), (h c).2⟩

end Cert.Dng

end
-- ==== Proof.ScanRun.lean ====
/-
  One grid point of the S5 scan gradient's kernel, over any float values: its body run once at the first point, where
  it clears its carries, and once at the later points, where it goes on from what the point before left.
-/
module

public import proofs.«01_k».proof.Proof.Gen.DscanIdeal.Frame
public import proofs.«01_k».proof.Proof.Gen.DscanIdeal.Skeleton
public import proofs.«01_k».proof.Proof.Gen.DscanIdeal.Loops

@[expose] public section

set_option maxRecDepth 16384

noncomputable section

namespace Cert.DscanIdeal.Scan

open Cert.DscanIdeal Cert.DscanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The body's branch: it is taken at the first point of the grid. -/
def first (i : grid0.Coords) : Prop :=
  Scalar.cmpi .ne (Scalar.extui (Scalar.cmpi .eq (BitVec.ofNat 32 (i 0).val) 0#32) : BitVec 32) 0#32 = 1#1

/-- What the body's stores leave in its outputs and scratch at the first point, its carries and sums at anything,
    with the proof that it runs to them. -/
def runA (c : Dev nD) (i : grid0.Coords) (arg1 : Memref sig .tc .vmem S256x32x128 .f32) (harg1 : arg1.IsWhole) (arg2 : Memref sig .tc .vmem S256x32x128 .f32) (harg2 : arg2.IsWhole) (arg3 : Memref sig .tc .vmem S256x32x128 .f32) (harg3 : arg3.IsWhole) (arg4 : Memref sig .tc .vmem S256x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S256x32x128 .f32) (harg7 : arg7.IsWhole) (arg8 : Memref sig .tc .vmem S256x32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (hc : first i)
    (x1 : Vec F S256x32x128 .f32) (x2 : Vec F S256x32x128 .f32) (x3 : Vec F S256x32x128 .f32) (x4 : Vec F S256x32x128 .f32) (x5 : Vec F S32x128 .f32) (x6 : Vec F S32x128 .f32) :
    Σ' (L7 : List (View.Piece (Elt F) S256x32x128 .f32)) (L8 : List (View.Piece (Elt F) S256x32x128 .f32)) (L9 : List (View.Piece (Elt F) S32x128 .f32)) (L10 : List (View.Piece (Elt F) S32x128 .f32)) (L11 : List (View.Piece (Elt F) S32x128 .f32)), { L12 : List (View.Piece (Elt F) S32x128 .f32) //
      ∀ (E : Set ℕ) (K : PUnit → sProp (MT nD τ sig Unit (Elt F) ℕ (UR sig nD τ) ℕ)),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0_s5_d_scan i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_s5_d_scan_eq_skeleton]; unfold cc0_s5_d_scan_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

/-- What the body's stores leave in its outputs and scratch at a later point, its carries and sums at what the point before left,
    with the proof that it runs to them. -/
def runB (c : Dev nD) (i : grid0.Coords) (arg1 : Memref sig .tc .vmem S256x32x128 .f32) (harg1 : arg1.IsWhole) (arg2 : Memref sig .tc .vmem S256x32x128 .f32) (harg2 : arg2.IsWhole) (arg3 : Memref sig .tc .vmem S256x32x128 .f32) (harg3 : arg3.IsWhole) (arg4 : Memref sig .tc .vmem S256x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S256x32x128 .f32) (harg7 : arg7.IsWhole) (arg8 : Memref sig .tc .vmem S256x32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole) (hc : ¬first i)
    (x1 : Vec F S256x32x128 .f32) (x2 : Vec F S256x32x128 .f32) (x3 : Vec F S256x32x128 .f32) (x4 : Vec F S256x32x128 .f32) (x5 : Vec F S32x128 .f32) (x6 : Vec F S32x128 .f32) (x9 : Vec F S32x128 .f32) (x10 : Vec F S32x128 .f32) (x11 : Vec F S32x128 .f32) (x12 : Vec F S32x128 .f32) :
    Σ' (L7 : List (View.Piece (Elt F) S256x32x128 .f32)) (L8 : List (View.Piece (Elt F) S256x32x128 .f32)) (L9 : List (View.Piece (Elt F) S32x128 .f32)) (L10 : List (View.Piece (Elt F) S32x128 .f32)) (L11 : List (View.Piece (Elt F) S32x128 .f32)), { L12 : List (View.Piece (Elt F) S32x128 .f32) //
      ∀ (E : Set ℕ) (K : PUnit → sProp (MT nD τ sig Unit (Elt F) ℕ (UR sig nD τ) ℕ)),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0_s5_d_scan i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_s5_d_scan_eq_skeleton]; unfold cc0_s5_d_scan_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg11.eq_unread hf11; obtain rfl := harg12.eq_unread hf12
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.DscanIdeal.Scan

end
-- ==== Proof.ScanVal.lean ====
/-
  What one grid point of the S5 scan gradient's kernel leaves, over any float values: the carries and the sums after
  each of its trips, and its two blocks of gradients, whose rows are the carries of the trips.
-/
module

public import proofs.«01_k».proof.Proof.Rows
public import proofs.«01_k».proof.Proof.ScanRun

@[expose] public section

set_option maxRecDepth 16384

noncomputable section

namespace Cert.DscanIdeal.Scan

open Cert.DscanIdeal Cert.DscanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- What a trip hands the next: the gradient of the state, real and imaginary part, and the two sums. -/
abbrev Acc (F : FTy → Type) [FloatOps F] := Vec F S32x128 .f32 × Vec F S32x128 .f32 × FVec F S32x128 .f32 × FVec F S32x128 .f32

/-- The row of a block that a trip reads. -/
def row (x : Vec F S256x32x128 .f32) (k : Fin k0_t1_loop.trips) : Vec F S1x32x128 .f32 :=
  View.ld x (Rect.unit (s := S256x32x128) (k0_off1 k) S1x32x128.size (k0_off1_inb k))

section Values
variable (x1 x2 x3 x4 : Vec F S256x32x128 .f32) (x5 x6 : Vec F S32x128 .f32)

/-- One trip. -/
def tripVal (k : Fin k0_t1_loop.trips) (a : Acc F) : Acc F :=
  (k0_pay7 x5 x6 a.1 a.2.1 (row x1 k), k0_pay8 x5 x6 a.1 a.2.1 (row x2 k),
    k0_pay13 x5 x6 a.1 a.2.1 a.2.2.1 (row x1 k) (row x2 k) (row x3 k) (row x4 k),
    k0_pay14 x5 x6 a.1 a.2.1 a.2.2.2 (row x1 k) (row x2 k) (row x3 k) (row x4 k))

/-- What the carries and the sums hold before each trip. -/
def accs (a0 : Acc F) : ℕ → Acc F
  | 0 => a0
  | k + 1 => if h : k < k0_t1_loop.trips then tripVal x1 x2 x3 x4 x5 x6 ⟨k, h⟩ (accs a0 k) else accs a0 k

theorem accs_succ (a0 : Acc F) (k : Fin k0_t1_loop.trips) :
    accs x1 x2 x3 x4 x5 x6 a0 (k.val + 1) = tripVal x1 x2 x3 x4 x5 x6 k (accs x1 x2 x3 x4 x5 x6 a0 k.val) := by
  rw [accs]; exact dif_pos k.isLt

end Values

/-- A block whose row `r` is the value after the trip that writes it. -/
def rows (g : ℕ → Vec F S32x128 .f32) : Vec F S256x32x128 .f32 := fun y => g (256 - (y 0).val) (ix2 (y 1) (y 2))

/-- The number of trips. -/
@[irreducible] def count : ℕ := 256

theorem count_eq : count = 256 := by unfold count; rfl

theorem trips_eq : k0_t1_loop.trips = 256 := by decide +kernel

/-- The place of the row a trip writes. -/
theorem row_emb (k : Fin k0_t1_loop.trips) (y : S256x32x128.Idx) :
    y ∈ (Rect.unit (s := S256x32x128) (k0_off1 k) S1x32x128.size (k0_off1_inb k)).set ↔ (y 0).val = 255 - k.val := by
  rw [Rect.mem_set_unit, k0_off1_eq]
  constructor
  · intro h
    have h0 := h 0
    change 255 - k.val ≤ (y 0).val ∧ (y 0).val < 255 - k.val + 1 at h0
    omega
  · intro h a
    match a with
    | ⟨0, _⟩ => show 255 - k.val ≤ (y 0).val ∧ (y 0).val < 255 - k.val + 1; omega
    | ⟨1, _⟩ => show 0 ≤ (y 1).val ∧ (y 1).val < 0 + 32; exact ⟨Nat.zero_le _, by have : (y 1).val < 32 := (y 1).isLt; omega⟩
    | ⟨2, _⟩ => show 0 ≤ (y 2).val ∧ (y 2).val < 0 + 128; exact ⟨Nat.zero_le _, by have : (y 2).val < 128 := (y 2).isLt; omega⟩

/-- A row written with a leading axis of length one. -/
theorem cast_row (v : FVec F S32x128 .f32) (x : S1x32x128.Idx) :
    shapeCast S1x32x128 v shapeCasts_S32x128_S1x32x128 x = v (ix2 (x 1) (x 2)) := by
  obtain ⟨a, b, d, rfl⟩ : ∃ a b d, x = ix3 a b d := ⟨x 0, x 1, x 2, eq_ix3 x⟩
  pointwise

/-- What one trip writes, over what the trips before it wrote. -/
theorem writes_row (v : View sig .tc .vmem S256x32x128 .f32) (f : v.ty.Contents (Elt F)) (L : List (View.Piece (Elt F) S256x32x128 .f32))
    (g : ℕ → Vec F S32x128 .f32) (k : Fin k0_t1_loop.trips) (w : FVec F S1x32x128 .f32)
    (hw : ∀ x, w x = g (k.val + 1) (ix2 (x 1) (x 2)))
    (h : ∀ y, 256 - k.val ≤ (y 0).val → v.read (Elt F) (v.writes (Elt F) f L) y = rows g y)
    (y : S256x32x128.Idx) (hy : 256 - (k.val + 1) ≤ (y 0).val) :
    v.read (Elt F) (v.writes (Elt F) f
      (⟨Rect.unit (s := S256x32x128) (k0_off1 k) S1x32x128.size (k0_off1_inb k), w⟩ :: L)) y = rows g y := by
  have hk : k.val < 256 := k.isLt.trans_eq trips_eq
  by_cases e : (y 0).val = 255 - k.val
  · have hm := (row_emb k y).mpr e
    obtain ⟨x, rfl⟩ : ∃ x, (Rect.unit (s := S256x32x128) (k0_off1 k) S1x32x128.size (k0_off1_inb k)).emb x = y :=
      (Rect.unit (s := S256x32x128) (k0_off1 k) S1x32x128.size (k0_off1_inb k)).exists_idx_of_mem hm
    rw [View.read_writes_cons_emb, hw]
    unfold rows
    rw [e, show 256 - (255 - k.val) = k.val + 1 by omega]
    congr 1
    funext a
    apply Fin.ext
    match a with
    | ⟨0, _⟩ => have h1 : k0_off1 k 1 = 0 := congrFun (k0_off1_eq k) 1; show (x 1).val = k0_off1 k 1 + 1 * (x 1).val; omega
    | ⟨1, _⟩ => have h2 : k0_off1 k 2 = 0 := congrFun (k0_off1_eq k) 2; show (x 2).val = k0_off1 k 2 + 1 * (x 2).val; omega
  · have hn : y ∉ (Rect.unit (s := S256x32x128) (k0_off1 k) S1x32x128.size (k0_off1_inb k)).set := fun hm => e ((row_emb k y).mp hm)
    refine (View.read_writes_cons_miss v f ⟨Rect.unit (s := S256x32x128) (k0_off1 k) S1x32x128.size (k0_off1_inb k), w⟩ L y hn).trans ?_
    exact h y (by omega)

section Run
variable (c : Dev nD) (i : grid0.Coords) (arg1 : Memref sig .tc .vmem S256x32x128 .f32) (harg1 : arg1.IsWhole) (arg2 : Memref sig .tc .vmem S256x32x128 .f32) (harg2 : arg2.IsWhole) (arg3 : Memref sig .tc .vmem S256x32x128 .f32) (harg3 : arg3.IsWhole) (arg4 : Memref sig .tc .vmem S256x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S256x32x128 .f32) (harg7 : arg7.IsWhole) (arg8 : Memref sig .tc .vmem S256x32x128 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S32x128 .f32) (harg11 : arg11.IsWhole) (arg12 : Memref sig .tc .vmem S32x128 .f32) (harg12 : arg12.IsWhole)
  (x1 x2 x3 x4 : Vec F S256x32x128 .f32) (x5 x6 : Vec F S32x128 .f32)

/-- What the run of a trip finds. -/
theorem trip_eq (k : Fin k0_t1_loop.trips) (a : Acc F) :
    (trip_k0_t1 (F := F) Variants.none c none i arg1 harg1 arg2 harg2 arg3 harg3 arg4 harg4 arg5 harg5 arg6 harg6 arg7 harg7 arg8 harg8 arg9 harg9 arg10 harg10 arg11 harg11 arg12 harg12 x5 x6 (harg1.unread x1) (harg2.unread x2) (harg3.unread x3) (harg4.unread x4) k).1 a = tripVal x1 x2 x3 x4 x5 x6 k a
    ∧ (trip_k0_t1 (F := F) Variants.none c none i arg1 harg1 arg2 harg2 arg3 harg3 arg4 harg4 arg5 harg5 arg6 harg6 arg7 harg7 arg8 harg8 arg9 harg9 arg10 harg10 arg11 harg11 arg12 harg12 x5 x6 (harg1.unread x1) (harg2.unread x2) (harg3.unread x3) (harg4.unread x4) k).2.1 a
      = [⟨Rect.unit (s := S256x32x128) (k0_off1 k) S1x32x128.size (k0_off1_inb k), k0_pay9 x5 x6 a.1 a.2.1 (row x1 k)⟩]
    ∧ (trip_k0_t1 (F := F) Variants.none c none i arg1 harg1 arg2 harg2 arg3 harg3 arg4 harg4 arg5 harg5 arg6 harg6 arg7 harg7 arg8 harg8 arg9 harg9 arg10 harg10 arg11 harg11 arg12 harg12 x5 x6 (harg1.unread x1) (harg2.unread x2) (harg3.unread x3) (harg4.unread x4) k).2.2.1 a
      = [⟨Rect.unit (s := S256x32x128) (k0_off1 k) S1x32x128.size (k0_off1_inb k), k0_pay10 x5 x6 a.1 a.2.1 (row x2 k)⟩] := by
  unfold trip_k0_t1
  dsimp only
  sl_unfold_words
  simp only [View.readAt_eq_ld, harg1.read_unread, harg2.read_unread, harg3.read_unread, harg4.read_unread]
  exact ⟨rfl, rfl, rfl⟩

/-- The row a trip writes into the first block is its first carry, -/
theorem wrote7 (k : Fin k0_t1_loop.trips) (a : Acc F) (x : S1x32x128.Idx) :
    k0_pay9 x5 x6 a.1 a.2.1 (row x1 k) x = (tripVal x1 x2 x3 x4 x5 x6 k a).1 (ix2 (x 1) (x 2)) := by
  unfold k0_pay9 tripVal; exact cast_row _ x

/-- and the row it writes into the second block its second. -/
theorem wrote8 (k : Fin k0_t1_loop.trips) (a : Acc F) (x : S1x32x128.Idx) :
    k0_pay10 x5 x6 a.1 a.2.1 (row x2 k) x = (tripVal x1 x2 x3 x4 x5 x6 k a).2.1 (ix2 (x 1) (x 2)) := by
  unfold k0_pay10 tripVal; exact cast_row _ x

/-- The trips: their carries and sums, and the rows of the two blocks. -/
theorem loop_eq (a0 : Acc F) (k : ℕ) (hk : k ≤ 256) :
    (st_k0_t1 (F := F) Variants.none c none i arg1 harg1 arg2 harg2 arg3 harg3 arg4 harg4 arg5 harg5 arg6 harg6 arg7 harg7 arg8 harg8 arg9 harg9 arg10 harg10 arg11 harg11 arg12 harg12 x5 x6 (harg1.unread x1) (harg2.unread x2) (harg3.unread x3) (harg4.unread x4) a0 k).1 = accs x1 x2 x3 x4 x5 x6 a0 k
    ∧ (∀ (f : arg7.view.ty.Contents (Elt F)) (y : S256x32x128.Idx), 256 - k ≤ (y 0).val →
        arg7.view.read (Elt F) (arg7.view.writes (Elt F) f (st_k0_t1 (F := F) Variants.none c none i arg1 harg1 arg2 harg2 arg3 harg3 arg4 harg4 arg5 harg5 arg6 harg6 arg7 harg7 arg8 harg8 arg9 harg9 arg10 harg10 arg11 harg11 arg12 harg12 x5 x6 (harg1.unread x1) (harg2.unread x2) (harg3.unread x3) (harg4.unread x4) a0 k).2.1) y = rows (fun n => (accs x1 x2 x3 x4 x5 x6 a0 n).1) y)
    ∧ (∀ (f : arg8.view.ty.Contents (Elt F)) (y : S256x32x128.Idx), 256 - k ≤ (y 0).val →
        arg8.view.read (Elt F) (arg8.view.writes (Elt F) f (st_k0_t1 (F := F) Variants.none c none i arg1 harg1 arg2 harg2 arg3 harg3 arg4 harg4 arg5 harg5 arg6 harg6 arg7 harg7 arg8 harg8 arg9 harg9 arg10 harg10 arg11 harg11 arg12 harg12 x5 x6 (harg1.unread x1) (harg2.unread x2) (harg3.unread x3) (harg4.unread x4) a0 k).2.2) y = rows (fun n => (accs x1 x2 x3 x4 x5 x6 a0 n).2.1) y) := by
  induction k with
  | zero => exact ⟨rfl, fun _ y hy => absurd (show (y 0).val < 256 from (y 0).isLt) (by omega),
      fun _ y hy => absurd (show (y 0).val < 256 from (y 0).isLt) (by omega)⟩
  | succ k ih =>
    have I := ih (by omega)
    have e := I.1
    have h7 := I.2.1
    have h8 := I.2.2
    clear I ih
    obtain ⟨t, rfl⟩ : ∃ t : Fin k0_t1_loop.trips, t.val = k := ⟨⟨k, by rw [trips_eq]; omega⟩, rfl⟩
    have E := trip_eq c i arg1 harg1 arg2 harg2 arg3 harg3 arg4 harg4 arg5 harg5 arg6 harg6 arg7 harg7 arg8 harg8 arg9 harg9 arg10 harg10 arg11 harg11 arg12 harg12 x1 x2 x3 x4 x5 x6 t (st_k0_t1 (F := F) Variants.none c none i arg1 harg1 arg2 harg2 arg3 harg3 arg4 harg4 arg5 harg5 arg6 harg6 arg7 harg7 arg8 harg8 arg9 harg9 arg10 harg10 arg11 harg11 arg12 harg12 x5 x6 (harg1.unread x1) (harg2.unread x2) (harg3.unread x3) (harg4.unread x4) a0 t.val).1
    have A := accs_succ x1 x2 x3 x4 x5 x6 a0 t
    rw [st_k0_t1_succ]
    simp only [tripR_k0_t1, tripL_k0_t1]
    rw [E.1, E.2.1, E.2.2, e, List.singleton_append, List.singleton_append]
    refine ⟨A.symm, fun f y hy => ?_, fun f y hy => ?_⟩
    · refine writes_row arg7.view f _ (fun n => (accs x1 x2 x3 x4 x5 x6 a0 n).1) t _ (fun x => ?_) (h7 f) y hy
      rw [wrote7 x1 x2 x3 x4 x5 x6 t, A]
    · refine writes_row arg8.view f _ (fun n => (accs x1 x2 x3 x4 x5 x6 a0 n).2.1) t _ (fun x => ?_) (h8 f) y hy
      rw [wrote8 x1 x2 x3 x4 x5 x6 t, A]

/-- The carries and the sums a first point starts from. -/
def clear : Acc F := (k0_pay1, k0_pay2, k0_pay3, k0_pay4)

/-- What the first point leaves in its buffers, whatever they held. -/
theorem leftA (hc : first i) :
    (∀ f, arg7.view.read (Elt F) (arg7.view.writes (Elt F) f (runA (F := F) c i arg1 harg1 arg2 harg2 arg3 harg3 arg4 harg4 arg5 harg5 arg6 harg6 arg7 harg7 arg8 harg8 arg9 harg9 arg10 harg10 arg11 harg11 arg12 harg12 hc x1 x2 x3 x4 x5 x6).1) = rows (fun n => (accs x1 x2 x3 x4 x5 x6 clear n).1))
    ∧ (∀ f, arg8.view.read (Elt F) (arg8.view.writes (Elt F) f (runA (F := F) c i arg1 harg1 arg2 harg2 arg3 harg3 arg4 harg4 arg5 harg5 arg6 harg6 arg7 harg7 arg8 harg8 arg9 harg9 arg10 harg10 arg11 harg11 arg12 harg12 hc x1 x2 x3 x4 x5 x6).2.1) = rows (fun n => (accs x1 x2 x3 x4 x5 x6 clear n).2.1))
    ∧ (∀ f, arg9.view.read (Elt F) (arg9.view.writes (Elt F) f (runA (F := F) c i arg1 harg1 arg2 harg2 arg3 harg3 arg4 harg4 arg5 harg5 arg6 harg6 arg7 harg7 arg8 harg8 arg9 harg9 arg10 harg10 arg11 harg11 arg12 harg12 hc x1 x2 x3 x4 x5 x6).2.2.1) = (accs x1 x2 x3 x4 x5 x6 clear count).2.2.1)
    ∧ (∀ f, arg10.view.read (Elt F) (arg10.view.writes (Elt F) f (runA (F := F) c i arg1 harg1 arg2 harg2 arg3 harg3 arg4 harg4 arg5 harg5 arg6 harg6 arg7 harg7 arg8 harg8 arg9 harg9 arg10 harg10 arg11 harg11 arg12 harg12 hc x1 x2 x3 x4 x5 x6).2.2.2.1) = (accs x1 x2 x3 x4 x5 x6 clear count).2.2.2)
    ∧ (∀ f, arg11.view.read (Elt F) (arg11.view.writes (Elt F) f (runA (F := F) c i arg1 harg1 arg2 harg2 arg3 harg3 arg4 harg4 arg5 harg5 arg6 harg6 arg7 harg7 arg8 harg8 arg9 harg9 arg10 harg10 arg11 harg11 arg12 harg12 hc x1 x2 x3 x4 x5 x6).2.2.2.2.1) = (accs x1 x2 x3 x4 x5 x6 clear count).1)
    ∧ (∀ f, arg12.view.read (Elt F) (arg12.view.writes (Elt F) f (runA (F := F) c i arg1 harg1 arg2 harg2 arg3 harg3 arg4 harg4 arg5 harg5 arg6 harg6 arg7 harg7 arg8 harg8 arg9 harg9 arg10 harg10 arg11 harg11 arg12 harg12 hc x1 x2 x3 x4 x5 x6).2.2.2.2.2.1) = (accs x1 x2 x3 x4 x5 x6 clear count).2.1) := by
  have T : Scf.trips (0#32) (Scalar.addi 0#32 256#32) 1#32 = count := trips_eq.trans count_eq.symm
  have E := loop_eq c i arg1 harg1 arg2 harg2 arg3 harg3 arg4 harg4 arg5 harg5 arg6 harg6 arg7 harg7 arg8 harg8 arg9 harg9 arg10 harg10 arg11 harg11 arg12 harg12 x1 x2 x3 x4 x5 x6 clear count (le_of_eq count_eq)
  have e := E.1
  have h7 := E.2.1
  have h8 := E.2.2
  clear E
  unfold runA
  dsimp only
  sl_unfold_words
  simp only [View.readAt_eq_ld, harg5.read_unread, harg6.read_unread, View.ld_unit_zero (S := S32x128) Rows.hz2, View.readCov_unit_zero (S := S32x128) _ Rows.hz2]
  rw [T]
  unfold k0_pay5 k0_pay6 k0_pay15 k0_pay16
  simp only [shapeCast_self]
  refine ⟨fun f => funext fun y => h7 f y (by rw [count_eq]; omega), fun f => funext fun y => h8 f y (by rw [count_eq]; omega), fun f => ?_, fun f => ?_, fun f => ?_, fun f => ?_⟩
  all_goals rw [View.read_writes_full]
  all_goals rw [← e]
  all_goals rfl

/-- What a later point leaves in its buffers, whatever they held. -/
theorem leftB (hc : ¬first i) (x9 x10 x11 x12 : Vec F S32x128 .f32) :
    (∀ f, arg7.view.read (Elt F) (arg7.view.writes (Elt F) f (runB (F := F) c i arg1 harg1 arg2 harg2 arg3 harg3 arg4 harg4 arg5 harg5 arg6 harg6 arg7 harg7 arg8 harg8 arg9 harg9 arg10 harg10 arg11 harg11 arg12 harg12 hc x1 x2 x3 x4 x5 x6 x9 x10 x11 x12).1) = rows (fun n => (accs x1 x2 x3 x4 x5 x6 (x11, x12, x9, x10) n).1))
    ∧ (∀ f, arg8.view.read (Elt F) (arg8.view.writes (Elt F) f (runB (F := F) c i arg1 harg1 arg2 harg2 arg3 harg3 arg4 harg4 arg5 harg5 arg6 harg6 arg7 harg7 arg8 harg8 arg9 harg9 arg10 harg10 arg11 harg11 arg12 harg12 hc x1 x2 x3 x4 x5 x6 x9 x10 x11 x12).2.1) = rows (fun n => (accs x1 x2 x3 x4 x5 x6 (x11, x12, x9, x10) n).2.1))
    ∧ (∀ f, arg9.view.read (Elt F) (arg9.view.writes (Elt F) f (runB (F := F) c i arg1 harg1 arg2 harg2 arg3 harg3 arg4 harg4 arg5 harg5 arg6 harg6 arg7 harg7 arg8 harg8 arg9 harg9 arg10 harg10 arg11 harg11 arg12 harg12 hc x1 x2 x3 x4 x5 x6 x9 x10 x11 x12).2.2.1) = (accs x1 x2 x3 x4 x5 x6 (x11, x12, x9, x10) count).2.2.1)
    ∧ (∀ f, arg10.view.read (Elt F) (arg10.view.writes (Elt F) f (runB (F := F) c i arg1 harg1 arg2 harg2 arg3 harg3 arg4 harg4 arg5 harg5 arg6 harg6 arg7 harg7 arg8 harg8 arg9 harg9 arg10 harg10 arg11 harg11 arg12 harg12 hc x1 x2 x3 x4 x5 x6 x9 x10 x11 x12).2.2.2.1) = (accs x1 x2 x3 x4 x5 x6 (x11, x12, x9, x10) count).2.2.2)
    ∧ (∀ f, arg11.view.read (Elt F) (arg11.view.writes (Elt F) f (runB (F := F) c i arg1 harg1 arg2 harg2 arg3 harg3 arg4 harg4 arg5 harg5 arg6 harg6 arg7 harg7 arg8 harg8 arg9 harg9 arg10 harg10 arg11 harg11 arg12 harg12 hc x1 x2 x3 x4 x5 x6 x9 x10 x11 x12).2.2.2.2.1) = (accs x1 x2 x3 x4 x5 x6 (x11, x12, x9, x10) count).1)
    ∧ (∀ f, arg12.view.read (Elt F) (arg12.view.writes (Elt F) f (runB (F := F) c i arg1 harg1 arg2 harg2 arg3 harg3 arg4 harg4 arg5 harg5 arg6 harg6 arg7 harg7 arg8 harg8 arg9 harg9 arg10 harg10 arg11 harg11 arg12 harg12 hc x1 x2 x3 x4 x5 x6 x9 x10 x11 x12).2.2.2.2.2.1) = (accs x1 x2 x3 x4 x5 x6 (x11, x12, x9, x10) count).2.1) := by
  have T : Scf.trips (0#32) (Scalar.addi 0#32 256#32) 1#32 = count := trips_eq.trans count_eq.symm
  have E := loop_eq c i arg1 harg1 arg2 harg2 arg3 harg3 arg4 harg4 arg5 harg5 arg6 harg6 arg7 harg7 arg8 harg8 arg9 harg9 arg10 harg10 arg11 harg11 arg12 harg12 x1 x2 x3 x4 x5 x6 (x11, x12, x9, x10) count (le_of_eq count_eq)
  have e := E.1
  have h7 := E.2.1
  have h8 := E.2.2
  clear E
  unfold runB
  dsimp only
  sl_unfold_words
  simp only [View.readAt_eq_ld, harg5.read_unread, harg6.read_unread, harg9.read_unread, harg10.read_unread, harg11.read_unread, harg12.read_unread, View.ld_unit_zero (S := S32x128) Rows.hz2, View.readCov_unit_zero (S := S32x128) _ Rows.hz2]
  rw [T]
  unfold k0_pay5 k0_pay6 k0_pay15 k0_pay16
  simp only [shapeCast_self]
  refine ⟨fun f => funext fun y => h7 f y (by rw [count_eq]; omega), fun f => funext fun y => h8 f y (by rw [count_eq]; omega), fun f => ?_, fun f => ?_, fun f => ?_, fun f => ?_⟩
  all_goals rw [View.read_writes_full]
  all_goals rw [← e]
  all_goals rfl

end Run

end Cert.DscanIdeal.Scan

end
-- ==== Proof.ScanFrame.lean ====
/-
  The S5 scan gradient's kernel point by point, over any float values: what every block and both scratch arrays hold after
  each point of the grid, and the run of the whole program to it.
-/
module

public import proofs.«01_k».proof.Proof.ScanVal
public import Idealize.ShloMosaic.Lib.Claim
public import Idealize.ShloMosaic.Lib.WordCmp

@[expose] public section

set_option maxRecDepth 16384

noncomputable section

namespace Cert.DscanIdeal.Scan

open Cert.DscanIdeal Cert.DscanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The branch is taken at the first point. -/
theorem first_iff : ∀ t : Fin cfg0.N, first (grid0.coords t) ↔ t.val = 0 :=
  (by unfold first; decide +kernel : ∀ t : Fin grid0.N, first (grid0.coords t) ↔ t.val = 0)

/-- The trips of point `t`, from the carries and sums `a`. -/
def trips (c : Dev nD) (t : Fin cfg0.N) (a : Acc F) : ℕ → Acc F :=
  accs (iblk m c 0 t) (iblk m c 1 t) (iblk m c 2 t) (iblk m c 3 t) (iblk m c 4 t) (iblk m c 5 t) a

/-- The carries and the sums before each point. -/
def state (c : Dev nD) : ℕ → Acc F
  | 0 => clear
  | n + 1 => if h : n < cfg0.N then trips m c ⟨n, h⟩ (state c n) count else state c n

theorem state_succ (c : Dev nD) (t : Fin cfg0.N) : state m c (t.val + 1) = trips m c t (state m c t.val) count := by
  rw [state]; exact dif_pos t.isLt

/-- The two scratch arrays. -/
abbrev scr (w : Fin 2) : Memref sig .tc .vmem S32x128 .f32 :=
  match w with
  | 0 => Memref.whole cc0_scratch0
  | 1 => Memref.whole cc0_scratch1

/-- The region's invariant: before the first point the scratch arrays hold anything, later the carries. -/
def inv (c : Dev nD) : ℕ → sProp (MT nD τ sig Unit (Elt F) ℕ (UR sig nD τ) ℕ)
  | 0 => Pipeline.ΦA spec0 c
  | n + 1 => iprop(iprop(owns (c : Thread nD τ) (scr 0) fullShare (state m c (n + 1)).1
      ∗ owns (c : Thread nD τ) (scr 1) fullShare (state m c (n + 1)).2.1) ∗ (∃ r, prngReg c r))

theorem inv_zero (c : Dev nD) (n : ℕ) (h : n = 0) :
    (inv (F := F) m c n) = iprop(iprop((∃ d, owns (c : Thread nD τ) (scr 0) fullShare d)
      ∗ (∃ d, owns (c : Thread nD τ) (scr 1) fullShare d)) ∗ (∃ r, prngReg c r)) := by
  subst h
  show Pipeline.ΦA spec0 c = _
  unfold Pipeline.ΦA; rw [scopedRest0_eq]; simp only [scr, owns_whole]; try rfl

theorem inv_pos (c : Dev nD) (n : ℕ) (h : n ≠ 0) :
    inv m c n = iprop(iprop(owns (c : Thread nD τ) (scr 0) fullShare (state m c n).1
      ∗ owns (c : Thread nD τ) (scr 1) fullShare (state m c n).2.1) ∗ (∃ r, prngReg c r)) := by
  cases n with
  | zero => exact absurd rfl h
  | succ n => rfl

/-- What every window's block holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rows fun n => (trips m c t (state m c t.val) n).1
    | ⟨7, _⟩ => rows fun n => (trips m c t (state m c t.val) n).2.1
    | ⟨8, _⟩ => (state m c (t.val + 1)).2.2.1
    | ⟨9, _⟩ => (state m c (t.val + 1)).2.2.2
  Φ t := inv m c t.val
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val := rfl
theorem inv_next (c : Dev nD) (t : Fin cfg0.N) : (dats m 0 c).Φ t.succ = inv m c (t.val + 1) := rfl

theorem after_0 (c : Dev nD) (t : Fin cfg0.N) : (dats m 0 c).after 0 t = (iblk m c 0 t) := by dsimp only [dats]
theorem after_1 (c : Dev nD) (t : Fin cfg0.N) : (dats m 0 c).after 1 t = (iblk m c 1 t) := by dsimp only [dats]
theorem after_2 (c : Dev nD) (t : Fin cfg0.N) : (dats m 0 c).after 2 t = (iblk m c 2 t) := by dsimp only [dats]
theorem after_3 (c : Dev nD) (t : Fin cfg0.N) : (dats m 0 c).after 3 t = (iblk m c 3 t) := by dsimp only [dats]
theorem after_4 (c : Dev nD) (t : Fin cfg0.N) : (dats m 0 c).after 4 t = (iblk m c 4 t) := by dsimp only [dats]
theorem after_5 (c : Dev nD) (t : Fin cfg0.N) : (dats m 0 c).after 5 t = (iblk m c 5 t) := by dsimp only [dats]
theorem after_6 (c : Dev nD) (t : Fin cfg0.N) : (dats m 0 c).after 6 t = (rows fun n => (trips m c t (state m c t.val) n).1) := by dsimp only [dats]
theorem after_7 (c : Dev nD) (t : Fin cfg0.N) : (dats m 0 c).after 7 t = (rows fun n => (trips m c t (state m c t.val) n).2.1) := by dsimp only [dats]
theorem after_8 (c : Dev nD) (t : Fin cfg0.N) : (dats m 0 c).after 8 t = ((state m c (t.val + 1)).2.2.1) := by dsimp only [dats]
theorem after_9 (c : Dev nD) (t : Fin cfg0.N) : (dats m 0 c).after 9 t = ((state m c (t.val + 1)).2.2.2) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A later point finds in the block of window 8 the sum the point before left. -/
theorem before_8 (c : Dev nD) (t : Fin cfg0.N) (ht : t.val ≠ 0) (d) : (dats m 0 c).before 8 t d = (state m c t.val).2.2.1 := by
  have hp : t.val - 1 < cfg0.N := Nat.lt_of_le_of_lt (Nat.sub_le _ _) t.isLt
  have hf : (cfg0.win 8).flush ⟨t.val - 1, hp⟩ = false := by
    rw [← Bool.not_eq_true]
    intro h
    have h1 := (flush0_8 _).mp h
    have h2 : t.val < 16 := lt_of_lt_of_eq t.isLt N_0
    dsimp only at h1
    omega
  rw [(dats m 0 c).before_out_kept 8 rfl t ht hf (fun _ => rfl) (fun _ _ => rfl) d, after_8]
  dsimp only
  rw [Nat.sub_add_cancel (Nat.pos_of_ne_zero ht)]

/-- A later point finds in the block of window 9 the sum the point before left. -/
theorem before_9 (c : Dev nD) (t : Fin cfg0.N) (ht : t.val ≠ 0) (d) : (dats m 0 c).before 9 t d = (state m c t.val).2.2.2 := by
  have hp : t.val - 1 < cfg0.N := Nat.lt_of_le_of_lt (Nat.sub_le _ _) t.isLt
  have hf : (cfg0.win 9).flush ⟨t.val - 1, hp⟩ = false := by
    rw [← Bool.not_eq_true]
    intro h
    have h1 := (flush0_9 _).mp h
    have h2 : t.val < 16 := lt_of_lt_of_eq t.isLt N_0
    dsimp only at h1
    omega
  rw [(dats m 0 c).before_out_kept 9 rfl t ht hf (fun _ => rfl) (fun _ _ => rfl) d, after_9]
  dsimp only
  rw [Nat.sub_add_cancel (Nat.pos_of_ne_zero ht)]

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- No window is idle: each leaves its buffer at what is stated. -/
theorem leaves (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact
  rw [show cfg0.idle w (cfg0.grid.coords t) = false from rfl]

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves, after_0, after_1, after_2, after_3, after_4, after_5, after_6, after_7, after_8, after_9]
  rw [show (dats m 0 c).owesAt () t.succ = (dats m 0 c).owesAt () t.castSucc from rfl]
  by_cases h0 : t.val = 0
  · have L := leftA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (scr 0) (Memref.isWhole_whole _) (scr 1) (Memref.isWhole_whole _) (iblk m c 0 t) (iblk m c 1 t) (iblk m c 2 t) (iblk m c 3 t) (iblk m c 4 t) (iblk m c 5 t) ((first_iff t).mpr h0)
    rw [inv_castSucc, inv_zero m c _ h0, inv_next, inv_pos m c _ (Nat.succ_ne_zero _), state_succ]
    rw [show state m c t.val = clear by rw [h0]; rfl]
    iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (scr 0) (Memref.isWhole_whole _) (scr 1) (Memref.isWhole_whole _) ((first_iff t).mpr h0) (iblk m c 0 t) (iblk m c 1 t) (iblk m c 2 t) (iblk m c 3 t) (iblk m c 4 t) (iblk m c 5 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HA]; · iexact HA
    isplitl [HB]; · iexact HB
    iintro ⟨H0, H1, H2, H3, H4, H5, ⟨%e6, H6⟩, ⟨%e7, H7⟩, ⟨%e8, H8⟩, ⟨%e9, H9⟩, ⟨%eA, HA⟩, ⟨%eB, HB⟩⟩
    isplitl [HA HB Hg]
    · isplitl [HA HB]
      · isplitl [HA]
        · unfold owns; iexists _; isplitr; swap; · iexact HA
          ipureintro; exact L.2.2.2.2.1 _
        unfold owns; iexists _; isplitr; swap; · iexact HB
        ipureintro; exact L.2.2.2.2.2 _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; exact L.1 _
    isplitl [H7]
    · unfold owns; iexists _; isplitr; swap; · iexact H7
      ipureintro; exact L.2.1 _
    isplitl [H8]
    · unfold owns; iexists _; isplitr; swap; · iexact H8
      ipureintro; exact L.2.2.1 _
    unfold owns; iexists _; isplitr; swap; · iexact H9
    ipureintro; exact L.2.2.2.1 _
  · have L := leftB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (scr 0) (Memref.isWhole_whole _) (scr 1) (Memref.isWhole_whole _) (iblk m c 0 t) (iblk m c 1 t) (iblk m c 2 t) (iblk m c 3 t) (iblk m c 4 t) (iblk m c 5 t) (fun h => h0 ((first_iff t).mp h)) (state m c t.val).2.2.1 (state m c t.val).2.2.2 (state m c t.val).1 (state m c t.val).2.1
    rw [inv_castSucc, inv_pos m c _ h0, inv_next, inv_pos m c _ (Nat.succ_ne_zero _), state_succ]
    simp only [before_8 m c t h0, before_9 m c t h0]
    iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (scr 0) (Memref.isWhole_whole _) (scr 1) (Memref.isWhole_whole _) (fun h => h0 ((first_iff t).mp h)) (iblk m c 0 t) (iblk m c 1 t) (iblk m c 2 t) (iblk m c 3 t) (iblk m c 4 t) (iblk m c 5 t) (state m c t.val).2.2.1 (state m c t.val).2.2.2 (state m c t.val).1 (state m c t.val).2.1).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HA]; · iexact HA
    isplitl [HB]; · iexact HB
    iintro ⟨H0, H1, H2, H3, H4, H5, ⟨%e6, H6⟩, ⟨%e7, H7⟩, ⟨%e8, H8⟩, ⟨%e9, H9⟩, ⟨%eA, HA⟩, ⟨%eB, HB⟩⟩
    isplitl [HA HB Hg]
    · isplitl [HA HB]
      · isplitl [HA]
        · unfold owns; iexists _; isplitr; swap; · iexact HA
          ipureintro; exact L.2.2.2.2.1 _
        unfold owns; iexists _; isplitr; swap; · iexact HB
        ipureintro; exact L.2.2.2.2.2 _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr; swap; · iexact H6
      ipureintro; exact L.1 _
    isplitl [H7]
    · unfold owns; iexists _; isplitr; swap; · iexact H7
      ipureintro; exact L.2.1 _
    isplitl [H8]
    · unfold owns; iexists _; isplitr; swap; · iexact H8
      ipureintro; exact L.2.2.1 _
    unfold owns; iexists _; isplitr; swap; · iexact H9
    ipureintro; exact L.2.2.2.1 _

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives back what the launch handed over. -/
theorem hout (c : Dev nD) : (dats m 0 c).Φ (Fin.last cfg0.N) ⊢ Pipeline.ΦA spec0 c := by
  rw [show (dats m 0 c).Φ (Fin.last cfg0.N) = inv m c cfg0.N from rfl,
    inv_pos m c _ (by have : cfg0.N = 16 := N_0; omega), show Pipeline.ΦA spec0 c = inv m c 0 from rfl, inv_zero m c 0 rfl]
  iintro ⟨⟨HA, HB⟩, Hg⟩
  isplitl [HA HB]
  · isplitl [HA]
    · iexists _; iexact HA
    iexists _; iexact HB
  iexact Hg

set_option backward.isDefEq.respectTransparency.types false in
/-- The run of the whole program, with every semaphore back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the whole program: every array of the region ends at what the data above gives it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.DscanIdeal.Scan

end
-- ==== Proof.ScanSum.lean ====
/-
  The recurrence that the gradient of a complex linear recurrence follows, at one place of the state, backwards in time:
  `g ← d + conj(a) · g`, with the two sums `Σ g · conj(h)` beside it. The kernel keeps `g`; the reference keeps
  `conj(a) · g`. Over the extended reals the two are the same without any condition.
-/
module

public import Mathlib.Data.EReal.Operations
public import Mathlib.Algebra.BigOperators.Fin
public import Mathlib.Algebra.BigOperators.Intervals

@[expose] public section

noncomputable section

namespace Cert.ScanSum

/-- What one step leaves of the gradient (real and imaginary part) and of the two sums, from the step's `d` and `h`. -/
def adv (x y u v p q : EReal) (s : EReal × EReal × EReal × EReal) : EReal × EReal × EReal × EReal :=
  (u + x * s.1 + y * s.2.1, v - y * s.1 + x * s.2.1,
    s.2.2.1 + (u + x * s.1 + y * s.2.1) * p + (v - y * s.1 + x * s.2.1) * q,
    s.2.2.2 - (u + x * s.1 + y * s.2.1) * q + (v - y * s.1 + x * s.2.1) * p)

section Chain
variable (x y : EReal) (u v p q : ℕ → EReal)

/-- The gradient and the sums before each step. -/
def chain : ℕ → EReal × EReal × EReal × EReal
  | 0 => (0, 0, 0, 0)
  | n + 1 => adv x y (u n) (v n) (p n) (q n) (chain n)

/-- What the reference carries: the gradient times the conjugate of the factor. -/
def backRe (n : ℕ) : EReal := y * (chain x y u v p q n).2.1 + x * (chain x y u v p q n).1
/-- Its imaginary part. -/
def backIm (n : ℕ) : EReal := x * (chain x y u v p q n).2.1 + y * -(chain x y u v p q n).1

theorem backRe_zero : backRe x y u v p q 0 = 0 := by simp [backRe, chain]
theorem backIm_zero : backIm x y u v p q 0 = 0 := by simp [backIm, chain]

/-- The step's `d` added to what the reference carries is the next gradient. -/
theorem backRe_add (n : ℕ) : backRe x y u v p q n + u n = (chain x y u v p q (n + 1)).1 := by
  show _ = u n + x * _ + y * _
  unfold backRe
  rw [add_comm, add_assoc, add_comm (y * _)]

theorem backIm_add (n : ℕ) : backIm x y u v p q n + v n = (chain x y u v p q (n + 1)).2.1 := by
  show _ = v n - y * _ + x * _
  unfold backIm
  rw [add_comm, mul_neg, sub_eq_add_neg, add_assoc, add_comm (x * _)]

/-- The first sum, written out. -/
theorem sum_re (n : ℕ) : (chain x y u v p q n).2.2.1
    = ∑ k ∈ Finset.range n, ((chain x y u v p q (k + 1)).2.1 * q k + (chain x y u v p q (k + 1)).1 * p k) := by
  induction n with
  | zero => rfl
  | succ n ih =>
    rw [Finset.sum_range_succ, ← ih, add_comm (_ * q n), ← add_assoc]
    rfl

/-- The second sum, written out. -/
theorem sum_im (n : ℕ) : (chain x y u v p q n).2.2.2
    = ∑ k ∈ Finset.range n, ((chain x y u v p q (k + 1)).2.1 * p k + -(chain x y u v p q (k + 1)).1 * q k) := by
  induction n with
  | zero => rfl
  | succ n ih =>
    rw [Finset.sum_range_succ, ← ih, add_comm (_ * p n), ← add_assoc, EReal.neg_mul, ← sub_eq_add_neg]
    rfl

end Chain

/-- A sum over steps backwards in time is the two sums over the places. -/
theorem sum_places {N : ℕ} (f g : ℕ → EReal) :
    ∑ k ∈ Finset.range N, (f k + g k) = (∑ r : Fin N, f (N - 1 - r.val)) + ∑ r : Fin N, g (N - 1 - r.val) := by
  rw [Finset.sum_add_distrib, ← Finset.sum_range_reflect f, ← Finset.sum_range_reflect g, Finset.sum_range, Finset.sum_range]

end Cert.ScanSum

end
-- ==== Proof.ScanArr.lean ====
/-
  The arrays the S5 scan gradient's kernel leaves, over the extended reals: at each place of the state the rows are the
  recurrence of `ScanSum` read backwards in time, and the two sums are that recurrence's sums at its end.
-/
module

public import proofs.«01_k».proof.Proof.ScanFrame
public import proofs.«01_k».proof.Proof.ScanSum
public import Idealize.ShloMosaic.Lib.Pointwise
public import Idealize.ShloMosaic.Lib.Pipeline.ValueKit

@[expose] public section

set_option maxRecDepth 16384

noncomputable section

namespace Cert.DscanIdeal.Scan

open Cert.DscanIdeal Cert.DscanIdeal.Gen
open Idealize.ShloMosaic Idealize.ShloMosaic.TcCoe Idealize.ShloMosaic.Tactic Idealize.ShloMosaic.Pointwise
open Cert.ScanSum (adv chain)

/-! ## At one place of the state -/

/-- An array's rows at one place of the state, counted from the last. -/
def back (z : FVec Ideal S4096x32x128 .f32) (i : Fin 32) (j : Fin 128) (n : ℕ) : EReal :=
  z (ix3 ⟨4095 - n, by omega⟩ i j)

/-- The carries and the sums at one place of the state. -/
def place (a : Acc Ideal) (i : Fin 32) (j : Fin 128) : EReal × EReal × EReal × EReal :=
  (a.1 (ix2 i j), a.2.1 (ix2 i j), a.2.2.1 (ix2 i j), a.2.2.2 (ix2 i j))

theorem place_clear (i : Fin 32) (j : Fin 128) : place clear i j = (0, 0, 0, 0) := by
  unfold place clear k0_pay1 k0_pay2 k0_pay3 k0_pay4
  pointwise

/-- One trip at one place of the state. -/
theorem place_trip (x1 x2 x3 x4 : FVec Ideal S256x32x128 .f32) (x5 x6 : FVec Ideal S32x128 .f32) (k : Fin k0_t1_loop.trips) (a : Acc Ideal)
    (i : Fin 32) (j : Fin 128) :
    place (tripVal (F := Ideal) x1 x2 x3 x4 x5 x6 k a) i j
      = adv (x5 (ix2 i j)) (x6 (ix2 i j)) (row (F := Ideal) x1 k (ix3 0 i j)) (row (F := Ideal) x2 k (ix3 0 i j))
          (row (F := Ideal) x3 k (ix3 0 i j)) (row (F := Ideal) x4 k (ix3 0 i j)) (place a i j) := by
  unfold place tripVal adv k0_pay14 k0_pay13 k0_pay8 k0_pay7 k0_pay11 k0_pay12
  generalize row (F := Ideal) x1 k = r1
  generalize row (F := Ideal) x2 k = r2
  generalize row (F := Ideal) x3 k = r3
  generalize row (F := Ideal) x4 k = r4
  pointwise

/-- The row of a block that a trip reads, at one place. -/
theorem row_apply (x : FVec Ideal S256x32x128 .f32) (k : Fin k0_t1_loop.trips) (i : Fin 32) (j : Fin 128) :
    row (F := Ideal) x k (ix3 0 i j) = x (ix3 ⟨255 - k.val, by omega⟩ i j) := by
  unfold row View.ld
  congr 1
  funext a
  apply Fin.ext
  have h0 := congrFun (k0_off1_eq k) 0
  have h1 := congrFun (k0_off1_eq k) 1
  have h2 := congrFun (k0_off1_eq k) 2
  match a with
  | ⟨0, _⟩ => show k0_off1 k 0 + 1 * 0 = _; rw [h0]; rfl
  | ⟨1, _⟩ => show k0_off1 k 1 + 1 * i.val = _; rw [h1]; show 0 + 1 * i.val = i.val; omega
  | ⟨2, _⟩ => show k0_off1 k 2 + 1 * j.val = _; rw [h2]; show 0 + 1 * j.val = j.val; omega

variable (m : (ℓ : Loc nD τ sig) → Buf (Elt Ideal) ℓ) (c : Dev nD)

/-- The saved states, real parts. -/
abbrev arg0 : FVec Ideal S4096x32x128 .f32 := m ((c.tc : Thread nD τ).loc main_arg0)
/-- The saved states, imaginary parts. -/
abbrev arg1 : FVec Ideal S4096x32x128 .f32 := m ((c.tc : Thread nD τ).loc main_arg1)
/-- The factor, real part. -/
abbrev arg2 : FVec Ideal S32x128 .f32 := m ((c.tc : Thread nD τ).loc main_arg2)
/-- The factor, imaginary part. -/
abbrev arg3 : FVec Ideal S32x128 .f32 := m ((c.tc : Thread nD τ).loc main_arg3)
/-- The gradient of the states, real parts. -/
abbrev arg4 : FVec Ideal S4096x32x128 .f32 := m ((c.tc : Thread nD τ).loc main_arg4)
/-- The gradient of the states, imaginary parts. -/
abbrev arg5 : FVec Ideal S4096x32x128 .f32 := m ((c.tc : Thread nD τ).loc main_arg5)

/-- The recurrence at one place of the state. -/
abbrev seq (i : Fin 32) (j : Fin 128) : ℕ → EReal × EReal × EReal × EReal :=
  chain (arg2 m c (ix2 i j)) (arg3 m c (ix2 i j)) (back (arg4 m c) i j) (back (arg5 m c) i j) (back (arg0 m c) i j) (back (arg1 m c) i j)

/-! ## The blocks -/

theorem points (t : Fin cfg0.N) : t.val < 16 := t.isLt.trans_eq (show cfg0.N = 16 from N_0)

theorem index_0 : ∀ t : Fin grid0.N, win0_0.index t 0 = 15 - t.val ∧ win0_0.index t 1 = 0 ∧ win0_0.index t 2 = 0 := by decide +kernel
theorem index_1 : ∀ t : Fin grid0.N, win0_1.index t 0 = 15 - t.val ∧ win0_1.index t 1 = 0 ∧ win0_1.index t 2 = 0 := by decide +kernel
theorem index_2 : ∀ t : Fin grid0.N, win0_2.index t 0 = 15 - t.val ∧ win0_2.index t 1 = 0 ∧ win0_2.index t 2 = 0 := by decide +kernel
theorem index_3 : ∀ t : Fin grid0.N, win0_3.index t 0 = 15 - t.val ∧ win0_3.index t 1 = 0 ∧ win0_3.index t 2 = 0 := by decide +kernel
theorem index_6 : ∀ t : Fin grid0.N, win0_6.index t 0 = 15 - t.val ∧ win0_6.index t 1 = 0 ∧ win0_6.index t 2 = 0 := by decide +kernel
theorem index_7 : ∀ t : Fin grid0.N, win0_7.index t 0 = 15 - t.val ∧ win0_7.index t 1 = 0 ∧ win0_7.index t 2 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 := by decide +kernel

/-- A row of a point's block counted from the last, in the whole array. -/
theorem back_block (z : FVec Ideal S4096x32x128 .f32) (x : FVec Ideal S256x32x128 .f32) (t k : ℕ) (ht : t < 16) (hk : k < 256)
    (h : ∀ (r : Fin 256) (i : Fin 32) (j : Fin 128), x (ix3 r i j) = z (ix3 ⟨256 * (15 - t) + r.val, by omega⟩ i j)) (i : Fin 32) (j : Fin 128) :
    x (ix3 ⟨255 - k, by omega⟩ i j) = back z i j (256 * t + k) := by
  rw [h]
  unfold back
  congr 1
  congr 1
  apply Fin.ext
  show 256 * (15 - t) + (255 - k) = 4095 - (256 * t + k)
  omega

/-- Window 0's block at a point. -/
theorem block_0 (t : Fin cfg0.N) (r : Fin 256) (i : Fin 32) (j : Fin 128) :
    (iblk m c 0 t : FVec Ideal S256x32x128 .f32) (ix3 r i j) = arg4 m c (ix3 ⟨256 * (15 - t.val) + r.val, by have := points t; omega⟩ i j) := by
  unfold iblk
  rw [View.read_apply]
  show V m c main_arg4 _ = _
  rw [V_main_arg4]
  show m _ _ = m _ _
  congr 1
  funext a
  apply Fin.ext
  obtain ⟨h0, h1, h2⟩ := index_0 t
  match a with
  | ⟨0, _⟩ => show win0_0.index t 0 * 256 + 1 * r.val = 256 * (15 - t.val) + r.val; rw [h0]; omega
  | ⟨1, _⟩ => show win0_0.index t 1 * 32 + 1 * i.val = i.val; rw [h1]; omega
  | ⟨2, _⟩ => show win0_0.index t 2 * 128 + 1 * j.val = j.val; rw [h2]; omega

/-- Window 1's block at a point. -/
theorem block_1 (t : Fin cfg0.N) (r : Fin 256) (i : Fin 32) (j : Fin 128) :
    (iblk m c 1 t : FVec Ideal S256x32x128 .f32) (ix3 r i j) = arg5 m c (ix3 ⟨256 * (15 - t.val) + r.val, by have := points t; omega⟩ i j) := by
  unfold iblk
  rw [View.read_apply]
  show V m c main_arg5 _ = _
  rw [V_main_arg5]
  show m _ _ = m _ _
  congr 1
  funext a
  apply Fin.ext
  obtain ⟨h0, h1, h2⟩ := index_1 t
  match a with
  | ⟨0, _⟩ => show win0_1.index t 0 * 256 + 1 * r.val = 256 * (15 - t.val) + r.val; rw [h0]; omega
  | ⟨1, _⟩ => show win0_1.index t 1 * 32 + 1 * i.val = i.val; rw [h1]; omega
  | ⟨2, _⟩ => show win0_1.index t 2 * 128 + 1 * j.val = j.val; rw [h2]; omega

/-- Window 2's block at a point. -/
theorem block_2 (t : Fin cfg0.N) (r : Fin 256) (i : Fin 32) (j : Fin 128) :
    (iblk m c 2 t : FVec Ideal S256x32x128 .f32) (ix3 r i j) = arg0 m c (ix3 ⟨256 * (15 - t.val) + r.val, by have := points t; omega⟩ i j) := by
  unfold iblk
  rw [View.read_apply]
  show V m c main_arg0 _ = _
  rw [V_main_arg0]
  show m _ _ = m _ _
  congr 1
  funext a
  apply Fin.ext
  obtain ⟨h0, h1, h2⟩ := index_2 t
  match a with
  | ⟨0, _⟩ => show win0_2.index t 0 * 256 + 1 * r.val = 256 * (15 - t.val) + r.val; rw [h0]; omega
  | ⟨1, _⟩ => show win0_2.index t 1 * 32 + 1 * i.val = i.val; rw [h1]; omega
  | ⟨2, _⟩ => show win0_2.index t 2 * 128 + 1 * j.val = j.val; rw [h2]; omega

/-- Window 3's block at a point. -/
theorem block_3 (t : Fin cfg0.N) (r : Fin 256) (i : Fin 32) (j : Fin 128) :
    (iblk m c 3 t : FVec Ideal S256x32x128 .f32) (ix3 r i j) = arg1 m c (ix3 ⟨256 * (15 - t.val) + r.val, by have := points t; omega⟩ i j) := by
  unfold iblk
  rw [View.read_apply]
  show V m c main_arg1 _ = _
  rw [V_main_arg1]
  show m _ _ = m _ _
  congr 1
  funext a
  apply Fin.ext
  obtain ⟨h0, h1, h2⟩ := index_3 t
  match a with
  | ⟨0, _⟩ => show win0_3.index t 0 * 256 + 1 * r.val = 256 * (15 - t.val) + r.val; rw [h0]; omega
  | ⟨1, _⟩ => show win0_3.index t 1 * 32 + 1 * i.val = i.val; rw [h1]; omega
  | ⟨2, _⟩ => show win0_3.index t 2 * 128 + 1 * j.val = j.val; rw [h2]; omega

/-- Window 4's block is its array. -/
theorem block_4 (t : Fin cfg0.N) (i : Fin 32) (j : Fin 128) :
    (iblk m c 4 t : FVec Ideal S32x128 .f32) (ix2 i j) = arg2 m c (ix2 i j) := by
  unfold iblk
  rw [View.read_apply]
  show V m c main_arg2 _ = _
  rw [V_main_arg2]
  show m _ _ = m _ _
  congr 1
  funext a
  apply Fin.ext
  obtain ⟨h0, h1⟩ := index_4 t
  match a with
  | ⟨0, _⟩ => show win0_4.index t 0 * 32 + 1 * i.val = i.val; rw [h0]; omega
  | ⟨1, _⟩ => show win0_4.index t 1 * 128 + 1 * j.val = j.val; rw [h1]; omega

/-- Window 5's block is its array. -/
theorem block_5 (t : Fin cfg0.N) (i : Fin 32) (j : Fin 128) :
    (iblk m c 5 t : FVec Ideal S32x128 .f32) (ix2 i j) = arg3 m c (ix2 i j) := by
  unfold iblk
  rw [View.read_apply]
  show V m c main_arg3 _ = _
  rw [V_main_arg3]
  show m _ _ = m _ _
  congr 1
  funext a
  apply Fin.ext
  obtain ⟨h0, h1⟩ := index_5 t
  match a with
  | ⟨0, _⟩ => show win0_5.index t 0 * 32 + 1 * i.val = i.val; rw [h0]; omega
  | ⟨1, _⟩ => show win0_5.index t 1 * 128 + 1 * j.val = j.val; rw [h1]; omega

/-! ## The recurrence along the trips and the points -/

/-- A point's trips go on with the recurrence. -/
theorem place_trips (t : Fin cfg0.N) (a : Acc Ideal) (i : Fin 32) (j : Fin 128) (ha : place a i j = seq m c i j (256 * t.val)) :
    ∀ k : ℕ, k ≤ 256 → place (trips m c t a k) i j = seq m c i j (256 * t.val + k) := by
  intro k
  induction k with
  | zero => intro _; exact ha
  | succ k ih =>
    intro hk
    have ht := points t
    have e := accs_succ (F := Ideal) (iblk m c 0 t) (iblk m c 1 t) (iblk m c 2 t) (iblk m c 3 t) (iblk m c 4 t) (iblk m c 5 t) a
      ⟨k, by rw [trips_eq]; omega⟩
    unfold trips
    refine (congrArg (fun b => place b i j) e).trans ?_
    rw [place_trip, row_apply, row_apply, row_apply, row_apply]
    have b0 := back_block _ _ t.val k ht (by omega) (block_0 m c t) i j
    have b1 := back_block _ _ t.val k ht (by omega) (block_1 m c t) i j
    have b2 := back_block _ _ t.val k ht (by omega) (block_2 m c t) i j
    have b3 := back_block _ _ t.val k ht (by omega) (block_3 m c t) i j
    have h := ih (by omega)
    unfold trips at h
    rw [block_4, block_5, h]
    dsimp only at b0 b1 b2 b3 ⊢
    rw [b0, b1, b2, b3]
    rfl

/-- Before each point the carries and the sums are the recurrence's. -/
theorem place_state (i : Fin 32) (j : Fin 128) : ∀ n : ℕ, n ≤ 16 → place (state m c n) i j = seq m c i j (256 * n) := by
  intro n
  induction n with
  | zero => intro _; exact place_clear i j
  | succ n ih =>
    intro hn
    have e := state_succ m c ⟨n, by rw [show cfg0.N = 16 from N_0]; omega⟩
    refine (congrArg (fun b => place b i j) e).trans ?_
    rw [place_trips m c _ _ i j (ih (by omega)) count (le_of_eq count_eq), count_eq]
    rfl

/-! ## The arrays -/

/-- The gradient of the recurrence's inputs, real parts. -/
def res6 : FVec Ideal S4096x32x128 .f32 := fun y => (seq m c (y 1) (y 2) (4096 - (y 0).val)).1

theorem array_6 : (dats m 0 c).arrAt 6 cfg0.N = res6 m c := by
  refine (dats m 0 c).arrAt_eq_of_covers 6 _ (by decide +kernel) fun t hf y => ?_
  blk_simp
  rw [after_6]
  have ht := points t
  have hy : (y 0).val < 256 := (y 0).isLt
  have e := place_trips m c t _ (y 1) (y 2) (place_state m c (y 1) (y 2) t.val (by omega)) (256 - (y 0).val) (by omega)
  refine (congrArg (fun q : EReal × EReal × EReal × EReal => q.1) e).trans ?_
  have hx : (win0_6.blk t).view.emb y = ix3 (⟨256 * (15 - t.val) + (y 0).val, by omega⟩ : Fin 4096) (y 1 : Fin 32) (y 2 : Fin 128) := by
    obtain ⟨h0, h1, h2⟩ := index_6 t
    funext a
    apply Fin.ext
    match a with
    | ⟨0, _⟩ => show win0_6.index t 0 * 256 + 1 * (y 0).val = 256 * (15 - t.val) + (y 0).val; rw [h0]; omega
    | ⟨1, _⟩ => show win0_6.index t 1 * 32 + 1 * (y 1).val = (y 1).val; rw [h1]; omega
    | ⟨2, _⟩ => show win0_6.index t 2 * 128 + 1 * (y 2).val = (y 2).val; rw [h2]; omega
  rw [hx]
  show _ = (seq m c (y 1) (y 2) (4096 - (256 * (15 - t.val) + (y 0).val))).1
  rw [show 4096 - (256 * (15 - t.val) + (y 0).val) = 256 * t.val + (256 - (y 0).val) by omega]

/-- The gradient of the recurrence's inputs, imaginary parts. -/
def res7 : FVec Ideal S4096x32x128 .f32 := fun y => (seq m c (y 1) (y 2) (4096 - (y 0).val)).2.1

theorem array_7 : (dats m 0 c).arrAt 7 cfg0.N = res7 m c := by
  refine (dats m 0 c).arrAt_eq_of_covers 7 _ (by decide +kernel) fun t hf y => ?_
  blk_simp
  rw [after_7]
  have ht := points t
  have hy : (y 0).val < 256 := (y 0).isLt
  have e := place_trips m c t _ (y 1) (y 2) (place_state m c (y 1) (y 2) t.val (by omega)) (256 - (y 0).val) (by omega)
  refine (congrArg (fun q : EReal × EReal × EReal × EReal => q.2.1) e).trans ?_
  have hx : (win0_7.blk t).view.emb y = ix3 (⟨256 * (15 - t.val) + (y 0).val, by omega⟩ : Fin 4096) (y 1 : Fin 32) (y 2 : Fin 128) := by
    obtain ⟨h0, h1, h2⟩ := index_7 t
    funext a
    apply Fin.ext
    match a with
    | ⟨0, _⟩ => show win0_7.index t 0 * 256 + 1 * (y 0).val = 256 * (15 - t.val) + (y 0).val; rw [h0]; omega
    | ⟨1, _⟩ => show win0_7.index t 1 * 32 + 1 * (y 1).val = (y 1).val; rw [h1]; omega
    | ⟨2, _⟩ => show win0_7.index t 2 * 128 + 1 * (y 2).val = (y 2).val; rw [h2]; omega
  rw [hx]
  show _ = (seq m c (y 1) (y 2) (4096 - (256 * (15 - t.val) + (y 0).val))).2.1
  rw [show 4096 - (256 * (15 - t.val) + (y 0).val) = 256 * t.val + (256 - (y 0).val) by omega]

/-- The gradient of the factor, real part. -/
def res8 : FVec Ideal S32x128 .f32 := fun y => (seq m c (y 0) (y 1) 4096).2.2.1

theorem array_8 : (dats m 0 c).arrAt 8 cfg0.N = res8 m c := by
  refine (dats m 0 c).arrAt_eq_of_after_last 8 t0_15 (by decide +kernel) _ fun y => ?_
  blk_simp
  rw [after_8]
  have e := place_state m c (y 0) (y 1) 16 (le_refl _)
  have e' := congrArg (fun q : EReal × EReal × EReal × EReal => q.2.2.1) e
  rw [show 256 * 16 = 4096 from rfl] at e'
  unfold res8
  generalize seq m c (y 0) (y 1) 4096 = s at e' ⊢
  refine Eq.trans (congrArg (state m c 16).2.2.1 (?_ : y = ix2 (y 0) (y 1))) e'
  exact eq_ix2 y

/-- The gradient of the factor, imaginary part. -/
def res9 : FVec Ideal S32x128 .f32 := fun y => (seq m c (y 0) (y 1) 4096).2.2.2

theorem array_9 : (dats m 0 c).arrAt 9 cfg0.N = res9 m c := by
  refine (dats m 0 c).arrAt_eq_of_after_last 9 t0_15 (by decide +kernel) _ fun y => ?_
  blk_simp
  rw [after_9]
  have e := place_state m c (y 0) (y 1) 16 (le_refl _)
  have e' := congrArg (fun q : EReal × EReal × EReal × EReal => q.2.2.2) e
  rw [show 256 * 16 = 4096 from rfl] at e'
  unfold res9
  generalize seq m c (y 0) (y 1) 4096 = s at e' ⊢
  refine Eq.trans (congrArg (state m c 16).2.2.2 (?_ : y = ix2 (y 0) (y 1))) e'
  exact eq_ix2 y

end Cert.DscanIdeal.Scan

end
-- ==== Proof.ScanRef.lean ====
/-
  What the reference of the S5 scan gradient computes, over the extended reals: its loop keeps the recurrence of
  `ScanSum`, in the reference's own spelling, and writes its rows from the last to the first; the sums after the loop are
  the recurrence's sums.
-/
module

public import proofs.«01_k».proof.Proof.ScanArr
public import proofs.«01_k».proof.Proof.Gen.DscanRefIdeal.Run
public import Idealize.ShloMosaic.Lib.Pointwise
public import Idealize.ShloMosaic.Lib.WordCmp

@[expose] public section

set_option maxRecDepth 16384

noncomputable section

namespace Cert.DscanRefIdeal.Scan

open Cert.DscanRefIdeal Cert.DscanRefIdeal.Gen Cert.DscanRefIdeal.Value
open Idealize.ShloMosaic Idealize.ShloMosaic.TcCoe Idealize.ShloMosaic.Tactic Idealize.ShloMosaic.Pointwise
open Idealize.ShloMosaic.StableHlo
open Cert.ScanSum (adv chain backRe backIm)
open Cert.DscanIdeal.Scan (back)

/-! ## One row read and one row written -/

/-- Contents read as an array. -/
abbrev arr (x : FVec Ideal S4096x32x128 .f32) : FVec Ideal S4096x32x128 .f32 := x
/-- Contents read as one state. -/
abbrev mat (x : FVec Ideal S32x128 .f32) : FVec Ideal S32x128 .f32 := x

/-- Where a trip reads and writes. -/
abbrev start (a : (⟨S_, .i32⟩ : BufTy).Contents (Elt Ideal)) : Fin 3 → Int :=
  fun k => (((![a, constantI S_ 32 0#32, constantI S_ 32 0#32] : Fin 3 → (⟨S_, .i32⟩ : BufTy).Contents (Elt Ideal))) k (Shape.Idx.first h_S_)).toInt

/-- The row a trip reads. -/
theorem slice_row (x : FVec Ideal S4096x32x128 .f32) (a : IVec S_ 32) (n : ℕ) (hn : n < 4096) (h0 : (a (Shape.Idx.first h_S_)).toInt = n)
    (i : Fin 32) (j : Fin 128) :
    shapeCast S32x128 (Host.dynamicSlice S1x32x128 x (start a) sliceFits_S4096x32x128_S1x32x128) shapeCasts_S1x32x128_S32x128 (ix2 i j)
      = x (ix3 ⟨n, hn⟩ i j) := by
  have c0 := Host.clampedStart_of_le (s := S4096x32x128) (t := S1x32x128) rfl (start a) 0 n h0 (by show n + 1 ≤ 4096; omega)
  have c1 := Host.clampedStart_of_le (s := S4096x32x128) (t := S1x32x128) rfl (start a) 1 0 rfl (by show 0 + 32 ≤ 32; omega)
  have c2 := Host.clampedStart_of_le (s := S4096x32x128) (t := S1x32x128) rfl (start a) 2 0 rfl (by show 0 + 128 ≤ 128; omega)
  pointwise
  congr 1
  congr 1
  · exact Fin.ext c0
  · exact Fin.ext (by show _ + i.val = i.val; rw [c1, Nat.zero_add])
  · exact Fin.ext (by show _ + j.val = j.val; rw [c2, Nat.zero_add])

/-- What a trip carries added to the row it reads. -/
theorem add_row (z : FVec Ideal S32x128 .f32) (x : FVec Ideal S4096x32x128 .f32) (a : IVec S_ 32) (n : ℕ) (hn : n < 4096) (h0 : (a (Shape.Idx.first h_S_)).toInt = n)
    (i : Fin 32) (j : Fin 128) :
    addf z (shapeCast S32x128 (Host.dynamicSlice S1x32x128 x (start a) sliceFits_S4096x32x128_S1x32x128) shapeCasts_S1x32x128_S32x128) (ix2 i j)
      = z (ix2 i j) + x (ix3 ⟨n, hn⟩ i j) :=
  congrArg (z (ix2 i j) + ·) (slice_row x a n hn h0 i j)

/-- The rows after a trip has written one. -/
theorem update_row (x : FVec Ideal S4096x32x128 .f32) (w : FVec Ideal S32x128 .f32) (a : IVec S_ 32) (n : ℕ) (hn : n < 4096) (h0 : (a (Shape.Idx.first h_S_)).toInt = n)
    (r : Fin 4096) (i : Fin 32) (j : Fin 128) :
    Host.dynamicUpdateSlice x (broadcastInDim S1x32x128 ![1, 2] bcast_S32x128_S1x32x128_1_2 w) (start a) updateFits_S4096x32x128_S1x32x128 (ix3 r i j)
      = if r.val = n then w (ix2 i j) else x (ix3 r i j) := by
  have c0 := Host.clampedStart_of_le (s := S4096x32x128) (t := S1x32x128) rfl (start a) 0 n h0 (by show n + 1 ≤ 4096; omega)
  have c1 := Host.clampedStart_of_le (s := S4096x32x128) (t := S1x32x128) rfl (start a) 1 0 rfl (by show 0 + 32 ≤ 32; omega)
  have c2 := Host.clampedStart_of_le (s := S4096x32x128) (t := S1x32x128) rfl (start a) 2 0 rfl (by show 0 + 128 ≤ 128; omega)
  rw [Host.dynamicUpdateSlice_apply]
  split
  · next hin =>
    have h := hin 0
    rw [c0] at h
    change n ≤ r.val ∧ r.val < n + 1 at h
    rw [if_pos (by omega)]
    pointwise
    congr 2
  · next hin =>
    rw [if_neg]
    intro e
    refine hin fun a => ?_
    match a with
    | ⟨0, _⟩ => show Host.clampedStart S4096x32x128 S1x32x128 _ _ 0 ≤ r.val ∧ r.val < Host.clampedStart S4096x32x128 S1x32x128 _ _ 0 + 1; rw [c0]; omega
    | ⟨1, _⟩ => show Host.clampedStart S4096x32x128 S1x32x128 _ _ 1 ≤ i.val ∧ i.val < Host.clampedStart S4096x32x128 S1x32x128 _ _ 1 + 32; rw [c1]; omega
    | ⟨2, _⟩ => show Host.clampedStart S4096x32x128 S1x32x128 _ _ 2 ≤ j.val ∧ j.val < Host.clampedStart S4096x32x128 S1x32x128 _ _ 2 + 128; rw [c2]; omega

/-! ## The loop -/

section Loop
variable (a0 a1 : FVec Ideal S4096x32x128 .f32) (a2 a3 : FVec Ideal S32x128 .f32) (a4 a5 : FVec Ideal S4096x32x128 .f32)

/-- The recurrence at one place of the state. -/
abbrev seq (i : Fin 32) (j : Fin 128) : ℕ → EReal × EReal × EReal × EReal :=
  chain (a2 (ix2 i j)) (a3 (ix2 i j)) (back a4 i j) (back a5 i j) (back a0 i j) (back a1 i j)

/-- What the buffers of the loop hold before trip `k`. -/
structure Holds (V : Valuation τ sig (Elt Ideal)) (k : ℕ) : Prop where
  re : arr (V (Proc.devRef .tc main_v5_0)) = a4
  im : arr (V (Proc.devRef .tc main_v5_1)) = a5
  fre : mat (V (Proc.devRef .tc main_v5_2)) = a2
  fim : mat (V (Proc.devRef .tc main_v5_3)) = a3
  ctr : (V (Proc.devRef .tc main_v5_4) : IVec S_ 32) = fun _ => BitVec.ofNat 32 k
  cre : ∀ i j, mat (V (Proc.devRef .tc main_v5_5)) (ix2 i j)
    = backRe (a2 (ix2 i j)) (a3 (ix2 i j)) (back a4 i j) (back a5 i j) (back a0 i j) (back a1 i j) k
  cim : ∀ i j, mat (V (Proc.devRef .tc main_v5_6)) (ix2 i j)
    = backIm (a2 (ix2 i j)) (a3 (ix2 i j)) (back a4 i j) (back a5 i j) (back a0 i j) (back a1 i j) k
  gre : ∀ (r : Fin 4096) i j, 4096 - k ≤ r.val → arr (V (Proc.devRef .tc main_v5_7)) (ix3 r i j)
    = (seq a0 a1 a2 a3 a4 a5 i j (4096 - r.val)).1
  gim : ∀ (r : Fin 4096) i j, 4096 - k ≤ r.val → arr (V (Proc.devRef .tc main_v5_8)) (ix3 r i j)
    = (seq a0 a1 a2 a3 a4 a5 i j (4096 - r.val)).2.1

variable {a0 a1 a2 a3 a4 a5}

/-- The row of trip `k`. -/
theorem row_index {V : Valuation τ sig (Elt Ideal)} {k : ℕ} (h : Holds a0 a1 a2 a3 a4 a5 V k) (hk : k < 4096) (x : S_.Idx) :
    ((res_main_while0b_v40 V : IVec S_ 32) x).toInt = (4095 - k : ℕ) := by
  have e : (res_main_while0b_v40 V : IVec S_ 32) x = BitVec.ofNat 32 (4095 - k) := by
    unfold res_main_while0b_v40
    rw [show (V (Proc.devRef .tc main_v5_4)) = fun _ => BitVec.ofNat 32 k from h.ctr]
    show (4096#32 - BitVec.ofNat 32 k) - 1#32 = _
    apply BitVec.eq_of_toNat_eq
    simp only [BitVec.toNat_sub, BitVec.toNat_ofNat]
    omega
  rw [e]
  exact Idealize.ShloMosaic.WordCmp.toInt_ofNat_of_lt (by show 4095 - k < 2 ^ 31; omega)

/-- The real part a trip writes. -/
theorem trip_re {V : Valuation τ sig (Elt Ideal)} {k : ℕ} (h : Holds a0 a1 a2 a3 a4 a5 V k) (hk : k < 4096) (i : Fin 32) (j : Fin 128) :
    mat (res_main_while0b_v43 V) (ix2 i j) = (seq a0 a1 a2 a3 a4 a5 i j (k + 1)).1 := by
  unfold res_main_while0b_v43
  rw [show (V (Proc.devRef .tc main_v5_0)) = a4 from h.re]
  refine (add_row (mat (V (Proc.devRef .tc main_v5_5))) a4 _ (4095 - k) (by omega) (row_index h hk _) i j).trans ?_
  rw [h.cre i j]
  exact Cert.ScanSum.backRe_add _ _ _ _ _ _ k

/-- The imaginary part a trip writes. -/
theorem trip_im {V : Valuation τ sig (Elt Ideal)} {k : ℕ} (h : Holds a0 a1 a2 a3 a4 a5 V k) (hk : k < 4096) (i : Fin 32) (j : Fin 128) :
    mat (res_main_while0b_v44 V) (ix2 i j) = (seq a0 a1 a2 a3 a4 a5 i j (k + 1)).2.1 := by
  unfold res_main_while0b_v44
  rw [show (V (Proc.devRef .tc main_v5_1)) = a5 from h.im]
  refine (add_row (mat (V (Proc.devRef .tc main_v5_6))) a5 _ (4095 - k) (by omega) (row_index h hk _) i j).trans ?_
  rw [h.cim i j]
  exact Cert.ScanSum.backIm_add _ _ _ _ _ _ k

/-- The rows of real parts after a trip. -/
theorem rows_re (V : Valuation τ sig (Elt Ideal)) : arr (STEP V (Proc.devRef .tc main_v5_7))
    = Host.dynamicUpdateSlice (arr (V (Proc.devRef .tc main_v5_7))) (broadcastInDim S1x32x128 ![1, 2] bcast_S32x128_S1x32x128_1_2 (mat (res_main_while0b_v43 V)))
        (start (res_main_while0b_v40 V)) updateFits_S4096x32x128_S1x32x128 := by
  refine (STEP_main_v5_7 V).trans ?_
  unfold step_main_v5_7
  generalize res_main_while0b_v43 V = w
  generalize res_main_while0b_v40 V = a
  rfl

/-- The rows of imaginary parts after a trip. -/
theorem rows_im (V : Valuation τ sig (Elt Ideal)) : arr (STEP V (Proc.devRef .tc main_v5_8))
    = Host.dynamicUpdateSlice (arr (V (Proc.devRef .tc main_v5_8))) (broadcastInDim S1x32x128 ![1, 2] bcast_S32x128_S1x32x128_1_2 (mat (res_main_while0b_v44 V)))
        (start (res_main_while0b_v40 V)) updateFits_S4096x32x128_S1x32x128 := by
  refine (STEP_main_v5_8 V).trans ?_
  unfold step_main_v5_8
  generalize res_main_while0b_v44 V = w
  generalize res_main_while0b_v40 V = a
  rfl

/-- A trip keeps what the buffers are to hold. -/
theorem Holds.step {V : Valuation τ sig (Elt Ideal)} {k : ℕ} (h : Holds a0 a1 a2 a3 a4 a5 V k) (hk : k < 4096) :
    Holds a0 a1 a2 a3 a4 a5 (STEP V) (k + 1) where
  re := (STEP_main_v5_0 V).trans h.re
  im := (STEP_main_v5_1 V).trans h.im
  fre := (STEP_main_v5_2 V).trans h.fre
  fim := (STEP_main_v5_3 V).trans h.fim
  ctr := by
    refine (STEP_main_v5_4 V).trans ?_
    unfold step_main_v5_4
    rw [show (V (Proc.devRef .tc main_v5_4)) = fun _ => BitVec.ofNat 32 k from h.ctr]
    funext x
    show BitVec.ofNat 32 k + 1#32 = _
    rw [BitVec.ofNat_add]
  cre i j := by
    refine (congrFun (STEP_main_v5_5 V) _).trans ?_
    unfold step_main_v5_5
    rw [show (V (Proc.devRef .tc main_v5_3)) = a3 from h.fim, show (V (Proc.devRef .tc main_v5_2)) = a2 from h.fre]
    exact congrArg₂ (· + ·) (congrArg (_ * ·) (trip_im h hk i j)) (congrArg (_ * ·) (trip_re h hk i j))
  cim i j := by
    refine (congrFun (STEP_main_v5_6 V) _).trans ?_
    unfold step_main_v5_6
    rw [show (V (Proc.devRef .tc main_v5_3)) = a3 from h.fim, show (V (Proc.devRef .tc main_v5_2)) = a2 from h.fre]
    exact congrArg₂ (· + ·) (congrArg (_ * ·) (trip_im h hk i j)) (congrArg (fun z => _ * -z) (trip_re h hk i j))
  gre r i j hr := by
    rw [rows_re]
    refine (update_row _ _ _ (4095 - k) (by omega) (row_index h hk _) r i j).trans ?_
    split
    · next e => rw [trip_re h hk, e, show 4096 - (4095 - k) = k + 1 by omega]
    · next e => exact h.gre r i j (by omega)
  gim r i j hr := by
    rw [rows_im]
    refine (update_row _ _ _ (4095 - k) (by omega) (row_index h hk _) r i j).trans ?_
    split
    · next e => rw [trip_im h hk, e, show 4096 - (4095 - k) = k + 1 by omega]
    · next e => exact h.gim r i j (by omega)

/-- Every number of trips keeps it. -/
theorem Holds.iterate {V : Valuation τ sig (Elt Ideal)} (h : Holds a0 a1 a2 a3 a4 a5 V 0) :
    ∀ k, k ≤ 4096 → Holds a0 a1 a2 a3 a4 a5 (STEP^[k] V) k
  | 0, _ => h
  | k + 1, hk => by
    rw [Function.iterate_succ_apply']
    exact (h.iterate k (by omega)).step (by omega)

end Loop

/-! ## The loop's entry -/

section Entry
variable (m : (ℓ : Loc nD τ sig) → Buf (Elt Ideal) ℓ) (c : Dev nD)

theorem entry_v5_0 : entryContents preI m c (Proc.devRef .tc main_v5_0) = m ((c.tc : Thread nD τ).loc main_arg4) := by
  simp only [entryContents, afterL_cons, afterL_nil]
  after_reads_simp
  rfl

theorem entry_v5_1 : entryContents preI m c (Proc.devRef .tc main_v5_1) = m ((c.tc : Thread nD τ).loc main_arg5) := by
  simp only [entryContents, afterL_cons, afterL_nil]
  after_reads_simp
  rfl

theorem entry_v5_2 : entryContents preI m c (Proc.devRef .tc main_v5_2) = m ((c.tc : Thread nD τ).loc main_arg2) := by
  simp only [entryContents, afterL_cons, afterL_nil]
  after_reads_simp
  rfl

theorem entry_v5_3 : entryContents preI m c (Proc.devRef .tc main_v5_3) = m ((c.tc : Thread nD τ).loc main_arg3) := by
  simp only [entryContents, afterL_cons, afterL_nil]
  after_reads_simp
  rfl

theorem entry_v5_5 (i : Fin 32) (j : Fin 128) : mat (entryContents preI m c (Proc.devRef .tc main_v5_5)) (ix2 i j) = 0 := by
  simp only [entryContents, afterL_cons, afterL_nil]
  after_reads_simp
  unfold mat
  rw [id]
  pointwise

theorem entry_v5_6 (i : Fin 32) (j : Fin 128) : mat (entryContents preI m c (Proc.devRef .tc main_v5_6)) (ix2 i j) = 0 := by
  simp only [entryContents, afterL_cons, afterL_nil]
  after_reads_simp
  unfold mat
  rw [id]
  pointwise

/-- The reference's arguments. -/
abbrev arg0 : FVec Ideal S4096x32x128 .f32 := m ((c.tc : Thread nD τ).loc main_arg0)
abbrev arg1 : FVec Ideal S4096x32x128 .f32 := m ((c.tc : Thread nD τ).loc main_arg1)
abbrev arg2 : FVec Ideal S32x128 .f32 := m ((c.tc : Thread nD τ).loc main_arg2)
abbrev arg3 : FVec Ideal S32x128 .f32 := m ((c.tc : Thread nD τ).loc main_arg3)
abbrev arg4 : FVec Ideal S4096x32x128 .f32 := m ((c.tc : Thread nD τ).loc main_arg4)
abbrev arg5 : FVec Ideal S4096x32x128 .f32 := m ((c.tc : Thread nD τ).loc main_arg5)

/-- What the buffers hold before the first trip. -/
theorem holds_entry : Holds (arg0 m c) (arg1 m c) (arg2 m c) (arg3 m c) (arg4 m c) (arg5 m c) (entryContents preI m c) 0 where
  re := entry_v5_0 m c
  im := entry_v5_1 m c
  fre := entry_v5_2 m c
  fim := entry_v5_3 m c
  ctr := ctr_entry m c
  cre i j := (entry_v5_5 m c i j).trans (Cert.ScanSum.backRe_zero _ _ _ _ _ _).symm
  cim i j := (entry_v5_6 m c i j).trans (Cert.ScanSum.backIm_zero _ _ _ _ _ _).symm
  gre r i j hr := absurd r.isLt (by omega)
  gim r i j hr := absurd r.isLt (by omega)

/-- The buffers after the loop. -/
theorem holds_end : Holds (arg0 m c) (arg1 m c) (arg2 m c) (arg3 m c) (arg4 m c) (arg5 m c) (STEP^[4096] (entryContents preI m c)) 4096 :=
  (holds_entry m c).iterate 4096 (le_refl _)

end Entry

/-! ## The sums after the loop -/

section Sums
variable {a0 a1 : FVec Ideal S4096x32x128 .f32} {a2 a3 : FVec Ideal S32x128 .f32} {a4 a5 : FVec Ideal S4096x32x128 .f32}

/-- A sum over the rows, as the reference takes it. -/
theorem sum_rows (x : FVec Ideal S4096x32x128 .f32) (i : Fin 32) (j : Fin 128) :
    Host.reduceAdd (shapeCast S1x32x128 (Host.reduceAdd x (constant (F := Ideal) S_ .f32 0x00000000#32) reducesTo_S4096x32x128_S32x128_d0 h_S_) shapeCasts_S32x128_S1x32x128)
      (constant (F := Ideal) S_ .f32 0x00000000#32) reducesTo_S1x32x128_S32x128_d0 h_S_ (ix2 i j) = ∑ r : Fin 4096, x (ix3 r i j) := by
  pointwise
  rw [Fin.sum_univ_one]

/-- Two such sums added. -/
theorem add_sums (x y : FVec Ideal S4096x32x128 .f32) (i : Fin 32) (j : Fin 128) :
    addf (Host.reduceAdd (shapeCast S1x32x128 (Host.reduceAdd x (constant (F := Ideal) S_ .f32 0x00000000#32) reducesTo_S4096x32x128_S32x128_d0 h_S_) shapeCasts_S32x128_S1x32x128)
        (constant (F := Ideal) S_ .f32 0x00000000#32) reducesTo_S1x32x128_S32x128_d0 h_S_)
      (Host.reduceAdd (shapeCast S1x32x128 (Host.reduceAdd y (constant (F := Ideal) S_ .f32 0x00000000#32) reducesTo_S4096x32x128_S32x128_d0 h_S_) shapeCasts_S32x128_S1x32x128)
        (constant (F := Ideal) S_ .f32 0x00000000#32) reducesTo_S1x32x128_S32x128_d0 h_S_) (ix2 i j)
      = (∑ r : Fin 4096, x (ix3 r i j)) + ∑ r : Fin 4096, y (ix3 r i j) :=
  congrArg₂ (· + ·) (sum_rows x i j) (sum_rows y i j)

/-- The real part of the gradient of the factor. -/
theorem sum_re {V : Valuation τ sig (Elt Ideal)} (h : Holds a0 a1 a2 a3 a4 a5 V 4096)
    (e0 : arr (V (Proc.devRef .tc main_arg0)) = a0) (e1 : arr (V (Proc.devRef .tc main_arg1)) = a1)
    (i : Fin 32) (j : Fin 128) : mat (out_main_v38 V) (ix2 i j) = (seq a0 a1 a2 a3 a4 a5 i j 4096).2.2.1 := by
  unfold out_main_v38
  refine (add_sums _ _ i j).trans ?_
  rw [Cert.ScanSum.sum_re, Cert.ScanSum.sum_places]
  refine congrArg₂ (· + ·) (Finset.sum_congr rfl fun r _ => ?_) (Finset.sum_congr rfl fun r _ => ?_)
  · refine congrArg₂ (· * ·) ((h.gim r i j (by omega)).trans ?_) ((congrFun e1 _).trans ?_)
    · rw [show 4096 - 1 - r.val + 1 = 4096 - r.val by omega]
    · unfold back; congr 2; apply Fin.ext; show r.val = 4095 - (4096 - 1 - r.val); omega
  · refine congrArg₂ (· * ·) ((h.gre r i j (by omega)).trans ?_) ((congrFun e0 _).trans ?_)
    · rw [show 4096 - 1 - r.val + 1 = 4096 - r.val by omega]
    · unfold back; congr 2; apply Fin.ext; show r.val = 4095 - (4096 - 1 - r.val); omega

/-- The imaginary part of the gradient of the factor. -/
theorem sum_im {V : Valuation τ sig (Elt Ideal)} (h : Holds a0 a1 a2 a3 a4 a5 V 4096)
    (e0 : arr (V (Proc.devRef .tc main_arg0)) = a0) (e1 : arr (V (Proc.devRef .tc main_arg1)) = a1)
    (i : Fin 32) (j : Fin 128) : mat (out_main_v33 V) (ix2 i j) = (seq a0 a1 a2 a3 a4 a5 i j 4096).2.2.2 := by
  unfold out_main_v33
  refine (add_sums _ _ i j).trans ?_
  rw [Cert.ScanSum.sum_im, Cert.ScanSum.sum_places]
  refine congrArg₂ (· + ·) (Finset.sum_congr rfl fun r _ => ?_) (Finset.sum_congr rfl fun r _ => ?_)
  · refine congrArg₂ (· * ·) ((h.gim r i j (by omega)).trans ?_) ((congrFun e0 _).trans ?_)
    · rw [show 4096 - 1 - r.val + 1 = 4096 - r.val by omega]
    · unfold back; congr 2; apply Fin.ext; show r.val = 4095 - (4096 - 1 - r.val); omega
  · refine congrArg₂ (· * ·) ((congrArg (fun z : EReal => -z) (h.gre r i j (by omega))).trans ?_) ((congrFun e1 _).trans ?_)
    · rw [show 4096 - 1 - r.val + 1 = 4096 - r.val by omega]
    · unfold back; congr 2; apply Fin.ext; show r.val = 4095 - (4096 - 1 - r.val); omega

end Sums

end Cert.DscanRefIdeal.Scan

end
-- ==== Proof.Scan.lean ====
/-
  The gradient of the S5 scan: the launch walks the sequence backwards in sixteen blocks of 256 rows, keeping the gradient
  of the state in two scratch arrays and adding up the gradient of the factor in its last two outputs; the reference is the
  transpose of the scan over the whole sequence, and takes the gradient of the factor from its result. The two agree over
  the extended reals without any condition.
-/
module

public import proofs.«01_k».proof.Defs
public import proofs.«01_k».proof.Proof.ScanRef
public import proofs.«01_k».proof.Proof.Gen.Dscan
public import Idealize.ShloMosaic.Lib.Claim

@[expose] public section

set_option maxRecDepth 16384

noncomputable section

namespace Cert.Dsc

open Idealize.ShloMosaic Idealize.ShloMosaic.TcCoe Idealize.SL.Sem Idealize.ShloMosaic.Tactic Idealize.ShloMosaic.Pointwise
open Cert.DscanIdeal (nD τ sig)

/-- The two programs' body tables are the same, -/
theorem bodies_eq : @Cert.Dscan.defs₀ Bits _ _ = @Cert.DscanIdeal.defs₀ Bits _ _ := by
  unfold Cert.Dscan.defs₀ Cert.DscanIdeal.defs₀
  refine congrArg Defs.onTc ?_
  funext l x
  match l, x with
  | ⟨0, _⟩, (t, s) => rfl
  | ⟨n + 1, h⟩, _ => exact absurd h (Nat.not_lt.2 (Nat.le_add_left _ _))

/-- and so are their tables with the launch. -/
theorem defs_eq : @Cert.Dscan.defs Bits _ _ = @Cert.DscanIdeal.defs Bits _ _ := by
  unfold Cert.Dscan.defs Cert.DscanIdeal.defs
  exact congrArg (Pipeline.defs _) bodies_eq

/-- The kernel runs, keeps its arguments, and holds no counter above zero at the end: it is the same program as the
    idealized one, whose run is stated over any float values. -/
theorem frame_kernel : Cert.quiescent_Dscan := fun m ρ _ =>
  (congrArg (fun d => θ_run d (onTc (τ := Cert.Dscan.τ) (Cert.Dscan.main (F := Bits))) ⟨m, fun _ => 0, ρ⟩ _) defs_eq).mpr
    (Cert.DscanIdeal.Scan.frame (F := Bits) m ρ)

/-- The idealized kernel too. -/
theorem frame_ideal : Cert.quiescent_DscanIdeal := fun m ρ _ => Cert.DscanIdeal.Scan.frame m ρ

/-- The reference runs, keeps its arguments, and holds no counter above zero at the end. -/
theorem frame_reference : Cert.quiescent_DscanRefIdeal := fun m ρ _ =>
  (θ_run Cert.DscanRefIdeal.defs _ _).mono (fun r h => ⟨fun c => (h c).2.2.2.2, sem_eq_zero_of_no_sems (by decide) r.2⟩)
    (Cert.DscanRefIdeal.Value.run (F := Ideal) m ρ)

section Meet
variable (m : (ℓ : Loc nD τ sig) → Buf (Elt Ideal) ℓ) (c : Dev nD)
open Cert.DscanIdeal.Scan (arg0 arg1 arg2 arg3 arg4 arg5 res6 res7 res8 res9)
open Cert.DscanRefIdeal.Scan (Holds arr mat)
open Cert.DscanRefIdeal.Value (out_main_v38 out_main_v33)

variable {V : Valuation Cert.DscanRefIdeal.τ Cert.DscanRefIdeal.sig (Elt Ideal)}
variable (h : Holds (arg0 m c) (arg1 m c) (arg2 m c) (arg3 m c) (arg4 m c) (arg5 m c) V 4096)
include h

/-- The reference's gradient of the recurrence's inputs is the kernel's, real parts, -/
theorem meet_6 : arr (V (Proc.devRef .tc Cert.DscanRefIdeal.main_v5_7)) = res6 m c := by
  funext y
  obtain ⟨r, i, j, rfl⟩ : ∃ r i j, y = ix3 r i j := ⟨y 0, y 1, y 2, eq_ix3 y⟩
  exact h.gre r i j (by omega)

/-- and imaginary parts. -/
theorem meet_7 : arr (V (Proc.devRef .tc Cert.DscanRefIdeal.main_v5_8)) = res7 m c := by
  funext y
  obtain ⟨r, i, j, rfl⟩ : ∃ r i j, y = ix3 r i j := ⟨y 0, y 1, y 2, eq_ix3 y⟩
  exact h.gim r i j (by omega)

variable (e0 : arr (V (Proc.devRef .tc Cert.DscanRefIdeal.main_arg0)) = arg0 m c) (e1 : arr (V (Proc.devRef .tc Cert.DscanRefIdeal.main_arg1)) = arg1 m c)
include e0 e1

/-- The reference's gradient of the factor is the kernel's, real part, -/
theorem meet_8 : mat (out_main_v38 V) = res8 m c := by
  funext y
  obtain ⟨i, j, rfl⟩ : ∃ i j, y = ix2 i j := ⟨y 0, y 1, eq_ix2 y⟩
  refine (Cert.DscanRefIdeal.Scan.sum_re h e0 e1 i j).trans ?_
  unfold res8
  generalize 4096 = n
  rfl

/-- and imaginary part. -/
theorem meet_9 : mat (out_main_v33 V) = res9 m c := by
  funext y
  obtain ⟨i, j, rfl⟩ : ∃ i j, y = ix2 i j := ⟨y 0, y 1, eq_ix2 y⟩
  refine (Cert.DscanRefIdeal.Scan.sum_im h e0 e1 i j).trans ?_
  unfold res9
  generalize 4096 = n
  rfl

end Meet

/-- What the reference's loop leaves, from arguments that agree with the kernel's. -/
theorem loop_end (m : (ℓ : Loc nD τ sig) → Buf (Elt Ideal) ℓ) (c : Dev nD)
    (m' : (ℓ : Loc Cert.DscanRefIdeal.nD Cert.DscanRefIdeal.τ Cert.DscanRefIdeal.sig) → Buf (Elt Ideal) ℓ)
    {x0 x1 : FVec Ideal Cert.DscanIdeal.S4096x32x128 .f32} {x2 x3 : FVec Ideal Cert.DscanIdeal.S32x128 .f32} {x4 x5 : FVec Ideal Cert.DscanIdeal.S4096x32x128 .f32}
    (a0 : Cert.DscanRefIdeal.Scan.arg0 m' c = x0) (a1 : Cert.DscanRefIdeal.Scan.arg1 m' c = x1) (a2 : Cert.DscanRefIdeal.Scan.arg2 m' c = x2)
    (a3 : Cert.DscanRefIdeal.Scan.arg3 m' c = x3) (a4 : Cert.DscanRefIdeal.Scan.arg4 m' c = x4) (a5 : Cert.DscanRefIdeal.Scan.arg5 m' c = x5) :
    Cert.DscanRefIdeal.Scan.Holds x0 x1 x2 x3 x4 x5
      (Cert.DscanRefIdeal.Value.STEP^[4096] (StableHlo.entryContents Cert.DscanRefIdeal.Value.preI m' c)) 4096 := by
  subst a0 a1 a2 a3 a4 a5
  exact Cert.DscanRefIdeal.Scan.holds_end m' c

/-- The kernel's four gradients are the reference's. -/
theorem algebraic : Cert.algebraic_DscanIdeal_DscanRefIdeal := by
  intro m ρ m' ρ' _ hagree
  refine ⟨fun c => Cert.DscanIdeal.Scan.res6 m c, fun c => Cert.DscanIdeal.Scan.res7 m c, fun c => Cert.DscanIdeal.Scan.res8 m c, fun c => Cert.DscanIdeal.Scan.res9 m c,
    (θ_run _ _ _).mono (fun r h c => ?_) (θ_run_and (Cert.DscanIdeal.Scan.run_main m ρ) (Cert.DscanIdeal.Scan.frame m ρ)),
    (θ_run _ _ _).mono (fun r h c => ?_) (Cert.DscanRefIdeal.Value.run (F := Ideal) m' ρ')⟩
  · exact ⟨((h.1 c).1 6).trans (Cert.DscanIdeal.Scan.array_6 m c), ((h.1 c).1 7).trans (Cert.DscanIdeal.Scan.array_7 m c),
      ((h.1 c).1 8).trans (Cert.DscanIdeal.Scan.array_8 m c), ((h.1 c).1 9).trans (Cert.DscanIdeal.Scan.array_9 m c), h.2.1 c⟩
  · obtain ⟨a0, a1, a2, a3, a4, a5⟩ := hagree c
    obtain ⟨h0, h1, h2, h3, h4⟩ := h c
    have e := loop_end m c m' a0 a1 a2 a3 a4 a5
    have k0 := (Cert.DscanRefIdeal.Value.iter_main_arg0 m' c 4096).trans a0
    have k1 := (Cert.DscanRefIdeal.Value.iter_main_arg1 m' c 4096).trans a1
    exact ⟨h0.trans (meet_6 m c e), h1.trans (meet_7 m c e), h2.trans (meet_8 m c e k0 k1), h3.trans (meet_9 m c e k0 k1), h4⟩

end Cert.Dsc

end
-- ==== Proof.Dnorm.lean ====
/-
  The way back through the first normalisation of the feed-forward part: every point of the launch takes a block of rows,
  stores their gradient, and adds the rows' part of the gradient of the scale to one row that stays in its buffer.
-/
module

public import proofs.«01_k».proof.Defs
public import proofs.«01_k».proof.Proof.Rows
public import proofs.«01_k».proof.Proof.Gen.DnormIdeal.Value
public import proofs.«01_k».proof.Proof.Gen.DnormRefIdeal.Read

@[expose] public section

set_option maxRecDepth 16384

noncomputable section

namespace Cert.Nrm

open Cert.DnormIdeal Cert.DnormIdeal.Gen Idealize.ShloMosaic Idealize.ShloMosaic.TcCoe Idealize.SL.Sem

/-! ## One row -/

section Row
variable (x u g d : Fin 2048 → EReal)

/-- The mean square of a row, with the constant that keeps it off zero. -/
def level : EReal := Ideal.div (∑ k, x k * x k) (Ideal.ofBits .f32 0x45000000#32) + Ideal.ofBits .f32 0x358637BD#32

/-- What the mean square's gradient gives each entry, halved. -/
def share : EReal :=
  ∑ _ : Fin 1, Ideal.div ((∑ k, x k * (u k * g k)) * (Ideal.ofBits .f32 0xBF000000#32 * Ideal.div (Ideal.rsqrt (level x)) (level x)))
    (Ideal.ofBits .f32 0x45000000#32)

/-- The gradient of a row: through the scaled entry, through the mean square twice, and past the part. -/
def back (j : Fin 2048) : EReal := u j * g j * Ideal.rsqrt (level x) + x j * share x u g + share x u g * x j + d j

/-- An entry's part of the gradient of the scale. -/
def scaled (j : Fin 2048) : EReal := x j * Ideal.rsqrt (level x) * u j

end Row

/-! ## One point -/

section Pay
variable (x u d : FVec Ideal S256x2048 .f32) (g s : FVec Ideal S1x2048 .f32)

/-- What a point stores of the rows' gradient. -/
theorem pay_rows (i : Fin 256) (j : Fin 2048) :
    k0_pay6 (F := Ideal) x u d g (ix2 i j)
      = back (fun k => x (ix2 i k)) (fun k => u (ix2 i k)) (fun k => g (ix2 (0 : Fin 1) k)) (fun k => d (ix2 i k)) j := by
  unfold k0_pay6 k0_pay4 k0_pay3 back share level
  pointwise

/-- A point's part of the gradient of the scale. -/
theorem pay_part (i : Fin 1) (j : Fin 2048) :
    k0_pay5 (F := Ideal) x u (ix2 i j) = ∑ p : Fin 256, scaled (fun k => x (ix2 p k)) (fun k => u (ix2 p k)) j := by
  unfold k0_pay5 k0_pay4 k0_pay3 scaled level
  pointwise

/-- It is added to what is there. -/
theorem pay_next (i : Fin 1) (j : Fin 2048) : k0_pay2 (F := Ideal) (k0_pay5 (F := Ideal) x u) s (ix2 i j)
    = s (ix2 i j) + ∑ p : Fin 256, scaled (fun k => x (ix2 p k)) (fun k => u (ix2 p k)) j := by
  rw [← pay_part x u i j]
  unfold k0_pay2
  generalize k0_pay5 (F := Ideal) x u = w
  pointwise

/-- The first point adds it to zero. -/
theorem pay_first (i : Fin 1) (j : Fin 2048) : k0_pay2 (F := Ideal) (k0_pay5 (F := Ideal) x u) (k0_pay1 (F := Ideal)) (ix2 i j)
    = ∑ p : Fin 256, scaled (fun k => x (ix2 p k)) (fun k => u (ix2 p k)) j := by
  rw [pay_next]
  unfold k0_pay1
  pointwise

end Pay

section Point
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S256x2048 .f32) (h3 : a3.IsWhole)
  (a4 : Memref sig .tc .vmem S1x2048 .f32) (h4 : a4.IsWhole) (a5 : Memref sig .tc .vmem S256x2048 .f32) (h5 : a5.IsWhole)
  (a6 : Memref sig .tc .vmem S1x2048 .f32) (h6 : a6.IsWhole)
  (x0 x1 x2 : FVec Ideal S256x2048 .f32) (x3 xs : FVec Ideal S1x2048 .f32)

/-- The rows' buffer after the first point. -/
theorem rows_A (hc0 : cond0_0 i) : out0_A_4 (F := Ideal) c i a1 h1 a2 h2 a3 h3 a4 h4 a5 h5 a6 h6 hc0 x0 x1 x2 x3 = k0_pay6 (F := Ideal) x0 x1 x2 x3 := by
  unfold out0_A_4
  rw [View.read_writes_eq_canon (Val := Elt Ideal) _ _ _ (cover0_A_4 c i a1 h1 a2 h2 a3 h3 a4 h4 a5 h5 a6 h6 hc0 x0 x1 x2 x3)]
  unfold kernelRun0_A
  dsimp only
  rw [View.canon_unit_zero Rows.hz2]
  simp only [View.readAt_eq_ld, h1.read_unread, h2.read_unread, h3.read_unread, h4.read_unread,
    View.ld_unit_zero (S := S256x2048) Rows.hz2, View.ld_unit_zero (S := S1x2048) Rows.hz2]

/-- The rows' buffer after a later point. -/
theorem rows_B (hc0 : ¬cond0_0 i) : out0_B_4 (F := Ideal) c i a1 h1 a2 h2 a3 h3 a4 h4 a5 h5 a6 h6 hc0 x0 x1 x2 x3 xs = k0_pay6 (F := Ideal) x0 x1 x2 x3 := by
  unfold out0_B_4
  rw [View.read_writes_eq_canon (Val := Elt Ideal) _ _ _ (cover0_B_4 c i a1 h1 a2 h2 a3 h3 a4 h4 a5 h5 a6 h6 hc0 x0 x1 x2 x3 xs)]
  unfold kernelRun0_B
  dsimp only
  rw [View.canon_unit_zero Rows.hz2]
  simp only [View.readAt_eq_ld, h1.read_unread, h2.read_unread, h3.read_unread, h4.read_unread,
    View.ld_unit_zero (S := S256x2048) Rows.hz2, View.ld_unit_zero (S := S1x2048) Rows.hz2]

/-- The scale's buffer after the first point. -/
theorem scale_A (hc0 : cond0_0 i) :
    out0_A_5 (F := Ideal) c i a1 h1 a2 h2 a3 h3 a4 h4 a5 h5 a6 h6 hc0 x0 x1 x2 x3 = k0_pay2 (F := Ideal) (k0_pay5 (F := Ideal) x0 x1) (k0_pay1 (F := Ideal)) := by
  unfold out0_A_5
  rw [View.read_writes_eq_canon (Val := Elt Ideal) _ _ _ (cover0_A_5 c i a1 h1 a2 h2 a3 h3 a4 h4 a5 h5 a6 h6 hc0 x0 x1 x2 x3)]
  unfold kernelRun0_A
  dsimp only
  rw [View.canon_cons_unit_zero Rows.hz2]
  unfold kernelRun0_A.sl.r kernelRun0_A.sl.v43 kernelRun0_A.sl.H5_1
  refine congrArg₂ (k0_pay2 (F := Ideal)) ?_ ((View.readCov_full a6.view _ _ _ _).trans rfl)
  simp only [View.readAt_eq_ld, h1.read_unread, h2.read_unread, View.ld_unit_zero (S := S256x2048) Rows.hz2]

/-- The scale's buffer after a later point. -/
theorem scale_B (hc0 : ¬cond0_0 i) :
    out0_B_5 (F := Ideal) c i a1 h1 a2 h2 a3 h3 a4 h4 a5 h5 a6 h6 hc0 x0 x1 x2 x3 xs = k0_pay2 (F := Ideal) (k0_pay5 (F := Ideal) x0 x1) xs := by
  unfold out0_B_5
  rw [View.read_writes_eq_canon (Val := Elt Ideal) _ _ _ (cover0_B_5 c i a1 h1 a2 h2 a3 h3 a4 h4 a5 h5 a6 h6 hc0 x0 x1 x2 x3 xs)]
  unfold kernelRun0_B
  dsimp only
  rw [View.canon_unit_zero Rows.hz2]
  unfold kernelRun0_B.sl.r
  simp only [View.readAt_eq_ld, h1.read_unread, h2.read_unread, h6.read_unread,
    View.ld_unit_zero (S := S256x2048) Rows.hz2, View.ld_unit_zero (S := S1x2048) Rows.hz2]

end Point

/-! ## The blocks -/

section Arrays
variable (m : (ℓ : Loc nD τ sig) → Buf (Elt Ideal) ℓ) (c : Dev nD)

/-- The rows' values. -/
abbrev arg0 : FVec Ideal S4096x2048 .f32 := m ((c : Thread nD τ).loc main_arg0)
/-- The scale. -/
abbrev arg1 : FVec Ideal S2048 .f32 := m ((c : Thread nD τ).loc main_arg1)
/-- The gradient behind the normalisation. -/
abbrev arg2 : FVec Ideal S4096x2048 .f32 := m ((c : Thread nD τ).loc main_arg2)
/-- The gradient past the part. -/
abbrev arg3 : FVec Ideal S4096x2048 .f32 := m ((c : Thread nD τ).loc main_arg3)

/-- The scale as the launch reads it. -/
theorem V_scale (i : Fin 1) (k : Fin 2048) : (V m c main_v0 : FVec Ideal S1x2048 .f32) (ix2 i k) = arg1 m c (ix1 k) := by
  have e : (V m c main_v0 : FVec Ideal S1x2048 .f32) = broadcastInDim S1x2048 ![1] bcast_S2048_S1x2048_1 (arg1 m c) := by
    simp only [V, List.flatten_cons, List.flatten_nil, List.append_nil]
    simp only [hostOps0, List.cons_append, List.nil_append]
    after_results_simp
    try rfl
  rw [e]
  pointwise

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = 0 ∧ win0_5.index t 1 = 0 := by decide +kernel

theorem points (t : Fin cfg0.N) : t.val < 16 := t.isLt.trans_eq (show cfg0.N = 16 from N_0)

/-- A row of a point's block. -/
def rowOf (t : Fin cfg0.N) (i : Fin 256) : Fin 4096 := Blocks.place (b := 16) ⟨t.val, points t⟩ i

/-- The block of the values. -/
theorem block_0 (t : Fin cfg0.N) (i : Fin 256) (k : Fin 2048) :
    (iblk m c 0 t : FVec Ideal S256x2048 .f32) (ix2 i k) = arg0 m c (ix2 (rowOf t i) k) := by
  unfold iblk
  rw [View.read_apply]
  exact (congrArg (V m c main_arg0) (Rows.ix2_of _ (ix2 (rowOf t i) k) (Rows.off (index_0 t).1 256 i.val)
    (Rows.off_zero (index_0 t).2 2048 k.val))).trans (congrFun (V_main_arg0 m c) _)

/-- The block of the gradient behind. -/
theorem block_1 (t : Fin cfg0.N) (i : Fin 256) (k : Fin 2048) :
    (iblk m c 1 t : FVec Ideal S256x2048 .f32) (ix2 i k) = arg2 m c (ix2 (rowOf t i) k) := by
  unfold iblk
  rw [View.read_apply]
  exact (congrArg (V m c main_arg2) (Rows.ix2_of _ (ix2 (rowOf t i) k) (Rows.off (index_1 t).1 256 i.val)
    (Rows.off_zero (index_1 t).2 2048 k.val))).trans (congrFun (V_main_arg2 m c) _)

/-- The block of the gradient past the part. -/
theorem block_2 (t : Fin cfg0.N) (i : Fin 256) (k : Fin 2048) :
    (iblk m c 2 t : FVec Ideal S256x2048 .f32) (ix2 i k) = arg3 m c (ix2 (rowOf t i) k) := by
  unfold iblk
  rw [View.read_apply]
  exact (congrArg (V m c main_arg3) (Rows.ix2_of _ (ix2 (rowOf t i) k) (Rows.off (index_2 t).1 256 i.val)
    (Rows.off_zero (index_2 t).2 2048 k.val))).trans (congrFun (V_main_arg3 m c) _)

/-- The scale at a point. -/
theorem block_3 (t : Fin cfg0.N) (i : Fin 1) (k : Fin 2048) :
    (iblk m c 3 t : FVec Ideal S1x2048 .f32) (ix2 i k) = arg1 m c (ix1 k) := by
  unfold iblk
  rw [View.read_apply]
  exact (congrArg (V m c main_v0) (Rows.ix2_of _ (ix2 i k) (Rows.off_zero (index_3 t).1 1 i.val)
    (Rows.off_zero (index_3 t).2 2048 k.val))).trans (V_scale m c i k)

/-! ## The results -/

/-- A row of the values. -/
def row0 (i : Fin 4096) (k : Fin 2048) : EReal := arg0 m c (ix2 i k)
/-- A row of the gradient behind. -/
def row2 (i : Fin 4096) (k : Fin 2048) : EReal := arg2 m c (ix2 i k)
/-- A row of the gradient past the part. -/
def row3 (i : Fin 4096) (k : Fin 2048) : EReal := arg3 m c (ix2 i k)

/-- The rows' gradient as one array. -/
def res_rows : FVec Ideal S4096x2048 .f32 := fun y =>
  back (row0 m c (y 0)) (row2 m c (y 0)) (fun k => arg1 m c (ix1 k)) (row3 m c (y 0)) (y 1)

/-- The gradient of the scale as one array. -/
def res_scale : FVec Ideal S1x2048 .f32 := fun y => ∑ p : Fin 4096, scaled (row0 m c p) (row2 m c p) (y 1)

/-- What a point stores of the rows' gradient. -/
theorem stored (t : Fin cfg0.N) (i : Fin 256) (j : Fin 2048) :
    ((outsAt0 m c t.val t.isLt).1 : FVec Ideal S256x2048 .f32) (ix2 i j) = res_rows m c (ix2 (rowOf t i) j) := by
  have p : k0_pay6 (F := Ideal) (iblk m c 0 t) (iblk m c 1 t) (iblk m c 2 t) (iblk m c 3 t) (ix2 i j)
      = res_rows m c (ix2 (rowOf t i) j) := by
    rw [pay_rows]
    simp only [block_0, block_1, block_2, block_3]
    rfl
  by_cases h : t.val % 16 = 0
  · rw [outsAt0_A m c t h]
    dsimp only
    rw [rows_A, p]
  · rw [outsAt0_B m c t h]
    dsimp only
    rw [rows_B, p]

/-- A block of rows' part of the gradient of the scale. -/
theorem own (t : Fin cfg0.N) (j : Fin 2048) :
    (∑ p : Fin 256, scaled (fun k => (iblk m c 0 t : FVec Ideal S256x2048 .f32) (ix2 p k))
        (fun k => (iblk m c 1 t : FVec Ideal S256x2048 .f32) (ix2 p k)) j)
      = ∑ p : Fin 256, scaled (row0 m c (rowOf t p)) (row2 m c (rowOf t p)) j := by
  simp only [block_0, block_1]
  rfl

/-- After the last point the buffer holds the whole gradient of the scale. -/
theorem gathered (t : Fin cfg0.N) (h : t.val % 16 = 15) (i : Fin 1) (j : Fin 2048) :
    ((outsAt0 m c t.val t.isLt).2 : FVec Ideal S1x2048 .f32) (ix2 i j) = res_scale m c (ix2 i j) := by
  have hN : cfg0.N = 16 := N_0
  refine Rows.gathered (b := 16) (n := 256) (fun p => scaled (row0 m c p) (row2 m c p) j)
    (fun k hk => ((outsAt0 m c k (hk.trans_eq hN.symm)).2 : FVec Ideal S1x2048 .f32) (ix2 i j)) (fun hk => ?_) (fun k hk => ?_)
    t.val (points t) (by have := points t; omega)
  · have e := outsAt0_A m c ⟨0, hk.trans_eq hN.symm⟩ rfl
    dsimp only at e ⊢
    rw [e]
    dsimp only
    rw [scale_A, pay_first]
    exact own m c ⟨0, _⟩ j
  · have e := outsAt0_B m c ⟨k + 1, hk.trans_eq hN.symm⟩ (by show ¬ (k + 1) % 16 = 0; omega)
    dsimp only at e ⊢
    rw [e]
    dsimp only
    rw [scale_B, pay_next]
    exact congrArg _ (own m c ⟨k + 1, _⟩ j)

/-- A block of rows that is written back is that block of the array. -/
theorem block_rows (t : Fin cfg0.N) (_ : (cfg0.win 4).flush t = true) :
    (dats m 0 c).flushed 4 t = ((cfg0.win 4).blk t).view.read (Elt Ideal) (res_rows m c) := by
  rw [Cert.DnormIdeal.Value.flushed4]
  funext y
  rw [View.read_apply]
  refine Eq.trans (congrArg (outsAt0 m c t.val t.isLt).1 (Rows.ix2_of _ (ix2 (y 0) (y 1)) rfl rfl))
    ((stored m c t (y 0) (y 1)).trans (congrArg (res_rows m c) (Eq.symm ?_)))
  exact Rows.ix2_of _ (ix2 (rowOf t (y 0)) (y 1)) (Rows.off (index_4 t).1 256 (y 0).val) (Rows.off_zero (index_4 t).2 2048 (y 1).val)

/-- The rows' gradient after the launch. -/
theorem array_rows : (dats m 0 c).arrAt 4 cfg0.N = res_rows m c :=
  (dats m 0 c).arrAt_eq_of_cover 4 (res_rows m c) (block_rows m c) fun i => by
    have i0 : (i 0).val < 4096 := (i 0).isLt
    obtain ⟨t, hv⟩ : ∃ t : Fin cfg0.N, t.val = (i 0).val / 256 :=
      ⟨⟨(i 0).val / 256, by rw [show cfg0.N = 16 from N_0]; omega⟩, rfl⟩
    refine ⟨t, flush0_4 t, ?_⟩
    show i ∈ ((View.whole (Pipeline.arrRef spec0 4)).slice (win0_4.rect t)).set
    rw [View.set_slice_whole, Rect.mem_set_unit]
    intro a
    match a with
    | ⟨0, _⟩ => exact Rows.within (by decide : 0 < 256) ((index_4 t).1.trans hv)
    | ⟨1, _⟩ => exact Rows.within_zero (i 1).isLt (index_4 t).2

/-- What is written back at the end is the gradient of the scale. -/
theorem block_scale (t : Fin cfg0.N) (hf : (cfg0.win 5).flush t = true) :
    (dats m 0 c).flushed 5 t = ((cfg0.win 5).blk t).view.read (Elt Ideal) (res_scale m c) := by
  rw [Cert.DnormIdeal.Value.flushed5]
  funext y
  rw [View.read_apply]
  refine Eq.trans (congrArg (outsAt0 m c t.val t.isLt).2 (Rows.ix2_of _ (ix2 (y 0) (y 1)) rfl rfl))
    ((gathered m c t ((flush0_5 t).mp hf) (y 0) (y 1)).trans (congrArg (res_scale m c) (Eq.symm ?_)))
  exact Rows.ix2_of _ (ix2 (y 0) (y 1)) (Rows.off_zero (index_5 t).1 1 (y 0).val) (Rows.off_zero (index_5 t).2 2048 (y 1).val)

/-- The gradient of the scale after the launch. -/
theorem array_scale : (dats m 0 c).arrAt 5 cfg0.N = res_scale m c :=
  (dats m 0 c).arrAt_eq_of_cover 5 (res_scale m c) (block_scale m c) fun i => by
    obtain ⟨t, hv⟩ : ∃ t : Fin cfg0.N, t.val = 15 := ⟨⟨15, by rw [show cfg0.N = 16 from N_0]; omega⟩, rfl⟩
    refine ⟨t, (flush0_5 t).mpr (by omega), ?_⟩
    show i ∈ ((View.whole (Pipeline.arrRef spec0 5)).slice (win0_5.rect t)).set
    rw [View.set_slice_whole, Rect.mem_set_unit]
    intro a
    match a with
    | ⟨0, _⟩ => exact Rows.within_zero (i 0).isLt (index_5 t).1
    | ⟨1, _⟩ => exact Rows.within_zero (i 1).isLt (index_5 t).2

end Arrays

/-! ## The reference -/

section Reference
open Cert.DnormRefIdeal.Read

/-- The reference's rows. -/
theorem reference_rows (x0 x2 x3 : FVec Ideal S4096x2048 .f32) (x1 : FVec Ideal S2048 .f32) (i : Fin 4096) (j : Fin 2048) :
    val_main_v36 (F := Ideal) x0 x1 x2 x3 (ix2 i j)
      = back (fun k => x0 (ix2 i k)) (fun k => x2 (ix2 i k)) (fun k => x1 (ix1 k)) (fun k => x3 (ix2 i k)) j := by
  unfold val_main_v36 val_main_v35 val_main_v34 val_main_v33 val_main_v32 val_main_v31 val_main_v30 val_main_cst_7
    val_main_v29 val_main_v28 val_main_cst_6 val_main_v27 val_main_v26 val_main_v25 val_main_v24 val_main_v23
    val_main_cst_5 val_main_v22 val_main_v20 val_main_v19 val_main_v13 val_main_v10 val_main_v9 val_main_cst_2
    val_main_v8 val_main_v7 val_main_v6 val_main_v5 val_main_cst_1 val_main_v4 val_main_v3 val_main_cst_0
    val_main_v2 val_main_v1 val_main_cst val_main_v0
  unfold back share level
  pointwise
  rw [add_comm (x3 _)]

/-- The reference's gradient of the scale. -/
theorem reference_scale (x0 x2 : FVec Ideal S4096x2048 .f32) (i : Fin 1) (j : Fin 2048) :
    val_main_v37 (F := Ideal) x0 x2 (ix2 i j) = ∑ p : Fin 4096, scaled (fun k => x0 (ix2 p k)) (fun k => x2 (ix2 p k)) j := by
  unfold val_main_v37 val_main_v21 val_main_cst_4 val_main_v18 val_main_v17 val_main_cst_3 val_main_v16 val_main_v12
    val_main_v11 val_main_v7 val_main_v6 val_main_v5 val_main_cst_1 val_main_v4 val_main_v3 val_main_cst_0
    val_main_v2 val_main_v1 val_main_cst val_main_v0
  unfold scaled level
  pointwise
  first
  | rfl
  | exact Fin.sum_univ_one _

end Reference

/-- The reference's rows are the kernel's. -/
theorem meet_rows (m : (ℓ : Loc nD τ sig) → Buf (Elt Ideal) ℓ) (c : Dev nD) :
    Cert.DnormRefIdeal.Read.val_main_v36 (F := Ideal) (arg0 m c) (arg1 m c) (arg2 m c) (arg3 m c) = res_rows m c := by
  funext y
  idx_vars y
  exact reference_rows _ _ _ _ _ _

/-- The reference's gradient of the scale is the kernel's. -/
theorem meet_scale (m : (ℓ : Loc nD τ sig) → Buf (Elt Ideal) ℓ) (c : Dev nD) :
    Cert.DnormRefIdeal.Read.val_main_v37 (F := Ideal) (arg0 m c) (arg2 m c) = res_scale m c := by
  funext y
  idx_vars y
  exact reference_scale _ _ _ _

/-- The reference runs, keeps its arguments, and holds no counter above zero at the end. -/
theorem frame_reference : Cert.quiescent_DnormRefIdeal := fun m ρ _ =>
  (θ_run Cert.DnormRefIdeal.defs _ _).mono (fun r h => ⟨fun c => (h c).2.2, sem_eq_zero_of_no_sems (by decide) r.2⟩)
    (Cert.DnormRefIdeal.Value.run (F := Ideal) m ρ)

/-- The kernel's results are the reference's. -/
theorem algebraic : Cert.algebraic_DnormIdeal_DnormRefIdeal := by
  intro m ρ m' ρ' _ hagree
  refine ⟨fun c => res_rows m c, fun c => res_scale m c, (θ_run _ _ _).mono (fun r h c => ?_) (Cert.DnormIdeal.Value.run_blocks m ρ),
    (θ_run _ _ _).mono (fun r h c => ?_) (Cert.DnormRefIdeal.Value.run (F := Ideal) m' ρ')⟩
  · exact ⟨(h c).1.trans (array_rows m c), (h c).2.1.trans (array_scale m c), (h c).2.2⟩
  · obtain ⟨e0, e1, e2, e3⟩ := hagree c
    refine ⟨((h c).1.trans (Cert.DnormRefIdeal.Read.val_main_v36_eq _ _ _ _)).trans ?_,
      ((h c).2.1.trans (Cert.DnormRefIdeal.Read.val_main_v37_eq _ _)).trans ?_, (h c).2.2⟩
    · rw [e0, e1, e2, e3]; exact meet_rows m c
    · rw [e0, e2]; exact meet_scale m c

end Cert.Nrm

end
-- ==== Proof.Dshift.lean ====
/-
  The way back through the token shift: every point of the launch takes a block of columns over all rows. A row's gradient
  takes part of the row after it, and the mixing weight's gradient sums over the rows; the launch gets at the neighbour rows
  by turning the rows round and setting the row at the end to zero, where the reference cuts them and adds a row of zeros.
-/
module

public import proofs.«01_k».proof.Defs
public import proofs.«01_k».proof.Proof.Rows
public import proofs.«01_k».proof.Proof.Gen.DshiftIdeal.Value
public import proofs.«01_k».proof.Proof.Gen.DshiftRefIdeal.Read

@[expose] public section

set_option maxRecDepth 16384

noncomputable section

namespace Cert.Shf

open Cert.DshiftIdeal Cert.DshiftIdeal.Gen Idealize.ShloMosaic Idealize.ShloMosaic.TcCoe Idealize.SL.Sem

/-! ## Neighbour rows -/

/-- A choice by the number of the row. -/
theorem select_row (n k : ℕ) (hn : n < 4096) (hk : k < 4096) {α : Type} (A B : α) :
    Scalar.select (IntOp.cmpi .eq (BitVec.ofNat 32 n) (BitVec.ofNat 32 k)) A B = if n = k then A else B := by
  have e : (BitVec.ofNat 32 n = BitVec.ofNat 32 k) ↔ n = k := by
    rw [← BitVec.toNat_inj, BitVec.toNat_ofNat, BitVec.toNat_ofNat]
    omega
  by_cases h : n = k
  · subst h
    simp [Scalar.select, IntOp.cmpi]
  · have e' : (BitVec.ofNat 32 n == BitVec.ofNat 32 k) = false := beq_eq_false_iff_ne.mpr (mt e.mp h)
    simp [Scalar.select, IntOp.cmpi, h, e']

/-- Rows turned round by some number of rows. -/
theorem turned (s : ℕ) (hs : s < 4096) (v : FVec Ideal S4096x256 .f32) (h : S4096x256.Rotates 0 none) (i : Fin 4096) (j : Fin 256) :
    dynamicRotate 0 (BitVec.ofNat 32 s) none v h (ix2 i j) = v (ix2 ⟨(i.val + 4096 - s) % 4096, Nat.mod_lt _ (by decide)⟩ j) := by
  refine dynamicRotate_apply 0 _ v h _ _ fun b => ?_
  have e : (BitVec.ofNat 32 s).toNat % 4096 = s := by rw [BitVec.toNat_ofNat]; omega
  match b with
  | ⟨0, _⟩ => exact (congrArg (fun k => (i.val + 4096 - k) % 4096) e).symm
  | ⟨1, _⟩ => rfl

/-- The row before, zero before the first. -/
def before (z : Fin 4096 → EReal) (i : Fin 4096) : EReal := if h : i.val = 0 then 0 else z ⟨i.val - 1, by omega⟩
/-- The row after, zero after the last. -/
def after (z : Fin 4096 → EReal) (i : Fin 4096) : EReal := if h : i.val < 4095 then z ⟨1 + i.val, by omega⟩ else 0

/-! ## One column -/

/-- The gradient of a column of rows. -/
def back (d : Fin 4096 → EReal) (w : EReal) (i : Fin 4096) : EReal := (d i - d i * w) + after (fun k => d k * w) i

/-- The gradient of a column's mixing weight. -/
def mixed (z d : Fin 4096 → EReal) : EReal := ∑ k, d k * (before z k - z k)

section Pay
variable (z d : FVec Ideal S4096x256 .f32) (w : FVec Ideal S1x256 .f32)

/-- What a point stores of the rows' gradient. -/
theorem pay_rows (i : Fin 4096) (j : Fin 256) :
    k0_pay1 (F := Ideal) d w (ix2 i j) = back (fun k => d (ix2 k j)) (w (ix2 0 j)) i := by
  unfold k0_pay1 back after
  refine congrArg₂ (α := EReal) (β := EReal) (γ := EReal) (· + ·) (by pointwise) ?_
  have e : iota .tc S4096x256 32 [0] iota_S4096x256_d0_w32 (ix2 i j) = BitVec.ofNat 32 i.val := by pointwise
  show Scalar.select (IntOp.cmpi .eq (iota .tc S4096x256 32 [0] iota_S4096x256_d0_w32 (ix2 i j)) (BitVec.ofNat 32 4095)) _ _ = _
  rw [e, select_row i.val 4095 i.isLt (by decide)]
  have i0 := i.isLt
  by_cases h : i.val = 4095
  · rw [if_pos h, dif_neg (by omega)]
    pointwise
  · rw [if_neg h, dif_pos (by omega)]
    refine (turned 4095 (by decide) _ _ i j).trans ?_
    rw [show (⟨(i.val + 4096 - 4095) % 4096, Nat.mod_lt _ (by decide)⟩ : Fin 4096) = ⟨1 + i.val, by omega⟩ from
      Fin.ext (by show (i.val + 4096 - 4095) % 4096 = 1 + i.val; omega)]
    pointwise

/-- What it stores of the weight's gradient. -/
theorem pay_weight (i : Fin 1) (j : Fin 256) :
    k0_pay2 (F := Ideal) z d (ix2 i j) = mixed (fun k => z (ix2 k j)) (fun k => d (ix2 k j)) := by
  unfold k0_pay2 mixed before
  pointwise
  refine Finset.sum_congr rfl fun k _ => ?_
  rw [select_row k.val 0 k.isLt (by decide)]
  have k0 := k.isLt
  by_cases h : k.val = 0
  · rw [if_pos h, dif_pos h]
  · rw [if_neg h, dif_neg h, show (⟨(k.val + 4096 - 1) % 4096, Nat.mod_lt _ (by decide)⟩ : Fin 4096) = ⟨k.val - 1, by omega⟩ from
      Fin.ext (by show (k.val + 4096 - 1) % 4096 = k.val - 1; omega)]

/-- The rows' buffer after a point. -/
theorem out_rows : out0_3 (F := Ideal) z d w = k0_pay1 (F := Ideal) d w := by
  unfold out0_3
  rw [View.canon_unit_zero Rows.hz2]
  simp only [View.ld_unit_zero (S := S4096x256) Rows.hz2, View.ld_unit_zero (S := S1x256) Rows.hz2]

/-- The weight's buffer after a point. -/
theorem out_weight : out0_4 (F := Ideal) z d w = k0_pay2 (F := Ideal) z d := by
  unfold out0_4
  rw [View.canon_unit_zero Rows.hz2]
  simp only [View.ld_unit_zero (S := S4096x256) Rows.hz2]

end Pay

/-! ## The blocks -/

section Arrays
variable (m : (ℓ : Loc nD τ sig) → Buf (Elt Ideal) ℓ) (c : Dev nD)

/-- The projected rows. -/
abbrev arg0 : FVec Ideal S4096x6400 .f32 := m ((c : Thread nD τ).loc main_arg0)
/-- The mixing weights. -/
abbrev arg1 : FVec Ideal S1x3328 .f32 := m ((c : Thread nD τ).loc main_arg1)
/-- The gradient behind. -/
abbrev arg2 : FVec Ideal S4096x3328 .f32 := m ((c : Thread nD τ).loc main_arg2)

theorem index_0 : ∀ t : Fin grid0.N, win0_0.index t 0 = 0 ∧ win0_0.index t 1 = t.val + 12 := by decide +kernel
theorem index_1 : ∀ t : Fin grid0.N, win0_1.index t 0 = 0 ∧ win0_1.index t 1 = t.val := by decide +kernel
theorem index_2 : ∀ t : Fin grid0.N, win0_2.index t 0 = 0 ∧ win0_2.index t 1 = t.val := by decide +kernel
theorem index_3 : ∀ t : Fin grid0.N, win0_3.index t 0 = 0 ∧ win0_3.index t 1 = t.val := by decide +kernel
theorem index_4 : ∀ t : Fin grid0.N, win0_4.index t 0 = 0 ∧ win0_4.index t 1 = t.val := by decide +kernel

theorem points (t : Fin cfg0.N) : t.val < 13 := t.isLt.trans_eq (show cfg0.N = 13 from N_0)

/-- A column of a point's block. -/
def colOf (t : Fin cfg0.N) (j : Fin 256) : Fin 3328 := ⟨t.val * 256 + j.val, by have := points t; omega⟩
/-- That column among the projected ones. -/
def far (j : Fin 3328) : Fin 6400 := ⟨3072 + j.val, by omega⟩

/-- The block of the projected rows. -/
theorem block_0 (t : Fin cfg0.N) (i : Fin 4096) (k : Fin 256) :
    (iblk m c 0 t : FVec Ideal S4096x256 .f32) (ix2 i k) = arg0 m c (ix2 i (far (colOf t k))) := by
  unfold iblk
  rw [View.read_apply]
  refine (congrArg (V m c main_arg0) (Rows.ix2_of _ (ix2 i (far (colOf t k))) (Rows.off_zero (index_0 t).1 4096 i.val)
    ((Rows.off (index_0 t).2 256 k.val).trans ?_))).trans (congrFun (V_main_arg0 m c) _)
  show (t.val + 12) * 256 + k.val = 3072 + (t.val * 256 + k.val)
  omega

/-- The block of the gradient. -/
theorem block_1 (t : Fin cfg0.N) (i : Fin 4096) (k : Fin 256) :
    (iblk m c 1 t : FVec Ideal S4096x256 .f32) (ix2 i k) = arg2 m c (ix2 i (colOf t k)) := by
  unfold iblk
  rw [View.read_apply]
  exact (congrArg (V m c main_arg2) (Rows.ix2_of _ (ix2 i (colOf t k)) (Rows.off_zero (index_1 t).1 4096 i.val)
    (Rows.off (index_1 t).2 256 k.val))).trans (congrFun (V_main_arg2 m c) _)

/-- The block of the weights. -/
theorem block_2 (t : Fin cfg0.N) (i : Fin 1) (k : Fin 256) :
    (iblk m c 2 t : FVec Ideal S1x256 .f32) (ix2 i k) = arg1 m c (ix2 i (colOf t k)) := by
  unfold iblk
  rw [View.read_apply]
  exact (congrArg (V m c main_arg1) (Rows.ix2_of _ (ix2 i (colOf t k)) (Rows.off_zero (index_2 t).1 1 i.val)
    (Rows.off (index_2 t).2 256 k.val))).trans (congrFun (V_main_arg1 m c) _)

/-! ## The results -/

/-- The rows' gradient as one array. -/
def res_rows : FVec Ideal S4096x3328 .f32 := fun y =>
  back (fun k => arg2 m c (ix2 k (y 1 : Fin 3328))) (arg1 m c (ix2 0 (y 1 : Fin 3328))) (y 0)

/-- The gradient of the weights as one array. -/
def res_weight : FVec Ideal S1x3328 .f32 := fun y =>
  mixed (fun k => arg0 m c (ix2 k (far (y 1)))) (fun k => arg2 m c (ix2 k (y 1 : Fin 3328)))

/-- What a point stores of the rows' gradient. -/
theorem stored_rows (t : Fin cfg0.N) (i : Fin 4096) (j : Fin 256) :
    (out0_3 (F := Ideal) (iblk m c 0 t) (iblk m c 1 t) (iblk m c 2 t) : FVec Ideal S4096x256 .f32) (ix2 i j)
      = res_rows m c (ix2 i (colOf t j)) := by
  rw [out_rows, pay_rows]
  simp only [block_1, block_2]
  rfl

/-- What it stores of the weights' gradient. -/
theorem stored_weight (t : Fin cfg0.N) (i : Fin 1) (j : Fin 256) :
    (out0_4 (F := Ideal) (iblk m c 0 t) (iblk m c 1 t) (iblk m c 2 t) : FVec Ideal S1x256 .f32) (ix2 i j)
      = res_weight m c (ix2 i (colOf t j)) := by
  rw [out_weight, pay_weight]
  simp only [block_0, block_1]
  rfl

/-- A block of the gradient of the rows that is written back is that block of the array. -/
theorem block_rows (t : Fin cfg0.N) (_ : (cfg0.win 3).flush t = true) :
    (dats m 0 c).flushed 3 t = ((cfg0.win 3).blk t).view.read (Elt Ideal) (res_rows m c) := by
  rw [Cert.DshiftIdeal.Value.flushed3]
  funext y
  rw [View.read_apply]
  refine Eq.trans (congrArg (out0_3 (F := Ideal) (iblk m c 0 t) (iblk m c 1 t) (iblk m c 2 t))
    (Rows.ix2_of _ (ix2 (y 0) (y 1)) rfl rfl)) ((stored_rows m c t (y 0) (y 1)).trans (congrArg (res_rows m c) (Eq.symm ?_)))
  exact Rows.ix2_of _ (ix2 (y 0) (colOf t (y 1))) (Rows.off_zero (index_3 t).1 4096 (y 0).val)
    (Rows.off (index_3 t).2 256 (y 1).val)

/-- The gradient of the rows after the launch. -/
theorem array_rows : (dats m 0 c).arrAt 3 cfg0.N = res_rows m c :=
  (dats m 0 c).arrAt_eq_of_cover 3 (res_rows m c) (block_rows m c) fun i => by
    have i1 : (i 1).val < 3328 := (i 1).isLt
    obtain ⟨t, hv⟩ : ∃ t : Fin cfg0.N, t.val = (i 1).val / 256 :=
      ⟨⟨(i 1).val / 256, by rw [show cfg0.N = 13 from N_0]; omega⟩, rfl⟩
    refine ⟨t, flush0_3 t, ?_⟩
    show i ∈ ((View.whole (Pipeline.arrRef spec0 3)).slice (win0_3.rect t)).set
    rw [View.set_slice_whole, Rect.mem_set_unit]
    intro a
    match a with
    | ⟨0, _⟩ => exact Rows.within_zero (i 0).isLt (index_3 t).1
    | ⟨1, _⟩ => exact Rows.within (by decide : 0 < 256) ((index_3 t).2.trans hv)

/-- A block of the gradient of the weights that is written back is that block of the array. -/
theorem block_weight (t : Fin cfg0.N) (_ : (cfg0.win 4).flush t = true) :
    (dats m 0 c).flushed 4 t = ((cfg0.win 4).blk t).view.read (Elt Ideal) (res_weight m c) := by
  rw [Cert.DshiftIdeal.Value.flushed4]
  funext y
  rw [View.read_apply]
  refine Eq.trans (congrArg (out0_4 (F := Ideal) (iblk m c 0 t) (iblk m c 1 t) (iblk m c 2 t))
    (Rows.ix2_of _ (ix2 (y 0) (y 1)) rfl rfl)) ((stored_weight m c t (y 0) (y 1)).trans (congrArg (res_weight m c) (Eq.symm ?_)))
  exact Rows.ix2_of _ (ix2 (y 0) (colOf t (y 1))) (Rows.off_zero (index_4 t).1 1 (y 0).val)
    (Rows.off (index_4 t).2 256 (y 1).val)

/-- The gradient of the weights after the launch. -/
theorem array_weight : (dats m 0 c).arrAt 4 cfg0.N = res_weight m c :=
  (dats m 0 c).arrAt_eq_of_cover 4 (res_weight m c) (block_weight m c) fun i => by
    have i1 : (i 1).val < 3328 := (i 1).isLt
    obtain ⟨t, hv⟩ : ∃ t : Fin cfg0.N, t.val = (i 1).val / 256 :=
      ⟨⟨(i 1).val / 256, by rw [show cfg0.N = 13 from N_0]; omega⟩, rfl⟩
    refine ⟨t, flush0_4 t, ?_⟩
    show i ∈ ((View.whole (Pipeline.arrRef spec0 4)).slice (win0_4.rect t)).set
    rw [View.set_slice_whole, Rect.mem_set_unit]
    intro a
    match a with
    | ⟨0, _⟩ => exact Rows.within_zero (i 0).isLt (index_4 t).1
    | ⟨1, _⟩ => exact Rows.within (by decide : 0 < 256) ((index_4 t).2.trans hv)

end Arrays

/-! ## The reference -/

section Reference
open Cert.DshiftRefIdeal.Read

/-- The reference's gradient of the rows. -/
theorem reference_rows (w : FVec Ideal S1x3328 .f32) (d : FVec Ideal S4096x3328 .f32) (i : Fin 4096) (j : Fin 3328) :
    val_main_v22 (F := Ideal) w d (ix2 i j) = back (fun k => d (ix2 k j)) (w (ix2 0 j)) i := by
  unfold val_main_v22 val_main_v21 val_main_cst_2 val_main_v20 val_main_v18 val_main_v17 val_main_v16 val_main_v15
    val_main_v11 val_main_v10
  unfold back after
  pointwise
  rw [sub_eq_add_neg]

/-- The reference's gradient of the weights. -/
theorem reference_weight (z : FVec Ideal S4096x6400 .f32) (d : FVec Ideal S4096x3328 .f32) (i : Fin 1) (j : Fin 3328) :
    val_main_v14 (F := Ideal) z d (ix2 i j) = mixed (fun k => z (ix2 k (far j))) (fun k => d (ix2 k j)) := by
  unfold val_main_v14 val_main_v13 val_main_cst_1 val_main_v12 val_main_v11 val_main_v6 val_main_v4 val_main_v3
    val_main_v2 val_main_cst val_main_v0
  unfold mixed before far
  pointwise
  rw [Fin.sum_univ_one]
  refine Eq.symm ((Fin.sum_univ_succ (n := 4095) _).trans (congrArg₂ (· + ·) ?_ (Finset.sum_congr rfl fun k _ => ?_)))
  · rw [dif_pos (show ((0 : Fin (4095 + 1)).val = 0) from rfl)]
    exact mul_comm _ _
  · rw [dif_neg (show ¬ (k.succ.val = 0) from Nat.succ_ne_zero _), mul_comm,
      show (k.succ : Fin 4096) = ⟨1 + k.val, by omega⟩ from Fin.ext (Nat.add_comm _ _)]
    simp only [Nat.add_sub_cancel_left]

end Reference

/-- The reference's gradient of the rows is the kernel's. -/
theorem meet_rows (m : (ℓ : Loc nD τ sig) → Buf (Elt Ideal) ℓ) (c : Dev nD) :
    Cert.DshiftRefIdeal.Read.val_main_v22 (F := Ideal) (arg1 m c) (arg2 m c) = res_rows m c := by
  funext y
  idx_vars y
  exact reference_rows _ _ _ _

/-- The reference's gradient of the weights is the kernel's. -/
theorem meet_weight (m : (ℓ : Loc nD τ sig) → Buf (Elt Ideal) ℓ) (c : Dev nD) :
    Cert.DshiftRefIdeal.Read.val_main_v14 (F := Ideal) (arg0 m c) (arg2 m c) = res_weight m c := by
  funext y
  idx_vars y
  exact reference_weight _ _ _ _

/-- The reference runs, keeps its arguments, and holds no counter above zero at the end. -/
theorem frame_reference : Cert.quiescent_DshiftRefIdeal := fun m ρ _ =>
  (θ_run Cert.DshiftRefIdeal.defs _ _).mono (fun r h => ⟨fun c => (h c).2.2, sem_eq_zero_of_no_sems (by decide) r.2⟩)
    (Cert.DshiftRefIdeal.Value.run (F := Ideal) m ρ)

/-- The kernel's results are the reference's. -/
theorem algebraic : Cert.algebraic_DshiftIdeal_DshiftRefIdeal := by
  intro m ρ m' ρ' _ hagree
  refine ⟨fun c => res_rows m c, fun c => res_weight m c, (θ_run _ _ _).mono (fun r h c => ?_) (Cert.DshiftIdeal.Value.run_blocks m ρ),
    (θ_run _ _ _).mono (fun r h c => ?_) (Cert.DshiftRefIdeal.Value.run (F := Ideal) m' ρ')⟩
  · exact ⟨(h c).1.trans (array_rows m c), (h c).2.1.trans (array_weight m c), (h c).2.2⟩
  · obtain ⟨e0, e1, e2⟩ := hagree c
    refine ⟨((h c).1.trans (Cert.DshiftRefIdeal.Read.val_main_v22_eq _ _)).trans ?_,
      ((h c).2.1.trans (Cert.DshiftRefIdeal.Read.val_main_v14_eq _ _)).trans ?_, (h c).2.2⟩
    · rw [e1, e2]; exact meet_rows m c
    · rw [e0, e2]; exact meet_weight m c

end Cert.Shf

end
-- ==== Proof.Loss.lean ====
/-
  The loss: every point of the launch takes a block of rows, stores their gradient, and adds their part of the loss to one
  row that stays in its buffer. The launch multiplies by the reciprocal of the width where the loss divides by the width.
-/
module

public import proofs.«01_k».proof.Defs
public import proofs.«01_k».proof.Proof.Rows
public import proofs.«01_k».proof.Proof.Silu
public import proofs.«01_k».proof.Proof.RowMath
public import proofs.«01_k».proof.Proof.Gen.LossIdeal.Value
public import proofs.«01_k».proof.Proof.Gen.LossRefIdeal.Read

@[expose] public section

set_option maxRecDepth 16384

noncomputable section

namespace Cert.Lss

open Cert.LossIdeal Cert.LossIdeal.Gen Idealize.ShloMosaic Idealize.ShloMosaic.TcCoe Idealize.SL.Sem

/-! ## The constants -/

/-- The width's reciprocal. -/
theorem recip_eq : Ideal.ofBits .f32 0x3A000000#32 = (((1 : ℝ) / 2048 : ℝ) : EReal) := by
  have h1 : (973078528 : ℕ) >>> 23 % 256 = 116 := by decide
  have h2 : BitVec.extractLsb' 31 1 973078528#32 = 0#1 := by decide
  norm_num [Ideal.ofBits, Ideal.ieee, h1, h2]

/-- The width. -/
theorem width_eq : Ideal.ofBits .f32 0x45000000#32 = ((2048 : ℝ) : EReal) := by
  have h1 : (1157627904 : ℕ) >>> 23 % 256 = 138 := by decide
  have h2 : BitVec.extractLsb' 31 1 1157627904#32 = 0#1 := by decide
  norm_num [Ideal.ofBits, Ideal.ieee, h1, h2]

/-- Two. -/
theorem two_eq : Ideal.ofBits .f32 0x40000000#32 = ((2 : ℝ) : EReal) := by
  have h1 : (1073741824 : ℕ) >>> 23 % 256 = 128 := by decide
  have h2 : BitVec.extractLsb' 31 1 1073741824#32 = 0#1 := by decide
  norm_num [Ideal.ofBits, Ideal.ieee, h1, h2]

/-- Dividing by the width is multiplying by its reciprocal. -/
theorem div_width (x : EReal) : Ideal.div x (Ideal.ofBits .f32 0x45000000#32) = x * Ideal.ofBits .f32 0x3A000000#32 := by
  rw [width_eq, recip_eq, Ideal.div_coe (by norm_num)]

/-- The square's gradient, halved and divided by the width. -/
theorem slope (x : EReal) : Ideal.div (Ideal.ofBits .f32 0x3F000000#32) (Ideal.ofBits .f32 0x45000000#32)
    * (Ideal.ofBits .f32 0x40000000#32 * x) = x * Ideal.ofBits .f32 0x3A000000#32 := by
  rw [div_width, two_eq, recip_eq, Blocks.half_eq, ← mul_assoc, ← EReal.coe_mul, ← EReal.coe_mul, mul_comm x]
  norm_num

/-- A half of a sum is the sum of the halves. -/
theorem half_of {n : ℕ} (g : Fin n → EReal) :
    Ideal.ofBits .f32 0x3F000000#32 * ∑ p, g p = ∑ p, Ideal.ofBits .f32 0x3F000000#32 * g p := by
  simp only [Blocks.half_eq, mul_comm (((1 : ℝ) / 2 : ℝ) : EReal)]
  exact (Cert.Spec.sum_mul_coe _ _ _ (by norm_num)).symm

/-! ## One point -/

/-- Half the mean square difference of two rows. -/
def halfMean (x y : Fin 2048 → EReal) : EReal :=
  Ideal.ofBits .f32 0x3F000000#32 * ((∑ k, (x k - y k) * (x k - y k)) * Ideal.ofBits .f32 0x3A000000#32)

section Pay
variable (x y : FVec Ideal S512x2048 .f32) (s : FVec Ideal S1x128 .f32)

/-- What a point stores of the gradient. -/
theorem pay_rows (i : Fin 512) (j : Fin 2048) :
    k0_pay2 (F := Ideal) x y (ix2 i j) = (x (ix2 i j) - y (ix2 i j)) * Ideal.ofBits .f32 0x3A000000#32 := by
  unfold k0_pay2 k0_pay1
  pointwise

/-- A point adds its part of the loss to what is there. -/
theorem pay_next (i : Fin 1) (j : Fin 128) : k0_pay4 (F := Ideal) x y s (ix2 i j)
    = s (ix2 i j) + ∑ p : Fin 512, halfMean (fun k => x (ix2 p k)) (fun k => y (ix2 p k)) := by
  unfold k0_pay4 k0_pay1 halfMean
  pointwise
  rw [half_of]

/-- The first point adds it to zero. -/
theorem pay_first (i : Fin 1) (j : Fin 128) : k0_pay4 (F := Ideal) x y (k0_pay3 (F := Ideal)) (ix2 i j)
    = ∑ p : Fin 512, halfMean (fun k => x (ix2 p k)) (fun k => y (ix2 p k)) := by
  rw [pay_next]
  unfold k0_pay3
  pointwise

end Pay

section Point
variable (c : Dev nD) (i : grid0.Coords) (a1 : Memref sig .tc .vmem S512x2048 .f32) (h1 : a1.IsWhole)
  (a2 : Memref sig .tc .vmem S512x2048 .f32) (h2 : a2.IsWhole) (a3 : Memref sig .tc .vmem S512x2048 .f32) (h3 : a3.IsWhole)
  (a4 : Memref sig .tc .vmem S1x128 .f32) (h4 : a4.IsWhole)
  (x0 x1 : FVec Ideal S512x2048 .f32) (xs : FVec Ideal S1x128 .f32)

/-- The rows' buffer after the first point. -/
theorem rows_A (hc0 : cond0_0 i) : out0_A_2 (F := Ideal) c i a1 h1 a2 h2 a3 h3 a4 h4 hc0 x0 x1 = k0_pay2 (F := Ideal) x0 x1 := by
  unfold out0_A_2
  rw [View.read_writes_eq_canon (Val := Elt Ideal) _ _ _ (cover0_A_2 c i a1 h1 a2 h2 a3 h3 a4 h4 hc0 x0 x1)]
  unfold kernelRun0_A
  dsimp only
  rw [View.canon_unit_zero Rows.hz2]
  simp only [View.readAt_eq_ld, h1.read_unread, h2.read_unread, View.ld_unit_zero (S := S512x2048) Rows.hz2]

/-- The rows' buffer after a later point. -/
theorem rows_B (hc0 : ¬cond0_0 i) : out0_B_2 (F := Ideal) c i a1 h1 a2 h2 a3 h3 a4 h4 hc0 x0 x1 xs = k0_pay2 (F := Ideal) x0 x1 := by
  unfold out0_B_2
  rw [View.read_writes_eq_canon (Val := Elt Ideal) _ _ _ (cover0_B_2 c i a1 h1 a2 h2 a3 h3 a4 h4 hc0 x0 x1 xs)]
  unfold kernelRun0_B
  dsimp only
  rw [View.canon_unit_zero Rows.hz2]
  simp only [View.readAt_eq_ld, h1.read_unread, h2.read_unread, View.ld_unit_zero (S := S512x2048) Rows.hz2]

/-- The loss's buffer after the first point. -/
theorem loss_A (hc0 : cond0_0 i) :
    out0_A_3 (F := Ideal) c i a1 h1 a2 h2 a3 h3 a4 h4 hc0 x0 x1 = k0_pay4 (F := Ideal) x0 x1 (k0_pay3 (F := Ideal)) := by
  unfold out0_A_3
  rw [View.read_writes_eq_canon (Val := Elt Ideal) _ _ _ (cover0_A_3 c i a1 h1 a2 h2 a3 h3 a4 h4 hc0 x0 x1)]
  unfold kernelRun0_A
  dsimp only
  rw [View.canon_cons_unit_zero Rows.hz2]
  unfold kernelRun0_A.sl.v20 kernelRun0_A.sl.H3_1
  simp only [View.readAt_eq_ld, h1.read_unread, h2.read_unread, View.ld_unit_zero (S := S512x2048) Rows.hz2]
  exact congrArg (k0_pay4 (F := Ideal) x0 x1) ((View.readCov_full a4.view _ _ _ _).trans rfl)

/-- The loss's buffer after a later point. -/
theorem loss_B (hc0 : ¬cond0_0 i) : out0_B_3 (F := Ideal) c i a1 h1 a2 h2 a3 h3 a4 h4 hc0 x0 x1 xs = k0_pay4 (F := Ideal) x0 x1 xs := by
  unfold out0_B_3
  rw [View.read_writes_eq_canon (Val := Elt Ideal) _ _ _ (cover0_B_3 c i a1 h1 a2 h2 a3 h3 a4 h4 hc0 x0 x1 xs)]
  unfold kernelRun0_B
  dsimp only
  rw [View.canon_unit_zero Rows.hz2]
  simp only [View.readAt_eq_ld, h1.read_unread, h2.read_unread, h4.read_unread,
    View.ld_unit_zero (S := S512x2048) Rows.hz2, View.ld_unit_zero (S := S1x128) Rows.hz2]

end Point

/-! ## The blocks -/

section Arrays
variable (m : (ℓ : Loc nD τ sig) → Buf (Elt Ideal) ℓ) (c : Dev nD)

/-- The rows' values. -/
abbrev arg0 : FVec Ideal S4096x2048 .f32 := m ((c : Thread nD τ).loc main_arg0)
/-- What they should be. -/
abbrev arg1 : FVec Ideal S4096x2048 .f32 := m ((c : Thread nD τ).loc main_arg1)

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel

theorem points (t : Fin cfg0.N) : t.val < 8 := t.isLt.trans_eq (show cfg0.N = 8 from N_0)

/-- A row of a point's block. -/
def rowOf (t : Fin cfg0.N) (i : Fin 512) : Fin 4096 := Blocks.place (b := 8) ⟨t.val, points t⟩ i

/-- The block of the values. -/
theorem block_0 (t : Fin cfg0.N) (i : Fin 512) (k : Fin 2048) :
    (iblk m c 0 t : FVec Ideal S512x2048 .f32) (ix2 i k) = arg0 m c (ix2 (rowOf t i) k) := by
  unfold iblk
  rw [View.read_apply]
  exact (congrArg (V m c main_arg0) (Rows.ix2_of _ (ix2 (rowOf t i) k) (Rows.off (index_0 t).1 512 i.val)
    (Rows.off_zero (index_0 t).2 2048 k.val))).trans (congrFun (V_main_arg0 m c) _)

/-- The block of what they should be. -/
theorem block_1 (t : Fin cfg0.N) (i : Fin 512) (k : Fin 2048) :
    (iblk m c 1 t : FVec Ideal S512x2048 .f32) (ix2 i k) = arg1 m c (ix2 (rowOf t i) k) := by
  unfold iblk
  rw [View.read_apply]
  exact (congrArg (V m c main_arg1) (Rows.ix2_of _ (ix2 (rowOf t i) k) (Rows.off (index_1 t).1 512 i.val)
    (Rows.off_zero (index_1 t).2 2048 k.val))).trans (congrFun (V_main_arg1 m c) _)

/-! ## The results -/

/-- A row of the values. -/
def row0 (i : Fin 4096) (k : Fin 2048) : EReal := arg0 m c (ix2 i k)
/-- A row of what they should be. -/
def row1 (i : Fin 4096) (k : Fin 2048) : EReal := arg1 m c (ix2 i k)

/-- The gradient as one array. -/
def res_rows : FVec Ideal S4096x2048 .f32 := fun y =>
  (row0 m c (y 0) (y 1) - row1 m c (y 0) (y 1)) * Ideal.ofBits .f32 0x3A000000#32

/-- The loss, in every place of its row. -/
def res_loss : FVec Ideal S1x128 .f32 := fun _ => ∑ p : Fin 4096, halfMean (row0 m c p) (row1 m c p)

/-- What a point stores of the gradient. -/
theorem stored (t : Fin cfg0.N) (i : Fin 512) (j : Fin 2048) :
    ((outsAt0 m c t.val t.isLt).1 : FVec Ideal S512x2048 .f32) (ix2 i j) = res_rows m c (ix2 (rowOf t i) j) := by
  have p : k0_pay2 (F := Ideal) (iblk m c 0 t) (iblk m c 1 t) (ix2 i j) = res_rows m c (ix2 (rowOf t i) j) := by
    rw [pay_rows, block_0, block_1]
    rfl
  by_cases h : t.val % 8 = 0
  · rw [outsAt0_A m c t h]
    dsimp only
    rw [rows_A, p]
  · rw [outsAt0_B m c t h]
    dsimp only
    rw [rows_B, p]

/-- A block of rows' part of the loss. -/
theorem own (t : Fin cfg0.N) :
    (∑ p : Fin 512, halfMean (fun k => (iblk m c 0 t : FVec Ideal S512x2048 .f32) (ix2 p k))
        (fun k => (iblk m c 1 t : FVec Ideal S512x2048 .f32) (ix2 p k)))
      = ∑ p : Fin 512, halfMean (row0 m c (rowOf t p)) (row1 m c (rowOf t p)) := by
  simp only [block_0, block_1]
  rfl

/-- After the last point the buffer holds the whole loss. -/
theorem gathered (t : Fin cfg0.N) (h : t.val % 8 = 7) (i : Fin 1) (j : Fin 128) :
    ((outsAt0 m c t.val t.isLt).2 : FVec Ideal S1x128 .f32) (ix2 i j) = res_loss m c (ix2 i j) := by
  have hN : cfg0.N = 8 := N_0
  refine Rows.gathered (b := 8) (n := 512) (fun p => halfMean (row0 m c p) (row1 m c p))
    (fun k hk => ((outsAt0 m c k (hk.trans_eq hN.symm)).2 : FVec Ideal S1x128 .f32) (ix2 i j)) (fun hk => ?_) (fun k hk => ?_)
    t.val (points t) (by have := points t; omega)
  · have e := outsAt0_A m c ⟨0, hk.trans_eq hN.symm⟩ rfl
    dsimp only at e ⊢
    rw [e]
    dsimp only
    rw [loss_A, pay_first]
    exact own m c ⟨0, _⟩
  · have e := outsAt0_B m c ⟨k + 1, hk.trans_eq hN.symm⟩ (by show ¬ (k + 1) % 8 = 0; omega)
    dsimp only at e ⊢
    rw [e]
    dsimp only
    rw [loss_B, pay_next]
    exact congrArg _ (own m c ⟨k + 1, _⟩)

/-- A block of rows that is written back is that block of the array. -/
theorem block_rows (t : Fin cfg0.N) (_ : (cfg0.win 2).flush t = true) :
    (dats m 0 c).flushed 2 t = ((cfg0.win 2).blk t).view.read (Elt Ideal) (res_rows m c) := by
  rw [Cert.LossIdeal.Value.flushed2]
  funext y
  rw [View.read_apply]
  refine Eq.trans (congrArg (outsAt0 m c t.val t.isLt).1 (Rows.ix2_of _ (ix2 (y 0) (y 1)) rfl rfl))
    ((stored m c t (y 0) (y 1)).trans (congrArg (res_rows m c) (Eq.symm ?_)))
  exact Rows.ix2_of _ (ix2 (rowOf t (y 0)) (y 1)) (Rows.off (index_2 t).1 512 (y 0).val) (Rows.off_zero (index_2 t).2 2048 (y 1).val)

/-- The gradient after the launch. -/
theorem array_rows : (dats m 0 c).arrAt 2 cfg0.N = res_rows m c :=
  (dats m 0 c).arrAt_eq_of_cover 2 (res_rows m c) (block_rows m c) fun i => by
    have i0 : (i 0).val < 4096 := (i 0).isLt
    obtain ⟨t, hv⟩ : ∃ t : Fin cfg0.N, t.val = (i 0).val / 512 :=
      ⟨⟨(i 0).val / 512, by rw [show cfg0.N = 8 from N_0]; omega⟩, rfl⟩
    refine ⟨t, flush0_2 t, ?_⟩
    show i ∈ ((View.whole (Pipeline.arrRef spec0 2)).slice (win0_2.rect t)).set
    rw [View.set_slice_whole, Rect.mem_set_unit]
    intro a
    match a with
    | ⟨0, _⟩ => exact Rows.within (by decide : 0 < 512) ((index_2 t).1.trans hv)
    | ⟨1, _⟩ => exact Rows.within_zero (i 1).isLt (index_2 t).2

/-- What is written back at the end is the loss. -/
theorem block_loss (t : Fin cfg0.N) (hf : (cfg0.win 3).flush t = true) :
    (dats m 0 c).flushed 3 t = ((cfg0.win 3).blk t).view.read (Elt Ideal) (res_loss m c) := by
  rw [Cert.LossIdeal.Value.flushed3]
  funext y
  rw [View.read_apply]
  exact Eq.trans (congrArg (outsAt0 m c t.val t.isLt).2 (Rows.ix2_of _ (ix2 (y 0) (y 1)) rfl rfl))
    (gathered m c t ((flush0_3 t).mp hf) (y 0) (y 1))

/-- The loss after the launch. -/
theorem array_loss : (dats m 0 c).arrAt 3 cfg0.N = res_loss m c :=
  (dats m 0 c).arrAt_eq_of_cover 3 (res_loss m c) (block_loss m c) fun i => by
    obtain ⟨t, hv⟩ : ∃ t : Fin cfg0.N, t.val = 7 := ⟨⟨7, by rw [show cfg0.N = 8 from N_0]; omega⟩, rfl⟩
    refine ⟨t, (flush0_3 t).mpr (by omega), ?_⟩
    show i ∈ ((View.whole (Pipeline.arrRef spec0 3)).slice (win0_3.rect t)).set
    rw [View.set_slice_whole, Rect.mem_set_unit]
    intro a
    match a with
    | ⟨0, _⟩ => exact Rows.within_zero (i 0).isLt (index_3 t).1
    | ⟨1, _⟩ => exact Rows.within_zero (i 1).isLt (index_3 t).2

end Arrays

/-! ## The reference -/

section Reference
open Cert.LossRefIdeal.Read

/-- The reference's gradient. -/
theorem reference_rows (x0 x1 : FVec Ideal S4096x2048 .f32) (i : Fin 4096) (j : Fin 2048) :
    val_main_v14 (F := Ideal) x0 x1 (ix2 i j) = (x0 (ix2 i j) - x1 (ix2 i j)) * Ideal.ofBits .f32 0x3A000000#32 := by
  rw [← slope]
  unfold val_main_v14 val_main_v13 val_main_v12 val_main_v11 val_main_cst_6 val_main_v10 val_main_v9 val_main_cst_5
    val_main_cst_4 val_main_v3 val_main_v2 val_main_cst val_main_v0
  pointwise

/-- The reference's loss. -/
theorem reference_loss (x0 x1 : FVec Ideal S4096x2048 .f32) (i : Fin 1) (j : Fin 128) :
    val_main_v15 (F := Ideal) x0 x1 (ix2 i j)
      = ∑ p : Fin 4096, halfMean (fun k => x0 (ix2 p k)) (fun k => x1 (ix2 p k)) := by
  unfold val_main_v15 val_main_v8 val_main_cst_3 val_main_v7 val_main_cst_2 val_main_v6 val_main_v5 val_main_cst_1
    val_main_v4 val_main_cst_0 val_main_v1 val_main_v0
  unfold halfMean
  pointwise
  rw [half_of]
  simp only [div_width]

end Reference

/-- The reference's gradient is the kernel's. -/
theorem meet_rows (m : (ℓ : Loc nD τ sig) → Buf (Elt Ideal) ℓ) (c : Dev nD) :
    Cert.LossRefIdeal.Read.val_main_v14 (F := Ideal) (arg0 m c) (arg1 m c) = res_rows m c := by
  funext y
  idx_vars y
  exact reference_rows _ _ _ _

/-- The reference's loss is the kernel's. -/
theorem meet_loss (m : (ℓ : Loc nD τ sig) → Buf (Elt Ideal) ℓ) (c : Dev nD) :
    Cert.LossRefIdeal.Read.val_main_v15 (F := Ideal) (arg0 m c) (arg1 m c) = res_loss m c := by
  funext y
  idx_vars y
  exact reference_loss _ _ _ _

/-- The reference runs, keeps its arguments, and holds no counter above zero at the end. -/
theorem frame_reference : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

/-- The kernel's results are the reference's. -/
theorem algebraic : Cert.algebraic_LossIdeal_LossRefIdeal := by
  intro m ρ m' ρ' _ hagree
  refine ⟨fun c => res_rows m c, fun c => res_loss m c, (θ_run _ _ _).mono (fun r h c => ?_) (Cert.LossIdeal.Value.run_blocks m ρ),
    (θ_run _ _ _).mono (fun r h c => ?_) (Cert.LossRefIdeal.Value.run (F := Ideal) m' ρ')⟩
  · exact ⟨(h c).1.trans (array_rows m c), (h c).2.1.trans (array_loss m c), (h c).2.2⟩
  · obtain ⟨e0, e1⟩ := hagree c
    refine ⟨((h c).1.trans (Cert.LossRefIdeal.Read.val_main_v14_eq _ _)).trans ?_,
      ((h c).2.1.trans (Cert.LossRefIdeal.Read.val_main_v15_eq _ _)).trans ?_, (h c).2.2⟩
    · rw [e0, e1]; exact meet_rows m c
    · rw [e0, e1]; exact meet_loss m c

end Cert.Lss

end
-- ==== Proof.Adam.lean ====
/-
  The optimiser's step on the small parameters packed in one array: entry by entry the kernel does what the reference
  does, so its three results are the reference's.
-/
module

public import proofs.«01_k».proof.Defs
public import proofs.«01_k».proof.Proof.Rows
public import proofs.«01_k».proof.Proof.Gen.AdamIdeal.Value
public import proofs.«01_k».proof.Proof.Gen.AdamRefIdeal.Read

@[expose] public section

set_option maxRecDepth 16384

noncomputable section

namespace Cert.Step

open Idealize.ShloMosaic Idealize.ShloMosaic.TcCoe Idealize.SL.Sem
open Cert.AdamIdeal (S3072x128)
open Cert.AdamRefIdeal.Read

/-- The reference's first moment is the kernel's. -/
theorem meet_m (x1 x2 : FVec Ideal S3072x128 .f32) :
    val_main_v4 (F := Ideal) x1 x2 = Cert.AdamIdeal.Value.G5 (F := Ideal) x1 x2 := by
  funext y
  unfold val_main_v4 val_main_v3 val_main_v2 val_main_cst_0 val_main_v1 val_main_v0 val_main_cst
  unfold Cert.AdamIdeal.Value.G5
  pointwise

/-- The reference's second moment is the kernel's. -/
theorem meet_v (x1 x3 : FVec Ideal S3072x128 .f32) :
    val_main_v10 (F := Ideal) x1 x3 = Cert.AdamIdeal.Value.G6 (F := Ideal) x1 x3 := by
  funext y
  unfold val_main_v10 val_main_v9 val_main_v8 val_main_cst_2 val_main_v7 val_main_v6 val_main_v5 val_main_cst_1
  unfold Cert.AdamIdeal.Value.G6
  pointwise

/-- The reference's change of the weights is the kernel's. -/
theorem meet_w (x0 x1 x2 x3 : FVec Ideal S3072x128 .f32) :
    val_main_v23 (F := Ideal) x0 x1 x2 x3 = Cert.AdamIdeal.Value.G4 (F := Ideal) x0 x1 x2 x3 := by
  funext y
  unfold val_main_v23 val_main_v22 val_main_cst_7 val_main_v21 val_main_v20 val_main_v19 val_main_cst_6 val_main_v18 val_main_v17
    val_main_v16 val_main_cst_5 val_main_v15 val_main_v14 val_main_v13 val_main_cst_4 val_main_v12 val_main_v11 val_main_cst_3
    val_main_v10 val_main_v9 val_main_v8 val_main_cst_2 val_main_v7 val_main_v6 val_main_v5 val_main_cst_1
    val_main_v4 val_main_v3 val_main_v2 val_main_cst_0 val_main_v1 val_main_v0 val_main_cst
  unfold Cert.AdamIdeal.Value.G4
  pointwise

/-- The reference runs, keeps its arguments, and holds no counter above zero at the end. -/
theorem frame_reference : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

/-- The kernel's results are the reference's. -/
theorem algebraic : Cert.algebraic_AdamIdeal_AdamRefIdeal := by
  intro m ρ m' ρ' _ hagree
  refine ⟨fun c => Cert.AdamIdeal.Value.G4 _ _ _ _, fun c => Cert.AdamIdeal.Value.G5 _ _, fun c => Cert.AdamIdeal.Value.G6 _ _,
    (θ_run _ _ _).mono (fun r h c => ⟨(h c).1, (h c).2.1, (h c).2.2.1, (h c).2.2.2⟩) (Cert.AdamIdeal.Value.run m ρ),
    (θ_run _ _ _).mono (fun r h c => ?_) (Cert.AdamRefIdeal.Value.run (F := Ideal) m' ρ')⟩
  obtain ⟨a0, a1, a2, a3⟩ := hagree c
  refine ⟨((h c).1.trans (val_main_v23_eq _ _ _ _)).trans ?_, ((h c).2.1.trans (val_main_v4_eq _ _)).trans ?_,
    ((h c).2.2.1.trans (val_main_v10_eq _ _)).trans ?_, (h c).2.2.2⟩
  · rw [a0, a1, a2, a3]; exact meet_w _ _ _ _
  · rw [a1, a2]; exact meet_m _ _
  · rw [a1, a3]; exact meet_v _ _

end Cert.Step

end
-- ==== Proof.Dple.lean ====
/-
  The way back through the gate of the per-layer embedding: entry by entry the gradients of the gate's logistic function
  and of the product beside it.
-/
module

public import proofs.«01_k».proof.Defs
public import proofs.«01_k».proof.Proof.Rows
public import proofs.«01_k».proof.Proof.Silu
public import proofs.«01_k».proof.Proof.Gen.DpleIdeal.Value
public import proofs.«01_k».proof.Proof.Gen.DpleRefIdeal.Read

@[expose] public section

set_option maxRecDepth 16384

noncomputable section

namespace Cert.Ple

open Idealize.ShloMosaic Idealize.ShloMosaic.TcCoe Idealize.SL.Sem
open Cert.DpleIdeal (S4096x2048)
open Cert.DpleRefIdeal.Read

/-- The reference's gradient of the gate is the kernel's. -/
theorem meet_gate (x0 x1 x2 : FVec Ideal S4096x2048 .f32) :
    val_main_v13 (F := Ideal) x0 x1 x2 = Cert.DpleIdeal.Value.G3 (F := Ideal) x0 x1 x2 := by
  funext y
  unfold val_main_v13 val_main_v12 val_main_v11 val_main_v8 val_main_v7 val_main_v6 val_main_cst_1 val_main_v5 val_main_v4
    val_main_cst_0 val_main_v3 val_main_v2 val_main_cst val_main_v1 val_main_v0
  unfold Cert.DpleIdeal.Value.G3
  pointwise
  simp only [zero_sub, EReal.neg_mul, neg_neg, mul_one]
  rw [mul_assoc _ _ (Ideal.exp _), Blocks.logistic_back]

/-- The reference's gradient of the other factor is the kernel's. -/
theorem meet_part (x0 x2 : FVec Ideal S4096x2048 .f32) :
    val_main_v14 (F := Ideal) x0 x2 = Cert.DpleIdeal.Value.G4 (F := Ideal) x0 x2 := by
  funext y
  unfold val_main_v14 val_main_v10 val_main_v5 val_main_v4 val_main_cst_0 val_main_v3 val_main_v2 val_main_cst val_main_v1 val_main_v0
  unfold Cert.DpleIdeal.Value.G4
  pointwise
  simp only [zero_sub]

/-- The reference runs, keeps its arguments, and holds no counter above zero at the end. -/
theorem frame_reference : Cert.quiescent_DpleRefIdeal := fun m ρ _ =>
  (θ_run Cert.DpleRefIdeal.defs _ _).mono (fun r h => ⟨fun c => (h c).2.2, sem_eq_zero_of_no_sems (by decide) r.2⟩)
    (Cert.DpleRefIdeal.Value.run (F := Ideal) m ρ)

/-- The kernel's results are the reference's. -/
theorem algebraic : Cert.algebraic_DpleIdeal_DpleRefIdeal := by
  intro m ρ m' ρ' _ hagree
  refine ⟨fun c => Cert.DpleIdeal.Value.G3 _ _ _, fun c => Cert.DpleIdeal.Value.G4 _ _,
    (θ_run _ _ _).mono (fun r h c => ⟨(h c).1, (h c).2.1, (h c).2.2⟩) (Cert.DpleIdeal.Value.run m ρ),
    (θ_run _ _ _).mono (fun r h c => ?_) (Cert.DpleRefIdeal.Value.run (F := Ideal) m' ρ')⟩
  obtain ⟨a0, a1, a2⟩ := hagree c
  refine ⟨((h c).1.trans (val_main_v13_eq _ _ _)).trans ?_, ((h c).2.1.trans (val_main_v14_eq _ _)).trans ?_, (h c).2.2⟩
  · rw [a0, a1, a2]; exact meet_gate _ _ _
  · rw [a0, a2]; exact meet_part _ _

end Cert.Ple

end
-- ==== Proof.Dglu.lean ====
/-
  The way back through the gated product at the end of the state space part: every point of the launch takes a block of
  rows and stores the gradients of both halves of their columns side by side.
-/
module

public import proofs.«01_k».proof.Defs
public import proofs.«01_k».proof.Proof.Rows
public import proofs.«01_k».proof.Proof.Silu
public import proofs.«01_k».proof.Proof.Gen.DgluIdeal.Value
public import proofs.«01_k».proof.Proof.Gen.DgluRefIdeal.Read

@[expose] public section

set_option maxRecDepth 16384

noncomputable section

namespace Cert.Glu

open Cert.DgluIdeal Cert.DgluIdeal.Gen Idealize.ShloMosaic Idealize.ShloMosaic.TcCoe Idealize.SL.Sem

/-! ## One row -/

/-- The gradient of a row: in the left half the gradient times the gate, in the right half that of the gate. -/
def back (z : Fin 4096 → EReal) (d : Fin 2048 → EReal) (j : Fin 4096) : EReal :=
  if h : j.val < 2048 then d ⟨j.val, h⟩ * Ideal.div 1 (1 + Ideal.exp (-z ⟨2048 + j.val, by omega⟩))
  else
    z ⟨j.val - 2048, by omega⟩ * d ⟨j.val - 2048, by omega⟩
      * (Ideal.div 1 (1 + Ideal.exp (-z ⟨2048 + (j.val - 2048), by omega⟩))
        * (1 - Ideal.div 1 (1 + Ideal.exp (-z ⟨2048 + (j.val - 2048), by omega⟩))))

/-- What a point stores. -/
theorem pay_rows (x : FVec Ideal S256x4096 .f32) (d : FVec Ideal S256x2048 .f32) (i : Fin 256) (j : Fin 4096) :
    k0_pay1 (F := Ideal) x d (ix2 i j) = back (fun k => x (ix2 i k)) (fun k => d (ix2 i k)) j := by
  unfold k0_pay1 back
  pointwise
  by_cases h : j.val < 2048
  · simp only [dif_pos h, zero_add, zero_sub]
  · simp only [dif_neg h, add_zero, zero_sub, EReal.neg_mul, neg_neg]
    rw [mul_assoc _ _ (Ideal.exp _), Blocks.logistic_back]

/-- The buffer after a point. -/
theorem out_rows (x : FVec Ideal S256x4096 .f32) (d : FVec Ideal S256x2048 .f32) :
    out0_2 (F := Ideal) x d = k0_pay1 (F := Ideal) x d := by
  unfold out0_2
  rw [View.canon_unit_zero Rows.hz2]
  simp only [View.ld_unit_zero (S := S256x4096) Rows.hz2, View.ld_unit_zero (S := S256x2048) Rows.hz2]

/-! ## The blocks -/

section Arrays
variable (m : (ℓ : Loc nD τ sig) → Buf (Elt Ideal) ℓ) (c : Dev nD)

/-- Both halves before the gate. -/
abbrev arg0 : FVec Ideal S4096x4096 .f32 := m ((c : Thread nD τ).loc main_arg0)
/-- The gradient behind. -/
abbrev arg1 : FVec Ideal S4096x2048 .f32 := m ((c : Thread nD τ).loc main_arg1)

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel

theorem points (t : Fin cfg0.N) : t.val < 16 := t.isLt.trans_eq (show cfg0.N = 16 from N_0)

/-- A row of a point's block. -/
def rowOf (t : Fin cfg0.N) (i : Fin 256) : Fin 4096 := Blocks.place (b := 16) ⟨t.val, points t⟩ i

/-- The block of the halves. -/
theorem block_0 (t : Fin cfg0.N) (i : Fin 256) (k : Fin 4096) :
    (iblk m c 0 t : FVec Ideal S256x4096 .f32) (ix2 i k) = arg0 m c (ix2 (rowOf t i) k) := by
  unfold iblk
  rw [View.read_apply]
  exact (congrArg (V m c main_arg0) (Rows.ix2_of _ (ix2 (rowOf t i) k) (Rows.off (index_0 t).1 256 i.val)
    (Rows.off_zero (index_0 t).2 4096 k.val))).trans (congrFun (V_main_arg0 m c) _)

/-- The block of the gradient. -/
theorem block_1 (t : Fin cfg0.N) (i : Fin 256) (k : Fin 2048) :
    (iblk m c 1 t : FVec Ideal S256x2048 .f32) (ix2 i k) = arg1 m c (ix2 (rowOf t i) k) := by
  unfold iblk
  rw [View.read_apply]
  exact (congrArg (V m c main_arg1) (Rows.ix2_of _ (ix2 (rowOf t i) k) (Rows.off (index_1 t).1 256 i.val)
    (Rows.off_zero (index_1 t).2 2048 k.val))).trans (congrFun (V_main_arg1 m c) _)

/-- The result as one array. -/
def res : FVec Ideal S4096x4096 .bf16 := fun y =>
  back (fun k => arg0 m c (ix2 (y 0 : Fin 4096) k)) (fun k => arg1 m c (ix2 (y 0 : Fin 4096) k)) (y 1)

/-- What a point stores is its block of the array. -/
theorem stored (t : Fin cfg0.N) (i : Fin 256) (j : Fin 4096) :
    (out0_2 (F := Ideal) (iblk m c 0 t) (iblk m c 1 t) : FVec Ideal S256x4096 .bf16) (ix2 i j) = res m c (ix2 (rowOf t i) j) := by
  rw [out_rows, pay_rows]
  simp only [block_0, block_1]
  rfl

/-- A block that is written back is that block of the array. -/
theorem block_res (t : Fin cfg0.N) (_ : (cfg0.win 2).flush t = true) :
    (dats m 0 c).flushed 2 t = ((cfg0.win 2).blk t).view.read (Elt Ideal) (res m c) := by
  rw [Cert.DgluIdeal.Value.flushed2]
  funext y
  rw [View.read_apply]
  refine Eq.trans (congrArg (out0_2 (F := Ideal) (iblk m c 0 t) (iblk m c 1 t)) (Rows.ix2_of _ (ix2 (y 0) (y 1)) rfl rfl))
    ((stored m c t (y 0) (y 1)).trans (congrArg (res m c) (Eq.symm ?_)))
  exact Rows.ix2_of _ (ix2 (rowOf t (y 0)) (y 1)) (Rows.off (index_2 t).1 256 (y 0).val) (Rows.off_zero (index_2 t).2 4096 (y 1).val)

/-- The array after the launch. -/
theorem array_res : (dats m 0 c).arrAt 2 cfg0.N = res m c :=
  (dats m 0 c).arrAt_eq_of_cover 2 (res m c) (block_res m c) fun i => by
    have i0 : (i 0).val < 4096 := (i 0).isLt
    obtain ⟨t, hv⟩ : ∃ t : Fin cfg0.N, t.val = (i 0).val / 256 :=
      ⟨⟨(i 0).val / 256, by rw [show cfg0.N = 16 from N_0]; omega⟩, rfl⟩
    refine ⟨t, flush0_2 t, ?_⟩
    show i ∈ ((View.whole (Pipeline.arrRef spec0 2)).slice (win0_2.rect t)).set
    rw [View.set_slice_whole, Rect.mem_set_unit]
    intro a
    match a with
    | ⟨0, _⟩ => exact Rows.within (by decide : 0 < 256) ((index_2 t).1.trans hv)
    | ⟨1, _⟩ => exact Rows.within_zero (i 1).isLt (index_2 t).2

end Arrays

/-! ## The reference -/

section Reference
open Cert.DgluRefIdeal.Read

/-- The reference's result. -/
theorem reference_res (x0 : FVec Ideal S4096x4096 .f32) (x1 : FVec Ideal S4096x2048 .f32) (i : Fin 4096) (j : Fin 4096) :
    val_main_v18 (F := Ideal) x0 x1 (ix2 i j) = back (fun k => x0 (ix2 i k)) (fun k => x1 (ix2 i k)) j := by
  unfold val_main_v18 val_main_v17 val_main_v16 val_main_cst_3 val_main_v15 val_main_cst_2 val_main_v14 val_main_v13
    val_main_v12 val_main_v10 val_main_v9 val_main_v8 val_main_cst_1 val_main_v7 val_main_v6 val_main_cst_0
    val_main_v5 val_main_v4 val_main_cst val_main_v3 val_main_v2 val_main_v1 val_main_v0
  unfold back
  pointwise
  by_cases h : j.val < 2048
  · simp only [dif_pos h, dif_neg (show ¬(2048 ≤ j.val ∧ j.val - 2048 < 2048) by omega), zero_add]
  · simp only [dif_neg h, dif_pos (show 2048 ≤ j.val ∧ j.val - 2048 < 2048 by omega), add_zero]

end Reference

/-- The reference's result is the kernel's. -/
theorem meet (m : (ℓ : Loc nD τ sig) → Buf (Elt Ideal) ℓ) (c : Dev nD) :
    Cert.DgluRefIdeal.Read.val_main_v18 (F := Ideal) (arg0 m c) (arg1 m c) = res m c := by
  funext y
  idx_vars y
  exact reference_res _ _ _ _

/-- The reference runs, keeps its arguments, and holds no counter above zero at the end. -/
theorem frame_reference : Cert.quiescent_DgluRefIdeal := fun m ρ _ =>
  (θ_run Cert.DgluRefIdeal.defs _ _).mono (fun r h => ⟨fun c => (h c).2, sem_eq_zero_of_no_sems (by decide) r.2⟩)
    (Cert.DgluRefIdeal.Value.run (F := Ideal) m ρ)

/-- The kernel's result is the reference's. -/
theorem algebraic : Cert.algebraic_DgluIdeal_DgluRefIdeal := by
  intro m ρ m' ρ' _ hagree
  refine ⟨fun c => res m c, (θ_run _ _ _).mono (fun r h c => ?_) (Cert.DgluIdeal.Value.run_blocks m ρ),
    (θ_run _ _ _).mono (fun r h c => ?_) (Cert.DgluRefIdeal.Value.run (F := Ideal) m' ρ')⟩
  · exact ⟨(h c).1.trans (array_res m c), (h c).2⟩
  · obtain ⟨e0, e1⟩ := hagree c
    refine ⟨((h c).1.trans (Cert.DgluRefIdeal.Read.val_main_v18_eq _ _)).trans ?_, (h c).2⟩
    rw [e0, e1]
    exact meet m c

end Cert.Glu

end
-- ==== Proof.Dgelu.lean ====
/-
  The way back through the skip and the gelu of the state space part: every point of the launch takes a block of rows,
  stores the gradients of both summands, and adds its part of the skip's gradient to one row that stays in its buffer. The
  launch writes the cube's slope as three products where the reference writes three times a square.
-/
module

public import proofs.«01_k».proof.Defs
public import proofs.«01_k».proof.Proof.Rows
public import proofs.«01_k».proof.Proof.Gen.DgeluIdeal.Value
public import proofs.«01_k».proof.Proof.Gen.DgeluRefIdeal.Read

@[expose] public section

set_option maxRecDepth 16384

noncomputable section

namespace Cert.Gel

open Cert.DgeluIdeal Cert.DgeluIdeal.Gen Idealize.ShloMosaic Idealize.ShloMosaic.TcCoe Idealize.SL.Sem

/-! ## Three times a value -/

/-- Three. -/
theorem three_eq : Ideal.ofBits .f32 0x40400000#32 = ((3 : ℝ) : EReal) := by
  have h1 : (1077936128 : ℕ) >>> 23 % 256 = 128 := by decide
  have h2 : BitVec.extractLsb' 31 1 1077936128#32 = 0#1 := by decide
  norm_num [Ideal.ofBits, Ideal.ieee, h1, h2]

/-- Three times a value is the value three times. -/
theorem thrice (x : EReal) : Ideal.ofBits .f32 0x40400000#32 * x = x + x + x := by
  rw [three_eq, show ((3 : ℝ) : EReal) = ((2 : ℝ) : EReal) + ((1 : ℝ) : EReal) by rw [← EReal.coe_add]; norm_num,
    EReal.right_distrib_of_nonneg (by exact_mod_cast (by norm_num : (0 : ℝ) ≤ 2)) (by exact_mod_cast (by norm_num : (0 : ℝ) ≤ 1)),
    show ((2 : ℝ) : EReal) = ((1 : ℝ) : EReal) + ((1 : ℝ) : EReal) by rw [← EReal.coe_add]; norm_num,
    EReal.right_distrib_of_nonneg (by exact_mod_cast (by norm_num : (0 : ℝ) ≤ 1)) (by exact_mod_cast (by norm_num : (0 : ℝ) ≤ 1)),
    EReal.coe_one, one_mul]

/-- The slope of the cube, in three products or in one. -/
theorem cube (a b w e : EReal) :
    a + w * w * b + w * (b * w) + b * w * w + e = e + a + b * (Ideal.ofBits .f32 0x40400000#32 * (w * w)) := by
  rw [mul_left_comm b, thrice, show w * w * b = b * (w * w) from mul_comm _ _, show w * (b * w) = b * (w * w) from mul_left_comm _ _ _,
    mul_assoc b w w]
  abel

/-! ## One value -/

/-- The hyperbolic tangent inside the gelu. -/
def bend (w : EReal) : EReal :=
  Ideal.tanh (Ideal.ofBits .f32 1061962282#32 * (w + Ideal.ofBits .f32 1027024659#32 * (w * w * w)))

/-- The gradient that reaches the gelu's argument directly through the tangent. -/
def bent (w d : EReal) : EReal :=
  Ideal.ofBits .f32 1061962282#32 * (Ideal.ofBits .f32 1056964608#32 * w * d * ((1 + bend w) * (1 - bend w)))

/-- The gradient of the gelu's argument. -/
def back (w d : EReal) : EReal :=
  Ideal.ofBits .f32 1056964608#32 * (d * (1 + bend w)) + bent w d
    + Ideal.ofBits .f32 1027024659#32 * bent w d * (Ideal.ofBits .f32 0x40400000#32 * (w * w))

section Pay
variable (x y d g : FVec Ideal S512x1024 .f32) (s r : FVec Ideal S1x1024 .f32)

/-- The gradient of the argument at a point. -/
theorem pay_back (i : Fin 512) (j : Fin 1024) : k0_pay5 (F := Ideal) x y d s (ix2 i j)
    = back (x (ix2 i j) + s (ix2 0 j) * y (ix2 i j)) (d (ix2 i j)) := by
  unfold k0_pay5 k0_pay4 back bent bend
  pointwise
  exact cube _ _ _ _

/-- That of the skipped values. -/
theorem pay_skip (i : Fin 512) (j : Fin 1024) :
    k0_pay1 (F := Ideal) (k0_pay4 (F := Ideal) s) g (ix2 i j) = s (ix2 0 j) * g (ix2 i j) := by
  unfold k0_pay1 k0_pay4
  pointwise

/-- A point adds its part of the skip's gradient to what is there. -/
theorem pay_next (i : Fin 1) (j : Fin 1024) :
    k0_pay3 (F := Ideal) y g r (ix2 i j) = r (ix2 i j) + ∑ p : Fin 512, g (ix2 p j) * y (ix2 p j) := by
  unfold k0_pay3
  pointwise

/-- The first point adds it to zero. -/
theorem pay_first (i : Fin 1) (j : Fin 1024) :
    k0_pay3 (F := Ideal) y g (k0_pay2 (F := Ideal)) (ix2 i j) = ∑ p : Fin 512, g (ix2 p j) * y (ix2 p j) := by
  rw [pay_next]
  unfold k0_pay2
  pointwise

end Pay

section Point
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (x0 x1 x2 : FVec Ideal S512x1024 .f32) (x3 xs : FVec Ideal S1x1024 .f32)

/-- The first buffer after the first point. -/
theorem rows_A (hc0 : cond0_0 i) : out0_A_4 (F := Ideal) c i a1 h1 a2 h2 a3 h3 a4 h4 a5 h5 a6 h6 a7 h7 hc0 x0 x1 x2 x3 = k0_pay5 (F := Ideal) x0 x1 x2 x3 := by
  unfold out0_A_4
  rw [View.read_writes_eq_canon (Val := Elt Ideal) _ _ _ (cover0_A_4 c i a1 h1 a2 h2 a3 h3 a4 h4 a5 h5 a6 h6 a7 h7 hc0 x0 x1 x2 x3)]
  unfold kernelRun0_A
  dsimp only
  rw [View.canon_unit_zero Rows.hz2]
  unfold kernelRun0_A.sl.r_2
  simp only [View.readAt_eq_ld, h1.read_unread, h2.read_unread, h3.read_unread, h4.read_unread, h7.read_unread,
    View.ld_unit_zero (S := S512x1024) Rows.hz2, View.ld_unit_zero (S := S1x1024) Rows.hz2]

/-- The first buffer after a later point. -/
theorem rows_B (hc0 : ¬cond0_0 i) : out0_B_4 (F := Ideal) c i a1 h1 a2 h2 a3 h3 a4 h4 a5 h5 a6 h6 a7 h7 hc0 x0 x1 x2 x3 xs = k0_pay5 (F := Ideal) x0 x1 x2 x3 := by
  unfold out0_B_4
  rw [View.read_writes_eq_canon (Val := Elt Ideal) _ _ _ (cover0_B_4 c i a1 h1 a2 h2 a3 h3 a4 h4 a5 h5 a6 h6 a7 h7 hc0 x0 x1 x2 x3 xs)]
  unfold kernelRun0_B
  dsimp only
  rw [View.canon_unit_zero Rows.hz2]
  unfold kernelRun0_B.sl.r_2
  simp only [View.readAt_eq_ld, h1.read_unread, h2.read_unread, h3.read_unread, h4.read_unread, h7.read_unread,
    View.ld_unit_zero (S := S512x1024) Rows.hz2, View.ld_unit_zero (S := S1x1024) Rows.hz2]

/-- The second buffer after the first point. -/
theorem skip_A (hc0 : cond0_0 i) : out0_A_5 (F := Ideal) c i a1 h1 a2 h2 a3 h3 a4 h4 a5 h5 a6 h6 a7 h7 hc0 x0 x1 x2 x3
    = k0_pay1 (F := Ideal) (k0_pay4 (F := Ideal) x3) (k0_pay5 (F := Ideal) x0 x1 x2 x3) := by
  unfold out0_A_5
  rw [View.read_writes_eq_canon (Val := Elt Ideal) _ _ _ (cover0_A_5 c i a1 h1 a2 h2 a3 h3 a4 h4 a5 h5 a6 h6 a7 h7 hc0 x0 x1 x2 x3)]
  unfold kernelRun0_A
  dsimp only
  rw [View.canon_unit_zero Rows.hz2]
  unfold kernelRun0_A.sl.r_1 kernelRun0_A.sl.r_2
  simp only [View.readAt_eq_ld, h1.read_unread, h2.read_unread, h3.read_unread, h4.read_unread, h7.read_unread,
    View.ld_unit_zero (S := S512x1024) Rows.hz2, View.ld_unit_zero (S := S1x1024) Rows.hz2]

/-- The second buffer after a later point. -/
theorem skip_B (hc0 : ¬cond0_0 i) : out0_B_5 (F := Ideal) c i a1 h1 a2 h2 a3 h3 a4 h4 a5 h5 a6 h6 a7 h7 hc0 x0 x1 x2 x3 xs
    = k0_pay1 (F := Ideal) (k0_pay4 (F := Ideal) x3) (k0_pay5 (F := Ideal) x0 x1 x2 x3) := by
  unfold out0_B_5
  rw [View.read_writes_eq_canon (Val := Elt Ideal) _ _ _ (cover0_B_5 c i a1 h1 a2 h2 a3 h3 a4 h4 a5 h5 a6 h6 a7 h7 hc0 x0 x1 x2 x3 xs)]
  unfold kernelRun0_B
  dsimp only
  rw [View.canon_unit_zero Rows.hz2]
  unfold kernelRun0_B.sl.r_1 kernelRun0_B.sl.r_2
  simp only [View.readAt_eq_ld, h1.read_unread, h2.read_unread, h3.read_unread, h4.read_unread, h7.read_unread,
    View.ld_unit_zero (S := S512x1024) Rows.hz2, View.ld_unit_zero (S := S1x1024) Rows.hz2]

/-- The third buffer after the first point. -/
theorem sum_A (hc0 : cond0_0 i) : out0_A_6 (F := Ideal) c i a1 h1 a2 h2 a3 h3 a4 h4 a5 h5 a6 h6 a7 h7 hc0 x0 x1 x2 x3
    = k0_pay3 (F := Ideal) x1 (k0_pay5 (F := Ideal) x0 x1 x2 x3) (k0_pay2 (F := Ideal)) := by
  unfold out0_A_6
  rw [View.read_writes_eq_canon (Val := Elt Ideal) _ _ _ (cover0_A_6 c i a1 h1 a2 h2 a3 h3 a4 h4 a5 h5 a6 h6 a7 h7 hc0 x0 x1 x2 x3)]
  unfold kernelRun0_A
  dsimp only
  rw [View.canon_cons_unit_zero Rows.hz2]
  have e0 : kernelRun0_A.sl.r (F := Ideal) c a2 h2 x1 = x1 := by
    unfold kernelRun0_A.sl.r
    simp only [View.readAt_eq_ld, h1.read_unread, h2.read_unread, h3.read_unread, h4.read_unread, h7.read_unread,
    View.ld_unit_zero (S := S512x1024) Rows.hz2, View.ld_unit_zero (S := S1x1024) Rows.hz2]
  have e2 : kernelRun0_A.sl.r_2 (F := Ideal) c a1 h1 a2 h2 a3 h3 a4 h4 x0 x1 x2 x3 = k0_pay5 (F := Ideal) x0 x1 x2 x3 := by
    unfold kernelRun0_A.sl.r_2
    simp only [View.readAt_eq_ld, h1.read_unread, h2.read_unread, h3.read_unread, h4.read_unread, h7.read_unread,
    View.ld_unit_zero (S := S512x1024) Rows.hz2, View.ld_unit_zero (S := S1x1024) Rows.hz2]
  have e3 : kernelRun0_A.sl.v52 (F := Ideal) c a7 = k0_pay2 (F := Ideal) := by
    unfold kernelRun0_A.sl.v52 kernelRun0_A.sl.H6_1
    exact (View.readCov_full a7.view _ _ _ _).trans rfl
  rw [e0, e2, e3]

/-- The third buffer after a later point. -/
theorem sum_B (hc0 : ¬cond0_0 i) : out0_B_6 (F := Ideal) c i a1 h1 a2 h2 a3 h3 a4 h4 a5 h5 a6 h6 a7 h7 hc0 x0 x1 x2 x3 xs
    = k0_pay3 (F := Ideal) x1 (k0_pay5 (F := Ideal) x0 x1 x2 x3) xs := by
  unfold out0_B_6
  rw [View.read_writes_eq_canon (Val := Elt Ideal) _ _ _ (cover0_B_6 c i a1 h1 a2 h2 a3 h3 a4 h4 a5 h5 a6 h6 a7 h7 hc0 x0 x1 x2 x3 xs)]
  unfold kernelRun0_B
  dsimp only
  rw [View.canon_unit_zero Rows.hz2]
  unfold kernelRun0_B.sl.r kernelRun0_B.sl.r_2
  simp only [View.readAt_eq_ld, h1.read_unread, h2.read_unread, h3.read_unread, h4.read_unread, h7.read_unread,
    View.ld_unit_zero (S := S512x1024) Rows.hz2, View.ld_unit_zero (S := S1x1024) Rows.hz2]

end Point

/-! ## The blocks -/

section Arrays
variable (m : (ℓ : Loc nD τ sig) → Buf (Elt Ideal) ℓ) (c : Dev nD)

/-- The scan's values. -/
abbrev arg0 : FVec Ideal S4096x1024 .f32 := m ((c : Thread nD τ).loc main_arg0)
/-- The skipped values. -/
abbrev arg1 : FVec Ideal S4096x1024 .f32 := m ((c : Thread nD τ).loc main_arg1)
/-- The skip. -/
abbrev arg2 : FVec Ideal S1024 .f32 := m ((c : Thread nD τ).loc main_arg2)
/-- The gradient behind. -/
abbrev arg3 : FVec Ideal S4096x1024 .f32 := m ((c : Thread nD τ).loc main_arg3)

/-- The skip, as a row, before the launch. -/
theorem V_skip (i : Fin 1) (k : Fin 1024) : (V m c main_v0 : FVec Ideal S1x1024 .f32) (ix2 i k) = arg2 m c (ix1 k) := by
  have e : (V m c main_v0 : FVec Ideal S1x1024 .f32) = broadcastInDim S1x1024 ![1] bcast_S1024_S1x1024_1 (arg2 m c) := by
    simp only [V, List.flatten_cons, List.flatten_nil, List.append_nil]
    simp only [hostOps0, List.cons_append, List.nil_append]
    after_results_simp
    try rfl
  rw [e]
  pointwise

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = t.val ∧ win0_5.index t 1 = 0 := by decide +kernel
theorem index_6 : ∀ t : Fin grid0.N, win0_6.index t 0 = 0 ∧ win0_6.index t 1 = 0 := by decide +kernel

theorem points (t : Fin cfg0.N) : t.val < 8 := t.isLt.trans_eq (show cfg0.N = 8 from N_0)

/-- A row of a point's block. -/
def rowOf (t : Fin cfg0.N) (i : Fin 512) : Fin 4096 := Blocks.place (b := 8) ⟨t.val, points t⟩ i

/-- The block of the scan's values. -/
theorem block_0 (t : Fin cfg0.N) (i : Fin 512) (k : Fin 1024) :
    (iblk m c 0 t : FVec Ideal S512x1024 .f32) (ix2 i k) = arg0 m c (ix2 (rowOf t i) k) := by
  unfold iblk
  rw [View.read_apply]
  exact (congrArg (V m c main_arg0) (Rows.ix2_of _ (ix2 (rowOf t i) k) (Rows.off (index_0 t).1 512 i.val)
    (Rows.off_zero (index_0 t).2 1024 k.val))).trans (congrFun (V_main_arg0 m c) _)

/-- The block of the skipped values. -/
theorem block_1 (t : Fin cfg0.N) (i : Fin 512) (k : Fin 1024) :
    (iblk m c 1 t : FVec Ideal S512x1024 .f32) (ix2 i k) = arg1 m c (ix2 (rowOf t i) k) := by
  unfold iblk
  rw [View.read_apply]
  exact (congrArg (V m c main_arg1) (Rows.ix2_of _ (ix2 (rowOf t i) k) (Rows.off (index_1 t).1 512 i.val)
    (Rows.off_zero (index_1 t).2 1024 k.val))).trans (congrFun (V_main_arg1 m c) _)

/-- The block of the gradient. -/
theorem block_2 (t : Fin cfg0.N) (i : Fin 512) (k : Fin 1024) :
    (iblk m c 2 t : FVec Ideal S512x1024 .f32) (ix2 i k) = arg3 m c (ix2 (rowOf t i) k) := by
  unfold iblk
  rw [View.read_apply]
  exact (congrArg (V m c main_arg3) (Rows.ix2_of _ (ix2 (rowOf t i) k) (Rows.off (index_2 t).1 512 i.val)
    (Rows.off_zero (index_2 t).2 1024 k.val))).trans (congrFun (V_main_arg3 m c) _)

/-- The skip at a point. -/
theorem block_3 (t : Fin cfg0.N) (i : Fin 1) (k : Fin 1024) :
    (iblk m c 3 t : FVec Ideal S1x1024 .f32) (ix2 i k) = arg2 m c (ix1 k) := by
  unfold iblk
  rw [View.read_apply]
  exact (congrArg (V m c main_v0) (Rows.ix2_of _ (ix2 i k) (Rows.off_zero (index_3 t).1 1 i.val)
    (Rows.off_zero (index_3 t).2 1024 k.val))).trans (V_skip m c i k)

/-! ## The results -/

/-- The gradient of the gelu's argument, at a place of the array. -/
def grad (i : Fin 4096) (j : Fin 1024) : EReal :=
  back (arg0 m c (ix2 i j) + arg2 m c (ix1 j) * arg1 m c (ix2 i j)) (arg3 m c (ix2 i j))

/-- The gradient of the scan's values as one array. -/
def res_rows : FVec Ideal S4096x1024 .f32 := fun y => grad m c (y 0) (y 1)

/-- The gradient of the skipped values as one array. -/
def res_skip : FVec Ideal S4096x1024 .f32 := fun y => arg2 m c (ix1 (y 1 : Fin 1024)) * grad m c (y 0) (y 1)

/-- A row's part of the skip's gradient. -/
def part (i : Fin 4096) (j : Fin 1024) : EReal := grad m c i j * arg1 m c (ix2 i j)

/-- The gradient of the skip as one array. -/
def res_sum : FVec Ideal S1x1024 .f32 := fun y => ∑ p : Fin 4096, part m c p (y 1)

/-- The gradient of the argument at a point. -/
theorem pay_grad (t : Fin cfg0.N) (i : Fin 512) (j : Fin 1024) :
    k0_pay5 (F := Ideal) (iblk m c 0 t) (iblk m c 1 t) (iblk m c 2 t) (iblk m c 3 t) (ix2 i j) = grad m c (rowOf t i) j := by
  rw [pay_back, block_0, block_1, block_2, block_3]
  rfl

/-- What a point stores of the gradient of the scan's values. -/
theorem stored_rows (t : Fin cfg0.N) (i : Fin 512) (j : Fin 1024) :
    ((outsAt0 m c t.val t.isLt).1 : FVec Ideal S512x1024 .f32) (ix2 i j) = res_rows m c (ix2 (rowOf t i) j) := by
  by_cases h : t.val % 8 = 0
  · rw [outsAt0_A m c t h]
    dsimp only
    rw [rows_A, pay_grad]
    rfl
  · rw [outsAt0_B m c t h]
    dsimp only
    rw [rows_B, pay_grad]
    rfl

/-- What a point stores of the gradient of the skipped values. -/
theorem stored_skip (t : Fin cfg0.N) (i : Fin 512) (j : Fin 1024) :
    ((outsAt0 m c t.val t.isLt).2.1 : FVec Ideal S512x1024 .f32) (ix2 i j) = res_skip m c (ix2 (rowOf t i) j) := by
  by_cases h : t.val % 8 = 0
  · rw [outsAt0_A m c t h]
    dsimp only
    rw [skip_A, pay_skip, pay_grad, block_3]
    rfl
  · rw [outsAt0_B m c t h]
    dsimp only
    rw [skip_B, pay_skip, pay_grad, block_3]
    rfl

/-- A block of rows' part of the skip's gradient. -/
theorem own (t : Fin cfg0.N) (j : Fin 1024) :
    (∑ p : Fin 512, k0_pay5 (F := Ideal) (iblk m c 0 t) (iblk m c 1 t) (iblk m c 2 t) (iblk m c 3 t) (ix2 p j)
        * (iblk m c 1 t : FVec Ideal S512x1024 .f32) (ix2 p j))
      = ∑ p : Fin 512, part m c (rowOf t p) j := by
  simp only [pay_grad, block_1]
  rfl

/-- After the last point the buffer holds the whole gradient of the skip. -/
theorem gathered (t : Fin cfg0.N) (h : t.val % 8 = 7) (i : Fin 1) (j : Fin 1024) :
    ((outsAt0 m c t.val t.isLt).2.2 : FVec Ideal S1x1024 .f32) (ix2 i j) = res_sum m c (ix2 i j) := by
  have hN : cfg0.N = 8 := N_0
  refine Rows.gathered (b := 8) (n := 512) (fun p => part m c p j)
    (fun k hk => ((outsAt0 m c k (hk.trans_eq hN.symm)).2.2 : FVec Ideal S1x1024 .f32) (ix2 i j)) (fun hk => ?_) (fun k hk => ?_)
    t.val (points t) (by have := points t; omega)
  · have e := outsAt0_A m c ⟨0, hk.trans_eq hN.symm⟩ rfl
    dsimp only at e ⊢
    rw [e]
    dsimp only
    rw [sum_A, pay_first]
    exact own m c ⟨0, _⟩ j
  · have e := outsAt0_B m c ⟨k + 1, hk.trans_eq hN.symm⟩ (by show ¬ (k + 1) % 8 = 0; omega)
    dsimp only at e ⊢
    rw [e]
    dsimp only
    rw [sum_B, pay_next]
    exact congrArg _ (own m c ⟨k + 1, _⟩ j)

/-- A block of the gradient of the scan's values that is written back is that block of the array. -/
theorem block_rows (t : Fin cfg0.N) (_ : (cfg0.win 4).flush t = true) :
    (dats m 0 c).flushed 4 t = ((cfg0.win 4).blk t).view.read (Elt Ideal) (res_rows m c) := by
  rw [Cert.DgeluIdeal.Value.flushed4]
  funext y
  rw [View.read_apply]
  refine Eq.trans (congrArg (outsAt0 m c t.val t.isLt).1 (Rows.ix2_of _ (ix2 (y 0) (y 1)) rfl rfl))
    ((stored_rows m c t (y 0) (y 1)).trans (congrArg (res_rows m c) (Eq.symm ?_)))
  exact Rows.ix2_of _ (ix2 (rowOf t (y 0)) (y 1)) (Rows.off (index_4 t).1 512 (y 0).val) (Rows.off_zero (index_4 t).2 1024 (y 1).val)

/-- The gradient of the scan's values after the launch. -/
theorem array_rows : (dats m 0 c).arrAt 4 cfg0.N = res_rows m c :=
  (dats m 0 c).arrAt_eq_of_cover 4 (res_rows m c) (block_rows m c) fun i => by
    have i0 : (i 0).val < 4096 := (i 0).isLt
    obtain ⟨t, hv⟩ : ∃ t : Fin cfg0.N, t.val = (i 0).val / 512 :=
      ⟨⟨(i 0).val / 512, by rw [show cfg0.N = 8 from N_0]; omega⟩, rfl⟩
    refine ⟨t, flush0_4 t, ?_⟩
    show i ∈ ((View.whole (Pipeline.arrRef spec0 4)).slice (win0_4.rect t)).set
    rw [View.set_slice_whole, Rect.mem_set_unit]
    intro a
    match a with
    | ⟨0, _⟩ => exact Rows.within (by decide : 0 < 512) ((index_4 t).1.trans hv)
    | ⟨1, _⟩ => exact Rows.within_zero (i 1).isLt (index_4 t).2

/-- A block of the gradient of the skipped values that is written back is that block of the array. -/
theorem block_skip (t : Fin cfg0.N) (_ : (cfg0.win 5).flush t = true) :
    (dats m 0 c).flushed 5 t = ((cfg0.win 5).blk t).view.read (Elt Ideal) (res_skip m c) := by
  rw [Cert.DgeluIdeal.Value.flushed5]
  funext y
  rw [View.read_apply]
  refine Eq.trans (congrArg (outsAt0 m c t.val t.isLt).2.1 (Rows.ix2_of _ (ix2 (y 0) (y 1)) rfl rfl))
    ((stored_skip m c t (y 0) (y 1)).trans (congrArg (res_skip m c) (Eq.symm ?_)))
  exact Rows.ix2_of _ (ix2 (rowOf t (y 0)) (y 1)) (Rows.off (index_5 t).1 512 (y 0).val) (Rows.off_zero (index_5 t).2 1024 (y 1).val)

/-- The gradient of the skipped values after the launch. -/
theorem array_skip : (dats m 0 c).arrAt 5 cfg0.N = res_skip m c :=
  (dats m 0 c).arrAt_eq_of_cover 5 (res_skip m c) (block_skip m c) fun i => by
    have i0 : (i 0).val < 4096 := (i 0).isLt
    obtain ⟨t, hv⟩ : ∃ t : Fin cfg0.N, t.val = (i 0).val / 512 :=
      ⟨⟨(i 0).val / 512, by rw [show cfg0.N = 8 from N_0]; omega⟩, rfl⟩
    refine ⟨t, flush0_5 t, ?_⟩
    show i ∈ ((View.whole (Pipeline.arrRef spec0 5)).slice (win0_5.rect t)).set
    rw [View.set_slice_whole, Rect.mem_set_unit]
    intro a
    match a with
    | ⟨0, _⟩ => exact Rows.within (by decide : 0 < 512) ((index_5 t).1.trans hv)
    | ⟨1, _⟩ => exact Rows.within_zero (i 1).isLt (index_5 t).2

/-- What is written back at the end is the gradient of the skip. -/
theorem block_sum (t : Fin cfg0.N) (hf : (cfg0.win 6).flush t = true) :
    (dats m 0 c).flushed 6 t = ((cfg0.win 6).blk t).view.read (Elt Ideal) (res_sum m c) := by
  rw [Cert.DgeluIdeal.Value.flushed6]
  funext y
  rw [View.read_apply]
  refine Eq.trans (congrArg (outsAt0 m c t.val t.isLt).2.2 (Rows.ix2_of _ (ix2 (y 0) (y 1)) rfl rfl))
    ((gathered m c t ((flush0_6 t).mp hf) (y 0) (y 1)).trans (congrArg (res_sum m c) (Eq.symm ?_)))
  exact Rows.ix2_of _ (ix2 (y 0) (y 1)) (Rows.off_zero (index_6 t).1 1 (y 0).val) (Rows.off_zero (index_6 t).2 1024 (y 1).val)

/-- The gradient of the skip after the launch. -/
theorem array_sum : (dats m 0 c).arrAt 6 cfg0.N = res_sum m c :=
  (dats m 0 c).arrAt_eq_of_cover 6 (res_sum m c) (block_sum m c) fun i => by
    obtain ⟨t, hv⟩ : ∃ t : Fin cfg0.N, t.val = 7 := ⟨⟨7, by rw [show cfg0.N = 8 from N_0]; omega⟩, rfl⟩
    refine ⟨t, (flush0_6 t).mpr (by omega), ?_⟩
    show i ∈ ((View.whole (Pipeline.arrRef spec0 6)).slice (win0_6.rect t)).set
    rw [View.set_slice_whole, Rect.mem_set_unit]
    intro a
    match a with
    | ⟨0, _⟩ => exact Rows.within_zero (i 0).isLt (index_6 t).1
    | ⟨1, _⟩ => exact Rows.within_zero (i 1).isLt (index_6 t).2

end Arrays

/-! ## The reference -/

section Reference
open Cert.DgeluRefIdeal.Read
variable (x0 x1 x3 : FVec Ideal S4096x1024 .f32) (x2 : FVec Ideal S1024 .f32)

/-- The reference's gradient of the scan's values. -/
theorem reference_rows (i : Fin 4096) (j : Fin 1024) : val_main_v36 (F := Ideal) x0 x1 x2 x3 (ix2 i j)
    = back (x0 (ix2 i j) + x2 (ix1 j) * x1 (ix2 i j)) (x3 (ix2 i j)) := by
  unfold val_main_v36 val_main_v35 val_main_v34 val_main_v33 val_main_cst_8 val_main_v32 val_main_v31 val_main_v30
    val_main_cst_7 val_main_v29 val_main_v28 val_main_v27 val_main_cst_6 val_main_v26 val_main_v25 val_main_v23
    val_main_v22 val_main_cst_5 val_main_v21 val_main_v20 val_main_cst_4 val_main_v19 val_main_v18 val_main_v17
    val_main_cst_3 val_main_v16 val_main_v15 val_main_cst_2 val_main_v14 val_main_v13 val_main_v12 val_main_cst_1
    val_main_v11 val_main_v10 val_main_v9 val_main_cst_0 val_main_v8 val_main_v7 val_main_cst val_main_v6
    val_main_v5 val_main_v4 val_main_v3 val_main_v2 val_main_v1 val_main_v0
  unfold back bent bend
  pointwise
  rw [mul_left_comm (x3 (ix2 i j)), mul_assoc (Ideal.ofBits .f32 1056964608#32) _ (x3 (ix2 i j))]

/-- The reference's gradient of the skipped values. -/
theorem reference_skip (i : Fin 4096) (j : Fin 1024) :
    val_main_v38 (F := Ideal) x0 x1 x2 x3 (ix2 i j) = x2 (ix1 j) * val_main_v36 (F := Ideal) x0 x1 x2 x3 (ix2 i j) := by
  unfold val_main_v38 val_main_v37 val_main_v0
  pointwise

/-- The reference's gradient of the skip. -/
theorem reference_sum (i : Fin 1) (j : Fin 1024) : val_main_v43 (F := Ideal) x0 x1 x2 x3 (ix2 i j)
    = ∑ p : Fin 4096, val_main_v36 (F := Ideal) x0 x1 x2 x3 (ix2 p j) * x1 (ix2 p j) := by
  unfold val_main_v43 val_main_v42 val_main_v41 val_main_v40 val_main_v39 val_main_cst_10 val_main_cst_9
  pointwise
  rw [Fin.sum_univ_one]

end Reference

/-- The reference's gradient of the scan's values is the kernel's. -/
theorem meet_rows (m : (ℓ : Loc nD τ sig) → Buf (Elt Ideal) ℓ) (c : Dev nD) :
    Cert.DgeluRefIdeal.Read.val_main_v36 (F := Ideal) (arg0 m c) (arg1 m c) (arg2 m c) (arg3 m c) = res_rows m c := by
  funext y
  idx_vars y
  exact reference_rows _ _ _ _ _ _

/-- The reference's gradient of the skipped values is the kernel's. -/
theorem meet_skip (m : (ℓ : Loc nD τ sig) → Buf (Elt Ideal) ℓ) (c : Dev nD) :
    Cert.DgeluRefIdeal.Read.val_main_v38 (F := Ideal) (arg0 m c) (arg1 m c) (arg2 m c) (arg3 m c) = res_skip m c := by
  funext y
  idx_vars y
  refine (reference_skip _ _ _ _ _ _).trans ?_
  rw [reference_rows]
  rfl

/-- The reference's gradient of the skip is the kernel's. -/
theorem meet_sum (m : (ℓ : Loc nD τ sig) → Buf (Elt Ideal) ℓ) (c : Dev nD) :
    Cert.DgeluRefIdeal.Read.val_main_v43 (F := Ideal) (arg0 m c) (arg1 m c) (arg2 m c) (arg3 m c) = res_sum m c := by
  funext y
  idx_vars y
  refine (reference_sum _ _ _ _ _ _).trans ?_
  simp only [reference_rows]
  rfl

/-- The reference runs, keeps its arguments, and holds no counter above zero at the end. -/
theorem frame_reference : Cert.quiescent_DgeluRefIdeal := fun m ρ _ =>
  (θ_run Cert.DgeluRefIdeal.defs _ _).mono (fun r h => ⟨fun c => (h c).2.2.2, sem_eq_zero_of_no_sems (by decide) r.2⟩)
    (Cert.DgeluRefIdeal.Value.run (F := Ideal) m ρ)

/-- The kernel's results are the reference's. -/
theorem algebraic : Cert.algebraic_DgeluIdeal_DgeluRefIdeal := by
  intro m ρ m' ρ' _ hagree
  refine ⟨fun c => res_rows m c, fun c => res_skip m c, fun c => res_sum m c,
    (θ_run _ _ _).mono (fun r h c => ?_) (Cert.DgeluIdeal.Value.run_blocks m ρ),
    (θ_run _ _ _).mono (fun r h c => ?_) (Cert.DgeluRefIdeal.Value.run (F := Ideal) m' ρ')⟩
  · exact ⟨(h c).1.trans (array_rows m c), (h c).2.1.trans (array_skip m c), (h c).2.2.1.trans (array_sum m c), (h c).2.2.2⟩
  · obtain ⟨e0, e1, e2, e3⟩ := hagree c
    refine ⟨((h c).1.trans (Cert.DgeluRefIdeal.Read.val_main_v36_eq _ _)).trans ?_,
      ((h c).2.1.trans (Cert.DgeluRefIdeal.Read.val_main_v38_eq _ _)).trans ?_,
      ((h c).2.2.1.trans (Cert.DgeluRefIdeal.Read.val_main_v43_eq _ _)).trans ?_, (h c).2.2.2⟩
    · rw [e0, e1, e2, e3]; exact meet_rows m c
    · rw [e0, e1, e2, e3]; exact meet_skip m c
    · rw [e0, e1, e2, e3]; exact meet_sum m c

end Cert.Gel

end
-- ==== Proof.Halves.lean ====
/-
  The optimiser's step on a matrix whose gradient comes as two halves, of which a table says which is the device's own:
  what a grid point computes, where its blocks lie, and what the reference's operations are, number by number. Stated once
  for any number of layers and any sizes; each such call applies it to its own.
-/
module

public import proofs.«01_k».proof.Proof.Rows

@[expose] public section

set_option maxRecDepth 16384

noncomputable section

namespace Halves

open Idealize.ShloMosaic Idealize.ShloMosaic.TcCoe Idealize.SL.Sem

/-- Offsets of zero. -/
theorem hz3 : (![0, 0, 0] : Fin 3 → Nat) = fun _ => 0 := funext fun a => by fin_cases a <;> rfl

/-- An index is known by its three coordinates. -/
theorem ix3_of {s : Fin 3 → ℕ} (x y : (⟨3, s⟩ : Shape).Idx) (h0 : (x 0).val = (y 0).val)
    (h1 : (x 1).val = (y 1).val) (h2 : (x 2).val = (y 2).val) : x = y := by
  funext a
  match a with
  | ⟨0, _⟩ => exact Fin.ext h0
  | ⟨1, _⟩ => exact Fin.ext h1
  | ⟨2, _⟩ => exact Fin.ext h2

/-- A table of one entry has one place. -/
theorem only (y : (⟨1, ![1]⟩ : Shape).Idx) : y = ix1 0 := funext fun a => Fin.ext (by
  match a with
  | ⟨0, _⟩ => have h : (y 0).val < 1 := (y 0).isLt; show (y 0).val = 0; omega)

/-! ## One number -/

/-- The half that block `k` of a layer belongs to, if a half has `n` blocks, as the kernel computes it. -/
def half (n : BitVec 32) (k : ℕ) : BitVec 32 :=
  Scalar.select
    (Scalar.andi
      (Scalar.cmpi .ne
        (Scalar.subi (Scalar.extui (Scalar.cmpi .sgt (BitVec.ofNat 32 k) 0#32)) (Scalar.extui (Scalar.cmpi .slt (BitVec.ofNat 32 k) 0#32)))
        (Scalar.subi (Scalar.extui (Scalar.cmpi .sgt n 0#32)) (Scalar.extui (Scalar.cmpi .slt n 0#32))))
      (Scalar.cmpi .ne (Scalar.remsi (BitVec.ofNat 32 k) n) 0#32))
    (Scalar.subi (Scalar.divsi (BitVec.ofNat 32 k) n) 1#32)
    (Scalar.divsi (BitVec.ofNat 32 k) n)

/-- Whether that half is the device's own, by the number in the table. -/
def own (n : BitVec 32) (k : ℕ) (core : BitVec 32) : BitVec 1 := Scalar.cmpi .eq (half n k) core

/-- The number of the half of number `k`: the device's own if `k` is the core's number. -/
def pick (core : BitVec 32) (k : ℕ) (a b : Ideal .f32) : Ideal .f32 := Scalar.select (Scalar.cmpi .eq (BitVec.ofNat 32 k) core) a b

/-- The first moment after the step. -/
def moment1 (g x : Ideal .f32) : Ideal .f32 :=
  FloatOps.addf (FloatOps.mulf (Scalar.ofBits .f32 0x3F666666#32) x) (FloatOps.mulf (Scalar.ofBits .f32 0x3DCCCCCD#32) g)

/-- The second moment after the step. -/
def moment2 (g x : Ideal .f32) : Ideal .f32 :=
  FloatOps.addf (FloatOps.mulf (Scalar.ofBits .f32 0x3F7FBE77#32) x)
    (FloatOps.mulf (Scalar.ofBits .f32 0x3A83126F#32) (FloatOps.mulf g g))

/-- The change of a weight, from the moments after the step. -/
def change (w m v : Ideal .f32) : Ideal .f32 :=
  FloatOps.mulf (Scalar.ofBits .f32 0xBA83126F#32)
    (FloatOps.addf
      (FloatOps.divf (FloatOps.divf m (Scalar.ofBits .f32 0x3F26BD02#32))
        (FloatOps.addf (FloatOps.sqrt (FloatOps.divf v (Scalar.ofBits .f32 0x3C231ACC#32))) (Scalar.ofBits .f32 0x322BCC77#32)))
      (FloatOps.mulf (Scalar.ofBits .f32 0x3C23D70A#32) w))

/-- Choosing between arrays is choosing between their numbers. -/
theorem select_at {s : Shape} (o : BitVec 1) (a b : Vec Ideal s .f32) (y : s.Idx) :
    (Scalar.select o a b : Vec Ideal s .f32) y = Scalar.select o (a y) (b y) := by
  unfold Scalar.select
  split <;> rfl

/-! ## One block -/

section Block
variable {T C : ℕ} (h : (⟨3, ![1, T, C]⟩ : Shape).ShapeCasts ⟨2, ![T, C]⟩) (h' : (⟨2, ![T, C]⟩ : Shape).ShapeCasts ⟨3, ![1, T, C]⟩)

/-- A block seen without its axis of one. -/
theorem flat (x : Vec Ideal ⟨3, ![1, T, C]⟩ .f32) (p : Fin T) (q : Fin C) :
    (shapeCast ⟨2, ![T, C]⟩ x h : Vec Ideal ⟨2, ![T, C]⟩ .f32) (ix2 p q) = x (ix3 0 p q) :=
  (shapeCast_dropUnit_apply ![T, C] x h (ix2 p q)).trans (congrArg x (by funext a; fin_cases a <;> rfl))

/-- A block seen with an axis of one. -/
theorem raised (x : Vec Ideal ⟨2, ![T, C]⟩ .f32) (p : Fin T) (q : Fin C) :
    (shapeCast ⟨3, ![1, T, C]⟩ x h' : Vec Ideal ⟨3, ![1, T, C]⟩ .f32) (ix3 0 p q) = x (ix2 p q) :=
  (shapeCast_addUnit_apply ![T, C] x h' (ix3 0 p q)).trans (congrArg x (by funext a; fin_cases a <;> rfl))

variable (o : BitVec 1) (a b : Vec Ideal ⟨2, ![T, C]⟩ .f32) (w x v : Vec Ideal ⟨3, ![1, T, C]⟩ .f32)

/-- The block of the first moments that a point computes. -/
def first : FVec Ideal ⟨2, ![T, C]⟩ .f32 :=
  addf (mulf (broadcast ⟨2, ![T, C]⟩ (Scalar.ofBits .f32 0x3F666666#32)) (shapeCast ⟨2, ![T, C]⟩ x h))
    (mulf (broadcast ⟨2, ![T, C]⟩ (Scalar.ofBits .f32 0x3DCCCCCD#32)) (Scalar.select o a b))

/-- The block of the second moments that a point computes. -/
def second : FVec Ideal ⟨2, ![T, C]⟩ .f32 :=
  addf (mulf (broadcast ⟨2, ![T, C]⟩ (Scalar.ofBits .f32 0x3F7FBE77#32)) (shapeCast ⟨2, ![T, C]⟩ v h))
    (mulf (broadcast ⟨2, ![T, C]⟩ (Scalar.ofBits .f32 0x3A83126F#32)) (mulf (Scalar.select o a b) (Scalar.select o a b)))

/-- The block of the change of the weights that a point computes. -/
def moved : FVec Ideal ⟨2, ![T, C]⟩ .f32 :=
  mulf (broadcast ⟨2, ![T, C]⟩ (Scalar.ofBits .f32 0xBA83126F#32))
    (addf
      (divf (divf (first h o a b x) (broadcast ⟨2, ![T, C]⟩ (Scalar.ofBits .f32 0x3F26BD02#32)))
        (addf (sqrt (divf (second h o a b v) (broadcast ⟨2, ![T, C]⟩ (Scalar.ofBits .f32 0x3C231ACC#32))))
          (broadcast ⟨2, ![T, C]⟩ (Scalar.ofBits .f32 0x322BCC77#32))))
      (mulf (broadcast ⟨2, ![T, C]⟩ (Scalar.ofBits .f32 0x3C23D70A#32)) (shapeCast ⟨2, ![T, C]⟩ w h)))

/-- What a point leaves: its block of the gradient, of the change and of the two moments. -/
def left : Vec Ideal ⟨3, ![1, T, C]⟩ .f32 × Vec Ideal ⟨3, ![1, T, C]⟩ .f32 × Vec Ideal ⟨3, ![1, T, C]⟩ .f32 × Vec Ideal ⟨3, ![1, T, C]⟩ .f32 :=
  (shapeCast ⟨3, ![1, T, C]⟩ (Scalar.select o a b) h', shapeCast ⟨3, ![1, T, C]⟩ (moved h o a b w x v) h',
    shapeCast ⟨3, ![1, T, C]⟩ (first h o a b x) h', shapeCast ⟨3, ![1, T, C]⟩ (second h o a b v) h')

/-- What a point leaves, read at an entry. -/
theorem left_at (p : Fin T) (q : Fin C) (g W X V : Ideal .f32) (hg : Scalar.select o (a (ix2 p q)) (b (ix2 p q)) = g)
    (hw : w (ix3 0 p q) = W) (hx : x (ix3 0 p q) = X) (hv : v (ix3 0 p q) = V) :
    (left h h' o a b w x v).1 (ix3 0 p q) = g
    ∧ (left h h' o a b w x v).2.1 (ix3 0 p q) = change W (moment1 g X) (moment2 g V)
    ∧ (left h h' o a b w x v).2.2.1 (ix3 0 p q) = moment1 g X
    ∧ (left h h' o a b w x v).2.2.2 (ix3 0 p q) = moment2 g V := by
  have em : first h o a b x (ix2 p q) = moment1 g X := by rw [← hg, ← hx, ← select_at, ← flat h x p q]; rfl
  have ev : second h o a b v (ix2 p q) = moment2 g V := by rw [← hg, ← hv, ← select_at, ← flat h v p q]; rfl
  have ew : moved h o a b w x v (ix2 p q) = change W (moment1 g X) (moment2 g V) := by
    rw [← em, ← ev, ← hw, ← flat h w p q]; rfl
  exact ⟨(raised h' _ p q).trans ((select_at o a b _).trans hg), (raised h' _ p q).trans ew, (raised h' _ p q).trans em, (raised h' _ p q).trans ev⟩

end Block

/-! ## Where the blocks lie -/

/-- A layer of `R` rows is two halves of `H` rows, a half `N` blocks of `T` rows. -/
structure Sizes (R H T N : ℕ) : Prop where
  rows : R = 2 * H
  blocks : H = T * N
  pos : 0 < T
  some : 0 < N

/-- A row of a block is a row of the whole. -/
theorem row_lt {k n p T : ℕ} (hk : k < n) (hp : p < T) : k * T + p < n * T :=
  Nat.lt_of_lt_of_le (Nat.add_lt_add_left hp _) (by rw [← Nat.succ_mul]; exact Nat.mul_le_mul_right _ hk)

section Place
variable {L R H T N : ℕ} (C : ℕ) (z : Sizes R H T N)
include z

/-- A layer is `2 * N` blocks. -/
theorem Sizes.all : R = 2 * N * T := by rw [z.rows, z.blocks, Nat.mul_comm T N, Nat.mul_assoc]

/-- There is a block. -/
theorem Sizes.two : 0 < 2 * N := by have := z.some; omega

/-- The place in a large array of a place of point `t`'s block. -/
def spot (t : ℕ) (ht : t < L * (2 * N)) (p : Fin T) (q : Fin C) : (⟨3, ![L, R, C]⟩ : Shape).Idx :=
  ix3 (⟨t / (2 * N), Nat.div_lt_of_lt_mul (by rwa [Nat.mul_comm])⟩ : Fin L)
    (⟨t % (2 * N) * T + p.val, (row_lt (Nat.mod_lt _ z.two) p.isLt).trans_eq z.all.symm⟩ : Fin R) q

/-- The place in a half of a place of point `t`'s block. -/
def halfSpot (t : ℕ) (p : Fin T) (q : Fin C) : (⟨2, ![H, C]⟩ : Shape).Idx :=
  ix2 (⟨t % N * T + p.val, (row_lt (Nat.mod_lt _ z.some) p.isLt).trans_eq (z.blocks.trans (Nat.mul_comm _ _)).symm⟩ : Fin H) q

variable {C}

/-- A place of a large array as the launch computes it. -/
theorem spot_of {t : ℕ} (ht : t < L * (2 * N)) (p : Fin T) (q : Fin C) {i : Fin 3 → ℕ}
    (e : i 0 = t / (2 * N) ∧ i 1 = t % (2 * N) ∧ i 2 = 0) (y : (⟨3, ![L, R, C]⟩ : Shape).Idx)
    (h0 : (y 0).val = i 0 * 1 + 1 * 0) (h1 : (y 1).val = i 1 * T + 1 * p.val) (h2 : (y 2).val = i 2 * C + 1 * q.val) :
    y = spot C z t ht p q := by
  refine ix3_of _ _ (h0.trans ?_) (h1.trans ?_) (h2.trans ?_)
  · rw [e.1, Nat.mul_one]; rfl
  · rw [e.2.1, Nat.one_mul]; rfl
  · rw [e.2.2, Nat.zero_mul, Nat.one_mul, Nat.zero_add]; rfl

/-- A place of a half as the launch computes it. -/
theorem halfSpot_of {t : ℕ} (p : Fin T) (q : Fin C) {i : Fin 2 → ℕ} (e : i 0 = t % N ∧ i 1 = 0) (y : (⟨2, ![H, C]⟩ : Shape).Idx)
    (h0 : (y 0).val = i 0 * T + 1 * p.val) (h1 : (y 1).val = i 1 * C + 1 * q.val) : y = halfSpot C z t p q :=
  Rows.ix2_of _ _ (h0.trans (Rows.off e.1 _ _)) (h1.trans (Rows.off_zero e.2 _ _))

/-- Every place of a large array lies in the block of some point. -/
theorem covered (y : (⟨3, ![L, R, C]⟩ : Shape).Idx) : ∃ t, ∃ ht : t < L * (2 * N), ∃ p q, spot C z t ht p q = y := by
  have y0 : (y 0).val < L := (y 0).isLt
  have y1 : (y 1).val / T < 2 * N := Nat.div_lt_of_lt_mul ((y 1).isLt.trans_eq (z.all.trans (Nat.mul_comm _ _)))
  refine ⟨(y 0).val * (2 * N) + (y 1).val / T, row_lt y0 y1, ⟨(y 1).val % T, Nat.mod_lt _ z.pos⟩, y 2, ix3_of _ _ ?_ ?_ rfl⟩
  · show ((y 0).val * (2 * N) + (y 1).val / T) / (2 * N) = _
    rw [Nat.mul_comm, Nat.mul_add_div z.two, Nat.div_eq_of_lt y1, Nat.add_zero]
  · show ((y 0).val * (2 * N) + (y 1).val / T) % (2 * N) * T + (y 1).val % T = _
    rw [Nat.mul_comm (y 0).val, Nat.mul_add_mod, Nat.mod_eq_of_lt y1, Nat.mul_comm]
    exact Nat.div_add_mod _ _

/-- Sets that hold the blocks of the points hold every place. -/
theorem cover {n : ℕ} (hn : n = L * (2 * N)) (S : Fin n → Set (⟨3, ![L, R, C]⟩ : Shape).Idx)
    (h : ∀ t p q, spot C z t.val (t.isLt.trans_eq hn) p q ∈ S t) (y : (⟨3, ![L, R, C]⟩ : Shape).Idx) : ∃ t, y ∈ S t := by
  obtain ⟨t, ht, p, q, e⟩ := covered z y
  exact ⟨⟨t, ht.trans_eq hn.symm⟩, e ▸ h ⟨t, ht.trans_eq hn.symm⟩ p q⟩

/-- A block known at each of its places. -/
theorem block_of (G : FVec Ideal ⟨3, ![L, R, C]⟩ .f32) {t : ℕ} (ht : t < L * (2 * N)) (u v : Vec Ideal ⟨3, ![1, T, C]⟩ .f32)
    (hu : ∀ p q, u (ix3 0 p q) = G (spot C z t ht p q)) (hv : ∀ p q, v (ix3 0 p q) = G (spot C z t ht p q)) : u = v := by
  funext y
  rw [show y = ix3 0 (y 1 : Fin T) (y 2 : Fin C) from
    ix3_of _ _ (by have h : (y 0).val < 1 := (y 0).isLt; show (y 0).val = 0; omega) rfl rfl]
  exact (hu _ _).trans (hv _ _).symm

/-! ## The results -/

/-- The gradient of a layer put together from its halves: the half of number `k` is the device's own if `k` is the
    core's number. -/
def joined (a b : FVec Ideal ⟨2, ![H, C]⟩ .f32) (core : BitVec 32) (r : Fin R) (q : Fin C) : Ideal .f32 :=
  have hH : 0 < H := z.blocks ▸ Nat.mul_pos z.pos z.some
  pick core (r.val / H) (a (ix2 (⟨r.val % H, Nat.mod_lt _ hH⟩ : Fin H) q)) (b (ix2 (⟨r.val % H, Nat.mod_lt _ hH⟩ : Fin H) q))

/-- The gradient of all layers. -/
def grad (a b : Fin L → FVec Ideal ⟨2, ![H, C]⟩ .f32) (core : BitVec 32) : FVec Ideal ⟨3, ![L, R, C]⟩ .f32 :=
  fun y => joined z (a (y 0)) (b (y 0)) core (y 1) (y 2)

/-- A place of a half lies in its layer where the point's block says. -/
theorem grad_spot (a b : Fin L → FVec Ideal ⟨2, ![H, C]⟩ .f32) (core : BitVec 32) {t : ℕ} (ht : t < L * (2 * N)) (p : Fin T) (q : Fin C)
    (l : Fin L) (hl : t / (2 * N) = l.val) :
    grad z a b core (spot C z t ht p q) = pick core (t % (2 * N) / N) (a l (halfSpot C z t p q)) (b l (halfSpot C z t p q)) := by
  have e0 : (spot C z t ht p q 0 : Fin L) = l := Fin.ext hl
  have e1 : (t % (2 * N) * T + p.val) / H = t % (2 * N) / N := by
    rw [z.blocks, ← Nat.div_div_eq_div_mul, Nat.mul_comm _ T, Nat.mul_add_div z.pos, Nat.div_eq_of_lt p.isLt, Nat.add_zero]
  have e2 : (t % (2 * N) * T + p.val) % H = t % N * T + p.val := by
    rw [z.blocks, Nat.mod_mul, Nat.mul_comm _ T, Nat.mul_add_mod, Nat.mod_eq_of_lt p.isLt, Nat.mul_add_div z.pos,
      Nat.div_eq_of_lt p.isLt, Nat.add_zero, Nat.mod_mod_of_dvd _ (Dvd.intro_left 2 rfl), Nat.add_comm, Nat.mul_comm T]
  have hH : 0 < H := z.blocks ▸ Nat.mul_pos z.pos z.some
  have e3 : (ix2 (⟨(spot C z t ht p q 1).val % H, Nat.mod_lt _ hH⟩ : Fin H) (spot C z t ht p q 2) : (⟨2, ![H, C]⟩ : Shape).Idx)
      = halfSpot C z t p q := Rows.ix2_of _ _ e2 rfl
  unfold grad joined
  dsimp only
  rw [e0, e3]
  exact congrArg (fun k => pick core k (a l (halfSpot C z t p q)) (b l (halfSpot C z t p q))) e1

end Place

section Results
variable {s : Shape} (G W X V : FVec Ideal s .f32)

/-- The first moments after the step. -/
def outM : FVec Ideal s .f32 := fun y => moment1 (G y) (X y)

/-- The second moments after the step. -/
def outV : FVec Ideal s .f32 := fun y => moment2 (G y) (V y)

/-- The change of the weights. -/
def outW : FVec Ideal s .f32 := fun y => change (W y) (outM G X y) (outV G V y)

/-! ## The reference -/

variable (hb : (⟨0, ![]⟩ : Shape).BroadcastsInDim s ![])

/-- A number in every place. -/
abbrev const (hb : (⟨0, ![]⟩ : Shape).BroadcastsInDim s ![]) (k : BitVec 32) : FVec Ideal s .f32 :=
  broadcastInDim s ![] hb (constant (F := Ideal) ⟨0, ![]⟩ .f32 k)

variable {G} {g : FVec Ideal s .f32} (e : g = G)
include e

/-- The first moments in the reference. -/
theorem ref_first : addf (mulf (const hb 0x3F666666#32) X) (mulf (const hb 0x3DCCCCCD#32) g) = outM G X := by
  subst e
  funext y
  unfold outM moment1
  pointwise

/-- The second moments in the reference. -/
theorem ref_second : addf (mulf (const hb 0x3F7FBE77#32) V) (mulf (const hb 0x3A83126F#32) (mulf g g)) = outV G V := by
  subst e
  funext y
  unfold outV moment2
  pointwise

/-- The change of the weights in the reference. -/
theorem ref_change : mulf (const hb 0xBA83126F#32)
    (addf (Host.divf (Host.divf (addf (mulf (const hb 0x3F666666#32) X) (mulf (const hb 0x3DCCCCCD#32) g)) (const hb 0x3F26BD02#32))
      (addf (Host.sqrt (Host.divf (addf (mulf (const hb 0x3F7FBE77#32) V) (mulf (const hb 0x3A83126F#32) (mulf g g))) (const hb 0x3C231ACC#32)))
        (const hb 0x322BCC77#32))) (mulf (const hb 0x3C23D70A#32) W)) = outW G W X V := by
  rw [ref_first X hb e, ref_second V hb e]
  funext y
  unfold outW change
  pointwise

end Results

/-- Whether two numbers are equal does not depend on their order. -/
theorem equal_comm (a b : BitVec 32) : IntOp.cmpi .eq a b = Scalar.cmpi .eq b a := congrArg BitVec.ofBool Bool.beq_comm

section Reference
variable {R H T N C : ℕ} (z : Sizes R H T N) (x0 : IVec ⟨1, ![1]⟩ 32) (a b : FVec Ideal ⟨2, ![H, C]⟩ .f32)
variable (hs : (⟨1, ![1]⟩ : Shape).ShapeCasts ⟨0, ![]⟩) (hb : (⟨0, ![]⟩ : Shape).BroadcastsInDim ⟨2, ![H, C]⟩ ![])
variable (hc : Shape.Concatenates [(⟨2, ![H, C]⟩ : Shape), ⟨2, ![H, C]⟩] ⟨2, ![R, C]⟩ 0)

/-- The half of number `k` in the reference. -/
def refHalf (k : ℕ) : FVec Ideal ⟨2, ![H, C]⟩ .f32 :=
  select (broadcastInDim ⟨2, ![H, C]⟩ ![] hb (cmpi .eq (shapeCast ⟨0, ![]⟩ x0 hs) (constantI ⟨0, ![]⟩ 32 (BitVec.ofNat 32 k)))) a b

/-- That half, number by number. -/
theorem refHalf_at (k : ℕ) (y : (⟨2, ![H, C]⟩ : Shape).Idx) : refHalf x0 a b hs hb k y = pick (x0 (ix1 0)) k (a y) (b y) := by
  unfold refHalf
  show Scalar.select (broadcastInDim _ _ _ (cmpi .eq (shapeCast ⟨0, ![]⟩ x0 hs) (constantI ⟨0, ![]⟩ 32 (BitVec.ofNat 32 k))) y) _ _ = _
  rw [broadcastInDim_apply _ _ _ y (fun a => a.elim0) (fun a => a.elim0)]
  show Scalar.select (IntOp.cmpi .eq (shapeCast ⟨0, ![]⟩ x0 hs _) (BitVec.ofNat 32 k)) _ _ = _
  rw [equal_comm]
  unfold shapeCast
  rw [only (Shape.reshapeEquiv hs _)]
  rfl

/-- A layer's gradient in the reference. -/
theorem refJoined_at (r : Fin R) (q : Fin C) :
    concatenate ⟨2, ![R, C]⟩ 0 [⟨⟨2, ![H, C]⟩, refHalf x0 a b hs hb 0⟩, ⟨⟨2, ![H, C]⟩, refHalf x0 a b hs hb 1⟩] hc (ix2 r q)
      = joined z a b (x0 (ix1 0)) r q := by
  have hH : 0 < H := z.blocks ▸ Nat.mul_pos z.pos z.some
  have hr : r.val < 2 * H := r.isLt.trans_eq z.rows
  unfold joined
  dsimp only
  rcases Nat.lt_or_ge r.val H with h | h
  · have e : (ix2 (⟨r.val % H, Nat.mod_lt _ hH⟩ : Fin H) q : (⟨2, ![H, C]⟩ : Shape).Idx) = ix2 (⟨r.val, h⟩ : Fin H) q :=
      Rows.ix2_of _ _ (Nat.mod_eq_of_lt h) rfl
    rw [Nat.div_eq_of_lt h, e, ← refHalf_at x0 a b hs hb]
    exact concatenate_pair_apply_left (t := ⟨2, ![R, C]⟩) (s₁ := ⟨2, ![H, C]⟩) (s₂ := ⟨2, ![H, C]⟩) 0 (refHalf x0 a b hs hb 0)
      (refHalf x0 a b hs hb 1) _ (ix2 r q) rfl (ix2 (⟨r.val, h⟩ : Fin H) q) (fun b => match b with | ⟨0, _⟩ => rfl | ⟨1, _⟩ => rfl)
  · have hd : r.val / H = 1 := Nat.div_eq_of_lt_le (by omega) (by omega)
    rw [hd, ← refHalf_at x0 a b hs hb]
    refine concatenate_pair_apply_right (t := ⟨2, ![R, C]⟩) (s₁ := ⟨2, ![H, C]⟩) (s₂ := ⟨2, ![H, C]⟩) 0 (refHalf x0 a b hs hb 0)
      (refHalf x0 a b hs hb 1) _ (ix2 r q) rfl rfl (ix2 (⟨r.val % H, Nat.mod_lt _ hH⟩ : Fin H) q) (fun b hb => ?_) ?_
    · match b with
      | ⟨0, _⟩ => exact absurd rfl hb
      | ⟨1, _⟩ => rfl
    · show r.val % H + H = r.val
      rw [Nat.mod_eq_sub_mod h, Nat.mod_eq_of_lt (by omega)]; omega

variable (hl : (⟨2, ![R, C]⟩ : Shape).BroadcastsInDim ⟨3, ![1, R, C]⟩ ![1, 2])

/-- A layer's gradient in the reference, as an array of one layer. -/
def refLayer : FVec Ideal ⟨3, ![1, R, C]⟩ .f32 :=
  broadcastInDim ⟨3, ![1, R, C]⟩ ![1, 2] hl
    (concatenate ⟨2, ![R, C]⟩ 0 [⟨⟨2, ![H, C]⟩, refHalf x0 a b hs hb 0⟩, ⟨⟨2, ![H, C]⟩, refHalf x0 a b hs hb 1⟩] hc)

/-- That array, number by number. -/
theorem refLayer_at (y : (⟨3, ![1, R, C]⟩ : Shape).Idx) : refLayer x0 a b hs hb hc hl y = joined z a b (x0 (ix1 0)) (y 1) (y 2) := by
  unfold refLayer
  refine (broadcastInDim_apply _ _ _ y (ix2 (y 1 : Fin R) (y 2 : Fin C)) ?_).trans (refJoined_at z x0 a b hs hb hc (y 1) (y 2))
  · intro k
    match k with
    | ⟨0, _⟩ =>
      show (y 1).val = if R = 1 then 0 else (y 1).val
      split
      · next h => have := (y 1).isLt; have h1 : (y 1).val < R := this; omega
      · rfl
    | ⟨1, _⟩ =>
      show (y 2).val = if C = 1 then 0 else (y 2).val
      split
      · next h => have h1 : (y 2).val < C := (y 2).isLt; omega
      · rfl

/-- The gradient of the only layer in the reference. -/
theorem ref_one : refLayer x0 a b hs hb hc hl = grad z ![a] ![b] (x0 (ix1 0)) := by
  funext y
  refine (refLayer_at z x0 a b hs hb hc hl y).trans ?_
  exact congrArg (fun l : Fin 1 => joined z ((![a] : Fin 1 → FVec Ideal ⟨2, ![H, C]⟩ .f32) l)
    ((![b] : Fin 1 → FVec Ideal ⟨2, ![H, C]⟩ .f32) l) (x0 (ix1 0)) (y 1) (y 2)) (Subsingleton.elim (0 : Fin 1) (y 0))

/-- The gradient of two layers in the reference. -/
theorem ref_two (a' b' : FVec Ideal ⟨2, ![H, C]⟩ .f32)
    (ht : Shape.Concatenates [(⟨3, ![1, R, C]⟩ : Shape), ⟨3, ![1, R, C]⟩] ⟨3, ![2, R, C]⟩ 0) :
    concatenate ⟨3, ![2, R, C]⟩ 0
      [⟨⟨3, ![1, R, C]⟩, refLayer x0 a b hs hb hc hl⟩, ⟨⟨3, ![1, R, C]⟩, refLayer x0 a' b' hs hb hc hl⟩] ht
      = grad z ![a, a'] ![b, b'] (x0 (ix1 0)) := by
  funext y
  have hy : (y 0).val < 2 := (y 0).isLt
  have key : ∀ l : Fin 2, (y 0).val = l.val → grad z ![a, a'] ![b, b'] (x0 (ix1 0)) y
      = joined z ((![a, a'] : Fin 2 → FVec Ideal ⟨2, ![H, C]⟩ .f32) l) ((![b, b'] : Fin 2 → FVec Ideal ⟨2, ![H, C]⟩ .f32) l)
        (x0 (ix1 0)) (y 1) (y 2) := fun l h =>
    congrArg (fun l : Fin 2 => joined z ((![a, a'] : Fin 2 → FVec Ideal ⟨2, ![H, C]⟩ .f32) l)
      ((![b, b'] : Fin 2 → FVec Ideal ⟨2, ![H, C]⟩ .f32) l) (x0 (ix1 0)) (y 1) (y 2)) (Fin.ext h)
  rcases Nat.eq_zero_or_pos (y 0).val with h | h
  · refine Eq.trans ?_ (key 0 h).symm
    exact (concatenate_pair_apply_left (t := ⟨3, ![2, R, C]⟩) (s₁ := ⟨3, ![1, R, C]⟩) (s₂ := ⟨3, ![1, R, C]⟩) 0
      (refLayer x0 a b hs hb hc hl) (refLayer x0 a' b' hs hb hc hl) _ y rfl (ix3 0 (y 1 : Fin R) (y 2 : Fin C))
      (fun k => match k with | ⟨0, _⟩ => h.symm | ⟨1, _⟩ => rfl | ⟨2, _⟩ => rfl)).trans (refLayer_at z x0 a b hs hb hc hl _)
  · refine Eq.trans ?_ (key 1 (show (y 0).val = 1 by omega)).symm
    refine (concatenate_pair_apply_right (t := ⟨3, ![2, R, C]⟩) (s₁ := ⟨3, ![1, R, C]⟩) (s₂ := ⟨3, ![1, R, C]⟩) 0
      (refLayer x0 a b hs hb hc hl) (refLayer x0 a' b' hs hb hc hl) _ y rfl rfl (ix3 0 (y 1 : Fin R) (y 2 : Fin C))
      (fun k hk => ?_) ?_).trans (refLayer_at z x0 a' b' hs hb hc hl _)
    · match k with
      | ⟨0, _⟩ => exact absurd rfl hk
      | ⟨1, _⟩ => rfl
      | ⟨2, _⟩ => rfl
    · show 0 + 1 = (y 0).val; omega

end Reference

end Halves

end
-- ==== Proof.Big.lean ====
/-
  The optimiser's step on the FFN's matrices w_gate and w_up: two layers of 2048 rows of 1408, in blocks of 128 rows.
-/
module

public import proofs.«01_k».proof.Defs
public import proofs.«01_k».proof.Proof.Halves
public import proofs.«01_k».proof.Proof.Gen.BigIdeal.Frame
public import proofs.«01_k».proof.Proof.Gen.BigRefIdeal.Run
public import Idealize.ShloMosaic.Adequacy
public import Idealize.ShloMosaic.Init

@[expose] public section

set_option maxRecDepth 16384

noncomputable section

namespace Cert.Large

open Idealize.ShloMosaic Idealize.ShloMosaic.TcCoe Idealize.SL.Sem Halves
open Cert.BigIdeal Cert.BigIdeal.Gen

/-- 2048 rows are two halves of 8 blocks of 128. -/
theorem sizes : Sizes 2048 1024 128 8 := ⟨by norm_num, by norm_num, by norm_num, by norm_num⟩

/-- The half that a point works on, and where its blocks lie. -/
theorem lie : ∀ t : Fin grid0.N, half 8#32 (grid0.coords t 1).val = BitVec.ofNat 32 (t.val % 16 / 8)
    ∧ (cc0_transform_0 (grid0.coords t) 0 = t.val / 16 ∧ cc0_transform_0 (grid0.coords t) 1 = t.val % 16 ∧ cc0_transform_0 (grid0.coords t) 2 = 0)
    ∧ (t.val < 16 → cc0_transform_3 (grid0.coords t) 0 = t.val % 8 ∧ cc0_transform_3 (grid0.coords t) 1 = 0)
    ∧ (16 ≤ t.val → cc0_transform_5 (grid0.coords t) 0 = t.val % 8 ∧ cc0_transform_5 (grid0.coords t) 1 = 0) := by decide +kernel

section Point
variable (c : Dev nD) (i : grid0.Coords)
variable (a0 a1 a2 : Memref sig .tc .vmem S1x128x1408 .f32) (a3 a4 a5 a6 : Memref sig .tc .vmem S128x1408 .f32) (a7 a8 a9 a10 : Memref sig .tc .vmem S1x128x1408 .f32)
variable (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
variable (x0 x1 x2 : Vec Ideal S1x128x1408 .f32) (x3 x4 x5 x6 : Vec Ideal S128x1408 .f32) (xt : TbBuf0 (F := Ideal) c tbM0_0)

set_option maxHeartbeats 2000000 in
/-- What a point of the first layer leaves of the gradient, the change and the two moments. -/
theorem point_A (hc : cond0_0 i) (hd : ¬cond0_1 i) :
    (out0_A_7 (F := Ideal) c i a0 h0 a1 h1 a2 h2 a3 h3 a4 h4 a5 h5 a6 h6 a7 h7 a8 h8 a9 h9 a10 h10 hc hd x0 x1 x2 x3 x4 x5 x6 xt,
      out0_A_8 (F := Ideal) c i a0 h0 a1 h1 a2 h2 a3 h3 a4 h4 a5 h5 a6 h6 a7 h7 a8 h8 a9 h9 a10 h10 hc hd x0 x1 x2 x3 x4 x5 x6 xt,
      out0_A_9 (F := Ideal) c i a0 h0 a1 h1 a2 h2 a3 h3 a4 h4 a5 h5 a6 h6 a7 h7 a8 h8 a9 h9 a10 h10 hc hd x0 x1 x2 x3 x4 x5 x6 xt,
      out0_A_10 (F := Ideal) c i a0 h0 a1 h1 a2 h2 a3 h3 a4 h4 a5 h5 a6 h6 a7 h7 a8 h8 a9 h9 a10 h10 hc hd x0 x1 x2 x3 x4 x5 x6 xt)
      = left shapeCasts_S1x128x1408_S128x1408 shapeCasts_S128x1408_S1x128x1408 (own 8#32 (i 1).val (xt (ix1 0))) x3 x4 x0 x1 x2 := by
  unfold out0_A_7 out0_A_8 out0_A_9 out0_A_10
  iterate 4 rw [View.read_writes_eq_canon (Val := Elt Ideal)]
  on_goal 2 => exact fun _ => cover0_A_10 ..
  on_goal 2 => exact fun _ => cover0_A_9 ..
  on_goal 2 => exact fun _ => cover0_A_8 ..
  on_goal 2 => exact fun _ => cover0_A_7 ..
  unfold kernelRun0_A
  dsimp only
  simp only [View.canon_unit_zero (S := S1x128x1408) hz3]
  unfold kernelRun0_A.sl.r_1 kernelRun0_A.sl.r_2 kernelRun0_A.sl.r_3 kernelRun0_A.sl.r_4
  simp only [View.readAt_eq_ld, h0.read_unread, h1.read_unread, h2.read_unread, h3.read_unread, h4.read_unread,
    View.ld_unit_zero (S := S1x128x1408) hz3, View.ld_unit_zero (S := S128x1408) Rows.hz2]
  rw [show kernelRun0_A.sl.r (F := Ideal) c xt = xt (ix1 0) from congrArg xt (only _)]
  rfl

set_option maxHeartbeats 2000000 in
/-- What a point of the second layer leaves of the gradient, the change and the two moments. -/
theorem point_B (hc : ¬cond0_0 i) (hd : cond0_1 i) :
    (out0_B_7 (F := Ideal) c i a0 h0 a1 h1 a2 h2 a3 h3 a4 h4 a5 h5 a6 h6 a7 h7 a8 h8 a9 h9 a10 h10 hc hd x0 x1 x2 x3 x4 x5 x6 xt,
      out0_B_8 (F := Ideal) c i a0 h0 a1 h1 a2 h2 a3 h3 a4 h4 a5 h5 a6 h6 a7 h7 a8 h8 a9 h9 a10 h10 hc hd x0 x1 x2 x3 x4 x5 x6 xt,
      out0_B_9 (F := Ideal) c i a0 h0 a1 h1 a2 h2 a3 h3 a4 h4 a5 h5 a6 h6 a7 h7 a8 h8 a9 h9 a10 h10 hc hd x0 x1 x2 x3 x4 x5 x6 xt,
      out0_B_10 (F := Ideal) c i a0 h0 a1 h1 a2 h2 a3 h3 a4 h4 a5 h5 a6 h6 a7 h7 a8 h8 a9 h9 a10 h10 hc hd x0 x1 x2 x3 x4 x5 x6 xt)
      = left shapeCasts_S1x128x1408_S128x1408 shapeCasts_S128x1408_S1x128x1408 (own 8#32 (i 1).val (xt (ix1 0))) x5 x6 x0 x1 x2 := by
  unfold out0_B_7 out0_B_8 out0_B_9 out0_B_10
  iterate 4 rw [View.read_writes_eq_canon (Val := Elt Ideal)]
  on_goal 2 => exact fun _ => cover0_B_10 ..
  on_goal 2 => exact fun _ => cover0_B_9 ..
  on_goal 2 => exact fun _ => cover0_B_8 ..
  on_goal 2 => exact fun _ => cover0_B_7 ..
  unfold kernelRun0_B
  dsimp only
  simp only [View.canon_unit_zero (S := S1x128x1408) hz3]
  unfold kernelRun0_B.sl.r_1 kernelRun0_B.sl.r_2 kernelRun0_B.sl.r_3 kernelRun0_B.sl.r_4
  simp only [View.readAt_eq_ld, h0.read_unread, h1.read_unread, h2.read_unread, h5.read_unread, h6.read_unread,
    View.ld_unit_zero (S := S1x128x1408) hz3, View.ld_unit_zero (S := S128x1408) Rows.hz2]
  rw [show kernelRun0_B.sl.r (F := Ideal) c xt = xt (ix1 0) from congrArg xt (only _)]
  rfl

end Point

section Arrays
variable (m : (ℓ : Loc nD τ sig) → Buf (Elt Ideal) ℓ) (hO : Ok m) (c : Dev nD)

/-- The core's number. -/
abbrev core : BitVec 32 := (m ((c : Thread nD τ).loc main_arg0) : S1.Idx → BitVec 32) (ix1 0)
/-- The weights. -/
abbrev arg1 : FVec Ideal S2x2048x1408 .f32 := m ((c : Thread nD τ).loc main_arg1)
/-- The device's own half of the first layer's gradient. -/
abbrev arg2 : FVec Ideal S1024x1408 .f32 := m ((c : Thread nD τ).loc main_arg2)
/-- The other half of the first layer's gradient. -/
abbrev arg3 : FVec Ideal S1024x1408 .f32 := m ((c : Thread nD τ).loc main_arg3)
/-- The device's own half of the second layer's gradient. -/
abbrev arg4 : FVec Ideal S1024x1408 .f32 := m ((c : Thread nD τ).loc main_arg4)
/-- The other half of the second layer's gradient. -/
abbrev arg5 : FVec Ideal S1024x1408 .f32 := m ((c : Thread nD τ).loc main_arg5)
/-- The first moments. -/
abbrev arg6 : FVec Ideal S2x2048x1408 .f32 := m ((c : Thread nD τ).loc main_arg6)
/-- The second moments. -/
abbrev arg7 : FVec Ideal S2x2048x1408 .f32 := m ((c : Thread nD τ).loc main_arg7)

/-- The gradient. -/
abbrev G : FVec Ideal S2x2048x1408 .f32 := grad sizes ![arg2 m c, arg4 m c] ![arg3 m c, arg5 m c] (core m c)

/-- The change of the weights. -/
abbrev W : FVec Ideal S2x2048x1408 .f32 := outW (G m c) (arg1 m c) (arg6 m c) (arg7 m c)
/-- The first moments after the step. -/
abbrev M : FVec Ideal S2x2048x1408 .f32 := outM (G m c) (arg6 m c)
/-- The second moments after the step. -/
abbrev V : FVec Ideal S2x2048x1408 .f32 := outV (G m c) (arg7 m c)

/-- The table that the points read is the core's number. -/
theorem table : (tbl m 0 : S1.Idx → BitVec 32) (ix1 0) = core m c := by
  obtain rfl : c = 0 := Subsingleton.elim _ _
  rfl

/-- What a point of the first layer leaves of the gradient, the change and the two moments, from its blocks. -/
theorem outs_A (t : Fin grid0.N) (h : t.val < 16) : outsAt0 m hO c t.val t.isLt
    = left shapeCasts_S1x128x1408_S128x1408 shapeCasts_S128x1408_S1x128x1408 (own 8#32 (grid0.coords t 1).val (core m c))
      (iblk m hO c 3 t) (iblk m hO c 4 t) (iblk m hO c 0 t) (iblk m hO c 1 t) (iblk m hO c 2 t) := by
  rw [← table m c]
  exact (outsAt0_A m hO c t h (Nat.not_le.2 h)).trans (point_A ..)

/-- What a point of the second layer leaves of the gradient, the change and the two moments, from its blocks. -/
theorem outs_B (t : Fin grid0.N) (h : 16 ≤ t.val) : outsAt0 m hO c t.val t.isLt
    = left shapeCasts_S1x128x1408_S128x1408 shapeCasts_S128x1408_S1x128x1408 (own 8#32 (grid0.coords t 1).val (core m c))
      (iblk m hO c 5 t) (iblk m hO c 6 t) (iblk m hO c 0 t) (iblk m hO c 1 t) (iblk m hO c 2 t) := by
  rw [← table m c]
  exact (outsAt0_B m hO c t (Nat.not_lt.2 h) h).trans (point_B ..)

/-- The place in a large array of a place of a point's block. -/
abbrev place (t : Fin grid0.N) (p : Fin 128) (q : Fin 1408) : S2x2048x1408.Idx := spot 1408 sizes t.val (t.isLt.trans_eq N_0) p q

/-- A place of a large array as the launch computes it. -/
theorem at_spot (t : Fin grid0.N) (p : Fin 128) (q : Fin 1408) (y : S2x2048x1408.Idx)
    (h0 : (y 0).val = cc0_transform_0 (grid0.coords t) 0 * 1 + 1 * 0) (h1 : (y 1).val = cc0_transform_0 (grid0.coords t) 1 * 128 + 1 * p.val)
    (h2 : (y 2).val = cc0_transform_0 (grid0.coords t) 2 * 1408 + 1 * q.val) : y = place t p q :=
  spot_of sizes (t.isLt.trans_eq N_0) p q (lie t).2.1 y h0 h1 h2

/-- A point's block of the gradient. -/
theorem gradient (t : Fin grid0.N) (p : Fin 128) (q : Fin 1408) : ∃ a b : Vec Ideal S128x1408 .f32,
    outsAt0 m hO c t.val t.isLt = left shapeCasts_S1x128x1408_S128x1408 shapeCasts_S128x1408_S1x128x1408
      (own 8#32 (grid0.coords t 1).val (core m c)) a b (iblk m hO c 0 t) (iblk m hO c 1 t) (iblk m hO c 2 t)
    ∧ Scalar.select (own 8#32 (grid0.coords t 1).val (core m c)) (a (ix2 p q)) (b (ix2 p q)) = G m c (place t p q) := by
  have ht : t.val < 32 := t.isLt.trans_eq N_0
  rcases Nat.lt_or_ge t.val 16 with h | h
  · refine ⟨_, _, outs_A m hO c t h, Eq.trans ?_ (grad_spot sizes _ _ _ (t.isLt.trans_eq N_0) p q 0 (show t.val / 16 = 0 by omega)).symm⟩
    unfold own pick iblk
    rw [(lie t).1]
    exact congrArg₂ _ ((View.read_apply _ _).trans (congrArg (arg2 m c) (halfSpot_of sizes p q ((lie t).2.2.1 h) _ rfl rfl)))
      ((View.read_apply _ _).trans (congrArg (arg3 m c) (halfSpot_of sizes p q ((lie t).2.2.1 h) _ rfl rfl)))
  · refine ⟨_, _, outs_B m hO c t h, Eq.trans ?_ (grad_spot sizes _ _ _ (t.isLt.trans_eq N_0) p q 1 (show t.val / 16 = 1 by omega)).symm⟩
    unfold own pick iblk
    rw [(lie t).1]
    exact congrArg₂ _ ((View.read_apply _ _).trans (congrArg (arg4 m c) (halfSpot_of sizes p q ((lie t).2.2.2 h) _ rfl rfl)))
      ((View.read_apply _ _).trans (congrArg (arg5 m c) (halfSpot_of sizes p q ((lie t).2.2.2 h) _ rfl rfl)))

/-- What a point leaves, number by number. -/
theorem after_point (t : Fin grid0.N) (p : Fin 128) (q : Fin 1408) :
    ((dats m hO 0 c).after 7 t : Vec Ideal S1x128x1408 .f32) (ix3 0 p q) = G m c (place t p q)
    ∧ ((dats m hO 0 c).after 8 t : Vec Ideal S1x128x1408 .f32) (ix3 0 p q) = W m c (place t p q)
    ∧ ((dats m hO 0 c).after 9 t : Vec Ideal S1x128x1408 .f32) (ix3 0 p q) = M m c (place t p q)
    ∧ ((dats m hO 0 c).after 10 t : Vec Ideal S1x128x1408 .f32) (ix3 0 p q) = V m c (place t p q) := by
  obtain ⟨a, b, e, hg⟩ := gradient m hO c t p q
  rw [after0_7, after0_8, after0_9, after0_10, e]
  refine left_at _ _ _ _ _ _ _ _ p q _ _ _ _ hg ?_ ?_ ?_
  all_goals unfold iblk; refine (View.read_apply _ _).trans ?_
  exacts [congrArg (arg1 m c) (at_spot t p q _ rfl rfl rfl), congrArg (arg6 m c) (at_spot t p q _ rfl rfl rfl), congrArg (arg7 m c) (at_spot t p q _ rfl rfl rfl)]

/-- The arrays after the launch. -/
theorem arrays : (dats m hO 0 c).arrAt 7 grid0.N = G m c
    ∧ (dats m hO 0 c).arrAt 8 grid0.N = W m c
    ∧ (dats m hO 0 c).arrAt 9 grid0.N = M m c
    ∧ (dats m hO 0 c).arrAt 10 grid0.N = V m c := by
  refine ⟨(dats m hO 0 c).arrAt_eq_of_cover 7 _ (fun t _ => block_of sizes _ (t.isLt.trans_eq N_0) _ _ (fun p q => (after_point m hO c t p q).1) fun p q =>
      (View.read_apply _ _).trans (congrArg (G m c) (at_spot t p q _ rfl rfl rfl))) fun y => (cover sizes N_0 _ ?_ y).imp fun t h => ⟨flush0_7 _ t, h⟩,
    (dats m hO 0 c).arrAt_eq_of_cover 8 _ (fun t _ => block_of sizes _ (t.isLt.trans_eq N_0) _ _ (fun p q => (after_point m hO c t p q).2.1) fun p q =>
      (View.read_apply _ _).trans (congrArg (W m c) (at_spot t p q _ rfl rfl rfl))) fun y => (cover sizes N_0 _ ?_ y).imp fun t h => ⟨flush0_8 _ t, h⟩,
    (dats m hO 0 c).arrAt_eq_of_cover 9 _ (fun t _ => block_of sizes _ (t.isLt.trans_eq N_0) _ _ (fun p q => (after_point m hO c t p q).2.2.1) fun p q =>
      (View.read_apply _ _).trans (congrArg (M m c) (at_spot t p q _ rfl rfl rfl))) fun y => (cover sizes N_0 _ ?_ y).imp fun t h => ⟨flush0_9 _ t, h⟩,
    (dats m hO 0 c).arrAt_eq_of_cover 10 _ (fun t _ => block_of sizes _ (t.isLt.trans_eq N_0) _ _ (fun p q => (after_point m hO c t p q).2.2.2) fun p q =>
      (View.read_apply _ _).trans (congrArg (V m c) (at_spot t p q _ rfl rfl rfl))) fun y => (cover sizes N_0 _ ?_ y).imp fun t h => ⟨flush0_10 _ t, h⟩⟩
  all_goals exact fun t p q => (congrArg (· ∈ _) (at_spot t p q _ rfl rfl rfl)).mp (View.emb_mem_set _ (ix3 0 p q))

end Arrays

/-- The reference runs, keeps its arguments, and holds no counter above zero at the end. -/
theorem frame_reference : Cert.quiescent_BigRefIdeal := fun m ρ _ =>
  (θ_run Cert.BigRefIdeal.defs _ _).mono (fun r h => ⟨fun c => (h c).2.2.2.2, sem_eq_zero_of_no_sems (by decide) r.2⟩)
    (Cert.BigRefIdeal.Value.run (F := Ideal) m ρ)

/-- The kernel's results are the reference's. -/
theorem algebraic : Cert.algebraic_BigIdeal_BigRefIdeal := by
  intro m ρ m' ρ' _ hagree
  refine ⟨fun c => G m c, fun c => W m c, fun c => M m c, fun c => V m c,
    (θ_run _ _ _).mono (fun r h c => ⟨((h.1 c).1 7).trans (arrays m trivial c).1, ((h.1 c).1 8).trans (arrays m trivial c).2.1,
      ((h.1 c).1 9).trans (arrays m trivial c).2.2.1, ((h.1 c).1 10).trans (arrays m trivial c).2.2.2, h.2 c⟩)
      (θ_run_and (run_main m ρ trivial) (unchanged m ρ trivial)),
    (θ_run _ _ _).mono (fun r h c => ?_) (Cert.BigRefIdeal.Value.run (F := Ideal) m' ρ')⟩
  obtain ⟨a0, a1, a2, a3, a4, a5, a6, a7⟩ := hagree c
  refine ⟨(h c).1.trans ?_, (h c).2.1.trans ?_, (h c).2.2.1.trans ?_, (h c).2.2.2.1.trans ?_, (h c).2.2.2.2⟩
  · rw [a0, a2, a3, a4, a5]; exact ref_two sizes _ _ _ _ _ _ _ _ _ _
  · show mulf _ _ = _; rw [a0, a1, a2, a3, a4, a5, a6, a7]; exact ref_change _ _ _ _ (ref_two sizes _ _ _ _ _ _ _ _ _ _)
  · rw [a0, a2, a3, a4, a5, a6]; exact ref_first _ _ (ref_two sizes _ _ _ _ _ _ _ _ _ _)
  · rw [a0, a2, a3, a4, a5, a7]; exact ref_second _ _ (ref_two sizes _ _ _ _ _ _ _ _ _ _)

end Cert.Large

end
-- ==== Proof.Sum.lean ====
/-
  The sum of the devices' packed gradients: each grid point adds the eight devices' blocks one after the other, so the
  array it leaves is the sum over the devices, entry by entry.
-/
module

public import proofs.«01_k».proof.Defs
public import proofs.«01_k».proof.Proof.Rows
public import proofs.«01_k».proof.Proof.Gen.SumIdeal.Value
public import proofs.«01_k».proof.Proof.Gen.SumRefIdeal.Read

@[expose] public section

set_option maxRecDepth 16384

noncomputable section

namespace Cert.Total

open Cert.SumIdeal Cert.SumIdeal.Gen Idealize.ShloMosaic Idealize.ShloMosaic.TcCoe Idealize.SL.Sem

/-- An index of three axes is known by its coordinates. -/
theorem ix3_of {s : Fin 3 → ℕ} (x y : (⟨3, s⟩ : Shape).Idx) (h0 : (x 0).val = (y 0).val) (h1 : (x 1).val = (y 1).val)
    (h2 : (x 2).val = (y 2).val) : x = y := by
  funext a
  match a with
  | ⟨0, _⟩ => exact Fin.ext h0
  | ⟨1, _⟩ => exact Fin.ext h1
  | ⟨2, _⟩ => exact Fin.ext h2

/-- One device's part of a block, read at an entry. -/
theorem part (x : Vec Ideal S8x512x128 .f32) (r : Rect S8x512x128) (z : r.shape.Idx) (k : Fin 8) (i : Fin 512) (j : Fin 128)
    (h0 : (r.idx z 0).val = k.val) (h1 : (r.idx z 1).val = i.val) (h2 : (r.idx z 2).val = j.val) :
    View.ld (Val := Elt Ideal) (e' := .f32) x r z = x (ix3 k i j) :=
  congrArg x (ix3_of _ (ix3 k i j) h0 h1 h2)

/-- What a point leaves is the sum over the devices of its block. -/
theorem out_entry (x : FVec Ideal S8x512x128 .f32) (i : Fin 512) (j : Fin 128) :
    out0_1 (F := Ideal) x (ix2 i j) = ∑ k : Fin 8, x (ix3 k i j) := by
  have hi : 0 + 1 * i.val = i.val := by omega
  have hj : 0 + 1 * j.val = j.val := by omega
  unfold out0_1
  rw [Cert.SumIdeal.Value.canon1_eq, Fin.sum_univ_eight]
  unfold Cert.SumIdeal.Value.E1
  rw [part x r0_0 (Cert.SumIdeal.Value.ix1_0 (ix2 i j)) 0 i j rfl hi hj, part x r0_1 (Cert.SumIdeal.Value.ix1_1 (ix2 i j)) 1 i j rfl hi hj, part x r0_2 (Cert.SumIdeal.Value.ix1_2 (ix2 i j)) 2 i j rfl hi hj,
    part x r0_3 (Cert.SumIdeal.Value.ix1_3 (ix2 i j)) 3 i j rfl hi hj, part x r0_4 (Cert.SumIdeal.Value.ix1_4 (ix2 i j)) 4 i j rfl hi hj, part x r0_5 (Cert.SumIdeal.Value.ix1_5 (ix2 i j)) 5 i j rfl hi hj,
    part x r0_6 (Cert.SumIdeal.Value.ix1_6 (ix2 i j)) 6 i j rfl hi hj, part x r0_7 (Cert.SumIdeal.Value.ix1_7 (ix2 i j)) 7 i j rfl hi hj]
  rfl

section Arrays
variable (m : (ℓ : Loc nD τ sig) → Buf (Elt Ideal) ℓ) (c : Dev nD)

/-- The devices' packed gradients. -/
abbrev arg0 : FVec Ideal S8x4608x128 .f32 := m ((c : Thread nD τ).loc main_arg0)

/-- Where a point's block of the gradients lies. -/
theorem index_0 : ∀ t : Fin grid0.N, win0_0.index t 0 = 0 ∧ win0_0.index t 1 = t.val ∧ win0_0.index t 2 = 0 := by
  decide +kernel

/-- Where a point's block of the sum lies. -/
theorem index_1 : ∀ t : Fin grid0.N, win0_1.index t 0 = t.val ∧ win0_1.index t 1 = 0 := by decide +kernel

/-- There are nine points. -/
theorem points (t : Fin cfg0.N) : t.val < 9 := t.isLt.trans_eq (show cfg0.N = 9 from N_0)

/-- A row of a point's block. -/
def rowOf (t : Fin cfg0.N) (i : Fin 512) : Fin 4608 := Blocks.place (b := 9) ⟨t.val, points t⟩ i

/-- The block of the gradients. -/
theorem block_0 (t : Fin cfg0.N) (k : Fin 8) (i : Fin 512) (j : Fin 128) :
    (iblk m c 0 t : FVec Ideal S8x512x128 .f32) (ix3 k i j) = arg0 m c (ix3 k (rowOf t i) j) := by
  unfold iblk
  rw [View.read_apply]
  exact (congrArg (V m c main_arg0) (ix3_of _ (ix3 k (rowOf t i) j) (Rows.off_zero (index_0 t).1 8 k.val)
    (Rows.off (index_0 t).2.1 512 i.val) (Rows.off_zero (index_0 t).2.2 128 j.val))).trans (congrFun (V_main_arg0 m c) _)

/-- The sum as one array. -/
def res : FVec Ideal S4608x128 .f32 := fun y => ∑ k : Fin 8, arg0 m c (ix3 k (y 0 : Fin 4608) (y 1 : Fin 128))

/-- What a point stores is its block of the sum. -/
theorem stored (t : Fin cfg0.N) (i : Fin 512) (j : Fin 128) :
    (out0_1 (F := Ideal) (iblk m c 0 t) : FVec Ideal S512x128 .f32) (ix2 i j) = res m c (ix2 (rowOf t i) j) :=
  (out_entry _ i j).trans (Finset.sum_congr rfl fun k _ => block_0 m c t k i j)

/-- A block that is written back is that block of the sum. -/
theorem block_res (t : Fin cfg0.N) (_ : (cfg0.win 1).flush t = true) :
    (dats m 0 c).flushed 1 t = ((cfg0.win 1).blk t).view.read (Elt Ideal) (res m c) := by
  rw [Cert.SumIdeal.Value.flushed1]
  funext y
  rw [View.read_apply]
  refine Eq.trans (congrArg (out0_1 (F := Ideal) (iblk m c 0 t)) (Rows.ix2_of _ (ix2 (y 0) (y 1)) rfl rfl))
    ((stored m c t (y 0) (y 1)).trans (congrArg (res m c) (Eq.symm ?_)))
  exact Rows.ix2_of _ (ix2 (rowOf t (y 0)) (y 1)) (Rows.off (index_1 t).1 512 (y 0).val) (Rows.off_zero (index_1 t).2 128 (y 1).val)

/-- The array after the launch. -/
theorem array_res : (dats m 0 c).arrAt 1 cfg0.N = res m c :=
  (dats m 0 c).arrAt_eq_of_cover 1 (res m c) (block_res m c) fun i => by
    have i0 : (i 0).val < 4608 := (i 0).isLt
    obtain ⟨t, hv⟩ : ∃ t : Fin cfg0.N, t.val = (i 0).val / 512 :=
      ⟨⟨(i 0).val / 512, by rw [show cfg0.N = 9 from N_0]; omega⟩, rfl⟩
    refine ⟨t, flush0_1 t, ?_⟩
    show i ∈ ((View.whole (Pipeline.arrRef spec0 1)).slice (win0_1.rect t)).set
    rw [View.set_slice_whole, Rect.mem_set_unit]
    intro a
    match a with
    | ⟨0, _⟩ => exact Rows.within (by decide : 0 < 512) ((index_1 t).1.trans hv)
    | ⟨1, _⟩ => exact Rows.within_zero (i 1).isLt (index_1 t).2

end Arrays

/-- The reference's sum is the kernel's. -/
theorem meet (m : (ℓ : Loc nD τ sig) → Buf (Elt Ideal) ℓ) (c : Dev nD) :
    Cert.SumRefIdeal.Read.val_main_v0 (F := Ideal) (arg0 m c) = res m c := by
  funext y
  rw [Cert.SumRefIdeal.Read.val_main_v0_apply, Cert.SumRefIdeal.Read.val_main_cst_apply]
  refine (congrArg (· + _) Ideal.ofBits_zero_f32).trans ((zero_add _).trans (Finset.sum_congr rfl fun k _ => ?_))
  exact congrArg (arg0 m c) (ix3_of _ _ rfl rfl rfl)

/-- The reference runs, keeps its argument, and holds no counter above zero at the end. -/
theorem frame_reference : Cert.quiescent_SumRefIdeal := fun m ρ _ =>
  (θ_run Cert.SumRefIdeal.defs _ _).mono (fun r h => ⟨fun c => (h c).2, sem_eq_zero_of_no_sems (by decide) r.2⟩)
    (Cert.SumRefIdeal.Value.run (F := Ideal) m ρ)

/-- The kernel's result is the reference's. -/
theorem algebraic : Cert.algebraic_SumIdeal_SumRefIdeal := by
  intro m ρ m' ρ' _ hagree
  refine ⟨fun c => res m c, (θ_run _ _ _).mono (fun r h c => ?_) (Cert.SumIdeal.Value.run_blocks m ρ),
    (θ_run _ _ _).mono (fun r h c => ?_) (Cert.SumRefIdeal.Value.run (F := Ideal) m' ρ')⟩
  · exact ⟨(h c).1.trans (array_res m c), (h c).2⟩
  · refine ⟨((h c).1.trans (Cert.SumRefIdeal.Read.val_main_v0_eq _)).trans ?_, (h c).2⟩
    rw [hagree c]
    exact meet m c

end Cert.Total

end
-- ==== Proof.Products.lean ====
/-
  Products and gradients of products of which every grid point makes one tile. Where the tiles lie is stated in Tiles for
  any sizes; here each call says what one point makes of its blocks and which arrays it reads, and applies it.
-/
module

public import proofs.«01_k».proof.Defs
public import proofs.«01_k».proof.Proof.Tiles
public import proofs.«01_k».proof.Proof.Gen.DplenIdeal.Value
public import proofs.«01_k».proof.Proof.Gen.DplenRefIdeal.Read
public import proofs.«01_k».proof.Proof.Gen.DcatIdeal.Value
public import proofs.«01_k».proof.Proof.Gen.DcatRefIdeal.Read
public import proofs.«01_k».proof.Proof.Gen.DssmIdeal.Value
public import proofs.«01_k».proof.Proof.Gen.DssmRefIdeal.Read
public import proofs.«01_k».proof.Proof.Gen.PgateIdeal.Value
public import proofs.«01_k».proof.Proof.Gen.PgateRefIdeal.Read
public import proofs.«01_k».proof.Proof.Gen.AbinIdeal.Value
public import proofs.«01_k».proof.Proof.Gen.AbinRefIdeal.Read

@[expose] public section

set_option maxRecDepth 16384

noncomputable section

open Idealize.ShloMosaic Idealize.ShloMosaic.TcCoe Idealize.SL.Sem Tiles

/-! ## The gradient of the embeddings' product -/

namespace Cert.PleGrad

open Cert.DplenIdeal Cert.DplenIdeal.Gen

/-- How the product is cut into tiles. -/
theorem sizes : Sizes 4096 2048 8 512 2 1024 := by constructor <;> norm_num

/-- Where the blocks of a point lie. -/
theorem lie : ∀ t : Fin grid0.N, (win0_0.index t 0 = t.val / 2 ∧ win0_0.index t 1 = 0)
    ∧ (win0_1.index t 0 = t.val % 2 ∧ win0_1.index t 1 = 0) ∧ win0_2.index t 0 = t.val / 2 ∧ win0_2.index t 1 = t.val % 2 := by decide +kernel

/-- What a point leaves. -/
theorem point (x0 : Vec Ideal S512x2048 .bf16) (x1 : Vec Ideal S1024x2048 .bf16) (p : Fin 512) (q : Fin 1024) :
    (out0_2 (F := Ideal) x0 x1 : FVec Ideal S512x1024 .f32) (ix2 p q) = ∑ k : Fin 2048, x0 (ix2 p k) * x1 (ix2 q k) := by
  unfold out0_2
  rw [View.canon_unit_zero Rows.hz2, View.ld_unit_zero (S := S512x2048) Rows.hz2, View.ld_unit_zero (S := S1024x2048) Rows.hz2]
  unfold k0_pay1
  pointwise

variable (m : (ℓ : Loc nD τ sig) → Buf (Elt Ideal) ℓ) (c : Dev nD)

/-- The gradient of the product. -/
abbrev arg0 : FVec Ideal S4096x2048 .f32 := m ((c : Thread nD τ).loc main_arg0)
/-- The second factor. -/
abbrev arg1 : FVec Ideal S2048x2048 .f32 := m ((c : Thread nD τ).loc main_arg1)
/-- The result. -/
abbrev G : FVec Ideal S4096x2048 .f32 := product (fun i k => arg0 m c (ix2 i k)) (fun k j => arg1 m c (ix2 j k))

/-- The arrays that the points read. -/
theorem read_arrays : (V m c main_v0 : FVec Ideal S4096x2048 .bf16) = truncf (F := Ideal) .bf16 (arg0 m c) bitsLt_bf16_f32
    ∧ (V m c main_v1 : FVec Ideal S2048x2048 .bf16) = truncf (F := Ideal) .bf16 (arg1 m c) bitsLt_bf16_f32 := by
  constructor <;>
  · simp only [V, List.flatten_cons, List.flatten_nil, List.append_nil, hostOps0, List.cons_append, List.nil_append]
    after_results_simp
    try rfl

/-- What a point leaves is its tile of the result. -/
theorem stored (t : Fin cfg0.N) (p : Fin 512) (q : Fin 1024) :
    (out0_2 (F := Ideal) (iblk m c 0 t) (iblk m c 1 t) : FVec Ideal S512x1024 .f32) (ix2 p q)
      = G m c (ix2 (row sizes (t.cast N_0) p) (col sizes (t.cast N_0) q)) := by
  refine (point _ _ p q).trans (Finset.sum_congr rfl fun k _ => congrArg₂ _ ?_ ?_) <;> unfold iblk <;> refine (View.read_apply _ _).trans ?_
  · exact ((congrFun (read_arrays m c).1 _).trans (congrArg (arg0 m c) (left_of sizes (t.cast N_0) p k (lie t).1 _ rfl rfl)))
  · exact ((congrFun (read_arrays m c).2 _).trans (congrArg (arg1 m c) (turned_of sizes (t.cast N_0) q k (lie t).2.1 _ rfl rfl)))

/-- The array after the launch. -/
theorem array : (dats m 0 c).arrAt 2 cfg0.N = G m c :=
  (dats m 0 c).arrAt_eq_of_cover 2 (G m c)
    (fun t _ => (Cert.DplenIdeal.Value.flushed2 m c t).trans (tile sizes (t.cast N_0) (G m c) (stored m c t)
      (fun p q => (View.read_apply _ _).trans (congrArg (G m c) (tile_of sizes (t.cast N_0) p q (lie t).2.2 _ rfl rfl)))))
    (fun y => (cover sizes N_0 _ (fun t p q => (congrArg (· ∈ _) (tile_of sizes (t.cast N_0) p q (lie t).2.2 _ rfl rfl)).mp
      (View.emb_mem_set _ (ix2 p q))) y).imp fun t h => ⟨flush0_2 t, h⟩)

/-- The reference's result. -/
theorem reference (x0 : FVec Ideal S4096x2048 .f32) (x1 : FVec Ideal S2048x2048 .f32) :
    Cert.DplenRefIdeal.Read.val_main_v2 (F := Ideal) x0 x1 = product (fun i k => x0 (ix2 i k)) (fun k j => x1 (ix2 j k)) := by
  funext y
  idx_vars y
  unfold Cert.DplenRefIdeal.Read.val_main_v2
  pointwise [product]

/-- The reference runs, keeps its arguments, and holds no counter above zero at the end. -/
theorem frame_reference : Cert.quiescent_DplenRefIdeal := fun m ρ _ =>
  (θ_run Cert.DplenRefIdeal.defs _ _).mono (fun r h => ⟨fun c => (h c).2, sem_eq_zero_of_no_sems (by decide) r.2⟩)
    (Cert.DplenRefIdeal.Value.run (F := Ideal) m ρ)

/-- The kernel's result is the reference's. -/
theorem algebraic : Cert.algebraic_DplenIdeal_DplenRefIdeal := by
  intro m ρ m' ρ' _ hagree
  refine ⟨fun c => G m c, (θ_run _ _ _).mono (fun r h c => ⟨(h c).1.trans (array m c), (h c).2⟩) (Cert.DplenIdeal.Value.run_blocks m ρ),
    (θ_run _ _ _).mono (fun r h c => ⟨((h c).1.trans (Cert.DplenRefIdeal.Read.val_main_v2_eq _ _)).trans ?_, (h c).2⟩)
      (Cert.DplenRefIdeal.Value.run (F := Ideal) m' ρ')⟩
  obtain ⟨a0, a1⟩ := hagree c
  rw [reference, a0, a1]

end Cert.PleGrad

/-! ## The gradient of the mixer's last product -/

namespace Cert.CatGrad

open Cert.DcatIdeal Cert.DcatIdeal.Gen

/-- How the product is cut into tiles. -/
theorem sizes : Sizes 4096 2048 8 512 2 1024 := by constructor <;> norm_num

/-- Where the blocks of a point lie. -/
theorem lie : ∀ t : Fin grid0.N, (win0_0.index t 0 = t.val / 2 ∧ win0_0.index t 1 = 0)
    ∧ (win0_1.index t 0 = t.val % 2 ∧ win0_1.index t 1 = 0) ∧ win0_2.index t 0 = t.val / 2 ∧ win0_2.index t 1 = t.val % 2 := by decide +kernel

/-- What a point leaves. -/
theorem point (x0 : Vec Ideal S512x2048 .f32) (x1 : Vec Ideal S1024x2048 .bf16) (p : Fin 512) (q : Fin 1024) :
    (out0_2 (F := Ideal) x0 x1 : FVec Ideal S512x1024 .f32) (ix2 p q) = ∑ k : Fin 2048, x0 (ix2 p k) * x1 (ix2 q k) := by
  unfold out0_2
  rw [View.canon_unit_zero Rows.hz2, View.ld_unit_zero (S := S512x2048) Rows.hz2, View.ld_unit_zero (S := S1024x2048) Rows.hz2]
  unfold k0_pay1
  pointwise

variable (m : (ℓ : Loc nD τ sig) → Buf (Elt Ideal) ℓ) (c : Dev nD)

/-- The gradient of the product. -/
abbrev arg0 : FVec Ideal S4096x2048 .f32 := m ((c : Thread nD τ).loc main_arg0)
/-- The second factor. -/
abbrev arg1 : FVec Ideal S2048x2048 .f32 := m ((c : Thread nD τ).loc main_arg1)
/-- The result. -/
abbrev G : FVec Ideal S4096x2048 .f32 := product (fun i k => arg0 m c (ix2 i k)) (fun k j => arg1 m c (ix2 j k))

/-- The arrays that the points read. -/
theorem read_arrays : (V m c main_arg0 : FVec Ideal S4096x2048 .f32) = arg0 m c
    ∧ (V m c main_v0 : FVec Ideal S2048x2048 .bf16) = truncf (F := Ideal) .bf16 (arg1 m c) bitsLt_bf16_f32 := by
  constructor <;>
  · simp only [V, List.flatten_cons, List.flatten_nil, List.append_nil, hostOps0, List.cons_append, List.nil_append]
    after_results_simp
    try rfl

/-- What a point leaves is its tile of the result. -/
theorem stored (t : Fin cfg0.N) (p : Fin 512) (q : Fin 1024) :
    (out0_2 (F := Ideal) (iblk m c 0 t) (iblk m c 1 t) : FVec Ideal S512x1024 .f32) (ix2 p q)
      = G m c (ix2 (row sizes (t.cast N_0) p) (col sizes (t.cast N_0) q)) := by
  refine (point _ _ p q).trans (Finset.sum_congr rfl fun k _ => congrArg₂ _ ?_ ?_) <;> unfold iblk <;> refine (View.read_apply _ _).trans ?_
  · exact ((congrFun (read_arrays m c).1 _).trans (congrArg (arg0 m c) (left_of sizes (t.cast N_0) p k (lie t).1 _ rfl rfl)))
  · exact ((congrFun (read_arrays m c).2 _).trans (congrArg (arg1 m c) (turned_of sizes (t.cast N_0) q k (lie t).2.1 _ rfl rfl)))

/-- The array after the launch. -/
theorem array : (dats m 0 c).arrAt 2 cfg0.N = G m c :=
  (dats m 0 c).arrAt_eq_of_cover 2 (G m c)
    (fun t _ => (Cert.DcatIdeal.Value.flushed2 m c t).trans (tile sizes (t.cast N_0) (G m c) (stored m c t)
      (fun p q => (View.read_apply _ _).trans (congrArg (G m c) (tile_of sizes (t.cast N_0) p q (lie t).2.2 _ rfl rfl)))))
    (fun y => (cover sizes N_0 _ (fun t p q => (congrArg (· ∈ _) (tile_of sizes (t.cast N_0) p q (lie t).2.2 _ rfl rfl)).mp
      (View.emb_mem_set _ (ix2 p q))) y).imp fun t h => ⟨flush0_2 t, h⟩)

/-- The reference's result. -/
theorem reference (x0 : FVec Ideal S4096x2048 .f32) (x1 : FVec Ideal S2048x2048 .f32) :
    Cert.DcatRefIdeal.Read.val_main_v2 (F := Ideal) x0 x1 = product (fun i k => x0 (ix2 i k)) (fun k j => x1 (ix2 j k)) := by
  funext y
  idx_vars y
  unfold Cert.DcatRefIdeal.Read.val_main_v2
  pointwise [product]

/-- The reference runs, keeps its arguments, and holds no counter above zero at the end. -/
theorem frame_reference : Cert.quiescent_DcatRefIdeal := fun m ρ _ =>
  (θ_run Cert.DcatRefIdeal.defs _ _).mono (fun r h => ⟨fun c => (h c).2, sem_eq_zero_of_no_sems (by decide) r.2⟩)
    (Cert.DcatRefIdeal.Value.run (F := Ideal) m ρ)

/-- The kernel's result is the reference's. -/
theorem algebraic : Cert.algebraic_DcatIdeal_DcatRefIdeal := by
  intro m ρ m' ρ' _ hagree
  refine ⟨fun c => G m c, (θ_run _ _ _).mono (fun r h c => ⟨(h c).1.trans (array m c), (h c).2⟩) (Cert.DcatIdeal.Value.run_blocks m ρ),
    (θ_run _ _ _).mono (fun r h c => ⟨((h c).1.trans (Cert.DcatRefIdeal.Read.val_main_v2_eq _ _)).trans ?_, (h c).2⟩)
      (Cert.DcatRefIdeal.Value.run (F := Ideal) m' ρ')⟩
  obtain ⟨a0, a1⟩ := hagree c
  rw [reference, a0, a1]

end Cert.CatGrad

/-! ## The gradient of the other mixer's first product -/

namespace Cert.SsmGrad

open Cert.DssmIdeal Cert.DssmIdeal.Gen

/-- How the product is cut into tiles. -/
theorem sizes : Sizes 4096 2048 8 512 2 1024 := by constructor <;> norm_num

/-- Where the blocks of a point lie. -/
theorem lie : ∀ t : Fin grid0.N, (win0_0.index t 0 = t.val / 2 ∧ win0_0.index t 1 = 0)
    ∧ (win0_1.index t 0 = t.val % 2 ∧ win0_1.index t 1 = 0) ∧ win0_2.index t 0 = t.val / 2 ∧ win0_2.index t 1 = t.val % 2 := by decide +kernel

/-- What a point leaves. -/
theorem point (x0 : Vec Ideal S512x1024 .f32) (x1 : Vec Ideal S1024x1024 .bf16) (p : Fin 512) (q : Fin 1024) :
    (out0_2 (F := Ideal) x0 x1 : FVec Ideal S512x1024 .f32) (ix2 p q) = ∑ k : Fin 1024, x0 (ix2 p k) * x1 (ix2 q k) := by
  unfold out0_2
  rw [View.canon_unit_zero Rows.hz2, View.ld_unit_zero (S := S512x1024) Rows.hz2, View.ld_unit_zero (S := S1024x1024) Rows.hz2]
  unfold k0_pay1
  pointwise

variable (m : (ℓ : Loc nD τ sig) → Buf (Elt Ideal) ℓ) (c : Dev nD)

/-- The gradient of the product. -/
abbrev arg0 : FVec Ideal S4096x1024 .f32 := m ((c : Thread nD τ).loc main_arg0)
/-- The second factor. -/
abbrev arg1 : FVec Ideal S2048x1024 .f32 := m ((c : Thread nD τ).loc main_arg1)
/-- The result. -/
abbrev G : FVec Ideal S4096x2048 .f32 := product (fun i k => arg0 m c (ix2 i k)) (fun k j => arg1 m c (ix2 j k))

/-- The arrays that the points read. -/
theorem read_arrays : (V m c main_arg0 : FVec Ideal S4096x1024 .f32) = arg0 m c
    ∧ (V m c main_v0 : FVec Ideal S2048x1024 .bf16) = truncf (F := Ideal) .bf16 (arg1 m c) bitsLt_bf16_f32 := by
  constructor <;>
  · simp only [V, List.flatten_cons, List.flatten_nil, List.append_nil, hostOps0, List.cons_append, List.nil_append]
    after_results_simp
    try rfl

/-- What a point leaves is its tile of the result. -/
theorem stored (t : Fin cfg0.N) (p : Fin 512) (q : Fin 1024) :
    (out0_2 (F := Ideal) (iblk m c 0 t) (iblk m c 1 t) : FVec Ideal S512x1024 .f32) (ix2 p q)
      = G m c (ix2 (row sizes (t.cast N_0) p) (col sizes (t.cast N_0) q)) := by
  refine (point _ _ p q).trans (Finset.sum_congr rfl fun k _ => congrArg₂ _ ?_ ?_) <;> unfold iblk <;> refine (View.read_apply _ _).trans ?_
  · exact ((congrFun (read_arrays m c).1 _).trans (congrArg (arg0 m c) (left_of sizes (t.cast N_0) p k (lie t).1 _ rfl rfl)))
  · exact ((congrFun (read_arrays m c).2 _).trans (congrArg (arg1 m c) (turned_of sizes (t.cast N_0) q k (lie t).2.1 _ rfl rfl)))

/-- The array after the launch. -/
theorem array : (dats m 0 c).arrAt 2 cfg0.N = G m c :=
  (dats m 0 c).arrAt_eq_of_cover 2 (G m c)
    (fun t _ => (Cert.DssmIdeal.Value.flushed2 m c t).trans (tile sizes (t.cast N_0) (G m c) (stored m c t)
      (fun p q => (View.read_apply _ _).trans (congrArg (G m c) (tile_of sizes (t.cast N_0) p q (lie t).2.2 _ rfl rfl)))))
    (fun y => (cover sizes N_0 _ (fun t p q => (congrArg (· ∈ _) (tile_of sizes (t.cast N_0) p q (lie t).2.2 _ rfl rfl)).mp
      (View.emb_mem_set _ (ix2 p q))) y).imp fun t h => ⟨flush0_2 t, h⟩)

/-- The reference's result. -/
theorem reference (x0 : FVec Ideal S4096x1024 .f32) (x1 : FVec Ideal S2048x1024 .f32) :
    Cert.DssmRefIdeal.Read.val_main_v2 (F := Ideal) x0 x1 = product (fun i k => x0 (ix2 i k)) (fun k j => x1 (ix2 j k)) := by
  funext y
  idx_vars y
  unfold Cert.DssmRefIdeal.Read.val_main_v2
  pointwise [product]

/-- The reference runs, keeps its arguments, and holds no counter above zero at the end. -/
theorem frame_reference : Cert.quiescent_DssmRefIdeal := fun m ρ _ =>
  (θ_run Cert.DssmRefIdeal.defs _ _).mono (fun r h => ⟨fun c => (h c).2, sem_eq_zero_of_no_sems (by decide) r.2⟩)
    (Cert.DssmRefIdeal.Value.run (F := Ideal) m ρ)

/-- The kernel's result is the reference's. -/
theorem algebraic : Cert.algebraic_DssmIdeal_DssmRefIdeal := by
  intro m ρ m' ρ' _ hagree
  refine ⟨fun c => G m c, (θ_run _ _ _).mono (fun r h c => ⟨(h c).1.trans (array m c), (h c).2⟩) (Cert.DssmIdeal.Value.run_blocks m ρ),
    (θ_run _ _ _).mono (fun r h c => ⟨((h c).1.trans (Cert.DssmRefIdeal.Read.val_main_v2_eq _ _)).trans ?_, (h c).2⟩)
      (Cert.DssmRefIdeal.Value.run (F := Ideal) m' ρ')⟩
  obtain ⟨a0, a1⟩ := hagree c
  rw [reference, a0, a1]

end Cert.SsmGrad

/-! ## The embeddings' product -/

namespace Cert.PleIn

open Cert.PgateIdeal Cert.PgateIdeal.Gen

/-- How the product is cut into tiles. -/
theorem sizes : Sizes 4096 2048 8 512 2 1024 := by constructor <;> norm_num

/-- Where the blocks of a point lie. -/
theorem lie : ∀ t : Fin grid0.N, (win0_0.index t 0 = t.val / 2 ∧ win0_0.index t 1 = 0)
    ∧ (win0_1.index t 0 = 0 ∧ win0_1.index t 1 = t.val % 2) ∧ win0_2.index t 0 = t.val / 2 ∧ win0_2.index t 1 = t.val % 2 := by decide +kernel

/-- What a point leaves. -/
theorem point (x0 : Vec Ideal S512x2048 .bf16) (x1 : Vec Ideal S2048x1024 .bf16) (p : Fin 512) (q : Fin 1024) :
    (out0_2 (F := Ideal) x0 x1 : FVec Ideal S512x1024 .f32) (ix2 p q) = ∑ k : Fin 2048, x0 (ix2 p k) * x1 (ix2 k q) := by
  unfold out0_2
  rw [View.canon_unit_zero Rows.hz2, View.ld_unit_zero (S := S512x2048) Rows.hz2, View.ld_unit_zero (S := S2048x1024) Rows.hz2]
  unfold k0_pay1
  pointwise

variable (m : (ℓ : Loc nD τ sig) → Buf (Elt Ideal) ℓ) (c : Dev nD)

/-- The first factor. -/
abbrev arg0 : FVec Ideal S4096x2048 .f32 := m ((c : Thread nD τ).loc main_arg0)
/-- The second factor. -/
abbrev arg1 : FVec Ideal S2048x2048 .f32 := m ((c : Thread nD τ).loc main_arg1)
/-- The result. -/
abbrev G : FVec Ideal S4096x2048 .f32 := product (fun i k => arg0 m c (ix2 i k)) (fun k j => arg1 m c (ix2 k j))

/-- The arrays that the points read. -/
theorem read_arrays : (V m c main_v0 : FVec Ideal S4096x2048 .bf16) = truncf (F := Ideal) .bf16 (arg0 m c) bitsLt_bf16_f32
    ∧ (V m c main_v1 : FVec Ideal S2048x2048 .bf16) = truncf (F := Ideal) .bf16 (arg1 m c) bitsLt_bf16_f32 := by
  constructor <;>
  · simp only [V, List.flatten_cons, List.flatten_nil, List.append_nil, hostOps0, List.cons_append, List.nil_append]
    after_results_simp
    try rfl

/-- What a point leaves is its tile of the result. -/
theorem stored (t : Fin cfg0.N) (p : Fin 512) (q : Fin 1024) :
    (out0_2 (F := Ideal) (iblk m c 0 t) (iblk m c 1 t) : FVec Ideal S512x1024 .f32) (ix2 p q)
      = G m c (ix2 (row sizes (t.cast N_0) p) (col sizes (t.cast N_0) q)) := by
  refine (point _ _ p q).trans (Finset.sum_congr rfl fun k _ => congrArg₂ _ ?_ ?_) <;> unfold iblk <;> refine (View.read_apply _ _).trans ?_
  · exact ((congrFun (read_arrays m c).1 _).trans (congrArg (arg0 m c) (left_of sizes (t.cast N_0) p k (lie t).1 _ rfl rfl)))
  · exact ((congrFun (read_arrays m c).2 _).trans (congrArg (arg1 m c) (right_of sizes (t.cast N_0) q k (lie t).2.1 _ rfl rfl)))

/-- The array after the launch. -/
theorem array : (dats m 0 c).arrAt 2 cfg0.N = G m c :=
  (dats m 0 c).arrAt_eq_of_cover 2 (G m c)
    (fun t _ => (Cert.PgateIdeal.Value.flushed2 m c t).trans (tile sizes (t.cast N_0) (G m c) (stored m c t)
      (fun p q => (View.read_apply _ _).trans (congrArg (G m c) (tile_of sizes (t.cast N_0) p q (lie t).2.2 _ rfl rfl)))))
    (fun y => (cover sizes N_0 _ (fun t p q => (congrArg (· ∈ _) (tile_of sizes (t.cast N_0) p q (lie t).2.2 _ rfl rfl)).mp
      (View.emb_mem_set _ (ix2 p q))) y).imp fun t h => ⟨flush0_2 t, h⟩)

/-- The reference's result. -/
theorem reference (x0 : FVec Ideal S4096x2048 .f32) (x1 : FVec Ideal S2048x2048 .f32) :
    Cert.PgateRefIdeal.Read.val_main_v0 (F := Ideal) x0 x1 = product (fun i k => x0 (ix2 i k)) (fun k j => x1 (ix2 k j)) := by
  funext y
  idx_vars y
  unfold Cert.PgateRefIdeal.Read.val_main_v0
  pointwise [product]

/-- The reference runs, keeps its arguments, and holds no counter above zero at the end. -/
theorem frame_reference : Cert.quiescent_PgateRefIdeal := fun m ρ _ =>
  (θ_run Cert.PgateRefIdeal.defs _ _).mono (fun r h => ⟨fun c => (h c).2, sem_eq_zero_of_no_sems (by decide) r.2⟩)
    (Cert.PgateRefIdeal.Value.run (F := Ideal) m ρ)

/-- The kernel's result is the reference's. -/
theorem algebraic : Cert.algebraic_PgateIdeal_PgateRefIdeal := by
  intro m ρ m' ρ' _ hagree
  refine ⟨fun c => G m c, (θ_run _ _ _).mono (fun r h c => ⟨(h c).1.trans (array m c), (h c).2⟩) (Cert.PgateIdeal.Value.run_blocks m ρ),
    (θ_run _ _ _).mono (fun r h c => ⟨((h c).1.trans (Cert.PgateRefIdeal.Read.val_main_v0_eq _ _)).trans ?_, (h c).2⟩)
      (Cert.PgateRefIdeal.Value.run (F := Ideal) m' ρ')⟩
  obtain ⟨a0, a1⟩ := hagree c
  rw [reference, a0, a1]

end Cert.PleIn

/-! ## The mixer's first product -/

namespace Cert.MixIn

open Cert.AbinIdeal Cert.AbinIdeal.Gen

/-- How the product is cut into tiles. -/
theorem sizes : Sizes 4096 6400 8 512 5 1280 := by constructor <;> norm_num

/-- Where the blocks of a point lie. -/
theorem lie : ∀ t : Fin grid0.N, (win0_0.index t 0 = t.val / 5 ∧ win0_0.index t 1 = 0)
    ∧ (win0_1.index t 0 = 0 ∧ win0_1.index t 1 = t.val % 5) ∧ win0_2.index t 0 = t.val / 5 ∧ win0_2.index t 1 = t.val % 5 := by decide +kernel

/-- What a point leaves. -/
theorem point (x0 : Vec Ideal S512x2048 .bf16) (x1 : Vec Ideal S2048x1280 .bf16) (p : Fin 512) (q : Fin 1280) :
    (out0_2 (F := Ideal) x0 x1 : FVec Ideal S512x1280 .f32) (ix2 p q) = ∑ k : Fin 2048, x0 (ix2 p k) * x1 (ix2 k q) := by
  unfold out0_2
  rw [View.canon_unit_zero Rows.hz2, View.ld_unit_zero (S := S512x2048) Rows.hz2, View.ld_unit_zero (S := S2048x1280) Rows.hz2]
  unfold k0_pay1
  pointwise

variable (m : (ℓ : Loc nD τ sig) → Buf (Elt Ideal) ℓ) (c : Dev nD)

/-- The first factor. -/
abbrev arg0 : FVec Ideal S4096x2048 .f32 := m ((c : Thread nD τ).loc main_arg0)
/-- The second factor. -/
abbrev arg1 : FVec Ideal S2048x6400 .f32 := m ((c : Thread nD τ).loc main_arg1)
/-- The result. -/
abbrev G : FVec Ideal S4096x6400 .f32 := product (fun i k => arg0 m c (ix2 i k)) (fun k j => arg1 m c (ix2 k j))

/-- The arrays that the points read. -/
theorem read_arrays : (V m c main_v0 : FVec Ideal S4096x2048 .bf16) = truncf (F := Ideal) .bf16 (arg0 m c) bitsLt_bf16_f32
    ∧ (V m c main_v1 : FVec Ideal S2048x6400 .bf16) = truncf (F := Ideal) .bf16 (arg1 m c) bitsLt_bf16_f32 := by
  constructor <;>
  · simp only [V, List.flatten_cons, List.flatten_nil, List.append_nil, hostOps0, List.cons_append, List.nil_append]
    after_results_simp
    try rfl

/-- What a point leaves is its tile of the result. -/
theorem stored (t : Fin cfg0.N) (p : Fin 512) (q : Fin 1280) :
    (out0_2 (F := Ideal) (iblk m c 0 t) (iblk m c 1 t) : FVec Ideal S512x1280 .f32) (ix2 p q)
      = G m c (ix2 (row sizes (t.cast N_0) p) (col sizes (t.cast N_0) q)) := by
  refine (point _ _ p q).trans (Finset.sum_congr rfl fun k _ => congrArg₂ _ ?_ ?_) <;> unfold iblk <;> refine (View.read_apply _ _).trans ?_
  · exact ((congrFun (read_arrays m c).1 _).trans (congrArg (arg0 m c) (left_of sizes (t.cast N_0) p k (lie t).1 _ rfl rfl)))
  · exact ((congrFun (read_arrays m c).2 _).trans (congrArg (arg1 m c) (right_of sizes (t.cast N_0) q k (lie t).2.1 _ rfl rfl)))

/-- The array after the launch. -/
theorem array : (dats m 0 c).arrAt 2 cfg0.N = G m c :=
  (dats m 0 c).arrAt_eq_of_cover 2 (G m c)
    (fun t _ => (Cert.AbinIdeal.Value.flushed2 m c t).trans (tile sizes (t.cast N_0) (G m c) (stored m c t)
      (fun p q => (View.read_apply _ _).trans (congrArg (G m c) (tile_of sizes (t.cast N_0) p q (lie t).2.2 _ rfl rfl)))))
    (fun y => (cover sizes N_0 _ (fun t p q => (congrArg (· ∈ _) (tile_of sizes (t.cast N_0) p q (lie t).2.2 _ rfl rfl)).mp
      (View.emb_mem_set _ (ix2 p q))) y).imp fun t h => ⟨flush0_2 t, h⟩)

/-- The reference's result. -/
theorem reference (x0 : FVec Ideal S4096x2048 .f32) (x1 : FVec Ideal S2048x6400 .f32) :
    Cert.AbinRefIdeal.Read.val_main_v0 (F := Ideal) x0 x1 = product (fun i k => x0 (ix2 i k)) (fun k j => x1 (ix2 k j)) := by
  funext y
  idx_vars y
  unfold Cert.AbinRefIdeal.Read.val_main_v0
  pointwise [product]

/-- The reference runs, keeps its arguments, and holds no counter above zero at the end. -/
theorem frame_reference : Cert.quiescent_AbinRefIdeal := fun m ρ _ =>
  (θ_run Cert.AbinRefIdeal.defs _ _).mono (fun r h => ⟨fun c => (h c).2, sem_eq_zero_of_no_sems (by decide) r.2⟩)
    (Cert.AbinRefIdeal.Value.run (F := Ideal) m ρ)

/-- The kernel's result is the reference's. -/
theorem algebraic : Cert.algebraic_AbinIdeal_AbinRefIdeal := by
  intro m ρ m' ρ' _ hagree
  refine ⟨fun c => G m c, (θ_run _ _ _).mono (fun r h c => ⟨(h c).1.trans (array m c), (h c).2⟩) (Cert.AbinIdeal.Value.run_blocks m ρ),
    (θ_run _ _ _).mono (fun r h c => ⟨((h c).1.trans (Cert.AbinRefIdeal.Read.val_main_v0_eq _ _)).trans ?_, (h c).2⟩)
      (Cert.AbinRefIdeal.Value.run (F := Ideal) m' ρ')⟩
  obtain ⟨a0, a1⟩ := hagree c
  rw [reference, a0, a1]

end Cert.MixIn

end
-- ==== Proof.Bdown.lean ====
/-
  The optimiser's step on the FFN's matrix w_down: two layers of 1408 rows of 2048, in blocks of 64 rows.
-/
module

public import proofs.«01_k».proof.Defs
public import proofs.«01_k».proof.Proof.Halves
public import proofs.«01_k».proof.Proof.Gen.BdownIdeal.Frame
public import proofs.«01_k».proof.Proof.Gen.BdownRefIdeal.Run
public import Idealize.ShloMosaic.Adequacy
public import Idealize.ShloMosaic.Init

@[expose] public section

set_option maxRecDepth 16384

noncomputable section

namespace Cert.DownStep

open Idealize.ShloMosaic Idealize.ShloMosaic.TcCoe Idealize.SL.Sem Halves
open Cert.BdownIdeal Cert.BdownIdeal.Gen

/-- 1408 rows are two halves of 11 blocks of 64. -/
theorem sizes : Sizes 1408 704 64 11 := ⟨by norm_num, by norm_num, by norm_num, by norm_num⟩

/-- The half that a point works on, and where its blocks lie. -/
theorem lie : ∀ t : Fin grid0.N, half 11#32 (grid0.coords t 1).val = BitVec.ofNat 32 (t.val % 22 / 11)
    ∧ (cc0_transform_0 (grid0.coords t) 0 = t.val / 22 ∧ cc0_transform_0 (grid0.coords t) 1 = t.val % 22 ∧ cc0_transform_0 (grid0.coords t) 2 = 0)
    ∧ (t.val < 22 → cc0_transform_3 (grid0.coords t) 0 = t.val % 11 ∧ cc0_transform_3 (grid0.coords t) 1 = 0)
    ∧ (22 ≤ t.val → cc0_transform_5 (grid0.coords t) 0 = t.val % 11 ∧ cc0_transform_5 (grid0.coords t) 1 = 0) := by decide +kernel

section Point
variable (c : Dev nD) (i : grid0.Coords)
variable (a0 a1 a2 : Memref sig .tc .vmem S1x64x2048 .f32) (a3 a4 a5 a6 : Memref sig .tc .vmem S64x2048 .f32) (a7 a8 a9 a10 : Memref sig .tc .vmem S1x64x2048 .f32)
variable (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
variable (x0 x1 x2 : Vec Ideal S1x64x2048 .f32) (x3 x4 x5 x6 : Vec Ideal S64x2048 .f32) (xt : TbBuf0 (F := Ideal) c tbM0_0)

set_option maxHeartbeats 2000000 in
/-- What a point of the first layer leaves of the gradient, the change and the two moments. -/
theorem point_A (hc : cond0_0 i) (hd : ¬cond0_1 i) :
    (out0_A_7 (F := Ideal) c i a0 h0 a1 h1 a2 h2 a3 h3 a4 h4 a5 h5 a6 h6 a7 h7 a8 h8 a9 h9 a10 h10 hc hd x0 x1 x2 x3 x4 x5 x6 xt,
      out0_A_8 (F := Ideal) c i a0 h0 a1 h1 a2 h2 a3 h3 a4 h4 a5 h5 a6 h6 a7 h7 a8 h8 a9 h9 a10 h10 hc hd x0 x1 x2 x3 x4 x5 x6 xt,
      out0_A_9 (F := Ideal) c i a0 h0 a1 h1 a2 h2 a3 h3 a4 h4 a5 h5 a6 h6 a7 h7 a8 h8 a9 h9 a10 h10 hc hd x0 x1 x2 x3 x4 x5 x6 xt,
      out0_A_10 (F := Ideal) c i a0 h0 a1 h1 a2 h2 a3 h3 a4 h4 a5 h5 a6 h6 a7 h7 a8 h8 a9 h9 a10 h10 hc hd x0 x1 x2 x3 x4 x5 x6 xt)
      = left shapeCasts_S1x64x2048_S64x2048 shapeCasts_S64x2048_S1x64x2048 (own 11#32 (i 1).val (xt (ix1 0))) x3 x4 x0 x1 x2 := by
  unfold out0_A_7 out0_A_8 out0_A_9 out0_A_10
  iterate 4 rw [View.read_writes_eq_canon (Val := Elt Ideal)]
  on_goal 2 => exact fun _ => cover0_A_10 ..
  on_goal 2 => exact fun _ => cover0_A_9 ..
  on_goal 2 => exact fun _ => cover0_A_8 ..
  on_goal 2 => exact fun _ => cover0_A_7 ..
  unfold kernelRun0_A
  dsimp only
  simp only [View.canon_unit_zero (S := S1x64x2048) hz3]
  unfold kernelRun0_A.sl.r_1 kernelRun0_A.sl.r_2 kernelRun0_A.sl.r_3 kernelRun0_A.sl.r_4
  simp only [View.readAt_eq_ld, h0.read_unread, h1.read_unread, h2.read_unread, h3.read_unread, h4.read_unread,
    View.ld_unit_zero (S := S1x64x2048) hz3, View.ld_unit_zero (S := S64x2048) Rows.hz2]
  rw [show kernelRun0_A.sl.r (F := Ideal) c xt = xt (ix1 0) from congrArg xt (only _)]
  rfl

set_option maxHeartbeats 2000000 in
/-- What a point of the second layer leaves of the gradient, the change and the two moments. -/
theorem point_B (hc : ¬cond0_0 i) (hd : cond0_1 i) :
    (out0_B_7 (F := Ideal) c i a0 h0 a1 h1 a2 h2 a3 h3 a4 h4 a5 h5 a6 h6 a7 h7 a8 h8 a9 h9 a10 h10 hc hd x0 x1 x2 x3 x4 x5 x6 xt,
      out0_B_8 (F := Ideal) c i a0 h0 a1 h1 a2 h2 a3 h3 a4 h4 a5 h5 a6 h6 a7 h7 a8 h8 a9 h9 a10 h10 hc hd x0 x1 x2 x3 x4 x5 x6 xt,
      out0_B_9 (F := Ideal) c i a0 h0 a1 h1 a2 h2 a3 h3 a4 h4 a5 h5 a6 h6 a7 h7 a8 h8 a9 h9 a10 h10 hc hd x0 x1 x2 x3 x4 x5 x6 xt,
      out0_B_10 (F := Ideal) c i a0 h0 a1 h1 a2 h2 a3 h3 a4 h4 a5 h5 a6 h6 a7 h7 a8 h8 a9 h9 a10 h10 hc hd x0 x1 x2 x3 x4 x5 x6 xt)
      = left shapeCasts_S1x64x2048_S64x2048 shapeCasts_S64x2048_S1x64x2048 (own 11#32 (i 1).val (xt (ix1 0))) x5 x6 x0 x1 x2 := by
  unfold out0_B_7 out0_B_8 out0_B_9 out0_B_10
  iterate 4 rw [View.read_writes_eq_canon (Val := Elt Ideal)]
  on_goal 2 => exact fun _ => cover0_B_10 ..
  on_goal 2 => exact fun _ => cover0_B_9 ..
  on_goal 2 => exact fun _ => cover0_B_8 ..
  on_goal 2 => exact fun _ => cover0_B_7 ..
  unfold kernelRun0_B
  dsimp only
  simp only [View.canon_unit_zero (S := S1x64x2048) hz3]
  unfold kernelRun0_B.sl.r_1 kernelRun0_B.sl.r_2 kernelRun0_B.sl.r_3 kernelRun0_B.sl.r_4
  simp only [View.readAt_eq_ld, h0.read_unread, h1.read_unread, h2.read_unread, h5.read_unread, h6.read_unread,
    View.ld_unit_zero (S := S1x64x2048) hz3, View.ld_unit_zero (S := S64x2048) Rows.hz2]
  rw [show kernelRun0_B.sl.r (F := Ideal) c xt = xt (ix1 0) from congrArg xt (only _)]
  rfl

end Point

section Arrays
variable (m : (ℓ : Loc nD τ sig) → Buf (Elt Ideal) ℓ) (hO : Ok m) (c : Dev nD)

/-- The core's number. -/
abbrev core : BitVec 32 := (m ((c : Thread nD τ).loc main_arg0) : S1.Idx → BitVec 32) (ix1 0)
/-- The weights. -/
abbrev arg1 : FVec Ideal S2x1408x2048 .f32 := m ((c : Thread nD τ).loc main_arg1)
/-- The device's own half of the first layer's gradient. -/
abbrev arg2 : FVec Ideal S704x2048 .f32 := m ((c : Thread nD τ).loc main_arg2)
/-- The other half of the first layer's gradient. -/
abbrev arg3 : FVec Ideal S704x2048 .f32 := m ((c : Thread nD τ).loc main_arg3)
/-- The device's own half of the second layer's gradient. -/
abbrev arg4 : FVec Ideal S704x2048 .f32 := m ((c : Thread nD τ).loc main_arg4)
/-- The other half of the second layer's gradient. -/
abbrev arg5 : FVec Ideal S704x2048 .f32 := m ((c : Thread nD τ).loc main_arg5)
/-- The first moments. -/
abbrev arg6 : FVec Ideal S2x1408x2048 .f32 := m ((c : Thread nD τ).loc main_arg6)
/-- The second moments. -/
abbrev arg7 : FVec Ideal S2x1408x2048 .f32 := m ((c : Thread nD τ).loc main_arg7)

/-- The gradient. -/
abbrev G : FVec Ideal S2x1408x2048 .f32 := grad sizes ![arg2 m c, arg4 m c] ![arg3 m c, arg5 m c] (core m c)

/-- The change of the weights. -/
abbrev W : FVec Ideal S2x1408x2048 .f32 := outW (G m c) (arg1 m c) (arg6 m c) (arg7 m c)
/-- The first moments after the step. -/
abbrev M : FVec Ideal S2x1408x2048 .f32 := outM (G m c) (arg6 m c)
/-- The second moments after the step. -/
abbrev V : FVec Ideal S2x1408x2048 .f32 := outV (G m c) (arg7 m c)

/-- The table that the points read is the core's number. -/
theorem table : (tbl m 0 : S1.Idx → BitVec 32) (ix1 0) = core m c := by
  obtain rfl : c = 0 := Subsingleton.elim _ _
  rfl

/-- What a point of the first layer leaves of the gradient, the change and the two moments, from its blocks. -/
theorem outs_A (t : Fin grid0.N) (h : t.val < 22) : outsAt0 m hO c t.val t.isLt
    = left shapeCasts_S1x64x2048_S64x2048 shapeCasts_S64x2048_S1x64x2048 (own 11#32 (grid0.coords t 1).val (core m c))
      (iblk m hO c 3 t) (iblk m hO c 4 t) (iblk m hO c 0 t) (iblk m hO c 1 t) (iblk m hO c 2 t) := by
  rw [← table m c]
  exact (outsAt0_A m hO c t h (Nat.not_le.2 h)).trans (point_A ..)

/-- What a point of the second layer leaves of the gradient, the change and the two moments, from its blocks. -/
theorem outs_B (t : Fin grid0.N) (h : 22 ≤ t.val) : outsAt0 m hO c t.val t.isLt
    = left shapeCasts_S1x64x2048_S64x2048 shapeCasts_S64x2048_S1x64x2048 (own 11#32 (grid0.coords t 1).val (core m c))
      (iblk m hO c 5 t) (iblk m hO c 6 t) (iblk m hO c 0 t) (iblk m hO c 1 t) (iblk m hO c 2 t) := by
  rw [← table m c]
  exact (outsAt0_B m hO c t (Nat.not_lt.2 h) h).trans (point_B ..)

/-- The place in a large array of a place of a point's block. -/
abbrev place (t : Fin grid0.N) (p : Fin 64) (q : Fin 2048) : S2x1408x2048.Idx := spot 2048 sizes t.val (t.isLt.trans_eq N_0) p q

/-- A place of a large array as the launch computes it. -/
theorem at_spot (t : Fin grid0.N) (p : Fin 64) (q : Fin 2048) (y : S2x1408x2048.Idx)
    (h0 : (y 0).val = cc0_transform_0 (grid0.coords t) 0 * 1 + 1 * 0) (h1 : (y 1).val = cc0_transform_0 (grid0.coords t) 1 * 64 + 1 * p.val)
    (h2 : (y 2).val = cc0_transform_0 (grid0.coords t) 2 * 2048 + 1 * q.val) : y = place t p q :=
  spot_of sizes (t.isLt.trans_eq N_0) p q (lie t).2.1 y h0 h1 h2

/-- A point's block of the gradient. -/
theorem gradient (t : Fin grid0.N) (p : Fin 64) (q : Fin 2048) : ∃ a b : Vec Ideal S64x2048 .f32,
    outsAt0 m hO c t.val t.isLt = left shapeCasts_S1x64x2048_S64x2048 shapeCasts_S64x2048_S1x64x2048
      (own 11#32 (grid0.coords t 1).val (core m c)) a b (iblk m hO c 0 t) (iblk m hO c 1 t) (iblk m hO c 2 t)
    ∧ Scalar.select (own 11#32 (grid0.coords t 1).val (core m c)) (a (ix2 p q)) (b (ix2 p q)) = G m c (place t p q) := by
  have ht : t.val < 44 := t.isLt.trans_eq N_0
  rcases Nat.lt_or_ge t.val 22 with h | h
  · refine ⟨_, _, outs_A m hO c t h, Eq.trans ?_ (grad_spot sizes _ _ _ (t.isLt.trans_eq N_0) p q 0 (show t.val / 22 = 0 by omega)).symm⟩
    unfold own pick iblk
    rw [(lie t).1]
    exact congrArg₂ _ ((View.read_apply _ _).trans (congrArg (arg2 m c) (halfSpot_of sizes p q ((lie t).2.2.1 h) _ rfl rfl)))
      ((View.read_apply _ _).trans (congrArg (arg3 m c) (halfSpot_of sizes p q ((lie t).2.2.1 h) _ rfl rfl)))
  · refine ⟨_, _, outs_B m hO c t h, Eq.trans ?_ (grad_spot sizes _ _ _ (t.isLt.trans_eq N_0) p q 1 (show t.val / 22 = 1 by omega)).symm⟩
    unfold own pick iblk
    rw [(lie t).1]
    exact congrArg₂ _ ((View.read_apply _ _).trans (congrArg (arg4 m c) (halfSpot_of sizes p q ((lie t).2.2.2 h) _ rfl rfl)))
      ((View.read_apply _ _).trans (congrArg (arg5 m c) (halfSpot_of sizes p q ((lie t).2.2.2 h) _ rfl rfl)))

/-- What a point leaves, number by number. -/
theorem after_point (t : Fin grid0.N) (p : Fin 64) (q : Fin 2048) :
    ((dats m hO 0 c).after 7 t : Vec Ideal S1x64x2048 .f32) (ix3 0 p q) = G m c (place t p q)
    ∧ ((dats m hO 0 c).after 8 t : Vec Ideal S1x64x2048 .f32) (ix3 0 p q) = W m c (place t p q)
    ∧ ((dats m hO 0 c).after 9 t : Vec Ideal S1x64x2048 .f32) (ix3 0 p q) = M m c (place t p q)
    ∧ ((dats m hO 0 c).after 10 t : Vec Ideal S1x64x2048 .f32) (ix3 0 p q) = V m c (place t p q) := by
  obtain ⟨a, b, e, hg⟩ := gradient m hO c t p q
  rw [after0_7, after0_8, after0_9, after0_10, e]
  refine left_at _ _ _ _ _ _ _ _ p q _ _ _ _ hg ?_ ?_ ?_
  all_goals unfold iblk; refine (View.read_apply _ _).trans ?_
  exacts [congrArg (arg1 m c) (at_spot t p q _ rfl rfl rfl), congrArg (arg6 m c) (at_spot t p q _ rfl rfl rfl), congrArg (arg7 m c) (at_spot t p q _ rfl rfl rfl)]

/-- The arrays after the launch. -/
theorem arrays : (dats m hO 0 c).arrAt 7 grid0.N = G m c
    ∧ (dats m hO 0 c).arrAt 8 grid0.N = W m c
    ∧ (dats m hO 0 c).arrAt 9 grid0.N = M m c
    ∧ (dats m hO 0 c).arrAt 10 grid0.N = V m c := by
  refine ⟨(dats m hO 0 c).arrAt_eq_of_cover 7 _ (fun t _ => block_of sizes _ (t.isLt.trans_eq N_0) _ _ (fun p q => (after_point m hO c t p q).1) fun p q =>
      (View.read_apply _ _).trans (congrArg (G m c) (at_spot t p q _ rfl rfl rfl))) fun y => (cover sizes N_0 _ ?_ y).imp fun t h => ⟨flush0_7 _ t, h⟩,
    (dats m hO 0 c).arrAt_eq_of_cover 8 _ (fun t _ => block_of sizes _ (t.isLt.trans_eq N_0) _ _ (fun p q => (after_point m hO c t p q).2.1) fun p q =>
      (View.read_apply _ _).trans (congrArg (W m c) (at_spot t p q _ rfl rfl rfl))) fun y => (cover sizes N_0 _ ?_ y).imp fun t h => ⟨flush0_8 _ t, h⟩,
    (dats m hO 0 c).arrAt_eq_of_cover 9 _ (fun t _ => block_of sizes _ (t.isLt.trans_eq N_0) _ _ (fun p q => (after_point m hO c t p q).2.2.1) fun p q =>
      (View.read_apply _ _).trans (congrArg (M m c) (at_spot t p q _ rfl rfl rfl))) fun y => (cover sizes N_0 _ ?_ y).imp fun t h => ⟨flush0_9 _ t, h⟩,
    (dats m hO 0 c).arrAt_eq_of_cover 10 _ (fun t _ => block_of sizes _ (t.isLt.trans_eq N_0) _ _ (fun p q => (after_point m hO c t p q).2.2.2) fun p q =>
      (View.read_apply _ _).trans (congrArg (V m c) (at_spot t p q _ rfl rfl rfl))) fun y => (cover sizes N_0 _ ?_ y).imp fun t h => ⟨flush0_10 _ t, h⟩⟩
  all_goals exact fun t p q => (congrArg (· ∈ _) (at_spot t p q _ rfl rfl rfl)).mp (View.emb_mem_set _ (ix3 0 p q))

end Arrays

/-- The reference runs, keeps its arguments, and holds no counter above zero at the end. -/
theorem frame_reference : Cert.quiescent_BdownRefIdeal := fun m ρ _ =>
  (θ_run Cert.BdownRefIdeal.defs _ _).mono (fun r h => ⟨fun c => (h c).2.2.2.2, sem_eq_zero_of_no_sems (by decide) r.2⟩)
    (Cert.BdownRefIdeal.Value.run (F := Ideal) m ρ)

/-- The kernel's results are the reference's. -/
theorem algebraic : Cert.algebraic_BdownIdeal_BdownRefIdeal := by
  intro m ρ m' ρ' _ hagree
  refine ⟨fun c => G m c, fun c => W m c, fun c => M m c, fun c => V m c,
    (θ_run _ _ _).mono (fun r h c => ⟨((h.1 c).1 7).trans (arrays m trivial c).1, ((h.1 c).1 8).trans (arrays m trivial c).2.1,
      ((h.1 c).1 9).trans (arrays m trivial c).2.2.1, ((h.1 c).1 10).trans (arrays m trivial c).2.2.2, h.2 c⟩)
      (θ_run_and (run_main m ρ trivial) (unchanged m ρ trivial)),
    (θ_run _ _ _).mono (fun r h c => ?_) (Cert.BdownRefIdeal.Value.run (F := Ideal) m' ρ')⟩
  obtain ⟨a0, a1, a2, a3, a4, a5, a6, a7⟩ := hagree c
  refine ⟨(h c).1.trans ?_, (h c).2.1.trans ?_, (h c).2.2.1.trans ?_, (h c).2.2.2.1.trans ?_, (h c).2.2.2.2⟩
  · rw [a0, a2, a3, a4, a5]; exact ref_two sizes _ _ _ _ _ _ _ _ _ _
  · show mulf _ _ = _; rw [a0, a1, a2, a3, a4, a5, a6, a7]; exact ref_change _ _ _ _ (ref_two sizes _ _ _ _ _ _ _ _ _ _)
  · rw [a0, a2, a3, a4, a5, a6]; exact ref_first _ _ (ref_two sizes _ _ _ _ _ _ _ _ _ _)
  · rw [a0, a2, a3, a4, a5, a7]; exact ref_second _ _ (ref_two sizes _ _ _ _ _ _ _ _ _ _)

end Cert.DownStep

end
-- ==== Proof.Bpg.lean ====
/-
  The optimiser's step on the per-layer embeddings' matrix w_gate: two layers of 512 rows of 2048, in blocks of 128 rows.
-/
module

public import proofs.«01_k».proof.Defs
public import proofs.«01_k».proof.Proof.Halves
public import proofs.«01_k».proof.Proof.Gen.BpgIdeal.Frame
public import proofs.«01_k».proof.Proof.Gen.BpgRefIdeal.Run
public import Idealize.ShloMosaic.Adequacy
public import Idealize.ShloMosaic.Init

@[expose] public section

set_option maxRecDepth 16384

noncomputable section

namespace Cert.PleGate

open Idealize.ShloMosaic Idealize.ShloMosaic.TcCoe Idealize.SL.Sem Halves
open Cert.BpgIdeal Cert.BpgIdeal.Gen

/-- 512 rows are two halves of 2 blocks of 128. -/
theorem sizes : Sizes 512 256 128 2 := ⟨by norm_num, by norm_num, by norm_num, by norm_num⟩

/-- The half that a point works on, and where its blocks lie. -/
theorem lie : ∀ t : Fin grid0.N, half 2#32 (grid0.coords t 1).val = BitVec.ofNat 32 (t.val % 4 / 2)
    ∧ (cc0_transform_0 (grid0.coords t) 0 = t.val / 4 ∧ cc0_transform_0 (grid0.coords t) 1 = t.val % 4 ∧ cc0_transform_0 (grid0.coords t) 2 = 0)
    ∧ (t.val < 4 → cc0_transform_3 (grid0.coords t) 0 = t.val % 2 ∧ cc0_transform_3 (grid0.coords t) 1 = 0)
    ∧ (4 ≤ t.val → cc0_transform_5 (grid0.coords t) 0 = t.val % 2 ∧ cc0_transform_5 (grid0.coords t) 1 = 0) := by decide +kernel

section Point
variable (c : Dev nD) (i : grid0.Coords)
variable (a0 a1 a2 : Memref sig .tc .vmem S1x128x2048 .f32) (a3 a4 a5 a6 : Memref sig .tc .vmem S128x2048 .f32) (a7 a8 a9 a10 : Memref sig .tc .vmem S1x128x2048 .f32)
variable (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
variable (x0 x1 x2 : Vec Ideal S1x128x2048 .f32) (x3 x4 x5 x6 : Vec Ideal S128x2048 .f32) (xt : TbBuf0 (F := Ideal) c tbM0_0)

set_option maxHeartbeats 2000000 in
/-- What a point of the first layer leaves of the gradient, the change and the two moments. -/
theorem point_A (hc : cond0_0 i) (hd : ¬cond0_1 i) :
    (out0_A_7 (F := Ideal) c i a0 h0 a1 h1 a2 h2 a3 h3 a4 h4 a5 h5 a6 h6 a7 h7 a8 h8 a9 h9 a10 h10 hc hd x0 x1 x2 x3 x4 x5 x6 xt,
      out0_A_8 (F := Ideal) c i a0 h0 a1 h1 a2 h2 a3 h3 a4 h4 a5 h5 a6 h6 a7 h7 a8 h8 a9 h9 a10 h10 hc hd x0 x1 x2 x3 x4 x5 x6 xt,
      out0_A_9 (F := Ideal) c i a0 h0 a1 h1 a2 h2 a3 h3 a4 h4 a5 h5 a6 h6 a7 h7 a8 h8 a9 h9 a10 h10 hc hd x0 x1 x2 x3 x4 x5 x6 xt,
      out0_A_10 (F := Ideal) c i a0 h0 a1 h1 a2 h2 a3 h3 a4 h4 a5 h5 a6 h6 a7 h7 a8 h8 a9 h9 a10 h10 hc hd x0 x1 x2 x3 x4 x5 x6 xt)
      = left shapeCasts_S1x128x2048_S128x2048 shapeCasts_S128x2048_S1x128x2048 (own 2#32 (i 1).val (xt (ix1 0))) x3 x4 x0 x1 x2 := by
  unfold out0_A_7 out0_A_8 out0_A_9 out0_A_10
  iterate 4 rw [View.read_writes_eq_canon (Val := Elt Ideal)]
  on_goal 2 => exact fun _ => cover0_A_10 ..
  on_goal 2 => exact fun _ => cover0_A_9 ..
  on_goal 2 => exact fun _ => cover0_A_8 ..
  on_goal 2 => exact fun _ => cover0_A_7 ..
  unfold kernelRun0_A
  dsimp only
  simp only [View.canon_unit_zero (S := S1x128x2048) hz3]
  unfold kernelRun0_A.sl.r_1 kernelRun0_A.sl.r_2 kernelRun0_A.sl.r_3 kernelRun0_A.sl.r_4
  simp only [View.readAt_eq_ld, h0.read_unread, h1.read_unread, h2.read_unread, h3.read_unread, h4.read_unread,
    View.ld_unit_zero (S := S1x128x2048) hz3, View.ld_unit_zero (S := S128x2048) Rows.hz2]
  rw [show kernelRun0_A.sl.r (F := Ideal) c xt = xt (ix1 0) from congrArg xt (only _)]
  rfl

set_option maxHeartbeats 2000000 in
/-- What a point of the second layer leaves of the gradient, the change and the two moments. -/
theorem point_B (hc : ¬cond0_0 i) (hd : cond0_1 i) :
    (out0_B_7 (F := Ideal) c i a0 h0 a1 h1 a2 h2 a3 h3 a4 h4 a5 h5 a6 h6 a7 h7 a8 h8 a9 h9 a10 h10 hc hd x0 x1 x2 x3 x4 x5 x6 xt,
      out0_B_8 (F := Ideal) c i a0 h0 a1 h1 a2 h2 a3 h3 a4 h4 a5 h5 a6 h6 a7 h7 a8 h8 a9 h9 a10 h10 hc hd x0 x1 x2 x3 x4 x5 x6 xt,
      out0_B_9 (F := Ideal) c i a0 h0 a1 h1 a2 h2 a3 h3 a4 h4 a5 h5 a6 h6 a7 h7 a8 h8 a9 h9 a10 h10 hc hd x0 x1 x2 x3 x4 x5 x6 xt,
      out0_B_10 (F := Ideal) c i a0 h0 a1 h1 a2 h2 a3 h3 a4 h4 a5 h5 a6 h6 a7 h7 a8 h8 a9 h9 a10 h10 hc hd x0 x1 x2 x3 x4 x5 x6 xt)
      = left shapeCasts_S1x128x2048_S128x2048 shapeCasts_S128x2048_S1x128x2048 (own 2#32 (i 1).val (xt (ix1 0))) x5 x6 x0 x1 x2 := by
  unfold out0_B_7 out0_B_8 out0_B_9 out0_B_10
  iterate 4 rw [View.read_writes_eq_canon (Val := Elt Ideal)]
  on_goal 2 => exact fun _ => cover0_B_10 ..
  on_goal 2 => exact fun _ => cover0_B_9 ..
  on_goal 2 => exact fun _ => cover0_B_8 ..
  on_goal 2 => exact fun _ => cover0_B_7 ..
  unfold kernelRun0_B
  dsimp only
  simp only [View.canon_unit_zero (S := S1x128x2048) hz3]
  unfold kernelRun0_B.sl.r_1 kernelRun0_B.sl.r_2 kernelRun0_B.sl.r_3 kernelRun0_B.sl.r_4
  simp only [View.readAt_eq_ld, h0.read_unread, h1.read_unread, h2.read_unread, h5.read_unread, h6.read_unread,
    View.ld_unit_zero (S := S1x128x2048) hz3, View.ld_unit_zero (S := S128x2048) Rows.hz2]
  rw [show kernelRun0_B.sl.r (F := Ideal) c xt = xt (ix1 0) from congrArg xt (only _)]
  rfl

end Point

section Arrays
variable (m : (ℓ : Loc nD τ sig) → Buf (Elt Ideal) ℓ) (hO : Ok m) (c : Dev nD)

/-- The core's number. -/
abbrev core : BitVec 32 := (m ((c : Thread nD τ).loc main_arg0) : S1.Idx → BitVec 32) (ix1 0)
/-- The weights. -/
abbrev arg1 : FVec Ideal S2x512x2048 .f32 := m ((c : Thread nD τ).loc main_arg1)
/-- The device's own half of the first layer's gradient. -/
abbrev arg2 : FVec Ideal S256x2048 .f32 := m ((c : Thread nD τ).loc main_arg2)
/-- The other half of the first layer's gradient. -/
abbrev arg3 : FVec Ideal S256x2048 .f32 := m ((c : Thread nD τ).loc main_arg3)
/-- The device's own half of the second layer's gradient. -/
abbrev arg4 : FVec Ideal S256x2048 .f32 := m ((c : Thread nD τ).loc main_arg4)
/-- The other half of the second layer's gradient. -/
abbrev arg5 : FVec Ideal S256x2048 .f32 := m ((c : Thread nD τ).loc main_arg5)
/-- The first moments. -/
abbrev arg6 : FVec Ideal S2x512x2048 .f32 := m ((c : Thread nD τ).loc main_arg6)
/-- The second moments. -/
abbrev arg7 : FVec Ideal S2x512x2048 .f32 := m ((c : Thread nD τ).loc main_arg7)

/-- The gradient. -/
abbrev G : FVec Ideal S2x512x2048 .f32 := grad sizes ![arg2 m c, arg4 m c] ![arg3 m c, arg5 m c] (core m c)

/-- The change of the weights. -/
abbrev W : FVec Ideal S2x512x2048 .f32 := outW (G m c) (arg1 m c) (arg6 m c) (arg7 m c)
/-- The first moments after the step. -/
abbrev M : FVec Ideal S2x512x2048 .f32 := outM (G m c) (arg6 m c)
/-- The second moments after the step. -/
abbrev V : FVec Ideal S2x512x2048 .f32 := outV (G m c) (arg7 m c)

/-- The table that the points read is the core's number. -/
theorem table : (tbl m 0 : S1.Idx → BitVec 32) (ix1 0) = core m c := by
  obtain rfl : c = 0 := Subsingleton.elim _ _
  rfl

/-- What a point of the first layer leaves of the gradient, the change and the two moments, from its blocks. -/
theorem outs_A (t : Fin grid0.N) (h : t.val < 4) : outsAt0 m hO c t.val t.isLt
    = left shapeCasts_S1x128x2048_S128x2048 shapeCasts_S128x2048_S1x128x2048 (own 2#32 (grid0.coords t 1).val (core m c))
      (iblk m hO c 3 t) (iblk m hO c 4 t) (iblk m hO c 0 t) (iblk m hO c 1 t) (iblk m hO c 2 t) := by
  rw [← table m c]
  exact (outsAt0_A m hO c t h (Nat.not_le.2 h)).trans (point_A ..)

/-- What a point of the second layer leaves of the gradient, the change and the two moments, from its blocks. -/
theorem outs_B (t : Fin grid0.N) (h : 4 ≤ t.val) : outsAt0 m hO c t.val t.isLt
    = left shapeCasts_S1x128x2048_S128x2048 shapeCasts_S128x2048_S1x128x2048 (own 2#32 (grid0.coords t 1).val (core m c))
      (iblk m hO c 5 t) (iblk m hO c 6 t) (iblk m hO c 0 t) (iblk m hO c 1 t) (iblk m hO c 2 t) := by
  rw [← table m c]
  exact (outsAt0_B m hO c t (Nat.not_lt.2 h) h).trans (point_B ..)

/-- The place in a large array of a place of a point's block. -/
abbrev place (t : Fin grid0.N) (p : Fin 128) (q : Fin 2048) : S2x512x2048.Idx := spot 2048 sizes t.val (t.isLt.trans_eq N_0) p q

/-- A place of a large array as the launch computes it. -/
theorem at_spot (t : Fin grid0.N) (p : Fin 128) (q : Fin 2048) (y : S2x512x2048.Idx)
    (h0 : (y 0).val = cc0_transform_0 (grid0.coords t) 0 * 1 + 1 * 0) (h1 : (y 1).val = cc0_transform_0 (grid0.coords t) 1 * 128 + 1 * p.val)
    (h2 : (y 2).val = cc0_transform_0 (grid0.coords t) 2 * 2048 + 1 * q.val) : y = place t p q :=
  spot_of sizes (t.isLt.trans_eq N_0) p q (lie t).2.1 y h0 h1 h2

/-- A point's block of the gradient. -/
theorem gradient (t : Fin grid0.N) (p : Fin 128) (q : Fin 2048) : ∃ a b : Vec Ideal S128x2048 .f32,
    outsAt0 m hO c t.val t.isLt = left shapeCasts_S1x128x2048_S128x2048 shapeCasts_S128x2048_S1x128x2048
      (own 2#32 (grid0.coords t 1).val (core m c)) a b (iblk m hO c 0 t) (iblk m hO c 1 t) (iblk m hO c 2 t)
    ∧ Scalar.select (own 2#32 (grid0.coords t 1).val (core m c)) (a (ix2 p q)) (b (ix2 p q)) = G m c (place t p q) := by
  have ht : t.val < 8 := t.isLt.trans_eq N_0
  rcases Nat.lt_or_ge t.val 4 with h | h
  · refine ⟨_, _, outs_A m hO c t h, Eq.trans ?_ (grad_spot sizes _ _ _ (t.isLt.trans_eq N_0) p q 0 (show t.val / 4 = 0 by omega)).symm⟩
    unfold own pick iblk
    rw [(lie t).1]
    exact congrArg₂ _ ((View.read_apply _ _).trans (congrArg (arg2 m c) (halfSpot_of sizes p q ((lie t).2.2.1 h) _ rfl rfl)))
      ((View.read_apply _ _).trans (congrArg (arg3 m c) (halfSpot_of sizes p q ((lie t).2.2.1 h) _ rfl rfl)))
  · refine ⟨_, _, outs_B m hO c t h, Eq.trans ?_ (grad_spot sizes _ _ _ (t.isLt.trans_eq N_0) p q 1 (show t.val / 4 = 1 by omega)).symm⟩
    unfold own pick iblk
    rw [(lie t).1]
    exact congrArg₂ _ ((View.read_apply _ _).trans (congrArg (arg4 m c) (halfSpot_of sizes p q ((lie t).2.2.2 h) _ rfl rfl)))
      ((View.read_apply _ _).trans (congrArg (arg5 m c) (halfSpot_of sizes p q ((lie t).2.2.2 h) _ rfl rfl)))

/-- What a point leaves, number by number. -/
theorem after_point (t : Fin grid0.N) (p : Fin 128) (q : Fin 2048) :
    ((dats m hO 0 c).after 7 t : Vec Ideal S1x128x2048 .f32) (ix3 0 p q) = G m c (place t p q)
    ∧ ((dats m hO 0 c).after 8 t : Vec Ideal S1x128x2048 .f32) (ix3 0 p q) = W m c (place t p q)
    ∧ ((dats m hO 0 c).after 9 t : Vec Ideal S1x128x2048 .f32) (ix3 0 p q) = M m c (place t p q)
    ∧ ((dats m hO 0 c).after 10 t : Vec Ideal S1x128x2048 .f32) (ix3 0 p q) = V m c (place t p q) := by
  obtain ⟨a, b, e, hg⟩ := gradient m hO c t p q
  rw [after0_7, after0_8, after0_9, after0_10, e]
  refine left_at _ _ _ _ _ _ _ _ p q _ _ _ _ hg ?_ ?_ ?_
  all_goals unfold iblk; refine (View.read_apply _ _).trans ?_
  exacts [congrArg (arg1 m c) (at_spot t p q _ rfl rfl rfl), congrArg (arg6 m c) (at_spot t p q _ rfl rfl rfl), congrArg (arg7 m c) (at_spot t p q _ rfl rfl rfl)]

/-- The arrays after the launch. -/
theorem arrays : (dats m hO 0 c).arrAt 7 grid0.N = G m c
    ∧ (dats m hO 0 c).arrAt 8 grid0.N = W m c
    ∧ (dats m hO 0 c).arrAt 9 grid0.N = M m c
    ∧ (dats m hO 0 c).arrAt 10 grid0.N = V m c := by
  refine ⟨(dats m hO 0 c).arrAt_eq_of_cover 7 _ (fun t _ => block_of sizes _ (t.isLt.trans_eq N_0) _ _ (fun p q => (after_point m hO c t p q).1) fun p q =>
      (View.read_apply _ _).trans (congrArg (G m c) (at_spot t p q _ rfl rfl rfl))) fun y => (cover sizes N_0 _ ?_ y).imp fun t h => ⟨flush0_7 _ t, h⟩,
    (dats m hO 0 c).arrAt_eq_of_cover 8 _ (fun t _ => block_of sizes _ (t.isLt.trans_eq N_0) _ _ (fun p q => (after_point m hO c t p q).2.1) fun p q =>
      (View.read_apply _ _).trans (congrArg (W m c) (at_spot t p q _ rfl rfl rfl))) fun y => (cover sizes N_0 _ ?_ y).imp fun t h => ⟨flush0_8 _ t, h⟩,
    (dats m hO 0 c).arrAt_eq_of_cover 9 _ (fun t _ => block_of sizes _ (t.isLt.trans_eq N_0) _ _ (fun p q => (after_point m hO c t p q).2.2.1) fun p q =>
      (View.read_apply _ _).trans (congrArg (M m c) (at_spot t p q _ rfl rfl rfl))) fun y => (cover sizes N_0 _ ?_ y).imp fun t h => ⟨flush0_9 _ t, h⟩,
    (dats m hO 0 c).arrAt_eq_of_cover 10 _ (fun t _ => block_of sizes _ (t.isLt.trans_eq N_0) _ _ (fun p q => (after_point m hO c t p q).2.2.2) fun p q =>
      (View.read_apply _ _).trans (congrArg (V m c) (at_spot t p q _ rfl rfl rfl))) fun y => (cover sizes N_0 _ ?_ y).imp fun t h => ⟨flush0_10 _ t, h⟩⟩
  all_goals exact fun t p q => (congrArg (· ∈ _) (at_spot t p q _ rfl rfl rfl)).mp (View.emb_mem_set _ (ix3 0 p q))

end Arrays

/-- The reference runs, keeps its arguments, and holds no counter above zero at the end. -/
theorem frame_reference : Cert.quiescent_BpgRefIdeal := fun m ρ _ =>
  (θ_run Cert.BpgRefIdeal.defs _ _).mono (fun r h => ⟨fun c => (h c).2.2.2.2, sem_eq_zero_of_no_sems (by decide) r.2⟩)
    (Cert.BpgRefIdeal.Value.run (F := Ideal) m ρ)

/-- The kernel's results are the reference's. -/
theorem algebraic : Cert.algebraic_BpgIdeal_BpgRefIdeal := by
  intro m ρ m' ρ' _ hagree
  refine ⟨fun c => G m c, fun c => W m c, fun c => M m c, fun c => V m c,
    (θ_run _ _ _).mono (fun r h c => ⟨((h.1 c).1 7).trans (arrays m trivial c).1, ((h.1 c).1 8).trans (arrays m trivial c).2.1,
      ((h.1 c).1 9).trans (arrays m trivial c).2.2.1, ((h.1 c).1 10).trans (arrays m trivial c).2.2.2, h.2 c⟩)
      (θ_run_and (run_main m ρ trivial) (unchanged m ρ trivial)),
    (θ_run _ _ _).mono (fun r h c => ?_) (Cert.BpgRefIdeal.Value.run (F := Ideal) m' ρ')⟩
  obtain ⟨a0, a1, a2, a3, a4, a5, a6, a7⟩ := hagree c
  refine ⟨(h c).1.trans ?_, (h c).2.1.trans ?_, (h c).2.2.1.trans ?_, (h c).2.2.2.1.trans ?_, (h c).2.2.2.2⟩
  · rw [a0, a2, a3, a4, a5]; exact ref_two sizes _ _ _ _ _ _ _ _ _ _
  · show mulf _ _ = _; rw [a0, a1, a2, a3, a4, a5, a6, a7]; exact ref_change _ _ _ _ (ref_two sizes _ _ _ _ _ _ _ _ _ _)
  · rw [a0, a2, a3, a4, a5, a6]; exact ref_first _ _ (ref_two sizes _ _ _ _ _ _ _ _ _ _)
  · rw [a0, a2, a3, a4, a5, a7]; exact ref_second _ _ (ref_two sizes _ _ _ _ _ _ _ _ _ _)

end Cert.PleGate

end
-- ==== Proof.Bpp.lean ====
/-
  The optimiser's step on the per-layer embeddings' matrix w_proj: two layers of 256 rows of 512, in blocks of 128 rows.
-/
module

public import proofs.«01_k».proof.Defs
public import proofs.«01_k».proof.Proof.Halves
public import proofs.«01_k».proof.Proof.Gen.BppIdeal.Frame
public import proofs.«01_k».proof.Proof.Gen.BppRefIdeal.Run
public import Idealize.ShloMosaic.Adequacy
public import Idealize.ShloMosaic.Init

@[expose] public section

set_option maxRecDepth 16384

noncomputable section

namespace Cert.PleProj

open Idealize.ShloMosaic Idealize.ShloMosaic.TcCoe Idealize.SL.Sem Halves
open Cert.BppIdeal Cert.BppIdeal.Gen

/-- 256 rows are two halves of one block of 128. -/
theorem sizes : Sizes 256 128 128 1 := ⟨by norm_num, by norm_num, by norm_num, by norm_num⟩

/-- The half that a point works on, and where its blocks lie. -/
theorem lie : ∀ t : Fin grid0.N, half 1#32 (grid0.coords t 1).val = BitVec.ofNat 32 (t.val % 2 / 1)
    ∧ (cc0_transform_0 (grid0.coords t) 0 = t.val / 2 ∧ cc0_transform_0 (grid0.coords t) 1 = t.val % 2 ∧ cc0_transform_0 (grid0.coords t) 2 = 0)
    ∧ (t.val < 2 → cc0_transform_3 (grid0.coords t) 0 = t.val % 1 ∧ cc0_transform_3 (grid0.coords t) 1 = 0)
    ∧ (2 ≤ t.val → cc0_transform_5 (grid0.coords t) 0 = t.val % 1 ∧ cc0_transform_5 (grid0.coords t) 1 = 0) := by decide +kernel

section Point
variable (c : Dev nD) (i : grid0.Coords)
variable (a0 a1 a2 : Memref sig .tc .vmem S1x128x512 .f32) (a3 a4 a5 a6 : Memref sig .tc .vmem S128x512 .f32) (a7 a8 a9 a10 : Memref sig .tc .vmem S1x128x512 .f32)
variable (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole)
variable (x0 x1 x2 : Vec Ideal S1x128x512 .f32) (x3 x4 x5 x6 : Vec Ideal S128x512 .f32) (xt : TbBuf0 (F := Ideal) c tbM0_0)

set_option maxHeartbeats 2000000 in
/-- What a point of the first layer leaves of the gradient, the change and the two moments. -/
theorem point_A (hc : cond0_0 i) (hd : ¬cond0_1 i) :
    (out0_A_7 (F := Ideal) c i a0 h0 a1 h1 a2 h2 a3 h3 a4 h4 a5 h5 a6 h6 a7 h7 a8 h8 a9 h9 a10 h10 hc hd x0 x1 x2 x3 x4 x5 x6 xt,
      out0_A_8 (F := Ideal) c i a0 h0 a1 h1 a2 h2 a3 h3 a4 h4 a5 h5 a6 h6 a7 h7 a8 h8 a9 h9 a10 h10 hc hd x0 x1 x2 x3 x4 x5 x6 xt,
      out0_A_9 (F := Ideal) c i a0 h0 a1 h1 a2 h2 a3 h3 a4 h4 a5 h5 a6 h6 a7 h7 a8 h8 a9 h9 a10 h10 hc hd x0 x1 x2 x3 x4 x5 x6 xt,
      out0_A_10 (F := Ideal) c i a0 h0 a1 h1 a2 h2 a3 h3 a4 h4 a5 h5 a6 h6 a7 h7 a8 h8 a9 h9 a10 h10 hc hd x0 x1 x2 x3 x4 x5 x6 xt)
      = left shapeCasts_S1x128x512_S128x512 shapeCasts_S128x512_S1x128x512 (own 1#32 (i 1).val (xt (ix1 0))) x3 x4 x0 x1 x2 := by
  unfold out0_A_7 out0_A_8 out0_A_9 out0_A_10
  iterate 4 rw [View.read_writes_eq_canon (Val := Elt Ideal)]
  on_goal 2 => exact fun _ => cover0_A_10 ..
  on_goal 2 => exact fun _ => cover0_A_9 ..
  on_goal 2 => exact fun _ => cover0_A_8 ..
  on_goal 2 => exact fun _ => cover0_A_7 ..
  unfold kernelRun0_A
  dsimp only
  simp only [View.canon_unit_zero (S := S1x128x512) hz3]
  unfold kernelRun0_A.sl.r_1 kernelRun0_A.sl.r_2 kernelRun0_A.sl.r_3 kernelRun0_A.sl.r_4
  simp only [View.readAt_eq_ld, h0.read_unread, h1.read_unread, h2.read_unread, h3.read_unread, h4.read_unread,
    View.ld_unit_zero (S := S1x128x512) hz3, View.ld_unit_zero (S := S128x512) Rows.hz2]
  rw [show kernelRun0_A.sl.r (F := Ideal) c xt = xt (ix1 0) from congrArg xt (only _)]
  rfl

set_option maxHeartbeats 2000000 in
/-- What a point of the second layer leaves of the gradient, the change and the two moments. -/
theorem point_B (hc : ¬cond0_0 i) (hd : cond0_1 i) :
    (out0_B_7 (F := Ideal) c i a0 h0 a1 h1 a2 h2 a3 h3 a4 h4 a5 h5 a6 h6 a7 h7 a8 h8 a9 h9 a10 h10 hc hd x0 x1 x2 x3 x4 x5 x6 xt,
      out0_B_8 (F := Ideal) c i a0 h0 a1 h1 a2 h2 a3 h3 a4 h4 a5 h5 a6 h6 a7 h7 a8 h8 a9 h9 a10 h10 hc hd x0 x1 x2 x3 x4 x5 x6 xt,
      out0_B_9 (F := Ideal) c i a0 h0 a1 h1 a2 h2 a3 h3 a4 h4 a5 h5 a6 h6 a7 h7 a8 h8 a9 h9 a10 h10 hc hd x0 x1 x2 x3 x4 x5 x6 xt,
      out0_B_10 (F := Ideal) c i a0 h0 a1 h1 a2 h2 a3 h3 a4 h4 a5 h5 a6 h6 a7 h7 a8 h8 a9 h9 a10 h10 hc hd x0 x1 x2 x3 x4 x5 x6 xt)
      = left shapeCasts_S1x128x512_S128x512 shapeCasts_S128x512_S1x128x512 (own 1#32 (i 1).val (xt (ix1 0))) x5 x6 x0 x1 x2 := by
  unfold out0_B_7 out0_B_8 out0_B_9 out0_B_10
  iterate 4 rw [View.read_writes_eq_canon (Val := Elt Ideal)]
  on_goal 2 => exact fun _ => cover0_B_10 ..
  on_goal 2 => exact fun _ => cover0_B_9 ..
  on_goal 2 => exact fun _ => cover0_B_8 ..
  on_goal 2 => exact fun _ => cover0_B_7 ..
  unfold kernelRun0_B
  dsimp only
  simp only [View.canon_unit_zero (S := S1x128x512) hz3]
  unfold kernelRun0_B.sl.r_1 kernelRun0_B.sl.r_2 kernelRun0_B.sl.r_3 kernelRun0_B.sl.r_4
  simp only [View.readAt_eq_ld, h0.read_unread, h1.read_unread, h2.read_unread, h5.read_unread, h6.read_unread,
    View.ld_unit_zero (S := S1x128x512) hz3, View.ld_unit_zero (S := S128x512) Rows.hz2]
  rw [show kernelRun0_B.sl.r (F := Ideal) c xt = xt (ix1 0) from congrArg xt (only _)]
  rfl

end Point

section Arrays
variable (m : (ℓ : Loc nD τ sig) → Buf (Elt Ideal) ℓ) (hO : Ok m) (c : Dev nD)

/-- The core's number. -/
abbrev core : BitVec 32 := (m ((c : Thread nD τ).loc main_arg0) : S1.Idx → BitVec 32) (ix1 0)
/-- The weights. -/
abbrev arg1 : FVec Ideal S2x256x512 .f32 := m ((c : Thread nD τ).loc main_arg1)
/-- The device's own half of the first layer's gradient. -/
abbrev arg2 : FVec Ideal S128x512 .f32 := m ((c : Thread nD τ).loc main_arg2)
/-- The other half of the first layer's gradient. -/
abbrev arg3 : FVec Ideal S128x512 .f32 := m ((c : Thread nD τ).loc main_arg3)
/-- The device's own half of the second layer's gradient. -/
abbrev arg4 : FVec Ideal S128x512 .f32 := m ((c : Thread nD τ).loc main_arg4)
/-- The other half of the second layer's gradient. -/
abbrev arg5 : FVec Ideal S128x512 .f32 := m ((c : Thread nD τ).loc main_arg5)
/-- The first moments. -/
abbrev arg6 : FVec Ideal S2x256x512 .f32 := m ((c : Thread nD τ).loc main_arg6)
/-- The second moments. -/
abbrev arg7 : FVec Ideal S2x256x512 .f32 := m ((c : Thread nD τ).loc main_arg7)

/-- The gradient. -/
abbrev G : FVec Ideal S2x256x512 .f32 := grad sizes ![arg2 m c, arg4 m c] ![arg3 m c, arg5 m c] (core m c)

/-- The change of the weights. -/
abbrev W : FVec Ideal S2x256x512 .f32 := outW (G m c) (arg1 m c) (arg6 m c) (arg7 m c)
/-- The first moments after the step. -/
abbrev M : FVec Ideal S2x256x512 .f32 := outM (G m c) (arg6 m c)
/-- The second moments after the step. -/
abbrev V : FVec Ideal S2x256x512 .f32 := outV (G m c) (arg7 m c)

/-- The table that the points read is the core's number. -/
theorem table : (tbl m 0 : S1.Idx → BitVec 32) (ix1 0) = core m c := by
  obtain rfl : c = 0 := Subsingleton.elim _ _
  rfl

/-- What a point of the first layer leaves of the gradient, the change and the two moments, from its blocks. -/
theorem outs_A (t : Fin grid0.N) (h : t.val < 2) : outsAt0 m hO c t.val t.isLt
    = left shapeCasts_S1x128x512_S128x512 shapeCasts_S128x512_S1x128x512 (own 1#32 (grid0.coords t 1).val (core m c))
      (iblk m hO c 3 t) (iblk m hO c 4 t) (iblk m hO c 0 t) (iblk m hO c 1 t) (iblk m hO c 2 t) := by
  rw [← table m c]
  exact (outsAt0_A m hO c t h (Nat.not_le.2 h)).trans (point_A ..)

/-- What a point of the second layer leaves of the gradient, the change and the two moments, from its blocks. -/
theorem outs_B (t : Fin grid0.N) (h : 2 ≤ t.val) : outsAt0 m hO c t.val t.isLt
    = left shapeCasts_S1x128x512_S128x512 shapeCasts_S128x512_S1x128x512 (own 1#32 (grid0.coords t 1).val (core m c))
      (iblk m hO c 5 t) (iblk m hO c 6 t) (iblk m hO c 0 t) (iblk m hO c 1 t) (iblk m hO c 2 t) := by
  rw [← table m c]
  exact (outsAt0_B m hO c t (Nat.not_lt.2 h) h).trans (point_B ..)

/-- The place in a large array of a place of a point's block. -/
abbrev place (t : Fin grid0.N) (p : Fin 128) (q : Fin 512) : S2x256x512.Idx := spot 512 sizes t.val (t.isLt.trans_eq N_0) p q

/-- A place of a large array as the launch computes it. -/
theorem at_spot (t : Fin grid0.N) (p : Fin 128) (q : Fin 512) (y : S2x256x512.Idx)
    (h0 : (y 0).val = cc0_transform_0 (grid0.coords t) 0 * 1 + 1 * 0) (h1 : (y 1).val = cc0_transform_0 (grid0.coords t) 1 * 128 + 1 * p.val)
    (h2 : (y 2).val = cc0_transform_0 (grid0.coords t) 2 * 512 + 1 * q.val) : y = place t p q :=
  spot_of sizes (t.isLt.trans_eq N_0) p q (lie t).2.1 y h0 h1 h2

/-- A point's block of the gradient. -/
theorem gradient (t : Fin grid0.N) (p : Fin 128) (q : Fin 512) : ∃ a b : Vec Ideal S128x512 .f32,
    outsAt0 m hO c t.val t.isLt = left shapeCasts_S1x128x512_S128x512 shapeCasts_S128x512_S1x128x512
      (own 1#32 (grid0.coords t 1).val (core m c)) a b (iblk m hO c 0 t) (iblk m hO c 1 t) (iblk m hO c 2 t)
    ∧ Scalar.select (own 1#32 (grid0.coords t 1).val (core m c)) (a (ix2 p q)) (b (ix2 p q)) = G m c (place t p q) := by
  have ht : t.val < 4 := t.isLt.trans_eq N_0
  rcases Nat.lt_or_ge t.val 2 with h | h
  · refine ⟨_, _, outs_A m hO c t h, Eq.trans ?_ (grad_spot sizes _ _ _ (t.isLt.trans_eq N_0) p q 0 (show t.val / 2 = 0 by omega)).symm⟩
    unfold own pick iblk
    rw [(lie t).1]
    exact congrArg₂ _ ((View.read_apply _ _).trans (congrArg (arg2 m c) (halfSpot_of sizes p q ((lie t).2.2.1 h) _ rfl rfl)))
      ((View.read_apply _ _).trans (congrArg (arg3 m c) (halfSpot_of sizes p q ((lie t).2.2.1 h) _ rfl rfl)))
  · refine ⟨_, _, outs_B m hO c t h, Eq.trans ?_ (grad_spot sizes _ _ _ (t.isLt.trans_eq N_0) p q 1 (show t.val / 2 = 1 by omega)).symm⟩
    unfold own pick iblk
    rw [(lie t).1]
    exact congrArg₂ _ ((View.read_apply _ _).trans (congrArg (arg4 m c) (halfSpot_of sizes p q ((lie t).2.2.2 h) _ rfl rfl)))
      ((View.read_apply _ _).trans (congrArg (arg5 m c) (halfSpot_of sizes p q ((lie t).2.2.2 h) _ rfl rfl)))

/-- What a point leaves, number by number. -/
theorem after_point (t : Fin grid0.N) (p : Fin 128) (q : Fin 512) :
    ((dats m hO 0 c).after 7 t : Vec Ideal S1x128x512 .f32) (ix3 0 p q) = G m c (place t p q)
    ∧ ((dats m hO 0 c).after 8 t : Vec Ideal S1x128x512 .f32) (ix3 0 p q) = W m c (place t p q)
    ∧ ((dats m hO 0 c).after 9 t : Vec Ideal S1x128x512 .f32) (ix3 0 p q) = M m c (place t p q)
    ∧ ((dats m hO 0 c).after 10 t : Vec Ideal S1x128x512 .f32) (ix3 0 p q) = V m c (place t p q) := by
  obtain ⟨a, b, e, hg⟩ := gradient m hO c t p q
  rw [after0_7, after0_8, after0_9, after0_10, e]
  refine left_at _ _ _ _ _ _ _ _ p q _ _ _ _ hg ?_ ?_ ?_
  all_goals unfold iblk; refine (View.read_apply _ _).trans ?_
  exacts [congrArg (arg1 m c) (at_spot t p q _ rfl rfl rfl), congrArg (arg6 m c) (at_spot t p q _ rfl rfl rfl), congrArg (arg7 m c) (at_spot t p q _ rfl rfl rfl)]

/-- The arrays after the launch. -/
theorem arrays : (dats m hO 0 c).arrAt 7 grid0.N = G m c
    ∧ (dats m hO 0 c).arrAt 8 grid0.N = W m c
    ∧ (dats m hO 0 c).arrAt 9 grid0.N = M m c
    ∧ (dats m hO 0 c).arrAt 10 grid0.N = V m c := by
  refine ⟨(dats m hO 0 c).arrAt_eq_of_cover 7 _ (fun t _ => block_of sizes _ (t.isLt.trans_eq N_0) _ _ (fun p q => (after_point m hO c t p q).1) fun p q =>
      (View.read_apply _ _).trans (congrArg (G m c) (at_spot t p q _ rfl rfl rfl))) fun y => (cover sizes N_0 _ ?_ y).imp fun t h => ⟨flush0_7 _ t, h⟩,
    (dats m hO 0 c).arrAt_eq_of_cover 8 _ (fun t _ => block_of sizes _ (t.isLt.trans_eq N_0) _ _ (fun p q => (after_point m hO c t p q).2.1) fun p q =>
      (View.read_apply _ _).trans (congrArg (W m c) (at_spot t p q _ rfl rfl rfl))) fun y => (cover sizes N_0 _ ?_ y).imp fun t h => ⟨flush0_8 _ t, h⟩,
    (dats m hO 0 c).arrAt_eq_of_cover 9 _ (fun t _ => block_of sizes _ (t.isLt.trans_eq N_0) _ _ (fun p q => (after_point m hO c t p q).2.2.1) fun p q =>
      (View.read_apply _ _).trans (congrArg (M m c) (at_spot t p q _ rfl rfl rfl))) fun y => (cover sizes N_0 _ ?_ y).imp fun t h => ⟨flush0_9 _ t, h⟩,
    (dats m hO 0 c).arrAt_eq_of_cover 10 _ (fun t _ => block_of sizes _ (t.isLt.trans_eq N_0) _ _ (fun p q => (after_point m hO c t p q).2.2.2) fun p q =>
      (View.read_apply _ _).trans (congrArg (V m c) (at_spot t p q _ rfl rfl rfl))) fun y => (cover sizes N_0 _ ?_ y).imp fun t h => ⟨flush0_10 _ t, h⟩⟩
  all_goals exact fun t p q => (congrArg (· ∈ _) (at_spot t p q _ rfl rfl rfl)).mp (View.emb_mem_set _ (ix3 0 p q))

end Arrays

/-- The reference runs, keeps its arguments, and holds no counter above zero at the end. -/
theorem frame_reference : Cert.quiescent_BppRefIdeal := fun m ρ _ =>
  (θ_run Cert.BppRefIdeal.defs _ _).mono (fun r h => ⟨fun c => (h c).2.2.2.2, sem_eq_zero_of_no_sems (by decide) r.2⟩)
    (Cert.BppRefIdeal.Value.run (F := Ideal) m ρ)

/-- The kernel's results are the reference's. -/
theorem algebraic : Cert.algebraic_BppIdeal_BppRefIdeal := by
  intro m ρ m' ρ' _ hagree
  refine ⟨fun c => G m c, fun c => W m c, fun c => M m c, fun c => V m c,
    (θ_run _ _ _).mono (fun r h c => ⟨((h.1 c).1 7).trans (arrays m trivial c).1, ((h.1 c).1 8).trans (arrays m trivial c).2.1,
      ((h.1 c).1 9).trans (arrays m trivial c).2.2.1, ((h.1 c).1 10).trans (arrays m trivial c).2.2.2, h.2 c⟩)
      (θ_run_and (run_main m ρ trivial) (unchanged m ρ trivial)),
    (θ_run _ _ _).mono (fun r h c => ?_) (Cert.BppRefIdeal.Value.run (F := Ideal) m' ρ')⟩
  obtain ⟨a0, a1, a2, a3, a4, a5, a6, a7⟩ := hagree c
  refine ⟨(h c).1.trans ?_, (h c).2.1.trans ?_, (h c).2.2.1.trans ?_, (h c).2.2.2.1.trans ?_, (h c).2.2.2.2⟩
  · rw [a0, a2, a3, a4, a5]; exact ref_two sizes _ _ _ _ _ _ _ _ _ _
  · show mulf _ _ = _; rw [a0, a1, a2, a3, a4, a5, a6, a7]; exact ref_change _ _ _ _ (ref_two sizes _ _ _ _ _ _ _ _ _ _)
  · rw [a0, a2, a3, a4, a5, a6]; exact ref_first _ _ (ref_two sizes _ _ _ _ _ _ _ _ _ _)
  · rw [a0, a2, a3, a4, a5, a7]; exact ref_second _ _ (ref_two sizes _ _ _ _ _ _ _ _ _ _)

end Cert.PleProj

end
-- ==== Proof.Bab.lean ====
/-
  The optimiser's step on the attention and RWKV mixer's first matrix: one layer of 2048 rows of 1600, in blocks of 128 rows.
-/
module

public import proofs.«01_k».proof.Defs
public import proofs.«01_k».proof.Proof.Halves
public import proofs.«01_k».proof.Proof.Gen.BabIdeal.Frame
public import proofs.«01_k».proof.Proof.Gen.BabRefIdeal.Run
public import Idealize.ShloMosaic.Adequacy
public import Idealize.ShloMosaic.Init

@[expose] public section

set_option maxRecDepth 16384

noncomputable section

namespace Cert.AbIn

open Idealize.ShloMosaic Idealize.ShloMosaic.TcCoe Idealize.SL.Sem Halves
open Cert.BabIdeal Cert.BabIdeal.Gen

/-- 2048 rows are two halves of 8 blocks of 128. -/
theorem sizes : Sizes 2048 1024 128 8 := ⟨by norm_num, by norm_num, by norm_num, by norm_num⟩

/-- The half that a point works on, and where its blocks lie. -/
theorem lie : ∀ t : Fin grid0.N, half 8#32 (grid0.coords t 1).val = BitVec.ofNat 32 (t.val % 16 / 8)
    ∧ (cc0_transform_0 (grid0.coords t) 0 = t.val / 16 ∧ cc0_transform_0 (grid0.coords t) 1 = t.val % 16 ∧ cc0_transform_0 (grid0.coords t) 2 = 0)
    ∧ cc0_transform_3 (grid0.coords t) 0 = t.val % 8 ∧ cc0_transform_3 (grid0.coords t) 1 = 0 := by decide +kernel

section Point
variable (c : Dev nD) (i : grid0.Coords)
variable (a0 a1 a2 : Memref sig .tc .vmem S1x128x1600 .f32) (a3 a4 : Memref sig .tc .vmem S128x1600 .f32) (a5 a6 a7 a8 : Memref sig .tc .vmem S1x128x1600 .f32)
variable (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole)
variable (x0 x1 x2 : Vec Ideal S1x128x1600 .f32) (x3 x4 : Vec Ideal S128x1600 .f32) (xt : TbBuf0 (F := Ideal) c tbM0_0)

set_option maxHeartbeats 2000000 in
/-- What a point leaves of the gradient, the change and the two moments. -/
theorem point (hc : cond0_0 i) :
    (out0_A_5 (F := Ideal) c i a0 h0 a1 h1 a2 h2 a3 h3 a4 h4 a5 h5 a6 h6 a7 h7 a8 h8 hc x0 x1 x2 x3 x4 xt,
      out0_A_6 (F := Ideal) c i a0 h0 a1 h1 a2 h2 a3 h3 a4 h4 a5 h5 a6 h6 a7 h7 a8 h8 hc x0 x1 x2 x3 x4 xt,
      out0_A_7 (F := Ideal) c i a0 h0 a1 h1 a2 h2 a3 h3 a4 h4 a5 h5 a6 h6 a7 h7 a8 h8 hc x0 x1 x2 x3 x4 xt,
      out0_A_8 (F := Ideal) c i a0 h0 a1 h1 a2 h2 a3 h3 a4 h4 a5 h5 a6 h6 a7 h7 a8 h8 hc x0 x1 x2 x3 x4 xt)
      = left shapeCasts_S1x128x1600_S128x1600 shapeCasts_S128x1600_S1x128x1600 (own 8#32 (i 1).val (xt (ix1 0))) x3 x4 x0 x1 x2 := by
  unfold out0_A_5 out0_A_6 out0_A_7 out0_A_8
  iterate 4 rw [View.read_writes_eq_canon (Val := Elt Ideal)]
  on_goal 2 => exact fun _ => cover0_A_8 ..
  on_goal 2 => exact fun _ => cover0_A_7 ..
  on_goal 2 => exact fun _ => cover0_A_6 ..
  on_goal 2 => exact fun _ => cover0_A_5 ..
  unfold kernelRun0_A
  dsimp only
  simp only [View.canon_unit_zero (S := S1x128x1600) hz3]
  unfold kernelRun0_A.sl.r_1 kernelRun0_A.sl.r_2 kernelRun0_A.sl.r_3 kernelRun0_A.sl.r_4
  simp only [View.readAt_eq_ld, h0.read_unread, h1.read_unread, h2.read_unread, h3.read_unread, h4.read_unread,
    View.ld_unit_zero (S := S1x128x1600) hz3, View.ld_unit_zero (S := S128x1600) Rows.hz2]
  rw [show kernelRun0_A.sl.r (F := Ideal) c xt = xt (ix1 0) from congrArg xt (only _)]
  rfl

end Point

section Arrays
variable (m : (ℓ : Loc nD τ sig) → Buf (Elt Ideal) ℓ) (hO : Ok m) (c : Dev nD)

/-- The core's number. -/
abbrev core : BitVec 32 := (m ((c : Thread nD τ).loc main_arg0) : S1.Idx → BitVec 32) (ix1 0)
/-- The weights. -/
abbrev arg1 : FVec Ideal S1x2048x1600 .f32 := m ((c : Thread nD τ).loc main_arg1)
/-- The device's own half of the gradient. -/
abbrev arg2 : FVec Ideal S1024x1600 .f32 := m ((c : Thread nD τ).loc main_arg2)
/-- The other half of the gradient. -/
abbrev arg3 : FVec Ideal S1024x1600 .f32 := m ((c : Thread nD τ).loc main_arg3)
/-- The first moments. -/
abbrev arg4 : FVec Ideal S1x2048x1600 .f32 := m ((c : Thread nD τ).loc main_arg4)
/-- The second moments. -/
abbrev arg5 : FVec Ideal S1x2048x1600 .f32 := m ((c : Thread nD τ).loc main_arg5)

/-- The gradient. -/
abbrev G : FVec Ideal S1x2048x1600 .f32 := grad sizes ![arg2 m c] ![arg3 m c] (core m c)

/-- The change of the weights. -/
abbrev W : FVec Ideal S1x2048x1600 .f32 := outW (G m c) (arg1 m c) (arg4 m c) (arg5 m c)
/-- The first moments after the step. -/
abbrev M : FVec Ideal S1x2048x1600 .f32 := outM (G m c) (arg4 m c)
/-- The second moments after the step. -/
abbrev V : FVec Ideal S1x2048x1600 .f32 := outV (G m c) (arg5 m c)

/-- The table that the points read is the core's number. -/
theorem table : (tbl m 0 : S1.Idx → BitVec 32) (ix1 0) = core m c := by
  obtain rfl : c = 0 := Subsingleton.elim _ _
  rfl

/-- What a point leaves of the gradient, the change and the two moments, from its blocks. -/
theorem outs (t : Fin grid0.N) : outsAt0 m hO c t
    = left shapeCasts_S1x128x1600_S128x1600 shapeCasts_S128x1600_S1x128x1600 (own 8#32 (grid0.coords t 1).val (core m c))
      (iblk m hO c 3 t) (iblk m hO c 4 t) (iblk m hO c 0 t) (iblk m hO c 1 t) (iblk m hO c 2 t) := by
  rw [← table m c]
  exact point ..

/-- The place in a large array of a place of a point's block. -/
abbrev place (t : Fin grid0.N) (p : Fin 128) (q : Fin 1600) : S1x2048x1600.Idx := spot 1600 sizes t.val (t.isLt.trans_eq N_0) p q

/-- A place of a large array as the launch computes it. -/
theorem at_spot (t : Fin grid0.N) (p : Fin 128) (q : Fin 1600) (y : S1x2048x1600.Idx)
    (h0 : (y 0).val = cc0_transform_0 (grid0.coords t) 0 * 1 + 1 * 0) (h1 : (y 1).val = cc0_transform_0 (grid0.coords t) 1 * 128 + 1 * p.val)
    (h2 : (y 2).val = cc0_transform_0 (grid0.coords t) 2 * 1600 + 1 * q.val) : y = place t p q :=
  spot_of sizes (t.isLt.trans_eq N_0) p q (lie t).2.1 y h0 h1 h2

/-- A place of a half as the launch computes it. -/
theorem at_half (t : Fin grid0.N) (p : Fin 128) (q : Fin 1600) (y : S1024x1600.Idx)
    (h0 : (y 0).val = cc0_transform_3 (grid0.coords t) 0 * 128 + 1 * p.val) (h1 : (y 1).val = cc0_transform_3 (grid0.coords t) 1 * 1600 + 1 * q.val) :
    y = halfSpot 1600 sizes t.val p q := halfSpot_of sizes p q (lie t).2.2 y h0 h1

/-- What a point leaves, number by number. -/
theorem after_point (t : Fin grid0.N) (p : Fin 128) (q : Fin 1600) :
    ((dats m hO 0 c).after 5 t : Vec Ideal S1x128x1600 .f32) (ix3 0 p q) = G m c (place t p q)
    ∧ ((dats m hO 0 c).after 6 t : Vec Ideal S1x128x1600 .f32) (ix3 0 p q) = W m c (place t p q)
    ∧ ((dats m hO 0 c).after 7 t : Vec Ideal S1x128x1600 .f32) (ix3 0 p q) = M m c (place t p q)
    ∧ ((dats m hO 0 c).after 8 t : Vec Ideal S1x128x1600 .f32) (ix3 0 p q) = V m c (place t p q) := by
  rw [after0_5, after0_6, after0_7, after0_8, outs]
  refine left_at _ _ _ _ _ _ _ _ p q _ _ _ _ ?_ ?_ ?_ ?_
  · have ht : t.val / (2 * 8) = (0 : Fin 1).val := Nat.div_eq_of_lt (t.isLt.trans_eq N_0)
    refine Eq.trans ?_ (grad_spot sizes _ _ _ (t.isLt.trans_eq N_0) p q 0 ht).symm
    unfold own pick iblk
    rw [(lie t).1]
    exact congrArg₂ _ ((View.read_apply _ _).trans (congrArg (arg2 m c) (at_half t p q _ rfl rfl)))
      ((View.read_apply _ _).trans (congrArg (arg3 m c) (at_half t p q _ rfl rfl)))
  · unfold iblk; exact (View.read_apply _ _).trans (congrArg (arg1 m c) (at_spot t p q _ rfl rfl rfl))
  · unfold iblk; exact (View.read_apply _ _).trans (congrArg (arg4 m c) (at_spot t p q _ rfl rfl rfl))
  · unfold iblk; exact (View.read_apply _ _).trans (congrArg (arg5 m c) (at_spot t p q _ rfl rfl rfl))

/-- The arrays after the launch. -/
theorem arrays : (dats m hO 0 c).arrAt 5 grid0.N = G m c
    ∧ (dats m hO 0 c).arrAt 6 grid0.N = W m c
    ∧ (dats m hO 0 c).arrAt 7 grid0.N = M m c
    ∧ (dats m hO 0 c).arrAt 8 grid0.N = V m c := by
  refine ⟨(dats m hO 0 c).arrAt_eq_of_cover 5 _ (fun t _ => block_of sizes _ (t.isLt.trans_eq N_0) _ _ (fun p q => (after_point m hO c t p q).1) fun p q =>
      (View.read_apply _ _).trans (congrArg (G m c) (at_spot t p q _ rfl rfl rfl))) fun y => (cover sizes N_0 _ ?_ y).imp fun t h => ⟨flush0_5 _ t, h⟩,
    (dats m hO 0 c).arrAt_eq_of_cover 6 _ (fun t _ => block_of sizes _ (t.isLt.trans_eq N_0) _ _ (fun p q => (after_point m hO c t p q).2.1) fun p q =>
      (View.read_apply _ _).trans (congrArg (W m c) (at_spot t p q _ rfl rfl rfl))) fun y => (cover sizes N_0 _ ?_ y).imp fun t h => ⟨flush0_6 _ t, h⟩,
    (dats m hO 0 c).arrAt_eq_of_cover 7 _ (fun t _ => block_of sizes _ (t.isLt.trans_eq N_0) _ _ (fun p q => (after_point m hO c t p q).2.2.1) fun p q =>
      (View.read_apply _ _).trans (congrArg (M m c) (at_spot t p q _ rfl rfl rfl))) fun y => (cover sizes N_0 _ ?_ y).imp fun t h => ⟨flush0_7 _ t, h⟩,
    (dats m hO 0 c).arrAt_eq_of_cover 8 _ (fun t _ => block_of sizes _ (t.isLt.trans_eq N_0) _ _ (fun p q => (after_point m hO c t p q).2.2.2) fun p q =>
      (View.read_apply _ _).trans (congrArg (V m c) (at_spot t p q _ rfl rfl rfl))) fun y => (cover sizes N_0 _ ?_ y).imp fun t h => ⟨flush0_8 _ t, h⟩⟩
  all_goals exact fun t p q => (congrArg (· ∈ _) (at_spot t p q _ rfl rfl rfl)).mp (View.emb_mem_set _ (ix3 0 p q))

end Arrays

/-- The reference runs, keeps its arguments, and holds no counter above zero at the end. -/
theorem frame_reference : Cert.quiescent_BabRefIdeal := fun m ρ _ =>
  (θ_run Cert.BabRefIdeal.defs _ _).mono (fun r h => ⟨fun c => (h c).2.2.2.2, sem_eq_zero_of_no_sems (by decide) r.2⟩)
    (Cert.BabRefIdeal.Value.run (F := Ideal) m ρ)

/-- The kernel's results are the reference's. -/
theorem algebraic : Cert.algebraic_BabIdeal_BabRefIdeal := by
  intro m ρ m' ρ' _ hagree
  refine ⟨fun c => G m c, fun c => W m c, fun c => M m c, fun c => V m c,
    (θ_run _ _ _).mono (fun r h c => ⟨((h.1 c).1 5).trans (arrays m trivial c).1, ((h.1 c).1 6).trans (arrays m trivial c).2.1,
      ((h.1 c).1 7).trans (arrays m trivial c).2.2.1, ((h.1 c).1 8).trans (arrays m trivial c).2.2.2, h.2 c⟩)
      (θ_run_and (run_main m ρ trivial) (unchanged m ρ trivial)),
    (θ_run _ _ _).mono (fun r h c => ?_) (Cert.BabRefIdeal.Value.run (F := Ideal) m' ρ')⟩
  obtain ⟨a0, a1, a2, a3, a4, a5⟩ := hagree c
  refine ⟨(h c).1.trans ?_, (h c).2.1.trans ?_, (h c).2.2.1.trans ?_, (h c).2.2.2.1.trans ?_, (h c).2.2.2.2⟩
  · rw [a0, a2, a3]; exact ref_one sizes _ _ _ _ _ _ _
  · show mulf _ _ = _; rw [a0, a1, a2, a3, a4, a5]; exact ref_change _ _ _ _ (ref_one sizes _ _ _ _ _ _ _)
  · rw [a0, a2, a3, a4]; exact ref_first _ _ (ref_one sizes _ _ _ _ _ _ _)
  · rw [a0, a2, a3, a5]; exact ref_second _ _ (ref_one sizes _ _ _ _ _ _ _)

end Cert.AbIn

end
-- ==== Proof.Babo.lean ====
/-
  The optimiser's step on the attention and RWKV mixer's last matrix: one layer of 512 rows of 2048, in blocks of 128 rows.
-/
module

public import proofs.«01_k».proof.Defs
public import proofs.«01_k».proof.Proof.Halves
public import proofs.«01_k».proof.Proof.Gen.BaboIdeal.Frame
public import proofs.«01_k».proof.Proof.Gen.BaboRefIdeal.Run
public import Idealize.ShloMosaic.Adequacy
public import Idealize.ShloMosaic.Init

@[expose] public section

set_option maxRecDepth 16384

noncomputable section

namespace Cert.AbOut

open Idealize.ShloMosaic Idealize.ShloMosaic.TcCoe Idealize.SL.Sem Halves
open Cert.BaboIdeal Cert.BaboIdeal.Gen

/-- 512 rows are two halves of 2 blocks of 128. -/
theorem sizes : Sizes 512 256 128 2 := ⟨by norm_num, by norm_num, by norm_num, by norm_num⟩

/-- The half that a point works on, and where its blocks lie. -/
theorem lie : ∀ t : Fin grid0.N, half 2#32 (grid0.coords t 1).val = BitVec.ofNat 32 (t.val % 4 / 2)
    ∧ (cc0_transform_0 (grid0.coords t) 0 = t.val / 4 ∧ cc0_transform_0 (grid0.coords t) 1 = t.val % 4 ∧ cc0_transform_0 (grid0.coords t) 2 = 0)
    ∧ cc0_transform_3 (grid0.coords t) 0 = t.val % 2 ∧ cc0_transform_3 (grid0.coords t) 1 = 0 := by decide +kernel

section Point
variable (c : Dev nD) (i : grid0.Coords)
variable (a0 a1 a2 : Memref sig .tc .vmem S1x128x2048 .f32) (a3 a4 : Memref sig .tc .vmem S128x2048 .f32) (a5 a6 a7 a8 : Memref sig .tc .vmem S1x128x2048 .f32)
variable (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole)
variable (x0 x1 x2 : Vec Ideal S1x128x2048 .f32) (x3 x4 : Vec Ideal S128x2048 .f32) (xt : TbBuf0 (F := Ideal) c tbM0_0)

set_option maxHeartbeats 2000000 in
/-- What a point leaves of the gradient, the change and the two moments. -/
theorem point (hc : cond0_0 i) :
    (out0_A_5 (F := Ideal) c i a0 h0 a1 h1 a2 h2 a3 h3 a4 h4 a5 h5 a6 h6 a7 h7 a8 h8 hc x0 x1 x2 x3 x4 xt,
      out0_A_6 (F := Ideal) c i a0 h0 a1 h1 a2 h2 a3 h3 a4 h4 a5 h5 a6 h6 a7 h7 a8 h8 hc x0 x1 x2 x3 x4 xt,
      out0_A_7 (F := Ideal) c i a0 h0 a1 h1 a2 h2 a3 h3 a4 h4 a5 h5 a6 h6 a7 h7 a8 h8 hc x0 x1 x2 x3 x4 xt,
      out0_A_8 (F := Ideal) c i a0 h0 a1 h1 a2 h2 a3 h3 a4 h4 a5 h5 a6 h6 a7 h7 a8 h8 hc x0 x1 x2 x3 x4 xt)
      = left shapeCasts_S1x128x2048_S128x2048 shapeCasts_S128x2048_S1x128x2048 (own 2#32 (i 1).val (xt (ix1 0))) x3 x4 x0 x1 x2 := by
  unfold out0_A_5 out0_A_6 out0_A_7 out0_A_8
  iterate 4 rw [View.read_writes_eq_canon (Val := Elt Ideal)]
  on_goal 2 => exact fun _ => cover0_A_8 ..
  on_goal 2 => exact fun _ => cover0_A_7 ..
  on_goal 2 => exact fun _ => cover0_A_6 ..
  on_goal 2 => exact fun _ => cover0_A_5 ..
  unfold kernelRun0_A
  dsimp only
  simp only [View.canon_unit_zero (S := S1x128x2048) hz3]
  unfold kernelRun0_A.sl.r_1 kernelRun0_A.sl.r_2 kernelRun0_A.sl.r_3 kernelRun0_A.sl.r_4
  simp only [View.readAt_eq_ld, h0.read_unread, h1.read_unread, h2.read_unread, h3.read_unread, h4.read_unread,
    View.ld_unit_zero (S := S1x128x2048) hz3, View.ld_unit_zero (S := S128x2048) Rows.hz2]
  rw [show kernelRun0_A.sl.r (F := Ideal) c xt = xt (ix1 0) from congrArg xt (only _)]
  rfl

end Point

section Arrays
variable (m : (ℓ : Loc nD τ sig) → Buf (Elt Ideal) ℓ) (hO : Ok m) (c : Dev nD)

/-- The core's number. -/
abbrev core : BitVec 32 := (m ((c : Thread nD τ).loc main_arg0) : S1.Idx → BitVec 32) (ix1 0)
/-- The weights. -/
abbrev arg1 : FVec Ideal S1x512x2048 .f32 := m ((c : Thread nD τ).loc main_arg1)
/-- The device's own half of the gradient. -/
abbrev arg2 : FVec Ideal S256x2048 .f32 := m ((c : Thread nD τ).loc main_arg2)
/-- The other half of the gradient. -/
abbrev arg3 : FVec Ideal S256x2048 .f32 := m ((c : Thread nD τ).loc main_arg3)
/-- The first moments. -/
abbrev arg4 : FVec Ideal S1x512x2048 .f32 := m ((c : Thread nD τ).loc main_arg4)
/-- The second moments. -/
abbrev arg5 : FVec Ideal S1x512x2048 .f32 := m ((c : Thread nD τ).loc main_arg5)

/-- The gradient. -/
abbrev G : FVec Ideal S1x512x2048 .f32 := grad sizes ![arg2 m c] ![arg3 m c] (core m c)

/-- The change of the weights. -/
abbrev W : FVec Ideal S1x512x2048 .f32 := outW (G m c) (arg1 m c) (arg4 m c) (arg5 m c)
/-- The first moments after the step. -/
abbrev M : FVec Ideal S1x512x2048 .f32 := outM (G m c) (arg4 m c)
/-- The second moments after the step. -/
abbrev V : FVec Ideal S1x512x2048 .f32 := outV (G m c) (arg5 m c)

/-- The table that the points read is the core's number. -/
theorem table : (tbl m 0 : S1.Idx → BitVec 32) (ix1 0) = core m c := by
  obtain rfl : c = 0 := Subsingleton.elim _ _
  rfl

/-- What a point leaves of the gradient, the change and the two moments, from its blocks. -/
theorem outs (t : Fin grid0.N) : outsAt0 m hO c t
    = left shapeCasts_S1x128x2048_S128x2048 shapeCasts_S128x2048_S1x128x2048 (own 2#32 (grid0.coords t 1).val (core m c))
      (iblk m hO c 3 t) (iblk m hO c 4 t) (iblk m hO c 0 t) (iblk m hO c 1 t) (iblk m hO c 2 t) := by
  rw [← table m c]
  exact point ..

/-- The place in a large array of a place of a point's block. -/
abbrev place (t : Fin grid0.N) (p : Fin 128) (q : Fin 2048) : S1x512x2048.Idx := spot 2048 sizes t.val (t.isLt.trans_eq N_0) p q

/-- A place of a large array as the launch computes it. -/
theorem at_spot (t : Fin grid0.N) (p : Fin 128) (q : Fin 2048) (y : S1x512x2048.Idx)
    (h0 : (y 0).val = cc0_transform_0 (grid0.coords t) 0 * 1 + 1 * 0) (h1 : (y 1).val = cc0_transform_0 (grid0.coords t) 1 * 128 + 1 * p.val)
    (h2 : (y 2).val = cc0_transform_0 (grid0.coords t) 2 * 2048 + 1 * q.val) : y = place t p q :=
  spot_of sizes (t.isLt.trans_eq N_0) p q (lie t).2.1 y h0 h1 h2

/-- A place of a half as the launch computes it. -/
theorem at_half (t : Fin grid0.N) (p : Fin 128) (q : Fin 2048) (y : S256x2048.Idx)
    (h0 : (y 0).val = cc0_transform_3 (grid0.coords t) 0 * 128 + 1 * p.val) (h1 : (y 1).val = cc0_transform_3 (grid0.coords t) 1 * 2048 + 1 * q.val) :
    y = halfSpot 2048 sizes t.val p q := halfSpot_of sizes p q (lie t).2.2 y h0 h1

/-- What a point leaves, number by number. -/
theorem after_point (t : Fin grid0.N) (p : Fin 128) (q : Fin 2048) :
    ((dats m hO 0 c).after 5 t : Vec Ideal S1x128x2048 .f32) (ix3 0 p q) = G m c (place t p q)
    ∧ ((dats m hO 0 c).after 6 t : Vec Ideal S1x128x2048 .f32) (ix3 0 p q) = W m c (place t p q)
    ∧ ((dats m hO 0 c).after 7 t : Vec Ideal S1x128x2048 .f32) (ix3 0 p q) = M m c (place t p q)
    ∧ ((dats m hO 0 c).after 8 t : Vec Ideal S1x128x2048 .f32) (ix3 0 p q) = V m c (place t p q) := by
  rw [after0_5, after0_6, after0_7, after0_8, outs]
  refine left_at _ _ _ _ _ _ _ _ p q _ _ _ _ ?_ ?_ ?_ ?_
  · have ht : t.val / (2 * 2) = (0 : Fin 1).val := Nat.div_eq_of_lt (t.isLt.trans_eq N_0)
    refine Eq.trans ?_ (grad_spot sizes _ _ _ (t.isLt.trans_eq N_0) p q 0 ht).symm
    unfold own pick iblk
    rw [(lie t).1]
    exact congrArg₂ _ ((View.read_apply _ _).trans (congrArg (arg2 m c) (at_half t p q _ rfl rfl)))
      ((View.read_apply _ _).trans (congrArg (arg3 m c) (at_half t p q _ rfl rfl)))
  · unfold iblk; exact (View.read_apply _ _).trans (congrArg (arg1 m c) (at_spot t p q _ rfl rfl rfl))
  · unfold iblk; exact (View.read_apply _ _).trans (congrArg (arg4 m c) (at_spot t p q _ rfl rfl rfl))
  · unfold iblk; exact (View.read_apply _ _).trans (congrArg (arg5 m c) (at_spot t p q _ rfl rfl rfl))

/-- The arrays after the launch. -/
theorem arrays : (dats m hO 0 c).arrAt 5 grid0.N = G m c
    ∧ (dats m hO 0 c).arrAt 6 grid0.N = W m c
    ∧ (dats m hO 0 c).arrAt 7 grid0.N = M m c
    ∧ (dats m hO 0 c).arrAt 8 grid0.N = V m c := by
  refine ⟨(dats m hO 0 c).arrAt_eq_of_cover 5 _ (fun t _ => block_of sizes _ (t.isLt.trans_eq N_0) _ _ (fun p q => (after_point m hO c t p q).1) fun p q =>
      (View.read_apply _ _).trans (congrArg (G m c) (at_spot t p q _ rfl rfl rfl))) fun y => (cover sizes N_0 _ ?_ y).imp fun t h => ⟨flush0_5 _ t, h⟩,
    (dats m hO 0 c).arrAt_eq_of_cover 6 _ (fun t _ => block_of sizes _ (t.isLt.trans_eq N_0) _ _ (fun p q => (after_point m hO c t p q).2.1) fun p q =>
      (View.read_apply _ _).trans (congrArg (W m c) (at_spot t p q _ rfl rfl rfl))) fun y => (cover sizes N_0 _ ?_ y).imp fun t h => ⟨flush0_6 _ t, h⟩,
    (dats m hO 0 c).arrAt_eq_of_cover 7 _ (fun t _ => block_of sizes _ (t.isLt.trans_eq N_0) _ _ (fun p q => (after_point m hO c t p q).2.2.1) fun p q =>
      (View.read_apply _ _).trans (congrArg (M m c) (at_spot t p q _ rfl rfl rfl))) fun y => (cover sizes N_0 _ ?_ y).imp fun t h => ⟨flush0_7 _ t, h⟩,
    (dats m hO 0 c).arrAt_eq_of_cover 8 _ (fun t _ => block_of sizes _ (t.isLt.trans_eq N_0) _ _ (fun p q => (after_point m hO c t p q).2.2.2) fun p q =>
      (View.read_apply _ _).trans (congrArg (V m c) (at_spot t p q _ rfl rfl rfl))) fun y => (cover sizes N_0 _ ?_ y).imp fun t h => ⟨flush0_8 _ t, h⟩⟩
  all_goals exact fun t p q => (congrArg (· ∈ _) (at_spot t p q _ rfl rfl rfl)).mp (View.emb_mem_set _ (ix3 0 p q))

end Arrays

/-- The reference runs, keeps its arguments, and holds no counter above zero at the end. -/
theorem frame_reference : Cert.quiescent_BaboRefIdeal := fun m ρ _ =>
  (θ_run Cert.BaboRefIdeal.defs _ _).mono (fun r h => ⟨fun c => (h c).2.2.2.2, sem_eq_zero_of_no_sems (by decide) r.2⟩)
    (Cert.BaboRefIdeal.Value.run (F := Ideal) m ρ)

/-- The kernel's results are the reference's. -/
theorem algebraic : Cert.algebraic_BaboIdeal_BaboRefIdeal := by
  intro m ρ m' ρ' _ hagree
  refine ⟨fun c => G m c, fun c => W m c, fun c => M m c, fun c => V m c,
    (θ_run _ _ _).mono (fun r h c => ⟨((h.1 c).1 5).trans (arrays m trivial c).1, ((h.1 c).1 6).trans (arrays m trivial c).2.1,
      ((h.1 c).1 7).trans (arrays m trivial c).2.2.1, ((h.1 c).1 8).trans (arrays m trivial c).2.2.2, h.2 c⟩)
      (θ_run_and (run_main m ρ trivial) (unchanged m ρ trivial)),
    (θ_run _ _ _).mono (fun r h c => ?_) (Cert.BaboRefIdeal.Value.run (F := Ideal) m' ρ')⟩
  obtain ⟨a0, a1, a2, a3, a4, a5⟩ := hagree c
  refine ⟨(h c).1.trans ?_, (h c).2.1.trans ?_, (h c).2.2.1.trans ?_, (h c).2.2.2.1.trans ?_, (h c).2.2.2.2⟩
  · rw [a0, a2, a3]; exact ref_one sizes _ _ _ _ _ _ _
  · show mulf _ _ = _; rw [a0, a1, a2, a3, a4, a5]; exact ref_change _ _ _ _ (ref_one sizes _ _ _ _ _ _ _)
  · rw [a0, a2, a3, a4]; exact ref_first _ _ (ref_one sizes _ _ _ _ _ _ _)
  · rw [a0, a2, a3, a5]; exact ref_second _ _ (ref_one sizes _ _ _ _ _ _ _)

end Cert.AbOut

end
-- ==== Proof.Bssi.lean ====
/-
  The optimiser's step on the S5 mixer's first matrix: one layer of 512 rows of 1024, in blocks of 256 rows.
-/
module

public import proofs.«01_k».proof.Defs
public import proofs.«01_k».proof.Proof.Halves
public import proofs.«01_k».proof.Proof.Gen.BssiIdeal.Frame
public import proofs.«01_k».proof.Proof.Gen.BssiRefIdeal.Run
public import Idealize.ShloMosaic.Adequacy
public import Idealize.ShloMosaic.Init

@[expose] public section

set_option maxRecDepth 16384

noncomputable section

namespace Cert.SsmIn

open Idealize.ShloMosaic Idealize.ShloMosaic.TcCoe Idealize.SL.Sem Halves
open Cert.BssiIdeal Cert.BssiIdeal.Gen

/-- 512 rows are two halves of one block of 256. -/
theorem sizes : Sizes 512 256 256 1 := ⟨by norm_num, by norm_num, by norm_num, by norm_num⟩

/-- The half that a point works on, and where its blocks lie. -/
theorem lie : ∀ t : Fin grid0.N, half 1#32 (grid0.coords t 1).val = BitVec.ofNat 32 (t.val % 2 / 1)
    ∧ (cc0_transform_0 (grid0.coords t) 0 = t.val / 2 ∧ cc0_transform_0 (grid0.coords t) 1 = t.val % 2 ∧ cc0_transform_0 (grid0.coords t) 2 = 0)
    ∧ cc0_transform_3 (grid0.coords t) 0 = t.val % 1 ∧ cc0_transform_3 (grid0.coords t) 1 = 0 := by decide +kernel

section Point
variable (c : Dev nD) (i : grid0.Coords)
variable (a0 a1 a2 : Memref sig .tc .vmem S1x256x1024 .f32) (a3 a4 : Memref sig .tc .vmem S256x1024 .f32) (a5 a6 a7 a8 : Memref sig .tc .vmem S1x256x1024 .f32)
variable (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole)
variable (x0 x1 x2 : Vec Ideal S1x256x1024 .f32) (x3 x4 : Vec Ideal S256x1024 .f32) (xt : TbBuf0 (F := Ideal) c tbM0_0)

set_option maxHeartbeats 2000000 in
/-- What a point leaves of the gradient, the change and the two moments. -/
theorem point (hc : cond0_0 i) :
    (out0_A_5 (F := Ideal) c i a0 h0 a1 h1 a2 h2 a3 h3 a4 h4 a5 h5 a6 h6 a7 h7 a8 h8 hc x0 x1 x2 x3 x4 xt,
      out0_A_6 (F := Ideal) c i a0 h0 a1 h1 a2 h2 a3 h3 a4 h4 a5 h5 a6 h6 a7 h7 a8 h8 hc x0 x1 x2 x3 x4 xt,
      out0_A_7 (F := Ideal) c i a0 h0 a1 h1 a2 h2 a3 h3 a4 h4 a5 h5 a6 h6 a7 h7 a8 h8 hc x0 x1 x2 x3 x4 xt,
      out0_A_8 (F := Ideal) c i a0 h0 a1 h1 a2 h2 a3 h3 a4 h4 a5 h5 a6 h6 a7 h7 a8 h8 hc x0 x1 x2 x3 x4 xt)
      = left shapeCasts_S1x256x1024_S256x1024 shapeCasts_S256x1024_S1x256x1024 (own 1#32 (i 1).val (xt (ix1 0))) x3 x4 x0 x1 x2 := by
  unfold out0_A_5 out0_A_6 out0_A_7 out0_A_8
  iterate 4 rw [View.read_writes_eq_canon (Val := Elt Ideal)]
  on_goal 2 => exact fun _ => cover0_A_8 ..
  on_goal 2 => exact fun _ => cover0_A_7 ..
  on_goal 2 => exact fun _ => cover0_A_6 ..
  on_goal 2 => exact fun _ => cover0_A_5 ..
  unfold kernelRun0_A
  dsimp only
  simp only [View.canon_unit_zero (S := S1x256x1024) hz3]
  unfold kernelRun0_A.sl.r_1 kernelRun0_A.sl.r_2 kernelRun0_A.sl.r_3 kernelRun0_A.sl.r_4
  simp only [View.readAt_eq_ld, h0.read_unread, h1.read_unread, h2.read_unread, h3.read_unread, h4.read_unread,
    View.ld_unit_zero (S := S1x256x1024) hz3, View.ld_unit_zero (S := S256x1024) Rows.hz2]
  rw [show kernelRun0_A.sl.r (F := Ideal) c xt = xt (ix1 0) from congrArg xt (only _)]
  rfl

end Point

section Arrays
variable (m : (ℓ : Loc nD τ sig) → Buf (Elt Ideal) ℓ) (hO : Ok m) (c : Dev nD)

/-- The core's number. -/
abbrev core : BitVec 32 := (m ((c : Thread nD τ).loc main_arg0) : S1.Idx → BitVec 32) (ix1 0)
/-- The weights. -/
abbrev arg1 : FVec Ideal S1x512x1024 .f32 := m ((c : Thread nD τ).loc main_arg1)
/-- The device's own half of the gradient. -/
abbrev arg2 : FVec Ideal S256x1024 .f32 := m ((c : Thread nD τ).loc main_arg2)
/-- The other half of the gradient. -/
abbrev arg3 : FVec Ideal S256x1024 .f32 := m ((c : Thread nD τ).loc main_arg3)
/-- The first moments. -/
abbrev arg4 : FVec Ideal S1x512x1024 .f32 := m ((c : Thread nD τ).loc main_arg4)
/-- The second moments. -/
abbrev arg5 : FVec Ideal S1x512x1024 .f32 := m ((c : Thread nD τ).loc main_arg5)

/-- The gradient. -/
abbrev G : FVec Ideal S1x512x1024 .f32 := grad sizes ![arg2 m c] ![arg3 m c] (core m c)

/-- The change of the weights. -/
abbrev W : FVec Ideal S1x512x1024 .f32 := outW (G m c) (arg1 m c) (arg4 m c) (arg5 m c)
/-- The first moments after the step. -/
abbrev M : FVec Ideal S1x512x1024 .f32 := outM (G m c) (arg4 m c)
/-- The second moments after the step. -/
abbrev V : FVec Ideal S1x512x1024 .f32 := outV (G m c) (arg5 m c)

/-- The table that the points read is the core's number. -/
theorem table : (tbl m 0 : S1.Idx → BitVec 32) (ix1 0) = core m c := by
  obtain rfl : c = 0 := Subsingleton.elim _ _
  rfl

/-- What a point leaves of the gradient, the change and the two moments, from its blocks. -/
theorem outs (t : Fin grid0.N) : outsAt0 m hO c t
    = left shapeCasts_S1x256x1024_S256x1024 shapeCasts_S256x1024_S1x256x1024 (own 1#32 (grid0.coords t 1).val (core m c))
      (iblk m hO c 3 t) (iblk m hO c 4 t) (iblk m hO c 0 t) (iblk m hO c 1 t) (iblk m hO c 2 t) := by
  rw [← table m c]
  exact point ..

/-- The place in a large array of a place of a point's block. -/
abbrev place (t : Fin grid0.N) (p : Fin 256) (q : Fin 1024) : S1x512x1024.Idx := spot 1024 sizes t.val (t.isLt.trans_eq N_0) p q

/-- A place of a large array as the launch computes it. -/
theorem at_spot (t : Fin grid0.N) (p : Fin 256) (q : Fin 1024) (y : S1x512x1024.Idx)
    (h0 : (y 0).val = cc0_transform_0 (grid0.coords t) 0 * 1 + 1 * 0) (h1 : (y 1).val = cc0_transform_0 (grid0.coords t) 1 * 256 + 1 * p.val)
    (h2 : (y 2).val = cc0_transform_0 (grid0.coords t) 2 * 1024 + 1 * q.val) : y = place t p q :=
  spot_of sizes (t.isLt.trans_eq N_0) p q (lie t).2.1 y h0 h1 h2

/-- A place of a half as the launch computes it. -/
theorem at_half (t : Fin grid0.N) (p : Fin 256) (q : Fin 1024) (y : S256x1024.Idx)
    (h0 : (y 0).val = cc0_transform_3 (grid0.coords t) 0 * 256 + 1 * p.val) (h1 : (y 1).val = cc0_transform_3 (grid0.coords t) 1 * 1024 + 1 * q.val) :
    y = halfSpot 1024 sizes t.val p q := halfSpot_of sizes p q (lie t).2.2 y h0 h1

/-- What a point leaves, number by number. -/
theorem after_point (t : Fin grid0.N) (p : Fin 256) (q : Fin 1024) :
    ((dats m hO 0 c).after 5 t : Vec Ideal S1x256x1024 .f32) (ix3 0 p q) = G m c (place t p q)
    ∧ ((dats m hO 0 c).after 6 t : Vec Ideal S1x256x1024 .f32) (ix3 0 p q) = W m c (place t p q)
    ∧ ((dats m hO 0 c).after 7 t : Vec Ideal S1x256x1024 .f32) (ix3 0 p q) = M m c (place t p q)
    ∧ ((dats m hO 0 c).after 8 t : Vec Ideal S1x256x1024 .f32) (ix3 0 p q) = V m c (place t p q) := by
  rw [after0_5, after0_6, after0_7, after0_8, outs]
  refine left_at _ _ _ _ _ _ _ _ p q _ _ _ _ ?_ ?_ ?_ ?_
  · have ht : t.val / (2 * 1) = (0 : Fin 1).val := Nat.div_eq_of_lt (t.isLt.trans_eq N_0)
    refine Eq.trans ?_ (grad_spot sizes _ _ _ (t.isLt.trans_eq N_0) p q 0 ht).symm
    unfold own pick iblk
    rw [(lie t).1]
    exact congrArg₂ _ ((View.read_apply _ _).trans (congrArg (arg2 m c) (at_half t p q _ rfl rfl)))
      ((View.read_apply _ _).trans (congrArg (arg3 m c) (at_half t p q _ rfl rfl)))
  · unfold iblk; exact (View.read_apply _ _).trans (congrArg (arg1 m c) (at_spot t p q _ rfl rfl rfl))
  · unfold iblk; exact (View.read_apply _ _).trans (congrArg (arg4 m c) (at_spot t p q _ rfl rfl rfl))
  · unfold iblk; exact (View.read_apply _ _).trans (congrArg (arg5 m c) (at_spot t p q _ rfl rfl rfl))

/-- The arrays after the launch. -/
theorem arrays : (dats m hO 0 c).arrAt 5 grid0.N = G m c
    ∧ (dats m hO 0 c).arrAt 6 grid0.N = W m c
    ∧ (dats m hO 0 c).arrAt 7 grid0.N = M m c
    ∧ (dats m hO 0 c).arrAt 8 grid0.N = V m c := by
  refine ⟨(dats m hO 0 c).arrAt_eq_of_cover 5 _ (fun t _ => block_of sizes _ (t.isLt.trans_eq N_0) _ _ (fun p q => (after_point m hO c t p q).1) fun p q =>
      (View.read_apply _ _).trans (congrArg (G m c) (at_spot t p q _ rfl rfl rfl))) fun y => (cover sizes N_0 _ ?_ y).imp fun t h => ⟨flush0_5 _ t, h⟩,
    (dats m hO 0 c).arrAt_eq_of_cover 6 _ (fun t _ => block_of sizes _ (t.isLt.trans_eq N_0) _ _ (fun p q => (after_point m hO c t p q).2.1) fun p q =>
      (View.read_apply _ _).trans (congrArg (W m c) (at_spot t p q _ rfl rfl rfl))) fun y => (cover sizes N_0 _ ?_ y).imp fun t h => ⟨flush0_6 _ t, h⟩,
    (dats m hO 0 c).arrAt_eq_of_cover 7 _ (fun t _ => block_of sizes _ (t.isLt.trans_eq N_0) _ _ (fun p q => (after_point m hO c t p q).2.2.1) fun p q =>
      (View.read_apply _ _).trans (congrArg (M m c) (at_spot t p q _ rfl rfl rfl))) fun y => (cover sizes N_0 _ ?_ y).imp fun t h => ⟨flush0_7 _ t, h⟩,
    (dats m hO 0 c).arrAt_eq_of_cover 8 _ (fun t _ => block_of sizes _ (t.isLt.trans_eq N_0) _ _ (fun p q => (after_point m hO c t p q).2.2.2) fun p q =>
      (View.read_apply _ _).trans (congrArg (V m c) (at_spot t p q _ rfl rfl rfl))) fun y => (cover sizes N_0 _ ?_ y).imp fun t h => ⟨flush0_8 _ t, h⟩⟩
  all_goals exact fun t p q => (congrArg (· ∈ _) (at_spot t p q _ rfl rfl rfl)).mp (View.emb_mem_set _ (ix3 0 p q))

end Arrays

/-- The reference runs, keeps its arguments, and holds no counter above zero at the end. -/
theorem frame_reference : Cert.quiescent_BssiRefIdeal := fun m ρ _ =>
  (θ_run Cert.BssiRefIdeal.defs _ _).mono (fun r h => ⟨fun c => (h c).2.2.2.2, sem_eq_zero_of_no_sems (by decide) r.2⟩)
    (Cert.BssiRefIdeal.Value.run (F := Ideal) m ρ)

/-- The kernel's results are the reference's. -/
theorem algebraic : Cert.algebraic_BssiIdeal_BssiRefIdeal := by
  intro m ρ m' ρ' _ hagree
  refine ⟨fun c => G m c, fun c => W m c, fun c => M m c, fun c => V m c,
    (θ_run _ _ _).mono (fun r h c => ⟨((h.1 c).1 5).trans (arrays m trivial c).1, ((h.1 c).1 6).trans (arrays m trivial c).2.1,
      ((h.1 c).1 7).trans (arrays m trivial c).2.2.1, ((h.1 c).1 8).trans (arrays m trivial c).2.2.2, h.2 c⟩)
      (θ_run_and (run_main m ρ trivial) (unchanged m ρ trivial)),
    (θ_run _ _ _).mono (fun r h c => ?_) (Cert.BssiRefIdeal.Value.run (F := Ideal) m' ρ')⟩
  obtain ⟨a0, a1, a2, a3, a4, a5⟩ := hagree c
  refine ⟨(h c).1.trans ?_, (h c).2.1.trans ?_, (h c).2.2.1.trans ?_, (h c).2.2.2.1.trans ?_, (h c).2.2.2.2⟩
  · rw [a0, a2, a3]; exact ref_one sizes _ _ _ _ _ _ _
  · show mulf _ _ = _; rw [a0, a1, a2, a3, a4, a5]; exact ref_change _ _ _ _ (ref_one sizes _ _ _ _ _ _ _)
  · rw [a0, a2, a3, a4]; exact ref_first _ _ (ref_one sizes _ _ _ _ _ _ _)
  · rw [a0, a2, a3, a5]; exact ref_second _ _ (ref_one sizes _ _ _ _ _ _ _)

end Cert.SsmIn

end
-- ==== Proof.Bsso.lean ====
/-
  The optimiser's step on the S5 mixer's last matrix: one layer of 1024 rows of 512, in blocks of 256 rows.
-/
module

public import proofs.«01_k».proof.Defs
public import proofs.«01_k».proof.Proof.Halves
public import proofs.«01_k».proof.Proof.Gen.BssoIdeal.Frame
public import proofs.«01_k».proof.Proof.Gen.BssoRefIdeal.Run
public import Idealize.ShloMosaic.Adequacy
public import Idealize.ShloMosaic.Init

@[expose] public section

set_option maxRecDepth 16384

noncomputable section

namespace Cert.SsmOut

open Idealize.ShloMosaic Idealize.ShloMosaic.TcCoe Idealize.SL.Sem Halves
open Cert.BssoIdeal Cert.BssoIdeal.Gen

/-- 1024 rows are two halves of 2 blocks of 256. -/
theorem sizes : Sizes 1024 512 256 2 := ⟨by norm_num, by norm_num, by norm_num, by norm_num⟩

/-- The half that a point works on, and where its blocks lie. -/
theorem lie : ∀ t : Fin grid0.N, half 2#32 (grid0.coords t 1).val = BitVec.ofNat 32 (t.val % 4 / 2)
    ∧ (cc0_transform_0 (grid0.coords t) 0 = t.val / 4 ∧ cc0_transform_0 (grid0.coords t) 1 = t.val % 4 ∧ cc0_transform_0 (grid0.coords t) 2 = 0)
    ∧ cc0_transform_3 (grid0.coords t) 0 = t.val % 2 ∧ cc0_transform_3 (grid0.coords t) 1 = 0 := by decide +kernel

section Point
variable (c : Dev nD) (i : grid0.Coords)
variable (a0 a1 a2 : Memref sig .tc .vmem S1x256x512 .f32) (a3 a4 : Memref sig .tc .vmem S256x512 .f32) (a5 a6 a7 a8 : Memref sig .tc .vmem S1x256x512 .f32)
variable (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole)
variable (x0 x1 x2 : Vec Ideal S1x256x512 .f32) (x3 x4 : Vec Ideal S256x512 .f32) (xt : TbBuf0 (F := Ideal) c tbM0_0)

set_option maxHeartbeats 2000000 in
/-- What a point leaves of the gradient, the change and the two moments. -/
theorem point (hc : cond0_0 i) :
    (out0_A_5 (F := Ideal) c i a0 h0 a1 h1 a2 h2 a3 h3 a4 h4 a5 h5 a6 h6 a7 h7 a8 h8 hc x0 x1 x2 x3 x4 xt,
      out0_A_6 (F := Ideal) c i a0 h0 a1 h1 a2 h2 a3 h3 a4 h4 a5 h5 a6 h6 a7 h7 a8 h8 hc x0 x1 x2 x3 x4 xt,
      out0_A_7 (F := Ideal) c i a0 h0 a1 h1 a2 h2 a3 h3 a4 h4 a5 h5 a6 h6 a7 h7 a8 h8 hc x0 x1 x2 x3 x4 xt,
      out0_A_8 (F := Ideal) c i a0 h0 a1 h1 a2 h2 a3 h3 a4 h4 a5 h5 a6 h6 a7 h7 a8 h8 hc x0 x1 x2 x3 x4 xt)
      = left shapeCasts_S1x256x512_S256x512 shapeCasts_S256x512_S1x256x512 (own 2#32 (i 1).val (xt (ix1 0))) x3 x4 x0 x1 x2 := by
  unfold out0_A_5 out0_A_6 out0_A_7 out0_A_8
  iterate 4 rw [View.read_writes_eq_canon (Val := Elt Ideal)]
  on_goal 2 => exact fun _ => cover0_A_8 ..
  on_goal 2 => exact fun _ => cover0_A_7 ..
  on_goal 2 => exact fun _ => cover0_A_6 ..
  on_goal 2 => exact fun _ => cover0_A_5 ..
  unfold kernelRun0_A
  dsimp only
  simp only [View.canon_unit_zero (S := S1x256x512) hz3]
  unfold kernelRun0_A.sl.r_1 kernelRun0_A.sl.r_2 kernelRun0_A.sl.r_3 kernelRun0_A.sl.r_4
  simp only [View.readAt_eq_ld, h0.read_unread, h1.read_unread, h2.read_unread, h3.read_unread, h4.read_unread,
    View.ld_unit_zero (S := S1x256x512) hz3, View.ld_unit_zero (S := S256x512) Rows.hz2]
  rw [show kernelRun0_A.sl.r (F := Ideal) c xt = xt (ix1 0) from congrArg xt (only _)]
  rfl

end Point

section Arrays
variable (m : (ℓ : Loc nD τ sig) → Buf (Elt Ideal) ℓ) (hO : Ok m) (c : Dev nD)

/-- The core's number. -/
abbrev core : BitVec 32 := (m ((c : Thread nD τ).loc main_arg0) : S1.Idx → BitVec 32) (ix1 0)
/-- The weights. -/
abbrev arg1 : FVec Ideal S1x1024x512 .f32 := m ((c : Thread nD τ).loc main_arg1)
/-- The device's own half of the gradient. -/
abbrev arg2 : FVec Ideal S512x512 .f32 := m ((c : Thread nD τ).loc main_arg2)
/-- The other half of the gradient. -/
abbrev arg3 : FVec Ideal S512x512 .f32 := m ((c : Thread nD τ).loc main_arg3)
/-- The first moments. -/
abbrev arg4 : FVec Ideal S1x1024x512 .f32 := m ((c : Thread nD τ).loc main_arg4)
/-- The second moments. -/
abbrev arg5 : FVec Ideal S1x1024x512 .f32 := m ((c : Thread nD τ).loc main_arg5)

/-- The gradient. -/
abbrev G : FVec Ideal S1x1024x512 .f32 := grad sizes ![arg2 m c] ![arg3 m c] (core m c)

/-- The change of the weights. -/
abbrev W : FVec Ideal S1x1024x512 .f32 := outW (G m c) (arg1 m c) (arg4 m c) (arg5 m c)
/-- The first moments after the step. -/
abbrev M : FVec Ideal S1x1024x512 .f32 := outM (G m c) (arg4 m c)
/-- The second moments after the step. -/
abbrev V : FVec Ideal S1x1024x512 .f32 := outV (G m c) (arg5 m c)

/-- The table that the points read is the core's number. -/
theorem table : (tbl m 0 : S1.Idx → BitVec 32) (ix1 0) = core m c := by
  obtain rfl : c = 0 := Subsingleton.elim _ _
  rfl

/-- What a point leaves of the gradient, the change and the two moments, from its blocks. -/
theorem outs (t : Fin grid0.N) : outsAt0 m hO c t
    = left shapeCasts_S1x256x512_S256x512 shapeCasts_S256x512_S1x256x512 (own 2#32 (grid0.coords t 1).val (core m c))
      (iblk m hO c 3 t) (iblk m hO c 4 t) (iblk m hO c 0 t) (iblk m hO c 1 t) (iblk m hO c 2 t) := by
  rw [← table m c]
  exact point ..

/-- The place in a large array of a place of a point's block. -/
abbrev place (t : Fin grid0.N) (p : Fin 256) (q : Fin 512) : S1x1024x512.Idx := spot 512 sizes t.val (t.isLt.trans_eq N_0) p q

/-- A place of a large array as the launch computes it. -/
theorem at_spot (t : Fin grid0.N) (p : Fin 256) (q : Fin 512) (y : S1x1024x512.Idx)
    (h0 : (y 0).val = cc0_transform_0 (grid0.coords t) 0 * 1 + 1 * 0) (h1 : (y 1).val = cc0_transform_0 (grid0.coords t) 1 * 256 + 1 * p.val)
    (h2 : (y 2).val = cc0_transform_0 (grid0.coords t) 2 * 512 + 1 * q.val) : y = place t p q :=
  spot_of sizes (t.isLt.trans_eq N_0) p q (lie t).2.1 y h0 h1 h2

/-- A place of a half as the launch computes it. -/
theorem at_half (t : Fin grid0.N) (p : Fin 256) (q : Fin 512) (y : S512x512.Idx)
    (h0 : (y 0).val = cc0_transform_3 (grid0.coords t) 0 * 256 + 1 * p.val) (h1 : (y 1).val = cc0_transform_3 (grid0.coords t) 1 * 512 + 1 * q.val) :
    y = halfSpot 512 sizes t.val p q := halfSpot_of sizes p q (lie t).2.2 y h0 h1

/-- What a point leaves, number by number. -/
theorem after_point (t : Fin grid0.N) (p : Fin 256) (q : Fin 512) :
    ((dats m hO 0 c).after 5 t : Vec Ideal S1x256x512 .f32) (ix3 0 p q) = G m c (place t p q)
    ∧ ((dats m hO 0 c).after 6 t : Vec Ideal S1x256x512 .f32) (ix3 0 p q) = W m c (place t p q)
    ∧ ((dats m hO 0 c).after 7 t : Vec Ideal S1x256x512 .f32) (ix3 0 p q) = M m c (place t p q)
    ∧ ((dats m hO 0 c).after 8 t : Vec Ideal S1x256x512 .f32) (ix3 0 p q) = V m c (place t p q) := by
  rw [after0_5, after0_6, after0_7, after0_8, outs]
  refine left_at _ _ _ _ _ _ _ _ p q _ _ _ _ ?_ ?_ ?_ ?_
  · have ht : t.val / (2 * 2) = (0 : Fin 1).val := Nat.div_eq_of_lt (t.isLt.trans_eq N_0)
    refine Eq.trans ?_ (grad_spot sizes _ _ _ (t.isLt.trans_eq N_0) p q 0 ht).symm
    unfold own pick iblk
    rw [(lie t).1]
    exact congrArg₂ _ ((View.read_apply _ _).trans (congrArg (arg2 m c) (at_half t p q _ rfl rfl)))
      ((View.read_apply _ _).trans (congrArg (arg3 m c) (at_half t p q _ rfl rfl)))
  · unfold iblk; exact (View.read_apply _ _).trans (congrArg (arg1 m c) (at_spot t p q _ rfl rfl rfl))
  · unfold iblk; exact (View.read_apply _ _).trans (congrArg (arg4 m c) (at_spot t p q _ rfl rfl rfl))
  · unfold iblk; exact (View.read_apply _ _).trans (congrArg (arg5 m c) (at_spot t p q _ rfl rfl rfl))

/-- The arrays after the launch. -/
theorem arrays : (dats m hO 0 c).arrAt 5 grid0.N = G m c
    ∧ (dats m hO 0 c).arrAt 6 grid0.N = W m c
    ∧ (dats m hO 0 c).arrAt 7 grid0.N = M m c
    ∧ (dats m hO 0 c).arrAt 8 grid0.N = V m c := by
  refine ⟨(dats m hO 0 c).arrAt_eq_of_cover 5 _ (fun t _ => block_of sizes _ (t.isLt.trans_eq N_0) _ _ (fun p q => (after_point m hO c t p q).1) fun p q =>
      (View.read_apply _ _).trans (congrArg (G m c) (at_spot t p q _ rfl rfl rfl))) fun y => (cover sizes N_0 _ ?_ y).imp fun t h => ⟨flush0_5 _ t, h⟩,
    (dats m hO 0 c).arrAt_eq_of_cover 6 _ (fun t _ => block_of sizes _ (t.isLt.trans_eq N_0) _ _ (fun p q => (after_point m hO c t p q).2.1) fun p q =>
      (View.read_apply _ _).trans (congrArg (W m c) (at_spot t p q _ rfl rfl rfl))) fun y => (cover sizes N_0 _ ?_ y).imp fun t h => ⟨flush0_6 _ t, h⟩,
    (dats m hO 0 c).arrAt_eq_of_cover 7 _ (fun t _ => block_of sizes _ (t.isLt.trans_eq N_0) _ _ (fun p q => (after_point m hO c t p q).2.2.1) fun p q =>
      (View.read_apply _ _).trans (congrArg (M m c) (at_spot t p q _ rfl rfl rfl))) fun y => (cover sizes N_0 _ ?_ y).imp fun t h => ⟨flush0_7 _ t, h⟩,
    (dats m hO 0 c).arrAt_eq_of_cover 8 _ (fun t _ => block_of sizes _ (t.isLt.trans_eq N_0) _ _ (fun p q => (after_point m hO c t p q).2.2.2) fun p q =>
      (View.read_apply _ _).trans (congrArg (V m c) (at_spot t p q _ rfl rfl rfl))) fun y => (cover sizes N_0 _ ?_ y).imp fun t h => ⟨flush0_8 _ t, h⟩⟩
  all_goals exact fun t p q => (congrArg (· ∈ _) (at_spot t p q _ rfl rfl rfl)).mp (View.emb_mem_set _ (ix3 0 p q))

end Arrays

/-- The reference runs, keeps its arguments, and holds no counter above zero at the end. -/
theorem frame_reference : Cert.quiescent_BssoRefIdeal := fun m ρ _ =>
  (θ_run Cert.BssoRefIdeal.defs _ _).mono (fun r h => ⟨fun c => (h c).2.2.2.2, sem_eq_zero_of_no_sems (by decide) r.2⟩)
    (Cert.BssoRefIdeal.Value.run (F := Ideal) m ρ)

/-- The kernel's results are the reference's. -/
theorem algebraic : Cert.algebraic_BssoIdeal_BssoRefIdeal := by
  intro m ρ m' ρ' _ hagree
  refine ⟨fun c => G m c, fun c => W m c, fun c => M m c, fun c => V m c,
    (θ_run _ _ _).mono (fun r h c => ⟨((h.1 c).1 5).trans (arrays m trivial c).1, ((h.1 c).1 6).trans (arrays m trivial c).2.1,
      ((h.1 c).1 7).trans (arrays m trivial c).2.2.1, ((h.1 c).1 8).trans (arrays m trivial c).2.2.2, h.2 c⟩)
      (θ_run_and (run_main m ρ trivial) (unchanged m ρ trivial)),
    (θ_run _ _ _).mono (fun r h c => ?_) (Cert.BssoRefIdeal.Value.run (F := Ideal) m' ρ')⟩
  obtain ⟨a0, a1, a2, a3, a4, a5⟩ := hagree c
  refine ⟨(h c).1.trans ?_, (h c).2.1.trans ?_, (h c).2.2.1.trans ?_, (h c).2.2.2.1.trans ?_, (h c).2.2.2.2⟩
  · rw [a0, a2, a3]; exact ref_one sizes _ _ _ _ _ _ _
  · show mulf _ _ = _; rw [a0, a1, a2, a3, a4, a5]; exact ref_change _ _ _ _ (ref_one sizes _ _ _ _ _ _ _)
  · rw [a0, a2, a3, a4]; exact ref_first _ _ (ref_one sizes _ _ _ _ _ _ _)
  · rw [a0, a2, a3, a5]; exact ref_second _ _ (ref_one sizes _ _ _ _ _ _ _)

end Cert.SsmOut

end
-- ==== Proof.PreReal.lean ====
/-
  What the precondition says: the queries, the keys and the bias hold real numbers; and what follows, that every row of
  scores is one that a softmax is taken of.
-/
module

public import proofs.«01_k».proof.Proof.RowMath
public import proofs.«01_k».proof.Proof.Gen.Pre_finite_scores
public import Idealize.ShloMosaic.PureOps.Ideal.Laws

@[expose] public section

set_option maxRecDepth 16384

noncomputable section

namespace Cert.Pre_finite_scores

open Idealize.ShloMosaic

/-- An extended real whose absolute value is below `+∞` is a real number. -/
theorem real_of_abs {x : EReal} (h : max x (-x) < ⊤) : Spec.IsReal x := by
  obtain ⟨h1, h2⟩ := max_lt_iff.mp h
  refine ⟨x.toReal, (EReal.coe_toReal h1.ne ?_).symm⟩
  rintro rfl
  exact absurd h2 (by simp)

/-- The word of `+∞`. -/
theorem word_top : Ideal.ofBits FTy.f32 0x7F800000#32 = ⊤ := by
  simp [Ideal.ofBits, Ideal.ieee]

/-- The comparison that the precondition makes, at one element. -/
theorem real_of_cmp {x : EReal}
    (h : (FloatOps.cmpf (F := Ideal) (φ := .f32) .olt (FloatOps.hostAbsf (F := Ideal) (φ := .f32) x) (FloatOps.ofBits (F := Ideal) .f32 0x7F800000#32)) = 1#1) :
    Spec.IsReal x := by
  apply real_of_abs
  have e : (FloatOps.ofBits (F := Ideal) FTy.f32 0x7F800000#32 : EReal) = ⊤ := word_top
  rw [e] at h
  by_contra hn
  have h' : BitVec.ofBool (decide (max x (-x) < (⊤ : EReal))) = 1#1 := h
  rw [decide_eq_false hn] at h'
  exact absurd h' (by decide)

/-- The queries, the keys and the bias are real. -/
theorem reals (Q K V : Spec.Seq) (B : Spec.Bias) (D : Spec.Seq)
    (h0 : (fn (F := Ideal) Q K V B D).1 = fun _ => 1#1) (h1 : (fn (F := Ideal) Q K V B D).2.1 = fun _ => 1#1)
    (h2 : (fn (F := Ideal) Q K V B D).2.2 = fun _ => 1#1) :
    (∀ y, Spec.IsReal (Q y)) ∧ (∀ y, Spec.IsReal (K y)) ∧ ∀ y, Spec.IsReal (B y) :=
  ⟨fun y => real_of_cmp (congrFun h0 y), fun y => real_of_cmp (congrFun h1 y), fun y => real_of_cmp (congrFun h2 y)⟩

/-- A score of a column that lies inside the sequence is real. -/
theorem score_real {Q K : Spec.Seq} {B : Spec.Bias} (hQ : ∀ y, Spec.IsReal (Q y)) (hK : ∀ y, Spec.IsReal (K y))
    (hB : ∀ y, Spec.IsReal (B y)) (h : Fin 16) (c i : Fin 64) (j : Fin 576) (hj : 512 ≤ c.val * 64 + j.val) :
    Spec.IsReal (Spec.score Q K B h c i j) := by
  unfold Spec.score
  rw [if_pos hj]
  refine (Spec.IsReal.sum _ _ fun d => (hQ _).mul ?_).add (hB _)
  unfold Spec.padded
  rw [dif_pos (show 512 ≤ (Spec.col c j).val from hj)]
  exact hK _

/-- Every row of scores holds no `+∞`, and its last entry is real. -/
theorem rows {Q K : Spec.Seq} {B : Spec.Bias} (hQ : ∀ y, Spec.IsReal (Q y)) (hK : ∀ y, Spec.IsReal (K y))
    (hB : ∀ y, Spec.IsReal (B y)) (h : Fin 16) (c i : Fin 64) : Spec.Row (Spec.score Q K B h c i) where
  lt j := by
    by_cases hj : 512 ≤ c.val * 64 + j.val
    · obtain ⟨r, hr⟩ := score_real hQ hK hB h c i j hj
      rw [hr]
      exact EReal.coe_lt_top r
    · rw [Spec.score, if_neg hj]
      exact bot_lt_top
  some := by
    obtain ⟨r, hr⟩ := score_real hQ hK hB h c i ⟨575, by omega⟩ (by show 512 ≤ c.val * 64 + 575; omega)
    exact ⟨_, by rw [hr]; exact EReal.coe_ne_bot r⟩

end Cert.Pre_finite_scores

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Gen.Pre_finite_scores
public import proofs.«01_k».proof.Proof.Result
public import proofs.«01_k».proof.Proof.RefOut
public import proofs.«01_k».proof.Proof.Gate
public import proofs.«01_k».proof.Proof.Up
public import proofs.«01_k».proof.Proof.Du
public import proofs.«01_k».proof.Proof.Down
public import proofs.«01_k».proof.Proof.Dwdown
public import proofs.«01_k».proof.Proof.Dwgate
public import proofs.«01_k».proof.Proof.Dwup
public import proofs.«01_k».proof.Proof.Dnup
public import proofs.«01_k».proof.Proof.Dngate
public import proofs.«01_k».proof.Proof.Scan
public import proofs.«01_k».proof.Proof.Dnorm
public import proofs.«01_k».proof.Proof.Dshift
public import proofs.«01_k».proof.Proof.Loss
public import proofs.«01_k».proof.Proof.Adam
public import proofs.«01_k».proof.Proof.Dple
public import proofs.«01_k».proof.Proof.Dglu
public import proofs.«01_k».proof.Proof.Dgelu
public import proofs.«01_k».proof.Proof.Big
public import proofs.«01_k».proof.Proof.Gen.Big.Frame
public import proofs.«01_k».proof.Proof.Sum
public import proofs.«01_k».proof.Proof.Gen.Sum.Frame
public import proofs.«01_k».proof.Proof.Gen.Gate.Frame
public import proofs.«01_k».proof.Proof.Gen.Up.Frame
public import proofs.«01_k».proof.Proof.Products
public import proofs.«01_k».proof.Proof.Gen.Dplen.Frame
public import proofs.«01_k».proof.Proof.Gen.Dcat.Frame
public import proofs.«01_k».proof.Proof.Gen.Dssm.Frame
public import proofs.«01_k».proof.Proof.Gen.Pgate.Frame
public import proofs.«01_k».proof.Proof.Gen.Abin.Frame
public import proofs.«01_k».proof.Proof.Bdown
public import proofs.«01_k».proof.Proof.Gen.Bdown.Frame
public import proofs.«01_k».proof.Proof.Bpg
public import proofs.«01_k».proof.Proof.Gen.Bpg.Frame
public import proofs.«01_k».proof.Proof.Bpp
public import proofs.«01_k».proof.Proof.Gen.Bpp.Frame
public import proofs.«01_k».proof.Proof.Bab
public import proofs.«01_k».proof.Proof.Gen.Bab.Frame
public import proofs.«01_k».proof.Proof.Babo
public import proofs.«01_k».proof.Proof.Gen.Babo.Frame
public import proofs.«01_k».proof.Proof.Bssi
public import proofs.«01_k».proof.Proof.Gen.Bssi.Frame
public import proofs.«01_k».proof.Proof.Bsso
public import proofs.«01_k».proof.Proof.Gen.Bsso.Frame
public import proofs.«01_k».proof.Proof.Gen.Dnorm.Frame
public import proofs.«01_k».proof.Proof.Gen.Dshift.Frame
public import proofs.«01_k».proof.Proof.Gen.Loss.Frame
public import proofs.«01_k».proof.Proof.Gen.Adam.Frame
public import proofs.«01_k».proof.Proof.Gen.Dple.Frame
public import proofs.«01_k».proof.Proof.Gen.Dglu.Frame
public import proofs.«01_k».proof.Proof.Gen.Dgelu.Frame
public import proofs.«01_k».proof.Proof.PreReal
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, keeps its arguments, and holds no counter above zero at the end. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The row of the sequence that a row's chunk and its place in it name is that row. -/
theorem row_back (t : Fin 4096) : Spec.row (Cert.Att.chunkOf t) (Cert.Att.placeOf t) = t :=
  Fin.ext (by show t.val / 64 * 64 + t.val % 64 = t.val; omega)

section Meet

variable (Q K V D : Spec.Seq) (B : Spec.Bias)

/-- The reference's gradient of the queries at a row of the sequence. -/
theorem ref_q (rows : Ref.Rows Q K B) (h : Fin 16) (t : Fin 4096) (d : Fin 64) :
    Cert.ReferenceIdeal.Read.val_main_v161 (F := Ideal) Q K V B D (ix3 h t d)
      = Spec.dq Q K V B D h (Cert.Att.chunkOf t) (Cert.Att.placeOf t) d := by
  rw [← Ref.ref_dq Q K V D B rows, row_back]

/-- The reference's gradient of the queries as one array. -/
theorem meet_q (rows : Ref.Rows Q K B) : Cert.ReferenceIdeal.Read.val_main_v161 (F := Ideal) Q K V B D
    = fun y => Spec.dq Q K V B D (y 0) (Cert.Att.chunkOf (y 1)) (Cert.Att.placeOf (y 1)) (y 2) := by
  funext y
  idx_vars y
  exact ref_q Q K V D B rows _ _ _

/-- The reference's gradient of the padded keys as one array. -/
theorem meet_k (rows : Ref.Rows Q K B) : Cert.ReferenceIdeal.Read.val_main_v162 (F := Ideal) Q K V B D
    = fun y => Spec.dk Q K V B D (y 0) (y 1) (y 2) := by
  funext y
  idx_vars y
  exact Ref.ref_dk Q K V D B rows _ _ _

/-- The reference's gradient of the padded values as one array. -/
theorem meet_v : Cert.ReferenceIdeal.Read.val_main_v163 (F := Ideal) Q K B D
    = fun y => Spec.dv Q K B D (y 0) (y 1) (y 2) := by
  funext y
  idx_vars y
  exact Ref.ref_dv Q K D B _ _ _

/-- The reference's gradient of the bias as one array. -/
theorem meet_b (rows : Ref.Rows Q K B) : Cert.ReferenceIdeal.Read.val_main_v128 (F := Ideal) Q K V B D
    = fun y => Spec.db Q K V B D (y 0) (y 1) (y 2) := by
  funext y
  idx_vars y
  exact Ref.ref_db Q K V D B rows _ _ _

end Meet

section End

variable (m : (ℓ : Loc Cert.KernelIdeal.nD Cert.KernelIdeal.τ Cert.KernelIdeal.sig) → Buf (Elt Ideal) ℓ) (c : Dev Cert.KernelIdeal.nD)

/-- From arguments that agree the reference's array is the kernel's. -/
theorem end_q (rows : Ref.Rows (Cert.Att.Qa m c) (Cert.Att.Ka m c) (Cert.Att.Ba m c))
    {Q K V D : Spec.Seq} {B : Spec.Bias} (eQ : Q = Cert.Att.Qa m c) (eK : K = Cert.Att.Ka m c) (eV : V = Cert.Att.Va m c) (eB : B = Cert.Att.Ba m c) (eD : D = Cert.Att.Da m c) :
    Cert.ReferenceIdeal.Read.val_main_v161 (F := Ideal) Q K V B D = Cert.Att.resQ m c := by
  subst eQ eK eV eB eD
  exact meet_q _ _ _ _ _ rows

/-- From arguments that agree the reference's array is the kernel's. -/
theorem end_k (rows : Ref.Rows (Cert.Att.Qa m c) (Cert.Att.Ka m c) (Cert.Att.Ba m c))
    {Q K V D : Spec.Seq} {B : Spec.Bias} (eQ : Q = Cert.Att.Qa m c) (eK : K = Cert.Att.Ka m c) (eV : V = Cert.Att.Va m c) (eB : B = Cert.Att.Ba m c) (eD : D = Cert.Att.Da m c) :
    Cert.ReferenceIdeal.Read.val_main_v162 (F := Ideal) Q K V B D = Cert.Att.resK m c := by
  subst eQ eK eV eB eD
  exact meet_k _ _ _ _ _ rows

/-- From arguments that agree the reference's array is the kernel's. -/
theorem end_v (rows : Ref.Rows (Cert.Att.Qa m c) (Cert.Att.Ka m c) (Cert.Att.Ba m c))
    {Q K D : Spec.Seq} {B : Spec.Bias} (eQ : Q = Cert.Att.Qa m c) (eK : K = Cert.Att.Ka m c) (eB : B = Cert.Att.Ba m c) (eD : D = Cert.Att.Da m c) :
    Cert.ReferenceIdeal.Read.val_main_v163 (F := Ideal) Q K B D = Cert.Att.resV m c := by
  subst eQ eK eB eD
  exact meet_v _ _ _ _

/-- From arguments that agree the reference's array is the kernel's. -/
theorem end_b (rows : Ref.Rows (Cert.Att.Qa m c) (Cert.Att.Ka m c) (Cert.Att.Ba m c))
    {Q K V D : Spec.Seq} {B : Spec.Bias} (eQ : Q = Cert.Att.Qa m c) (eK : K = Cert.Att.Ka m c) (eV : V = Cert.Att.Va m c) (eB : B = Cert.Att.Ba m c) (eD : D = Cert.Att.Da m c) :
    Cert.ReferenceIdeal.Read.val_main_v128 (F := Ideal) Q K V B D = Cert.Att.resB m c := by
  subst eQ eK eV eB eD
  exact meet_b _ _ _ _ _ rows

end End

/-- On real queries, keys and bias the kernel's four gradients are the reference's. -/
theorem algebraic : Cert.algebraic_KernelIdeal_ReferenceIdeal_pre_finite_scores := by
  intro m ρ m' ρ' hpre hagree
  refine ⟨fun c => Cert.Att.resQ m c, fun c => Cert.Att.resK m c, fun c => Cert.Att.resV m c, fun c => Cert.Att.resB m c,
    (θ_run _ _ _).mono (fun r h c => ?_) (Cert.KernelIdeal.Value.run_blocks m ρ),
    (θ_run _ _ _).mono (fun r h c => ?_) (Cert.ReferenceIdeal.Value.run (F := Ideal) m' ρ')⟩
  · obtain ⟨h0, h1, h2, h3, h4⟩ := h c
    exact ⟨h0.trans (Cert.Att.array_5 m c), h1.trans (Cert.Att.array_6 m c), h2.trans (Cert.Att.array_7 m c),
      h3.trans (Cert.Att.array_8 m c), h4⟩
  · obtain ⟨h0, h1, h2, h3, h4⟩ := h c
    obtain ⟨p0, p1, p2⟩ := hpre c
    obtain ⟨rQ, rK, rB⟩ := Cert.Pre_finite_scores.reals _ _ _ _ _ p0 p1 p2
    have rows : Ref.Rows (Cert.Att.Qa m c) (Cert.Att.Ka m c) (Cert.Att.Ba m c) := Cert.Pre_finite_scores.rows rQ rK rB
    obtain ⟨a0, a1, a2, a3, a4⟩ := hagree c
    exact ⟨(h0.trans (Cert.ReferenceIdeal.Read.val_main_v161_eq _)).trans (end_q m c rows a0 a1 a2 a3 a4),
      (h1.trans (Cert.ReferenceIdeal.Read.val_main_v162_eq _)).trans (end_k m c rows a0 a1 a2 a3 a4),
      (h2.trans (Cert.ReferenceIdeal.Read.val_main_v163_eq _)).trans (end_v m c rows a0 a1 a3 a4),
      (h3.trans (Cert.ReferenceIdeal.Read.val_main_v128_eq _)).trans (end_b m c rows a0 a1 a2 a3 a4), h4⟩

/-- The certificate. -/
theorem claim : Cert.Claim := ⟨Cert.Kernel.Gen.facts, Cert.KernelIdeal.Gen.facts, Cert.ReferenceIdeal.Gen.facts, Cert.Gate.Gen.facts, Cert.GateIdeal.Gen.facts, Cert.GateRefIdeal.Gen.facts, Cert.Up.Gen.facts, Cert.UpIdeal.Gen.facts, Cert.UpRefIdeal.Gen.facts, Cert.Du.Gen.facts, Cert.DuIdeal.Gen.facts, Cert.DuRefIdeal.Gen.facts, Cert.Down.Gen.facts, Cert.DownIdeal.Gen.facts, Cert.DownRefIdeal.Gen.facts, Cert.Dwdown.Gen.facts, Cert.DwdownIdeal.Gen.facts, Cert.DwdownRefIdeal.Gen.facts, Cert.Dwgate.Gen.facts, Cert.DwgateIdeal.Gen.facts, Cert.DwgateRefIdeal.Gen.facts, Cert.Dwup.Gen.facts, Cert.DwupIdeal.Gen.facts, Cert.DwupRefIdeal.Gen.facts, Cert.Dnup.Gen.facts, Cert.DnupIdeal.Gen.facts, Cert.DnupRefIdeal.Gen.facts, Cert.Dngate.Gen.facts, Cert.DngateIdeal.Gen.facts, Cert.DngateRefIdeal.Gen.facts, Cert.Dscan.Gen.facts, Cert.DscanIdeal.Gen.facts, Cert.DscanRefIdeal.Gen.facts, Cert.Dnorm.Gen.facts, Cert.DnormIdeal.Gen.facts, Cert.DnormRefIdeal.Gen.facts, Cert.Dshift.Gen.facts, Cert.DshiftIdeal.Gen.facts, Cert.DshiftRefIdeal.Gen.facts, Cert.Loss.Gen.facts, Cert.LossIdeal.Gen.facts, Cert.LossRefIdeal.Gen.facts, Cert.Adam.Gen.facts, Cert.AdamIdeal.Gen.facts, Cert.AdamRefIdeal.Gen.facts, Cert.Dple.Gen.facts, Cert.DpleIdeal.Gen.facts, Cert.DpleRefIdeal.Gen.facts, Cert.Dglu.Gen.facts, Cert.DgluIdeal.Gen.facts, Cert.DgluRefIdeal.Gen.facts, Cert.Dgelu.Gen.facts, Cert.DgeluIdeal.Gen.facts, Cert.DgeluRefIdeal.Gen.facts, Cert.Big.Gen.facts, Cert.BigIdeal.Gen.facts, Cert.BigRefIdeal.Gen.facts, Cert.Sum.Gen.facts, Cert.SumIdeal.Gen.facts, Cert.SumRefIdeal.Gen.facts,
  Cert.Bdown.Gen.facts, Cert.BdownIdeal.Gen.facts, Cert.BdownRefIdeal.Gen.facts,
  Cert.Bpg.Gen.facts, Cert.BpgIdeal.Gen.facts, Cert.BpgRefIdeal.Gen.facts,
  Cert.Bpp.Gen.facts, Cert.BppIdeal.Gen.facts, Cert.BppRefIdeal.Gen.facts,
  Cert.Bab.Gen.facts, Cert.BabIdeal.Gen.facts, Cert.BabRefIdeal.Gen.facts,
  Cert.Babo.Gen.facts, Cert.BaboIdeal.Gen.facts, Cert.BaboRefIdeal.Gen.facts,
  Cert.Bssi.Gen.facts, Cert.BssiIdeal.Gen.facts, Cert.BssiRefIdeal.Gen.facts,
  Cert.Bsso.Gen.facts, Cert.BssoIdeal.Gen.facts, Cert.BssoRefIdeal.Gen.facts,
  Cert.Dplen.Gen.facts, Cert.DplenIdeal.Gen.facts, Cert.DplenRefIdeal.Gen.facts,
  Cert.Dcat.Gen.facts, Cert.DcatIdeal.Gen.facts, Cert.DcatRefIdeal.Gen.facts,
  Cert.Dssm.Gen.facts, Cert.DssmIdeal.Gen.facts, Cert.DssmRefIdeal.Gen.facts,
  Cert.Pgate.Gen.facts, Cert.PgateIdeal.Gen.facts, Cert.PgateRefIdeal.Gen.facts,
  Cert.Abin.Gen.facts, Cert.AbinIdeal.Gen.facts, Cert.AbinRefIdeal.Gen.facts, Cert.Pre_finite_scores.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Gate.Gen.frame m ρ,
  fun m ρ _ => Cert.GateIdeal.Gen.frame m ρ,
  Cert.Gat.frame_reference,
  fun m ρ _ => Cert.Up.Gen.frame m ρ,
  fun m ρ _ => Cert.UpIdeal.Gen.frame m ρ,
  Cert.Upp.frame_reference,
  fun m ρ _ => Cert.Du.Gen.frame m ρ,
  fun m ρ _ => Cert.DuIdeal.Gen.frame m ρ,
  Cert.Ddu.frame_reference,
  fun m ρ _ => Cert.Down.Gen.frame m ρ,
  fun m ρ _ => Cert.DownIdeal.Gen.frame m ρ,
  Cert.Dow.frame_reference,
  fun m ρ _ => Cert.Dwdown.Gen.frame m ρ,
  fun m ρ _ => Cert.DwdownIdeal.Gen.frame m ρ,
  Cert.Dwd.frame_reference,
  fun m ρ _ => Cert.Dwgate.Gen.frame m ρ,
  fun m ρ _ => Cert.DwgateIdeal.Gen.frame m ρ,
  Cert.Dwg.frame_reference,
  fun m ρ _ => Cert.Dwup.Gen.frame m ρ,
  fun m ρ _ => Cert.DwupIdeal.Gen.frame m ρ,
  Cert.Dwu.frame_reference,
  fun m ρ _ => Cert.Dnup.Gen.frame m ρ,
  fun m ρ _ => Cert.DnupIdeal.Gen.frame m ρ,
  Cert.Dnu.frame_reference,
  fun m ρ _ => Cert.Dngate.Gen.frame m ρ,
  fun m ρ _ => Cert.DngateIdeal.Gen.frame m ρ,
  Cert.Dng.frame_reference,
  Cert.Dsc.frame_kernel,
  Cert.Dsc.frame_ideal,
  Cert.Dsc.frame_reference,
  fun m ρ _ => Cert.Dnorm.Gen.frame m ρ,
  fun m ρ _ => Cert.DnormIdeal.Gen.frame m ρ,
  Cert.Nrm.frame_reference,
  fun m ρ _ => Cert.Dshift.Gen.frame m ρ,
  fun m ρ _ => Cert.DshiftIdeal.Gen.frame m ρ,
  Cert.Shf.frame_reference,
  fun m ρ _ => Cert.Loss.Gen.frame m ρ,
  fun m ρ _ => Cert.LossIdeal.Gen.frame m ρ,
  Cert.Lss.frame_reference,
  fun m ρ _ => Cert.Adam.Gen.frame m ρ,
  fun m ρ _ => Cert.AdamIdeal.Gen.frame m ρ,
  Cert.Step.frame_reference,
  fun m ρ _ => Cert.Dple.Gen.frame m ρ,
  fun m ρ _ => Cert.DpleIdeal.Gen.frame m ρ,
  Cert.Ple.frame_reference,
  fun m ρ _ => Cert.Dglu.Gen.frame m ρ,
  fun m ρ _ => Cert.DgluIdeal.Gen.frame m ρ,
  Cert.Glu.frame_reference,
  fun m ρ _ => Cert.Dgelu.Gen.frame m ρ,
  fun m ρ _ => Cert.DgeluIdeal.Gen.frame m ρ,
  Cert.Gel.frame_reference,
  fun m ρ _ => Cert.Big.Gen.frame m ρ trivial,
  fun m ρ _ => Cert.BigIdeal.Gen.frame m ρ trivial,
  Cert.Large.frame_reference,
  fun m ρ _ => Cert.Sum.Gen.frame m ρ,
  fun m ρ _ => Cert.SumIdeal.Gen.frame m ρ,
  Cert.Total.frame_reference,
  fun m ρ _ => Cert.Bdown.Gen.frame m ρ trivial,
  fun m ρ _ => Cert.BdownIdeal.Gen.frame m ρ trivial,
  Cert.DownStep.frame_reference,
  fun m ρ _ => Cert.Bpg.Gen.frame m ρ trivial,
  fun m ρ _ => Cert.BpgIdeal.Gen.frame m ρ trivial,
  Cert.PleGate.frame_reference,
  fun m ρ _ => Cert.Bpp.Gen.frame m ρ trivial,
  fun m ρ _ => Cert.BppIdeal.Gen.frame m ρ trivial,
  Cert.PleProj.frame_reference,
  fun m ρ _ => Cert.Bab.Gen.frame m ρ trivial,
  fun m ρ _ => Cert.BabIdeal.Gen.frame m ρ trivial,
  Cert.AbIn.frame_reference,
  fun m ρ _ => Cert.Babo.Gen.frame m ρ trivial,
  fun m ρ _ => Cert.BaboIdeal.Gen.frame m ρ trivial,
  Cert.AbOut.frame_reference,
  fun m ρ _ => Cert.Bssi.Gen.frame m ρ trivial,
  fun m ρ _ => Cert.BssiIdeal.Gen.frame m ρ trivial,
  Cert.SsmIn.frame_reference,
  fun m ρ _ => Cert.Bsso.Gen.frame m ρ trivial,
  fun m ρ _ => Cert.BssoIdeal.Gen.frame m ρ trivial,
  Cert.SsmOut.frame_reference,
  fun m ρ _ => Cert.Dplen.Gen.frame m ρ,
  fun m ρ _ => Cert.DplenIdeal.Gen.frame m ρ,
  Cert.PleGrad.frame_reference,
  fun m ρ _ => Cert.Dcat.Gen.frame m ρ,
  fun m ρ _ => Cert.DcatIdeal.Gen.frame m ρ,
  Cert.CatGrad.frame_reference,
  fun m ρ _ => Cert.Dssm.Gen.frame m ρ,
  fun m ρ _ => Cert.DssmIdeal.Gen.frame m ρ,
  Cert.SsmGrad.frame_reference,
  fun m ρ _ => Cert.Pgate.Gen.frame m ρ,
  fun m ρ _ => Cert.PgateIdeal.Gen.frame m ρ,
  Cert.PleIn.frame_reference,
  fun m ρ _ => Cert.Abin.Gen.frame m ρ,
  fun m ρ _ => Cert.AbinIdeal.Gen.frame m ρ,
  Cert.MixIn.frame_reference,
  IdealRules.named_const.statement _ _ .f32 _ ⊥ rfl,
  algebraic,
  trivial,
  Cert.Gat.algebraic,
  trivial,
  Cert.Upp.algebraic,
  trivial,
  Cert.Ddu.algebraic,
  trivial,
  Cert.Dow.algebraic,
  trivial,
  Cert.Dwd.algebraic,
  trivial,
  Cert.Dwg.algebraic,
  trivial,
  Cert.Dwu.algebraic,
  trivial,
  Cert.Dnu.algebraic,
  trivial,
  Cert.Dng.algebraic,
  trivial,
  Cert.Dsc.algebraic,
  trivial,
  Cert.Nrm.algebraic,
  trivial,
  Cert.Shf.algebraic,
  trivial,
  Cert.Lss.algebraic,
  trivial,
  Cert.Step.algebraic,
  trivial,
  Cert.Ple.algebraic,
  trivial,
  Cert.Glu.algebraic,
  trivial,
  Cert.Gel.algebraic,
  trivial,
  Cert.Large.algebraic,
  trivial,
  Cert.Total.algebraic,
  trivial,
  Cert.DownStep.algebraic,
  trivial,
  Cert.PleGate.algebraic,
  trivial,
  Cert.PleProj.algebraic,
  trivial,
  Cert.AbIn.algebraic,
  trivial,
  Cert.AbOut.algebraic,
  trivial,
  Cert.SsmIn.algebraic,
  trivial,
  Cert.SsmOut.algebraic,
  trivial,
  Cert.PleGrad.algebraic,
  trivial,
  Cert.CatGrad.algebraic,
  trivial,
  Cert.SsmGrad.algebraic,
  trivial,
  Cert.PleIn.algebraic,
  trivial,
  Cert.MixIn.algebraic⟩

end Cert.Proof

end
